-- ==== Defs.lean ====
def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Swiglu (m : (ℓ : Loc Cert.Swiglu.nD Cert.Swiglu.τ Cert.Swiglu.sig) → Buf (Elt Bits) ℓ) : Prop :=
  True

def Pre_SwigluIdeal (m : (ℓ : Loc Cert.SwigluIdeal.nD Cert.SwigluIdeal.τ Cert.SwigluIdeal.sig) → Buf (Elt Ideal) ℓ) : Prop :=
  True

def Pre_SwigluReferenceIdeal (m : (ℓ : Loc Cert.SwigluReferenceIdeal.nD Cert.SwigluReferenceIdeal.τ Cert.SwigluReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_DwSquare (m : (ℓ : Loc Cert.DwSquare.nD Cert.DwSquare.τ Cert.DwSquare.sig) → Buf (Elt Bits) ℓ) : Prop :=
  True

def Pre_DwSquareIdeal (m : (ℓ : Loc Cert.DwSquareIdeal.nD Cert.DwSquareIdeal.τ Cert.DwSquareIdeal.sig) → Buf (Elt Ideal) ℓ) : Prop :=
  True

def Pre_DwSquareReferenceIdeal (m : (ℓ : Loc Cert.DwSquareReferenceIdeal.nD Cert.DwSquareReferenceIdeal.τ Cert.DwSquareReferenceIdeal.sig) → Buf (Elt Ideal) ℓ) : Prop :=
  True

def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvBwdReferenceIdeal (m : (ℓ : Loc Cert.ConvBwdReferenceIdeal.nD Cert.ConvBwdReferenceIdeal.τ Cert.ConvBwdReferenceIdeal.sig) → Buf (Elt Ideal) ℓ) : Prop :=
  True

def Pre_DwGateUp (m : (ℓ : Loc Cert.DwGateUp.nD Cert.DwGateUp.τ Cert.DwGateUp.sig) → Buf (Elt Bits) ℓ) : Prop :=
  True

def Pre_DwGateUpIdeal (m : (ℓ : Loc Cert.DwGateUpIdeal.nD Cert.DwGateUpIdeal.τ Cert.DwGateUpIdeal.sig) → Buf (Elt Ideal) ℓ) : Prop :=
  True

def Pre_DwGateUpReferenceIdeal (m : (ℓ : Loc Cert.DwGateUpReferenceIdeal.nD Cert.DwGateUpReferenceIdeal.τ Cert.DwGateUpReferenceIdeal.sig) → Buf (Elt Ideal) ℓ) : Prop :=
  True

def Pre_Dh2 (m : (ℓ : Loc Cert.Dh2.nD Cert.Dh2.τ Cert.Dh2.sig) → Buf (Elt Bits) ℓ) : Prop :=
  True

def Pre_Dh2Ideal (m : (ℓ : Loc Cert.Dh2Ideal.nD Cert.Dh2Ideal.τ Cert.Dh2Ideal.sig) → Buf (Elt Ideal) ℓ) : Prop :=
  True

def Pre_Dh2ReferenceIdeal (m : (ℓ : Loc Cert.Dh2ReferenceIdeal.nD Cert.Dh2ReferenceIdeal.τ Cert.Dh2ReferenceIdeal.sig) → Buf (Elt Ideal) ℓ) : Prop :=
  True

def Pre_Dh1 (m : (ℓ : Loc Cert.Dh1.nD Cert.Dh1.τ Cert.Dh1.sig) → Buf (Elt Bits) ℓ) : Prop :=
  True

def Pre_Dh1Ideal (m : (ℓ : Loc Cert.Dh1Ideal.nD Cert.Dh1Ideal.τ Cert.Dh1Ideal.sig) → Buf (Elt Ideal) ℓ) : Prop :=
  True

def Pre_Dh1ReferenceIdeal (m : (ℓ : Loc Cert.Dh1ReferenceIdeal.nD Cert.Dh1ReferenceIdeal.τ Cert.Dh1ReferenceIdeal.sig) → Buf (Elt Ideal) ℓ) : Prop :=
  True

def Pre_NormFfnBwd (m : (ℓ : Loc Cert.NormFfnBwd.nD Cert.NormFfnBwd.τ Cert.NormFfnBwd.sig) → Buf (Elt Bits) ℓ) : Prop :=
  True

def Pre_NormFfnBwdIdeal (m : (ℓ : Loc Cert.NormFfnBwdIdeal.nD Cert.NormFfnBwdIdeal.τ Cert.NormFfnBwdIdeal.sig) → Buf (Elt Ideal) ℓ) : Prop :=
  True

def Pre_NormFfnBwdReferenceIdeal (m : (ℓ : Loc Cert.NormFfnBwdReferenceIdeal.nD Cert.NormFfnBwdReferenceIdeal.τ Cert.NormFfnBwdReferenceIdeal.sig) → Buf (Elt Ideal) ℓ) : Prop :=
  True

def Pre_NormMixBwd (m : (ℓ : Loc Cert.NormMixBwd.nD Cert.NormMixBwd.τ Cert.NormMixBwd.sig) → Buf (Elt Bits) ℓ) : Prop :=
  True

def Pre_NormMixBwdIdeal (m : (ℓ : Loc Cert.NormMixBwdIdeal.nD Cert.NormMixBwdIdeal.τ Cert.NormMixBwdIdeal.sig) → Buf (Elt Ideal) ℓ) : Prop :=
  True

def Pre_NormMixBwdReferenceIdeal (m : (ℓ : Loc Cert.NormMixBwdReferenceIdeal.nD Cert.NormMixBwdReferenceIdeal.τ Cert.NormMixBwdReferenceIdeal.sig) → Buf (Elt Ideal) ℓ) : Prop :=
  True

def Pre_DownLoss (m : (ℓ : Loc Cert.DownLoss.nD Cert.DownLoss.τ Cert.DownLoss.sig) → Buf (Elt Bits) ℓ) : Prop :=
  True

def Pre_DownLossIdeal (m : (ℓ : Loc Cert.DownLossIdeal.nD Cert.DownLossIdeal.τ Cert.DownLossIdeal.sig) → Buf (Elt Ideal) ℓ) : Prop :=
  True

def Pre_DownLossReferenceIdeal (m : (ℓ : Loc Cert.DownLossReferenceIdeal.nD Cert.DownLossReferenceIdeal.τ Cert.DownLossReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_ConvFwd (m : (ℓ : Loc Cert.ConvFwd.nD Cert.ConvFwd.τ Cert.ConvFwd.sig) → Buf (Elt Bits) ℓ) : Prop :=
  True

def Pre_ConvFwdIdeal (m : (ℓ : Loc Cert.ConvFwdIdeal.nD Cert.ConvFwdIdeal.τ Cert.ConvFwdIdeal.sig) → Buf (Elt Ideal) ℓ) : Prop :=
  True

def Pre_ConvFwdReferenceIdeal (m : (ℓ : Loc Cert.ConvFwdReferenceIdeal.nD Cert.ConvFwdReferenceIdeal.τ Cert.ConvFwdReferenceIdeal.sig) → Buf (Elt Ideal) ℓ) : Prop :=
  True

def Pre_Branches (m : (ℓ : Loc Cert.Branches.nD Cert.Branches.τ Cert.Branches.sig) → Buf (Elt Bits) ℓ) : Prop :=
  True

def Pre_BranchesIdeal (m : (ℓ : Loc Cert.BranchesIdeal.nD Cert.BranchesIdeal.τ Cert.BranchesIdeal.sig) → Buf (Elt Ideal) ℓ) : Prop :=
  True

def Pre_BranchesReferenceIdeal (m : (ℓ : Loc Cert.BranchesReferenceIdeal.nD Cert.BranchesReferenceIdeal.τ Cert.BranchesReferenceIdeal.sig) → Buf (Elt Ideal) ℓ) : Prop :=
  True

def Pre_OutNorm (m : (ℓ : Loc Cert.OutNorm.nD Cert.OutNorm.τ Cert.OutNorm.sig) → Buf (Elt Bits) ℓ) : Prop :=
  True

def Pre_OutNormIdeal (m : (ℓ : Loc Cert.OutNormIdeal.nD Cert.OutNormIdeal.τ Cert.OutNormIdeal.sig) → Buf (Elt Ideal) ℓ) : Prop :=
  True

def Pre_OutNormReferenceIdeal (m : (ℓ : Loc Cert.OutNormReferenceIdeal.nD Cert.OutNormReferenceIdeal.τ Cert.OutNormReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def Pre_KvGrad (m : (ℓ : Loc Cert.KvGrad.nD Cert.KvGrad.τ Cert.KvGrad.sig) → Buf (Elt Bits) ℓ) : Prop :=
  True

def Pre_KvGradIdeal (m : (ℓ : Loc Cert.KvGradIdeal.nD Cert.KvGradIdeal.τ Cert.KvGradIdeal.sig) → Buf (Elt Ideal) ℓ) : Prop :=
  True

def Pre_KvGradReferenceIdeal (m : (ℓ : Loc Cert.KvGradReferenceIdeal.nD Cert.KvGradReferenceIdeal.τ Cert.KvGradReferenceIdeal.sig) → Buf (Elt Ideal) ℓ) : Prop :=
  True

def Pre_AdamwIn (m : (ℓ : Loc Cert.AdamwIn.nD Cert.AdamwIn.τ Cert.AdamwIn.sig) → Buf (Elt Bits) ℓ) : Prop :=
  True

def Pre_AdamwInIdeal (m : (ℓ : Loc Cert.AdamwInIdeal.nD Cert.AdamwInIdeal.τ Cert.AdamwInIdeal.sig) → Buf (Elt Ideal) ℓ) : Prop :=
  True

def Pre_AdamwInReferenceIdeal (m : (ℓ : Loc Cert.AdamwInReferenceIdeal.nD Cert.AdamwInReferenceIdeal.τ Cert.AdamwInReferenceIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdIdeal_finite_bwd [hPre_finite_bwd : Cert.Pre_finite_bwd.Facts] (m : (ℓ : Loc Cert.AttnBwdIdeal.nD Cert.AttnBwdIdeal.τ Cert.AttnBwdIdeal.sig) → Buf (Elt Ideal) ℓ) : Prop :=
  ∀ c : Dev Cert.AttnBwdIdeal.nD,
    (Cert.Pre_finite_bwd.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).1 = (fun _ => 1#1)
    ∧ (Cert.Pre_finite_bwd.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.1 = (fun _ => 1#1)
    ∧ (Cert.Pre_finite_bwd.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.1 = (fun _ => 1#1)
    ∧ (Cert.Pre_finite_bwd.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.1 = (fun _ => 1#1)
    ∧ (Cert.Pre_finite_bwd.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.1 = (fun _ => 1#1)
    ∧ (Cert.Pre_finite_bwd.fn (F := Ideal) (m ((c.tc : Thread Cert.AttnBwdIdeal.nD Cert.AttnBwdIdeal.τ).loc Cert.AttnBwdIdeal.main_arg0)) (m ((c.tc : Thread Cert.AttnBwdIdeal.nD Cert.AttnBwdIdeal.τ).loc Cert.AttnBwdIdeal.main_arg1)) (m ((c.tc : Thread Cert.AttnBwdIdeal.nD Cert.AttnBwdIdeal.τ).loc Cert.AttnBwdIdeal.main_arg2)) (m ((c.tc : Thread Cert.AttnBwdIdeal.nD Cert.AttnBwdIdeal.τ).loc Cert.AttnBwdIdeal.main_arg3)) (m ((c.tc : Thread Cert.AttnBwdIdeal.nD Cert.AttnBwdIdeal.τ).loc Cert.AttnBwdIdeal.main_arg4)) (m ((c.tc : Thread Cert.AttnBwdIdeal.nD Cert.AttnBwdIdeal.τ).loc Cert.AttnBwdIdeal.main_arg5))).2.2.2.2.2 = (fun _ => 1#1)

def Pre_AttnBwdReferenceIdeal (m : (ℓ : Loc Cert.AttnBwdReferenceIdeal.nD Cert.AttnBwdReferenceIdeal.τ Cert.AttnBwdReferenceIdeal.sig) → Buf (Elt Ideal) ℓ) : Prop :=
  True

def Pre_AttnBwdReferenceIdeal_finite_bwd [hPre_finite_bwd : Cert.Pre_finite_bwd.Facts] (m : (ℓ : Loc Cert.AttnBwdReferenceIdeal.nD Cert.AttnBwdReferenceIdeal.τ Cert.AttnBwdReferenceIdeal.sig) → Buf (Elt Ideal) ℓ) : Prop :=
  ∀ c : Dev Cert.AttnBwdReferenceIdeal.nD,
    (Cert.Pre_finite_bwd.fn (F := Ideal) (m ((c.tc : Thread Cert.AttnBwdReferenceIdeal.nD Cert.AttnBwdReferenceIdeal.τ).loc Cert.AttnBwdReferenceIdeal.main_arg0)) (m ((c.tc : Thread Cert.AttnBwdReferenceIdeal.nD Cert.AttnBwdReferenceIdeal.τ).loc Cert.AttnBwdReferenceIdeal.main_arg1)) (m ((c.tc : Thread Cert.AttnBwdReferenceIdeal.nD Cert.AttnBwdReferenceIdeal.τ).loc Cert.AttnBwdReferenceIdeal.main_arg2)) (m ((c.tc : Thread Cert.AttnBwdReferenceIdeal.nD Cert.AttnBwdReferenceIdeal.τ).loc Cert.AttnBwdReferenceIdeal.main_arg3)) (m ((c.tc : Thread Cert.AttnBwdReferenceIdeal.nD Cert.AttnBwdReferenceIdeal.τ).loc Cert.AttnBwdReferenceIdeal.main_arg4)) (m ((c.tc : Thread Cert.AttnBwdReferenceIdeal.nD Cert.AttnBwdReferenceIdeal.τ).loc Cert.AttnBwdReferenceIdeal.main_arg5))).1 = (fun _ => 1#1)
    ∧ (Cert.Pre_finite_bwd.fn (F := Ideal) (m ((c.tc : Thread Cert.AttnBwdReferenceIdeal.nD Cert.AttnBwdReferenceIdeal.τ).loc Cert.AttnBwdReferenceIdeal.main_arg0)) (m ((c.tc : Thread Cert.AttnBwdReferenceIdeal.nD Cert.AttnBwdReferenceIdeal.τ).loc Cert.AttnBwdReferenceIdeal.main_arg1)) (m ((c.tc : Thread Cert.AttnBwdReferenceIdeal.nD Cert.AttnBwdReferenceIdeal.τ).loc Cert.AttnBwdReferenceIdeal.main_arg2)) (m ((c.tc : Thread Cert.AttnBwdReferenceIdeal.nD Cert.AttnBwdReferenceIdeal.τ).loc Cert.AttnBwdReferenceIdeal.main_arg3)) (m ((c.tc : Thread Cert.AttnBwdReferenceIdeal.nD Cert.AttnBwdReferenceIdeal.τ).loc Cert.AttnBwdReferenceIdeal.main_arg4)) (m ((c.tc : Thread Cert.AttnBwdReferenceIdeal.nD Cert.AttnBwdReferenceIdeal.τ).loc Cert.AttnBwdReferenceIdeal.main_arg5))).2.1 = (fun _ => 1#1)
    ∧ (Cert.Pre_finite_bwd.fn (F := Ideal) (m ((c.tc : Thread Cert.AttnBwdReferenceIdeal.nD Cert.AttnBwdReferenceIdeal.τ).loc Cert.AttnBwdReferenceIdeal.main_arg0)) (m ((c.tc : Thread Cert.AttnBwdReferenceIdeal.nD Cert.AttnBwdReferenceIdeal.τ).loc Cert.AttnBwdReferenceIdeal.main_arg1)) (m ((c.tc : Thread Cert.AttnBwdReferenceIdeal.nD Cert.AttnBwdReferenceIdeal.τ).loc Cert.AttnBwdReferenceIdeal.main_arg2)) (m ((c.tc : Thread Cert.AttnBwdReferenceIdeal.nD Cert.AttnBwdReferenceIdeal.τ).loc Cert.AttnBwdReferenceIdeal.main_arg3)) (m ((c.tc : Thread Cert.AttnBwdReferenceIdeal.nD Cert.AttnBwdReferenceIdeal.τ).loc Cert.AttnBwdReferenceIdeal.main_arg4)) (m ((c.tc : Thread Cert.AttnBwdReferenceIdeal.nD Cert.AttnBwdReferenceIdeal.τ).loc Cert.AttnBwdReferenceIdeal.main_arg5))).2.2.1 = (fun _ => 1#1)
    ∧ (Cert.Pre_finite_bwd.fn (F := Ideal) (m ((c.tc : Thread Cert.AttnBwdReferenceIdeal.nD Cert.AttnBwdReferenceIdeal.τ).loc Cert.AttnBwdReferenceIdeal.main_arg0)) (m ((c.tc : Thread Cert.AttnBwdReferenceIdeal.nD Cert.AttnBwdReferenceIdeal.τ).loc Cert.AttnBwdReferenceIdeal.main_arg1)) (m ((c.tc : Thread Cert.AttnBwdReferenceIdeal.nD Cert.AttnBwdReferenceIdeal.τ).loc Cert.AttnBwdReferenceIdeal.main_arg2)) (m ((c.tc : Thread Cert.AttnBwdReferenceIdeal.nD Cert.AttnBwdReferenceIdeal.τ).loc Cert.AttnBwdReferenceIdeal.main_arg3)) (m ((c.tc : Thread Cert.AttnBwdReferenceIdeal.nD Cert.AttnBwdReferenceIdeal.τ).loc Cert.AttnBwdReferenceIdeal.main_arg4)) (m ((c.tc : Thread Cert.AttnBwdReferenceIdeal.nD Cert.AttnBwdReferenceIdeal.τ).loc Cert.AttnBwdReferenceIdeal.main_arg5))).2.2.2.1 = (fun _ => 1#1)
    ∧ (Cert.Pre_finite_bwd.fn (F := Ideal) (m ((c.tc : Thread Cert.AttnBwdReferenceIdeal.nD Cert.AttnBwdReferenceIdeal.τ).loc Cert.AttnBwdReferenceIdeal.main_arg0)) (m ((c.tc : Thread Cert.AttnBwdReferenceIdeal.nD Cert.AttnBwdReferenceIdeal.τ).loc Cert.AttnBwdReferenceIdeal.main_arg1)) (m ((c.tc : Thread Cert.AttnBwdReferenceIdeal.nD Cert.AttnBwdReferenceIdeal.τ).loc Cert.AttnBwdReferenceIdeal.main_arg2)) (m ((c.tc : Thread Cert.AttnBwdReferenceIdeal.nD Cert.AttnBwdReferenceIdeal.τ).loc Cert.AttnBwdReferenceIdeal.main_arg3)) (m ((c.tc : Thread Cert.AttnBwdReferenceIdeal.nD Cert.AttnBwdReferenceIdeal.τ).loc Cert.AttnBwdReferenceIdeal.main_arg4)) (m ((c.tc : Thread Cert.AttnBwdReferenceIdeal.nD Cert.AttnBwdReferenceIdeal.τ).loc Cert.AttnBwdReferenceIdeal.main_arg5))).2.2.2.2.1 = (fun _ => 1#1)
    ∧ (Cert.Pre_finite_bwd.fn (F := Ideal) (m ((c.tc : Thread Cert.AttnBwdReferenceIdeal.nD Cert.AttnBwdReferenceIdeal.τ).loc Cert.AttnBwdReferenceIdeal.main_arg0)) (m ((c.tc : Thread Cert.AttnBwdReferenceIdeal.nD Cert.AttnBwdReferenceIdeal.τ).loc Cert.AttnBwdReferenceIdeal.main_arg1)) (m ((c.tc : Thread Cert.AttnBwdReferenceIdeal.nD Cert.AttnBwdReferenceIdeal.τ).loc Cert.AttnBwdReferenceIdeal.main_arg2)) (m ((c.tc : Thread Cert.AttnBwdReferenceIdeal.nD Cert.AttnBwdReferenceIdeal.τ).loc Cert.AttnBwdReferenceIdeal.main_arg3)) (m ((c.tc : Thread Cert.AttnBwdReferenceIdeal.nD Cert.AttnBwdReferenceIdeal.τ).loc Cert.AttnBwdReferenceIdeal.main_arg4)) (m ((c.tc : Thread Cert.AttnBwdReferenceIdeal.nD Cert.AttnBwdReferenceIdeal.τ).loc Cert.AttnBwdReferenceIdeal.main_arg5))).2.2.2.2.2 = (fun _ => 1#1)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4))
      ∧ r.2.sem = fun _ => 0)

def quiescent_Swiglu [hSwiglu : Cert.Swiglu.Facts] : Prop :=
  ∀ (m : (ℓ : Loc Cert.Swiglu.nD Cert.Swiglu.τ Cert.Swiglu.sig) → Buf (Elt Bits) ℓ) (g : Dev Cert.Swiglu.nD → PrngReg), Pre_Swiglu m →
    θ_run (Cert.Swiglu.defs (F := Bits)) (onTc (τ := Cert.Swiglu.τ) (Cert.Swiglu.main (F := Bits))) ⟨m, fun _ => 0, g⟩ (fun r => (∀ c : Dev Cert.Swiglu.nD,
      r.2.mem ((c.tc : Thread Cert.Swiglu.nD Cert.Swiglu.τ).loc Cert.Swiglu.main_arg0) = m ((c.tc : Thread Cert.Swiglu.nD Cert.Swiglu.τ).loc Cert.Swiglu.main_arg0)
      ∧ r.2.mem ((c.tc : Thread Cert.Swiglu.nD Cert.Swiglu.τ).loc Cert.Swiglu.main_arg1) = m ((c.tc : Thread Cert.Swiglu.nD Cert.Swiglu.τ).loc Cert.Swiglu.main_arg1)
      ∧ r.2.mem ((c.tc : Thread Cert.Swiglu.nD Cert.Swiglu.τ).loc Cert.Swiglu.main_arg2) = m ((c.tc : Thread Cert.Swiglu.nD Cert.Swiglu.τ).loc Cert.Swiglu.main_arg2)
      ∧ r.2.mem ((c.tc : Thread Cert.Swiglu.nD Cert.Swiglu.τ).loc Cert.Swiglu.main_arg3) = m ((c.tc : Thread Cert.Swiglu.nD Cert.Swiglu.τ).loc Cert.Swiglu.main_arg3))
      ∧ r.2.sem = fun _ => 0)

def quiescent_SwigluIdeal [hSwigluIdeal : Cert.SwigluIdeal.Facts] : Prop :=
  ∀ (m : (ℓ : Loc Cert.SwigluIdeal.nD Cert.SwigluIdeal.τ Cert.SwigluIdeal.sig) → Buf (Elt Ideal) ℓ) (g : Dev Cert.SwigluIdeal.nD → PrngReg), Pre_SwigluIdeal m →
    θ_run (Cert.SwigluIdeal.defs (F := Ideal)) (onTc (τ := Cert.SwigluIdeal.τ) (Cert.SwigluIdeal.main (F := Ideal))) ⟨m, fun _ => 0, g⟩ (fun r => (∀ c : Dev Cert.SwigluIdeal.nD,
      r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
      ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
      ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
      ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ r.2.sem = fun _ => 0)

def quiescent_SwigluReferenceIdeal [hSwigluReferenceIdeal : Cert.SwigluReferenceIdeal.Facts] : Prop :=
  ∀ (m : (ℓ : Loc Cert.SwigluReferenceIdeal.nD Cert.SwigluReferenceIdeal.τ Cert.SwigluReferenceIdeal.sig) → Buf (Elt Ideal) ℓ) (g : Dev Cert.SwigluReferenceIdeal.nD → PrngReg), Pre_SwigluReferenceIdeal m →
    θ_run (Cert.SwigluReferenceIdeal.defs (F := Ideal)) (onTc (τ := Cert.SwigluReferenceIdeal.τ) (Cert.SwigluReferenceIdeal.main (F := Ideal))) ⟨m, fun _ => 0, g⟩ (fun r => (∀ c : Dev Cert.SwigluReferenceIdeal.nD,
      r.2.mem ((c.tc : Thread Cert.SwigluReferenceIdeal.nD Cert.SwigluReferenceIdeal.τ).loc Cert.SwigluReferenceIdeal.main_arg0) = m ((c.tc : Thread Cert.SwigluReferenceIdeal.nD Cert.SwigluReferenceIdeal.τ).loc Cert.SwigluReferenceIdeal.main_arg0)
      ∧ r.2.mem ((c.tc : Thread Cert.SwigluReferenceIdeal.nD Cert.SwigluReferenceIdeal.τ).loc Cert.SwigluReferenceIdeal.main_arg1) = m ((c.tc : Thread Cert.SwigluReferenceIdeal.nD Cert.SwigluReferenceIdeal.τ).loc Cert.SwigluReferenceIdeal.main_arg1)
      ∧ r.2.mem ((c.tc : Thread Cert.SwigluReferenceIdeal.nD Cert.SwigluReferenceIdeal.τ).loc Cert.SwigluReferenceIdeal.main_arg2) = m ((c.tc : Thread Cert.SwigluReferenceIdeal.nD Cert.SwigluReferenceIdeal.τ).loc Cert.SwigluReferenceIdeal.main_arg2)
      ∧ r.2.mem ((c.tc : Thread Cert.SwigluReferenceIdeal.nD Cert.SwigluReferenceIdeal.τ).loc Cert.SwigluReferenceIdeal.main_arg3) = m ((c.tc : Thread Cert.SwigluReferenceIdeal.nD Cert.SwigluReferenceIdeal.τ).loc Cert.SwigluReferenceIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1))
      ∧ r.2.sem = fun _ => 0)

def quiescent_DwSquare [hDwSquare : Cert.DwSquare.Facts] : Prop :=
  ∀ (m : (ℓ : Loc Cert.DwSquare.nD Cert.DwSquare.τ Cert.DwSquare.sig) → Buf (Elt Bits) ℓ) (g : Dev Cert.DwSquare.nD → PrngReg), Pre_DwSquare m →
    θ_run (Cert.DwSquare.defs (F := Bits)) (onTc (τ := Cert.DwSquare.τ) (Cert.DwSquare.main (F := Bits))) ⟨m, fun _ => 0, g⟩ (fun r => (∀ c : Dev Cert.DwSquare.nD,
      r.2.mem ((c.tc : Thread Cert.DwSquare.nD Cert.DwSquare.τ).loc Cert.DwSquare.main_arg0) = m ((c.tc : Thread Cert.DwSquare.nD Cert.DwSquare.τ).loc Cert.DwSquare.main_arg0)
      ∧ r.2.mem ((c.tc : Thread Cert.DwSquare.nD Cert.DwSquare.τ).loc Cert.DwSquare.main_arg1) = m ((c.tc : Thread Cert.DwSquare.nD Cert.DwSquare.τ).loc Cert.DwSquare.main_arg1))
      ∧ r.2.sem = fun _ => 0)

def quiescent_DwSquareIdeal [hDwSquareIdeal : Cert.DwSquareIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg), Pre_DwSquareIdeal m →
    θ_run (Cert.DwSquareIdeal.defs (F := Ideal)) (onTc (τ := Cert.DwSquareIdeal.τ) (Cert.DwSquareIdeal.main (F := Ideal))) ⟨m, fun _ => 0, g⟩ (fun r => (∀ c : Dev Cert.DwSquareIdeal.nD,
      r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
      ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ r.2.sem = fun _ => 0)

def quiescent_DwSquareReferenceIdeal [hDwSquareReferenceIdeal : Cert.DwSquareReferenceIdeal.Facts] : Prop :=
  ∀ (m : (ℓ : Loc Cert.DwSquareReferenceIdeal.nD Cert.DwSquareReferenceIdeal.τ Cert.DwSquareReferenceIdeal.sig) → Buf (Elt Ideal) ℓ) (g : Dev Cert.DwSquareReferenceIdeal.nD → PrngReg), Pre_DwSquareReferenceIdeal m →
    θ_run (Cert.DwSquareReferenceIdeal.defs (F := Ideal)) (onTc (τ := Cert.DwSquareReferenceIdeal.τ) (Cert.DwSquareReferenceIdeal.main (F := Ideal))) ⟨m, fun _ => 0, g⟩ (fun r => (∀ c : Dev Cert.DwSquareReferenceIdeal.nD,
      r.2.mem ((c.tc : Thread Cert.DwSquareReferenceIdeal.nD Cert.DwSquareReferenceIdeal.τ).loc Cert.DwSquareReferenceIdeal.main_arg0) = m ((c.tc : Thread Cert.DwSquareReferenceIdeal.nD Cert.DwSquareReferenceIdeal.τ).loc Cert.DwSquareReferenceIdeal.main_arg0)
      ∧ r.2.mem ((c.tc : Thread Cert.DwSquareReferenceIdeal.nD Cert.DwSquareReferenceIdeal.τ).loc Cert.DwSquareReferenceIdeal.main_arg1) = m ((c.tc : Thread Cert.DwSquareReferenceIdeal.nD Cert.DwSquareReferenceIdeal.τ).loc Cert.DwSquareReferenceIdeal.main_arg1))
      ∧ r.2.sem = fun _ => 0)

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvBwdReferenceIdeal [hConvBwdReferenceIdeal : Cert.ConvBwdReferenceIdeal.Facts] : Prop :=
  ∀ (m : (ℓ : Loc Cert.ConvBwdReferenceIdeal.nD Cert.ConvBwdReferenceIdeal.τ Cert.ConvBwdReferenceIdeal.sig) → Buf (Elt Ideal) ℓ) (g : Dev Cert.ConvBwdReferenceIdeal.nD → PrngReg), Pre_ConvBwdReferenceIdeal m →
    θ_run (Cert.ConvBwdReferenceIdeal.defs (F := Ideal)) (onTc (τ := Cert.ConvBwdReferenceIdeal.τ) (Cert.ConvBwdReferenceIdeal.main (F := Ideal))) ⟨m, fun _ => 0, g⟩ (fun r => (∀ c : Dev Cert.ConvBwdReferenceIdeal.nD,
      r.2.mem ((c.tc : Thread Cert.ConvBwdReferenceIdeal.nD Cert.ConvBwdReferenceIdeal.τ).loc Cert.ConvBwdReferenceIdeal.main_arg0) = m ((c.tc : Thread Cert.ConvBwdReferenceIdeal.nD Cert.ConvBwdReferenceIdeal.τ).loc Cert.ConvBwdReferenceIdeal.main_arg0)
      ∧ r.2.mem ((c.tc : Thread Cert.ConvBwdReferenceIdeal.nD Cert.ConvBwdReferenceIdeal.τ).loc Cert.ConvBwdReferenceIdeal.main_arg1) = m ((c.tc : Thread Cert.ConvBwdReferenceIdeal.nD Cert.ConvBwdReferenceIdeal.τ).loc Cert.ConvBwdReferenceIdeal.main_arg1)
      ∧ r.2.mem ((c.tc : Thread Cert.ConvBwdReferenceIdeal.nD Cert.ConvBwdReferenceIdeal.τ).loc Cert.ConvBwdReferenceIdeal.main_arg2) = m ((c.tc : Thread Cert.ConvBwdReferenceIdeal.nD Cert.ConvBwdReferenceIdeal.τ).loc Cert.ConvBwdReferenceIdeal.main_arg2)
      ∧ r.2.mem ((c.tc : Thread Cert.ConvBwdReferenceIdeal.nD Cert.ConvBwdReferenceIdeal.τ).loc Cert.ConvBwdReferenceIdeal.main_arg3) = m ((c.tc : Thread Cert.ConvBwdReferenceIdeal.nD Cert.ConvBwdReferenceIdeal.τ).loc Cert.ConvBwdReferenceIdeal.main_arg3))
      ∧ r.2.sem = fun _ => 0)

def quiescent_DwGateUp [hDwGateUp : Cert.DwGateUp.Facts] : Prop :=
  ∀ (m : (ℓ : Loc Cert.DwGateUp.nD Cert.DwGateUp.τ Cert.DwGateUp.sig) → Buf (Elt Bits) ℓ) (g : Dev Cert.DwGateUp.nD → PrngReg), Pre_DwGateUp m →
    θ_run (Cert.DwGateUp.defs (F := Bits)) (onTc (τ := Cert.DwGateUp.τ) (Cert.DwGateUp.main (F := Bits))) ⟨m, fun _ => 0, g⟩ (fun r => (∀ c : Dev Cert.DwGateUp.nD,
      r.2.mem ((c.tc : Thread Cert.DwGateUp.nD Cert.DwGateUp.τ).loc Cert.DwGateUp.main_arg0) = m ((c.tc : Thread Cert.DwGateUp.nD Cert.DwGateUp.τ).loc Cert.DwGateUp.main_arg0)
      ∧ r.2.mem ((c.tc : Thread Cert.DwGateUp.nD Cert.DwGateUp.τ).loc Cert.DwGateUp.main_arg1) = m ((c.tc : Thread Cert.DwGateUp.nD Cert.DwGateUp.τ).loc Cert.DwGateUp.main_arg1)
      ∧ r.2.mem ((c.tc : Thread Cert.DwGateUp.nD Cert.DwGateUp.τ).loc Cert.DwGateUp.main_arg2) = m ((c.tc : Thread Cert.DwGateUp.nD Cert.DwGateUp.τ).loc Cert.DwGateUp.main_arg2))
      ∧ r.2.sem = fun _ => 0)

def quiescent_DwGateUpIdeal [hDwGateUpIdeal : Cert.DwGateUpIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg), Pre_DwGateUpIdeal m →
    θ_run (Cert.DwGateUpIdeal.defs (F := Ideal)) (onTc (τ := Cert.DwGateUpIdeal.τ) (Cert.DwGateUpIdeal.main (F := Ideal))) ⟨m, fun _ => 0, g⟩ (fun r => (∀ c : Dev Cert.DwGateUpIdeal.nD,
      r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
      ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1)
      ∧ r.2.mem ((c.tc : Thread Cert.DwGateUpIdeal.nD Cert.DwGateUpIdeal.τ).loc Cert.DwGateUpIdeal.main_arg2) = m ((c.tc : Thread Cert.DwGateUpIdeal.nD Cert.DwGateUpIdeal.τ).loc Cert.DwGateUpIdeal.main_arg2))
      ∧ r.2.sem = fun _ => 0)

def quiescent_DwGateUpReferenceIdeal [hDwGateUpReferenceIdeal : Cert.DwGateUpReferenceIdeal.Facts] : Prop :=
  ∀ (m : (ℓ : Loc Cert.DwGateUpReferenceIdeal.nD Cert.DwGateUpReferenceIdeal.τ Cert.DwGateUpReferenceIdeal.sig) → Buf (Elt Ideal) ℓ) (g : Dev Cert.DwGateUpReferenceIdeal.nD → PrngReg), Pre_DwGateUpReferenceIdeal m →
    θ_run (Cert.DwGateUpReferenceIdeal.defs (F := Ideal)) (onTc (τ := Cert.DwGateUpReferenceIdeal.τ) (Cert.DwGateUpReferenceIdeal.main (F := Ideal))) ⟨m, fun _ => 0, g⟩ (fun r => (∀ c : Dev Cert.DwGateUpReferenceIdeal.nD,
      r.2.mem ((c.tc : Thread Cert.DwGateUpReferenceIdeal.nD Cert.DwGateUpReferenceIdeal.τ).loc Cert.DwGateUpReferenceIdeal.main_arg0) = m ((c.tc : Thread Cert.DwGateUpReferenceIdeal.nD Cert.DwGateUpReferenceIdeal.τ).loc Cert.DwGateUpReferenceIdeal.main_arg0)
      ∧ r.2.mem ((c.tc : Thread Cert.DwGateUpReferenceIdeal.nD Cert.DwGateUpReferenceIdeal.τ).loc Cert.DwGateUpReferenceIdeal.main_arg1) = m ((c.tc : Thread Cert.DwGateUpReferenceIdeal.nD Cert.DwGateUpReferenceIdeal.τ).loc Cert.DwGateUpReferenceIdeal.main_arg1)
      ∧ r.2.mem ((c.tc : Thread Cert.DwGateUpReferenceIdeal.nD Cert.DwGateUpReferenceIdeal.τ).loc Cert.DwGateUpReferenceIdeal.main_arg2) = m ((c.tc : Thread Cert.DwGateUpReferenceIdeal.nD Cert.DwGateUpReferenceIdeal.τ).loc Cert.DwGateUpReferenceIdeal.main_arg2))
      ∧ r.2.sem = fun _ => 0)

def quiescent_Dh2 [hDh2 : Cert.Dh2.Facts] : Prop :=
  ∀ (m : (ℓ : Loc Cert.Dh2.nD Cert.Dh2.τ Cert.Dh2.sig) → Buf (Elt Bits) ℓ) (g : Dev Cert.Dh2.nD → PrngReg), Pre_Dh2 m →
    θ_run (Cert.Dh2.defs (F := Bits)) (onTc (τ := Cert.Dh2.τ) (Cert.Dh2.main (F := Bits))) ⟨m, fun _ => 0, g⟩ (fun r => (∀ c : Dev Cert.Dh2.nD,
      r.2.mem ((c.tc : Thread Cert.Dh2.nD Cert.Dh2.τ).loc Cert.Dh2.main_arg0) = m ((c.tc : Thread Cert.Dh2.nD Cert.Dh2.τ).loc Cert.Dh2.main_arg0)
      ∧ r.2.mem ((c.tc : Thread Cert.Dh2.nD Cert.Dh2.τ).loc Cert.Dh2.main_arg1) = m ((c.tc : Thread Cert.Dh2.nD Cert.Dh2.τ).loc Cert.Dh2.main_arg1)
      ∧ r.2.mem ((c.tc : Thread Cert.Dh2.nD Cert.Dh2.τ).loc Cert.Dh2.main_arg2) = m ((c.tc : Thread Cert.Dh2.nD Cert.Dh2.τ).loc Cert.Dh2.main_arg2))
      ∧ r.2.sem = fun _ => 0)

def quiescent_Dh2Ideal [hDh2Ideal : Cert.Dh2Ideal.Facts] : Prop :=
  ∀ (m : (ℓ : Loc Cert.Dh2Ideal.nD Cert.Dh2Ideal.τ Cert.Dh2Ideal.sig) → Buf (Elt Ideal) ℓ) (g : Dev Cert.Dh2Ideal.nD → PrngReg), Pre_Dh2Ideal m →
    θ_run (Cert.Dh2Ideal.defs (F := Ideal)) (onTc (τ := Cert.Dh2Ideal.τ) (Cert.Dh2Ideal.main (F := Ideal))) ⟨m, fun _ => 0, g⟩ (fun r => (∀ c : Dev Cert.Dh2Ideal.nD,
      r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
      ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
      ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ r.2.sem = fun _ => 0)

def quiescent_Dh2ReferenceIdeal [hDh2ReferenceIdeal : Cert.Dh2ReferenceIdeal.Facts] : Prop :=
  ∀ (m : (ℓ : Loc Cert.Dh2ReferenceIdeal.nD Cert.Dh2ReferenceIdeal.τ Cert.Dh2ReferenceIdeal.sig) → Buf (Elt Ideal) ℓ) (g : Dev Cert.Dh2ReferenceIdeal.nD → PrngReg), Pre_Dh2ReferenceIdeal m →
    θ_run (Cert.Dh2ReferenceIdeal.defs (F := Ideal)) (onTc (τ := Cert.Dh2ReferenceIdeal.τ) (Cert.Dh2ReferenceIdeal.main (F := Ideal))) ⟨m, fun _ => 0, g⟩ (fun r => (∀ c : Dev Cert.Dh2ReferenceIdeal.nD,
      r.2.mem ((c.tc : Thread Cert.Dh2ReferenceIdeal.nD Cert.Dh2ReferenceIdeal.τ).loc Cert.Dh2ReferenceIdeal.main_arg0) = m ((c.tc : Thread Cert.Dh2ReferenceIdeal.nD Cert.Dh2ReferenceIdeal.τ).loc Cert.Dh2ReferenceIdeal.main_arg0)
      ∧ r.2.mem ((c.tc : Thread Cert.Dh2ReferenceIdeal.nD Cert.Dh2ReferenceIdeal.τ).loc Cert.Dh2ReferenceIdeal.main_arg1) = m ((c.tc : Thread Cert.Dh2ReferenceIdeal.nD Cert.Dh2ReferenceIdeal.τ).loc Cert.Dh2ReferenceIdeal.main_arg1)
      ∧ r.2.mem ((c.tc : Thread Cert.Dh2ReferenceIdeal.nD Cert.Dh2ReferenceIdeal.τ).loc Cert.Dh2ReferenceIdeal.main_arg2) = m ((c.tc : Thread Cert.Dh2ReferenceIdeal.nD Cert.Dh2ReferenceIdeal.τ).loc Cert.Dh2ReferenceIdeal.main_arg2))
      ∧ r.2.sem = fun _ => 0)

def quiescent_Dh1 [hDh1 : Cert.Dh1.Facts] : Prop :=
  ∀ (m : (ℓ : Loc Cert.Dh1.nD Cert.Dh1.τ Cert.Dh1.sig) → Buf (Elt Bits) ℓ) (g : Dev Cert.Dh1.nD → PrngReg), Pre_Dh1 m →
    θ_run (Cert.Dh1.defs (F := Bits)) (onTc (τ := Cert.Dh1.τ) (Cert.Dh1.main (F := Bits))) ⟨m, fun _ => 0, g⟩ (fun r => (∀ c : Dev Cert.Dh1.nD,
      r.2.mem ((c.tc : Thread Cert.Dh1.nD Cert.Dh1.τ).loc Cert.Dh1.main_arg0) = m ((c.tc : Thread Cert.Dh1.nD Cert.Dh1.τ).loc Cert.Dh1.main_arg0)
      ∧ r.2.mem ((c.tc : Thread Cert.Dh1.nD Cert.Dh1.τ).loc Cert.Dh1.main_arg1) = m ((c.tc : Thread Cert.Dh1.nD Cert.Dh1.τ).loc Cert.Dh1.main_arg1))
      ∧ r.2.sem = fun _ => 0)

def quiescent_Dh1Ideal [hDh1Ideal : Cert.Dh1Ideal.Facts] : Prop :=
  ∀ (m : (ℓ : Loc Cert.Dh1Ideal.nD Cert.Dh1Ideal.τ Cert.Dh1Ideal.sig) → Buf (Elt Ideal) ℓ) (g : Dev Cert.Dh1Ideal.nD → PrngReg), Pre_Dh1Ideal m →
    θ_run (Cert.Dh1Ideal.defs (F := Ideal)) (onTc (τ := Cert.Dh1Ideal.τ) (Cert.Dh1Ideal.main (F := Ideal))) ⟨m, fun _ => 0, g⟩ (fun r => (∀ c : Dev Cert.Dh1Ideal.nD,
      r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
      ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ r.2.sem = fun _ => 0)

def quiescent_Dh1ReferenceIdeal [hDh1ReferenceIdeal : Cert.Dh1ReferenceIdeal.Facts] : Prop :=
  ∀ (m : (ℓ : Loc Cert.Dh1ReferenceIdeal.nD Cert.Dh1ReferenceIdeal.τ Cert.Dh1ReferenceIdeal.sig) → Buf (Elt Ideal) ℓ) (g : Dev Cert.Dh1ReferenceIdeal.nD → PrngReg), Pre_Dh1ReferenceIdeal m →
    θ_run (Cert.Dh1ReferenceIdeal.defs (F := Ideal)) (onTc (τ := Cert.Dh1ReferenceIdeal.τ) (Cert.Dh1ReferenceIdeal.main (F := Ideal))) ⟨m, fun _ => 0, g⟩ (fun r => (∀ c : Dev Cert.Dh1ReferenceIdeal.nD,
      r.2.mem ((c.tc : Thread Cert.Dh1ReferenceIdeal.nD Cert.Dh1ReferenceIdeal.τ).loc Cert.Dh1ReferenceIdeal.main_arg0) = m ((c.tc : Thread Cert.Dh1ReferenceIdeal.nD Cert.Dh1ReferenceIdeal.τ).loc Cert.Dh1ReferenceIdeal.main_arg0)
      ∧ r.2.mem ((c.tc : Thread Cert.Dh1ReferenceIdeal.nD Cert.Dh1ReferenceIdeal.τ).loc Cert.Dh1ReferenceIdeal.main_arg1) = m ((c.tc : Thread Cert.Dh1ReferenceIdeal.nD Cert.Dh1ReferenceIdeal.τ).loc Cert.Dh1ReferenceIdeal.main_arg1))
      ∧ r.2.sem = fun _ => 0)

def quiescent_NormFfnBwd [hNormFfnBwd : Cert.NormFfnBwd.Facts] : Prop :=
  ∀ (m : (ℓ : Loc Cert.NormFfnBwd.nD Cert.NormFfnBwd.τ Cert.NormFfnBwd.sig) → Buf (Elt Bits) ℓ) (g : Dev Cert.NormFfnBwd.nD → PrngReg), Pre_NormFfnBwd m →
    θ_run (Cert.NormFfnBwd.defs (F := Bits)) (onTc (τ := Cert.NormFfnBwd.τ) (Cert.NormFfnBwd.main (F := Bits))) ⟨m, fun _ => 0, g⟩ (fun r => (∀ c : Dev Cert.NormFfnBwd.nD,
      r.2.mem ((c.tc : Thread Cert.NormFfnBwd.nD Cert.NormFfnBwd.τ).loc Cert.NormFfnBwd.main_arg0) = m ((c.tc : Thread Cert.NormFfnBwd.nD Cert.NormFfnBwd.τ).loc Cert.NormFfnBwd.main_arg0)
      ∧ r.2.mem ((c.tc : Thread Cert.NormFfnBwd.nD Cert.NormFfnBwd.τ).loc Cert.NormFfnBwd.main_arg1) = m ((c.tc : Thread Cert.NormFfnBwd.nD Cert.NormFfnBwd.τ).loc Cert.NormFfnBwd.main_arg1)
      ∧ r.2.mem ((c.tc : Thread Cert.NormFfnBwd.nD Cert.NormFfnBwd.τ).loc Cert.NormFfnBwd.main_arg2) = m ((c.tc : Thread Cert.NormFfnBwd.nD Cert.NormFfnBwd.τ).loc Cert.NormFfnBwd.main_arg2)
      ∧ r.2.mem ((c.tc : Thread Cert.NormFfnBwd.nD Cert.NormFfnBwd.τ).loc Cert.NormFfnBwd.main_arg3) = m ((c.tc : Thread Cert.NormFfnBwd.nD Cert.NormFfnBwd.τ).loc Cert.NormFfnBwd.main_arg3))
      ∧ r.2.sem = fun _ => 0)

def quiescent_NormFfnBwdIdeal [hNormFfnBwdIdeal : Cert.NormFfnBwdIdeal.Facts] : Prop :=
  ∀ (m : (ℓ : Loc Cert.NormFfnBwdIdeal.nD Cert.NormFfnBwdIdeal.τ Cert.NormFfnBwdIdeal.sig) → Buf (Elt Ideal) ℓ) (g : Dev Cert.NormFfnBwdIdeal.nD → PrngReg), Pre_NormFfnBwdIdeal m →
    θ_run (Cert.NormFfnBwdIdeal.defs (F := Ideal)) (onTc (τ := Cert.NormFfnBwdIdeal.τ) (Cert.NormFfnBwdIdeal.main (F := Ideal))) ⟨m, fun _ => 0, g⟩ (fun r => (∀ c : Dev Cert.NormFfnBwdIdeal.nD,
      r.2.mem ((c.tc : Thread Cert.NormFfnBwdIdeal.nD Cert.NormFfnBwdIdeal.τ).loc Cert.NormFfnBwdIdeal.main_arg0) = m ((c.tc : Thread Cert.NormFfnBwdIdeal.nD Cert.NormFfnBwdIdeal.τ).loc Cert.NormFfnBwdIdeal.main_arg0)
      ∧ r.2.mem ((c.tc : Thread Cert.NormFfnBwdIdeal.nD Cert.NormFfnBwdIdeal.τ).loc Cert.NormFfnBwdIdeal.main_arg1) = m ((c.tc : Thread Cert.NormFfnBwdIdeal.nD Cert.NormFfnBwdIdeal.τ).loc Cert.NormFfnBwdIdeal.main_arg1)
      ∧ r.2.mem ((c.tc : Thread Cert.NormFfnBwdIdeal.nD Cert.NormFfnBwdIdeal.τ).loc Cert.NormFfnBwdIdeal.main_arg2) = m ((c.tc : Thread Cert.NormFfnBwdIdeal.nD Cert.NormFfnBwdIdeal.τ).loc Cert.NormFfnBwdIdeal.main_arg2)
      ∧ r.2.mem ((c.tc : Thread Cert.NormFfnBwdIdeal.nD Cert.NormFfnBwdIdeal.τ).loc Cert.NormFfnBwdIdeal.main_arg3) = m ((c.tc : Thread Cert.NormFfnBwdIdeal.nD Cert.NormFfnBwdIdeal.τ).loc Cert.NormFfnBwdIdeal.main_arg3))
      ∧ r.2.sem = fun _ => 0)

def quiescent_NormFfnBwdReferenceIdeal [hNormFfnBwdReferenceIdeal : Cert.NormFfnBwdReferenceIdeal.Facts] : Prop :=
  ∀ (m : (ℓ : Loc Cert.NormFfnBwdReferenceIdeal.nD Cert.NormFfnBwdReferenceIdeal.τ Cert.NormFfnBwdReferenceIdeal.sig) → Buf (Elt Ideal) ℓ) (g : Dev Cert.NormFfnBwdReferenceIdeal.nD → PrngReg), Pre_NormFfnBwdReferenceIdeal m →
    θ_run (Cert.NormFfnBwdReferenceIdeal.defs (F := Ideal)) (onTc (τ := Cert.NormFfnBwdReferenceIdeal.τ) (Cert.NormFfnBwdReferenceIdeal.main (F := Ideal))) ⟨m, fun _ => 0, g⟩ (fun r => (∀ c : Dev Cert.NormFfnBwdReferenceIdeal.nD,
      r.2.mem ((c.tc : Thread Cert.NormFfnBwdReferenceIdeal.nD Cert.NormFfnBwdReferenceIdeal.τ).loc Cert.NormFfnBwdReferenceIdeal.main_arg0) = m ((c.tc : Thread Cert.NormFfnBwdReferenceIdeal.nD Cert.NormFfnBwdReferenceIdeal.τ).loc Cert.NormFfnBwdReferenceIdeal.main_arg0)
      ∧ r.2.mem ((c.tc : Thread Cert.NormFfnBwdReferenceIdeal.nD Cert.NormFfnBwdReferenceIdeal.τ).loc Cert.NormFfnBwdReferenceIdeal.main_arg1) = m ((c.tc : Thread Cert.NormFfnBwdReferenceIdeal.nD Cert.NormFfnBwdReferenceIdeal.τ).loc Cert.NormFfnBwdReferenceIdeal.main_arg1)
      ∧ r.2.mem ((c.tc : Thread Cert.NormFfnBwdReferenceIdeal.nD Cert.NormFfnBwdReferenceIdeal.τ).loc Cert.NormFfnBwdReferenceIdeal.main_arg2) = m ((c.tc : Thread Cert.NormFfnBwdReferenceIdeal.nD Cert.NormFfnBwdReferenceIdeal.τ).loc Cert.NormFfnBwdReferenceIdeal.main_arg2)
      ∧ r.2.mem ((c.tc : Thread Cert.NormFfnBwdReferenceIdeal.nD Cert.NormFfnBwdReferenceIdeal.τ).loc Cert.NormFfnBwdReferenceIdeal.main_arg3) = m ((c.tc : Thread Cert.NormFfnBwdReferenceIdeal.nD Cert.NormFfnBwdReferenceIdeal.τ).loc Cert.NormFfnBwdReferenceIdeal.main_arg3))
      ∧ r.2.sem = fun _ => 0)

def quiescent_NormMixBwd [hNormMixBwd : Cert.NormMixBwd.Facts] : Prop :=
  ∀ (m : (ℓ : Loc Cert.NormMixBwd.nD Cert.NormMixBwd.τ Cert.NormMixBwd.sig) → Buf (Elt Bits) ℓ) (g : Dev Cert.NormMixBwd.nD → PrngReg), Pre_NormMixBwd m →
    θ_run (Cert.NormMixBwd.defs (F := Bits)) (onTc (τ := Cert.NormMixBwd.τ) (Cert.NormMixBwd.main (F := Bits))) ⟨m, fun _ => 0, g⟩ (fun r => (∀ c : Dev Cert.NormMixBwd.nD,
      r.2.mem ((c.tc : Thread Cert.NormMixBwd.nD Cert.NormMixBwd.τ).loc Cert.NormMixBwd.main_arg0) = m ((c.tc : Thread Cert.NormMixBwd.nD Cert.NormMixBwd.τ).loc Cert.NormMixBwd.main_arg0)
      ∧ r.2.mem ((c.tc : Thread Cert.NormMixBwd.nD Cert.NormMixBwd.τ).loc Cert.NormMixBwd.main_arg1) = m ((c.tc : Thread Cert.NormMixBwd.nD Cert.NormMixBwd.τ).loc Cert.NormMixBwd.main_arg1)
      ∧ r.2.mem ((c.tc : Thread Cert.NormMixBwd.nD Cert.NormMixBwd.τ).loc Cert.NormMixBwd.main_arg2) = m ((c.tc : Thread Cert.NormMixBwd.nD Cert.NormMixBwd.τ).loc Cert.NormMixBwd.main_arg2)
      ∧ r.2.mem ((c.tc : Thread Cert.NormMixBwd.nD Cert.NormMixBwd.τ).loc Cert.NormMixBwd.main_arg3) = m ((c.tc : Thread Cert.NormMixBwd.nD Cert.NormMixBwd.τ).loc Cert.NormMixBwd.main_arg3))
      ∧ r.2.sem = fun _ => 0)

def quiescent_NormMixBwdIdeal [hNormMixBwdIdeal : Cert.NormMixBwdIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg), Pre_NormMixBwdIdeal m →
    θ_run (Cert.NormMixBwdIdeal.defs (F := Ideal)) (onTc (τ := Cert.NormMixBwdIdeal.τ) (Cert.NormMixBwdIdeal.main (F := Ideal))) ⟨m, fun _ => 0, g⟩ (fun r => (∀ c : Dev Cert.NormMixBwdIdeal.nD,
      r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
      ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
      ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
      ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3))
      ∧ r.2.sem = fun _ => 0)

def quiescent_NormMixBwdReferenceIdeal [hNormMixBwdReferenceIdeal : Cert.NormMixBwdReferenceIdeal.Facts] : Prop :=
  ∀ (m : (ℓ : Loc Cert.NormMixBwdReferenceIdeal.nD Cert.NormMixBwdReferenceIdeal.τ Cert.NormMixBwdReferenceIdeal.sig) → Buf (Elt Ideal) ℓ) (g : Dev Cert.NormMixBwdReferenceIdeal.nD → PrngReg), Pre_NormMixBwdReferenceIdeal m →
    θ_run (Cert.NormMixBwdReferenceIdeal.defs (F := Ideal)) (onTc (τ := Cert.NormMixBwdReferenceIdeal.τ) (Cert.NormMixBwdReferenceIdeal.main (F := Ideal))) ⟨m, fun _ => 0, g⟩ (fun r => (∀ c : Dev Cert.NormMixBwdReferenceIdeal.nD,
      r.2.mem ((c.tc : Thread Cert.NormMixBwdReferenceIdeal.nD Cert.NormMixBwdReferenceIdeal.τ).loc Cert.NormMixBwdReferenceIdeal.main_arg0) = m ((c.tc : Thread Cert.NormMixBwdReferenceIdeal.nD Cert.NormMixBwdReferenceIdeal.τ).loc Cert.NormMixBwdReferenceIdeal.main_arg0)
      ∧ r.2.mem ((c.tc : Thread Cert.NormMixBwdReferenceIdeal.nD Cert.NormMixBwdReferenceIdeal.τ).loc Cert.NormMixBwdReferenceIdeal.main_arg1) = m ((c.tc : Thread Cert.NormMixBwdReferenceIdeal.nD Cert.NormMixBwdReferenceIdeal.τ).loc Cert.NormMixBwdReferenceIdeal.main_arg1)
      ∧ r.2.mem ((c.tc : Thread Cert.NormMixBwdReferenceIdeal.nD Cert.NormMixBwdReferenceIdeal.τ).loc Cert.NormMixBwdReferenceIdeal.main_arg2) = m ((c.tc : Thread Cert.NormMixBwdReferenceIdeal.nD Cert.NormMixBwdReferenceIdeal.τ).loc Cert.NormMixBwdReferenceIdeal.main_arg2)
      ∧ r.2.mem ((c.tc : Thread Cert.NormMixBwdReferenceIdeal.nD Cert.NormMixBwdReferenceIdeal.τ).loc Cert.NormMixBwdReferenceIdeal.main_arg3) = m ((c.tc : Thread Cert.NormMixBwdReferenceIdeal.nD Cert.NormMixBwdReferenceIdeal.τ).loc Cert.NormMixBwdReferenceIdeal.main_arg3))
      ∧ r.2.sem = fun _ => 0)

def quiescent_DownLoss [hDownLoss : Cert.DownLoss.Facts] : Prop :=
  ∀ (m : (ℓ : Loc Cert.DownLoss.nD Cert.DownLoss.τ Cert.DownLoss.sig) → Buf (Elt Bits) ℓ) (g : Dev Cert.DownLoss.nD → PrngReg), Pre_DownLoss m →
    θ_run (Cert.DownLoss.defs (F := Bits)) (onTc (τ := Cert.DownLoss.τ) (Cert.DownLoss.main (F := Bits))) ⟨m, fun _ => 0, g⟩ (fun r => (∀ c : Dev Cert.DownLoss.nD,
      r.2.mem ((c.tc : Thread Cert.DownLoss.nD Cert.DownLoss.τ).loc Cert.DownLoss.main_arg0) = m ((c.tc : Thread Cert.DownLoss.nD Cert.DownLoss.τ).loc Cert.DownLoss.main_arg0)
      ∧ r.2.mem ((c.tc : Thread Cert.DownLoss.nD Cert.DownLoss.τ).loc Cert.DownLoss.main_arg1) = m ((c.tc : Thread Cert.DownLoss.nD Cert.DownLoss.τ).loc Cert.DownLoss.main_arg1)
      ∧ r.2.mem ((c.tc : Thread Cert.DownLoss.nD Cert.DownLoss.τ).loc Cert.DownLoss.main_arg2) = m ((c.tc : Thread Cert.DownLoss.nD Cert.DownLoss.τ).loc Cert.DownLoss.main_arg2)
      ∧ r.2.mem ((c.tc : Thread Cert.DownLoss.nD Cert.DownLoss.τ).loc Cert.DownLoss.main_arg3) = m ((c.tc : Thread Cert.DownLoss.nD Cert.DownLoss.τ).loc Cert.DownLoss.main_arg3)
      ∧ r.2.mem ((c.tc : Thread Cert.DownLoss.nD Cert.DownLoss.τ).loc Cert.DownLoss.main_arg4) = m ((c.tc : Thread Cert.DownLoss.nD Cert.DownLoss.τ).loc Cert.DownLoss.main_arg4))
      ∧ r.2.sem = fun _ => 0)

def quiescent_DownLossIdeal [hDownLossIdeal : Cert.DownLossIdeal.Facts] : Prop :=
  ∀ (m : (ℓ : Loc Cert.DownLossIdeal.nD Cert.DownLossIdeal.τ Cert.DownLossIdeal.sig) → Buf (Elt Ideal) ℓ) (g : Dev Cert.DownLossIdeal.nD → PrngReg), Pre_DownLossIdeal m →
    θ_run (Cert.DownLossIdeal.defs (F := Ideal)) (onTc (τ := Cert.DownLossIdeal.τ) (Cert.DownLossIdeal.main (F := Ideal))) ⟨m, fun _ => 0, g⟩ (fun r => (∀ c : Dev Cert.DownLossIdeal.nD,
      r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
      ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
      ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
      ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
      ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ r.2.sem = fun _ => 0)

def quiescent_DownLossReferenceIdeal [hDownLossReferenceIdeal : Cert.DownLossReferenceIdeal.Facts] : Prop :=
  ∀ (m : (ℓ : Loc Cert.DownLossReferenceIdeal.nD Cert.DownLossReferenceIdeal.τ Cert.DownLossReferenceIdeal.sig) → Buf (Elt Ideal) ℓ) (g : Dev Cert.DownLossReferenceIdeal.nD → PrngReg), Pre_DownLossReferenceIdeal m →
    θ_run (Cert.DownLossReferenceIdeal.defs (F := Ideal)) (onTc (τ := Cert.DownLossReferenceIdeal.τ) (Cert.DownLossReferenceIdeal.main (F := Ideal))) ⟨m, fun _ => 0, g⟩ (fun r => (∀ c : Dev Cert.DownLossReferenceIdeal.nD,
      r.2.mem ((c.tc : Thread Cert.DownLossReferenceIdeal.nD Cert.DownLossReferenceIdeal.τ).loc Cert.DownLossReferenceIdeal.main_arg0) = m ((c.tc : Thread Cert.DownLossReferenceIdeal.nD Cert.DownLossReferenceIdeal.τ).loc Cert.DownLossReferenceIdeal.main_arg0)
      ∧ r.2.mem ((c.tc : Thread Cert.DownLossReferenceIdeal.nD Cert.DownLossReferenceIdeal.τ).loc Cert.DownLossReferenceIdeal.main_arg1) = m ((c.tc : Thread Cert.DownLossReferenceIdeal.nD Cert.DownLossReferenceIdeal.τ).loc Cert.DownLossReferenceIdeal.main_arg1)
      ∧ r.2.mem ((c.tc : Thread Cert.DownLossReferenceIdeal.nD Cert.DownLossReferenceIdeal.τ).loc Cert.DownLossReferenceIdeal.main_arg2) = m ((c.tc : Thread Cert.DownLossReferenceIdeal.nD Cert.DownLossReferenceIdeal.τ).loc Cert.DownLossReferenceIdeal.main_arg2)
      ∧ r.2.mem ((c.tc : Thread Cert.DownLossReferenceIdeal.nD Cert.DownLossReferenceIdeal.τ).loc Cert.DownLossReferenceIdeal.main_arg3) = m ((c.tc : Thread Cert.DownLossReferenceIdeal.nD Cert.DownLossReferenceIdeal.τ).loc Cert.DownLossReferenceIdeal.main_arg3)
      ∧ r.2.mem ((c.tc : Thread Cert.DownLossReferenceIdeal.nD Cert.DownLossReferenceIdeal.τ).loc Cert.DownLossReferenceIdeal.main_arg4) = m ((c.tc : Thread Cert.DownLossReferenceIdeal.nD Cert.DownLossReferenceIdeal.τ).loc Cert.DownLossReferenceIdeal.main_arg4))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_ConvFwd [hConvFwd : Cert.ConvFwd.Facts] : Prop :=
  ∀ (m : (ℓ : Loc Cert.ConvFwd.nD Cert.ConvFwd.τ Cert.ConvFwd.sig) → Buf (Elt Bits) ℓ) (g : Dev Cert.ConvFwd.nD → PrngReg), Pre_ConvFwd m →
    θ_run (Cert.ConvFwd.defs (F := Bits)) (onTc (τ := Cert.ConvFwd.τ) (Cert.ConvFwd.main (F := Bits))) ⟨m, fun _ => 0, g⟩ (fun r => (∀ c : Dev Cert.ConvFwd.nD,
      r.2.mem ((c.tc : Thread Cert.ConvFwd.nD Cert.ConvFwd.τ).loc Cert.ConvFwd.main_arg0) = m ((c.tc : Thread Cert.ConvFwd.nD Cert.ConvFwd.τ).loc Cert.ConvFwd.main_arg0)
      ∧ r.2.mem ((c.tc : Thread Cert.ConvFwd.nD Cert.ConvFwd.τ).loc Cert.ConvFwd.main_arg1) = m ((c.tc : Thread Cert.ConvFwd.nD Cert.ConvFwd.τ).loc Cert.ConvFwd.main_arg1))
      ∧ r.2.sem = fun _ => 0)

def quiescent_ConvFwdIdeal [hConvFwdIdeal : Cert.ConvFwdIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg), Pre_ConvFwdIdeal m →
    θ_run (Cert.ConvFwdIdeal.defs (F := Ideal)) (onTc (τ := Cert.ConvFwdIdeal.τ) (Cert.ConvFwdIdeal.main (F := Ideal))) ⟨m, fun _ => 0, g⟩ (fun r => (∀ c : Dev Cert.ConvFwdIdeal.nD,
      r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
      ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ r.2.sem = fun _ => 0)

def quiescent_ConvFwdReferenceIdeal [hConvFwdReferenceIdeal : Cert.ConvFwdReferenceIdeal.Facts] : Prop :=
  ∀ (m : (ℓ : Loc Cert.ConvFwdReferenceIdeal.nD Cert.ConvFwdReferenceIdeal.τ Cert.ConvFwdReferenceIdeal.sig) → Buf (Elt Ideal) ℓ) (g : Dev Cert.ConvFwdReferenceIdeal.nD → PrngReg), Pre_ConvFwdReferenceIdeal m →
    θ_run (Cert.ConvFwdReferenceIdeal.defs (F := Ideal)) (onTc (τ := Cert.ConvFwdReferenceIdeal.τ) (Cert.ConvFwdReferenceIdeal.main (F := Ideal))) ⟨m, fun _ => 0, g⟩ (fun r => (∀ c : Dev Cert.ConvFwdReferenceIdeal.nD,
      r.2.mem ((c.tc : Thread Cert.ConvFwdReferenceIdeal.nD Cert.ConvFwdReferenceIdeal.τ).loc Cert.ConvFwdReferenceIdeal.main_arg0) = m ((c.tc : Thread Cert.ConvFwdReferenceIdeal.nD Cert.ConvFwdReferenceIdeal.τ).loc Cert.ConvFwdReferenceIdeal.main_arg0)
      ∧ r.2.mem ((c.tc : Thread Cert.ConvFwdReferenceIdeal.nD Cert.ConvFwdReferenceIdeal.τ).loc Cert.ConvFwdReferenceIdeal.main_arg1) = m ((c.tc : Thread Cert.ConvFwdReferenceIdeal.nD Cert.ConvFwdReferenceIdeal.τ).loc Cert.ConvFwdReferenceIdeal.main_arg1))
      ∧ r.2.sem = fun _ => 0)

def quiescent_Branches [hBranches : Cert.Branches.Facts] : Prop :=
  ∀ (m : (ℓ : Loc Cert.Branches.nD Cert.Branches.τ Cert.Branches.sig) → Buf (Elt Bits) ℓ) (g : Dev Cert.Branches.nD → PrngReg), Pre_Branches m →
    θ_run (Cert.Branches.defs (F := Bits)) (onTc (τ := Cert.Branches.τ) (Cert.Branches.main (F := Bits))) ⟨m, fun _ => 0, g⟩ (fun r => (∀ c : Dev Cert.Branches.nD,
      r.2.mem ((c.tc : Thread Cert.Branches.nD Cert.Branches.τ).loc Cert.Branches.main_arg0) = m ((c.tc : Thread Cert.Branches.nD Cert.Branches.τ).loc Cert.Branches.main_arg0)
      ∧ r.2.mem ((c.tc : Thread Cert.Branches.nD Cert.Branches.τ).loc Cert.Branches.main_arg1) = m ((c.tc : Thread Cert.Branches.nD Cert.Branches.τ).loc Cert.Branches.main_arg1)
      ∧ r.2.mem ((c.tc : Thread Cert.Branches.nD Cert.Branches.τ).loc Cert.Branches.main_arg2) = m ((c.tc : Thread Cert.Branches.nD Cert.Branches.τ).loc Cert.Branches.main_arg2)
      ∧ r.2.mem ((c.tc : Thread Cert.Branches.nD Cert.Branches.τ).loc Cert.Branches.main_arg3) = m ((c.tc : Thread Cert.Branches.nD Cert.Branches.τ).loc Cert.Branches.main_arg3)
      ∧ r.2.mem ((c.tc : Thread Cert.Branches.nD Cert.Branches.τ).loc Cert.Branches.main_arg4) = m ((c.tc : Thread Cert.Branches.nD Cert.Branches.τ).loc Cert.Branches.main_arg4))
      ∧ r.2.sem = fun _ => 0)

def quiescent_BranchesIdeal [hBranchesIdeal : Cert.BranchesIdeal.Facts] : Prop :=
  ∀ (m : (ℓ : Loc Cert.BranchesIdeal.nD Cert.BranchesIdeal.τ Cert.BranchesIdeal.sig) → Buf (Elt Ideal) ℓ) (g : Dev Cert.BranchesIdeal.nD → PrngReg), Pre_BranchesIdeal m →
    θ_run (Cert.BranchesIdeal.defs (F := Ideal)) (onTc (τ := Cert.BranchesIdeal.τ) (Cert.BranchesIdeal.main (F := Ideal))) ⟨m, fun _ => 0, g⟩ (fun r => (∀ c : Dev Cert.BranchesIdeal.nD,
      r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
      ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
      ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
      ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
      ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4))
      ∧ r.2.sem = fun _ => 0)

def quiescent_BranchesReferenceIdeal [hBranchesReferenceIdeal : Cert.BranchesReferenceIdeal.Facts] : Prop :=
  ∀ (m : (ℓ : Loc Cert.BranchesReferenceIdeal.nD Cert.BranchesReferenceIdeal.τ Cert.BranchesReferenceIdeal.sig) → Buf (Elt Ideal) ℓ) (g : Dev Cert.BranchesReferenceIdeal.nD → PrngReg), Pre_BranchesReferenceIdeal m →
    θ_run (Cert.BranchesReferenceIdeal.defs (F := Ideal)) (onTc (τ := Cert.BranchesReferenceIdeal.τ) (Cert.BranchesReferenceIdeal.main (F := Ideal))) ⟨m, fun _ => 0, g⟩ (fun r => (∀ c : Dev Cert.BranchesReferenceIdeal.nD,
      r.2.mem ((c.tc : Thread Cert.BranchesReferenceIdeal.nD Cert.BranchesReferenceIdeal.τ).loc Cert.BranchesReferenceIdeal.main_arg0) = m ((c.tc : Thread Cert.BranchesReferenceIdeal.nD Cert.BranchesReferenceIdeal.τ).loc Cert.BranchesReferenceIdeal.main_arg0)
      ∧ r.2.mem ((c.tc : Thread Cert.BranchesReferenceIdeal.nD Cert.BranchesReferenceIdeal.τ).loc Cert.BranchesReferenceIdeal.main_arg1) = m ((c.tc : Thread Cert.BranchesReferenceIdeal.nD Cert.BranchesReferenceIdeal.τ).loc Cert.BranchesReferenceIdeal.main_arg1)
      ∧ r.2.mem ((c.tc : Thread Cert.BranchesReferenceIdeal.nD Cert.BranchesReferenceIdeal.τ).loc Cert.BranchesReferenceIdeal.main_arg2) = m ((c.tc : Thread Cert.BranchesReferenceIdeal.nD Cert.BranchesReferenceIdeal.τ).loc Cert.BranchesReferenceIdeal.main_arg2)
      ∧ r.2.mem ((c.tc : Thread Cert.BranchesReferenceIdeal.nD Cert.BranchesReferenceIdeal.τ).loc Cert.BranchesReferenceIdeal.main_arg3) = m ((c.tc : Thread Cert.BranchesReferenceIdeal.nD Cert.BranchesReferenceIdeal.τ).loc Cert.BranchesReferenceIdeal.main_arg3)
      ∧ r.2.mem ((c.tc : Thread Cert.BranchesReferenceIdeal.nD Cert.BranchesReferenceIdeal.τ).loc Cert.BranchesReferenceIdeal.main_arg4) = m ((c.tc : Thread Cert.BranchesReferenceIdeal.nD Cert.BranchesReferenceIdeal.τ).loc Cert.BranchesReferenceIdeal.main_arg4))
      ∧ r.2.sem = fun _ => 0)

def quiescent_OutNorm [hOutNorm : Cert.OutNorm.Facts] : Prop :=
  ∀ (m : (ℓ : Loc Cert.OutNorm.nD Cert.OutNorm.τ Cert.OutNorm.sig) → Buf (Elt Bits) ℓ) (g : Dev Cert.OutNorm.nD → PrngReg), Pre_OutNorm m →
    θ_run (Cert.OutNorm.defs (F := Bits)) (onTc (τ := Cert.OutNorm.τ) (Cert.OutNorm.main (F := Bits))) ⟨m, fun _ => 0, g⟩ (fun r => (∀ c : Dev Cert.OutNorm.nD,
      r.2.mem ((c.tc : Thread Cert.OutNorm.nD Cert.OutNorm.τ).loc Cert.OutNorm.main_arg0) = m ((c.tc : Thread Cert.OutNorm.nD Cert.OutNorm.τ).loc Cert.OutNorm.main_arg0)
      ∧ r.2.mem ((c.tc : Thread Cert.OutNorm.nD Cert.OutNorm.τ).loc Cert.OutNorm.main_arg1) = m ((c.tc : Thread Cert.OutNorm.nD Cert.OutNorm.τ).loc Cert.OutNorm.main_arg1)
      ∧ r.2.mem ((c.tc : Thread Cert.OutNorm.nD Cert.OutNorm.τ).loc Cert.OutNorm.main_arg2) = m ((c.tc : Thread Cert.OutNorm.nD Cert.OutNorm.τ).loc Cert.OutNorm.main_arg2)
      ∧ r.2.mem ((c.tc : Thread Cert.OutNorm.nD Cert.OutNorm.τ).loc Cert.OutNorm.main_arg3) = m ((c.tc : Thread Cert.OutNorm.nD Cert.OutNorm.τ).loc Cert.OutNorm.main_arg3))
      ∧ r.2.sem = fun _ => 0)

def quiescent_OutNormIdeal [hOutNormIdeal : Cert.OutNormIdeal.Facts] : Prop :=
  ∀ (m : (ℓ : Loc Cert.OutNormIdeal.nD Cert.OutNormIdeal.τ Cert.OutNormIdeal.sig) → Buf (Elt Ideal) ℓ) (g : Dev Cert.OutNormIdeal.nD → PrngReg), Pre_OutNormIdeal m →
    θ_run (Cert.OutNormIdeal.defs (F := Ideal)) (onTc (τ := Cert.OutNormIdeal.τ) (Cert.OutNormIdeal.main (F := Ideal))) ⟨m, fun _ => 0, g⟩ (fun r => (∀ c : Dev Cert.OutNormIdeal.nD,
      r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
      ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
      ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
      ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ r.2.sem = fun _ => 0)

def quiescent_OutNormReferenceIdeal [hOutNormReferenceIdeal : Cert.OutNormReferenceIdeal.Facts] : Prop :=
  ∀ (m : (ℓ : Loc Cert.OutNormReferenceIdeal.nD Cert.OutNormReferenceIdeal.τ Cert.OutNormReferenceIdeal.sig) → Buf (Elt Ideal) ℓ) (g : Dev Cert.OutNormReferenceIdeal.nD → PrngReg), Pre_OutNormReferenceIdeal m →
    θ_run (Cert.OutNormReferenceIdeal.defs (F := Ideal)) (onTc (τ := Cert.OutNormReferenceIdeal.τ) (Cert.OutNormReferenceIdeal.main (F := Ideal))) ⟨m, fun _ => 0, g⟩ (fun r => (∀ c : Dev Cert.OutNormReferenceIdeal.nD,
      r.2.mem ((c.tc : Thread Cert.OutNormReferenceIdeal.nD Cert.OutNormReferenceIdeal.τ).loc Cert.OutNormReferenceIdeal.main_arg0) = m ((c.tc : Thread Cert.OutNormReferenceIdeal.nD Cert.OutNormReferenceIdeal.τ).loc Cert.OutNormReferenceIdeal.main_arg0)
      ∧ r.2.mem ((c.tc : Thread Cert.OutNormReferenceIdeal.nD Cert.OutNormReferenceIdeal.τ).loc Cert.OutNormReferenceIdeal.main_arg1) = m ((c.tc : Thread Cert.OutNormReferenceIdeal.nD Cert.OutNormReferenceIdeal.τ).loc Cert.OutNormReferenceIdeal.main_arg1)
      ∧ r.2.mem ((c.tc : Thread Cert.OutNormReferenceIdeal.nD Cert.OutNormReferenceIdeal.τ).loc Cert.OutNormReferenceIdeal.main_arg2) = m ((c.tc : Thread Cert.OutNormReferenceIdeal.nD Cert.OutNormReferenceIdeal.τ).loc Cert.OutNormReferenceIdeal.main_arg2)
      ∧ r.2.mem ((c.tc : Thread Cert.OutNormReferenceIdeal.nD Cert.OutNormReferenceIdeal.τ).loc Cert.OutNormReferenceIdeal.main_arg3) = m ((c.tc : Thread Cert.OutNormReferenceIdeal.nD Cert.OutNormReferenceIdeal.τ).loc Cert.OutNormReferenceIdeal.main_arg3))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1))
      ∧ r.2.sem = fun _ => 0)

def quiescent_KvGrad [hKvGrad : Cert.KvGrad.Facts] : Prop :=
  ∀ (m : (ℓ : Loc Cert.KvGrad.nD Cert.KvGrad.τ Cert.KvGrad.sig) → Buf (Elt Bits) ℓ) (g : Dev Cert.KvGrad.nD → PrngReg), Pre_KvGrad m →
    θ_run (Cert.KvGrad.defs (F := Bits)) (onTc (τ := Cert.KvGrad.τ) (Cert.KvGrad.main (F := Bits))) ⟨m, fun _ => 0, g⟩ (fun r => (∀ c : Dev Cert.KvGrad.nD,
      r.2.mem ((c.tc : Thread Cert.KvGrad.nD Cert.KvGrad.τ).loc Cert.KvGrad.main_arg0) = m ((c.tc : Thread Cert.KvGrad.nD Cert.KvGrad.τ).loc Cert.KvGrad.main_arg0)
      ∧ r.2.mem ((c.tc : Thread Cert.KvGrad.nD Cert.KvGrad.τ).loc Cert.KvGrad.main_arg1) = m ((c.tc : Thread Cert.KvGrad.nD Cert.KvGrad.τ).loc Cert.KvGrad.main_arg1)
      ∧ r.2.mem ((c.tc : Thread Cert.KvGrad.nD Cert.KvGrad.τ).loc Cert.KvGrad.main_arg2) = m ((c.tc : Thread Cert.KvGrad.nD Cert.KvGrad.τ).loc Cert.KvGrad.main_arg2)
      ∧ r.2.mem ((c.tc : Thread Cert.KvGrad.nD Cert.KvGrad.τ).loc Cert.KvGrad.main_arg3) = m ((c.tc : Thread Cert.KvGrad.nD Cert.KvGrad.τ).loc Cert.KvGrad.main_arg3)
      ∧ r.2.mem ((c.tc : Thread Cert.KvGrad.nD Cert.KvGrad.τ).loc Cert.KvGrad.main_arg4) = m ((c.tc : Thread Cert.KvGrad.nD Cert.KvGrad.τ).loc Cert.KvGrad.main_arg4)
      ∧ r.2.mem ((c.tc : Thread Cert.KvGrad.nD Cert.KvGrad.τ).loc Cert.KvGrad.main_arg5) = m ((c.tc : Thread Cert.KvGrad.nD Cert.KvGrad.τ).loc Cert.KvGrad.main_arg5))
      ∧ r.2.sem = fun _ => 0)

def quiescent_KvGradIdeal [hKvGradIdeal : Cert.KvGradIdeal.Facts] : Prop :=
  ∀ (m : (ℓ : Loc Cert.KvGradIdeal.nD Cert.KvGradIdeal.τ Cert.KvGradIdeal.sig) → Buf (Elt Ideal) ℓ) (g : Dev Cert.KvGradIdeal.nD → PrngReg), Pre_KvGradIdeal m →
    θ_run (Cert.KvGradIdeal.defs (F := Ideal)) (onTc (τ := Cert.KvGradIdeal.τ) (Cert.KvGradIdeal.main (F := Ideal))) ⟨m, fun _ => 0, g⟩ (fun r => (∀ c : Dev Cert.KvGradIdeal.nD,
      r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
      ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1)
      ∧ r.2.mem ((c.tc : Thread Cert.KvGradIdeal.nD Cert.KvGradIdeal.τ).loc Cert.KvGradIdeal.main_arg2) = m ((c.tc : Thread Cert.KvGradIdeal.nD Cert.KvGradIdeal.τ).loc Cert.KvGradIdeal.main_arg2)
      ∧ r.2.mem ((c.tc : Thread Cert.KvGradIdeal.nD Cert.KvGradIdeal.τ).loc Cert.KvGradIdeal.main_arg3) = m ((c.tc : Thread Cert.KvGradIdeal.nD Cert.KvGradIdeal.τ).loc Cert.KvGradIdeal.main_arg3)
      ∧ r.2.mem ((c.tc : Thread Cert.KvGradIdeal.nD Cert.KvGradIdeal.τ).loc Cert.KvGradIdeal.main_arg4) = m ((c.tc : Thread Cert.KvGradIdeal.nD Cert.KvGradIdeal.τ).loc Cert.KvGradIdeal.main_arg4)
      ∧ r.2.mem ((c.tc : Thread Cert.KvGradIdeal.nD Cert.KvGradIdeal.τ).loc Cert.KvGradIdeal.main_arg5) = m ((c.tc : Thread Cert.KvGradIdeal.nD Cert.KvGradIdeal.τ).loc Cert.KvGradIdeal.main_arg5))
      ∧ r.2.sem = fun _ => 0)

def quiescent_KvGradReferenceIdeal [hKvGradReferenceIdeal : Cert.KvGradReferenceIdeal.Facts] : Prop :=
  ∀ (m : (ℓ : Loc Cert.KvGradReferenceIdeal.nD Cert.KvGradReferenceIdeal.τ Cert.KvGradReferenceIdeal.sig) → Buf (Elt Ideal) ℓ) (g : Dev Cert.KvGradReferenceIdeal.nD → PrngReg), Pre_KvGradReferenceIdeal m →
    θ_run (Cert.KvGradReferenceIdeal.defs (F := Ideal)) (onTc (τ := Cert.KvGradReferenceIdeal.τ) (Cert.KvGradReferenceIdeal.main (F := Ideal))) ⟨m, fun _ => 0, g⟩ (fun r => (∀ c : Dev Cert.KvGradReferenceIdeal.nD,
      r.2.mem ((c.tc : Thread Cert.KvGradReferenceIdeal.nD Cert.KvGradReferenceIdeal.τ).loc Cert.KvGradReferenceIdeal.main_arg0) = m ((c.tc : Thread Cert.KvGradReferenceIdeal.nD Cert.KvGradReferenceIdeal.τ).loc Cert.KvGradReferenceIdeal.main_arg0)
      ∧ r.2.mem ((c.tc : Thread Cert.KvGradReferenceIdeal.nD Cert.KvGradReferenceIdeal.τ).loc Cert.KvGradReferenceIdeal.main_arg1) = m ((c.tc : Thread Cert.KvGradReferenceIdeal.nD Cert.KvGradReferenceIdeal.τ).loc Cert.KvGradReferenceIdeal.main_arg1)
      ∧ r.2.mem ((c.tc : Thread Cert.KvGradReferenceIdeal.nD Cert.KvGradReferenceIdeal.τ).loc Cert.KvGradReferenceIdeal.main_arg2) = m ((c.tc : Thread Cert.KvGradReferenceIdeal.nD Cert.KvGradReferenceIdeal.τ).loc Cert.KvGradReferenceIdeal.main_arg2)
      ∧ r.2.mem ((c.tc : Thread Cert.KvGradReferenceIdeal.nD Cert.KvGradReferenceIdeal.τ).loc Cert.KvGradReferenceIdeal.main_arg3) = m ((c.tc : Thread Cert.KvGradReferenceIdeal.nD Cert.KvGradReferenceIdeal.τ).loc Cert.KvGradReferenceIdeal.main_arg3)
      ∧ r.2.mem ((c.tc : Thread Cert.KvGradReferenceIdeal.nD Cert.KvGradReferenceIdeal.τ).loc Cert.KvGradReferenceIdeal.main_arg4) = m ((c.tc : Thread Cert.KvGradReferenceIdeal.nD Cert.KvGradReferenceIdeal.τ).loc Cert.KvGradReferenceIdeal.main_arg4)
      ∧ r.2.mem ((c.tc : Thread Cert.KvGradReferenceIdeal.nD Cert.KvGradReferenceIdeal.τ).loc Cert.KvGradReferenceIdeal.main_arg5) = m ((c.tc : Thread Cert.KvGradReferenceIdeal.nD Cert.KvGradReferenceIdeal.τ).loc Cert.KvGradReferenceIdeal.main_arg5))
      ∧ r.2.sem = fun _ => 0)

def quiescent_AdamwIn [hAdamwIn : Cert.AdamwIn.Facts] : Prop :=
  ∀ (m : (ℓ : Loc Cert.AdamwIn.nD Cert.AdamwIn.τ Cert.AdamwIn.sig) → Buf (Elt Bits) ℓ) (g : Dev Cert.AdamwIn.nD → PrngReg), Pre_AdamwIn m →
    θ_run (Cert.AdamwIn.defs (F := Bits)) (onTc (τ := Cert.AdamwIn.τ) (Cert.AdamwIn.main (F := Bits))) ⟨m, fun _ => 0, g⟩ (fun r => (∀ c : Dev Cert.AdamwIn.nD,
      r.2.mem ((c.tc : Thread Cert.AdamwIn.nD Cert.AdamwIn.τ).loc Cert.AdamwIn.main_arg0) = m ((c.tc : Thread Cert.AdamwIn.nD Cert.AdamwIn.τ).loc Cert.AdamwIn.main_arg0)
      ∧ r.2.mem ((c.tc : Thread Cert.AdamwIn.nD Cert.AdamwIn.τ).loc Cert.AdamwIn.main_arg1) = m ((c.tc : Thread Cert.AdamwIn.nD Cert.AdamwIn.τ).loc Cert.AdamwIn.main_arg1)
      ∧ r.2.mem ((c.tc : Thread Cert.AdamwIn.nD Cert.AdamwIn.τ).loc Cert.AdamwIn.main_arg2) = m ((c.tc : Thread Cert.AdamwIn.nD Cert.AdamwIn.τ).loc Cert.AdamwIn.main_arg2)
      ∧ r.2.mem ((c.tc : Thread Cert.AdamwIn.nD Cert.AdamwIn.τ).loc Cert.AdamwIn.main_arg3) = m ((c.tc : Thread Cert.AdamwIn.nD Cert.AdamwIn.τ).loc Cert.AdamwIn.main_arg3))
      ∧ r.2.sem = fun _ => 0)

def quiescent_AdamwInIdeal [hAdamwInIdeal : Cert.AdamwInIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg), Pre_AdamwInIdeal m →
    θ_run (Cert.AdamwInIdeal.defs (F := Ideal)) (onTc (τ := Cert.AdamwInIdeal.τ) (Cert.AdamwInIdeal.main (F := Ideal))) ⟨m, fun _ => 0, g⟩ (fun r => (∀ c : Dev Cert.AdamwInIdeal.nD,
      r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
      ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
      ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
      ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ r.2.sem = fun _ => 0)

def quiescent_AdamwInReferenceIdeal [hAdamwInReferenceIdeal : Cert.AdamwInReferenceIdeal.Facts] : Prop :=
  ∀ (m : (ℓ : Loc Cert.AdamwInReferenceIdeal.nD Cert.AdamwInReferenceIdeal.τ Cert.AdamwInReferenceIdeal.sig) → Buf (Elt Ideal) ℓ) (g : Dev Cert.AdamwInReferenceIdeal.nD → PrngReg), Pre_AdamwInReferenceIdeal m →
    θ_run (Cert.AdamwInReferenceIdeal.defs (F := Ideal)) (onTc (τ := Cert.AdamwInReferenceIdeal.τ) (Cert.AdamwInReferenceIdeal.main (F := Ideal))) ⟨m, fun _ => 0, g⟩ (fun r => (∀ c : Dev Cert.AdamwInReferenceIdeal.nD,
      r.2.mem ((c.tc : Thread Cert.AdamwInReferenceIdeal.nD Cert.AdamwInReferenceIdeal.τ).loc Cert.AdamwInReferenceIdeal.main_arg0) = m ((c.tc : Thread Cert.AdamwInReferenceIdeal.nD Cert.AdamwInReferenceIdeal.τ).loc Cert.AdamwInReferenceIdeal.main_arg0)
      ∧ r.2.mem ((c.tc : Thread Cert.AdamwInReferenceIdeal.nD Cert.AdamwInReferenceIdeal.τ).loc Cert.AdamwInReferenceIdeal.main_arg1) = m ((c.tc : Thread Cert.AdamwInReferenceIdeal.nD Cert.AdamwInReferenceIdeal.τ).loc Cert.AdamwInReferenceIdeal.main_arg1)
      ∧ r.2.mem ((c.tc : Thread Cert.AdamwInReferenceIdeal.nD Cert.AdamwInReferenceIdeal.τ).loc Cert.AdamwInReferenceIdeal.main_arg2) = m ((c.tc : Thread Cert.AdamwInReferenceIdeal.nD Cert.AdamwInReferenceIdeal.τ).loc Cert.AdamwInReferenceIdeal.main_arg2)
      ∧ r.2.mem ((c.tc : Thread Cert.AdamwInReferenceIdeal.nD Cert.AdamwInReferenceIdeal.τ).loc Cert.AdamwInReferenceIdeal.main_arg3) = m ((c.tc : Thread Cert.AdamwInReferenceIdeal.nD Cert.AdamwInReferenceIdeal.τ).loc Cert.AdamwInReferenceIdeal.main_arg3))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdIdeal_pre_finite_bwd [hAttnBwdIdeal : Cert.AttnBwdIdeal.Facts] [hPre_finite_bwd : Cert.Pre_finite_bwd.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal_finite_bwd m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ r.2.sem = fun _ => 0)

def quiescent_AttnBwdReferenceIdeal [hAttnBwdReferenceIdeal : Cert.AttnBwdReferenceIdeal.Facts] : Prop :=
  ∀ (m : (ℓ : Loc Cert.AttnBwdReferenceIdeal.nD Cert.AttnBwdReferenceIdeal.τ Cert.AttnBwdReferenceIdeal.sig) → Buf (Elt Ideal) ℓ) (g : Dev Cert.AttnBwdReferenceIdeal.nD → PrngReg), Pre_AttnBwdReferenceIdeal m →
    θ_run (Cert.AttnBwdReferenceIdeal.defs (F := Ideal)) (onTc (τ := Cert.AttnBwdReferenceIdeal.τ) (Cert.AttnBwdReferenceIdeal.main (F := Ideal))) ⟨m, fun _ => 0, g⟩ (fun r => (∀ c : Dev Cert.AttnBwdReferenceIdeal.nD,
      r.2.mem ((c.tc : Thread Cert.AttnBwdReferenceIdeal.nD Cert.AttnBwdReferenceIdeal.τ).loc Cert.AttnBwdReferenceIdeal.main_arg0) = m ((c.tc : Thread Cert.AttnBwdReferenceIdeal.nD Cert.AttnBwdReferenceIdeal.τ).loc Cert.AttnBwdReferenceIdeal.main_arg0)
      ∧ r.2.mem ((c.tc : Thread Cert.AttnBwdReferenceIdeal.nD Cert.AttnBwdReferenceIdeal.τ).loc Cert.AttnBwdReferenceIdeal.main_arg1) = m ((c.tc : Thread Cert.AttnBwdReferenceIdeal.nD Cert.AttnBwdReferenceIdeal.τ).loc Cert.AttnBwdReferenceIdeal.main_arg1)
      ∧ r.2.mem ((c.tc : Thread Cert.AttnBwdReferenceIdeal.nD Cert.AttnBwdReferenceIdeal.τ).loc Cert.AttnBwdReferenceIdeal.main_arg2) = m ((c.tc : Thread Cert.AttnBwdReferenceIdeal.nD Cert.AttnBwdReferenceIdeal.τ).loc Cert.AttnBwdReferenceIdeal.main_arg2)
      ∧ r.2.mem ((c.tc : Thread Cert.AttnBwdReferenceIdeal.nD Cert.AttnBwdReferenceIdeal.τ).loc Cert.AttnBwdReferenceIdeal.main_arg3) = m ((c.tc : Thread Cert.AttnBwdReferenceIdeal.nD Cert.AttnBwdReferenceIdeal.τ).loc Cert.AttnBwdReferenceIdeal.main_arg3)
      ∧ r.2.mem ((c.tc : Thread Cert.AttnBwdReferenceIdeal.nD Cert.AttnBwdReferenceIdeal.τ).loc Cert.AttnBwdReferenceIdeal.main_arg4) = m ((c.tc : Thread Cert.AttnBwdReferenceIdeal.nD Cert.AttnBwdReferenceIdeal.τ).loc Cert.AttnBwdReferenceIdeal.main_arg4)
      ∧ r.2.mem ((c.tc : Thread Cert.AttnBwdReferenceIdeal.nD Cert.AttnBwdReferenceIdeal.τ).loc Cert.AttnBwdReferenceIdeal.main_arg5) = m ((c.tc : Thread Cert.AttnBwdReferenceIdeal.nD Cert.AttnBwdReferenceIdeal.τ).loc Cert.AttnBwdReferenceIdeal.main_arg5))
      ∧ r.2.sem = fun _ => 0)

def quiescent_AttnBwdReferenceIdeal_pre_finite_bwd [hAttnBwdReferenceIdeal : Cert.AttnBwdReferenceIdeal.Facts] [hPre_finite_bwd : Cert.Pre_finite_bwd.Facts] : Prop :=
  ∀ (m : (ℓ : Loc Cert.AttnBwdReferenceIdeal.nD Cert.AttnBwdReferenceIdeal.τ Cert.AttnBwdReferenceIdeal.sig) → Buf (Elt Ideal) ℓ) (g : Dev Cert.AttnBwdReferenceIdeal.nD → PrngReg), Pre_AttnBwdReferenceIdeal_finite_bwd m →
    θ_run (Cert.AttnBwdReferenceIdeal.defs (F := Ideal)) (onTc (τ := Cert.AttnBwdReferenceIdeal.τ) (Cert.AttnBwdReferenceIdeal.main (F := Ideal))) ⟨m, fun _ => 0, g⟩ (fun r => (∀ c : Dev Cert.AttnBwdReferenceIdeal.nD,
      r.2.mem ((c.tc : Thread Cert.AttnBwdReferenceIdeal.nD Cert.AttnBwdReferenceIdeal.τ).loc Cert.AttnBwdReferenceIdeal.main_arg0) = m ((c.tc : Thread Cert.AttnBwdReferenceIdeal.nD Cert.AttnBwdReferenceIdeal.τ).loc Cert.AttnBwdReferenceIdeal.main_arg0)
      ∧ r.2.mem ((c.tc : Thread Cert.AttnBwdReferenceIdeal.nD Cert.AttnBwdReferenceIdeal.τ).loc Cert.AttnBwdReferenceIdeal.main_arg1) = m ((c.tc : Thread Cert.AttnBwdReferenceIdeal.nD Cert.AttnBwdReferenceIdeal.τ).loc Cert.AttnBwdReferenceIdeal.main_arg1)
      ∧ r.2.mem ((c.tc : Thread Cert.AttnBwdReferenceIdeal.nD Cert.AttnBwdReferenceIdeal.τ).loc Cert.AttnBwdReferenceIdeal.main_arg2) = m ((c.tc : Thread Cert.AttnBwdReferenceIdeal.nD Cert.AttnBwdReferenceIdeal.τ).loc Cert.AttnBwdReferenceIdeal.main_arg2)
      ∧ r.2.mem ((c.tc : Thread Cert.AttnBwdReferenceIdeal.nD Cert.AttnBwdReferenceIdeal.τ).loc Cert.AttnBwdReferenceIdeal.main_arg3) = m ((c.tc : Thread Cert.AttnBwdReferenceIdeal.nD Cert.AttnBwdReferenceIdeal.τ).loc Cert.AttnBwdReferenceIdeal.main_arg3)
      ∧ r.2.mem ((c.tc : Thread Cert.AttnBwdReferenceIdeal.nD Cert.AttnBwdReferenceIdeal.τ).loc Cert.AttnBwdReferenceIdeal.main_arg4) = m ((c.tc : Thread Cert.AttnBwdReferenceIdeal.nD Cert.AttnBwdReferenceIdeal.τ).loc Cert.AttnBwdReferenceIdeal.main_arg4)
      ∧ r.2.mem ((c.tc : Thread Cert.AttnBwdReferenceIdeal.nD Cert.AttnBwdReferenceIdeal.τ).loc Cert.AttnBwdReferenceIdeal.main_arg5) = m ((c.tc : Thread Cert.AttnBwdReferenceIdeal.nD Cert.AttnBwdReferenceIdeal.τ).loc Cert.AttnBwdReferenceIdeal.main_arg5))
      ∧ r.2.sem = fun _ => 0)

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)) (v3 : (c : Dev Cert.MergeIdeal.nD) → Buf (Elt Ideal) ((c.tc : Thread Cert.MergeIdeal.nD Cert.MergeIdeal.τ).loc Cert.MergeIdeal.main_v0_3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_v0_3) = v3 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v33) = v0 c
          ∧ r.2.mem ((c.tc : Thread Cert.MergeReferenceIdeal.nD Cert.MergeReferenceIdeal.τ).loc Cert.MergeReferenceIdeal.main_v34) = v1 c
          ∧ r.2.mem ((c.tc : Thread Cert.MergeReferenceIdeal.nD Cert.MergeReferenceIdeal.τ).loc Cert.MergeReferenceIdeal.main_v35) = v2 c
          ∧ r.2.mem ((c.tc : Thread Cert.MergeReferenceIdeal.nD Cert.MergeReferenceIdeal.τ).loc Cert.MergeReferenceIdeal.main_v36) = v3 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4))

def preserves_Swiglu_SwigluIdeal : Prop :=
  True

def algebraic_SwigluIdeal_SwigluReferenceIdeal [hSwigluIdeal : Cert.SwigluIdeal.Facts] [hSwigluReferenceIdeal : Cert.SwigluReferenceIdeal.Facts] : Prop :=
  ∀ (m : (ℓ : Loc Cert.SwigluIdeal.nD Cert.SwigluIdeal.τ Cert.SwigluIdeal.sig) → Buf (Elt Ideal) ℓ) (g : Dev Cert.SwigluIdeal.nD → PrngReg)
    (m' : (ℓ : Loc Cert.SwigluReferenceIdeal.nD Cert.SwigluReferenceIdeal.τ Cert.SwigluReferenceIdeal.sig) → Buf (Elt Ideal) ℓ) (g' : Dev Cert.SwigluReferenceIdeal.nD → PrngReg), Pre_SwigluIdeal m →
    (∀ c : Dev Cert.SwigluIdeal.nD,
      m' ((c.tc : Thread Cert.SwigluReferenceIdeal.nD Cert.SwigluReferenceIdeal.τ).loc Cert.SwigluReferenceIdeal.main_arg0) = m ((c.tc : Thread Cert.SwigluIdeal.nD Cert.SwigluIdeal.τ).loc Cert.SwigluIdeal.main_arg0)
      ∧ m' ((c.tc : Thread Cert.SwigluReferenceIdeal.nD Cert.SwigluReferenceIdeal.τ).loc Cert.SwigluReferenceIdeal.main_arg1) = m ((c.tc : Thread Cert.SwigluIdeal.nD Cert.SwigluIdeal.τ).loc Cert.SwigluIdeal.main_arg1)
      ∧ m' ((c.tc : Thread Cert.SwigluReferenceIdeal.nD Cert.SwigluReferenceIdeal.τ).loc Cert.SwigluReferenceIdeal.main_arg2) = m ((c.tc : Thread Cert.SwigluIdeal.nD Cert.SwigluIdeal.τ).loc Cert.SwigluIdeal.main_arg2)
      ∧ m' ((c.tc : Thread Cert.SwigluReferenceIdeal.nD Cert.SwigluReferenceIdeal.τ).loc Cert.SwigluReferenceIdeal.main_arg3) = m ((c.tc : Thread Cert.SwigluIdeal.nD Cert.SwigluIdeal.τ).loc Cert.SwigluIdeal.main_arg3)) →
    ∃ (v0 : (c : Dev Cert.SwigluIdeal.nD) → Buf (Elt Ideal) ((c.tc : Thread Cert.SwigluIdeal.nD Cert.SwigluIdeal.τ).loc Cert.SwigluIdeal.main_v0_0)) (v1 : (c : Dev Cert.SwigluIdeal.nD) → Buf (Elt Ideal) ((c.tc : Thread Cert.SwigluIdeal.nD Cert.SwigluIdeal.τ).loc Cert.SwigluIdeal.main_v0_1)),
      θ_run (Cert.SwigluIdeal.defs (F := Ideal)) (onTc (τ := Cert.SwigluIdeal.τ) (Cert.SwigluIdeal.main (F := Ideal))) ⟨m, fun _ => 0, g⟩ (fun r => ∀ c : Dev Cert.SwigluIdeal.nD,
          r.2.mem ((c.tc : Thread Cert.SwigluIdeal.nD Cert.SwigluIdeal.τ).loc Cert.SwigluIdeal.main_v0_0) = v0 c
          ∧ r.2.mem ((c.tc : Thread Cert.SwigluIdeal.nD Cert.SwigluIdeal.τ).loc Cert.SwigluIdeal.main_v0_1) = v1 c
          ∧ r.2.mem ((c.tc : Thread Cert.SwigluIdeal.nD Cert.SwigluIdeal.τ).loc Cert.SwigluIdeal.main_arg0) = m ((c.tc : Thread Cert.SwigluIdeal.nD Cert.SwigluIdeal.τ).loc Cert.SwigluIdeal.main_arg0)
          ∧ r.2.mem ((c.tc : Thread Cert.SwigluIdeal.nD Cert.SwigluIdeal.τ).loc Cert.SwigluIdeal.main_arg1) = m ((c.tc : Thread Cert.SwigluIdeal.nD Cert.SwigluIdeal.τ).loc Cert.SwigluIdeal.main_arg1)
          ∧ r.2.mem ((c.tc : Thread Cert.SwigluIdeal.nD Cert.SwigluIdeal.τ).loc Cert.SwigluIdeal.main_arg2) = m ((c.tc : Thread Cert.SwigluIdeal.nD Cert.SwigluIdeal.τ).loc Cert.SwigluIdeal.main_arg2)
          ∧ r.2.mem ((c.tc : Thread Cert.SwigluIdeal.nD Cert.SwigluIdeal.τ).loc Cert.SwigluIdeal.main_arg3) = m ((c.tc : Thread Cert.SwigluIdeal.nD Cert.SwigluIdeal.τ).loc Cert.SwigluIdeal.main_arg3))
      ∧ θ_run (Cert.SwigluReferenceIdeal.defs (F := Ideal)) (onTc (τ := Cert.SwigluReferenceIdeal.τ) (Cert.SwigluReferenceIdeal.main (F := Ideal))) ⟨m', fun _ => 0, g'⟩ (fun r => ∀ c : Dev Cert.SwigluReferenceIdeal.nD,
          r.2.mem ((c.tc : Thread Cert.SwigluReferenceIdeal.nD Cert.SwigluReferenceIdeal.τ).loc Cert.SwigluReferenceIdeal.main_v9) = v0 c
          ∧ r.2.mem ((c.tc : Thread Cert.SwigluReferenceIdeal.nD Cert.SwigluReferenceIdeal.τ).loc Cert.SwigluReferenceIdeal.main_v11) = v1 c
          ∧ r.2.mem ((c.tc : Thread Cert.SwigluReferenceIdeal.nD Cert.SwigluReferenceIdeal.τ).loc Cert.SwigluReferenceIdeal.main_arg0) = m' ((c.tc : Thread Cert.SwigluReferenceIdeal.nD Cert.SwigluReferenceIdeal.τ).loc Cert.SwigluReferenceIdeal.main_arg0)
          ∧ r.2.mem ((c.tc : Thread Cert.SwigluReferenceIdeal.nD Cert.SwigluReferenceIdeal.τ).loc Cert.SwigluReferenceIdeal.main_arg1) = m' ((c.tc : Thread Cert.SwigluReferenceIdeal.nD Cert.SwigluReferenceIdeal.τ).loc Cert.SwigluReferenceIdeal.main_arg1)
          ∧ r.2.mem ((c.tc : Thread Cert.SwigluReferenceIdeal.nD Cert.SwigluReferenceIdeal.τ).loc Cert.SwigluReferenceIdeal.main_arg2) = m' ((c.tc : Thread Cert.SwigluReferenceIdeal.nD Cert.SwigluReferenceIdeal.τ).loc Cert.SwigluReferenceIdeal.main_arg2)
          ∧ r.2.mem ((c.tc : Thread Cert.SwigluReferenceIdeal.nD Cert.SwigluReferenceIdeal.τ).loc Cert.SwigluReferenceIdeal.main_arg3) = m' ((c.tc : Thread Cert.SwigluReferenceIdeal.nD Cert.SwigluReferenceIdeal.τ).loc Cert.SwigluReferenceIdeal.main_arg3))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)) →
    ∃ (v0 : (c : Dev Cert.DwDownIdeal.nD) → Buf (Elt Ideal) ((c.tc : Thread Cert.DwDownIdeal.nD Cert.DwDownIdeal.τ).loc Cert.DwDownIdeal.main_v0)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v0) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v6) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1))

def preserves_DwSquare_DwSquareIdeal : Prop :=
  True

def algebraic_DwSquareIdeal_DwSquareReferenceIdeal [hDwSquareIdeal : Cert.DwSquareIdeal.Facts] [hDwSquareReferenceIdeal : Cert.DwSquareReferenceIdeal.Facts] : Prop :=
  ∀ (m : (ℓ : Loc Cert.DwSquareIdeal.nD Cert.DwSquareIdeal.τ Cert.DwSquareIdeal.sig) → Buf (Elt Ideal) ℓ) (g : Dev Cert.DwSquareIdeal.nD → PrngReg)
    (m' : (ℓ : Loc Cert.DwSquareReferenceIdeal.nD Cert.DwSquareReferenceIdeal.τ Cert.DwSquareReferenceIdeal.sig) → Buf (Elt Ideal) ℓ) (g' : Dev Cert.DwSquareReferenceIdeal.nD → PrngReg), Pre_DwSquareIdeal m →
    (∀ c : Dev Cert.DwSquareIdeal.nD,
      m' ((c.tc : Thread Cert.DwSquareReferenceIdeal.nD Cert.DwSquareReferenceIdeal.τ).loc Cert.DwSquareReferenceIdeal.main_arg0) = m ((c.tc : Thread Cert.DwSquareIdeal.nD Cert.DwSquareIdeal.τ).loc Cert.DwSquareIdeal.main_arg0)
      ∧ m' ((c.tc : Thread Cert.DwSquareReferenceIdeal.nD Cert.DwSquareReferenceIdeal.τ).loc Cert.DwSquareReferenceIdeal.main_arg1) = m ((c.tc : Thread Cert.DwSquareIdeal.nD Cert.DwSquareIdeal.τ).loc Cert.DwSquareIdeal.main_arg1)) →
    ∃ (v0 : (c : Dev Cert.DwSquareIdeal.nD) → Buf (Elt Ideal) ((c.tc : Thread Cert.DwSquareIdeal.nD Cert.DwSquareIdeal.τ).loc Cert.DwSquareIdeal.main_v0)),
      θ_run (Cert.DwSquareIdeal.defs (F := Ideal)) (onTc (τ := Cert.DwSquareIdeal.τ) (Cert.DwSquareIdeal.main (F := Ideal))) ⟨m, fun _ => 0, g⟩ (fun r => ∀ c : Dev Cert.DwSquareIdeal.nD,
          r.2.mem ((c.tc : Thread Cert.DwSquareIdeal.nD Cert.DwSquareIdeal.τ).loc Cert.DwSquareIdeal.main_v0) = v0 c
          ∧ r.2.mem ((c.tc : Thread Cert.DwSquareIdeal.nD Cert.DwSquareIdeal.τ).loc Cert.DwSquareIdeal.main_arg0) = m ((c.tc : Thread Cert.DwSquareIdeal.nD Cert.DwSquareIdeal.τ).loc Cert.DwSquareIdeal.main_arg0)
          ∧ r.2.mem ((c.tc : Thread Cert.DwSquareIdeal.nD Cert.DwSquareIdeal.τ).loc Cert.DwSquareIdeal.main_arg1) = m ((c.tc : Thread Cert.DwSquareIdeal.nD Cert.DwSquareIdeal.τ).loc Cert.DwSquareIdeal.main_arg1))
      ∧ θ_run (Cert.DwSquareReferenceIdeal.defs (F := Ideal)) (onTc (τ := Cert.DwSquareReferenceIdeal.τ) (Cert.DwSquareReferenceIdeal.main (F := Ideal))) ⟨m', fun _ => 0, g'⟩ (fun r => ∀ c : Dev Cert.DwSquareReferenceIdeal.nD,
          r.2.mem ((c.tc : Thread Cert.DwSquareReferenceIdeal.nD Cert.DwSquareReferenceIdeal.τ).loc Cert.DwSquareReferenceIdeal.main_v6) = v0 c
          ∧ r.2.mem ((c.tc : Thread Cert.DwSquareReferenceIdeal.nD Cert.DwSquareReferenceIdeal.τ).loc Cert.DwSquareReferenceIdeal.main_arg0) = m' ((c.tc : Thread Cert.DwSquareReferenceIdeal.nD Cert.DwSquareReferenceIdeal.τ).loc Cert.DwSquareReferenceIdeal.main_arg0)
          ∧ r.2.mem ((c.tc : Thread Cert.DwSquareReferenceIdeal.nD Cert.DwSquareReferenceIdeal.τ).loc Cert.DwSquareReferenceIdeal.main_arg1) = m' ((c.tc : Thread Cert.DwSquareReferenceIdeal.nD Cert.DwSquareReferenceIdeal.τ).loc Cert.DwSquareReferenceIdeal.main_arg1))

def preserves_ConvBwd_ConvBwdIdeal : Prop :=
  True

def algebraic_ConvBwdIdeal_ConvBwdReferenceIdeal [hConvBwdIdeal : Cert.ConvBwdIdeal.Facts] [hConvBwdReferenceIdeal : Cert.ConvBwdReferenceIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvBwdReferenceIdeal.nD Cert.ConvBwdReferenceIdeal.τ Cert.ConvBwdReferenceIdeal.sig) → Buf (Elt Ideal) ℓ) (g' : Dev Cert.ConvBwdReferenceIdeal.nD → PrngReg), Pre_ConvBwdIdeal m →
    (∀ c : Dev Cert.ConvBwdIdeal.nD,
      m' ((c.tc : Thread Cert.ConvBwdReferenceIdeal.nD Cert.ConvBwdReferenceIdeal.τ).loc Cert.ConvBwdReferenceIdeal.main_arg0) = m ((c.tc : Thread Cert.ConvBwdIdeal.nD Cert.ConvBwdIdeal.τ).loc Cert.ConvBwdIdeal.main_arg0)
      ∧ m' ((c.tc : Thread Cert.ConvBwdReferenceIdeal.nD Cert.ConvBwdReferenceIdeal.τ).loc Cert.ConvBwdReferenceIdeal.main_arg1) = m ((c.tc : Thread Cert.ConvBwdIdeal.nD Cert.ConvBwdIdeal.τ).loc Cert.ConvBwdIdeal.main_arg1)
      ∧ m' ((c.tc : Thread Cert.ConvBwdReferenceIdeal.nD Cert.ConvBwdReferenceIdeal.τ).loc Cert.ConvBwdReferenceIdeal.main_arg2) = m ((c.tc : Thread Cert.ConvBwdIdeal.nD Cert.ConvBwdIdeal.τ).loc Cert.ConvBwdIdeal.main_arg2)
      ∧ m' ((c.tc : Thread Cert.ConvBwdReferenceIdeal.nD Cert.ConvBwdReferenceIdeal.τ).loc Cert.ConvBwdReferenceIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)) (v3 : (c : Dev Cert.ConvBwdIdeal.nD) → Buf (Elt Ideal) ((c.tc : Thread Cert.ConvBwdIdeal.nD Cert.ConvBwdIdeal.τ).loc Cert.ConvBwdIdeal.main_v0_3)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_v0_3) = v3 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvBwdReferenceIdeal.defs (F := Ideal)) (onTc (τ := Cert.ConvBwdReferenceIdeal.τ) (Cert.ConvBwdReferenceIdeal.main (F := Ideal))) ⟨m', fun _ => 0, g'⟩ (fun r => ∀ c : Dev Cert.ConvBwdReferenceIdeal.nD,
          r.2.mem ((c.tc : Thread Cert.ConvBwdReferenceIdeal.nD Cert.ConvBwdReferenceIdeal.τ).loc Cert.ConvBwdReferenceIdeal.main_v72) = v0 c
          ∧ r.2.mem ((c.tc : Thread Cert.ConvBwdReferenceIdeal.nD Cert.ConvBwdReferenceIdeal.τ).loc Cert.ConvBwdReferenceIdeal.main_v73) = v1 c
          ∧ r.2.mem ((c.tc : Thread Cert.ConvBwdReferenceIdeal.nD Cert.ConvBwdReferenceIdeal.τ).loc Cert.ConvBwdReferenceIdeal.main_v74) = v2 c
          ∧ r.2.mem ((c.tc : Thread Cert.ConvBwdReferenceIdeal.nD Cert.ConvBwdReferenceIdeal.τ).loc Cert.ConvBwdReferenceIdeal.main_v61) = v3 c
          ∧ r.2.mem ((c.tc : Thread Cert.ConvBwdReferenceIdeal.nD Cert.ConvBwdReferenceIdeal.τ).loc Cert.ConvBwdReferenceIdeal.main_arg0) = m' ((c.tc : Thread Cert.ConvBwdReferenceIdeal.nD Cert.ConvBwdReferenceIdeal.τ).loc Cert.ConvBwdReferenceIdeal.main_arg0)
          ∧ r.2.mem ((c.tc : Thread Cert.ConvBwdReferenceIdeal.nD Cert.ConvBwdReferenceIdeal.τ).loc Cert.ConvBwdReferenceIdeal.main_arg1) = m' ((c.tc : Thread Cert.ConvBwdReferenceIdeal.nD Cert.ConvBwdReferenceIdeal.τ).loc Cert.ConvBwdReferenceIdeal.main_arg1)
          ∧ r.2.mem ((c.tc : Thread Cert.ConvBwdReferenceIdeal.nD Cert.ConvBwdReferenceIdeal.τ).loc Cert.ConvBwdReferenceIdeal.main_arg2) = m' ((c.tc : Thread Cert.ConvBwdReferenceIdeal.nD Cert.ConvBwdReferenceIdeal.τ).loc Cert.ConvBwdReferenceIdeal.main_arg2)
          ∧ r.2.mem ((c.tc : Thread Cert.ConvBwdReferenceIdeal.nD Cert.ConvBwdReferenceIdeal.τ).loc Cert.ConvBwdReferenceIdeal.main_arg3) = m' ((c.tc : Thread Cert.ConvBwdReferenceIdeal.nD Cert.ConvBwdReferenceIdeal.τ).loc Cert.ConvBwdReferenceIdeal.main_arg3))

def preserves_DwGateUp_DwGateUpIdeal : Prop :=
  True

def algebraic_DwGateUpIdeal_DwGateUpReferenceIdeal [hDwGateUpIdeal : Cert.DwGateUpIdeal.Facts] [hDwGateUpReferenceIdeal : Cert.DwGateUpReferenceIdeal.Facts] : Prop :=
  ∀ (m : (ℓ : Loc Cert.DwGateUpIdeal.nD Cert.DwGateUpIdeal.τ Cert.DwGateUpIdeal.sig) → Buf (Elt Ideal) ℓ) (g : Dev Cert.DwGateUpIdeal.nD → PrngReg)
    (m' : (ℓ : Loc Cert.DwGateUpReferenceIdeal.nD Cert.DwGateUpReferenceIdeal.τ Cert.DwGateUpReferenceIdeal.sig) → Buf (Elt Ideal) ℓ) (g' : Dev Cert.DwGateUpReferenceIdeal.nD → PrngReg), Pre_DwGateUpIdeal m →
    (∀ c : Dev Cert.DwGateUpIdeal.nD,
      m' ((c.tc : Thread Cert.DwGateUpReferenceIdeal.nD Cert.DwGateUpReferenceIdeal.τ).loc Cert.DwGateUpReferenceIdeal.main_arg0) = m ((c.tc : Thread Cert.DwGateUpIdeal.nD Cert.DwGateUpIdeal.τ).loc Cert.DwGateUpIdeal.main_arg0)
      ∧ m' ((c.tc : Thread Cert.DwGateUpReferenceIdeal.nD Cert.DwGateUpReferenceIdeal.τ).loc Cert.DwGateUpReferenceIdeal.main_arg1) = m ((c.tc : Thread Cert.DwGateUpIdeal.nD Cert.DwGateUpIdeal.τ).loc Cert.DwGateUpIdeal.main_arg1)
      ∧ m' ((c.tc : Thread Cert.DwGateUpReferenceIdeal.nD Cert.DwGateUpReferenceIdeal.τ).loc Cert.DwGateUpReferenceIdeal.main_arg2) = m ((c.tc : Thread Cert.DwGateUpIdeal.nD Cert.DwGateUpIdeal.τ).loc Cert.DwGateUpIdeal.main_arg2)) →
    ∃ (v0 : (c : Dev Cert.DwGateUpIdeal.nD) → Buf (Elt Ideal) ((c.tc : Thread Cert.DwGateUpIdeal.nD Cert.DwGateUpIdeal.τ).loc Cert.DwGateUpIdeal.main_v0)),
      θ_run (Cert.DwGateUpIdeal.defs (F := Ideal)) (onTc (τ := Cert.DwGateUpIdeal.τ) (Cert.DwGateUpIdeal.main (F := Ideal))) ⟨m, fun _ => 0, g⟩ (fun r => ∀ c : Dev Cert.DwGateUpIdeal.nD,
          r.2.mem ((c.tc : Thread Cert.DwGateUpIdeal.nD Cert.DwGateUpIdeal.τ).loc Cert.DwGateUpIdeal.main_v0) = v0 c
          ∧ r.2.mem ((c.tc : Thread Cert.DwGateUpIdeal.nD Cert.DwGateUpIdeal.τ).loc Cert.DwGateUpIdeal.main_arg0) = m ((c.tc : Thread Cert.DwGateUpIdeal.nD Cert.DwGateUpIdeal.τ).loc Cert.DwGateUpIdeal.main_arg0)
          ∧ r.2.mem ((c.tc : Thread Cert.DwGateUpIdeal.nD Cert.DwGateUpIdeal.τ).loc Cert.DwGateUpIdeal.main_arg1) = m ((c.tc : Thread Cert.DwGateUpIdeal.nD Cert.DwGateUpIdeal.τ).loc Cert.DwGateUpIdeal.main_arg1)
          ∧ r.2.mem ((c.tc : Thread Cert.DwGateUpIdeal.nD Cert.DwGateUpIdeal.τ).loc Cert.DwGateUpIdeal.main_arg2) = m ((c.tc : Thread Cert.DwGateUpIdeal.nD Cert.DwGateUpIdeal.τ).loc Cert.DwGateUpIdeal.main_arg2))
      ∧ θ_run (Cert.DwGateUpReferenceIdeal.defs (F := Ideal)) (onTc (τ := Cert.DwGateUpReferenceIdeal.τ) (Cert.DwGateUpReferenceIdeal.main (F := Ideal))) ⟨m', fun _ => 0, g'⟩ (fun r => ∀ c : Dev Cert.DwGateUpReferenceIdeal.nD,
          r.2.mem ((c.tc : Thread Cert.DwGateUpReferenceIdeal.nD Cert.DwGateUpReferenceIdeal.τ).loc Cert.DwGateUpReferenceIdeal.main_v7) = v0 c
          ∧ r.2.mem ((c.tc : Thread Cert.DwGateUpReferenceIdeal.nD Cert.DwGateUpReferenceIdeal.τ).loc Cert.DwGateUpReferenceIdeal.main_arg0) = m' ((c.tc : Thread Cert.DwGateUpReferenceIdeal.nD Cert.DwGateUpReferenceIdeal.τ).loc Cert.DwGateUpReferenceIdeal.main_arg0)
          ∧ r.2.mem ((c.tc : Thread Cert.DwGateUpReferenceIdeal.nD Cert.DwGateUpReferenceIdeal.τ).loc Cert.DwGateUpReferenceIdeal.main_arg1) = m' ((c.tc : Thread Cert.DwGateUpReferenceIdeal.nD Cert.DwGateUpReferenceIdeal.τ).loc Cert.DwGateUpReferenceIdeal.main_arg1)
          ∧ r.2.mem ((c.tc : Thread Cert.DwGateUpReferenceIdeal.nD Cert.DwGateUpReferenceIdeal.τ).loc Cert.DwGateUpReferenceIdeal.main_arg2) = m' ((c.tc : Thread Cert.DwGateUpReferenceIdeal.nD Cert.DwGateUpReferenceIdeal.τ).loc Cert.DwGateUpReferenceIdeal.main_arg2))

def preserves_Dh2_Dh2Ideal : Prop :=
  True

def algebraic_Dh2Ideal_Dh2ReferenceIdeal [hDh2Ideal : Cert.Dh2Ideal.Facts] [hDh2ReferenceIdeal : Cert.Dh2ReferenceIdeal.Facts] : Prop :=
  ∀ (m : (ℓ : Loc Cert.Dh2Ideal.nD Cert.Dh2Ideal.τ Cert.Dh2Ideal.sig) → Buf (Elt Ideal) ℓ) (g : Dev Cert.Dh2Ideal.nD → PrngReg)
    (m' : (ℓ : Loc Cert.Dh2ReferenceIdeal.nD Cert.Dh2ReferenceIdeal.τ Cert.Dh2ReferenceIdeal.sig) → Buf (Elt Ideal) ℓ) (g' : Dev Cert.Dh2ReferenceIdeal.nD → PrngReg), Pre_Dh2Ideal m →
    (∀ c : Dev Cert.Dh2Ideal.nD,
      m' ((c.tc : Thread Cert.Dh2ReferenceIdeal.nD Cert.Dh2ReferenceIdeal.τ).loc Cert.Dh2ReferenceIdeal.main_arg0) = m ((c.tc : Thread Cert.Dh2Ideal.nD Cert.Dh2Ideal.τ).loc Cert.Dh2Ideal.main_arg0)
      ∧ m' ((c.tc : Thread Cert.Dh2ReferenceIdeal.nD Cert.Dh2ReferenceIdeal.τ).loc Cert.Dh2ReferenceIdeal.main_arg1) = m ((c.tc : Thread Cert.Dh2Ideal.nD Cert.Dh2Ideal.τ).loc Cert.Dh2Ideal.main_arg1)
      ∧ m' ((c.tc : Thread Cert.Dh2ReferenceIdeal.nD Cert.Dh2ReferenceIdeal.τ).loc Cert.Dh2ReferenceIdeal.main_arg2) = m ((c.tc : Thread Cert.Dh2Ideal.nD Cert.Dh2Ideal.τ).loc Cert.Dh2Ideal.main_arg2)) →
    ∃ (v0 : (c : Dev Cert.Dh2Ideal.nD) → Buf (Elt Ideal) ((c.tc : Thread Cert.Dh2Ideal.nD Cert.Dh2Ideal.τ).loc Cert.Dh2Ideal.main_v0)),
      θ_run (Cert.Dh2Ideal.defs (F := Ideal)) (onTc (τ := Cert.Dh2Ideal.τ) (Cert.Dh2Ideal.main (F := Ideal))) ⟨m, fun _ => 0, g⟩ (fun r => ∀ c : Dev Cert.Dh2Ideal.nD,
          r.2.mem ((c.tc : Thread Cert.Dh2Ideal.nD Cert.Dh2Ideal.τ).loc Cert.Dh2Ideal.main_v0) = v0 c
          ∧ r.2.mem ((c.tc : Thread Cert.Dh2Ideal.nD Cert.Dh2Ideal.τ).loc Cert.Dh2Ideal.main_arg0) = m ((c.tc : Thread Cert.Dh2Ideal.nD Cert.Dh2Ideal.τ).loc Cert.Dh2Ideal.main_arg0)
          ∧ r.2.mem ((c.tc : Thread Cert.Dh2Ideal.nD Cert.Dh2Ideal.τ).loc Cert.Dh2Ideal.main_arg1) = m ((c.tc : Thread Cert.Dh2Ideal.nD Cert.Dh2Ideal.τ).loc Cert.Dh2Ideal.main_arg1)
          ∧ r.2.mem ((c.tc : Thread Cert.Dh2Ideal.nD Cert.Dh2Ideal.τ).loc Cert.Dh2Ideal.main_arg2) = m ((c.tc : Thread Cert.Dh2Ideal.nD Cert.Dh2Ideal.τ).loc Cert.Dh2Ideal.main_arg2))
      ∧ θ_run (Cert.Dh2ReferenceIdeal.defs (F := Ideal)) (onTc (τ := Cert.Dh2ReferenceIdeal.τ) (Cert.Dh2ReferenceIdeal.main (F := Ideal))) ⟨m', fun _ => 0, g'⟩ (fun r => ∀ c : Dev Cert.Dh2ReferenceIdeal.nD,
          r.2.mem ((c.tc : Thread Cert.Dh2ReferenceIdeal.nD Cert.Dh2ReferenceIdeal.τ).loc Cert.Dh2ReferenceIdeal.main_v5) = v0 c
          ∧ r.2.mem ((c.tc : Thread Cert.Dh2ReferenceIdeal.nD Cert.Dh2ReferenceIdeal.τ).loc Cert.Dh2ReferenceIdeal.main_arg0) = m' ((c.tc : Thread Cert.Dh2ReferenceIdeal.nD Cert.Dh2ReferenceIdeal.τ).loc Cert.Dh2ReferenceIdeal.main_arg0)
          ∧ r.2.mem ((c.tc : Thread Cert.Dh2ReferenceIdeal.nD Cert.Dh2ReferenceIdeal.τ).loc Cert.Dh2ReferenceIdeal.main_arg1) = m' ((c.tc : Thread Cert.Dh2ReferenceIdeal.nD Cert.Dh2ReferenceIdeal.τ).loc Cert.Dh2ReferenceIdeal.main_arg1)
          ∧ r.2.mem ((c.tc : Thread Cert.Dh2ReferenceIdeal.nD Cert.Dh2ReferenceIdeal.τ).loc Cert.Dh2ReferenceIdeal.main_arg2) = m' ((c.tc : Thread Cert.Dh2ReferenceIdeal.nD Cert.Dh2ReferenceIdeal.τ).loc Cert.Dh2ReferenceIdeal.main_arg2))

def preserves_Dh1_Dh1Ideal : Prop :=
  True

def algebraic_Dh1Ideal_Dh1ReferenceIdeal [hDh1Ideal : Cert.Dh1Ideal.Facts] [hDh1ReferenceIdeal : Cert.Dh1ReferenceIdeal.Facts] : Prop :=
  ∀ (m : (ℓ : Loc Cert.Dh1Ideal.nD Cert.Dh1Ideal.τ Cert.Dh1Ideal.sig) → Buf (Elt Ideal) ℓ) (g : Dev Cert.Dh1Ideal.nD → PrngReg)
    (m' : (ℓ : Loc Cert.Dh1ReferenceIdeal.nD Cert.Dh1ReferenceIdeal.τ Cert.Dh1ReferenceIdeal.sig) → Buf (Elt Ideal) ℓ) (g' : Dev Cert.Dh1ReferenceIdeal.nD → PrngReg), Pre_Dh1Ideal m →
    (∀ c : Dev Cert.Dh1Ideal.nD,
      m' ((c.tc : Thread Cert.Dh1ReferenceIdeal.nD Cert.Dh1ReferenceIdeal.τ).loc Cert.Dh1ReferenceIdeal.main_arg0) = m ((c.tc : Thread Cert.Dh1Ideal.nD Cert.Dh1Ideal.τ).loc Cert.Dh1Ideal.main_arg0)
      ∧ m' ((c.tc : Thread Cert.Dh1ReferenceIdeal.nD Cert.Dh1ReferenceIdeal.τ).loc Cert.Dh1ReferenceIdeal.main_arg1) = m ((c.tc : Thread Cert.Dh1Ideal.nD Cert.Dh1Ideal.τ).loc Cert.Dh1Ideal.main_arg1)) →
    ∃ (v0 : (c : Dev Cert.Dh1Ideal.nD) → Buf (Elt Ideal) ((c.tc : Thread Cert.Dh1Ideal.nD Cert.Dh1Ideal.τ).loc Cert.Dh1Ideal.main_v0)),
      θ_run (Cert.Dh1Ideal.defs (F := Ideal)) (onTc (τ := Cert.Dh1Ideal.τ) (Cert.Dh1Ideal.main (F := Ideal))) ⟨m, fun _ => 0, g⟩ (fun r => ∀ c : Dev Cert.Dh1Ideal.nD,
          r.2.mem ((c.tc : Thread Cert.Dh1Ideal.nD Cert.Dh1Ideal.τ).loc Cert.Dh1Ideal.main_v0) = v0 c
          ∧ r.2.mem ((c.tc : Thread Cert.Dh1Ideal.nD Cert.Dh1Ideal.τ).loc Cert.Dh1Ideal.main_arg0) = m ((c.tc : Thread Cert.Dh1Ideal.nD Cert.Dh1Ideal.τ).loc Cert.Dh1Ideal.main_arg0)
          ∧ r.2.mem ((c.tc : Thread Cert.Dh1Ideal.nD Cert.Dh1Ideal.τ).loc Cert.Dh1Ideal.main_arg1) = m ((c.tc : Thread Cert.Dh1Ideal.nD Cert.Dh1Ideal.τ).loc Cert.Dh1Ideal.main_arg1))
      ∧ θ_run (Cert.Dh1ReferenceIdeal.defs (F := Ideal)) (onTc (τ := Cert.Dh1ReferenceIdeal.τ) (Cert.Dh1ReferenceIdeal.main (F := Ideal))) ⟨m', fun _ => 0, g'⟩ (fun r => ∀ c : Dev Cert.Dh1ReferenceIdeal.nD,
          r.2.mem ((c.tc : Thread Cert.Dh1ReferenceIdeal.nD Cert.Dh1ReferenceIdeal.τ).loc Cert.Dh1ReferenceIdeal.main_v4) = v0 c
          ∧ r.2.mem ((c.tc : Thread Cert.Dh1ReferenceIdeal.nD Cert.Dh1ReferenceIdeal.τ).loc Cert.Dh1ReferenceIdeal.main_arg0) = m' ((c.tc : Thread Cert.Dh1ReferenceIdeal.nD Cert.Dh1ReferenceIdeal.τ).loc Cert.Dh1ReferenceIdeal.main_arg0)
          ∧ r.2.mem ((c.tc : Thread Cert.Dh1ReferenceIdeal.nD Cert.Dh1ReferenceIdeal.τ).loc Cert.Dh1ReferenceIdeal.main_arg1) = m' ((c.tc : Thread Cert.Dh1ReferenceIdeal.nD Cert.Dh1ReferenceIdeal.τ).loc Cert.Dh1ReferenceIdeal.main_arg1))

def preserves_NormFfnBwd_NormFfnBwdIdeal : Prop :=
  True

def algebraic_NormFfnBwdIdeal_NormFfnBwdReferenceIdeal [hNormFfnBwdIdeal : Cert.NormFfnBwdIdeal.Facts] [hNormFfnBwdReferenceIdeal : Cert.NormFfnBwdReferenceIdeal.Facts] : Prop :=
  ∀ (m : (ℓ : Loc Cert.NormFfnBwdIdeal.nD Cert.NormFfnBwdIdeal.τ Cert.NormFfnBwdIdeal.sig) → Buf (Elt Ideal) ℓ) (g : Dev Cert.NormFfnBwdIdeal.nD → PrngReg)
    (m' : (ℓ : Loc Cert.NormFfnBwdReferenceIdeal.nD Cert.NormFfnBwdReferenceIdeal.τ Cert.NormFfnBwdReferenceIdeal.sig) → Buf (Elt Ideal) ℓ) (g' : Dev Cert.NormFfnBwdReferenceIdeal.nD → PrngReg), Pre_NormFfnBwdIdeal m →
    (∀ c : Dev Cert.NormFfnBwdIdeal.nD,
      m' ((c.tc : Thread Cert.NormFfnBwdReferenceIdeal.nD Cert.NormFfnBwdReferenceIdeal.τ).loc Cert.NormFfnBwdReferenceIdeal.main_arg0) = m ((c.tc : Thread Cert.NormFfnBwdIdeal.nD Cert.NormFfnBwdIdeal.τ).loc Cert.NormFfnBwdIdeal.main_arg0)
      ∧ m' ((c.tc : Thread Cert.NormFfnBwdReferenceIdeal.nD Cert.NormFfnBwdReferenceIdeal.τ).loc Cert.NormFfnBwdReferenceIdeal.main_arg1) = m ((c.tc : Thread Cert.NormFfnBwdIdeal.nD Cert.NormFfnBwdIdeal.τ).loc Cert.NormFfnBwdIdeal.main_arg1)
      ∧ m' ((c.tc : Thread Cert.NormFfnBwdReferenceIdeal.nD Cert.NormFfnBwdReferenceIdeal.τ).loc Cert.NormFfnBwdReferenceIdeal.main_arg2) = m ((c.tc : Thread Cert.NormFfnBwdIdeal.nD Cert.NormFfnBwdIdeal.τ).loc Cert.NormFfnBwdIdeal.main_arg2)
      ∧ m' ((c.tc : Thread Cert.NormFfnBwdReferenceIdeal.nD Cert.NormFfnBwdReferenceIdeal.τ).loc Cert.NormFfnBwdReferenceIdeal.main_arg3) = m ((c.tc : Thread Cert.NormFfnBwdIdeal.nD Cert.NormFfnBwdIdeal.τ).loc Cert.NormFfnBwdIdeal.main_arg3)) →
    ∃ (v0 : (c : Dev Cert.NormFfnBwdIdeal.nD) → Buf (Elt Ideal) ((c.tc : Thread Cert.NormFfnBwdIdeal.nD Cert.NormFfnBwdIdeal.τ).loc Cert.NormFfnBwdIdeal.main_v0_0)) (v1 : (c : Dev Cert.NormFfnBwdIdeal.nD) → Buf (Elt Ideal) ((c.tc : Thread Cert.NormFfnBwdIdeal.nD Cert.NormFfnBwdIdeal.τ).loc Cert.NormFfnBwdIdeal.main_v0_1)) (v2 : (c : Dev Cert.NormFfnBwdIdeal.nD) → Buf (Elt Ideal) ((c.tc : Thread Cert.NormFfnBwdIdeal.nD Cert.NormFfnBwdIdeal.τ).loc Cert.NormFfnBwdIdeal.main_v0_2)),
      θ_run (Cert.NormFfnBwdIdeal.defs (F := Ideal)) (onTc (τ := Cert.NormFfnBwdIdeal.τ) (Cert.NormFfnBwdIdeal.main (F := Ideal))) ⟨m, fun _ => 0, g⟩ (fun r => ∀ c : Dev Cert.NormFfnBwdIdeal.nD,
          r.2.mem ((c.tc : Thread Cert.NormFfnBwdIdeal.nD Cert.NormFfnBwdIdeal.τ).loc Cert.NormFfnBwdIdeal.main_v0_0) = v0 c
          ∧ r.2.mem ((c.tc : Thread Cert.NormFfnBwdIdeal.nD Cert.NormFfnBwdIdeal.τ).loc Cert.NormFfnBwdIdeal.main_v0_1) = v1 c
          ∧ r.2.mem ((c.tc : Thread Cert.NormFfnBwdIdeal.nD Cert.NormFfnBwdIdeal.τ).loc Cert.NormFfnBwdIdeal.main_v0_2) = v2 c
          ∧ r.2.mem ((c.tc : Thread Cert.NormFfnBwdIdeal.nD Cert.NormFfnBwdIdeal.τ).loc Cert.NormFfnBwdIdeal.main_arg0) = m ((c.tc : Thread Cert.NormFfnBwdIdeal.nD Cert.NormFfnBwdIdeal.τ).loc Cert.NormFfnBwdIdeal.main_arg0)
          ∧ r.2.mem ((c.tc : Thread Cert.NormFfnBwdIdeal.nD Cert.NormFfnBwdIdeal.τ).loc Cert.NormFfnBwdIdeal.main_arg1) = m ((c.tc : Thread Cert.NormFfnBwdIdeal.nD Cert.NormFfnBwdIdeal.τ).loc Cert.NormFfnBwdIdeal.main_arg1)
          ∧ r.2.mem ((c.tc : Thread Cert.NormFfnBwdIdeal.nD Cert.NormFfnBwdIdeal.τ).loc Cert.NormFfnBwdIdeal.main_arg2) = m ((c.tc : Thread Cert.NormFfnBwdIdeal.nD Cert.NormFfnBwdIdeal.τ).loc Cert.NormFfnBwdIdeal.main_arg2)
          ∧ r.2.mem ((c.tc : Thread Cert.NormFfnBwdIdeal.nD Cert.NormFfnBwdIdeal.τ).loc Cert.NormFfnBwdIdeal.main_arg3) = m ((c.tc : Thread Cert.NormFfnBwdIdeal.nD Cert.NormFfnBwdIdeal.τ).loc Cert.NormFfnBwdIdeal.main_arg3))
      ∧ θ_run (Cert.NormFfnBwdReferenceIdeal.defs (F := Ideal)) (onTc (τ := Cert.NormFfnBwdReferenceIdeal.τ) (Cert.NormFfnBwdReferenceIdeal.main (F := Ideal))) ⟨m', fun _ => 0, g'⟩ (fun r => ∀ c : Dev Cert.NormFfnBwdReferenceIdeal.nD,
          r.2.mem ((c.tc : Thread Cert.NormFfnBwdReferenceIdeal.nD Cert.NormFfnBwdReferenceIdeal.τ).loc Cert.NormFfnBwdReferenceIdeal.main_v34) = v0 c
          ∧ r.2.mem ((c.tc : Thread Cert.NormFfnBwdReferenceIdeal.nD Cert.NormFfnBwdReferenceIdeal.τ).loc Cert.NormFfnBwdReferenceIdeal.main_v36) = v1 c
          ∧ r.2.mem ((c.tc : Thread Cert.NormFfnBwdReferenceIdeal.nD Cert.NormFfnBwdReferenceIdeal.τ).loc Cert.NormFfnBwdReferenceIdeal.main_v17) = v2 c
          ∧ r.2.mem ((c.tc : Thread Cert.NormFfnBwdReferenceIdeal.nD Cert.NormFfnBwdReferenceIdeal.τ).loc Cert.NormFfnBwdReferenceIdeal.main_arg0) = m' ((c.tc : Thread Cert.NormFfnBwdReferenceIdeal.nD Cert.NormFfnBwdReferenceIdeal.τ).loc Cert.NormFfnBwdReferenceIdeal.main_arg0)
          ∧ r.2.mem ((c.tc : Thread Cert.NormFfnBwdReferenceIdeal.nD Cert.NormFfnBwdReferenceIdeal.τ).loc Cert.NormFfnBwdReferenceIdeal.main_arg1) = m' ((c.tc : Thread Cert.NormFfnBwdReferenceIdeal.nD Cert.NormFfnBwdReferenceIdeal.τ).loc Cert.NormFfnBwdReferenceIdeal.main_arg1)
          ∧ r.2.mem ((c.tc : Thread Cert.NormFfnBwdReferenceIdeal.nD Cert.NormFfnBwdReferenceIdeal.τ).loc Cert.NormFfnBwdReferenceIdeal.main_arg2) = m' ((c.tc : Thread Cert.NormFfnBwdReferenceIdeal.nD Cert.NormFfnBwdReferenceIdeal.τ).loc Cert.NormFfnBwdReferenceIdeal.main_arg2)
          ∧ r.2.mem ((c.tc : Thread Cert.NormFfnBwdReferenceIdeal.nD Cert.NormFfnBwdReferenceIdeal.τ).loc Cert.NormFfnBwdReferenceIdeal.main_arg3) = m' ((c.tc : Thread Cert.NormFfnBwdReferenceIdeal.nD Cert.NormFfnBwdReferenceIdeal.τ).loc Cert.NormFfnBwdReferenceIdeal.main_arg3))

def preserves_NormMixBwd_NormMixBwdIdeal : Prop :=
  True

def algebraic_NormMixBwdIdeal_NormMixBwdReferenceIdeal [hNormMixBwdIdeal : Cert.NormMixBwdIdeal.Facts] [hNormMixBwdReferenceIdeal : Cert.NormMixBwdReferenceIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg)
    (m' : (ℓ : Loc Cert.NormMixBwdReferenceIdeal.nD Cert.NormMixBwdReferenceIdeal.τ Cert.NormMixBwdReferenceIdeal.sig) → Buf (Elt Ideal) ℓ) (g' : Dev Cert.NormMixBwdReferenceIdeal.nD → PrngReg), Pre_NormMixBwdIdeal m →
    (∀ c : Dev Cert.NormMixBwdIdeal.nD,
      m' ((c.tc : Thread Cert.NormMixBwdReferenceIdeal.nD Cert.NormMixBwdReferenceIdeal.τ).loc Cert.NormMixBwdReferenceIdeal.main_arg0) = m ((c.tc : Thread Cert.NormMixBwdIdeal.nD Cert.NormMixBwdIdeal.τ).loc Cert.NormMixBwdIdeal.main_arg0)
      ∧ m' ((c.tc : Thread Cert.NormMixBwdReferenceIdeal.nD Cert.NormMixBwdReferenceIdeal.τ).loc Cert.NormMixBwdReferenceIdeal.main_arg1) = m ((c.tc : Thread Cert.NormMixBwdIdeal.nD Cert.NormMixBwdIdeal.τ).loc Cert.NormMixBwdIdeal.main_arg1)
      ∧ m' ((c.tc : Thread Cert.NormMixBwdReferenceIdeal.nD Cert.NormMixBwdReferenceIdeal.τ).loc Cert.NormMixBwdReferenceIdeal.main_arg2) = m ((c.tc : Thread Cert.NormMixBwdIdeal.nD Cert.NormMixBwdIdeal.τ).loc Cert.NormMixBwdIdeal.main_arg2)
      ∧ m' ((c.tc : Thread Cert.NormMixBwdReferenceIdeal.nD Cert.NormMixBwdReferenceIdeal.τ).loc Cert.NormMixBwdReferenceIdeal.main_arg3) = m ((c.tc : Thread Cert.NormMixBwdIdeal.nD Cert.NormMixBwdIdeal.τ).loc Cert.NormMixBwdIdeal.main_arg3)) →
    ∃ (v0 : (c : Dev Cert.NormMixBwdIdeal.nD) → Buf (Elt Ideal) ((c.tc : Thread Cert.NormMixBwdIdeal.nD Cert.NormMixBwdIdeal.τ).loc Cert.NormMixBwdIdeal.main_v0_0)) (v1 : (c : Dev Cert.NormMixBwdIdeal.nD) → Buf (Elt Ideal) ((c.tc : Thread Cert.NormMixBwdIdeal.nD Cert.NormMixBwdIdeal.τ).loc Cert.NormMixBwdIdeal.main_v0_1)),
      θ_run (Cert.NormMixBwdIdeal.defs (F := Ideal)) (onTc (τ := Cert.NormMixBwdIdeal.τ) (Cert.NormMixBwdIdeal.main (F := Ideal))) ⟨m, fun _ => 0, g⟩ (fun r => ∀ c : Dev Cert.NormMixBwdIdeal.nD,
          r.2.mem ((c.tc : Thread Cert.NormMixBwdIdeal.nD Cert.NormMixBwdIdeal.τ).loc Cert.NormMixBwdIdeal.main_v0_0) = v0 c
          ∧ r.2.mem ((c.tc : Thread Cert.NormMixBwdIdeal.nD Cert.NormMixBwdIdeal.τ).loc Cert.NormMixBwdIdeal.main_v0_1) = v1 c
          ∧ r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
          ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
          ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
          ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3))
      ∧ θ_run (Cert.NormMixBwdReferenceIdeal.defs (F := Ideal)) (onTc (τ := Cert.NormMixBwdReferenceIdeal.τ) (Cert.NormMixBwdReferenceIdeal.main (F := Ideal))) ⟨m', fun _ => 0, g'⟩ (fun r => ∀ c : Dev Cert.NormMixBwdReferenceIdeal.nD,
          r.2.mem ((c.tc : Thread Cert.NormMixBwdReferenceIdeal.nD Cert.NormMixBwdReferenceIdeal.τ).loc Cert.NormMixBwdReferenceIdeal.main_v34) = v0 c
          ∧ r.2.mem ((c.tc : Thread Cert.NormMixBwdReferenceIdeal.nD Cert.NormMixBwdReferenceIdeal.τ).loc Cert.NormMixBwdReferenceIdeal.main_v17) = v1 c
          ∧ r.2.mem ((c.tc : Thread Cert.NormMixBwdReferenceIdeal.nD Cert.NormMixBwdReferenceIdeal.τ).loc Cert.NormMixBwdReferenceIdeal.main_arg0) = m' ((c.tc : Thread Cert.NormMixBwdReferenceIdeal.nD Cert.NormMixBwdReferenceIdeal.τ).loc Cert.NormMixBwdReferenceIdeal.main_arg0)
          ∧ r.2.mem ((c.tc : Thread Cert.NormMixBwdReferenceIdeal.nD Cert.NormMixBwdReferenceIdeal.τ).loc Cert.NormMixBwdReferenceIdeal.main_arg1) = m' ((c.tc : Thread Cert.NormMixBwdReferenceIdeal.nD Cert.NormMixBwdReferenceIdeal.τ).loc Cert.NormMixBwdReferenceIdeal.main_arg1)
          ∧ r.2.mem ((c.tc : Thread Cert.NormMixBwdReferenceIdeal.nD Cert.NormMixBwdReferenceIdeal.τ).loc Cert.NormMixBwdReferenceIdeal.main_arg2) = m' ((c.tc : Thread Cert.NormMixBwdReferenceIdeal.nD Cert.NormMixBwdReferenceIdeal.τ).loc Cert.NormMixBwdReferenceIdeal.main_arg2)
          ∧ r.2.mem ((c.tc : Thread Cert.NormMixBwdReferenceIdeal.nD Cert.NormMixBwdReferenceIdeal.τ).loc Cert.NormMixBwdReferenceIdeal.main_arg3) = m' ((c.tc : Thread Cert.NormMixBwdReferenceIdeal.nD Cert.NormMixBwdReferenceIdeal.τ).loc Cert.NormMixBwdReferenceIdeal.main_arg3))

def preserves_DownLoss_DownLossIdeal : Prop :=
  True

def algebraic_DownLossIdeal_DownLossReferenceIdeal [hDownLossIdeal : Cert.DownLossIdeal.Facts] [hDownLossReferenceIdeal : Cert.DownLossReferenceIdeal.Facts] : Prop :=
  ∀ (m : (ℓ : Loc Cert.DownLossIdeal.nD Cert.DownLossIdeal.τ Cert.DownLossIdeal.sig) → Buf (Elt Ideal) ℓ) (g : Dev Cert.DownLossIdeal.nD → PrngReg)
    (m' : (ℓ : Loc Cert.DownLossReferenceIdeal.nD Cert.DownLossReferenceIdeal.τ Cert.DownLossReferenceIdeal.sig) → Buf (Elt Ideal) ℓ) (g' : Dev Cert.DownLossReferenceIdeal.nD → PrngReg), Pre_DownLossIdeal m →
    (∀ c : Dev Cert.DownLossIdeal.nD,
      m' ((c.tc : Thread Cert.DownLossReferenceIdeal.nD Cert.DownLossReferenceIdeal.τ).loc Cert.DownLossReferenceIdeal.main_arg0) = m ((c.tc : Thread Cert.DownLossIdeal.nD Cert.DownLossIdeal.τ).loc Cert.DownLossIdeal.main_arg0)
      ∧ m' ((c.tc : Thread Cert.DownLossReferenceIdeal.nD Cert.DownLossReferenceIdeal.τ).loc Cert.DownLossReferenceIdeal.main_arg1) = m ((c.tc : Thread Cert.DownLossIdeal.nD Cert.DownLossIdeal.τ).loc Cert.DownLossIdeal.main_arg1)
      ∧ m' ((c.tc : Thread Cert.DownLossReferenceIdeal.nD Cert.DownLossReferenceIdeal.τ).loc Cert.DownLossReferenceIdeal.main_arg2) = m ((c.tc : Thread Cert.DownLossIdeal.nD Cert.DownLossIdeal.τ).loc Cert.DownLossIdeal.main_arg2)
      ∧ m' ((c.tc : Thread Cert.DownLossReferenceIdeal.nD Cert.DownLossReferenceIdeal.τ).loc Cert.DownLossReferenceIdeal.main_arg3) = m ((c.tc : Thread Cert.DownLossIdeal.nD Cert.DownLossIdeal.τ).loc Cert.DownLossIdeal.main_arg3)
      ∧ m' ((c.tc : Thread Cert.DownLossReferenceIdeal.nD Cert.DownLossReferenceIdeal.τ).loc Cert.DownLossReferenceIdeal.main_arg4) = m ((c.tc : Thread Cert.DownLossIdeal.nD Cert.DownLossIdeal.τ).loc Cert.DownLossIdeal.main_arg4)) →
    ∃ (v0 : (c : Dev Cert.DownLossIdeal.nD) → Buf (Elt Ideal) ((c.tc : Thread Cert.DownLossIdeal.nD Cert.DownLossIdeal.τ).loc Cert.DownLossIdeal.main_v0_0)) (v1 : (c : Dev Cert.DownLossIdeal.nD) → Buf (Elt Ideal) ((c.tc : Thread Cert.DownLossIdeal.nD Cert.DownLossIdeal.τ).loc Cert.DownLossIdeal.main_v0_1)) (v2 : (c : Dev Cert.DownLossIdeal.nD) → Buf (Elt Ideal) ((c.tc : Thread Cert.DownLossIdeal.nD Cert.DownLossIdeal.τ).loc Cert.DownLossIdeal.main_v0_2)) (v3 : (c : Dev Cert.DownLossIdeal.nD) → Buf (Elt Ideal) ((c.tc : Thread Cert.DownLossIdeal.nD Cert.DownLossIdeal.τ).loc Cert.DownLossIdeal.main_v0_3)),
      θ_run (Cert.DownLossIdeal.defs (F := Ideal)) (onTc (τ := Cert.DownLossIdeal.τ) (Cert.DownLossIdeal.main (F := Ideal))) ⟨m, fun _ => 0, g⟩ (fun r => ∀ c : Dev Cert.DownLossIdeal.nD,
          r.2.mem ((c.tc : Thread Cert.DownLossIdeal.nD Cert.DownLossIdeal.τ).loc Cert.DownLossIdeal.main_v0_0) = v0 c
          ∧ r.2.mem ((c.tc : Thread Cert.DownLossIdeal.nD Cert.DownLossIdeal.τ).loc Cert.DownLossIdeal.main_v0_1) = v1 c
          ∧ r.2.mem ((c.tc : Thread Cert.DownLossIdeal.nD Cert.DownLossIdeal.τ).loc Cert.DownLossIdeal.main_v0_2) = v2 c
          ∧ r.2.mem ((c.tc : Thread Cert.DownLossIdeal.nD Cert.DownLossIdeal.τ).loc Cert.DownLossIdeal.main_v0_3) = v3 c
          ∧ r.2.mem ((c.tc : Thread Cert.DownLossIdeal.nD Cert.DownLossIdeal.τ).loc Cert.DownLossIdeal.main_arg0) = m ((c.tc : Thread Cert.DownLossIdeal.nD Cert.DownLossIdeal.τ).loc Cert.DownLossIdeal.main_arg0)
          ∧ r.2.mem ((c.tc : Thread Cert.DownLossIdeal.nD Cert.DownLossIdeal.τ).loc Cert.DownLossIdeal.main_arg1) = m ((c.tc : Thread Cert.DownLossIdeal.nD Cert.DownLossIdeal.τ).loc Cert.DownLossIdeal.main_arg1)
          ∧ r.2.mem ((c.tc : Thread Cert.DownLossIdeal.nD Cert.DownLossIdeal.τ).loc Cert.DownLossIdeal.main_arg2) = m ((c.tc : Thread Cert.DownLossIdeal.nD Cert.DownLossIdeal.τ).loc Cert.DownLossIdeal.main_arg2)
          ∧ r.2.mem ((c.tc : Thread Cert.DownLossIdeal.nD Cert.DownLossIdeal.τ).loc Cert.DownLossIdeal.main_arg3) = m ((c.tc : Thread Cert.DownLossIdeal.nD Cert.DownLossIdeal.τ).loc Cert.DownLossIdeal.main_arg3)
          ∧ r.2.mem ((c.tc : Thread Cert.DownLossIdeal.nD Cert.DownLossIdeal.τ).loc Cert.DownLossIdeal.main_arg4) = m ((c.tc : Thread Cert.DownLossIdeal.nD Cert.DownLossIdeal.τ).loc Cert.DownLossIdeal.main_arg4))
      ∧ θ_run (Cert.DownLossReferenceIdeal.defs (F := Ideal)) (onTc (τ := Cert.DownLossReferenceIdeal.τ) (Cert.DownLossReferenceIdeal.main (F := Ideal))) ⟨m', fun _ => 0, g'⟩ (fun r => ∀ c : Dev Cert.DownLossReferenceIdeal.nD,
          r.2.mem ((c.tc : Thread Cert.DownLossReferenceIdeal.nD Cert.DownLossReferenceIdeal.τ).loc Cert.DownLossReferenceIdeal.main_v52) = v0 c
          ∧ r.2.mem ((c.tc : Thread Cert.DownLossReferenceIdeal.nD Cert.DownLossReferenceIdeal.τ).loc Cert.DownLossReferenceIdeal.main_v53) = v1 c
          ∧ r.2.mem ((c.tc : Thread Cert.DownLossReferenceIdeal.nD Cert.DownLossReferenceIdeal.τ).loc Cert.DownLossReferenceIdeal.main_v36) = v2 c
          ∧ r.2.mem ((c.tc : Thread Cert.DownLossReferenceIdeal.nD Cert.DownLossReferenceIdeal.τ).loc Cert.DownLossReferenceIdeal.main_v56) = v3 c
          ∧ r.2.mem ((c.tc : Thread Cert.DownLossReferenceIdeal.nD Cert.DownLossReferenceIdeal.τ).loc Cert.DownLossReferenceIdeal.main_arg0) = m' ((c.tc : Thread Cert.DownLossReferenceIdeal.nD Cert.DownLossReferenceIdeal.τ).loc Cert.DownLossReferenceIdeal.main_arg0)
          ∧ r.2.mem ((c.tc : Thread Cert.DownLossReferenceIdeal.nD Cert.DownLossReferenceIdeal.τ).loc Cert.DownLossReferenceIdeal.main_arg1) = m' ((c.tc : Thread Cert.DownLossReferenceIdeal.nD Cert.DownLossReferenceIdeal.τ).loc Cert.DownLossReferenceIdeal.main_arg1)
          ∧ r.2.mem ((c.tc : Thread Cert.DownLossReferenceIdeal.nD Cert.DownLossReferenceIdeal.τ).loc Cert.DownLossReferenceIdeal.main_arg2) = m' ((c.tc : Thread Cert.DownLossReferenceIdeal.nD Cert.DownLossReferenceIdeal.τ).loc Cert.DownLossReferenceIdeal.main_arg2)
          ∧ r.2.mem ((c.tc : Thread Cert.DownLossReferenceIdeal.nD Cert.DownLossReferenceIdeal.τ).loc Cert.DownLossReferenceIdeal.main_arg3) = m' ((c.tc : Thread Cert.DownLossReferenceIdeal.nD Cert.DownLossReferenceIdeal.τ).loc Cert.DownLossReferenceIdeal.main_arg3)
          ∧ r.2.mem ((c.tc : Thread Cert.DownLossReferenceIdeal.nD Cert.DownLossReferenceIdeal.τ).loc Cert.DownLossReferenceIdeal.main_arg4) = m' ((c.tc : Thread Cert.DownLossReferenceIdeal.nD Cert.DownLossReferenceIdeal.τ).loc Cert.DownLossReferenceIdeal.main_arg4))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v12) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_ConvFwd_ConvFwdIdeal : Prop :=
  True

def algebraic_ConvFwdIdeal_ConvFwdReferenceIdeal [hConvFwdIdeal : Cert.ConvFwdIdeal.Facts] [hConvFwdReferenceIdeal : Cert.ConvFwdReferenceIdeal.Facts] : Prop :=
  ∀ (m : (ℓ : Loc Cert.ConvFwdIdeal.nD Cert.ConvFwdIdeal.τ Cert.ConvFwdIdeal.sig) → Buf (Elt Ideal) ℓ) (g : Dev Cert.ConvFwdIdeal.nD → PrngReg)
    (m' : (ℓ : Loc Cert.ConvFwdReferenceIdeal.nD Cert.ConvFwdReferenceIdeal.τ Cert.ConvFwdReferenceIdeal.sig) → Buf (Elt Ideal) ℓ) (g' : Dev Cert.ConvFwdReferenceIdeal.nD → PrngReg), Pre_ConvFwdIdeal m →
    (∀ c : Dev Cert.ConvFwdIdeal.nD,
      m' ((c.tc : Thread Cert.ConvFwdReferenceIdeal.nD Cert.ConvFwdReferenceIdeal.τ).loc Cert.ConvFwdReferenceIdeal.main_arg0) = m ((c.tc : Thread Cert.ConvFwdIdeal.nD Cert.ConvFwdIdeal.τ).loc Cert.ConvFwdIdeal.main_arg0)
      ∧ m' ((c.tc : Thread Cert.ConvFwdReferenceIdeal.nD Cert.ConvFwdReferenceIdeal.τ).loc Cert.ConvFwdReferenceIdeal.main_arg1) = m ((c.tc : Thread Cert.ConvFwdIdeal.nD Cert.ConvFwdIdeal.τ).loc Cert.ConvFwdIdeal.main_arg1)) →
    ∃ (v0 : (c : Dev Cert.ConvFwdIdeal.nD) → Buf (Elt Ideal) ((c.tc : Thread Cert.ConvFwdIdeal.nD Cert.ConvFwdIdeal.τ).loc Cert.ConvFwdIdeal.main_v0)),
      θ_run (Cert.ConvFwdIdeal.defs (F := Ideal)) (onTc (τ := Cert.ConvFwdIdeal.τ) (Cert.ConvFwdIdeal.main (F := Ideal))) ⟨m, fun _ => 0, g⟩ (fun r => ∀ c : Dev Cert.ConvFwdIdeal.nD,
          r.2.mem ((c.tc : Thread Cert.ConvFwdIdeal.nD Cert.ConvFwdIdeal.τ).loc Cert.ConvFwdIdeal.main_v0) = v0 c
          ∧ r.2.mem ((c.tc : Thread Cert.ConvFwdIdeal.nD Cert.ConvFwdIdeal.τ).loc Cert.ConvFwdIdeal.main_arg0) = m ((c.tc : Thread Cert.ConvFwdIdeal.nD Cert.ConvFwdIdeal.τ).loc Cert.ConvFwdIdeal.main_arg0)
          ∧ r.2.mem ((c.tc : Thread Cert.ConvFwdIdeal.nD Cert.ConvFwdIdeal.τ).loc Cert.ConvFwdIdeal.main_arg1) = m ((c.tc : Thread Cert.ConvFwdIdeal.nD Cert.ConvFwdIdeal.τ).loc Cert.ConvFwdIdeal.main_arg1))
      ∧ θ_run (Cert.ConvFwdReferenceIdeal.defs (F := Ideal)) (onTc (τ := Cert.ConvFwdReferenceIdeal.τ) (Cert.ConvFwdReferenceIdeal.main (F := Ideal))) ⟨m', fun _ => 0, g'⟩ (fun r => ∀ c : Dev Cert.ConvFwdReferenceIdeal.nD,
          r.2.mem ((c.tc : Thread Cert.ConvFwdReferenceIdeal.nD Cert.ConvFwdReferenceIdeal.τ).loc Cert.ConvFwdReferenceIdeal.main_v28) = v0 c
          ∧ r.2.mem ((c.tc : Thread Cert.ConvFwdReferenceIdeal.nD Cert.ConvFwdReferenceIdeal.τ).loc Cert.ConvFwdReferenceIdeal.main_arg0) = m' ((c.tc : Thread Cert.ConvFwdReferenceIdeal.nD Cert.ConvFwdReferenceIdeal.τ).loc Cert.ConvFwdReferenceIdeal.main_arg0)
          ∧ r.2.mem ((c.tc : Thread Cert.ConvFwdReferenceIdeal.nD Cert.ConvFwdReferenceIdeal.τ).loc Cert.ConvFwdReferenceIdeal.main_arg1) = m' ((c.tc : Thread Cert.ConvFwdReferenceIdeal.nD Cert.ConvFwdReferenceIdeal.τ).loc Cert.ConvFwdReferenceIdeal.main_arg1))

def preserves_Branches_BranchesIdeal : Prop :=
  True

def algebraic_BranchesIdeal_BranchesReferenceIdeal [hBranchesIdeal : Cert.BranchesIdeal.Facts] [hBranchesReferenceIdeal : Cert.BranchesReferenceIdeal.Facts] : Prop :=
  ∀ (m : (ℓ : Loc Cert.BranchesIdeal.nD Cert.BranchesIdeal.τ Cert.BranchesIdeal.sig) → Buf (Elt Ideal) ℓ) (g : Dev Cert.BranchesIdeal.nD → PrngReg)
    (m' : (ℓ : Loc Cert.BranchesReferenceIdeal.nD Cert.BranchesReferenceIdeal.τ Cert.BranchesReferenceIdeal.sig) → Buf (Elt Ideal) ℓ) (g' : Dev Cert.BranchesReferenceIdeal.nD → PrngReg), Pre_BranchesIdeal m →
    (∀ c : Dev Cert.BranchesIdeal.nD,
      m' ((c.tc : Thread Cert.BranchesReferenceIdeal.nD Cert.BranchesReferenceIdeal.τ).loc Cert.BranchesReferenceIdeal.main_arg0) = m ((c.tc : Thread Cert.BranchesIdeal.nD Cert.BranchesIdeal.τ).loc Cert.BranchesIdeal.main_arg0)
      ∧ m' ((c.tc : Thread Cert.BranchesReferenceIdeal.nD Cert.BranchesReferenceIdeal.τ).loc Cert.BranchesReferenceIdeal.main_arg1) = m ((c.tc : Thread Cert.BranchesIdeal.nD Cert.BranchesIdeal.τ).loc Cert.BranchesIdeal.main_arg1)
      ∧ m' ((c.tc : Thread Cert.BranchesReferenceIdeal.nD Cert.BranchesReferenceIdeal.τ).loc Cert.BranchesReferenceIdeal.main_arg2) = m ((c.tc : Thread Cert.BranchesIdeal.nD Cert.BranchesIdeal.τ).loc Cert.BranchesIdeal.main_arg2)
      ∧ m' ((c.tc : Thread Cert.BranchesReferenceIdeal.nD Cert.BranchesReferenceIdeal.τ).loc Cert.BranchesReferenceIdeal.main_arg3) = m ((c.tc : Thread Cert.BranchesIdeal.nD Cert.BranchesIdeal.τ).loc Cert.BranchesIdeal.main_arg3)
      ∧ m' ((c.tc : Thread Cert.BranchesReferenceIdeal.nD Cert.BranchesReferenceIdeal.τ).loc Cert.BranchesReferenceIdeal.main_arg4) = m ((c.tc : Thread Cert.BranchesIdeal.nD Cert.BranchesIdeal.τ).loc Cert.BranchesIdeal.main_arg4)) →
    ∃ (v0 : (c : Dev Cert.BranchesIdeal.nD) → Buf (Elt Ideal) ((c.tc : Thread Cert.BranchesIdeal.nD Cert.BranchesIdeal.τ).loc Cert.BranchesIdeal.main_v0_0)) (v1 : (c : Dev Cert.BranchesIdeal.nD) → Buf (Elt Ideal) ((c.tc : Thread Cert.BranchesIdeal.nD Cert.BranchesIdeal.τ).loc Cert.BranchesIdeal.main_v0_1)) (v2 : (c : Dev Cert.BranchesIdeal.nD) → Buf (Elt Ideal) ((c.tc : Thread Cert.BranchesIdeal.nD Cert.BranchesIdeal.τ).loc Cert.BranchesIdeal.main_v0_2)),
      θ_run (Cert.BranchesIdeal.defs (F := Ideal)) (onTc (τ := Cert.BranchesIdeal.τ) (Cert.BranchesIdeal.main (F := Ideal))) ⟨m, fun _ => 0, g⟩ (fun r => ∀ c : Dev Cert.BranchesIdeal.nD,
          r.2.mem ((c.tc : Thread Cert.BranchesIdeal.nD Cert.BranchesIdeal.τ).loc Cert.BranchesIdeal.main_v0_0) = v0 c
          ∧ r.2.mem ((c.tc : Thread Cert.BranchesIdeal.nD Cert.BranchesIdeal.τ).loc Cert.BranchesIdeal.main_v0_1) = v1 c
          ∧ r.2.mem ((c.tc : Thread Cert.BranchesIdeal.nD Cert.BranchesIdeal.τ).loc Cert.BranchesIdeal.main_v0_2) = v2 c
          ∧ r.2.mem ((c.tc : Thread Cert.BranchesIdeal.nD Cert.BranchesIdeal.τ).loc Cert.BranchesIdeal.main_arg0) = m ((c.tc : Thread Cert.BranchesIdeal.nD Cert.BranchesIdeal.τ).loc Cert.BranchesIdeal.main_arg0)
          ∧ r.2.mem ((c.tc : Thread Cert.BranchesIdeal.nD Cert.BranchesIdeal.τ).loc Cert.BranchesIdeal.main_arg1) = m ((c.tc : Thread Cert.BranchesIdeal.nD Cert.BranchesIdeal.τ).loc Cert.BranchesIdeal.main_arg1)
          ∧ r.2.mem ((c.tc : Thread Cert.BranchesIdeal.nD Cert.BranchesIdeal.τ).loc Cert.BranchesIdeal.main_arg2) = m ((c.tc : Thread Cert.BranchesIdeal.nD Cert.BranchesIdeal.τ).loc Cert.BranchesIdeal.main_arg2)
          ∧ r.2.mem ((c.tc : Thread Cert.BranchesIdeal.nD Cert.BranchesIdeal.τ).loc Cert.BranchesIdeal.main_arg3) = m ((c.tc : Thread Cert.BranchesIdeal.nD Cert.BranchesIdeal.τ).loc Cert.BranchesIdeal.main_arg3)
          ∧ r.2.mem ((c.tc : Thread Cert.BranchesIdeal.nD Cert.BranchesIdeal.τ).loc Cert.BranchesIdeal.main_arg4) = m ((c.tc : Thread Cert.BranchesIdeal.nD Cert.BranchesIdeal.τ).loc Cert.BranchesIdeal.main_arg4))
      ∧ θ_run (Cert.BranchesReferenceIdeal.defs (F := Ideal)) (onTc (τ := Cert.BranchesReferenceIdeal.τ) (Cert.BranchesReferenceIdeal.main (F := Ideal))) ⟨m', fun _ => 0, g'⟩ (fun r => ∀ c : Dev Cert.BranchesReferenceIdeal.nD,
          r.2.mem ((c.tc : Thread Cert.BranchesReferenceIdeal.nD Cert.BranchesReferenceIdeal.τ).loc Cert.BranchesReferenceIdeal.main_v2) = v0 c
          ∧ r.2.mem ((c.tc : Thread Cert.BranchesReferenceIdeal.nD Cert.BranchesReferenceIdeal.τ).loc Cert.BranchesReferenceIdeal.main_v5) = v1 c
          ∧ r.2.mem ((c.tc : Thread Cert.BranchesReferenceIdeal.nD Cert.BranchesReferenceIdeal.τ).loc Cert.BranchesReferenceIdeal.main_v23) = v2 c
          ∧ r.2.mem ((c.tc : Thread Cert.BranchesReferenceIdeal.nD Cert.BranchesReferenceIdeal.τ).loc Cert.BranchesReferenceIdeal.main_arg0) = m' ((c.tc : Thread Cert.BranchesReferenceIdeal.nD Cert.BranchesReferenceIdeal.τ).loc Cert.BranchesReferenceIdeal.main_arg0)
          ∧ r.2.mem ((c.tc : Thread Cert.BranchesReferenceIdeal.nD Cert.BranchesReferenceIdeal.τ).loc Cert.BranchesReferenceIdeal.main_arg1) = m' ((c.tc : Thread Cert.BranchesReferenceIdeal.nD Cert.BranchesReferenceIdeal.τ).loc Cert.BranchesReferenceIdeal.main_arg1)
          ∧ r.2.mem ((c.tc : Thread Cert.BranchesReferenceIdeal.nD Cert.BranchesReferenceIdeal.τ).loc Cert.BranchesReferenceIdeal.main_arg2) = m' ((c.tc : Thread Cert.BranchesReferenceIdeal.nD Cert.BranchesReferenceIdeal.τ).loc Cert.BranchesReferenceIdeal.main_arg2)
          ∧ r.2.mem ((c.tc : Thread Cert.BranchesReferenceIdeal.nD Cert.BranchesReferenceIdeal.τ).loc Cert.BranchesReferenceIdeal.main_arg3) = m' ((c.tc : Thread Cert.BranchesReferenceIdeal.nD Cert.BranchesReferenceIdeal.τ).loc Cert.BranchesReferenceIdeal.main_arg3)
          ∧ r.2.mem ((c.tc : Thread Cert.BranchesReferenceIdeal.nD Cert.BranchesReferenceIdeal.τ).loc Cert.BranchesReferenceIdeal.main_arg4) = m' ((c.tc : Thread Cert.BranchesReferenceIdeal.nD Cert.BranchesReferenceIdeal.τ).loc Cert.BranchesReferenceIdeal.main_arg4))

def preserves_OutNorm_OutNormIdeal : Prop :=
  True

def algebraic_OutNormIdeal_OutNormReferenceIdeal [hOutNormIdeal : Cert.OutNormIdeal.Facts] [hOutNormReferenceIdeal : Cert.OutNormReferenceIdeal.Facts] : Prop :=
  ∀ (m : (ℓ : Loc Cert.OutNormIdeal.nD Cert.OutNormIdeal.τ Cert.OutNormIdeal.sig) → Buf (Elt Ideal) ℓ) (g : Dev Cert.OutNormIdeal.nD → PrngReg)
    (m' : (ℓ : Loc Cert.OutNormReferenceIdeal.nD Cert.OutNormReferenceIdeal.τ Cert.OutNormReferenceIdeal.sig) → Buf (Elt Ideal) ℓ) (g' : Dev Cert.OutNormReferenceIdeal.nD → PrngReg), Pre_OutNormIdeal m →
    (∀ c : Dev Cert.OutNormIdeal.nD,
      m' ((c.tc : Thread Cert.OutNormReferenceIdeal.nD Cert.OutNormReferenceIdeal.τ).loc Cert.OutNormReferenceIdeal.main_arg0) = m ((c.tc : Thread Cert.OutNormIdeal.nD Cert.OutNormIdeal.τ).loc Cert.OutNormIdeal.main_arg0)
      ∧ m' ((c.tc : Thread Cert.OutNormReferenceIdeal.nD Cert.OutNormReferenceIdeal.τ).loc Cert.OutNormReferenceIdeal.main_arg1) = m ((c.tc : Thread Cert.OutNormIdeal.nD Cert.OutNormIdeal.τ).loc Cert.OutNormIdeal.main_arg1)
      ∧ m' ((c.tc : Thread Cert.OutNormReferenceIdeal.nD Cert.OutNormReferenceIdeal.τ).loc Cert.OutNormReferenceIdeal.main_arg2) = m ((c.tc : Thread Cert.OutNormIdeal.nD Cert.OutNormIdeal.τ).loc Cert.OutNormIdeal.main_arg2)
      ∧ m' ((c.tc : Thread Cert.OutNormReferenceIdeal.nD Cert.OutNormReferenceIdeal.τ).loc Cert.OutNormReferenceIdeal.main_arg3) = m ((c.tc : Thread Cert.OutNormIdeal.nD Cert.OutNormIdeal.τ).loc Cert.OutNormIdeal.main_arg3)) →
    ∃ (v0 : (c : Dev Cert.OutNormIdeal.nD) → Buf (Elt Ideal) ((c.tc : Thread Cert.OutNormIdeal.nD Cert.OutNormIdeal.τ).loc Cert.OutNormIdeal.main_v0_0)) (v1 : (c : Dev Cert.OutNormIdeal.nD) → Buf (Elt Ideal) ((c.tc : Thread Cert.OutNormIdeal.nD Cert.OutNormIdeal.τ).loc Cert.OutNormIdeal.main_v0_1)),
      θ_run (Cert.OutNormIdeal.defs (F := Ideal)) (onTc (τ := Cert.OutNormIdeal.τ) (Cert.OutNormIdeal.main (F := Ideal))) ⟨m, fun _ => 0, g⟩ (fun r => ∀ c : Dev Cert.OutNormIdeal.nD,
          r.2.mem ((c.tc : Thread Cert.OutNormIdeal.nD Cert.OutNormIdeal.τ).loc Cert.OutNormIdeal.main_v0_0) = v0 c
          ∧ r.2.mem ((c.tc : Thread Cert.OutNormIdeal.nD Cert.OutNormIdeal.τ).loc Cert.OutNormIdeal.main_v0_1) = v1 c
          ∧ r.2.mem ((c.tc : Thread Cert.OutNormIdeal.nD Cert.OutNormIdeal.τ).loc Cert.OutNormIdeal.main_arg0) = m ((c.tc : Thread Cert.OutNormIdeal.nD Cert.OutNormIdeal.τ).loc Cert.OutNormIdeal.main_arg0)
          ∧ r.2.mem ((c.tc : Thread Cert.OutNormIdeal.nD Cert.OutNormIdeal.τ).loc Cert.OutNormIdeal.main_arg1) = m ((c.tc : Thread Cert.OutNormIdeal.nD Cert.OutNormIdeal.τ).loc Cert.OutNormIdeal.main_arg1)
          ∧ r.2.mem ((c.tc : Thread Cert.OutNormIdeal.nD Cert.OutNormIdeal.τ).loc Cert.OutNormIdeal.main_arg2) = m ((c.tc : Thread Cert.OutNormIdeal.nD Cert.OutNormIdeal.τ).loc Cert.OutNormIdeal.main_arg2)
          ∧ r.2.mem ((c.tc : Thread Cert.OutNormIdeal.nD Cert.OutNormIdeal.τ).loc Cert.OutNormIdeal.main_arg3) = m ((c.tc : Thread Cert.OutNormIdeal.nD Cert.OutNormIdeal.τ).loc Cert.OutNormIdeal.main_arg3))
      ∧ θ_run (Cert.OutNormReferenceIdeal.defs (F := Ideal)) (onTc (τ := Cert.OutNormReferenceIdeal.τ) (Cert.OutNormReferenceIdeal.main (F := Ideal))) ⟨m', fun _ => 0, g'⟩ (fun r => ∀ c : Dev Cert.OutNormReferenceIdeal.nD,
          r.2.mem ((c.tc : Thread Cert.OutNormReferenceIdeal.nD Cert.OutNormReferenceIdeal.τ).loc Cert.OutNormReferenceIdeal.main_v3) = v0 c
          ∧ r.2.mem ((c.tc : Thread Cert.OutNormReferenceIdeal.nD Cert.OutNormReferenceIdeal.τ).loc Cert.OutNormReferenceIdeal.main_v16) = v1 c
          ∧ r.2.mem ((c.tc : Thread Cert.OutNormReferenceIdeal.nD Cert.OutNormReferenceIdeal.τ).loc Cert.OutNormReferenceIdeal.main_arg0) = m' ((c.tc : Thread Cert.OutNormReferenceIdeal.nD Cert.OutNormReferenceIdeal.τ).loc Cert.OutNormReferenceIdeal.main_arg0)
          ∧ r.2.mem ((c.tc : Thread Cert.OutNormReferenceIdeal.nD Cert.OutNormReferenceIdeal.τ).loc Cert.OutNormReferenceIdeal.main_arg1) = m' ((c.tc : Thread Cert.OutNormReferenceIdeal.nD Cert.OutNormReferenceIdeal.τ).loc Cert.OutNormReferenceIdeal.main_arg1)
          ∧ r.2.mem ((c.tc : Thread Cert.OutNormReferenceIdeal.nD Cert.OutNormReferenceIdeal.τ).loc Cert.OutNormReferenceIdeal.main_arg2) = m' ((c.tc : Thread Cert.OutNormReferenceIdeal.nD Cert.OutNormReferenceIdeal.τ).loc Cert.OutNormReferenceIdeal.main_arg2)
          ∧ r.2.mem ((c.tc : Thread Cert.OutNormReferenceIdeal.nD Cert.OutNormReferenceIdeal.τ).loc Cert.OutNormReferenceIdeal.main_arg3) = m' ((c.tc : Thread Cert.OutNormReferenceIdeal.nD Cert.OutNormReferenceIdeal.τ).loc Cert.OutNormReferenceIdeal.main_arg3))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v0_1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v0_1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v3) = v0 c
          ∧ r.2.mem ((c.tc : Thread Cert.GateUpReferenceIdeal.nD Cert.GateUpReferenceIdeal.τ).loc Cert.GateUpReferenceIdeal.main_v4) = v1 c
          ∧ r.2.mem ((c.tc : Thread Cert.GateUpReferenceIdeal.nD Cert.GateUpReferenceIdeal.τ).loc Cert.GateUpReferenceIdeal.main_v7) = v2 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1))

def preserves_KvGrad_KvGradIdeal : Prop :=
  True

def algebraic_KvGradIdeal_KvGradReferenceIdeal [hKvGradIdeal : Cert.KvGradIdeal.Facts] [hKvGradReferenceIdeal : Cert.KvGradReferenceIdeal.Facts] : Prop :=
  ∀ (m : (ℓ : Loc Cert.KvGradIdeal.nD Cert.KvGradIdeal.τ Cert.KvGradIdeal.sig) → Buf (Elt Ideal) ℓ) (g : Dev Cert.KvGradIdeal.nD → PrngReg)
    (m' : (ℓ : Loc Cert.KvGradReferenceIdeal.nD Cert.KvGradReferenceIdeal.τ Cert.KvGradReferenceIdeal.sig) → Buf (Elt Ideal) ℓ) (g' : Dev Cert.KvGradReferenceIdeal.nD → PrngReg), Pre_KvGradIdeal m →
    (∀ c : Dev Cert.KvGradIdeal.nD,
      m' ((c.tc : Thread Cert.KvGradReferenceIdeal.nD Cert.KvGradReferenceIdeal.τ).loc Cert.KvGradReferenceIdeal.main_arg0) = m ((c.tc : Thread Cert.KvGradIdeal.nD Cert.KvGradIdeal.τ).loc Cert.KvGradIdeal.main_arg0)
      ∧ m' ((c.tc : Thread Cert.KvGradReferenceIdeal.nD Cert.KvGradReferenceIdeal.τ).loc Cert.KvGradReferenceIdeal.main_arg1) = m ((c.tc : Thread Cert.KvGradIdeal.nD Cert.KvGradIdeal.τ).loc Cert.KvGradIdeal.main_arg1)
      ∧ m' ((c.tc : Thread Cert.KvGradReferenceIdeal.nD Cert.KvGradReferenceIdeal.τ).loc Cert.KvGradReferenceIdeal.main_arg2) = m ((c.tc : Thread Cert.KvGradIdeal.nD Cert.KvGradIdeal.τ).loc Cert.KvGradIdeal.main_arg2)
      ∧ m' ((c.tc : Thread Cert.KvGradReferenceIdeal.nD Cert.KvGradReferenceIdeal.τ).loc Cert.KvGradReferenceIdeal.main_arg3) = m ((c.tc : Thread Cert.KvGradIdeal.nD Cert.KvGradIdeal.τ).loc Cert.KvGradIdeal.main_arg3)
      ∧ m' ((c.tc : Thread Cert.KvGradReferenceIdeal.nD Cert.KvGradReferenceIdeal.τ).loc Cert.KvGradReferenceIdeal.main_arg4) = m ((c.tc : Thread Cert.KvGradIdeal.nD Cert.KvGradIdeal.τ).loc Cert.KvGradIdeal.main_arg4)
      ∧ m' ((c.tc : Thread Cert.KvGradReferenceIdeal.nD Cert.KvGradReferenceIdeal.τ).loc Cert.KvGradReferenceIdeal.main_arg5) = m ((c.tc : Thread Cert.KvGradIdeal.nD Cert.KvGradIdeal.τ).loc Cert.KvGradIdeal.main_arg5)) →
    ∃ (v0 : (c : Dev Cert.KvGradIdeal.nD) → Buf (Elt Ideal) ((c.tc : Thread Cert.KvGradIdeal.nD Cert.KvGradIdeal.τ).loc Cert.KvGradIdeal.main_v10)),
      θ_run (Cert.KvGradIdeal.defs (F := Ideal)) (onTc (τ := Cert.KvGradIdeal.τ) (Cert.KvGradIdeal.main (F := Ideal))) ⟨m, fun _ => 0, g⟩ (fun r => ∀ c : Dev Cert.KvGradIdeal.nD,
          r.2.mem ((c.tc : Thread Cert.KvGradIdeal.nD Cert.KvGradIdeal.τ).loc Cert.KvGradIdeal.main_v10) = v0 c
          ∧ r.2.mem ((c.tc : Thread Cert.KvGradIdeal.nD Cert.KvGradIdeal.τ).loc Cert.KvGradIdeal.main_arg0) = m ((c.tc : Thread Cert.KvGradIdeal.nD Cert.KvGradIdeal.τ).loc Cert.KvGradIdeal.main_arg0)
          ∧ r.2.mem ((c.tc : Thread Cert.KvGradIdeal.nD Cert.KvGradIdeal.τ).loc Cert.KvGradIdeal.main_arg1) = m ((c.tc : Thread Cert.KvGradIdeal.nD Cert.KvGradIdeal.τ).loc Cert.KvGradIdeal.main_arg1)
          ∧ r.2.mem ((c.tc : Thread Cert.KvGradIdeal.nD Cert.KvGradIdeal.τ).loc Cert.KvGradIdeal.main_arg2) = m ((c.tc : Thread Cert.KvGradIdeal.nD Cert.KvGradIdeal.τ).loc Cert.KvGradIdeal.main_arg2)
          ∧ r.2.mem ((c.tc : Thread Cert.KvGradIdeal.nD Cert.KvGradIdeal.τ).loc Cert.KvGradIdeal.main_arg3) = m ((c.tc : Thread Cert.KvGradIdeal.nD Cert.KvGradIdeal.τ).loc Cert.KvGradIdeal.main_arg3)
          ∧ r.2.mem ((c.tc : Thread Cert.KvGradIdeal.nD Cert.KvGradIdeal.τ).loc Cert.KvGradIdeal.main_arg4) = m ((c.tc : Thread Cert.KvGradIdeal.nD Cert.KvGradIdeal.τ).loc Cert.KvGradIdeal.main_arg4)
          ∧ r.2.mem ((c.tc : Thread Cert.KvGradIdeal.nD Cert.KvGradIdeal.τ).loc Cert.KvGradIdeal.main_arg5) = m ((c.tc : Thread Cert.KvGradIdeal.nD Cert.KvGradIdeal.τ).loc Cert.KvGradIdeal.main_arg5))
      ∧ θ_run (Cert.KvGradReferenceIdeal.defs (F := Ideal)) (onTc (τ := Cert.KvGradReferenceIdeal.τ) (Cert.KvGradReferenceIdeal.main (F := Ideal))) ⟨m', fun _ => 0, g'⟩ (fun r => ∀ c : Dev Cert.KvGradReferenceIdeal.nD,
          r.2.mem ((c.tc : Thread Cert.KvGradReferenceIdeal.nD Cert.KvGradReferenceIdeal.τ).loc Cert.KvGradReferenceIdeal.main_v43) = v0 c
          ∧ r.2.mem ((c.tc : Thread Cert.KvGradReferenceIdeal.nD Cert.KvGradReferenceIdeal.τ).loc Cert.KvGradReferenceIdeal.main_arg0) = m' ((c.tc : Thread Cert.KvGradReferenceIdeal.nD Cert.KvGradReferenceIdeal.τ).loc Cert.KvGradReferenceIdeal.main_arg0)
          ∧ r.2.mem ((c.tc : Thread Cert.KvGradReferenceIdeal.nD Cert.KvGradReferenceIdeal.τ).loc Cert.KvGradReferenceIdeal.main_arg1) = m' ((c.tc : Thread Cert.KvGradReferenceIdeal.nD Cert.KvGradReferenceIdeal.τ).loc Cert.KvGradReferenceIdeal.main_arg1)
          ∧ r.2.mem ((c.tc : Thread Cert.KvGradReferenceIdeal.nD Cert.KvGradReferenceIdeal.τ).loc Cert.KvGradReferenceIdeal.main_arg2) = m' ((c.tc : Thread Cert.KvGradReferenceIdeal.nD Cert.KvGradReferenceIdeal.τ).loc Cert.KvGradReferenceIdeal.main_arg2)
          ∧ r.2.mem ((c.tc : Thread Cert.KvGradReferenceIdeal.nD Cert.KvGradReferenceIdeal.τ).loc Cert.KvGradReferenceIdeal.main_arg3) = m' ((c.tc : Thread Cert.KvGradReferenceIdeal.nD Cert.KvGradReferenceIdeal.τ).loc Cert.KvGradReferenceIdeal.main_arg3)
          ∧ r.2.mem ((c.tc : Thread Cert.KvGradReferenceIdeal.nD Cert.KvGradReferenceIdeal.τ).loc Cert.KvGradReferenceIdeal.main_arg4) = m' ((c.tc : Thread Cert.KvGradReferenceIdeal.nD Cert.KvGradReferenceIdeal.τ).loc Cert.KvGradReferenceIdeal.main_arg4)
          ∧ r.2.mem ((c.tc : Thread Cert.KvGradReferenceIdeal.nD Cert.KvGradReferenceIdeal.τ).loc Cert.KvGradReferenceIdeal.main_arg5) = m' ((c.tc : Thread Cert.KvGradReferenceIdeal.nD Cert.KvGradReferenceIdeal.τ).loc Cert.KvGradReferenceIdeal.main_arg5))

def preserves_AdamwIn_AdamwInIdeal : Prop :=
  True

def algebraic_AdamwInIdeal_AdamwInReferenceIdeal [hAdamwInIdeal : Cert.AdamwInIdeal.Facts] [hAdamwInReferenceIdeal : Cert.AdamwInReferenceIdeal.Facts] : Prop :=
  ∀ (m : (ℓ : Loc Cert.AdamwInIdeal.nD Cert.AdamwInIdeal.τ Cert.AdamwInIdeal.sig) → Buf (Elt Ideal) ℓ) (g : Dev Cert.AdamwInIdeal.nD → PrngReg)
    (m' : (ℓ : Loc Cert.AdamwInReferenceIdeal.nD Cert.AdamwInReferenceIdeal.τ Cert.AdamwInReferenceIdeal.sig) → Buf (Elt Ideal) ℓ) (g' : Dev Cert.AdamwInReferenceIdeal.nD → PrngReg), Pre_AdamwInIdeal m →
    (∀ c : Dev Cert.AdamwInIdeal.nD,
      m' ((c.tc : Thread Cert.AdamwInReferenceIdeal.nD Cert.AdamwInReferenceIdeal.τ).loc Cert.AdamwInReferenceIdeal.main_arg0) = m ((c.tc : Thread Cert.AdamwInIdeal.nD Cert.AdamwInIdeal.τ).loc Cert.AdamwInIdeal.main_arg0)
      ∧ m' ((c.tc : Thread Cert.AdamwInReferenceIdeal.nD Cert.AdamwInReferenceIdeal.τ).loc Cert.AdamwInReferenceIdeal.main_arg1) = m ((c.tc : Thread Cert.AdamwInIdeal.nD Cert.AdamwInIdeal.τ).loc Cert.AdamwInIdeal.main_arg1)
      ∧ m' ((c.tc : Thread Cert.AdamwInReferenceIdeal.nD Cert.AdamwInReferenceIdeal.τ).loc Cert.AdamwInReferenceIdeal.main_arg2) = m ((c.tc : Thread Cert.AdamwInIdeal.nD Cert.AdamwInIdeal.τ).loc Cert.AdamwInIdeal.main_arg2)
      ∧ m' ((c.tc : Thread Cert.AdamwInReferenceIdeal.nD Cert.AdamwInReferenceIdeal.τ).loc Cert.AdamwInReferenceIdeal.main_arg3) = m ((c.tc : Thread Cert.AdamwInIdeal.nD Cert.AdamwInIdeal.τ).loc Cert.AdamwInIdeal.main_arg3)) →
    ∃ (v0 : (c : Dev Cert.AdamwInIdeal.nD) → Buf (Elt Ideal) ((c.tc : Thread Cert.AdamwInIdeal.nD Cert.AdamwInIdeal.τ).loc Cert.AdamwInIdeal.main_v0_0)) (v1 : (c : Dev Cert.AdamwInIdeal.nD) → Buf (Elt Ideal) ((c.tc : Thread Cert.AdamwInIdeal.nD Cert.AdamwInIdeal.τ).loc Cert.AdamwInIdeal.main_v0_1)) (v2 : (c : Dev Cert.AdamwInIdeal.nD) → Buf (Elt Ideal) ((c.tc : Thread Cert.AdamwInIdeal.nD Cert.AdamwInIdeal.τ).loc Cert.AdamwInIdeal.main_v0_2)) (v3 : (c : Dev Cert.AdamwInIdeal.nD) → Buf (Elt Ideal) ((c.tc : Thread Cert.AdamwInIdeal.nD Cert.AdamwInIdeal.τ).loc Cert.AdamwInIdeal.main_v0_3)),
      θ_run (Cert.AdamwInIdeal.defs (F := Ideal)) (onTc (τ := Cert.AdamwInIdeal.τ) (Cert.AdamwInIdeal.main (F := Ideal))) ⟨m, fun _ => 0, g⟩ (fun r => ∀ c : Dev Cert.AdamwInIdeal.nD,
          r.2.mem ((c.tc : Thread Cert.AdamwInIdeal.nD Cert.AdamwInIdeal.τ).loc Cert.AdamwInIdeal.main_v0_0) = v0 c
          ∧ r.2.mem ((c.tc : Thread Cert.AdamwInIdeal.nD Cert.AdamwInIdeal.τ).loc Cert.AdamwInIdeal.main_v0_1) = v1 c
          ∧ r.2.mem ((c.tc : Thread Cert.AdamwInIdeal.nD Cert.AdamwInIdeal.τ).loc Cert.AdamwInIdeal.main_v0_2) = v2 c
          ∧ r.2.mem ((c.tc : Thread Cert.AdamwInIdeal.nD Cert.AdamwInIdeal.τ).loc Cert.AdamwInIdeal.main_v0_3) = v3 c
          ∧ r.2.mem ((c.tc : Thread Cert.AdamwInIdeal.nD Cert.AdamwInIdeal.τ).loc Cert.AdamwInIdeal.main_arg0) = m ((c.tc : Thread Cert.AdamwInIdeal.nD Cert.AdamwInIdeal.τ).loc Cert.AdamwInIdeal.main_arg0)
          ∧ r.2.mem ((c.tc : Thread Cert.AdamwInIdeal.nD Cert.AdamwInIdeal.τ).loc Cert.AdamwInIdeal.main_arg1) = m ((c.tc : Thread Cert.AdamwInIdeal.nD Cert.AdamwInIdeal.τ).loc Cert.AdamwInIdeal.main_arg1)
          ∧ r.2.mem ((c.tc : Thread Cert.AdamwInIdeal.nD Cert.AdamwInIdeal.τ).loc Cert.AdamwInIdeal.main_arg2) = m ((c.tc : Thread Cert.AdamwInIdeal.nD Cert.AdamwInIdeal.τ).loc Cert.AdamwInIdeal.main_arg2)
          ∧ r.2.mem ((c.tc : Thread Cert.AdamwInIdeal.nD Cert.AdamwInIdeal.τ).loc Cert.AdamwInIdeal.main_arg3) = m ((c.tc : Thread Cert.AdamwInIdeal.nD Cert.AdamwInIdeal.τ).loc Cert.AdamwInIdeal.main_arg3))
      ∧ θ_run (Cert.AdamwInReferenceIdeal.defs (F := Ideal)) (onTc (τ := Cert.AdamwInReferenceIdeal.τ) (Cert.AdamwInReferenceIdeal.main (F := Ideal))) ⟨m', fun _ => 0, g'⟩ (fun r => ∀ c : Dev Cert.AdamwInReferenceIdeal.nD,
          r.2.mem ((c.tc : Thread Cert.AdamwInReferenceIdeal.nD Cert.AdamwInReferenceIdeal.τ).loc Cert.AdamwInReferenceIdeal.main_v23) = v0 c
          ∧ r.2.mem ((c.tc : Thread Cert.AdamwInReferenceIdeal.nD Cert.AdamwInReferenceIdeal.τ).loc Cert.AdamwInReferenceIdeal.main_v4) = v1 c
          ∧ r.2.mem ((c.tc : Thread Cert.AdamwInReferenceIdeal.nD Cert.AdamwInReferenceIdeal.τ).loc Cert.AdamwInReferenceIdeal.main_v10) = v2 c
          ∧ r.2.mem ((c.tc : Thread Cert.AdamwInReferenceIdeal.nD Cert.AdamwInReferenceIdeal.τ).loc Cert.AdamwInReferenceIdeal.main_arg1) = v3 c
          ∧ r.2.mem ((c.tc : Thread Cert.AdamwInReferenceIdeal.nD Cert.AdamwInReferenceIdeal.τ).loc Cert.AdamwInReferenceIdeal.main_arg0) = m' ((c.tc : Thread Cert.AdamwInReferenceIdeal.nD Cert.AdamwInReferenceIdeal.τ).loc Cert.AdamwInReferenceIdeal.main_arg0)
          ∧ r.2.mem ((c.tc : Thread Cert.AdamwInReferenceIdeal.nD Cert.AdamwInReferenceIdeal.τ).loc Cert.AdamwInReferenceIdeal.main_arg1) = m' ((c.tc : Thread Cert.AdamwInReferenceIdeal.nD Cert.AdamwInReferenceIdeal.τ).loc Cert.AdamwInReferenceIdeal.main_arg1)
          ∧ r.2.mem ((c.tc : Thread Cert.AdamwInReferenceIdeal.nD Cert.AdamwInReferenceIdeal.τ).loc Cert.AdamwInReferenceIdeal.main_arg2) = m' ((c.tc : Thread Cert.AdamwInReferenceIdeal.nD Cert.AdamwInReferenceIdeal.τ).loc Cert.AdamwInReferenceIdeal.main_arg2)
          ∧ r.2.mem ((c.tc : Thread Cert.AdamwInReferenceIdeal.nD Cert.AdamwInReferenceIdeal.τ).loc Cert.AdamwInReferenceIdeal.main_arg3) = m' ((c.tc : Thread Cert.AdamwInReferenceIdeal.nD Cert.AdamwInReferenceIdeal.τ).loc Cert.AdamwInReferenceIdeal.main_arg3))

def preserves_AttnBwd_AttnBwdIdeal : Prop :=
  IdealRules.named_const.Statement Cert.AttnBwdIdeal.κ "mask" .f32 0xF149F2CA#32 ⊥

def algebraic_AttnBwdIdeal_AttnBwdReferenceIdeal_pre_finite_bwd [hAttnBwdIdeal : Cert.AttnBwdIdeal.Facts] [hAttnBwdReferenceIdeal : Cert.AttnBwdReferenceIdeal.Facts] [hPre_finite_bwd : Cert.Pre_finite_bwd.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg)
    (m' : (ℓ : Loc Cert.AttnBwdReferenceIdeal.nD Cert.AttnBwdReferenceIdeal.τ Cert.AttnBwdReferenceIdeal.sig) → Buf (Elt Ideal) ℓ) (g' : Dev Cert.AttnBwdReferenceIdeal.nD → PrngReg), Pre_AttnBwdIdeal_finite_bwd m →
    (∀ c : Dev Cert.AttnBwdIdeal.nD,
      m' ((c.tc : Thread Cert.AttnBwdReferenceIdeal.nD Cert.AttnBwdReferenceIdeal.τ).loc Cert.AttnBwdReferenceIdeal.main_arg0) = m ((c.tc : Thread Cert.AttnBwdIdeal.nD Cert.AttnBwdIdeal.τ).loc Cert.AttnBwdIdeal.main_arg0)
      ∧ m' ((c.tc : Thread Cert.AttnBwdReferenceIdeal.nD Cert.AttnBwdReferenceIdeal.τ).loc Cert.AttnBwdReferenceIdeal.main_arg1) = m ((c.tc : Thread Cert.AttnBwdIdeal.nD Cert.AttnBwdIdeal.τ).loc Cert.AttnBwdIdeal.main_arg1)
      ∧ m' ((c.tc : Thread Cert.AttnBwdReferenceIdeal.nD Cert.AttnBwdReferenceIdeal.τ).loc Cert.AttnBwdReferenceIdeal.main_arg2) = m ((c.tc : Thread Cert.AttnBwdIdeal.nD Cert.AttnBwdIdeal.τ).loc Cert.AttnBwdIdeal.main_arg2)
      ∧ m' ((c.tc : Thread Cert.AttnBwdReferenceIdeal.nD Cert.AttnBwdReferenceIdeal.τ).loc Cert.AttnBwdReferenceIdeal.main_arg3) = m ((c.tc : Thread Cert.AttnBwdIdeal.nD Cert.AttnBwdIdeal.τ).loc Cert.AttnBwdIdeal.main_arg3)
      ∧ m' ((c.tc : Thread Cert.AttnBwdReferenceIdeal.nD Cert.AttnBwdReferenceIdeal.τ).loc Cert.AttnBwdReferenceIdeal.main_arg4) = m ((c.tc : Thread Cert.AttnBwdIdeal.nD Cert.AttnBwdIdeal.τ).loc Cert.AttnBwdIdeal.main_arg4)
      ∧ m' ((c.tc : Thread Cert.AttnBwdReferenceIdeal.nD Cert.AttnBwdReferenceIdeal.τ).loc Cert.AttnBwdReferenceIdeal.main_arg5) = m ((c.tc : Thread Cert.AttnBwdIdeal.nD Cert.AttnBwdIdeal.τ).loc Cert.AttnBwdIdeal.main_arg5)) →
    ∃ (v0 : (c : Dev Cert.AttnBwdIdeal.nD) → Buf (Elt Ideal) ((c.tc : Thread Cert.AttnBwdIdeal.nD Cert.AttnBwdIdeal.τ).loc Cert.AttnBwdIdeal.main_v10_0)) (v1 : (c : Dev Cert.AttnBwdIdeal.nD) → Buf (Elt Ideal) ((c.tc : Thread Cert.AttnBwdIdeal.nD Cert.AttnBwdIdeal.τ).loc Cert.AttnBwdIdeal.main_v10_1)) (v2 : (c : Dev Cert.AttnBwdIdeal.nD) → Buf (Elt Ideal) ((c.tc : Thread Cert.AttnBwdIdeal.nD Cert.AttnBwdIdeal.τ).loc Cert.AttnBwdIdeal.main_v10_2)) (v3 : (c : Dev Cert.AttnBwdIdeal.nD) → Buf (Elt Ideal) ((c.tc : Thread Cert.AttnBwdIdeal.nD Cert.AttnBwdIdeal.τ).loc Cert.AttnBwdIdeal.main_v10_3)) (v4 : (c : Dev Cert.AttnBwdIdeal.nD) → Buf (Elt Ideal) ((c.tc : Thread Cert.AttnBwdIdeal.nD Cert.AttnBwdIdeal.τ).loc Cert.AttnBwdIdeal.main_v10_4)) (v5 : (c : Dev Cert.AttnBwdIdeal.nD) → Buf (Elt Ideal) ((c.tc : Thread Cert.AttnBwdIdeal.nD Cert.AttnBwdIdeal.τ).loc Cert.AttnBwdIdeal.main_v10_5)),
      θ_run (Cert.AttnBwdIdeal.defs (F := Ideal)) (onTc (τ := Cert.AttnBwdIdeal.τ) (Cert.AttnBwdIdeal.main (F := Ideal))) ⟨m, fun _ => 0, g⟩ (fun r => ∀ c : Dev Cert.AttnBwdIdeal.nD,
          r.2.mem ((c.tc : Thread Cert.AttnBwdIdeal.nD Cert.AttnBwdIdeal.τ).loc Cert.AttnBwdIdeal.main_v10_0) = v0 c
          ∧ r.2.mem ((c.tc : Thread Cert.AttnBwdIdeal.nD Cert.AttnBwdIdeal.τ).loc Cert.AttnBwdIdeal.main_v10_1) = v1 c
          ∧ r.2.mem ((c.tc : Thread Cert.AttnBwdIdeal.nD Cert.AttnBwdIdeal.τ).loc Cert.AttnBwdIdeal.main_v10_2) = v2 c
          ∧ r.2.mem ((c.tc : Thread Cert.AttnBwdIdeal.nD Cert.AttnBwdIdeal.τ).loc Cert.AttnBwdIdeal.main_v10_3) = v3 c
          ∧ r.2.mem ((c.tc : Thread Cert.AttnBwdIdeal.nD Cert.AttnBwdIdeal.τ).loc Cert.AttnBwdIdeal.main_v10_4) = v4 c
          ∧ r.2.mem ((c.tc : Thread Cert.AttnBwdIdeal.nD Cert.AttnBwdIdeal.τ).loc Cert.AttnBwdIdeal.main_v10_5) = v5 c
          ∧ r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
          ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
          ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
          ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
          ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
          ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5))
      ∧ θ_run (Cert.AttnBwdReferenceIdeal.defs (F := Ideal)) (onTc (τ := Cert.AttnBwdReferenceIdeal.τ) (Cert.AttnBwdReferenceIdeal.main (F := Ideal))) ⟨m', fun _ => 0, g'⟩ (fun r => ∀ c : Dev Cert.AttnBwdReferenceIdeal.nD,
          r.2.mem ((c.tc : Thread Cert.AttnBwdReferenceIdeal.nD Cert.AttnBwdReferenceIdeal.τ).loc Cert.AttnBwdReferenceIdeal.main_v204) = v0 c
          ∧ r.2.mem ((c.tc : Thread Cert.AttnBwdReferenceIdeal.nD Cert.AttnBwdReferenceIdeal.τ).loc Cert.AttnBwdReferenceIdeal.main_v183) = v1 c
          ∧ r.2.mem ((c.tc : Thread Cert.AttnBwdReferenceIdeal.nD Cert.AttnBwdReferenceIdeal.τ).loc Cert.AttnBwdReferenceIdeal.main_v182) = v2 c
          ∧ r.2.mem ((c.tc : Thread Cert.AttnBwdReferenceIdeal.nD Cert.AttnBwdReferenceIdeal.τ).loc Cert.AttnBwdReferenceIdeal.main_v181) = v3 c
          ∧ r.2.mem ((c.tc : Thread Cert.AttnBwdReferenceIdeal.nD Cert.AttnBwdReferenceIdeal.τ).loc Cert.AttnBwdReferenceIdeal.main_v180) = v4 c
          ∧ r.2.mem ((c.tc : Thread Cert.AttnBwdReferenceIdeal.nD Cert.AttnBwdReferenceIdeal.τ).loc Cert.AttnBwdReferenceIdeal.main_v206) = v5 c
          ∧ r.2.mem ((c.tc : Thread Cert.AttnBwdReferenceIdeal.nD Cert.AttnBwdReferenceIdeal.τ).loc Cert.AttnBwdReferenceIdeal.main_arg0) = m' ((c.tc : Thread Cert.AttnBwdReferenceIdeal.nD Cert.AttnBwdReferenceIdeal.τ).loc Cert.AttnBwdReferenceIdeal.main_arg0)
          ∧ r.2.mem ((c.tc : Thread Cert.AttnBwdReferenceIdeal.nD Cert.AttnBwdReferenceIdeal.τ).loc Cert.AttnBwdReferenceIdeal.main_arg1) = m' ((c.tc : Thread Cert.AttnBwdReferenceIdeal.nD Cert.AttnBwdReferenceIdeal.τ).loc Cert.AttnBwdReferenceIdeal.main_arg1)
          ∧ r.2.mem ((c.tc : Thread Cert.AttnBwdReferenceIdeal.nD Cert.AttnBwdReferenceIdeal.τ).loc Cert.AttnBwdReferenceIdeal.main_arg2) = m' ((c.tc : Thread Cert.AttnBwdReferenceIdeal.nD Cert.AttnBwdReferenceIdeal.τ).loc Cert.AttnBwdReferenceIdeal.main_arg2)
          ∧ r.2.mem ((c.tc : Thread Cert.AttnBwdReferenceIdeal.nD Cert.AttnBwdReferenceIdeal.τ).loc Cert.AttnBwdReferenceIdeal.main_arg3) = m' ((c.tc : Thread Cert.AttnBwdReferenceIdeal.nD Cert.AttnBwdReferenceIdeal.τ).loc Cert.AttnBwdReferenceIdeal.main_arg3)
          ∧ r.2.mem ((c.tc : Thread Cert.AttnBwdReferenceIdeal.nD Cert.AttnBwdReferenceIdeal.τ).loc Cert.AttnBwdReferenceIdeal.main_arg4) = m' ((c.tc : Thread Cert.AttnBwdReferenceIdeal.nD Cert.AttnBwdReferenceIdeal.τ).loc Cert.AttnBwdReferenceIdeal.main_arg4)
          ∧ r.2.mem ((c.tc : Thread Cert.AttnBwdReferenceIdeal.nD Cert.AttnBwdReferenceIdeal.τ).loc Cert.AttnBwdReferenceIdeal.main_arg5) = m' ((c.tc : Thread Cert.AttnBwdReferenceIdeal.nD Cert.AttnBwdReferenceIdeal.τ).loc Cert.AttnBwdReferenceIdeal.main_arg5))

def Claim : Prop :=
  ∃ (hMerge : Cert.Merge.Facts) (hMergeIdeal : Cert.MergeIdeal.Facts) (hMergeReferenceIdeal : Cert.MergeReferenceIdeal.Facts) (hSwiglu : Cert.Swiglu.Facts) (hSwigluIdeal : Cert.SwigluIdeal.Facts) (hSwigluReferenceIdeal : Cert.SwigluReferenceIdeal.Facts) (hDwDown : Cert.DwDown.Facts) (hDwDownIdeal : Cert.DwDownIdeal.Facts) (hDwDownReferenceIdeal : Cert.DwDownReferenceIdeal.Facts) (hDwSquare : Cert.DwSquare.Facts) (hDwSquareIdeal : Cert.DwSquareIdeal.Facts) (hDwSquareReferenceIdeal : Cert.DwSquareReferenceIdeal.Facts) (hConvBwd : Cert.ConvBwd.Facts) (hConvBwdIdeal : Cert.ConvBwdIdeal.Facts) (hConvBwdReferenceIdeal : Cert.ConvBwdReferenceIdeal.Facts) (hDwGateUp : Cert.DwGateUp.Facts) (hDwGateUpIdeal : Cert.DwGateUpIdeal.Facts) (hDwGateUpReferenceIdeal : Cert.DwGateUpReferenceIdeal.Facts) (hDh2 : Cert.Dh2.Facts) (hDh2Ideal : Cert.Dh2Ideal.Facts) (hDh2ReferenceIdeal : Cert.Dh2ReferenceIdeal.Facts) (hDh1 : Cert.Dh1.Facts) (hDh1Ideal : Cert.Dh1Ideal.Facts) (hDh1ReferenceIdeal : Cert.Dh1ReferenceIdeal.Facts) (hNormFfnBwd : Cert.NormFfnBwd.Facts) (hNormFfnBwdIdeal : Cert.NormFfnBwdIdeal.Facts) (hNormFfnBwdReferenceIdeal : Cert.NormFfnBwdReferenceIdeal.Facts) (hNormMixBwd : Cert.NormMixBwd.Facts) (hNormMixBwdIdeal : Cert.NormMixBwdIdeal.Facts) (hNormMixBwdReferenceIdeal : Cert.NormMixBwdReferenceIdeal.Facts) (hDownLoss : Cert.DownLoss.Facts) (hDownLossIdeal : Cert.DownLossIdeal.Facts) (hDownLossReferenceIdeal : Cert.DownLossReferenceIdeal.Facts) (hNorm : Cert.Norm.Facts) (hNormIdeal : Cert.NormIdeal.Facts) (hNormReferenceIdeal : Cert.NormReferenceIdeal.Facts) (hConvFwd : Cert.ConvFwd.Facts) (hConvFwdIdeal : Cert.ConvFwdIdeal.Facts) (hConvFwdReferenceIdeal : Cert.ConvFwdReferenceIdeal.Facts) (hBranches : Cert.Branches.Facts) (hBranchesIdeal : Cert.BranchesIdeal.Facts) (hBranchesReferenceIdeal : Cert.BranchesReferenceIdeal.Facts) (hOutNorm : Cert.OutNorm.Facts) (hOutNormIdeal : Cert.OutNormIdeal.Facts) (hOutNormReferenceIdeal : Cert.OutNormReferenceIdeal.Facts) (hGateUp : Cert.GateUp.Facts) (hGateUpIdeal : Cert.GateUpIdeal.Facts) (hGateUpReferenceIdeal : Cert.GateUpReferenceIdeal.Facts) (hKvGrad : Cert.KvGrad.Facts) (hKvGradIdeal : Cert.KvGradIdeal.Facts) (hKvGradReferenceIdeal : Cert.KvGradReferenceIdeal.Facts) (hAdamwIn : Cert.AdamwIn.Facts) (hAdamwInIdeal : Cert.AdamwInIdeal.Facts) (hAdamwInReferenceIdeal : Cert.AdamwInReferenceIdeal.Facts) (hAttnBwd : Cert.AttnBwd.Facts) (hAttnBwdIdeal : Cert.AttnBwdIdeal.Facts) (hAttnBwdReferenceIdeal : Cert.AttnBwdReferenceIdeal.Facts) (hPre_finite_bwd : Cert.Pre_finite_bwd.Facts),
    quiescent_Merge (hMerge := hMerge)
    ∧ quiescent_MergeIdeal (hMergeIdeal := hMergeIdeal)
    ∧ quiescent_MergeReferenceIdeal (hMergeReferenceIdeal := hMergeReferenceIdeal)
    ∧ quiescent_Swiglu (hSwiglu := hSwiglu)
    ∧ quiescent_SwigluIdeal (hSwigluIdeal := hSwigluIdeal)
    ∧ quiescent_SwigluReferenceIdeal (hSwigluReferenceIdeal := hSwigluReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_DwSquare (hDwSquare := hDwSquare)
    ∧ quiescent_DwSquareIdeal (hDwSquareIdeal := hDwSquareIdeal)
    ∧ quiescent_DwSquareReferenceIdeal (hDwSquareReferenceIdeal := hDwSquareReferenceIdeal)
    ∧ quiescent_ConvBwd (hConvBwd := hConvBwd)
    ∧ quiescent_ConvBwdIdeal (hConvBwdIdeal := hConvBwdIdeal)
    ∧ quiescent_ConvBwdReferenceIdeal (hConvBwdReferenceIdeal := hConvBwdReferenceIdeal)
    ∧ quiescent_DwGateUp (hDwGateUp := hDwGateUp)
    ∧ quiescent_DwGateUpIdeal (hDwGateUpIdeal := hDwGateUpIdeal)
    ∧ quiescent_DwGateUpReferenceIdeal (hDwGateUpReferenceIdeal := hDwGateUpReferenceIdeal)
    ∧ quiescent_Dh2 (hDh2 := hDh2)
    ∧ quiescent_Dh2Ideal (hDh2Ideal := hDh2Ideal)
    ∧ quiescent_Dh2ReferenceIdeal (hDh2ReferenceIdeal := hDh2ReferenceIdeal)
    ∧ quiescent_Dh1 (hDh1 := hDh1)
    ∧ quiescent_Dh1Ideal (hDh1Ideal := hDh1Ideal)
    ∧ quiescent_Dh1ReferenceIdeal (hDh1ReferenceIdeal := hDh1ReferenceIdeal)
    ∧ quiescent_NormFfnBwd (hNormFfnBwd := hNormFfnBwd)
    ∧ quiescent_NormFfnBwdIdeal (hNormFfnBwdIdeal := hNormFfnBwdIdeal)
    ∧ quiescent_NormFfnBwdReferenceIdeal (hNormFfnBwdReferenceIdeal := hNormFfnBwdReferenceIdeal)
    ∧ quiescent_NormMixBwd (hNormMixBwd := hNormMixBwd)
    ∧ quiescent_NormMixBwdIdeal (hNormMixBwdIdeal := hNormMixBwdIdeal)
    ∧ quiescent_NormMixBwdReferenceIdeal (hNormMixBwdReferenceIdeal := hNormMixBwdReferenceIdeal)
    ∧ quiescent_DownLoss (hDownLoss := hDownLoss)
    ∧ quiescent_DownLossIdeal (hDownLossIdeal := hDownLossIdeal)
    ∧ quiescent_DownLossReferenceIdeal (hDownLossReferenceIdeal := hDownLossReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_ConvFwd (hConvFwd := hConvFwd)
    ∧ quiescent_ConvFwdIdeal (hConvFwdIdeal := hConvFwdIdeal)
    ∧ quiescent_ConvFwdReferenceIdeal (hConvFwdReferenceIdeal := hConvFwdReferenceIdeal)
    ∧ quiescent_Branches (hBranches := hBranches)
    ∧ quiescent_BranchesIdeal (hBranchesIdeal := hBranchesIdeal)
    ∧ quiescent_BranchesReferenceIdeal (hBranchesReferenceIdeal := hBranchesReferenceIdeal)
    ∧ quiescent_OutNorm (hOutNorm := hOutNorm)
    ∧ quiescent_OutNormIdeal (hOutNormIdeal := hOutNormIdeal)
    ∧ quiescent_OutNormReferenceIdeal (hOutNormReferenceIdeal := hOutNormReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ quiescent_KvGrad (hKvGrad := hKvGrad)
    ∧ quiescent_KvGradIdeal (hKvGradIdeal := hKvGradIdeal)
    ∧ quiescent_KvGradReferenceIdeal (hKvGradReferenceIdeal := hKvGradReferenceIdeal)
    ∧ quiescent_AdamwIn (hAdamwIn := hAdamwIn)
    ∧ quiescent_AdamwInIdeal (hAdamwInIdeal := hAdamwInIdeal)
    ∧ quiescent_AdamwInReferenceIdeal (hAdamwInReferenceIdeal := hAdamwInReferenceIdeal)
    ∧ quiescent_AttnBwd (hAttnBwd := hAttnBwd)
    ∧ quiescent_AttnBwdIdeal (hAttnBwdIdeal := hAttnBwdIdeal)
    ∧ quiescent_AttnBwdIdeal_pre_finite_bwd (hAttnBwdIdeal := hAttnBwdIdeal) (hPre_finite_bwd := hPre_finite_bwd)
    ∧ quiescent_AttnBwdReferenceIdeal (hAttnBwdReferenceIdeal := hAttnBwdReferenceIdeal)
    ∧ quiescent_AttnBwdReferenceIdeal_pre_finite_bwd (hAttnBwdReferenceIdeal := hAttnBwdReferenceIdeal) (hPre_finite_bwd := hPre_finite_bwd)
    ∧ preserves_Merge_MergeIdeal
    ∧ algebraic_MergeIdeal_MergeReferenceIdeal (hMergeIdeal := hMergeIdeal) (hMergeReferenceIdeal := hMergeReferenceIdeal)
    ∧ preserves_Swiglu_SwigluIdeal
    ∧ algebraic_SwigluIdeal_SwigluReferenceIdeal (hSwigluIdeal := hSwigluIdeal) (hSwigluReferenceIdeal := hSwigluReferenceIdeal)
    ∧ preserves_DwDown_DwDownIdeal
    ∧ algebraic_DwDownIdeal_DwDownReferenceIdeal (hDwDownIdeal := hDwDownIdeal) (hDwDownReferenceIdeal := hDwDownReferenceIdeal)
    ∧ preserves_DwSquare_DwSquareIdeal
    ∧ algebraic_DwSquareIdeal_DwSquareReferenceIdeal (hDwSquareIdeal := hDwSquareIdeal) (hDwSquareReferenceIdeal := hDwSquareReferenceIdeal)
    ∧ preserves_ConvBwd_ConvBwdIdeal
    ∧ algebraic_ConvBwdIdeal_ConvBwdReferenceIdeal (hConvBwdIdeal := hConvBwdIdeal) (hConvBwdReferenceIdeal := hConvBwdReferenceIdeal)
    ∧ preserves_DwGateUp_DwGateUpIdeal
    ∧ algebraic_DwGateUpIdeal_DwGateUpReferenceIdeal (hDwGateUpIdeal := hDwGateUpIdeal) (hDwGateUpReferenceIdeal := hDwGateUpReferenceIdeal)
    ∧ preserves_Dh2_Dh2Ideal
    ∧ algebraic_Dh2Ideal_Dh2ReferenceIdeal (hDh2Ideal := hDh2Ideal) (hDh2ReferenceIdeal := hDh2ReferenceIdeal)
    ∧ preserves_Dh1_Dh1Ideal
    ∧ algebraic_Dh1Ideal_Dh1ReferenceIdeal (hDh1Ideal := hDh1Ideal) (hDh1ReferenceIdeal := hDh1ReferenceIdeal)
    ∧ preserves_NormFfnBwd_NormFfnBwdIdeal
    ∧ algebraic_NormFfnBwdIdeal_NormFfnBwdReferenceIdeal (hNormFfnBwdIdeal := hNormFfnBwdIdeal) (hNormFfnBwdReferenceIdeal := hNormFfnBwdReferenceIdeal)
    ∧ preserves_NormMixBwd_NormMixBwdIdeal
    ∧ algebraic_NormMixBwdIdeal_NormMixBwdReferenceIdeal (hNormMixBwdIdeal := hNormMixBwdIdeal) (hNormMixBwdReferenceIdeal := hNormMixBwdReferenceIdeal)
    ∧ preserves_DownLoss_DownLossIdeal
    ∧ algebraic_DownLossIdeal_DownLossReferenceIdeal (hDownLossIdeal := hDownLossIdeal) (hDownLossReferenceIdeal := hDownLossReferenceIdeal)
    ∧ preserves_Norm_NormIdeal
    ∧ algebraic_NormIdeal_NormReferenceIdeal (hNormIdeal := hNormIdeal) (hNormReferenceIdeal := hNormReferenceIdeal)
    ∧ preserves_ConvFwd_ConvFwdIdeal
    ∧ algebraic_ConvFwdIdeal_ConvFwdReferenceIdeal (hConvFwdIdeal := hConvFwdIdeal) (hConvFwdReferenceIdeal := hConvFwdReferenceIdeal)
    ∧ preserves_Branches_BranchesIdeal
    ∧ algebraic_BranchesIdeal_BranchesReferenceIdeal (hBranchesIdeal := hBranchesIdeal) (hBranchesReferenceIdeal := hBranchesReferenceIdeal)
    ∧ preserves_OutNorm_OutNormIdeal
    ∧ algebraic_OutNormIdeal_OutNormReferenceIdeal (hOutNormIdeal := hOutNormIdeal) (hOutNormReferenceIdeal := hOutNormReferenceIdeal)
    ∧ preserves_GateUp_GateUpIdeal
    ∧ algebraic_GateUpIdeal_GateUpReferenceIdeal (hGateUpIdeal := hGateUpIdeal) (hGateUpReferenceIdeal := hGateUpReferenceIdeal)
    ∧ preserves_KvGrad_KvGradIdeal
    ∧ algebraic_KvGradIdeal_KvGradReferenceIdeal (hKvGradIdeal := hKvGradIdeal) (hKvGradReferenceIdeal := hKvGradReferenceIdeal)
    ∧ preserves_AdamwIn_AdamwInIdeal
    ∧ algebraic_AdamwInIdeal_AdamwInReferenceIdeal (hAdamwInIdeal := hAdamwInIdeal) (hAdamwInReferenceIdeal := hAdamwInReferenceIdeal)
    ∧ preserves_AttnBwd_AttnBwdIdeal
    ∧ algebraic_AttnBwdIdeal_AttnBwdReferenceIdeal_pre_finite_bwd (hAttnBwdIdeal := hAttnBwdIdeal) (hAttnBwdReferenceIdeal := hAttnBwdReferenceIdeal) (hPre_finite_bwd := hPre_finite_bwd)
-- ==== Pre_finite_bwd.lean ====
abbrev S2048x6656 : Shape := ⟨2, ![2048, 6656]⟩
abbrev S2048x1024 : Shape := ⟨2, ![2048, 1024]⟩
abbrev S1024x1024 : Shape := ⟨2, ![1024, 1024]⟩
abbrev S1x16 : Shape := ⟨2, ![1, 16]⟩
abbrev S2048x8 : Shape := ⟨2, ![2048, 8]⟩
abbrev S_ : Shape := ⟨0, ![]⟩

class Facts : Prop where
  bcast_S_S2048x6656 : S_.BroadcastsInDim S2048x6656 (![] : Fin 0 → Fin S2048x6656.rank)
  bitsLt_bf16_f32 : FTy.bits .bf16 < FTy.bits .f32
  bcast_S_S2048x1024 : S_.BroadcastsInDim S2048x1024 (![] : Fin 0 → Fin S2048x1024.rank)
  bcast_S_S1024x1024 : S_.BroadcastsInDim S1024x1024 (![] : Fin 0 → Fin S1024x1024.rank)
  bcast_S_S1x16 : S_.BroadcastsInDim S1x16 (![] : Fin 0 → Fin S1x16.rank)
  bcast_S_S2048x8 : S_.BroadcastsInDim S2048x8 (![] : Fin 0 → Fin S2048x8.rank)

variable [Facts]

def fn_part1 {F : FTy → Type} [FloatOps F] (main_v2 : IVec S2048x6656 1) (main_v6 : IVec S2048x1024 1) (main_v10 : IVec S1024x1024 1) (main_v13 : IVec S1x16 1) (main_v16 : IVec S2048x8 1) (main_v17 : FVec F S2048x8 .f32) (main_cst_4 : FVec F S_ .f32) : IVec S2048x6656 1 × IVec S2048x1024 1 × IVec S1024x1024 1 × IVec S1x16 1 × IVec S2048x8 1 × IVec S2048x8 1 :=
  let main_v18 : FVec F S2048x8 .f32 := broadcastInDim S2048x8 ![] bcast_S_S2048x8 main_cst_4
  let main_v19 : IVec S2048x8 1 := cmpf .olt main_v17 main_v18
  (main_v2, main_v6, main_v10, main_v13, main_v16, main_v19)

def fn {F : FTy → Type} [FloatOps F] (main_arg0 : FVec F S2048x6656 .f32) (main_arg1 : FVec F S2048x1024 .bf16) (main_arg2 : FVec F S1024x1024 .bf16) (main_arg3 : FVec F S1x16 .f32) (main_arg4 : FVec F S2048x8 .f32) (main_arg5 : FVec F S2048x8 .f32) : IVec S2048x6656 1 × IVec S2048x1024 1 × IVec S1024x1024 1 × IVec S1x16 1 × IVec S2048x8 1 × IVec S2048x8 1 :=
  let main_v0 : FVec F S2048x6656 .f32 := Host.absf main_arg0
  let main_cst : FVec F S_ .f32 := constant S_ .f32 0x7F800000#32
  let main_v1 : FVec F S2048x6656 .f32 := broadcastInDim S2048x6656 ![] bcast_S_S2048x6656 main_cst
  let main_v2 : IVec S2048x6656 1 := cmpf .olt main_v0 main_v1
  let main_v3 : FVec F S2048x1024 .f32 := (extf .f32 · bitsLt_bf16_f32) main_arg1
  let main_v4 : FVec F S2048x1024 .f32 := Host.absf main_v3
  let main_cst_0 : FVec F S_ .f32 := constant S_ .f32 0x7F800000#32
  let main_v5 : FVec F S2048x1024 .f32 := broadcastInDim S2048x1024 ![] bcast_S_S2048x1024 main_cst_0
  let main_v6 : IVec S2048x1024 1 := cmpf .olt main_v4 main_v5
  let main_v7 : FVec F S1024x1024 .f32 := (extf .f32 · bitsLt_bf16_f32) main_arg2
  let main_v8 : FVec F S1024x1024 .f32 := Host.absf main_v7
  let main_cst_1 : FVec F S_ .f32 := constant S_ .f32 0x7F800000#32
  let main_v9 : FVec F S1024x1024 .f32 := broadcastInDim S1024x1024 ![] bcast_S_S1024x1024 main_cst_1
  let main_v10 : IVec S1024x1024 1 := cmpf .olt main_v8 main_v9
  let main_v11 : FVec F S1x16 .f32 := Host.absf main_arg3
  let main_cst_2 : FVec F S_ .f32 := constant S_ .f32 0x7F800000#32
  let main_v12 : FVec F S1x16 .f32 := broadcastInDim S1x16 ![] bcast_S_S1x16 main_cst_2
  let main_v13 : IVec S1x16 1 := cmpf .olt main_v11 main_v12
  let main_v14 : FVec F S2048x8 .f32 := Host.absf main_arg4
  let main_cst_3 : FVec F S_ .f32 := constant S_ .f32 0x7F800000#32
  let main_v15 : FVec F S2048x8 .f32 := broadcastInDim S2048x8 ![] bcast_S_S2048x8 main_cst_3
  let main_v16 : IVec S2048x8 1 := cmpf .olt main_v14 main_v15
  let main_v17 : FVec F S2048x8 .f32 := Host.absf main_arg5
  let main_cst_4 : FVec F S_ .f32 := constant S_ .f32 0x7F800000#32
  fn_part1 (F := F) main_v2 main_v6 main_v10 main_v13 main_v16 main_v17 main_cst_4
-- ==== Merge.lean ====
abbrev S2048x1024 : Shape := ⟨2, ![2048, 1024]⟩
abbrev S1024x1024 : Shape := ⟨2, ![1024, 1024]⟩
abbrev S2048x6656 : Shape := ⟨2, ![2048, 6656]⟩
abbrev S512x1024 : Shape := ⟨2, ![512, 1024]⟩
abbrev S1024x512 : Shape := ⟨2, ![1024, 512]⟩

abbrev nBuf : Space → Nat
  | .hbm => 9
  | .vmem => 20
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S2048x6656, .f32⟩
  | .hbm, ⟨5, _⟩ => ⟨S2048x1024, .bf16⟩
  | .hbm, ⟨6, _⟩ => ⟨S2048x1024, .bf16⟩
  | .hbm, ⟨7, _⟩ => ⟨S2048x1024, .bf16⟩
  | .hbm, ⟨8, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S1024x512, .bf16⟩
  | .local _ .vmem, ⟨19, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MergeReferenceIdeal.lean ====
abbrev S2048x1024 : Shape := ⟨2, ![2048, 1024]⟩
abbrev S1024x1024 : Shape := ⟨2, ![1024, 1024]⟩
abbrev S2048x6656 : Shape := ⟨2, ![2048, 6656]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S2048x1024, .f32⟩
  | .hbm, ⟨4, _⟩ => ⟨S2048x6656, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048x1024, .f32⟩
  | .hbm, ⟨11, _⟩ => ⟨S2048x1024, .f32⟩
  | .hbm, ⟨12, _⟩ => ⟨S_, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S_, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S2048x1024, .f32⟩
  | .hbm, ⟨34, _⟩ => ⟨S1024x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .bf16⟩
  | .hbm, ⟨45, _⟩ => ⟨S2048x1024, .bf16⟩
  | .hbm, ⟨46, _⟩ => ⟨S2048x1024, .bf16⟩
  | .hbm, ⟨47, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Swiglu.lean ====
abbrev S2048x1024 : Shape := ⟨2, ![2048, 1024]⟩
abbrev S2816x1024 : Shape := ⟨2, ![2816, 1024]⟩
abbrev S2048x2816 : Shape := ⟨2, ![2048, 2816]⟩
abbrev S512x1024 : Shape := ⟨2, ![512, 1024]⟩
abbrev S1408x1024 : Shape := ⟨2, ![1408, 1024]⟩
abbrev S512x1408 : Shape := ⟨2, ![512, 1408]⟩

abbrev nBuf : Space → Nat
  | .hbm => 6
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .hbm, ⟨3, _⟩ => ⟨S2048x2816, .f32⟩
  | .hbm, ⟨4, _⟩ => ⟨S2048x2816, .bf16⟩
  | .hbm, ⟨5, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1408x1024, .bf16⟩
  | .local _ .vmem, ⟨3, _⟩ => ⟨S1408x1024, .bf16⟩
  | .local _ .vmem, ⟨4, _⟩ => ⟨S512x1408, .f32⟩
  | .local _ .vmem, ⟨5, _⟩ => ⟨S512x1408, .f32⟩
  | .local _ .vmem, ⟨6, _⟩ => ⟨S512x1408, .f32⟩
  | .local _ .vmem, ⟨7, _⟩ => ⟨S512x1408, .f32⟩
  | .local _ .vmem, ⟨8, _⟩ => ⟨S512x1408, .bf16⟩
  | .local _ .vmem, ⟨9, _⟩ => ⟨S512x1408, .bf16⟩
  | .local _ .vmem, ⟨10, _⟩ => ⟨S512x1408, .bf16⟩
  | .local _ .vmem, ⟨11, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== SwigluReferenceIdeal.lean ====
abbrev S2048x1024 : Shape := ⟨2, ![2048, 1024]⟩
abbrev S2816x1024 : Shape := ⟨2, ![2816, 1024]⟩
abbrev S2048x2816 : Shape := ⟨2, ![2048, 2816]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2816x1024, .bf16⟩
  | .hbm, ⟨2, _⟩ => ⟨S2048x2816, .f32⟩
  | .hbm, ⟨3, _⟩ => ⟨S2048x2816, .f32⟩
  | .hbm, ⟨4, _⟩ => ⟨S_, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S_, .f32⟩
  | .hbm, ⟨9, _⟩ => ⟨S2048x2816, .f32⟩
  | .hbm, ⟨10, _⟩ => ⟨S2048x2816, .f32⟩
  | .hbm, ⟨11, _⟩ => ⟨S_, .f32⟩
  | .hbm, ⟨12, _⟩ => ⟨S2048x2816, .f32⟩
  | .hbm, ⟨13, _⟩ => ⟨S2048x2816, .f32⟩
  | .hbm, ⟨14, _⟩ => ⟨S_, .f32⟩
  | .hbm, ⟨15, _⟩ => ⟨S2048x2816, .f32⟩
  | .hbm, ⟨16, _⟩ => ⟨S2048x2816, .f32⟩
  | .hbm, ⟨17, _⟩ => ⟨S2048x2816, .f32⟩
  | .hbm, ⟨18, _⟩ => ⟨S2048x2816, .f32⟩
  | .hbm, ⟨19, _⟩ => ⟨S2048x2816, .f32⟩
  | .hbm, ⟨20, _⟩ => ⟨S2048x2816, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S2816x1024, .f32⟩
  | .hbm, ⟨25, _⟩ => ⟨S2048x1024, .f32⟩
  | .hbm, ⟨26, _⟩ => ⟨S2048x1024, .f32⟩
  | .hbm, ⟨27, _⟩ => ⟨S2048x2816, .f32⟩
  | .hbm, ⟨28, _⟩ => ⟨S2048x2816, .f32⟩
  | .hbm, ⟨29, _⟩ => ⟨S2048x2816, .f32⟩
  | .hbm, ⟨30, _⟩ => ⟨S2048x2816, .bf16⟩
  | .hbm, ⟨31, _⟩ => ⟨S2048x2816, .f32⟩
  | .hbm, ⟨32, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_v1_0 : Ref sig .tc := ⟨.hbm, 19, rfl⟩
abbrev main_call0_v11 : Ref sig .tc := ⟨.hbm, 20, rfl⟩
abbrev main_call0_v12 : Ref sig .tc := ⟨.hbm, 21, rfl⟩
abbrev main_v1_1 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩

abbrev nD : Nat := 1
abbrev τ : Topo := Topo.v7x

variable {F : FTy → Type} [FloatOps F]
-- ==== DwDown.lean ====
abbrev S2048x2816 : Shape := ⟨2, ![2048, 2816]⟩
abbrev S2048x1024 : Shape := ⟨2, ![2048, 1024]⟩
abbrev S2816x1024 : Shape := ⟨2, ![2816, 1024]⟩
abbrev S2048x1408 : Shape := ⟨2, ![2048, 1408]⟩
abbrev S1408x1024 : Shape := ⟨2, ![1408, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S1408x1024, .bf16⟩
  | .local _ .vmem, ⟨4, _⟩ => ⟨S1408x1024, .bf16⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S2048x2816 : Shape := ⟨2, ![2048, 2816]⟩
abbrev S2048x1024 : Shape := ⟨2, ![2048, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x1024, .bf16⟩
  | .hbm, ⟨2, _⟩ => ⟨S_, .f32⟩
  | .hbm, ⟨3, _⟩ => ⟨S2816x1024, .f32⟩
  | .hbm, ⟨4, _⟩ => ⟨S2048x2816, .f32⟩
  | .hbm, ⟨5, _⟩ => ⟨S2048x1024, .f32⟩
  | .hbm, ⟨6, _⟩ => ⟨S2048x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DwSquare.lean ====
abbrev S2048x1024 : Shape := ⟨2, ![2048, 1024]⟩
abbrev S1024x1024 : Shape := ⟨2, ![1024, 1024]⟩

abbrev nBuf : Space → Nat
  | .hbm => 3
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwSquareReferenceIdeal.lean ====
abbrev S2048x1024 : Shape := ⟨2, ![2048, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S_, .f32⟩
  | .hbm, ⟨3, _⟩ => ⟨S1024x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvBwd.lean ====
abbrev S2048x1024 : Shape := ⟨2, ![2048, 1024]⟩
abbrev S1024x1024 : Shape := ⟨2, ![1024, 1024]⟩
abbrev S2048x6656 : Shape := ⟨2, ![2048, 6656]⟩
abbrev S3x1024 : Shape := ⟨2, ![3, 1024]⟩
abbrev S256x1024 : Shape := ⟨2, ![256, 1024]⟩
abbrev S2048x256 : Shape := ⟨2, ![2048, 256]⟩
abbrev S3x256 : Shape := ⟨2, ![3, 256]⟩
abbrev S1x256 : Shape := ⟨2, ![1, 256]⟩
abbrev S256 : Shape := ⟨1, ![256]⟩

abbrev nBuf : Space → Nat
  | .hbm => 8
  | .vmem => 19
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x6656, .f32⟩
  | .hbm, ⟨3, _⟩ => ⟨S3x1024, .f32⟩
  | .hbm, ⟨4, _⟩ => ⟨S2048x1024, .bf16⟩
  | .hbm, ⟨5, _⟩ => ⟨S2048x1024, .bf16⟩
  | .hbm, ⟨6, _⟩ => ⟨S2048x1024, .bf16⟩
  | .hbm, ⟨7, _⟩ => ⟨S3x1024, .f32⟩
  | .local _ .vmem, ⟨0, _⟩ => ⟨S2048x1024, .bf16⟩
  | .local _ .vmem, ⟨1, _⟩ => ⟨S256x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S2048x256, .f32⟩
  | .local _ .vmem, ⟨7, _⟩ => ⟨S2048x256, .f32⟩
  | .local _ .vmem, ⟨8, _⟩ => ⟨S2048x256, .f32⟩
  | .local _ .vmem, ⟨9, _⟩ => ⟨S3x256, .f32⟩
  | .local _ .vmem, ⟨10, _⟩ => ⟨S3x256, .f32⟩
  | .local _ .vmem, ⟨11, _⟩ => ⟨S2048x256, .bf16⟩
  | .local _ .vmem, ⟨12, _⟩ => ⟨S2048x256, .bf16⟩
  | .local _ .vmem, ⟨13, _⟩ => ⟨S2048x256, .bf16⟩
  | .local _ .vmem, ⟨14, _⟩ => ⟨S2048x256, .bf16⟩
  | .local _ .vmem, ⟨15, _⟩ => ⟨S2048x256, .bf16⟩
  | .local _ .vmem, ⟨16, _⟩ => ⟨S2048x256, .bf16⟩
  | .local _ .vmem, ⟨17, _⟩ => ⟨S3x256, .f32⟩
  | .local _ .vmem, ⟨18, _⟩ => ⟨S3x256, .f32⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S3x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ConvBwdReferenceIdeal.lean ====
abbrev S2048x1024 : Shape := ⟨2, ![2048, 1024]⟩
abbrev S1024x1024 : Shape := ⟨2, ![1024, 1024]⟩
abbrev S2048x6656 : Shape := ⟨2, ![2048, 6656]⟩
abbrev S3x1024 : Shape := ⟨2, ![3, 1024]⟩
abbrev S_ : Shape := ⟨0, ![]⟩
abbrev S1x1024 : Shape := ⟨2, ![1, 1024]⟩
abbrev S2047x1024 : Shape := ⟨2, ![2047, 1024]⟩
abbrev S2x1024 : Shape := ⟨2, ![2, 1024]⟩
abbrev S2046x1024 : Shape := ⟨2, ![2046, 1024]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x6656, .f32⟩
  | .hbm, ⟨3, _⟩ => ⟨S3x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .hbm, ⟨8, _⟩ => ⟨S_, .f32⟩
  | .hbm, ⟨9, _⟩ => ⟨S1x1024, .f32⟩
  | .hbm, ⟨10, _⟩ => ⟨S2047x1024, .f32⟩
  | .hbm, ⟨11, _⟩ => ⟨S2048x1024, .f32⟩
  | .hbm, ⟨12, _⟩ => ⟨S_, .f32⟩
  | .hbm, ⟨13, _⟩ => ⟨S1x1024, .f32⟩
  | .hbm, ⟨14, _⟩ => ⟨S_, .f32⟩
  | .hbm, ⟨15, _⟩ => ⟨S2x1024, .f32⟩
  | .hbm, ⟨16, _⟩ => ⟨S2046x1024, .f32⟩
  | .hbm, ⟨17, _⟩ => ⟨S2048x1024, .f32⟩
  | .hbm, ⟨18, _⟩ => ⟨S_, .f32⟩
  | .hbm, ⟨19, _⟩ => ⟨S2x1024, .f32⟩
  | .hbm, ⟨20, _⟩ => ⟨S1x1024, .f32⟩
  | .hbm, ⟨21, _⟩ => ⟨S1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S1x1024, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S2048x1024, .f32⟩
  | .hbm, ⟨38, _⟩ => ⟨S1024x1024, .f32⟩
  | .hbm, ⟨39, _⟩ => ⟨S2048x1024, .f32⟩
  | .hbm, ⟨40, _⟩ => ⟨S2048x1024, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S3x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S_, .f32⟩
  | .hbm, ⟨62, _⟩ => ⟨S1024, .f32⟩
  | .hbm, ⟨63, _⟩ => ⟨S1x1024, .f32⟩
  | .hbm, ⟨64, _⟩ => ⟨S_, .f32⟩
  | .hbm, ⟨65, _⟩ => ⟨S3x1024, .f32⟩
  | .hbm, ⟨66, _⟩ => ⟨S3x1024, .f32⟩
  | .hbm, ⟨67, _⟩ => ⟨S2048x1024, .f32⟩
  | .hbm, ⟨68, _⟩ => ⟨S2048x1024, .f32⟩
  | .hbm, ⟨69, _⟩ => ⟨S2048x1024, .f32⟩
  | .hbm, ⟨70, _⟩ => ⟨S_, .f32⟩
  | .hbm, ⟨71, _⟩ => ⟨S1024, .f32⟩
  | .hbm, ⟨72, _⟩ => ⟨S1x1024, .f32⟩
  | .hbm, ⟨73, _⟩ => ⟨S_, .f32⟩
  | .hbm, ⟨74, _⟩ => ⟨S1024, .f32⟩
  | .hbm, ⟨75, _⟩ => ⟨S1x1024, .f32⟩
  | .hbm, ⟨76, _⟩ => ⟨S_, .f32⟩
  | .hbm, ⟨77, _⟩ => ⟨S3x1024, .f32⟩
  | .hbm, ⟨78, _⟩ => ⟨S3x1024, .f32⟩
  | .hbm, ⟨79, _⟩ => ⟨S2x1024, .f32⟩
  | .hbm, ⟨80, _⟩ => ⟨S2046x1024, .f32⟩
  | .hbm, ⟨81, _⟩ => ⟨S_, .f32⟩
  | .hbm, ⟨82, _⟩ => ⟨S2048x1024, .f32⟩
  | .hbm, ⟨83, _⟩ => ⟨S2048x1024, .f32⟩
  | .hbm, ⟨84, _⟩ => ⟨S1x1024, .f32⟩
  | .hbm, ⟨85, _⟩ => ⟨S2047x1024, .f32⟩
  | .hbm, ⟨86, _⟩ => ⟨S_, .f32⟩
  | .hbm, ⟨87, _⟩ => ⟨S2048x1024, .f32⟩
  | .hbm, ⟨88, _⟩ => ⟨S2048x1024, .f32⟩
  | .hbm, ⟨89, _⟩ => ⟨S2048x1024, .f32⟩
  | .hbm, ⟨90, _⟩ => ⟨S2048x1024, .f32⟩
  | .hbm, ⟨91, _⟩ => ⟨S2048x1024, .bf16⟩
  | .hbm, ⟨92, _⟩ => ⟨S2048x1024, .bf16⟩
  | .hbm, ⟨93, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_cst_3 : Ref sig .tc := ⟨.hbm, 47, rfl⟩
abbrev main_v39 : Ref sig .tc := ⟨.hbm, 48, rfl⟩
abbrev main_v40 : Ref sig .tc := ⟨.hbm, 49, rfl⟩
abbrev main_cst_4 : Ref sig .tc := ⟨.hbm, 50, rfl⟩
abbrev main_v41 : Ref sig .tc := ⟨.hbm, 51, rfl⟩
abbrev main_v42 : Ref sig .tc := ⟨.hbm, 52, rfl⟩
abbrev main_cst_5 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_6 : Ref sig .tc := ⟨.hbm, 58, rfl⟩
abbrev main_v47 : Ref sig .tc := ⟨.hbm, 59, rfl⟩
abbrev main_v48 : Ref sig .tc := ⟨.hbm, 60, rfl⟩
abbrev main_cst_7 : Ref sig .tc := ⟨.hbm, 61, rfl⟩
abbrev main_v49 : Ref sig .tc := ⟨.hbm, 62, rfl⟩
abbrev main_v50 : Ref sig .tc := ⟨.hbm, 63, rfl⟩
abbrev main_cst_8 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_cst_10 : Ref sig .tc := ⟨.hbm, 73, rfl⟩
abbrev main_v58 : Ref sig .tc := ⟨.hbm, 74, rfl⟩
abbrev main_v59 : Ref sig .tc := ⟨.hbm, 75, rfl⟩
abbrev main_cst_11 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_cst_13 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩

abbrev nD : Nat := 1
abbrev τ : Topo := Topo.v7x

variable {F : FTy → Type} [FloatOps F]
-- ==== DwGateUp.lean ====
abbrev S2048x1024 : Shape := ⟨2, ![2048, 1024]⟩
abbrev S2048x2816 : Shape := ⟨2, ![2048, 2816]⟩
abbrev S1024x5632 : Shape := ⟨2, ![1024, 5632]⟩
abbrev S2048x1408 : Shape := ⟨2, ![2048, 1408]⟩
abbrev S1024x1408 : Shape := ⟨2, ![1024, 1408]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S1024x5632, .bf16⟩
  | .local _ .vmem, ⟨0, _⟩ => ⟨S2048x1024, .bf16⟩
  | .local _ .vmem, ⟨1, _⟩ => ⟨S2048x1408, .bf16⟩
  | .local _ .vmem, ⟨2, _⟩ => ⟨S2048x1408, .bf16⟩
  | .local _ .vmem, ⟨3, _⟩ => ⟨S2048x1408, .bf16⟩
  | .local _ .vmem, ⟨4, _⟩ => ⟨S2048x1408, .bf16⟩
  | .local _ .vmem, ⟨5, _⟩ => ⟨S1024x1408, .bf16⟩
  | .local _ .vmem, ⟨6, _⟩ => ⟨S1024x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c2_i32 : BitVec 32 := 2#32
  let v0 : BitVec 1 := Scalar.cmpi .slt arg0 c2_i32
  let v1 : BitVec 32 := Scalar.extui v0
  let c0_i32 : BitVec 32 := 0#32
  let v2 : BitVec 1 := Scalar.cmpi .ne v1 c0_i32
  v2

def k0_cond2 (i : grid0.Coords) : BitVec 1 :=
  let arg0 : BitVec 32 := BitVec.ofNat 32 (i 0).val
  let c2_i32_0 : BitVec 32 := 2#32
  let v3 : BitVec 1 := Scalar.cmpi .sge arg0 c2_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c1_i32 : BitVec 32 := 1#32
  let v0 : BitVec 32 := Scalar.minsi arg0 c1_i32
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c2_i32 : BitVec 32 := 2#32
  let v0 : BitVec 32 := Scalar.subi arg0 c2_i32
  let c0_i32 : BitVec 32 := 0#32
  let v1 : BitVec 32 := Scalar.maxsi v0 c0_i32
  let c0_i32_0 : BitVec 32 := 0#32
  let c0_i32_1 : BitVec 32 := 0#32
  ![c0_i32_0.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DwGateUpReferenceIdeal.lean ====
abbrev S2048x1024 : Shape := ⟨2, ![2048, 1024]⟩
abbrev S2048x2816 : Shape := ⟨2, ![2048, 2816]⟩
abbrev S_ : Shape := ⟨0, ![]⟩
abbrev S1024x5632 : Shape := ⟨2, ![1024, 5632]⟩
abbrev S2048x5632 : Shape := ⟨2, ![2048, 5632]⟩
abbrev S5632x1024 : Shape := ⟨2, ![5632, 1024]⟩

abbrev nBuf : Space → Nat
  | .hbm => 12
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x2816, .bf16⟩
  | .hbm, ⟨2, _⟩ => ⟨S2048x2816, .bf16⟩
  | .hbm, ⟨3, _⟩ => ⟨S_, .f32⟩
  | .hbm, ⟨4, _⟩ => ⟨S1024x5632, .f32⟩
  | .hbm, ⟨5, _⟩ => ⟨S2048x5632, .bf16⟩
  | .hbm, ⟨6, _⟩ => ⟨S2048x5632, .f32⟩
  | .hbm, ⟨7, _⟩ => ⟨S2048x1024, .f32⟩
  | .hbm, ⟨8, _⟩ => ⟨S2048x5632, .f32⟩
  | .hbm, ⟨9, _⟩ => ⟨S5632x1024, .f32⟩
  | .hbm, ⟨10, _⟩ => ⟨S1024x5632, .f32⟩
  | .hbm, ⟨11, _⟩ => ⟨S1024x5632, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Dh2.lean ====
abbrev S2048x2816 : Shape := ⟨2, ![2048, 2816]⟩
abbrev S1024x5632 : Shape := ⟨2, ![1024, 5632]⟩
abbrev S2048x1024 : Shape := ⟨2, ![2048, 1024]⟩
abbrev S1024x1408 : Shape := ⟨2, ![1024, 1408]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x5632, .bf16⟩
  | .hbm, ⟨3, _⟩ => ⟨S2048x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S1024x1024, .f32⟩
  | .local _ .vmem, ⟨7, _⟩ => ⟨S1024x1024, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let c2_i32 : BitVec 32 := 2#32
  let v4 : BitVec 1 := Scalar.cmpi .slt arg1 c2_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg1 : BitVec 32 := BitVec.ofNat 32 (i 1).val
  let c2_i32_3 : BitVec 32 := 2#32
  let v8 : BitVec 1 := Scalar.cmpi .sge arg1 c2_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.subi arg1 c2_i32
  let c0_i32 : BitVec 32 := 0#32
  let v1 : BitVec 32 := Scalar.maxsi v0 c0_i32
  let c0_i32_0 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== Dh2ReferenceIdeal.lean ====
abbrev S2048x2816 : Shape := ⟨2, ![2048, 2816]⟩
abbrev S1024x5632 : Shape := ⟨2, ![1024, 5632]⟩
abbrev S_ : Shape := ⟨0, ![]⟩
abbrev S2048x1024 : Shape := ⟨2, ![2048, 1024]⟩
abbrev S2048x5632 : Shape := ⟨2, ![2048, 5632]⟩

abbrev nBuf : Space → Nat
  | .hbm => 10
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2048x2816, .bf16⟩
  | .hbm, ⟨2, _⟩ => ⟨S1024x5632, .bf16⟩
  | .hbm, ⟨3, _⟩ => ⟨S_, .f32⟩
  | .hbm, ⟨4, _⟩ => ⟨S2048x1024, .f32⟩
  | .hbm, ⟨5, _⟩ => ⟨S2048x5632, .bf16⟩
  | .hbm, ⟨6, _⟩ => ⟨S2048x5632, .f32⟩
  | .hbm, ⟨7, _⟩ => ⟨S1024x5632, .f32⟩
  | .hbm, ⟨8, _⟩ => ⟨S2048x5632, .f32⟩
  | .hbm, ⟨9, _⟩ => ⟨S2048x1024, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Dh1.lean ====
abbrev S2048x6656 : Shape := ⟨2, ![2048, 6656]⟩
abbrev S1024x6656 : Shape := ⟨2, ![1024, 6656]⟩
abbrev S2048x1024 : Shape := ⟨2, ![2048, 1024]⟩
abbrev S1024x1664 : Shape := ⟨2, ![1024, 1664]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S2048x6656, .bf16⟩
  | .hbm, ⟨1, _⟩ => ⟨S1024x6656, .bf16⟩
  | .hbm, ⟨2, _⟩ => ⟨S2048x1024, .f32⟩
  | .local _ .vmem, ⟨0, _⟩ => ⟨S1024x1664, .bf16⟩
  | .local _ .vmem, ⟨1, _⟩ => ⟨S1024x1664, .bf16⟩
  | .local _ .vmem, ⟨2, _⟩ => ⟨S1024x1664, .bf16⟩
  | .local _ .vmem, ⟨3, _⟩ => ⟨S1024x1664, .bf16⟩
  | .local _ .vmem, ⟨4, _⟩ => ⟨S1024x1024, .f32⟩
  | .local _ .vmem, ⟨5, _⟩ => ⟨S1024x1024, .f32⟩
  | _, _ => ⟨S2048x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond1 (i : grid0.Coords) : BitVec 1 :=
  let arg2 : BitVec 32 := BitVec.ofNat 32 (i 2).val
  let c0_i32 : BitVec 32 := 0#32
  let v3 : BitVec 1 := Scalar.cmpi .eq arg2 c0_i32
  let v4 : BitVec 32 := Scalar.extui v3
  let c0_i32_3 : BitVec 32 := 0#32
  let v5 : BitVec 1 := Scalar.cmpi .ne v4 c0_i32_3
  v5

def k0_cond2 (i : grid0.Coords) : BitVec 1 :=
  let arg2 : BitVec 32 := BitVec.ofNat 32 (i 2).val
  let c0_i32_4 : BitVec 32 := 0#32
  let v6 : BitVec 1 := Scalar.cmpi .sgt arg2 c0_i32_4
  let v7 : BitVec 32 := Scalar.extui v6
  let c0_i32_5 : BitVec 32 := 0#32
  let v8 : BitVec 1 := Scalar.cmpi .ne v7 c0_i32_5
  v8

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1664 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1664 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Dh1ReferenceIdeal.lean ====
abbrev S2048x6656 : Shape := ⟨2, ![2048, 6656]⟩
abbrev S1024x6656 : Shape := ⟨2, ![1024, 6656]⟩
abbrev S_ : Shape := ⟨0, ![]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x6656, .bf16⟩
  | .hbm, ⟨1, _⟩ => ⟨S1024x6656, .bf16⟩
  | .hbm, ⟨2, _⟩ => ⟨S_, .f32⟩
  | .hbm, ⟨3, _⟩ => ⟨S2048x1024, .f32⟩
  | .hbm, ⟨4, _⟩ => ⟨S1024x6656, .f32⟩
  | .hbm, ⟨5, _⟩ => ⟨S2048x6656, .f32⟩
  | .hbm, ⟨6, _⟩ => ⟨S2048x6656, .f32⟩
  | .hbm, ⟨7, _⟩ => ⟨S2048x1024, .f32⟩
  | _, _ => ⟨S2048x6656, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== NormFfnBwd.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 7
  | .vmem => 12
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | .hbm, ⟨6, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .bf16⟩
  | .local _ .vmem, ⟨10, _⟩ => ⟨S256x1024, .bf16⟩
  | .local _ .vmem, ⟨11, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v33 : BitVec 1 := Scalar.cmpi .eq arg0 c0_i32
  let v34 : BitVec 32 := Scalar.extui v33
  let c0_i32_16 : BitVec 32 := 0#32
  let v35 : BitVec 1 := Scalar.cmpi .ne v34 c0_i32_16
  v35

def k0_cond2 (i : grid0.Coords) : BitVec 1 :=
  let arg0 : BitVec 32 := BitVec.ofNat 32 (i 0).val
  let c0_i32_17 : BitVec 32 := 0#32
  let v36 : BitVec 1 := Scalar.cmpi .sgt arg0 c0_i32_17
  let v37 : BitVec 32 := Scalar.extui v36
  let c0_i32_18 : BitVec 32 := 0#32
  let v38 : BitVec 1 := Scalar.cmpi .ne v37 c0_i32_18
  v38

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== NormFfnBwdReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 49
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== NormMixBwd.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v31 : BitVec 1 := Scalar.cmpi .eq arg0 c0_i32
  let v32 : BitVec 32 := Scalar.extui v31
  let c0_i32_14 : BitVec 32 := 0#32
  let v33 : BitVec 1 := Scalar.cmpi .ne v32 c0_i32_14
  v33

def k0_cond2 (i : grid0.Coords) : BitVec 1 :=
  let arg0 : BitVec 32 := BitVec.ofNat 32 (i 0).val
  let c0_i32_15 : BitVec 32 := 0#32
  let v34 : BitVec 1 := Scalar.cmpi .sgt arg0 c0_i32_15
  let v35 : BitVec 32 := Scalar.extui v34
  let c0_i32_16 : BitVec 32 := 0#32
  let v36 : BitVec 1 := Scalar.cmpi .ne v35 c0_i32_16
  v36

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormMixBwdReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩

abbrev nBuf : Space → Nat
  | .hbm => 47
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1024, .f32⟩
  | .hbm, ⟨3, _⟩ => ⟨S2048x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048, .f32⟩
  | .hbm, ⟨32, _⟩ => ⟨S2048x1, .f32⟩
  | .hbm, ⟨33, _⟩ => ⟨S2048x1024, .f32⟩
  | .hbm, ⟨34, _⟩ => ⟨S2048x1024, .f32⟩
  | .hbm, ⟨35, _⟩ => ⟨S2048x1, .f32⟩
  | .hbm, ⟨36, _⟩ => ⟨S_, .f32⟩
  | .hbm, ⟨37, _⟩ => ⟨S2048x1, .f32⟩
  | .hbm, ⟨38, _⟩ => ⟨S2048x1, .f32⟩
  | .hbm, ⟨39, _⟩ => ⟨S_, .f32⟩
  | .hbm, ⟨40, _⟩ => ⟨S2048, .f32⟩
  | .hbm, ⟨41, _⟩ => ⟨S2048x1024, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_3 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_5 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]
-- ==== DownLoss.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S1x128 : Shape := ⟨2, ![1, 128]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .bf16⟩
  | .hbm, ⟨7, _⟩ => ⟨S1x1024, .f32⟩
  | .hbm, ⟨8, _⟩ => ⟨S1x128, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1x128, .f32⟩
  | _, _ => ⟨S2048x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32_25 : BitVec 32 := 0#32
  let v56 : BitVec 1 := Scalar.cmpi .eq arg0 c0_i32_25
  let v57 : BitVec 32 := Scalar.extui v56
  let c0_i32_26 : BitVec 32 := 0#32
  let v58 : BitVec 1 := Scalar.cmpi .ne v57 c0_i32_26
  v58

def k0_cond2 (i : grid0.Coords) : BitVec 1 :=
  let arg0 : BitVec 32 := BitVec.ofNat 32 (i 0).val
  let c0_i32_27 : BitVec 32 := 0#32
  let v59 : BitVec 1 := Scalar.cmpi .sgt arg0 c0_i32_27
  let v60 : BitVec 32 := Scalar.extui v59
  let c0_i32_28 : BitVec 32 := 0#32
  let v61 : BitVec 1 := Scalar.cmpi .ne v60 c0_i32_28
  v61

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== DownLossReferenceIdeal.lean ====
abbrev S2048x2816 : Shape := ⟨2, ![2048, 2816]⟩
abbrev S2816x1024 : Shape := ⟨2, ![2816, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S1x1 : Shape := ⟨2, ![1, 1]⟩
abbrev S1x127 : Shape := ⟨2, ![1, 127]⟩
abbrev S1x128 : Shape := ⟨2, ![1, 128]⟩

abbrev nBuf : Space → Nat
  | .hbm => 79
  | .vmem => 0
  | .smem => 0
  | _ => 0

abbrev bufTy : (tb : Table) → Fin (tcTables nBuf tb) → BufTy
  | .hbm, ⟨0, _⟩ => ⟨S2048x2816, .bf16⟩
  | .hbm, ⟨1, _⟩ => ⟨S2816x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x2816, .f32⟩
  | .hbm, ⟨6, _⟩ => ⟨S2816x1024, .f32⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S_, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S2048x1, .f32⟩
  | .hbm, ⟨21, _⟩ => ⟨S_, .f32⟩
  | .hbm, ⟨22, _⟩ => ⟨S2048x1, .f32⟩
  | .hbm, ⟨23, _⟩ => ⟨S2048x1, .f32⟩
  | .hbm, ⟨24, _⟩ => ⟨S2048x1024, .f32⟩
  | .hbm, ⟨25, _⟩ => ⟨S2048x1024, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S2048x1024, .f32⟩
  | .hbm, ⟨30, _⟩ => ⟨S_, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S2048, .f32⟩
  | .hbm, ⟨46, _⟩ => ⟨S_, .f32⟩
  | .hbm, ⟨47, _⟩ => ⟨S2048, .f32⟩
  | .hbm, ⟨48, _⟩ => ⟨S2048, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S2048x1024, .f32⟩
  | .hbm, ⟨56, _⟩ => ⟨S2048x1024, .f32⟩
  | .hbm, ⟨57, _⟩ => ⟨S2048x1024, .f32⟩
  | .hbm, ⟨58, _⟩ => ⟨S_, .f32⟩
  | .hbm, ⟨59, _⟩ => ⟨S2048, .f32⟩
  | .hbm, ⟨60, _⟩ => ⟨S2048x1, .f32⟩
  | .hbm, ⟨61, _⟩ => ⟨S2048x1024, .f32⟩
  | .hbm, ⟨62, _⟩ => ⟨S2048x1024, .f32⟩
  | .hbm, ⟨63, _⟩ => ⟨S2048x1, .f32⟩
  | .hbm, ⟨64, _⟩ => ⟨S_, .f32⟩
  | .hbm, ⟨65, _⟩ => ⟨S2048x1, .f32⟩
  | .hbm, ⟨66, _⟩ => ⟨S2048x1, .f32⟩
  | .hbm, ⟨67, _⟩ => ⟨S_, .f32⟩
  | .hbm, ⟨68, _⟩ => ⟨S2048, .f32⟩
  | .hbm, ⟨69, _⟩ => ⟨S2048x1024, .f32⟩
  | .hbm, ⟨70, _⟩ => ⟨S2048x1024, .f32⟩
  | .hbm, ⟨71, _⟩ => ⟨S2048x1024, .f32⟩
  | .hbm, ⟨72, _⟩ => ⟨S2048x1024, .f32⟩
  | .hbm, ⟨73, _⟩ => ⟨S2048x1024, .f32⟩
  | .hbm, ⟨74, _⟩ => ⟨S2048x1024, .bf16⟩
  | .hbm, ⟨75, _⟩ => ⟨S1x1, .f32⟩
  | .hbm, ⟨76, _⟩ => ⟨S_, .f32⟩
  | .hbm, ⟨77, _⟩ => ⟨S1x127, .f32⟩
  | .hbm, ⟨78, _⟩ => ⟨S1x128, .f32⟩
  | _, _ => ⟨S2048x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_3 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_cst_7 : Ref sig .tc := ⟨.hbm, 40, rfl⟩
abbrev main_v27 : Ref sig .tc := ⟨.hbm, 41, rfl⟩
abbrev main_cst_8 : Ref sig .tc := ⟨.hbm, 42, rfl⟩
abbrev main_cst_9 : Ref sig .tc := ⟨.hbm, 43, rfl⟩
abbrev main_v28 : Ref sig .tc := ⟨.hbm, 44, rfl⟩
abbrev main_v29 : Ref sig .tc := ⟨.hbm, 45, rfl⟩
abbrev main_cst_10 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Norm.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== ConvFwd.lean ====
abbrev S2048x6656 : Shape := ⟨2, ![2048, 6656]⟩
abbrev S3x1024 : Shape := ⟨2, ![3, 1024]⟩
abbrev S2048x1024 : Shape := ⟨2, ![2048, 1024]⟩
abbrev S2048x256 : Shape := ⟨2, ![2048, 256]⟩
abbrev S3x256 : Shape := ⟨2, ![3, 256]⟩
abbrev S1x256 : Shape := ⟨2, ![1, 256]⟩

abbrev nBuf : Space → Nat
  | .hbm => 3
  | .vmem => 10
  | .smem => 0
  | _ => 0

abbrev bufTy : (tb : Table) → Fin (tcTables nBuf tb) → BufTy
  | .hbm, ⟨0, _⟩ => ⟨S2048x6656, .f32⟩
  | .hbm, ⟨1, _⟩ => ⟨S3x1024, .f32⟩
  | .hbm, ⟨2, _⟩ => ⟨S2048x1024, .bf16⟩
  | .local _ .vmem, ⟨0, _⟩ => ⟨S2048x256, .f32⟩
  | .local _ .vmem, ⟨1, _⟩ => ⟨S2048x256, .f32⟩
  | .local _ .vmem, ⟨2, _⟩ => ⟨S2048x256, .f32⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | .local _ .vmem, ⟨6, _⟩ => ⟨S3x256, .f32⟩
  | .local _ .vmem, ⟨7, _⟩ => ⟨S3x256, .f32⟩
  | .local _ .vmem, ⟨8, _⟩ => ⟨S2048x256, .bf16⟩
  | .local _ .vmem, ⟨9, _⟩ => ⟨S2048x256, .bf16⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ConvFwdReferenceIdeal.lean ====
abbrev S2048x6656 : Shape := ⟨2, ![2048, 6656]⟩
abbrev S3x1024 : Shape := ⟨2, ![3, 1024]⟩
abbrev S2048x1024 : Shape := ⟨2, ![2048, 1024]⟩
abbrev S_ : Shape := ⟨0, ![]⟩
abbrev S1x1024 : Shape := ⟨2, ![1, 1024]⟩
abbrev S2047x1024 : Shape := ⟨2, ![2047, 1024]⟩
abbrev S2x1024 : Shape := ⟨2, ![2, 1024]⟩
abbrev S2046x1024 : Shape := ⟨2, ![2046, 1024]⟩
abbrev S1024 : Shape := ⟨1, ![1024]⟩

abbrev nBuf : Space → Nat
  | .hbm => 33
  | .vmem => 0
  | .smem => 0
  | _ => 0

abbrev bufTy : (tb : Table) → Fin (tcTables nBuf tb) → BufTy
  | .hbm, ⟨0, _⟩ => ⟨S2048x6656, .f32⟩
  | .hbm, ⟨1, _⟩ => ⟨S3x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S1x1024, .f32⟩
  | .hbm, ⟨8, _⟩ => ⟨S2047x1024, .f32⟩
  | .hbm, ⟨9, _⟩ => ⟨S2048x1024, .f32⟩
  | .hbm, ⟨10, _⟩ => ⟨S_, .f32⟩
  | .hbm, ⟨11, _⟩ => ⟨S2x1024, .f32⟩
  | .hbm, ⟨12, _⟩ => ⟨S2046x1024, .f32⟩
  | .hbm, ⟨13, _⟩ => ⟨S2048x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S2048x1024, .f32⟩
  | .hbm, ⟨18, _⟩ => ⟨S2048x1024, .f32⟩
  | .hbm, ⟨19, _⟩ => ⟨S1x1024, .f32⟩
  | .hbm, ⟨20, _⟩ => ⟨S1024, .f32⟩
  | .hbm, ⟨21, _⟩ => ⟨S1x1024, .f32⟩
  | .hbm, ⟨22, _⟩ => ⟨S2048x1024, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S1024, .f32⟩
  | .hbm, ⟨27, _⟩ => ⟨S1x1024, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩

abbrev nD : Nat := 1
abbrev τ : Topo := Topo.v7x

variable {F : FTy → Type} [FloatOps F]
-- ==== Branches.lean ====
abbrev S2048x1024 : Shape := ⟨2, ![2048, 1024]⟩
abbrev S1024x1024 : Shape := ⟨2, ![1024, 1024]⟩
abbrev S2048x6656 : Shape := ⟨2, ![2048, 6656]⟩
abbrev S1024x512 : Shape := ⟨2, ![1024, 512]⟩

abbrev nBuf : Space → Nat
  | .hbm => 8
  | .vmem => 18
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .hbm, ⟨3, _⟩ => ⟨S1024x1024, .bf16⟩
  | .hbm, ⟨4, _⟩ => ⟨S2048x6656, .f32⟩
  | .hbm, ⟨5, _⟩ => ⟨S2048x1024, .f32⟩
  | .hbm, ⟨6, _⟩ => ⟨S2048x1024, .f32⟩
  | .hbm, ⟨7, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .f32⟩
  | .local _ .vmem, ⟨16, _⟩ => ⟨S1024x512, .bf16⟩
  | .local _ .vmem, ⟨17, _⟩ => ⟨S1024x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c9_i32 : BitVec 32 := 9#32
  let v0 : BitVec 32 := Scalar.addi c9_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi c11_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1024x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== BranchesReferenceIdeal.lean ====
abbrev S2048x1024 : Shape := ⟨2, ![2048, 1024]⟩
abbrev S1024x1024 : Shape := ⟨2, ![1024, 1024]⟩
abbrev S2048x6656 : Shape := ⟨2, ![2048, 6656]⟩
abbrev S_ : Shape := ⟨0, ![]⟩

abbrev nBuf : Space → Nat
  | .hbm => 33
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .hbm, ⟨2, _⟩ => ⟨S1024x1024, .bf16⟩
  | .hbm, ⟨3, _⟩ => ⟨S1024x1024, .bf16⟩
  | .hbm, ⟨4, _⟩ => ⟨S2048x6656, .f32⟩
  | .hbm, ⟨5, _⟩ => ⟨S2048x1024, .f32⟩
  | .hbm, ⟨6, _⟩ => ⟨S1024x1024, .f32⟩
  | .hbm, ⟨7, _⟩ => ⟨S2048x1024, .f32⟩
  | .hbm, ⟨8, _⟩ => ⟨S2048x1024, .f32⟩
  | .hbm, ⟨9, _⟩ => ⟨S1024x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S2048x1024, .f32⟩
  | .hbm, ⟨15, _⟩ => ⟨S_, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048x1024, .f32⟩
  | .hbm, ⟨29, _⟩ => ⟨S2048x1024, .f32⟩
  | .hbm, ⟨30, _⟩ => ⟨S2048x1024, .f32⟩
  | .hbm, ⟨31, _⟩ => ⟨S2048x1024, .f32⟩
  | .hbm, ⟨32, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_cst_2 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]
-- ==== OutNorm.lean ====
abbrev S2048x1024 : Shape := ⟨2, ![2048, 1024]⟩
abbrev S1024x1024 : Shape := ⟨2, ![1024, 1024]⟩
abbrev S1x1024 : Shape := ⟨2, ![1, 1024]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutNormReferenceIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x1024, .bf16⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S1024x1024, .f32⟩
  | .hbm, ⟨6, _⟩ => ⟨S2048x1024, .f32⟩
  | .hbm, ⟨7, _⟩ => ⟨S2048x1024, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== GateUp.lean ====
abbrev S2048x1024 : Shape := ⟨2, ![2048, 1024]⟩
abbrev S1024x5632 : Shape := ⟨2, ![1024, 5632]⟩
abbrev S2048x2816 : Shape := ⟨2, ![2048, 2816]⟩
abbrev S512x1024 : Shape := ⟨2, ![512, 1024]⟩
abbrev S1024x1408 : Shape := ⟨2, ![1024, 1408]⟩
abbrev S512x1408 : Shape := ⟨2, ![512, 1408]⟩

abbrev nBuf : Space → Nat
  | .hbm => 5
  | .vmem => 12
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x2816, .f32⟩
  | .hbm, ⟨3, _⟩ => ⟨S2048x2816, .f32⟩
  | .hbm, ⟨4, _⟩ => ⟨S2048x2816, .bf16⟩
  | .local _ .vmem, ⟨0, _⟩ => ⟨S512x1024, .bf16⟩
  | .local _ .vmem, ⟨1, _⟩ => ⟨S512x1024, .bf16⟩
  | .local _ .vmem, ⟨2, _⟩ => ⟨S1024x1408, .bf16⟩
  | .local _ .vmem, ⟨3, _⟩ => ⟨S1024x1408, .bf16⟩
  | .local _ .vmem, ⟨4, _⟩ => ⟨S1024x1408, .bf16⟩
  | .local _ .vmem, ⟨5, _⟩ => ⟨S1024x1408, .bf16⟩
  | .local _ .vmem, ⟨6, _⟩ => ⟨S512x1408, .f32⟩
  | .local _ .vmem, ⟨7, _⟩ => ⟨S512x1408, .f32⟩
  | .local _ .vmem, ⟨8, _⟩ => ⟨S512x1408, .f32⟩
  | .local _ .vmem, ⟨9, _⟩ => ⟨S512x1408, .f32⟩
  | .local _ .vmem, ⟨10, _⟩ => ⟨S512x1408, .bf16⟩
  | .local _ .vmem, ⟨11, _⟩ => ⟨S512x1408, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg1
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== GateUpReferenceIdeal.lean ====
abbrev S2048x1024 : Shape := ⟨2, ![2048, 1024]⟩
abbrev S1024x5632 : Shape := ⟨2, ![1024, 5632]⟩
abbrev S2048x5632 : Shape := ⟨2, ![2048, 5632]⟩
abbrev S2048x2816 : Shape := ⟨2, ![2048, 2816]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .bf16⟩
  | .hbm, ⟨1, _⟩ => ⟨S1024x5632, .bf16⟩
  | .hbm, ⟨2, _⟩ => ⟨S2048x1024, .f32⟩
  | .hbm, ⟨3, _⟩ => ⟨S1024x5632, .f32⟩
  | .hbm, ⟨4, _⟩ => ⟨S2048x5632, .f32⟩
  | .hbm, ⟨5, _⟩ => ⟨S2048x2816, .f32⟩
  | .hbm, ⟨6, _⟩ => ⟨S2048x2816, .f32⟩
  | .hbm, ⟨7, _⟩ => ⟨S2048x2816, .f32⟩
  | .hbm, ⟨8, _⟩ => ⟨S2048x2816, .f32⟩
  | .hbm, ⟨9, _⟩ => ⟨S_, .f32⟩
  | .hbm, ⟨10, _⟩ => ⟨S2048x2816, .f32⟩
  | .hbm, ⟨11, _⟩ => ⟨S2048x2816, .f32⟩
  | .hbm, ⟨12, _⟩ => ⟨S_, .f32⟩
  | .hbm, ⟨13, _⟩ => ⟨S2048x2816, .f32⟩
  | .hbm, ⟨14, _⟩ => ⟨S2048x2816, .f32⟩
  | .hbm, ⟨15, _⟩ => ⟨S2048x2816, .f32⟩
  | .hbm, ⟨16, _⟩ => ⟨S2048x2816, .f32⟩
  | .hbm, ⟨17, _⟩ => ⟨S2048x2816, .bf16⟩
  | _, _ => ⟨S2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== KvGrad.lean ====
abbrev S2048x256 : Shape := ⟨2, ![2048, 256]⟩
abbrev S2048x8 : Shape := ⟨2, ![2048, 8]⟩
abbrev S_ : Shape := ⟨0, ![]⟩
abbrev S2048x48 : Shape := ⟨2, ![2048, 48]⟩
abbrev S2048x64 : Shape := ⟨2, ![2048, 64]⟩
abbrev S2048x512 : Shape := ⟨2, ![2048, 512]⟩
abbrev S512x256 : Shape := ⟨2, ![512, 256]⟩
abbrev S512x512 : Shape := ⟨2, ![512, 512]⟩

abbrev nBuf : Space → Nat
  | .hbm => 20
  | .vmem => 16
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x8, .f32⟩
  | .hbm, ⟨5, _⟩ => ⟨S2048x8, .f32⟩
  | .hbm, ⟨6, _⟩ => ⟨S_, .f32⟩
  | .hbm, ⟨7, _⟩ => ⟨S2048x48, .f32⟩
  | .hbm, ⟨8, _⟩ => ⟨S_, .f32⟩
  | .hbm, ⟨9, _⟩ => ⟨S2048x48, .f32⟩
  | .hbm, ⟨10, _⟩ => ⟨S_, .f32⟩
  | .hbm, ⟨11, _⟩ => ⟨S2048x8, .f32⟩
  | .hbm, ⟨12, _⟩ => ⟨S2048x64, .f32⟩
  | .hbm, ⟨13, _⟩ => ⟨S2048x8, .f32⟩
  | .hbm, ⟨14, _⟩ => ⟨S2048x64, .f32⟩
  | .hbm, ⟨15, _⟩ => ⟨S2048x64, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S2048x512, .bf16⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S512x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x512, .bf16⟩
  | .local _ .vmem, ⟨15, _⟩ => ⟨S512x512, .bf16⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KvGradReferenceIdeal.lean ====
abbrev S2048x256 : Shape := ⟨2, ![2048, 256]⟩
abbrev S2048x8 : Shape := ⟨2, ![2048, 8]⟩
abbrev S_ : Shape := ⟨0, ![]⟩
abbrev S2048x4x64 : Shape := ⟨3, ![2048, 4, 64]⟩
abbrev S2048x4x8 : Shape := ⟨3, ![2048, 4, 8]⟩
abbrev S2048x4x48 : Shape := ⟨3, ![2048, 4, 48]⟩
abbrev S2048x1x8 : Shape := ⟨3, ![2048, 1, 8]⟩
abbrev S2048x512 : Shape := ⟨2, ![2048, 512]⟩

abbrev nBuf : Space → Nat
  | .hbm => 54
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x256, .f32⟩
  | .hbm, ⟨3, _⟩ => ⟨S2048x256, .f32⟩
  | .hbm, ⟨4, _⟩ => ⟨S2048x8, .f32⟩
  | .hbm, ⟨5, _⟩ => ⟨S2048x8, .f32⟩
  | .hbm, ⟨6, _⟩ => ⟨S_, .f32⟩
  | .hbm, ⟨7, _⟩ => ⟨S2048x256, .f32⟩
  | .hbm, ⟨8, _⟩ => ⟨S2048x4x64, .f32⟩
  | .hbm, ⟨9, _⟩ => ⟨S2048x4x8, .f32⟩
  | .hbm, ⟨10, _⟩ => ⟨S2048x4x8, .f32⟩
  | .hbm, ⟨11, _⟩ => ⟨S2048x4x48, .f32⟩
  | .hbm, ⟨12, _⟩ => ⟨S2048x1x8, .f32⟩
  | .hbm, ⟨13, _⟩ => ⟨S2048x1x8, .f32⟩
  | .hbm, ⟨14, _⟩ => ⟨S2048x4x8, .f32⟩
  | .hbm, ⟨15, _⟩ => ⟨S2048x4x8, .f32⟩
  | .hbm, ⟨16, _⟩ => ⟨S2048x4x8, .f32⟩
  | .hbm, ⟨17, _⟩ => ⟨S2048x4x8, .f32⟩
  | .hbm, ⟨18, _⟩ => ⟨S2048x4x8, .f32⟩
  | .hbm, ⟨19, _⟩ => ⟨S2048x4x8, .f32⟩
  | .hbm, ⟨20, _⟩ => ⟨S2048x4x8, .f32⟩
  | .hbm, ⟨21, _⟩ => ⟨S2048x4x8, .f32⟩
  | .hbm, ⟨22, _⟩ => ⟨S2048x4x8, .f32⟩
  | .hbm, ⟨23, _⟩ => ⟨S2048x4x8, .f32⟩
  | .hbm, ⟨24, _⟩ => ⟨S2048x4x64, .f32⟩
  | .hbm, ⟨25, _⟩ => ⟨S2048x256, .f32⟩
  | .hbm, ⟨26, _⟩ => ⟨S2048x256, .f32⟩
  | .hbm, ⟨27, _⟩ => ⟨S2048x256, .f32⟩
  | .hbm, ⟨28, _⟩ => ⟨S2048x4x64, .f32⟩
  | .hbm, ⟨29, _⟩ => ⟨S2048x4x8, .f32⟩
  | .hbm, ⟨30, _⟩ => ⟨S2048x4x8, .f32⟩
  | .hbm, ⟨31, _⟩ => ⟨S2048x4x48, .f32⟩
  | .hbm, ⟨32, _⟩ => ⟨S2048x4x8, .f32⟩
  | .hbm, ⟨33, _⟩ => ⟨S2048x4x8, .f32⟩
  | .hbm, ⟨34, _⟩ => ⟨S2048x4x8, .f32⟩
  | .hbm, ⟨35, _⟩ => ⟨S2048x4x8, .f32⟩
  | .hbm, ⟨36, _⟩ => ⟨S2048x4x8, .f32⟩
  | .hbm, ⟨37, _⟩ => ⟨S2048x4x8, .f32⟩
  | .hbm, ⟨38, _⟩ => ⟨S2048x4x8, .f32⟩
  | .hbm, ⟨39, _⟩ => ⟨S2048x4x8, .f32⟩
  | .hbm, ⟨40, _⟩ => ⟨S2048x4x8, .f32⟩
  | .hbm, ⟨41, _⟩ => ⟨S2048x4x8, .f32⟩
  | .hbm, ⟨42, _⟩ => ⟨S2048x4x8, .f32⟩
  | .hbm, ⟨43, _⟩ => ⟨S_, .f32⟩
  | .hbm, ⟨44, _⟩ => ⟨S2048x4x64, .f32⟩
  | .hbm, ⟨45, _⟩ => ⟨S_, .f32⟩
  | .hbm, ⟨46, _⟩ => ⟨S2048x4x64, .f32⟩
  | .hbm, ⟨47, _⟩ => ⟨S2048x4x64, .f32⟩
  | .hbm, ⟨48, _⟩ => ⟨S_, .f32⟩
  | .hbm, ⟨49, _⟩ => ⟨S2048x4x64, .f32⟩
  | .hbm, ⟨50, _⟩ => ⟨S2048x4x64, .f32⟩
  | .hbm, ⟨51, _⟩ => ⟨S2048x256, .f32⟩
  | .hbm, ⟨52, _⟩ => ⟨S2048x512, .f32⟩
  | .hbm, ⟨53, _⟩ => ⟨S2048x512, .bf16⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_cst_0 : Ref sig .tc := ⟨.hbm, 43, rfl⟩
abbrev main_v36 : Ref sig .tc := ⟨.hbm, 44, rfl⟩
abbrev main_cst_1 : Ref sig .tc := ⟨.hbm, 45, rfl⟩
abbrev main_v37 : Ref sig .tc := ⟨.hbm, 46, rfl⟩
abbrev main_v38 : Ref sig .tc := ⟨.hbm, 47, rfl⟩
abbrev main_cst_2 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩

abbrev nD : Nat := 1
abbrev τ : Topo := Topo.v7x

variable {F : FTy → Type} [FloatOps F]
-- ==== AdamwIn.lean ====
abbrev S1024x1664 : Shape := ⟨2, ![1024, 1664]⟩
abbrev S256x1664 : Shape := ⟨2, ![256, 1664]⟩

abbrev nBuf : Space → Nat
  | .hbm => 8
  | .vmem => 16
  | .smem => 0
  | _ => 0

abbrev bufTy : (tb : Table) → Fin (tcTables nBuf tb) → BufTy
  | .hbm, ⟨0, _⟩ => ⟨S1024x1664, .f32⟩
  | .hbm, ⟨1, _⟩ => ⟨S1024x1664, .f32⟩
  | .hbm, ⟨2, _⟩ => ⟨S1024x1664, .f32⟩
  | .hbm, ⟨3, _⟩ => ⟨S1024x1664, .f32⟩
  | .hbm, ⟨4, _⟩ => ⟨S1024x1664, .f32⟩
  | .hbm, ⟨5, _⟩ => ⟨S1024x1664, .f32⟩
  | .hbm, ⟨6, _⟩ => ⟨S1024x1664, .f32⟩
  | .hbm, ⟨7, _⟩ => ⟨S1024x1664, .f32⟩
  | .local _ .vmem, ⟨0, _⟩ => ⟨S256x1664, .f32⟩
  | .local _ .vmem, ⟨1, _⟩ => ⟨S256x1664, .f32⟩
  | .local _ .vmem, ⟨2, _⟩ => ⟨S256x1664, .f32⟩
  | .local _ .vmem, ⟨3, _⟩ => ⟨S256x1664, .f32⟩
  | .local _ .vmem, ⟨4, _⟩ => ⟨S256x1664, .f32⟩
  | .local _ .vmem, ⟨5, _⟩ => ⟨S256x1664, .f32⟩
  | .local _ .vmem, ⟨6, _⟩ => ⟨S256x1664, .f32⟩
  | .local _ .vmem, ⟨7, _⟩ => ⟨S256x1664, .f32⟩
  | .local _ .vmem, ⟨8, _⟩ => ⟨S256x1664, .f32⟩
  | .local _ .vmem, ⟨9, _⟩ => ⟨S256x1664, .f32⟩
  | .local _ .vmem, ⟨10, _⟩ => ⟨S256x1664, .f32⟩
  | .local _ .vmem, ⟨11, _⟩ => ⟨S256x1664, .f32⟩
  | .local _ .vmem, ⟨12, _⟩ => ⟨S256x1664, .f32⟩
  | .local _ .vmem, ⟨13, _⟩ => ⟨S256x1664, .f32⟩
  | .local _ .vmem, ⟨14, _⟩ => ⟨S256x1664, .f32⟩
  | .local _ .vmem, ⟨15, _⟩ => ⟨S256x1664, .f32⟩
  | _, _ => ⟨S1024x1664, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1664 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1664 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1664 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1664 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1664 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1664 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1664 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1664 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamwInReferenceIdeal.lean ====
abbrev S1024x1664 : Shape := ⟨2, ![1024, 1664]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1664, .f32⟩
  | .hbm, ⟨1, _⟩ => ⟨S1024x1664, .f32⟩
  | .hbm, ⟨2, _⟩ => ⟨S1024x1664, .f32⟩
  | .hbm, ⟨3, _⟩ => ⟨S1024x1664, .f32⟩
  | .hbm, ⟨4, _⟩ => ⟨S_, .f32⟩
  | .hbm, ⟨5, _⟩ => ⟨S1024x1664, .f32⟩
  | .hbm, ⟨6, _⟩ => ⟨S1024x1664, .f32⟩
  | .hbm, ⟨7, _⟩ => ⟨S_, .f32⟩
  | .hbm, ⟨8, _⟩ => ⟨S1024x1664, .f32⟩
  | .hbm, ⟨9, _⟩ => ⟨S1024x1664, .f32⟩
  | .hbm, ⟨10, _⟩ => ⟨S1024x1664, .f32⟩
  | .hbm, ⟨11, _⟩ => ⟨S_, .f32⟩
  | .hbm, ⟨12, _⟩ => ⟨S1024x1664, .f32⟩
  | .hbm, ⟨13, _⟩ => ⟨S1024x1664, .f32⟩
  | .hbm, ⟨14, _⟩ => ⟨S1024x1664, .f32⟩
  | .hbm, ⟨15, _⟩ => ⟨S_, .f32⟩
  | .hbm, ⟨16, _⟩ => ⟨S1024x1664, .f32⟩
  | .hbm, ⟨17, _⟩ => ⟨S1024x1664, .f32⟩
  | .hbm, ⟨18, _⟩ => ⟨S1024x1664, .f32⟩
  | .hbm, ⟨19, _⟩ => ⟨S_, .f32⟩
  | .hbm, ⟨20, _⟩ => ⟨S1024x1664, .f32⟩
  | .hbm, ⟨21, _⟩ => ⟨S1024x1664, .f32⟩
  | .hbm, ⟨22, _⟩ => ⟨S_, .f32⟩
  | .hbm, ⟨23, _⟩ => ⟨S1024x1664, .f32⟩
  | .hbm, ⟨24, _⟩ => ⟨S1024x1664, .f32⟩
  | .hbm, ⟨25, _⟩ => ⟨S1024x1664, .f32⟩
  | .hbm, ⟨26, _⟩ => ⟨S_, .f32⟩
  | .hbm, ⟨27, _⟩ => ⟨S1024x1664, .f32⟩
  | .hbm, ⟨28, _⟩ => ⟨S1024x1664, .f32⟩
  | .hbm, ⟨29, _⟩ => ⟨S1024x1664, .f32⟩
  | .hbm, ⟨30, _⟩ => ⟨S_, .f32⟩
  | .hbm, ⟨31, _⟩ => ⟨S1024x1664, .f32⟩
  | .hbm, ⟨32, _⟩ => ⟨S1024x1664, .f32⟩
  | .hbm, ⟨33, _⟩ => ⟨S1024x1664, .f32⟩
  | .hbm, ⟨34, _⟩ => ⟨S_, .f32⟩
  | .hbm, ⟨35, _⟩ => ⟨S1024x1664, .f32⟩
  | .hbm, ⟨36, _⟩ => ⟨S1024x1664, .f32⟩
  | _, _ => ⟨S1024x1664, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AttnBwd.lean ====
abbrev S2048x6656 : Shape := ⟨2, ![2048, 6656]⟩
abbrev S2048x1024 : Shape := ⟨2, ![2048, 1024]⟩
abbrev S1024x1024 : Shape := ⟨2, ![1024, 1024]⟩
abbrev S1x16 : Shape := ⟨2, ![1, 16]⟩
abbrev S2048x8 : Shape := ⟨2, ![2048, 8]⟩
abbrev S_ : Shape := ⟨0, ![]⟩
abbrev S2048x48 : Shape := ⟨2, ![2048, 48]⟩
abbrev S2048x64 : Shape := ⟨2, ![2048, 64]⟩
abbrev S2048x256 : Shape := ⟨2, ![2048, 256]⟩
abbrev S1x128 : Shape := ⟨2, ![1, 128]⟩
abbrev S128x1024 : Shape := ⟨2, ![128, 1024]⟩
abbrev S128x256 : Shape := ⟨2, ![128, 256]⟩
abbrev S256x128 : Shape := ⟨2, ![256, 128]⟩
abbrev S256x256 : Shape := ⟨2, ![256, 256]⟩
abbrev S128x128 : Shape := ⟨2, ![128, 128]⟩
abbrev S1x1 : Shape := ⟨2, ![1, 1]⟩
abbrev S1x256 : Shape := ⟨2, ![1, 256]⟩
abbrev S256 : Shape := ⟨1, ![256]⟩
abbrev S1 : Shape := ⟨1, ![1]⟩

abbrev nBuf : Space → Nat
  | .hbm => 25
  | .vmem => 36
  | .smem => 1
  | _ => 0

abbrev bufTy : (tb : Table) → Fin (tcTables nBuf tb) → BufTy
  | .hbm, ⟨0, _⟩ => ⟨S2048x6656, .f32⟩
  | .hbm, ⟨1, _⟩ => ⟨S2048x1024, .bf16⟩
  | .hbm, ⟨2, _⟩ => ⟨S1024x1024, .bf16⟩
  | .hbm, ⟨3, _⟩ => ⟨S1x16, .f32⟩
  | .hbm, ⟨4, _⟩ => ⟨S2048x8, .f32⟩
  | .hbm, ⟨5, _⟩ => ⟨S2048x8, .f32⟩
  | .hbm, ⟨6, _⟩ => ⟨S_, .f32⟩
  | .hbm, ⟨7, _⟩ => ⟨S2048x48, .f32⟩
  | .hbm, ⟨8, _⟩ => ⟨S_, .f32⟩
  | .hbm, ⟨9, _⟩ => ⟨S2048x48, .f32⟩
  | .hbm, ⟨10, _⟩ => ⟨S_, .f32⟩
  | .hbm, ⟨11, _⟩ => ⟨S2048x8, .f32⟩
  | .hbm, ⟨12, _⟩ => ⟨S2048x64, .f32⟩
  | .hbm, ⟨13, _⟩ => ⟨S2048x8, .f32⟩
  | .hbm, ⟨14, _⟩ => ⟨S2048x64, .f32⟩
  | .hbm, ⟨15, _⟩ => ⟨S2048x64, .f32⟩
  | .hbm, ⟨16, _⟩ => ⟨S2048x256, .f32⟩
  | .hbm, ⟨17, _⟩ => ⟨S2048x256, .f32⟩
  | .hbm, ⟨18, _⟩ => ⟨S2048x256, .f32⟩
  | .hbm, ⟨19, _⟩ => ⟨S2048x1024, .bf16⟩
  | .hbm, ⟨20, _⟩ => ⟨S2048x256, .f32⟩
  | .hbm, ⟨21, _⟩ => ⟨S2048x256, .f32⟩
  | .hbm, ⟨22, _⟩ => ⟨S2048x256, .f32⟩
  | .hbm, ⟨23, _⟩ => ⟨S2048x256, .f32⟩
  | .hbm, ⟨24, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x256, .f32⟩
  | .local _ .vmem, ⟨11, _⟩ => ⟨S128x256, .f32⟩
  | .local _ .vmem, ⟨12, _⟩ => ⟨S128x256, .f32⟩
  | .local _ .vmem, ⟨13, _⟩ => ⟨S128x256, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S128x256, .f32⟩
  | .local _ .vmem, ⟨19, _⟩ => ⟨S128x256, .f32⟩
  | .local _ .vmem, ⟨20, _⟩ => ⟨S128x256, .f32⟩
  | .local _ .vmem, ⟨21, _⟩ => ⟨S128x256, .f32⟩
  | .local _ .vmem, ⟨22, _⟩ => ⟨S128x1024, .bf16⟩
  | .local _ .vmem, ⟨23, _⟩ => ⟨S128x1024, .bf16⟩
  | .local _ .vmem, ⟨24, _⟩ => ⟨S1024x1024, .bf16⟩
  | .local _ .vmem, ⟨25, _⟩ => ⟨S128x1024, .bf16⟩
  | .local _ .vmem, ⟨26, _⟩ => ⟨S128x1024, .bf16⟩
  | .local _ .vmem, ⟨27, _⟩ => ⟨S128x256, .f32⟩
  | .local _ .vmem, ⟨28, _⟩ => ⟨S128x256, .f32⟩
  | .local _ .vmem, ⟨29, _⟩ => ⟨S128x256, .f32⟩
  | .local _ .vmem, ⟨30, _⟩ => ⟨S128x256, .f32⟩
  | .local _ .vmem, ⟨31, _⟩ => ⟨S128x256, .f32⟩
  | .local _ .vmem, ⟨32, _⟩ => ⟨S128x256, .f32⟩
  | .local _ .vmem, ⟨33, _⟩ => ⟨S128x256, .f32⟩
  | .local _ .vmem, ⟨34, _⟩ => ⟨S128x256, .f32⟩
  | .local _ .vmem, ⟨35, _⟩ => ⟨S1x128, .f32⟩
  | .local _ .smem, ⟨0, _⟩ => ⟨S1x16, .f32⟩
  | _, _ => ⟨S2048x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .smem, ⟨0, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_cst_1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v10_5 : Ref sig .tc := ⟨.hbm, 24, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem14_0 : DmaSem sig := 26
abbrev cc0_sem14_1 : DmaSem sig := 27
abbrev cc0_sem15_0 : DmaSem sig := 28
abbrev cc0_sem15_1 : DmaSem sig := 29
abbrev cc0_sem16_0 : DmaSem sig := 30
abbrev cc0_sem16_1 : DmaSem sig := 31
abbrev cc0_sem17_0 : DmaSem sig := 32
abbrev cc0_sem17_1 : DmaSem sig := 33
abbrev cc0_sem18_0 : DmaSem sig := 34
abbrev cc0_sem18_1 : DmaSem sig := 35
abbrev cc0_sem19_0 : DmaSem sig := 36

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32_357 : BitVec 32 := 0#32
  let v957 : BitVec 1 := Scalar.cmpi .eq arg0 c0_i32_357
  let v958 : BitVec 32 := Scalar.extui v957
  let c0_i32_358 : BitVec 32 := 0#32
  let v959 : BitVec 1 := Scalar.cmpi .ne v958 c0_i32_358
  v959

def k0_cond2 (i : grid0.Coords) : BitVec 1 :=
  let arg0 : BitVec 32 := BitVec.ofNat 32 (i 0).val
  let c0_i32_359 : BitVec 32 := 0#32
  let v960 : BitVec 1 := Scalar.cmpi .sgt arg0 c0_i32_359
  let v961 : BitVec 32 := Scalar.extui v960
  let c0_i32_360 : BitVec 32 := 0#32
  let v962 : BitVec 1 := Scalar.cmpi .ne v961 c0_i32_360
  v962

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c16_i32 : BitVec 32 := 16#32
  let c0_i32_0 : BitVec 32 := 0#32
  ![v1.toNat, c16_i32.toNat]

def cc0_transform_3 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c17_i32 : BitVec 32 := 17#32
  let c0_i32_0 : BitVec 32 := 0#32
  ![v1.toNat, c17_i32.toNat]

def cc0_transform_5 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let c0_i32 : BitVec 32 := 0#32
  let v2 : BitVec 1 := Scalar.cmpi .eq c16_i32_0 c0_i32
  let c1_i32_1 : BitVec 32 := 1#32
  let v3 : BitVec 32 := Scalar.select v2 c1_i32_1 c16_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c16_i32 : BitVec 32 := 16#32
  let v0 : BitVec 32 := Scalar.addi arg0 c16_i32
  let c1_i32 : BitVec 32 := 1#32
  let v1 : BitVec 32 := Scalar.subi v0 c1_i32
  let c16_i32_0 : BitVec 32 := 16#32
  let c0_i32 : BitVec 32 := 0#32
  let v2 : BitVec 1 := Scalar.cmpi .eq c16_i32_0 c0_i32
  let c1_i32_1 : BitVec 32 := 1#32
  let v3 : BitVec 32 := Scalar.select v2 c1_i32_1 c16_i32_0
  let v4 : BitVec 32 := Scalar.remsi v1 v3
  let c0_i32_2 : BitVec 32 := 0#32
  let v5 : BitVec 1 := Scalar.cmpi .ne v4 c0_i32_2
  let c0_i32_3 : BitVec 32 := 0#32
  let v6 : BitVec 1 := Scalar.cmpi .slt v4 c0_i32_3
  let c0_i32_4 : BitVec 32 := 0#32
  let v7 : BitVec 1 := Scalar.cmpi .slt v3 c0_i32_4
  let v8 : BitVec 1 := Scalar.xori v6 v7
  let v9 : BitVec 1 := Scalar.andi v8 v5
  let v10 : BitVec 32 := Scalar.addi v4 v3
  let v11 : BitVec 32 := Scalar.select v9 v10 v4
  let c0_i32_5 : BitVec 32 := 0#32
  let c0_i32_6 : BitVec 32 := 0#32
  ![v11.toNat, c0_i32_5.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 1 → Memref sig .tc .vmem S1x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]
-- ==== AttnBwdIdeal.lean ====
variable {F : FTy → Type} [FloatOps F] [Named F]
def κ : String → Option EReal := fun
  | "mask" => some ⊥
  | _ => none
-- ==== AttnBwdReferenceIdeal.lean ====
abbrev S2048x6656 : Shape := ⟨2, ![2048, 6656]⟩
abbrev S2048x1024 : Shape := ⟨2, ![2048, 1024]⟩
abbrev S1024x1024 : Shape := ⟨2, ![1024, 1024]⟩
abbrev S1x16 : Shape := ⟨2, ![1, 16]⟩
abbrev S2048x8 : Shape := ⟨2, ![2048, 8]⟩
abbrev S2048x256 : Shape := ⟨2, ![2048, 256]⟩
abbrev S2048x4x64 : Shape := ⟨3, ![2048, 4, 64]⟩
abbrev S2048x4x8 : Shape := ⟨3, ![2048, 4, 8]⟩
abbrev S2048x4x48 : Shape := ⟨3, ![2048, 4, 48]⟩
abbrev S2048x1x8 : Shape := ⟨3, ![2048, 1, 8]⟩
abbrev S2048x16x64 : Shape := ⟨3, ![2048, 16, 64]⟩
abbrev S2048x16x8 : Shape := ⟨3, ![2048, 16, 8]⟩
abbrev S2048x16x48 : Shape := ⟨3, ![2048, 16, 48]⟩
abbrev S16x128x4x4x64 : Shape := ⟨5, ![16, 128, 4, 4, 64]⟩
abbrev S_ : Shape := ⟨0, ![]⟩
abbrev S128x4x64 : Shape := ⟨3, ![128, 4, 64]⟩
abbrev S1920x4x64 : Shape := ⟨3, ![1920, 4, 64]⟩
abbrev S16x128x4x64 : Shape := ⟨4, ![16, 128, 4, 64]⟩
abbrev S16x256x4x64 : Shape := ⟨4, ![16, 256, 4, 64]⟩
abbrev S16x4x256x128x4 : Shape := ⟨5, ![16, 4, 256, 128, 4]⟩
abbrev S16x4x4x128x256 : Shape := ⟨5, ![16, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S16 : Shape := ⟨1, ![16]⟩
abbrev S16x1 : Shape := ⟨2, ![16, 1]⟩
abbrev S16x256 : Shape := ⟨2, ![16, 256]⟩
abbrev S1x128x256 : Shape := ⟨3, ![1, 128, 256]⟩
abbrev S16x1x256 : Shape := ⟨3, ![16, 1, 256]⟩
abbrev S16x128x256 : Shape := ⟨3, ![16, 128, 256]⟩
abbrev S16x1x1x128x256 : Shape := ⟨5, ![16, 1, 1, 128, 256]⟩
abbrev S1x4x4x1x1 : Shape := ⟨5, ![1, 4, 4, 1, 1]⟩
abbrev S16x4x4x128x1 : Shape := ⟨5, ![16, 4, 4, 128, 1]⟩
abbrev S16x4x4x128x257 : Shape := ⟨5, ![16, 4, 4, 128, 257]⟩
abbrev S16x4x4x128 : Shape := ⟨4, ![16, 4, 4, 128]⟩
abbrev S16x4x64x4x128 : Shape := ⟨5, ![16, 4, 64, 4, 128]⟩
abbrev S16x4x64x256 : Shape := ⟨4, ![16, 4, 64, 256]⟩
abbrev S4x4 : Shape := ⟨2, ![4, 4]⟩
abbrev S16x4x128x4x64 : Shape := ⟨5, ![16, 4, 128, 4, 64]⟩
abbrev S16x4x256x64 : Shape := ⟨4, ![16, 4, 256, 64]⟩
abbrev S1x112 : Shape := ⟨2, ![1, 112]⟩
abbrev S1x128 : Shape := ⟨2, ![1, 128]⟩

abbrev nBuf : Space → Nat
  | .hbm => 253
  | .vmem => 0
  | .smem => 0
  | _ => 0

abbrev hbmTy0_0 (i : Nat) : BufTy := match i % 128 with
  | 0 => ⟨S2048x6656, .f32⟩
  | 1 => ⟨S2048x1024, .bf16⟩
  | 2 => ⟨S1024x1024, .bf16⟩
  | 3 => ⟨S1x16, .f32⟩
  | 4 => ⟨S2048x8, .f32⟩
  | 5 => ⟨S2048x8, .f32⟩
  | 6 => ⟨S2048x1024, .f32⟩
  | 7 => ⟨S2048x256, .f32⟩
  | 8 => ⟨S2048x256, .f32⟩
  | 9 => ⟨S2048x4x64, .f32⟩
  | 10 => ⟨S2048x4x8, .f32⟩
  | 11 => ⟨S2048x4x8, .f32⟩
  | 12 => ⟨S2048x4x48, .f32⟩
  | 13 => ⟨S2048x1x8, .f32⟩
  | 14 => ⟨S2048x1x8, .f32⟩
  | 15 => ⟨S2048x4x8, .f32⟩
  | 16 => ⟨S2048x4x8, .f32⟩
  | 17 => ⟨S2048x4x8, .f32⟩
  | 18 => ⟨S2048x4x8, .f32⟩
  | 19 => ⟨S2048x4x8, .f32⟩
  | 20 => ⟨S2048x4x8, .f32⟩
  | 21 => ⟨S2048x4x8, .f32⟩
  | 22 => ⟨S2048x4x8, .f32⟩
  | 23 => ⟨S2048x4x8, .f32⟩
  | 24 => ⟨S2048x4x8, .f32⟩
  | 25 => ⟨S2048x4x64, .f32⟩
  | 26 => ⟨S2048x256, .f32⟩
  | 27 => ⟨S2048x16x64, .f32⟩
  | 28 => ⟨S2048x16x8, .f32⟩
  | 29 => ⟨S2048x16x8, .f32⟩
  | 30 => ⟨S2048x16x48, .f32⟩
  | 31 => ⟨S2048x1x8, .f32⟩
  | 32 => ⟨S2048x1x8, .f32⟩
  | 33 => ⟨S2048x16x8, .f32⟩
  | 34 => ⟨S2048x16x8, .f32⟩
  | 35 => ⟨S2048x16x8, .f32⟩
  | 36 => ⟨S2048x16x8, .f32⟩
  | 37 => ⟨S2048x16x8, .f32⟩
  | 38 => ⟨S2048x16x8, .f32⟩
  | 39 => ⟨S2048x16x8, .f32⟩
  | 40 => ⟨S2048x16x8, .f32⟩
  | 41 => ⟨S2048x16x8, .f32⟩
  | 42 => ⟨S2048x16x8, .f32⟩
  | 43 => ⟨S2048x16x64, .f32⟩
  | 44 => ⟨S2048x4x64, .f32⟩
  | 45 => ⟨S2048x4x64, .f32⟩
  | 46 => ⟨S2048x4x64, .f32⟩
  | 47 => ⟨S2048x4x64, .f32⟩
  | 48 => ⟨S16x128x4x4x64, .f32⟩
  | 49 => ⟨S_, .f32⟩
  | 50 => ⟨S128x4x64, .f32⟩
  | 51 => ⟨S1920x4x64, .f32⟩
  | 52 => ⟨S2048x4x64, .f32⟩
  | 53 => ⟨S_, .f32⟩
  | 54 => ⟨S128x4x64, .f32⟩
  | 55 => ⟨S16x128x4x64, .f32⟩
  | 56 => ⟨S16x128x4x64, .f32⟩
  | 57 => ⟨S16x256x4x64, .f32⟩
  | 58 => ⟨S_, .f32⟩
  | 59 => ⟨S128x4x64, .f32⟩
  | 60 => ⟨S1920x4x64, .f32⟩
  | 61 => ⟨S2048x4x64, .f32⟩
  | 62 => ⟨S_, .f32⟩
  | 63 => ⟨S128x4x64, .f32⟩
  | 64 => ⟨S16x128x4x64, .f32⟩
  | 65 => ⟨S16x128x4x64, .f32⟩
  | 66 => ⟨S16x256x4x64, .f32⟩
  | 67 => ⟨S16x4x256x128x4, .f32⟩
  | 68 => ⟨S16x4x4x128x256, .f32⟩
  | 69 => ⟨S_, .f32⟩
  | 70 => ⟨S16x4x4x128x256, .f32⟩
  | 71 => ⟨S16x4x4x128x256, .f32⟩
  | 72 => ⟨S128, .i32⟩
  | 73 => ⟨S128x1, .i32⟩
  | 74 => ⟨S_, .i32⟩
  | 75 => ⟨S128x1, .i32⟩
  | 76 => ⟨S128x1, .i32⟩
  | 77 => ⟨S256, .i32⟩
  | 78 => ⟨S1x256, .i32⟩
  | 79 => ⟨S128x256, .i32⟩
  | 80 => ⟨S128x256, .i32⟩
  | 81 => ⟨S128x256, .i32⟩
  | 82 => ⟨S16, .i32⟩
  | 83 => ⟨S16x1, .i32⟩
  | 84 => ⟨S_, .i32⟩
  | 85 => ⟨S16x1, .i32⟩
  | 86 => ⟨S16x1, .i32⟩
  | 87 => ⟨S_, .i32⟩
  | 88 => ⟨S16x1, .i32⟩
  | 89 => ⟨S16x1, .i32⟩
  | 90 => ⟨S256, .i32⟩
  | 91 => ⟨S1x256, .i32⟩
  | 92 => ⟨S16x256, .i32⟩
  | 93 => ⟨S16x256, .i32⟩
  | 94 => ⟨S16x256, .i32⟩
  | 95 => ⟨S_, .i32⟩
  | 96 => ⟨S128x256, .i32⟩
  | 97 => ⟨S128x256, .i1⟩
  | 98 => ⟨S_, .i32⟩
  | 99 => ⟨S128x256, .i32⟩
  | 100 => ⟨S128x256, .i1⟩
  | 101 => ⟨S128x256, .i1⟩
  | 102 => ⟨S1x128x256, .i1⟩
  | 103 => ⟨S_, .i32⟩
  | 104 => ⟨S16x256, .i32⟩
  | 105 => ⟨S16x256, .i1⟩
  | 106 => ⟨S16x1x256, .i1⟩
  | 107 => ⟨S16x128x256, .i1⟩
  | 108 => ⟨S16x128x256, .i1⟩
  | 109 => ⟨S16x128x256, .i1⟩
  | 110 => ⟨S16x1x1x128x256, .i1⟩
  | 111 => ⟨S_, .f32⟩
  | 112 => ⟨S_, .f32⟩
  | 113 => ⟨S16x4x4x128x256, .i1⟩
  | 114 => ⟨S16x4x4x128x256, .f32⟩
  | 115 => ⟨S16x4x4x128x256, .f32⟩
  | 116 => ⟨S_, .f32⟩
  | 117 => ⟨S16x4x4x128x256, .f32⟩
  | 118 => ⟨S1x4x4x1x1, .f32⟩
  | 119 => ⟨S16x4x4x128x1, .f32⟩
  | 120 => ⟨S16x4x4x128x257, .f32⟩
  | 121 => ⟨S_, .f32⟩
  | 122 => ⟨S16x4x4x128, .f32⟩
  | 123 => ⟨S16x4x4x128x1, .f32⟩
  | 124 => ⟨S16x4x4x128x257, .f32⟩
  | 125 => ⟨S16x4x4x128x257, .i1⟩
  | 126 => ⟨S16x4x4x128x257, .f32⟩
  | 127 => ⟨S_, .f32⟩
  | _ => ⟨S2048x6656, .f32⟩

abbrev hbmTy0_1 (i : Nat) : BufTy := match i % 128 with
  | 0 => ⟨S16x4x4x128, .f32⟩
  | 1 => ⟨S_, .f32⟩
  | 2 => ⟨S16x4x4x128, .f32⟩
  | 3 => ⟨S16x4x4x128, .f32⟩
  | 4 => ⟨S_, .f32⟩
  | 5 => ⟨S16x4x4x128, .f32⟩
  | 6 => ⟨S16x4x4x128, .i1⟩
  | 7 => ⟨S_, .f32⟩
  | 8 => ⟨S16x4x4x128, .f32⟩
  | 9 => ⟨S16x4x4x128, .i1⟩
  | 10 => ⟨S_, .f32⟩
  | 11 => ⟨S16x4x4x128, .f32⟩
  | 12 => ⟨S_, .f32⟩
  | 13 => ⟨S16x4x4x128, .f32⟩
  | 14 => ⟨S_, .f32⟩
  | 15 => ⟨S16x4x4x128, .f32⟩
  | 16 => ⟨S16x4x4x128, .f32⟩
  | 17 => ⟨S16x4x4x128, .f32⟩
  | 18 => ⟨S16x4x4x128x1, .f32⟩
  | 19 => ⟨S16x4x4x128x257, .f32⟩
  | 20 => ⟨S16x4x4x128x257, .f32⟩
  | 21 => ⟨S16x4x4x128x257, .f32⟩
  | 22 => ⟨S_, .f32⟩
  | 23 => ⟨S16x4x4x128, .f32⟩
  | 24 => ⟨S16x4x4x128x1, .f32⟩
  | 25 => ⟨S16x4x4x128x257, .f32⟩
  | 26 => ⟨S16x4x4x128x257, .f32⟩
  | 27 => ⟨S16x4x4x128x1, .f32⟩
  | 28 => ⟨S_, .f32⟩
  | 29 => ⟨S16x4x4x128x1, .f32⟩
  | 30 => ⟨S16x4x4x128x1, .f32⟩
  | 31 => ⟨S16x4x4x128x256, .f32⟩
  | 32 => ⟨S16x4x64x4x128, .f32⟩
  | 33 => ⟨S16x128x4x4x64, .f32⟩
  | 34 => ⟨S2048x1024, .f32⟩
  | 35 => ⟨S1024x1024, .f32⟩
  | 36 => ⟨S2048x1024, .f32⟩
  | 37 => ⟨S2048x1024, .f32⟩
  | 38 => ⟨S2048x1024, .f32⟩
  | 39 => ⟨S16x128x4x4x64, .f32⟩
  | 40 => ⟨S16x4x64x4x128, .f32⟩
  | 41 => ⟨S16x4x4x128x256, .f32⟩
  | 42 => ⟨S16x4x64x256, .f32⟩
  | 43 => ⟨S16x256x4x64, .f32⟩
  | 44 => ⟨S_, .f32⟩
  | 45 => ⟨S16x4x4x128x257, .f32⟩
  | 46 => ⟨S16x4x4x128x257, .f32⟩
  | 47 => ⟨S16x4x4x128x257, .f32⟩
  | 48 => ⟨S16x4x4x128x257, .f32⟩
  | 49 => ⟨S_, .f32⟩
  | 50 => ⟨S16x4x4x128, .f32⟩
  | 51 => ⟨S16x4x4x128x1, .f32⟩
  | 52 => ⟨S16x4x4x128x1, .f32⟩
  | 53 => ⟨S16x4x4x128x257, .f32⟩
  | 54 => ⟨S16x4x4x128x257, .f32⟩
  | 55 => ⟨S_, .f32⟩
  | 56 => ⟨S16x4x4x128, .f32⟩
  | 57 => ⟨S16x4x4x128x257, .f32⟩
  | 58 => ⟨S16x4x4x128x257, .f32⟩
  | 59 => ⟨S16x4x4x128x257, .f32⟩
  | 60 => ⟨S16x4x4x128x256, .f32⟩
  | 61 => ⟨S16x4x4x128x1, .f32⟩
  | 62 => ⟨S_, .f32⟩
  | 63 => ⟨S4x4, .f32⟩
  | 64 => ⟨S1x4x4x1x1, .f32⟩
  | 65 => ⟨S1x16, .f32⟩
  | 66 => ⟨S_, .f32⟩
  | 67 => ⟨S16x4x4x128x256, .f32⟩
  | 68 => ⟨S16x4x4x128x256, .f32⟩
  | 69 => ⟨S_, .f32⟩
  | 70 => ⟨S16x4x4x128x256, .f32⟩
  | 71 => ⟨S16x4x4x128x256, .f32⟩
  | 72 => ⟨S16x4x256x128x4, .f32⟩
  | 73 => ⟨S16x4x128x4x64, .f32⟩
  | 74 => ⟨S16x128x4x4x64, .f32⟩
  | 75 => ⟨S16x4x256x64, .f32⟩
  | 76 => ⟨S16x256x4x64, .f32⟩
  | 77 => ⟨S16x128x4x64, .f32⟩
  | 78 => ⟨S16x128x4x64, .f32⟩
  | 79 => ⟨S2048x4x64, .f32⟩
  | 80 => ⟨S2048x4x64, .f32⟩
  | 81 => ⟨S128x4x64, .f32⟩
  | 82 => ⟨S1920x4x64, .f32⟩
  | 83 => ⟨S_, .f32⟩
  | 84 => ⟨S2048x4x64, .f32⟩
  | 85 => ⟨S16x128x4x64, .f32⟩
  | 86 => ⟨S16x128x4x64, .f32⟩
  | 87 => ⟨S2048x4x64, .f32⟩
  | 88 => ⟨S2048x4x64, .f32⟩
  | 89 => ⟨S128x4x64, .f32⟩
  | 90 => ⟨S1920x4x64, .f32⟩
  | 91 => ⟨S_, .f32⟩
  | 92 => ⟨S2048x4x64, .f32⟩
  | 93 => ⟨S2048x16x64, .f32⟩
  | 94 => ⟨S2048x256, .f32⟩
  | 95 => ⟨S2048x256, .f32⟩
  | 96 => ⟨S2048x256, .f32⟩
  | 97 => ⟨S2048x256, .f32⟩
  | 98 => ⟨S2048x16x8, .f32⟩
  | 99 => ⟨S2048x16x8, .f32⟩
  | 100 => ⟨S2048x16x48, .f32⟩
  | 101 => ⟨S2048x16x8, .f32⟩
  | 102 => ⟨S2048x16x8, .f32⟩
  | 103 => ⟨S2048x16x8, .f32⟩
  | 104 => ⟨S2048x16x8, .f32⟩
  | 105 => ⟨S2048x16x8, .f32⟩
  | 106 => ⟨S2048x16x8, .f32⟩
  | 107 => ⟨S2048x16x8, .f32⟩
  | 108 => ⟨S2048x16x8, .f32⟩
  | 109 => ⟨S2048x16x8, .f32⟩
  | 110 => ⟨S2048x16x8, .f32⟩
  | 111 => ⟨S2048x16x8, .f32⟩
  | 112 => ⟨S_, .f32⟩
  | 113 => ⟨S2048x16x64, .f32⟩
  | 114 => ⟨S_, .f32⟩
  | 115 => ⟨S2048x16x64, .f32⟩
  | 116 => ⟨S2048x16x64, .f32⟩
  | 117 => ⟨S_, .f32⟩
  | 118 => ⟨S2048x16x64, .f32⟩
  | 119 => ⟨S2048x16x64, .f32⟩
  | 120 => ⟨S2048x1024, .f32⟩
  | 121 => ⟨S2048x1024, .bf16⟩
  | 122 => ⟨S_, .f32⟩
  | 123 => ⟨S1x112, .f32⟩
  | 124 => ⟨S1x128, .f32⟩
  | _ => ⟨S2048x6656, .f32⟩

abbrev hbmTy (i : Nat) : BufTy := match i / 128 with
  | 0 => hbmTy0_0 i
  | 1 => hbmTy0_1 i
  | _ => ⟨S2048x6656, .f32⟩

abbrev bufTy : (tb : Table) → Fin (tcTables nBuf tb) → BufTy
  | .hbm, ⟨i, _⟩ => hbmTy i
  | _, _ => ⟨S2048x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_cst : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_cst_0 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_cst_1 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_cst_2 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_cst_3 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_c : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_c_4 : Ref sig .tc := ⟨.hbm, 84, rfl⟩
abbrev main_v72 : Ref sig .tc := ⟨.hbm, 85, rfl⟩
abbrev main_v73 : Ref sig .tc := ⟨.hbm, 86, rfl⟩
abbrev main_c_5 : Ref sig .tc := ⟨.hbm, 87, rfl⟩
abbrev main_v74 : Ref sig .tc := ⟨.hbm, 88, rfl⟩
abbrev main_v75 : Ref sig .tc := ⟨.hbm, 89, rfl⟩
abbrev main_v76 : Ref sig .tc := ⟨.hbm, 90, rfl⟩
abbrev main_v77 : Ref sig .tc := ⟨.hbm, 91, rfl⟩
abbrev main_v78 : Ref sig .tc := ⟨.hbm, 92, rfl⟩
abbrev main_v79 : Ref sig .tc := ⟨.hbm, 93, rfl⟩
abbrev main_v80 : Ref sig .tc := ⟨.hbm, 94, rfl⟩
abbrev main_c_6 : Ref sig .tc := ⟨.hbm, 95, rfl⟩
abbrev main_v81 : Ref sig .tc := ⟨.hbm, 96, rfl⟩
abbrev main_v82 : Ref sig .tc := ⟨.hbm, 97, rfl⟩
abbrev main_c_7 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_c_8 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_cst_9 : Ref sig .tc := ⟨.hbm, 111, rfl⟩
abbrev main_call0_v0 : Ref sig .tc := ⟨.hbm, 112, rfl⟩
abbrev main_v94_1 : Ref sig .tc := ⟨.hbm, 113, rfl⟩
abbrev main_call0_v2 : Ref sig .tc := ⟨.hbm, 114, rfl⟩
abbrev main_v94_0 : Ref sig .tc := ⟨.hbm, 115, rfl⟩
abbrev main_call0_cst : Ref sig .tc := ⟨.hbm, 116, rfl⟩
abbrev main_v94_2 : Ref sig .tc := ⟨.hbm, 117, rfl⟩
abbrev main_v95 : Ref sig .tc := ⟨.hbm, 118, rfl⟩
abbrev main_v96 : Ref sig .tc := ⟨.hbm, 119, rfl⟩
abbrev main_v97 : Ref sig .tc := ⟨.hbm, 120, rfl⟩
abbrev main_cst_10 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_cst_11 : Ref sig .tc := ⟨.hbm, 127, rfl⟩
abbrev main_v103 : Ref sig .tc := ⟨.hbm, 128, rfl⟩
abbrev main_cst_12 : Ref sig .tc := ⟨.hbm, 129, rfl⟩
abbrev main_v104 : Ref sig .tc := ⟨.hbm, 130, rfl⟩
abbrev main_v105 : Ref sig .tc := ⟨.hbm, 131, rfl⟩
abbrev main_cst_13 : Ref sig .tc := ⟨.hbm, 132, rfl⟩
abbrev main_v106 : Ref sig .tc := ⟨.hbm, 133, rfl⟩
abbrev main_v107 : Ref sig .tc := ⟨.hbm, 134, rfl⟩
abbrev main_cst_14 : Ref sig .tc := ⟨.hbm, 135, rfl⟩
abbrev main_v108 : Ref sig .tc := ⟨.hbm, 136, rfl⟩
abbrev main_v109 : Ref sig .tc := ⟨.hbm, 137, rfl⟩
abbrev main_cst_15 : Ref sig .tc := ⟨.hbm, 138, rfl⟩
abbrev main_v110 : Ref sig .tc := ⟨.hbm, 139, rfl⟩
abbrev main_cst_16 : Ref sig .tc := ⟨.hbm, 140, rfl⟩
abbrev main_v111 : Ref sig .tc := ⟨.hbm, 141, rfl⟩
abbrev main_cst_17 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_cst_18 : Ref sig .tc := ⟨.hbm, 150, rfl⟩
abbrev main_v119 : Ref sig .tc := ⟨.hbm, 151, rfl⟩
abbrev main_v120 : Ref sig .tc := ⟨.hbm, 152, rfl⟩
abbrev main_v121 : Ref sig .tc := ⟨.hbm, 153, rfl⟩
abbrev main_v122 : Ref sig .tc := ⟨.hbm, 154, rfl⟩
abbrev main_v123 : Ref sig .tc := ⟨.hbm, 155, rfl⟩
abbrev main_cst_19 : Ref sig .tc := ⟨.hbm, 156, rfl⟩
abbrev main_v124 : Ref sig .tc := ⟨.hbm, 157, rfl⟩
abbrev main_v125 : Ref sig .tc := ⟨.hbm, 158, rfl⟩
abbrev main_v126 : Ref sig .tc := ⟨.hbm, 159, rfl⟩
abbrev main_v127 : Ref sig .tc := ⟨.hbm, 160, rfl⟩
abbrev main_v128 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_cst_20 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_cst_21 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_cst_22 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_cst_23 : Ref sig .tc := ⟨.hbm, 190, rfl⟩
abbrev main_v154 : Ref sig .tc := ⟨.hbm, 191, rfl⟩
abbrev main_v155 : Ref sig .tc := ⟨.hbm, 192, rfl⟩
abbrev main_v156 : Ref sig .tc := ⟨.hbm, 193, rfl⟩
abbrev main_call1_cst : Ref sig .tc := ⟨.hbm, 194, rfl⟩
abbrev main_call1_v0 : Ref sig .tc := ⟨.hbm, 195, rfl⟩
abbrev main_v157 : Ref sig .tc := ⟨.hbm, 196, rfl⟩
abbrev main_cst_24 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_cst_25 : Ref sig .tc := ⟨.hbm, 211, rfl⟩
abbrev main_v171 : Ref sig .tc := ⟨.hbm, 212, rfl⟩
abbrev main_v172 : Ref sig .tc := ⟨.hbm, 213, rfl⟩
abbrev main_v173 : Ref sig .tc := ⟨.hbm, 214, rfl⟩
abbrev main_v174 : Ref sig .tc := ⟨.hbm, 215, rfl⟩
abbrev main_v175 : Ref sig .tc := ⟨.hbm, 216, rfl⟩
abbrev main_v176 : Ref sig .tc := ⟨.hbm, 217, rfl⟩
abbrev main_v177 : Ref sig .tc := ⟨.hbm, 218, rfl⟩
abbrev main_cst_26 : Ref sig .tc := ⟨.hbm, 219, rfl⟩
abbrev main_v178 : Ref sig .tc := ⟨.hbm, 220, rfl⟩
abbrev main_v179 : Ref sig .tc := ⟨.hbm, 221, rfl⟩
abbrev main_v180 : Ref sig .tc := ⟨.hbm, 222, rfl⟩
abbrev main_v181 : Ref sig .tc := ⟨.hbm, 223, rfl⟩
abbrev main_v182 : Ref sig .tc := ⟨.hbm, 224, rfl⟩
abbrev main_v183 : Ref sig .tc := ⟨.hbm, 225, rfl⟩
abbrev main_v184 : Ref sig .tc := ⟨.hbm, 226, rfl⟩
abbrev main_v185 : Ref sig .tc := ⟨.hbm, 227, rfl⟩
abbrev main_v186 : Ref sig .tc := ⟨.hbm, 228, rfl⟩
abbrev main_v187 : Ref sig .tc := ⟨.hbm, 229, rfl⟩
abbrev main_v188 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_cst_27 : Ref sig .tc := ⟨.hbm, 240, rfl⟩
abbrev main_v198 : Ref sig .tc := ⟨.hbm, 241, rfl⟩
abbrev main_cst_28 : Ref sig .tc := ⟨.hbm, 242, rfl⟩
abbrev main_v199 : Ref sig .tc := ⟨.hbm, 243, rfl⟩
abbrev main_v200 : Ref sig .tc := ⟨.hbm, 244, rfl⟩
abbrev main_cst_29 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_cst_30 : Ref sig .tc := ⟨.hbm, 250, rfl⟩
abbrev main_v205 : Ref sig .tc := ⟨.hbm, 251, rfl⟩
abbrev main_v206 : Ref sig .tc := ⟨.hbm, 252, rfl⟩

abbrev nD : Nat := 1
abbrev τ : Topo := Topo.v7x

variable {F : FTy → Type} [FloatOps F]
-- ==== Proof.MergeValue.lean ====
/- The gradient of the gated merge: what one grid point computes, what the four result arrays hold. -/
module

public import proofs.«01_k».proof.Defs
public import proofs.«01_k».proof.Proof.Gen.MergeIdeal.Value
public import proofs.«01_k».proof.Proof.Gen.MergeReferenceIdeal.Run
public import Idealize.ShloMosaic.Lib.Pipeline.Value
public import Idealize.ShloMosaic.Lib.Pointwise

@[expose] public section

set_option maxRecDepth 16384

noncomputable section

namespace Cert.MergeIdeal.Hand

open Cert.MergeIdeal Cert.MergeIdeal.Gen Idealize.ShloMosaic Idealize.ShloMosaic.TcCoe Idealize.SL.Sem
open Idealize.ShloMosaic.Pipeline (Dat)

variable (m : (ℓ : Loc nD τ sig) → Buf (Elt Ideal) ℓ)

/-- The incoming gradient. -/
abbrev dx (c : Dev nD) : S2048x1024.Idx → EReal := m ((c : Thread nD τ).loc main_arg0)
/-- The output projection. -/
abbrev wo (c : Dev nD) : S1024x1024.Idx → EReal := m ((c : Thread nD τ).loc main_arg1)
/-- The convolution branch. -/
abbrev co (c : Dev nD) : S2048x1024.Idx → EReal := m ((c : Thread nD τ).loc main_arg2)
/-- The attention branch. -/
abbrev ao (c : Dev nD) : S2048x1024.Idx → EReal := m ((c : Thread nD τ).loc main_arg3)
/-- The combined input projection, whose last columns are the gates. -/
abbrev pr (c : Dev nD) : S2048x6656.Idx → EReal := m ((c : Thread nD τ).loc main_arg4)

theorem hz : (![0, 0] : Fin 2 → Nat) = fun _ => 0 := funext fun a => by fin_cases a <;> rfl

/-- Grid point `t` is row block `t / 2` and column block `t % 2`. -/
theorem at0 : ∀ t : Fin cfg0.N, win0_0.index t 0 = t.val / 2 ∧ win0_0.index t 1 = 0
    ∧ win0_1.index t 0 = t.val % 2 ∧ win0_1.index t 1 = 0
    ∧ win0_2.index t 0 = t.val / 2 ∧ win0_2.index t 1 = t.val % 2
    ∧ win0_3.index t 0 = t.val / 2 ∧ win0_3.index t 1 = t.val % 2
    ∧ win0_4.index t 0 = t.val / 2 ∧ win0_4.index t 1 = 9 + t.val % 2
    ∧ win0_5.index t 0 = t.val / 2 ∧ win0_5.index t 1 = 11 + t.val % 2
    ∧ win0_6.index t 0 = t.val / 2 ∧ win0_6.index t 1 = t.val % 2
    ∧ win0_7.index t 0 = t.val / 2 ∧ win0_7.index t 1 = t.val % 2
    ∧ win0_8.index t 0 = t.val / 2 ∧ win0_8.index t 1 = t.val % 2
    ∧ win0_9.index t 0 = t.val / 2 ∧ win0_9.index t 1 = t.val % 2 :=
  (by decide +kernel : ∀ t : Fin grid0.N, _)

theorem lt4 (t : Fin cfg0.N) : t.val < 4 := lt_of_lt_of_eq t.isLt N_0

/-- The row of the whole array that row `r` of point `t`'s block is. -/
abbrev row (t : Fin cfg0.N) (r : Fin 1024) : Fin 2048 := ⟨t.val / 2 * 1024 + r.val, by have := lt4 t; omega⟩
/-- The column of the whole array that column `l` of point `t`'s block is. -/
abbrev col (t : Fin cfg0.N) (l : Fin 512) : Fin 1024 := ⟨t.val % 2 * 512 + l.val, by omega⟩

theorem blk0 (c : Dev nD) (t : Fin cfg0.N) (r k : Fin 1024) :
    (iblk m c 0 t : Vec Ideal S1024x1024 .bf16) (ix2 r k) = dx m c (ix2 (row t r) k) := by
  have h := at0 t
  unfold iblk
  rw [View.read_apply]
  show V m c main_arg0 _ = m (c.tc.loc main_arg0) _
  unfold V
  congr 1
  funext a
  apply Fin.ext
  match a with
  | ⟨0, _⟩ => show win0_0.index t 0 * 1024 + 1 * r.val = t.val / 2 * 1024 + r.val; rw [h.1]; omega
  | ⟨1, _⟩ => show win0_0.index t 1 * 1024 + 1 * k.val = k.val; rw [h.2.1]; omega

theorem blk1 (c : Dev nD) (t : Fin cfg0.N) (l : Fin 512) (k : Fin 1024) :
    (iblk m c 1 t : Vec Ideal S512x1024 .bf16) (ix2 l k) = wo m c (ix2 (col t l) k) := by
  have h := at0 t
  unfold iblk
  rw [View.read_apply]
  show V m c main_arg1 _ = m (c.tc.loc main_arg1) _
  unfold V
  congr 1
  funext a
  apply Fin.ext
  match a with
  | ⟨0, _⟩ => show win0_1.index t 0 * 512 + 1 * l.val = t.val % 2 * 512 + l.val; rw [h.2.2.1]; omega
  | ⟨1, _⟩ => show win0_1.index t 1 * 1024 + 1 * k.val = k.val; rw [h.2.2.2.1]; omega

/-- The gradient of the merged branches at an index: a row of `dx` times a row of the projection. -/
def dm (c : Dev nD) (r : Fin 2048) (l : Fin 1024) : EReal := ∑ k : Fin 1024, dx m c (ix2 r k) * wo m c (ix2 l k)

/-- The product of a block of `dx` and a block of the projection's rows, at an index. -/
theorem pay1_apply (x0 : Vec Ideal S1024x1024 .bf16) (x1 : Vec Ideal S512x1024 .bf16) (r : Fin 1024) (l : Fin 512) :
    k0_pay1 x0 x1 (ix2 r l) = ∑ k : Fin 1024, x0 (ix2 r k) * x1 (ix2 l k) := by
  unfold k0_pay1
  pointwise

theorem blk2 (c : Dev nD) (t : Fin cfg0.N) (r : Fin 1024) (l : Fin 512) :
    (iblk m c 2 t : Vec Ideal S1024x512 .f32) (ix2 r l) = co m c (ix2 (row t r) (col t l)) := by
  have h := at0 t
  unfold iblk
  rw [View.read_apply]
  show V m c main_arg2 _ = m (c.tc.loc main_arg2) _
  unfold V
  congr 1
  funext a
  apply Fin.ext
  match a with
  | ⟨0, _⟩ => show win0_2.index t 0 * 1024 + 1 * r.val = t.val / 2 * 1024 + r.val; rw [h.2.2.2.2.1]; omega
  | ⟨1, _⟩ => show win0_2.index t 1 * 512 + 1 * l.val = t.val % 2 * 512 + l.val; rw [h.2.2.2.2.2.1]; omega

theorem blk3 (c : Dev nD) (t : Fin cfg0.N) (r : Fin 1024) (l : Fin 512) :
    (iblk m c 3 t : Vec Ideal S1024x512 .f32) (ix2 r l) = ao m c (ix2 (row t r) (col t l)) := by
  have h := at0 t
  unfold iblk
  rw [View.read_apply]
  show V m c main_arg3 _ = m (c.tc.loc main_arg3) _
  unfold V
  congr 1
  funext a
  apply Fin.ext
  match a with
  | ⟨0, _⟩ => show win0_3.index t 0 * 1024 + 1 * r.val = t.val / 2 * 1024 + r.val; rw [h.2.2.2.2.2.2.1]; omega
  | ⟨1, _⟩ => show win0_3.index t 1 * 512 + 1 * l.val = t.val % 2 * 512 + l.val; rw [h.2.2.2.2.2.2.2.1]; omega

theorem blk4 (c : Dev nD) (t : Fin cfg0.N) (r : Fin 1024) (l : Fin 512) :
    (iblk m c 4 t : Vec Ideal S1024x512 .f32) (ix2 r l) = pr m c (ix2 (row t r) ⟨4608 + (col t l).val, by have := (col t l).isLt; omega⟩) := by
  have h := at0 t
  unfold iblk
  rw [View.read_apply]
  show V m c main_arg4 _ = m (c.tc.loc main_arg4) _
  unfold V
  congr 1
  funext a
  apply Fin.ext
  match a with
  | ⟨0, _⟩ => show win0_4.index t 0 * 1024 + 1 * r.val = t.val / 2 * 1024 + r.val; rw [h.2.2.2.2.2.2.2.2.1]; omega
  | ⟨1, _⟩ => show win0_4.index t 1 * 512 + 1 * l.val = 4608 + (t.val % 2 * 512 + l.val); rw [h.2.2.2.2.2.2.2.2.2.1]; omega

theorem blk5 (c : Dev nD) (t : Fin cfg0.N) (r : Fin 1024) (l : Fin 512) :
    (iblk m c 5 t : Vec Ideal S1024x512 .f32) (ix2 r l) = pr m c (ix2 (row t r) ⟨5632 + (col t l).val, by have := (col t l).isLt; omega⟩) := by
  have h := at0 t
  unfold iblk
  rw [View.read_apply]
  show V m c main_arg4 _ = m (c.tc.loc main_arg4) _
  unfold V
  congr 1
  funext a
  apply Fin.ext
  match a with
  | ⟨0, _⟩ => show win0_5.index t 0 * 1024 + 1 * r.val = t.val / 2 * 1024 + r.val; rw [h.2.2.2.2.2.2.2.2.2.2.1]; omega
  | ⟨1, _⟩ => show win0_5.index t 1 * 512 + 1 * l.val = 5632 + (t.val % 2 * 512 + l.val); rw [h.2.2.2.2.2.2.2.2.2.2.2.1]; omega

/-- The product at a point, read in the whole arrays. -/
theorem pay1_blk (c : Dev nD) (t : Fin cfg0.N) (r : Fin 1024) (l : Fin 512) :
    k0_pay1 (iblk m c 0 t : Vec Ideal S1024x1024 .bf16) (iblk m c 1 t : Vec Ideal S512x1024 .bf16) (ix2 r l)
      = dm m c (row t r) (col t l) := by
  rw [pay1_apply]
  unfold dm
  exact Finset.sum_congr rfl fun k _ => by rw [blk0, blk1]

/-- A gate of the convolution branch, squashed. -/
def sc (c : Dev nD) (r : Fin 2048) (l : Fin 1024) : EReal :=
  Ideal.logistic (pr m c (ix2 r ⟨4608 + l.val, by omega⟩))
/-- A gate of the attention branch, squashed. -/
def sa (c : Dev nD) (r : Fin 2048) (l : Fin 1024) : EReal :=
  Ideal.logistic (pr m c (ix2 r ⟨5632 + l.val, by omega⟩))

/-- The convolution branch's gradient. -/
def G6 (c : Dev nD) : Buf (Elt Ideal) ((c : Thread nD τ).loc main_v0_0) :=
  fun i => dm m c (i 0) (i 1) * sc m c (i 0) (i 1)
/-- The attention branch's gradient. -/
def G7 (c : Dev nD) : Buf (Elt Ideal) ((c : Thread nD τ).loc main_v0_1) :=
  fun i => dm m c (i 0) (i 1) * sa m c (i 0) (i 1)
/-- The convolution gate's gradient. -/
def G8 (c : Dev nD) : Buf (Elt Ideal) ((c : Thread nD τ).loc main_v0_2) :=
  fun i => dm m c (i 0) (i 1) * co m c (ix2 (i 0) (i 1)) * (sc m c (i 0) (i 1) * (1 - sc m c (i 0) (i 1)))
/-- The attention gate's gradient. -/
def G9 (c : Dev nD) : Buf (Elt Ideal) ((c : Thread nD τ).loc main_v0_3) :=
  fun i => dm m c (i 0) (i 1) * ao m c (ix2 (i 0) (i 1)) * (sa m c (i 0) (i 1) * (1 - sa m c (i 0) (i 1)))

theorem flushed6_eq (c : Dev nD) (t : Fin cfg0.N) :
    (dats m 0 c).flushed 6 t = ((cfg0.win 6).blk t).view.read (Elt Ideal) (G6 m c) := by
  have h := at0 t
  rw [Value.flushed6]
  unfold out0_6
  rw [View.canon_unit_zero hz, View.ld_unit_zero hz, View.ld_unit_zero hz, View.ld_unit_zero hz]
  funext j
  obtain ⟨r, l, rfl⟩ : ∃ (r : Fin 1024) (l : Fin 512), j = ix2 r l := ⟨j 0, j 1, eq_ix2 j⟩
  rw [View.read_apply]
  have e0 : ((cfg0.win 6).blk t).view.emb (ix2 r l) = ix2 (row t r) (col t l) := by
    funext a
    apply Fin.ext
    match a with
    | ⟨0, _⟩ => show win0_6.index t 0 * 1024 + 1 * r.val = t.val / 2 * 1024 + r.val; rw [h.2.2.2.2.2.2.2.2.2.2.2.2.1]; omega
    | ⟨1, _⟩ => show win0_6.index t 1 * 512 + 1 * l.val = t.val % 2 * 512 + l.val; rw [h.2.2.2.2.2.2.2.2.2.2.2.2.2.1]; omega
  rw [e0]
  show k0_pay4 (iblk m c 0 t : Vec Ideal S1024x1024 .bf16) (iblk m c 1 t : Vec Ideal S512x1024 .bf16) (iblk m c 4 t : Vec Ideal S1024x512 .f32) (ix2 r l) = G6 m c (ix2 (row t r) (col t l))
  unfold k0_pay4 k0_pay2 G6 sc
  pointwise
  rw [pay1_blk, blk4]

theorem flushed7_eq (c : Dev nD) (t : Fin cfg0.N) :
    (dats m 0 c).flushed 7 t = ((cfg0.win 7).blk t).view.read (Elt Ideal) (G7 m c) := by
  have h := at0 t
  rw [Value.flushed7]
  unfold out0_7
  rw [View.canon_unit_zero hz, View.ld_unit_zero hz, View.ld_unit_zero hz, View.ld_unit_zero hz]
  funext j
  obtain ⟨r, l, rfl⟩ : ∃ (r : Fin 1024) (l : Fin 512), j = ix2 r l := ⟨j 0, j 1, eq_ix2 j⟩
  rw [View.read_apply]
  have e0 : ((cfg0.win 7).blk t).view.emb (ix2 r l) = ix2 (row t r) (col t l) := by
    funext a
    apply Fin.ext
    match a with
    | ⟨0, _⟩ => show win0_7.index t 0 * 1024 + 1 * r.val = t.val / 2 * 1024 + r.val; rw [h.2.2.2.2.2.2.2.2.2.2.2.2.2.2.1]; omega
    | ⟨1, _⟩ => show win0_7.index t 1 * 512 + 1 * l.val = t.val % 2 * 512 + l.val; rw [h.2.2.2.2.2.2.2.2.2.2.2.2.2.2.2.1]; omega
  rw [e0]
  show k0_pay5 (iblk m c 0 t : Vec Ideal S1024x1024 .bf16) (iblk m c 1 t : Vec Ideal S512x1024 .bf16) (iblk m c 5 t : Vec Ideal S1024x512 .f32) (ix2 r l) = G7 m c (ix2 (row t r) (col t l))
  unfold k0_pay5 k0_pay3 G7 sa
  pointwise
  rw [pay1_blk, blk5]

theorem flushed8_eq (c : Dev nD) (t : Fin cfg0.N) :
    (dats m 0 c).flushed 8 t = ((cfg0.win 8).blk t).view.read (Elt Ideal) (G8 m c) := by
  have h := at0 t
  rw [Value.flushed8]
  unfold out0_8
  rw [View.canon_unit_zero hz, View.ld_unit_zero hz, View.ld_unit_zero hz, View.ld_unit_zero hz, View.ld_unit_zero hz]
  funext j
  obtain ⟨r, l, rfl⟩ : ∃ (r : Fin 1024) (l : Fin 512), j = ix2 r l := ⟨j 0, j 1, eq_ix2 j⟩
  rw [View.read_apply]
  have e0 : ((cfg0.win 8).blk t).view.emb (ix2 r l) = ix2 (row t r) (col t l) := by
    funext a
    apply Fin.ext
    match a with
    | ⟨0, _⟩ => show win0_8.index t 0 * 1024 + 1 * r.val = t.val / 2 * 1024 + r.val; rw [h.2.2.2.2.2.2.2.2.2.2.2.2.2.2.2.2.1]; omega
    | ⟨1, _⟩ => show win0_8.index t 1 * 512 + 1 * l.val = t.val % 2 * 512 + l.val; rw [h.2.2.2.2.2.2.2.2.2.2.2.2.2.2.2.2.2.1]; omega
  rw [e0]
  show k0_pay6 (iblk m c 0 t : Vec Ideal S1024x1024 .bf16) (iblk m c 1 t : Vec Ideal S512x1024 .bf16) (iblk m c 4 t : Vec Ideal S1024x512 .f32) (iblk m c 2 t : Vec Ideal S1024x512 .f32) (ix2 r l) = G8 m c (ix2 (row t r) (col t l))
  unfold k0_pay6 k0_pay2 G8 sc
  pointwise
  rw [pay1_blk, blk4, blk2]

theorem flushed9_eq (c : Dev nD) (t : Fin cfg0.N) :
    (dats m 0 c).flushed 9 t = ((cfg0.win 9).blk t).view.read (Elt Ideal) (G9 m c) := by
  have h := at0 t
  rw [Value.flushed9]
  unfold out0_9
  rw [View.canon_unit_zero hz, View.ld_unit_zero hz, View.ld_unit_zero hz, View.ld_unit_zero hz, View.ld_unit_zero hz]
  funext j
  obtain ⟨r, l, rfl⟩ : ∃ (r : Fin 1024) (l : Fin 512), j = ix2 r l := ⟨j 0, j 1, eq_ix2 j⟩
  rw [View.read_apply]
  have e0 : ((cfg0.win 9).blk t).view.emb (ix2 r l) = ix2 (row t r) (col t l) := by
    funext a
    apply Fin.ext
    match a with
    | ⟨0, _⟩ => show win0_9.index t 0 * 1024 + 1 * r.val = t.val / 2 * 1024 + r.val; rw [h.2.2.2.2.2.2.2.2.2.2.2.2.2.2.2.2.2.2.1]; omega
    | ⟨1, _⟩ => show win0_9.index t 1 * 512 + 1 * l.val = t.val % 2 * 512 + l.val; rw [h.2.2.2.2.2.2.2.2.2.2.2.2.2.2.2.2.2.2.2]; omega
  rw [e0]
  show k0_pay7 (iblk m c 0 t : Vec Ideal S1024x1024 .bf16) (iblk m c 1 t : Vec Ideal S512x1024 .bf16) (iblk m c 5 t : Vec Ideal S1024x512 .f32) (iblk m c 3 t : Vec Ideal S1024x512 .f32) (ix2 r l) = G9 m c (ix2 (row t r) (col t l))
  unfold k0_pay7 k0_pay3 G9 sa
  pointwise
  rw [pay1_blk, blk5, blk3]

theorem mem_blk6 (t : Fin cfg0.N) (i : S2048x1024.Idx) : i ∈ ((cfg0.win 6).blk t).view.set ↔ ∀ d,
    win0_6.index t d * S1024x512.size d ≤ (i d).val
      ∧ (i d).val < win0_6.index t d * S1024x512.size d + S1024x512.size d := by
  show i ∈ ((View.whole main_v0_0).slice (win0_6.rect t)).set ↔ _
  rw [View.set_slice_whole, Rect.mem_set_unit]

theorem cover6 (i : S2048x1024.Idx) : ∃ t : Fin cfg0.N, (cfg0.win 6).flush t = true ∧ i ∈ ((cfg0.win 6).blk t).view.set := by
  have h0 : (i 0).val < 2048 := (i 0).isLt
  have h1 : (i 1).val < 1024 := (i 1).isLt
  have hN : (i 0).val / 1024 * 2 + (i 1).val / 512 < cfg0.N := by
    show _ < grid0.N
    rw [N_0]; omega
  refine ⟨⟨_, hN⟩, flush0_6 _, (mem_blk6 _ i).2 fun d => ?_⟩
  have h := at0 ⟨(i 0).val / 1024 * 2 + (i 1).val / 512, hN⟩
  have e0 := h.2.2.2.2.2.2.2.2.2.2.2.2.1
  have e1 := h.2.2.2.2.2.2.2.2.2.2.2.2.2.1
  match d with
  | ⟨0, _⟩ =>
    show win0_6.index _ 0 * 1024 ≤ (i 0).val ∧ (i 0).val < win0_6.index _ 0 * 1024 + 1024
    rw [e0]; dsimp only; omega
  | ⟨1, _⟩ =>
    show win0_6.index _ 1 * 512 ≤ (i 1).val ∧ (i 1).val < win0_6.index _ 1 * 512 + 512
    rw [e1]; dsimp only; omega

theorem mem_blk7 (t : Fin cfg0.N) (i : S2048x1024.Idx) : i ∈ ((cfg0.win 7).blk t).view.set ↔ ∀ d,
    win0_7.index t d * S1024x512.size d ≤ (i d).val
      ∧ (i d).val < win0_7.index t d * S1024x512.size d + S1024x512.size d := by
  show i ∈ ((View.whole main_v0_1).slice (win0_7.rect t)).set ↔ _
  rw [View.set_slice_whole, Rect.mem_set_unit]

theorem cover7 (i : S2048x1024.Idx) : ∃ t : Fin cfg0.N, (cfg0.win 7).flush t = true ∧ i ∈ ((cfg0.win 7).blk t).view.set := by
  have h0 : (i 0).val < 2048 := (i 0).isLt
  have h1 : (i 1).val < 1024 := (i 1).isLt
  have hN : (i 0).val / 1024 * 2 + (i 1).val / 512 < cfg0.N := by
    show _ < grid0.N
    rw [N_0]; omega
  refine ⟨⟨_, hN⟩, flush0_7 _, (mem_blk7 _ i).2 fun d => ?_⟩
  have h := at0 ⟨(i 0).val / 1024 * 2 + (i 1).val / 512, hN⟩
  have e0 := h.2.2.2.2.2.2.2.2.2.2.2.2.2.2.1
  have e1 := h.2.2.2.2.2.2.2.2.2.2.2.2.2.2.2.1
  match d with
  | ⟨0, _⟩ =>
    show win0_7.index _ 0 * 1024 ≤ (i 0).val ∧ (i 0).val < win0_7.index _ 0 * 1024 + 1024
    rw [e0]; dsimp only; omega
  | ⟨1, _⟩ =>
    show win0_7.index _ 1 * 512 ≤ (i 1).val ∧ (i 1).val < win0_7.index _ 1 * 512 + 512
    rw [e1]; dsimp only; omega

theorem mem_blk8 (t : Fin cfg0.N) (i : S2048x1024.Idx) : i ∈ ((cfg0.win 8).blk t).view.set ↔ ∀ d,
    win0_8.index t d * S1024x512.size d ≤ (i d).val
      ∧ (i d).val < win0_8.index t d * S1024x512.size d + S1024x512.size d := by
  show i ∈ ((View.whole main_v0_2).slice (win0_8.rect t)).set ↔ _
  rw [View.set_slice_whole, Rect.mem_set_unit]

theorem cover8 (i : S2048x1024.Idx) : ∃ t : Fin cfg0.N, (cfg0.win 8).flush t = true ∧ i ∈ ((cfg0.win 8).blk t).view.set := by
  have h0 : (i 0).val < 2048 := (i 0).isLt
  have h1 : (i 1).val < 1024 := (i 1).isLt
  have hN : (i 0).val / 1024 * 2 + (i 1).val / 512 < cfg0.N := by
    show _ < grid0.N
    rw [N_0]; omega
  refine ⟨⟨_, hN⟩, flush0_8 _, (mem_blk8 _ i).2 fun d => ?_⟩
  have h := at0 ⟨(i 0).val / 1024 * 2 + (i 1).val / 512, hN⟩
  have e0 := h.2.2.2.2.2.2.2.2.2.2.2.2.2.2.2.2.1
  have e1 := h.2.2.2.2.2.2.2.2.2.2.2.2.2.2.2.2.2.1
  match d with
  | ⟨0, _⟩ =>
    show win0_8.index _ 0 * 1024 ≤ (i 0).val ∧ (i 0).val < win0_8.index _ 0 * 1024 + 1024
    rw [e0]; dsimp only; omega
  | ⟨1, _⟩ =>
    show win0_8.index _ 1 * 512 ≤ (i 1).val ∧ (i 1).val < win0_8.index _ 1 * 512 + 512
    rw [e1]; dsimp only; omega

theorem mem_blk9 (t : Fin cfg0.N) (i : S2048x1024.Idx) : i ∈ ((cfg0.win 9).blk t).view.set ↔ ∀ d,
    win0_9.index t d * S1024x512.size d ≤ (i d).val
      ∧ (i d).val < win0_9.index t d * S1024x512.size d + S1024x512.size d := by
  show i ∈ ((View.whole main_v0_3).slice (win0_9.rect t)).set ↔ _
  rw [View.set_slice_whole, Rect.mem_set_unit]

theorem cover9 (i : S2048x1024.Idx) : ∃ t : Fin cfg0.N, (cfg0.win 9).flush t = true ∧ i ∈ ((cfg0.win 9).blk t).view.set := by
  have h0 : (i 0).val < 2048 := (i 0).isLt
  have h1 : (i 1).val < 1024 := (i 1).isLt
  have hN : (i 0).val / 1024 * 2 + (i 1).val / 512 < cfg0.N := by
    show _ < grid0.N
    rw [N_0]; omega
  refine ⟨⟨_, hN⟩, flush0_9 _, (mem_blk9 _ i).2 fun d => ?_⟩
  have h := at0 ⟨(i 0).val / 1024 * 2 + (i 1).val / 512, hN⟩
  have e0 := h.2.2.2.2.2.2.2.2.2.2.2.2.2.2.2.2.2.2.1
  have e1 := h.2.2.2.2.2.2.2.2.2.2.2.2.2.2.2.2.2.2.2
  match d with
  | ⟨0, _⟩ =>
    show win0_9.index _ 0 * 1024 ≤ (i 0).val ∧ (i 0).val < win0_9.index _ 0 * 1024 + 1024
    rw [e0]; dsimp only; omega
  | ⟨1, _⟩ =>
    show win0_9.index _ 1 * 512 ≤ (i 1).val ∧ (i 1).val < win0_9.index _ 1 * 512 + 512
    rw [e1]; dsimp only; omega

/-- Every run ends with the four gradients in the result arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = G6 m c
      ∧ r.2.mem ((c : Thread nD τ).loc main_v0_1) = G7 m c
      ∧ r.2.mem ((c : Thread nD τ).loc main_v0_2) = G8 m c
      ∧ r.2.mem ((c : Thread nD τ).loc main_v0_3) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(h c).1.trans (Dat.arrAt_eq_of_cover (dats m 0 c) 6 (G6 m c) (fun t _ => flushed6_eq m c t) cover6),
      (h c).2.1.trans (Dat.arrAt_eq_of_cover (dats m 0 c) 7 (G7 m c) (fun t _ => flushed7_eq m c t) cover7),
      (h c).2.2.1.trans (Dat.arrAt_eq_of_cover (dats m 0 c) 8 (G8 m c) (fun t _ => flushed8_eq m c t) cover8),
      (h c).2.2.2.1.trans (Dat.arrAt_eq_of_cover (dats m 0 c) 9 (G9 m c) (fun t _ => flushed9_eq m c t) cover9),
      (h c).2.2.2.2⟩)
    (Value.run_blocks m ρ)

end Cert.MergeIdeal.Hand

end
-- ==== Proof.MergeEq.lean ====
/- The gated merge's gradient: the reference's results read at an index are the kernel's. -/
module

public import proofs.«01_k».proof.Proof.MergeValue
public import Idealize.ShloMosaic.Lib.Quiescent

@[expose] public section

set_option maxRecDepth 16384

noncomputable section

namespace Cert.MergeReferenceIdeal.Hand

open Cert.MergeReferenceIdeal Cert.MergeReferenceIdeal.Gen Idealize.ShloMosaic Idealize.ShloMosaic.TcCoe Idealize.SL.Sem
open Cert.MergeIdeal.Hand (dx wo co ao pr dm sc sa G6 G7 G8 G9)

/-- The reference's run leaves nothing behind and changes no argument. -/
theorem quiet : Cert.quiescent_MergeReferenceIdeal := fun m ρ _ =>
  (θ_run defs _ _).mono (fun r h => ⟨fun c => ⟨(h c).2.2.2.2.1, (h c).2.2.2.2.2.1, (h c).2.2.2.2.2.2.1, (h c).2.2.2.2.2.2.2.1, (h c).2.2.2.2.2.2.2.2⟩,
    Idealize.ShloMosaic.sem_eq_zero_of_no_sems (by decide) r.2⟩) (Cert.MergeReferenceIdeal.Value.run (F := Ideal) m ρ)

/-- The kernel's gradients are the reference's: over the extended reals only one product's factors change places. -/
theorem alg : Cert.algebraic_MergeIdeal_MergeReferenceIdeal := fun m g m' g' _ hagree =>
  ⟨G6 m, G7 m, G8 m, G9 m, Cert.MergeIdeal.Hand.run m g,
    (θ_run defs _ _).mono (fun r h c => by
      obtain ⟨e0, e1, e2, e3, e4⟩ := hagree c
      refine ⟨(h c).1.trans ?_, (h c).2.1.trans ?_, (h c).2.2.1.trans ?_, (h c).2.2.2.1.trans ?_, (h c).2.2.2.2⟩
      all_goals
        simp only [e0, e1, e2, e3, e4]
        funext i
        obtain ⟨r, l, rfl⟩ : ∃ (r : Fin 2048) (l : Fin 1024), i = ix2 r l := ⟨i 0, i 1, eq_ix2 i⟩
      · unfold G6 dm sc
        pointwise
        exact mul_comm _ _
      · unfold G7 dm sa
        pointwise
        exact mul_comm _ _
      · unfold G8 dm sc
        pointwise
        rfl
      · unfold G9 dm sa
        pointwise
        rfl)
    (Cert.MergeReferenceIdeal.Value.run (F := Ideal) m' g')⟩

end Cert.MergeReferenceIdeal.Hand

end
-- ==== Proof.SwigluValue.lean ====
/- The gradient of the gated unit: what one grid point computes, what the two result arrays hold. -/
module

public import proofs.«01_k».proof.Defs
public import proofs.«01_k».proof.Proof.Gen.SwigluIdeal.Value
public import Idealize.ShloMosaic.Lib.Pipeline.Value
public import Idealize.ShloMosaic.Lib.Pointwise

@[expose] public section

set_option maxRecDepth 16384

noncomputable section

namespace Cert.SwigluIdeal.Hand

open Cert.SwigluIdeal Cert.SwigluIdeal.Gen Idealize.ShloMosaic Idealize.ShloMosaic.TcCoe Idealize.SL.Sem
open Idealize.ShloMosaic.Pipeline (Dat)

variable (m : (ℓ : Loc nD τ sig) → Buf (Elt Ideal) ℓ)

/-- The incoming gradient. -/
abbrev dx (c : Dev nD) : S2048x1024.Idx → EReal := m ((c : Thread nD τ).loc main_arg0)
/-- The projection down. -/
abbrev wd (c : Dev nD) : S2816x1024.Idx → EReal := m ((c : Thread nD τ).loc main_arg1)
/-- The gate. -/
abbrev ga (c : Dev nD) : S2048x2816.Idx → EReal := m ((c : Thread nD τ).loc main_arg2)
/-- What the gate multiplies. -/
abbrev up (c : Dev nD) : S2048x2816.Idx → EReal := m ((c : Thread nD τ).loc main_arg3)

theorem hz : (![0, 0] : Fin 2 → Nat) = fun _ => 0 := funext fun a => by fin_cases a <;> rfl

/-- Grid point `t` is row block `t / 2` and column block `t % 2`. -/
theorem at0 : ∀ t : Fin cfg0.N, win0_0.index t 0 = t.val / 2
    ∧ win0_0.index t 1 = 0
    ∧ win0_1.index t 0 = t.val % 2
    ∧ win0_1.index t 1 = 0
    ∧ win0_2.index t 0 = t.val / 2
    ∧ win0_2.index t 1 = t.val % 2
    ∧ win0_3.index t 0 = t.val / 2
    ∧ win0_3.index t 1 = t.val % 2
    ∧ win0_4.index t 0 = t.val / 2
    ∧ win0_4.index t 1 = t.val % 2
    ∧ win0_5.index t 0 = t.val / 2
    ∧ win0_5.index t 1 = t.val % 2 :=
  (by decide +kernel : ∀ t : Fin grid0.N, _)

theorem lt8 (t : Fin cfg0.N) : t.val < 8 := lt_of_lt_of_eq t.isLt N_0

theorem blk0 (c : Dev nD) (t : Fin cfg0.N) (r : Fin 512) (l : Fin 1024) :
    (iblk m c 0 t : Vec Ideal S512x1024 .bf16) (ix2 r l) = dx m c (ix2 ⟨(t.val / 2) * 512 + r.val, by have := lt8 t; omega⟩ l) := by
  have h := at0 t
  unfold iblk
  rw [View.read_apply]
  show V m c main_arg0 _ = m (c.tc.loc main_arg0) _
  unfold V
  congr 1
  funext a
  apply Fin.ext
  match a with
  | ⟨0, _⟩ => show win0_0.index t 0 * 512 + 1 * r.val = (t.val / 2) * 512 + r.val; rw [h.1]; omega
  | ⟨1, _⟩ => show win0_0.index t 1 * 1024 + 1 * l.val = l.val; rw [h.2.1]; omega

theorem blk1 (c : Dev nD) (t : Fin cfg0.N) (r : Fin 1408) (l : Fin 1024) :
    (iblk m c 1 t : Vec Ideal S1408x1024 .bf16) (ix2 r l) = wd m c (ix2 ⟨(t.val % 2) * 1408 + r.val, by have := lt8 t; omega⟩ l) := by
  have h := at0 t
  unfold iblk
  rw [View.read_apply]
  show V m c main_arg1 _ = m (c.tc.loc main_arg1) _
  unfold V
  congr 1
  funext a
  apply Fin.ext
  match a with
  | ⟨0, _⟩ => show win0_1.index t 0 * 1408 + 1 * r.val = (t.val % 2) * 1408 + r.val; rw [h.2.2.1]; omega
  | ⟨1, _⟩ => show win0_1.index t 1 * 1024 + 1 * l.val = l.val; rw [h.2.2.2.1]; omega

theorem blk2 (c : Dev nD) (t : Fin cfg0.N) (r : Fin 512) (l : Fin 1408) :
    (iblk m c 2 t : Vec Ideal S512x1408 .f32) (ix2 r l) = ga m c (ix2 ⟨(t.val / 2) * 512 + r.val, by have := lt8 t; omega⟩ ⟨(t.val % 2) * 1408 + l.val, by have := lt8 t; omega⟩) := by
  have h := at0 t
  unfold iblk
  rw [View.read_apply]
  show V m c main_arg2 _ = m (c.tc.loc main_arg2) _
  unfold V
  congr 1
  funext a
  apply Fin.ext
  match a with
  | ⟨0, _⟩ => show win0_2.index t 0 * 512 + 1 * r.val = (t.val / 2) * 512 + r.val; rw [h.2.2.2.2.1]; omega
  | ⟨1, _⟩ => show win0_2.index t 1 * 1408 + 1 * l.val = (t.val % 2) * 1408 + l.val; rw [h.2.2.2.2.2.1]; omega

theorem blk3 (c : Dev nD) (t : Fin cfg0.N) (r : Fin 512) (l : Fin 1408) :
    (iblk m c 3 t : Vec Ideal S512x1408 .f32) (ix2 r l) = up m c (ix2 ⟨(t.val / 2) * 512 + r.val, by have := lt8 t; omega⟩ ⟨(t.val % 2) * 1408 + l.val, by have := lt8 t; omega⟩) := by
  have h := at0 t
  unfold iblk
  rw [View.read_apply]
  show V m c main_arg3 _ = m (c.tc.loc main_arg3) _
  unfold V
  congr 1
  funext a
  apply Fin.ext
  match a with
  | ⟨0, _⟩ => show win0_3.index t 0 * 512 + 1 * r.val = (t.val / 2) * 512 + r.val; rw [h.2.2.2.2.2.2.1]; omega
  | ⟨1, _⟩ => show win0_3.index t 1 * 1408 + 1 * l.val = (t.val % 2) * 1408 + l.val; rw [h.2.2.2.2.2.2.2.1]; omega

/-- The incoming gradient through the projection down: `(dx · wdᵀ) (r, l)`. -/
def da (c : Dev nD) (r : Fin 2048) (l : Fin 2816) : EReal := ∑ k : Fin 1024, dx m c (ix2 r k) * wd m c (ix2 l k)

/-- A block's product, at an index. -/
theorem pay1_apply (x0 : Vec Ideal S512x1024 .bf16) (x1 : Vec Ideal S1408x1024 .bf16) (r : Fin 512) (l : Fin 1408) :
    k0_pay1 x0 x1 (ix2 r l) = ∑ k : Fin 1024, x0 (ix2 r k) * x1 (ix2 l k) := by
  unfold k0_pay1
  pointwise

/-- The product at a point, read in the whole arrays. -/
theorem pay1_blk (c : Dev nD) (t : Fin cfg0.N) (r : Fin 512) (l : Fin 1408) :
    k0_pay1 (iblk m c 0 t : Vec Ideal S512x1024 .bf16) (iblk m c 1 t : Vec Ideal S1408x1024 .bf16) (ix2 r l)
      = da m c ⟨(t.val / 2) * 512 + r.val, by have := lt8 t; omega⟩ ⟨(t.val % 2) * 1408 + l.val, by have := lt8 t; omega⟩ := by
  rw [pay1_apply]
  unfold da
  exact Finset.sum_congr rfl fun k _ => by rw [blk0, blk1]

/-- The slope of `g ↦ g · logistic g`, as the kernel writes it. -/
def dsilu (g : EReal) : EReal := Ideal.logistic g * (1 + g * (1 - Ideal.logistic g))

/-- The gate's gradient. -/
def G4 (c : Dev nD) : Buf (Elt Ideal) ((c : Thread nD τ).loc main_v0_0) :=
  fun i => da m c (i 0) (i 1) * up m c (ix2 (i 0) (i 1)) * dsilu (ga m c (ix2 (i 0) (i 1)))
/-- The gradient of what the gate multiplies. -/
def G5 (c : Dev nD) : Buf (Elt Ideal) ((c : Thread nD τ).loc main_v0_1) :=
  fun i => da m c (i 0) (i 1) * (ga m c (ix2 (i 0) (i 1)) * Ideal.logistic (ga m c (ix2 (i 0) (i 1))))

theorem flushed4_eq (c : Dev nD) (t : Fin cfg0.N) :
    (dats m 0 c).flushed 4 t = ((cfg0.win 4).blk t).view.read (Elt Ideal) (G4 m c) := by
  have h := at0 t
  rw [Value.flushed4]
  unfold out0_4
  rw [View.canon_unit_zero hz, View.ld_unit_zero hz, View.ld_unit_zero hz, View.ld_unit_zero hz, View.ld_unit_zero hz]
  funext j
  obtain ⟨r, l, rfl⟩ : ∃ (r : Fin 512) (l : Fin 1408), j = ix2 r l := ⟨j 0, j 1, eq_ix2 j⟩
  rw [View.read_apply]
  have e0 : ((cfg0.win 4).blk t).view.emb (ix2 r l) = ix2 ⟨(t.val / 2) * 512 + r.val, by have := lt8 t; omega⟩ ⟨(t.val % 2) * 1408 + l.val, by have := lt8 t; omega⟩ := by
    funext a
    apply Fin.ext
    match a with
    | ⟨0, _⟩ => show win0_4.index t 0 * 512 + 1 * r.val = (t.val / 2) * 512 + r.val; rw [h.2.2.2.2.2.2.2.2.1]; omega
    | ⟨1, _⟩ => show win0_4.index t 1 * 1408 + 1 * l.val = (t.val % 2) * 1408 + l.val; rw [h.2.2.2.2.2.2.2.2.2.1]; omega
  rw [e0]
  show k0_pay3 (iblk m c 0 t : Vec Ideal S512x1024 .bf16) (iblk m c 1 t : Vec Ideal S1408x1024 .bf16) (iblk m c 2 t : Vec Ideal S512x1408 .f32) (iblk m c 3 t : Vec Ideal S512x1408 .f32) (ix2 r l) = G4 m c (ix2 ⟨(t.val / 2) * 512 + r.val, by have := lt8 t; omega⟩ ⟨(t.val % 2) * 1408 + l.val, by have := lt8 t; omega⟩)
  unfold k0_pay3 k0_pay2 G4 dsilu
  pointwise
  rw [pay1_blk, blk2, blk3]

theorem mem_blk4 (t : Fin cfg0.N) (i : S2048x2816.Idx) : i ∈ ((cfg0.win 4).blk t).view.set ↔ ∀ d,
    win0_4.index t d * S512x1408.size d ≤ (i d).val
      ∧ (i d).val < win0_4.index t d * S512x1408.size d + S512x1408.size d := by
  show i ∈ ((View.whole main_v0_0).slice (win0_4.rect t)).set ↔ _
  rw [View.set_slice_whole, Rect.mem_set_unit]

theorem cover4 (i : S2048x2816.Idx) : ∃ t : Fin cfg0.N, (cfg0.win 4).flush t = true ∧ i ∈ ((cfg0.win 4).blk t).view.set := by
  have h0 : (i 0).val < 2048 := (i 0).isLt
  have h1 : (i 1).val < 2816 := (i 1).isLt
  have hN : (i 0).val / 512 * 2 + (i 1).val / 1408 < cfg0.N := by
    show _ < grid0.N
    rw [N_0]; omega
  refine ⟨⟨_, hN⟩, flush0_4 _, (mem_blk4 _ i).2 fun d => ?_⟩
  have h := at0 ⟨(i 0).val / 512 * 2 + (i 1).val / 1408, hN⟩
  have e0 := h.2.2.2.2.2.2.2.2.1
  have e1 := h.2.2.2.2.2.2.2.2.2.1
  match d with
  | ⟨0, _⟩ =>
    show win0_4.index _ 0 * 512 ≤ (i 0).val ∧ (i 0).val < win0_4.index _ 0 * 512 + 512
    rw [e0]; dsimp only; omega
  | ⟨1, _⟩ =>
    show win0_4.index _ 1 * 1408 ≤ (i 1).val ∧ (i 1).val < win0_4.index _ 1 * 1408 + 1408
    rw [e1]; dsimp only; omega

theorem flushed5_eq (c : Dev nD) (t : Fin cfg0.N) :
    (dats m 0 c).flushed 5 t = ((cfg0.win 5).blk t).view.read (Elt Ideal) (G5 m c) := by
  have h := at0 t
  rw [Value.flushed5]
  unfold out0_5
  rw [View.canon_unit_zero hz, View.ld_unit_zero hz, View.ld_unit_zero hz, View.ld_unit_zero hz]
  funext j
  obtain ⟨r, l, rfl⟩ : ∃ (r : Fin 512) (l : Fin 1408), j = ix2 r l := ⟨j 0, j 1, eq_ix2 j⟩
  rw [View.read_apply]
  have e0 : ((cfg0.win 5).blk t).view.emb (ix2 r l) = ix2 ⟨(t.val / 2) * 512 + r.val, by have := lt8 t; omega⟩ ⟨(t.val % 2) * 1408 + l.val, by have := lt8 t; omega⟩ := by
    funext a
    apply Fin.ext
    match a with
    | ⟨0, _⟩ => show win0_5.index t 0 * 512 + 1 * r.val = (t.val / 2) * 512 + r.val; rw [h.2.2.2.2.2.2.2.2.2.2.1]; omega
    | ⟨1, _⟩ => show win0_5.index t 1 * 1408 + 1 * l.val = (t.val % 2) * 1408 + l.val; rw [h.2.2.2.2.2.2.2.2.2.2.2]; omega
  rw [e0]
  show k0_pay4 (iblk m c 0 t : Vec Ideal S512x1024 .bf16) (iblk m c 1 t : Vec Ideal S1408x1024 .bf16) (iblk m c 2 t : Vec Ideal S512x1408 .f32) (ix2 r l) = G5 m c (ix2 ⟨(t.val / 2) * 512 + r.val, by have := lt8 t; omega⟩ ⟨(t.val % 2) * 1408 + l.val, by have := lt8 t; omega⟩)
  unfold k0_pay4 k0_pay2 G5
  pointwise
  rw [pay1_blk, blk2]

theorem mem_blk5 (t : Fin cfg0.N) (i : S2048x2816.Idx) : i ∈ ((cfg0.win 5).blk t).view.set ↔ ∀ d,
    win0_5.index t d * S512x1408.size d ≤ (i d).val
      ∧ (i d).val < win0_5.index t d * S512x1408.size d + S512x1408.size d := by
  show i ∈ ((View.whole main_v0_1).slice (win0_5.rect t)).set ↔ _
  rw [View.set_slice_whole, Rect.mem_set_unit]

theorem cover5 (i : S2048x2816.Idx) : ∃ t : Fin cfg0.N, (cfg0.win 5).flush t = true ∧ i ∈ ((cfg0.win 5).blk t).view.set := by
  have h0 : (i 0).val < 2048 := (i 0).isLt
  have h1 : (i 1).val < 2816 := (i 1).isLt
  have hN : (i 0).val / 512 * 2 + (i 1).val / 1408 < cfg0.N := by
    show _ < grid0.N
    rw [N_0]; omega
  refine ⟨⟨_, hN⟩, flush0_5 _, (mem_blk5 _ i).2 fun d => ?_⟩
  have h := at0 ⟨(i 0).val / 512 * 2 + (i 1).val / 1408, hN⟩
  have e0 := h.2.2.2.2.2.2.2.2.2.2.1
  have e1 := h.2.2.2.2.2.2.2.2.2.2.2
  match d with
  | ⟨0, _⟩ =>
    show win0_5.index _ 0 * 512 ≤ (i 0).val ∧ (i 0).val < win0_5.index _ 0 * 512 + 512
    rw [e0]; dsimp only; omega
  | ⟨1, _⟩ =>
    show win0_5.index _ 1 * 1408 ≤ (i 1).val ∧ (i 1).val < win0_5.index _ 1 * 1408 + 1408
    rw [e1]; dsimp only; omega

/-- Every run ends with the two gradients in the result arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans (Dat.arrAt_eq_of_cover (dats m 0 c) 4 (G4 m c) (fun t _ => flushed4_eq m c t) cover4),
      (h c).2.1.trans (Dat.arrAt_eq_of_cover (dats m 0 c) 5 (G5 m c) (fun t _ => flushed5_eq m c t) cover5),
      (h c).2.2⟩)
    (Value.run_blocks m ρ)

end Cert.SwigluIdeal.Hand

end
-- ==== Proof.SwigluEq.lean ====
/- The gated unit's gradient: the reference's results read at an index are the kernel's. -/
module

public import proofs.«01_k».proof.Proof.SwigluValue
public import proofs.«01_k».proof.Proof.Gen.SwigluReferenceIdeal.Run
public import Idealize.ShloMosaic.Lib.Quiescent

@[expose] public section

set_option maxRecDepth 16384

noncomputable section

namespace Cert.SwigluReferenceIdeal.Hand

open Cert.SwigluReferenceIdeal Cert.SwigluReferenceIdeal.Gen Idealize.ShloMosaic Idealize.ShloMosaic.TcCoe Idealize.SL.Sem
open Cert.SwigluIdeal.Hand (da dsilu G4 G5)

/-- The reference's run leaves nothing behind and changes no argument. -/
theorem quiet : Cert.quiescent_SwigluReferenceIdeal := fun m ρ _ =>
  (θ_run defs _ _).mono (fun r h => ⟨fun c => (h c).2.2,
    Idealize.ShloMosaic.sem_eq_zero_of_no_sems (by decide) r.2⟩) (Cert.SwigluReferenceIdeal.Value.run (F := Ideal) m ρ)

/-- One and infinity. -/
theorem one_add_top : (1 : EReal) + ⊤ = ⊤ := rfl

/-- The slope as the kernel factors it and as the product rule gives it, at every extended real. -/
theorem dsilu_eq (g : EReal) :
    1 * Ideal.logistic g + g * (1 * (Ideal.logistic g * (1 - Ideal.logistic g))) = dsilu g := by
  unfold dsilu
  rw [one_mul, one_mul]
  obtain ⟨s, hs⟩ : ∃ s : ℝ, Ideal.logistic g = s := by
    unfold Ideal.logistic
    induction g using EReal.rec with
    | bot => exact ⟨0, by simp [Ideal.div, one_add_top]⟩
    | top => exact ⟨1, by simp [Ideal.div]⟩
    | coe g =>
      have hp : (1 + Real.exp (-g)) ≠ 0 := by positivity
      refine ⟨1 / (1 + Real.exp (-g)), ?_⟩
      rw [← EReal.coe_neg, Ideal.exp_coe]
      show Ideal.div 1 ((1 : ℝ) + (Real.exp (-g) : EReal)) = _
      rw [← EReal.coe_add, Ideal.div_coe hp, one_mul]
  induction g using EReal.rec with
  | bot =>
    have h0 : Ideal.logistic ⊥ = 0 := by simp [Ideal.logistic, Ideal.div, one_add_top]
    rw [h0]; simp
  | top =>
    have h1 : Ideal.logistic ⊤ = 1 := by simp [Ideal.logistic, Ideal.div]
    have h2 : (1 : EReal) - 1 = 0 := by
      show ((1 : ℝ) : EReal) - ((1 : ℝ) : EReal) = 0
      rw [← EReal.coe_sub]; simp
    rw [h1, h2]; simp
  | coe g =>
    rw [hs]
    show (s : EReal) + (g : EReal) * ((s : EReal) * (((1 : ℝ) : EReal) - (s : EReal)))
      = (s : EReal) * (((1 : ℝ) : EReal) + (g : EReal) * (((1 : ℝ) : EReal) - (s : EReal)))
    simp only [← EReal.coe_sub, ← EReal.coe_mul, ← EReal.coe_add]
    congr 1
    ring

/-- The kernel's gradients are the reference's. -/
theorem alg : Cert.algebraic_SwigluIdeal_SwigluReferenceIdeal := fun m g m' g' _ hagree =>
  ⟨G4 m, G5 m, Cert.SwigluIdeal.Hand.run m g,
    (θ_run defs _ _).mono (fun r h c => by
      obtain ⟨e0, e1, e2, e3⟩ := hagree c
      refine ⟨(h c).1.trans ?_, (h c).2.1.trans ?_, (h c).2.2⟩
      all_goals
        simp only [e0, e1, e2, e3]
        funext i
        obtain ⟨r, l, rfl⟩ : ∃ (r : Fin 2048) (l : Fin 2816), i = ix2 r l := ⟨i 0, i 1, eq_ix2 i⟩
      · unfold G4 da
        rw [← dsilu_eq]
        pointwise
        rfl
      · unfold G5 da
        pointwise
        rfl)
    (Cert.SwigluReferenceIdeal.Value.run (F := Ideal) m' g')⟩

end Cert.SwigluReferenceIdeal.Hand

end
-- ==== Proof.DwDownValue.lean ====
/- The gradient of the projection down: what one grid point computes, what the result array holds. -/
module

public import proofs.«01_k».proof.Defs
public import proofs.«01_k».proof.Proof.Gen.DwDownIdeal.Value
public import Idealize.ShloMosaic.Lib.Pipeline.Value
public import Idealize.ShloMosaic.Lib.Pointwise

@[expose] public section

set_option maxRecDepth 16384

noncomputable section

namespace Cert.DwDownIdeal.Hand

open Cert.DwDownIdeal Cert.DwDownIdeal.Gen Idealize.ShloMosaic Idealize.ShloMosaic.TcCoe Idealize.SL.Sem
open Idealize.ShloMosaic.Pipeline (Dat)

variable (m : (ℓ : Loc nD τ sig) → Buf (Elt Ideal) ℓ)

/-- What the weight multiplied. -/
abbrev x (c : Dev nD) : S2048x2816.Idx → EReal := m ((c : Thread nD τ).loc main_arg0)
/-- The product's incoming gradient. -/
abbrev ct (c : Dev nD) : S2048x1024.Idx → EReal := m ((c : Thread nD τ).loc main_arg1)

theorem hz : (![0, 0] : Fin 2 → Nat) = fun _ => 0 := funext fun a => by fin_cases a <;> rfl

/-- Which blocks grid point `t` reads and writes. -/
theorem at0 : ∀ t : Fin cfg0.N, win0_0.index t 0 = 0
    ∧ win0_0.index t 1 = t.val
    ∧ win0_1.index t 0 = 0
    ∧ win0_1.index t 1 = 0
    ∧ win0_2.index t 0 = t.val
    ∧ win0_2.index t 1 = 0 :=
  (by decide +kernel : ∀ t : Fin grid0.N, _)

theorem lt2 (t : Fin cfg0.N) : t.val < 2 := lt_of_lt_of_eq t.isLt N_0

theorem blk0 (c : Dev nD) (t : Fin cfg0.N) (r : Fin 2048) (l : Fin 1408) :
    (iblk m c 0 t : Vec Ideal S2048x1408 .bf16) (ix2 r l) = x m c (ix2 r ⟨t.val * 1408 + l.val, by have := lt2 t; omega⟩) := by
  have h := at0 t
  unfold iblk
  rw [View.read_apply]
  show V m c main_arg0 _ = m (c.tc.loc main_arg0) _
  unfold V
  congr 1
  funext a
  apply Fin.ext
  match a with
  | ⟨0, _⟩ => show win0_0.index t 0 * 2048 + 1 * r.val = r.val; rw [h.1]; omega
  | ⟨1, _⟩ => show win0_0.index t 1 * 1408 + 1 * l.val = t.val * 1408 + l.val; rw [h.2.1]; omega

theorem blk1 (c : Dev nD) (t : Fin cfg0.N) (r : Fin 2048) (l : Fin 1024) :
    (iblk m c 1 t : Vec Ideal S2048x1024 .bf16) (ix2 r l) = ct m c (ix2 r l) := by
  have h := at0 t
  unfold iblk
  rw [View.read_apply]
  show V m c main_arg1 _ = m (c.tc.loc main_arg1) _
  unfold V
  congr 1
  funext a
  apply Fin.ext
  match a with
  | ⟨0, _⟩ => show win0_1.index t 0 * 2048 + 1 * r.val = r.val; rw [h.2.2.1]; omega
  | ⟨1, _⟩ => show win0_1.index t 1 * 1024 + 1 * l.val = l.val; rw [h.2.2.2.1]; omega

/-- The weight's gradient: `(xᵀ · ct) (r, l)`. -/
def dw (c : Dev nD) (r : Fin 2816) (l : Fin 1024) : EReal := ∑ k : Fin 2048, x m c (ix2 k r) * ct m c (ix2 k l)

/-- A block's product, at an index. -/
theorem pay1_apply (x0 : Vec Ideal S2048x1408 .bf16) (x1 : Vec Ideal S2048x1024 .bf16) (r : Fin 1408) (l : Fin 1024) :
    k0_pay1 x0 x1 (ix2 r l) = ∑ k : Fin 2048, x0 (ix2 k r) * x1 (ix2 k l) := by
  unfold k0_pay1
  pointwise

/-- What the result array holds. -/
def G2 (c : Dev nD) : Buf (Elt Ideal) ((c : Thread nD τ).loc main_v0) := fun i => dw m c (i 0) (i 1)

theorem flushed2_eq (c : Dev nD) (t : Fin cfg0.N) :
    (dats m 0 c).flushed 2 t = ((cfg0.win 2).blk t).view.read (Elt Ideal) (G2 m c) := by
  have h := at0 t
  rw [Value.flushed2]
  unfold out0_2
  rw [View.canon_unit_zero hz, View.ld_unit_zero hz, View.ld_unit_zero hz]
  funext j
  obtain ⟨r, l, rfl⟩ : ∃ (r : Fin 1408) (l : Fin 1024), j = ix2 r l := ⟨j 0, j 1, eq_ix2 j⟩
  rw [View.read_apply]
  have e0 : ((cfg0.win 2).blk t).view.emb (ix2 r l) = ix2 ⟨t.val * 1408 + r.val, by have := lt2 t; omega⟩ l := by
    funext a
    apply Fin.ext
    match a with
    | ⟨0, _⟩ => show win0_2.index t 0 * 1408 + 1 * r.val = t.val * 1408 + r.val; rw [h.2.2.2.2.1]; omega
    | ⟨1, _⟩ => show win0_2.index t 1 * 1024 + 1 * l.val = l.val; rw [h.2.2.2.2.2]; omega
  rw [e0]
  show k0_pay1 (iblk m c 0 t : Vec Ideal S2048x1408 .bf16) (iblk m c 1 t : Vec Ideal S2048x1024 .bf16) (ix2 r l) = G2 m c (ix2 ⟨t.val * 1408 + r.val, by have := lt2 t; omega⟩ l)
  rw [pay1_apply]
  unfold G2 dw
  exact Finset.sum_congr rfl fun k _ => by rw [blk0, blk1]; rfl

theorem mem_blk2 (t : Fin cfg0.N) (i : S2816x1024.Idx) : i ∈ ((cfg0.win 2).blk t).view.set ↔ ∀ d,
    win0_2.index t d * S1408x1024.size d ≤ (i d).val
      ∧ (i d).val < win0_2.index t d * S1408x1024.size d + S1408x1024.size d := by
  show i ∈ ((View.whole main_v0).slice (win0_2.rect t)).set ↔ _
  rw [View.set_slice_whole, Rect.mem_set_unit]

theorem cover2 (i : S2816x1024.Idx) : ∃ t : Fin cfg0.N, (cfg0.win 2).flush t = true ∧ i ∈ ((cfg0.win 2).blk t).view.set := by
  have h0 : (i 0).val < 2816 := (i 0).isLt
  have h1 : (i 1).val < 1024 := (i 1).isLt
  have hN : (i 0).val / 1408 < cfg0.N := by
    show _ < grid0.N
    rw [N_0]; omega
  refine ⟨⟨_, hN⟩, flush0_2 _, (mem_blk2 _ i).2 fun d => ?_⟩
  have h := at0 ⟨(i 0).val / 1408, hN⟩
  have e0 := h.2.2.2.2.1
  have e1 := h.2.2.2.2.2
  match d with
  | ⟨0, _⟩ =>
    show win0_2.index _ 0 * 1408 ≤ (i 0).val ∧ (i 0).val < win0_2.index _ 0 * 1408 + 1408
    rw [e0]; dsimp only; omega
  | ⟨1, _⟩ =>
    show win0_2.index _ 1 * 1024 ≤ (i 1).val ∧ (i 1).val < win0_2.index _ 1 * 1024 + 1024
    rw [e1]; dsimp only; omega

/-- Every run ends with the weight's gradient in the result array and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans (Dat.arrAt_eq_of_cover (dats m 0 c) 2 (G2 m c) (fun t _ => flushed2_eq m c t) cover2),
      (h c).2⟩)
    (Value.run_blocks m ρ)

end Cert.DwDownIdeal.Hand

end
-- ==== Proof.DwDownEq.lean ====
/- The weight's gradient: the reference's result read at an index is the kernel's. -/
module

public import proofs.«01_k».proof.Proof.DwDownValue
public import proofs.«01_k».proof.Proof.Gen.DwDownReferenceIdeal.Run
public import Idealize.ShloMosaic.Lib.Quiescent

@[expose] public section

set_option maxRecDepth 16384

noncomputable section

namespace Cert.DwDownReferenceIdeal.Hand

open Cert.DwDownReferenceIdeal Cert.DwDownReferenceIdeal.Gen Idealize.ShloMosaic Idealize.ShloMosaic.TcCoe Idealize.SL.Sem
open Cert.DwDownIdeal.Hand (dw G2)

/-- The reference's run leaves nothing behind and changes no argument. -/
theorem quiet : Cert.quiescent_DwDownReferenceIdeal := fun m ρ _ =>
  (θ_run defs _ _).mono (fun r h => ⟨fun c => (h c).2,
    Idealize.ShloMosaic.sem_eq_zero_of_no_sems (by decide) r.2⟩) (Cert.DwDownReferenceIdeal.Value.run (F := Ideal) m ρ)

/-- The kernel's weight gradient is the reference's, the factors of each product exchanged. -/
theorem alg : Cert.algebraic_DwDownIdeal_DwDownReferenceIdeal := fun m g m' g' _ hagree =>
  ⟨G2 m, Cert.DwDownIdeal.Hand.run m g,
    (θ_run defs _ _).mono (fun r h c => by
      obtain ⟨e0, e1⟩ := hagree c
      refine ⟨(h c).1.trans ?_, (h c).2⟩
      simp only [e0, e1]
      funext i
      obtain ⟨r, l, rfl⟩ : ∃ (r : Fin 2816) (l : Fin 1024), i = ix2 r l := ⟨i 0, i 1, eq_ix2 i⟩
      unfold G2 dw
      pointwise
      exact Finset.sum_congr rfl fun k _ => mul_comm _ _)
    (Cert.DwDownReferenceIdeal.Value.run (F := Ideal) m' g')⟩

end Cert.DwDownReferenceIdeal.Hand

end
-- ==== Proof.DwSquareValue.lean ====
/- The gradient of a square projection: what the one grid point computes, what the result array holds. -/
module

public import proofs.«01_k».proof.Defs
public import proofs.«01_k».proof.Proof.Gen.DwSquareIdeal.Value
public import Idealize.ShloMosaic.Lib.Pipeline.Value
public import Idealize.ShloMosaic.Lib.Pointwise

@[expose] public section

set_option maxRecDepth 16384

noncomputable section

namespace Cert.DwSquareIdeal.Hand

open Cert.DwSquareIdeal Cert.DwSquareIdeal.Gen Idealize.ShloMosaic Idealize.ShloMosaic.TcCoe Idealize.SL.Sem
open Idealize.ShloMosaic.Pipeline (Dat)

variable (m : (ℓ : Loc nD τ sig) → Buf (Elt Ideal) ℓ)

/-- What the weight multiplied. -/
abbrev x (c : Dev nD) : S2048x1024.Idx → EReal := m ((c : Thread nD τ).loc main_arg0)
/-- The product's incoming gradient. -/
abbrev ct (c : Dev nD) : S2048x1024.Idx → EReal := m ((c : Thread nD τ).loc main_arg1)

theorem hz : (![0, 0] : Fin 2 → Nat) = fun _ => 0 := funext fun a => by fin_cases a <;> rfl

/-- Which blocks grid point `t` reads and writes. -/
theorem at0 : ∀ t : Fin cfg0.N, win0_0.index t 0 = 0
    ∧ win0_0.index t 1 = 0
    ∧ win0_1.index t 0 = 0
    ∧ win0_1.index t 1 = 0
    ∧ win0_2.index t 0 = 0
    ∧ win0_2.index t 1 = 0 :=
  (by decide +kernel : ∀ t : Fin grid0.N, _)

theorem lt1 (t : Fin cfg0.N) : t.val < 1 := lt_of_lt_of_eq t.isLt N_0

theorem blk0 (c : Dev nD) (t : Fin cfg0.N) (r : Fin 2048) (l : Fin 1024) :
    (iblk m c 0 t : Vec Ideal S2048x1024 .bf16) (ix2 r l) = x m c (ix2 r l) := by
  have h := at0 t
  unfold iblk
  rw [View.read_apply]
  show V m c main_arg0 _ = m (c.tc.loc main_arg0) _
  unfold V
  congr 1
  funext a
  apply Fin.ext
  match a with
  | ⟨0, _⟩ => show win0_0.index t 0 * 2048 + 1 * r.val = r.val; rw [h.1]; omega
  | ⟨1, _⟩ => show win0_0.index t 1 * 1024 + 1 * l.val = l.val; rw [h.2.1]; omega

theorem blk1 (c : Dev nD) (t : Fin cfg0.N) (r : Fin 2048) (l : Fin 1024) :
    (iblk m c 1 t : Vec Ideal S2048x1024 .bf16) (ix2 r l) = ct m c (ix2 r l) := by
  have h := at0 t
  unfold iblk
  rw [View.read_apply]
  show V m c main_arg1 _ = m (c.tc.loc main_arg1) _
  unfold V
  congr 1
  funext a
  apply Fin.ext
  match a with
  | ⟨0, _⟩ => show win0_1.index t 0 * 2048 + 1 * r.val = r.val; rw [h.2.2.1]; omega
  | ⟨1, _⟩ => show win0_1.index t 1 * 1024 + 1 * l.val = l.val; rw [h.2.2.2.1]; omega

/-- The weight's gradient: `(xᵀ · ct) (r, l)`. -/
def dw (c : Dev nD) (r : Fin 1024) (l : Fin 1024) : EReal := ∑ k : Fin 2048, x m c (ix2 k r) * ct m c (ix2 k l)

/-- A block's product, at an index. -/
theorem pay1_apply (x0 : Vec Ideal S2048x1024 .bf16) (x1 : Vec Ideal S2048x1024 .bf16) (r : Fin 1024) (l : Fin 1024) :
    k0_pay1 x0 x1 (ix2 r l) = ∑ k : Fin 2048, x0 (ix2 k r) * x1 (ix2 k l) := by
  unfold k0_pay1
  pointwise

/-- What the result array holds. -/
def G2 (c : Dev nD) : Buf (Elt Ideal) ((c : Thread nD τ).loc main_v0) := fun i => dw m c (i 0) (i 1)

theorem flushed2_eq (c : Dev nD) (t : Fin cfg0.N) :
    (dats m 0 c).flushed 2 t = ((cfg0.win 2).blk t).view.read (Elt Ideal) (G2 m c) := by
  have h := at0 t
  rw [Value.flushed2]
  unfold out0_2
  rw [View.canon_unit_zero hz, View.ld_unit_zero hz, View.ld_unit_zero hz]
  funext j
  obtain ⟨r, l, rfl⟩ : ∃ (r : Fin 1024) (l : Fin 1024), j = ix2 r l := ⟨j 0, j 1, eq_ix2 j⟩
  rw [View.read_apply]
  have e0 : ((cfg0.win 2).blk t).view.emb (ix2 r l) = ix2 r l := by
    funext a
    apply Fin.ext
    match a with
    | ⟨0, _⟩ => show win0_2.index t 0 * 1024 + 1 * r.val = r.val; rw [h.2.2.2.2.1]; omega
    | ⟨1, _⟩ => show win0_2.index t 1 * 1024 + 1 * l.val = l.val; rw [h.2.2.2.2.2]; omega
  rw [e0]
  show k0_pay1 (iblk m c 0 t : Vec Ideal S2048x1024 .bf16) (iblk m c 1 t : Vec Ideal S2048x1024 .bf16) (ix2 r l) = G2 m c (ix2 r l)
  rw [pay1_apply]
  unfold G2 dw
  exact Finset.sum_congr rfl fun k _ => by rw [blk0, blk1]; rfl

theorem mem_blk2 (t : Fin cfg0.N) (i : S1024x1024.Idx) : i ∈ ((cfg0.win 2).blk t).view.set ↔ ∀ d,
    win0_2.index t d * S1024x1024.size d ≤ (i d).val
      ∧ (i d).val < win0_2.index t d * S1024x1024.size d + S1024x1024.size d := by
  show i ∈ ((View.whole main_v0).slice (win0_2.rect t)).set ↔ _
  rw [View.set_slice_whole, Rect.mem_set_unit]

theorem cover2 (i : S1024x1024.Idx) : ∃ t : Fin cfg0.N, (cfg0.win 2).flush t = true ∧ i ∈ ((cfg0.win 2).blk t).view.set := by
  have h0 : (i 0).val < 1024 := (i 0).isLt
  have h1 : (i 1).val < 1024 := (i 1).isLt
  have hN : (i 0).val / 1024 < cfg0.N := by
    show _ < grid0.N
    rw [N_0]; omega
  refine ⟨⟨_, hN⟩, flush0_2 _, (mem_blk2 _ i).2 fun d => ?_⟩
  have h := at0 ⟨(i 0).val / 1024, hN⟩
  have e0 := h.2.2.2.2.1
  have e1 := h.2.2.2.2.2
  match d with
  | ⟨0, _⟩ =>
    show win0_2.index _ 0 * 1024 ≤ (i 0).val ∧ (i 0).val < win0_2.index _ 0 * 1024 + 1024
    rw [e0]; dsimp only; omega
  | ⟨1, _⟩ =>
    show win0_2.index _ 1 * 1024 ≤ (i 1).val ∧ (i 1).val < win0_2.index _ 1 * 1024 + 1024
    rw [e1]; dsimp only; omega

/-- Every run ends with the weight's gradient in the result array and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans (Dat.arrAt_eq_of_cover (dats m 0 c) 2 (G2 m c) (fun t _ => flushed2_eq m c t) cover2),
      (h c).2⟩)
    (Value.run_blocks m ρ)

end Cert.DwSquareIdeal.Hand

end
-- ==== Proof.DwSquareEq.lean ====
/- The weight's gradient: the reference's result read at an index is the kernel's. -/
module

public import proofs.«01_k».proof.Proof.DwSquareValue
public import proofs.«01_k».proof.Proof.Gen.DwSquareReferenceIdeal.Run
public import Idealize.ShloMosaic.Lib.Quiescent

@[expose] public section

set_option maxRecDepth 16384

noncomputable section

namespace Cert.DwSquareReferenceIdeal.Hand

open Cert.DwSquareReferenceIdeal Cert.DwSquareReferenceIdeal.Gen Idealize.ShloMosaic Idealize.ShloMosaic.TcCoe Idealize.SL.Sem
open Cert.DwSquareIdeal.Hand (dw G2)

/-- The reference's run leaves nothing behind and changes no argument. -/
theorem quiet : Cert.quiescent_DwSquareReferenceIdeal := fun m ρ _ =>
  (θ_run defs _ _).mono (fun r h => ⟨fun c => (h c).2,
    Idealize.ShloMosaic.sem_eq_zero_of_no_sems (by decide) r.2⟩) (Cert.DwSquareReferenceIdeal.Value.run (F := Ideal) m ρ)

/-- The kernel's weight gradient is the reference's, the factors of each product exchanged. -/
theorem alg : Cert.algebraic_DwSquareIdeal_DwSquareReferenceIdeal := fun m g m' g' _ hagree =>
  ⟨G2 m, Cert.DwSquareIdeal.Hand.run m g,
    (θ_run defs _ _).mono (fun r h c => by
      obtain ⟨e0, e1⟩ := hagree c
      refine ⟨(h c).1.trans ?_, (h c).2⟩
      simp only [e0, e1]
      funext i
      obtain ⟨r, l, rfl⟩ : ∃ (r : Fin 1024) (l : Fin 1024), i = ix2 r l := ⟨i 0, i 1, eq_ix2 i⟩
      unfold G2 dw
      pointwise
      exact Finset.sum_congr rfl fun k _ => mul_comm _ _)
    (Cert.DwSquareReferenceIdeal.Value.run (F := Ideal) m' g')⟩

end Cert.DwSquareReferenceIdeal.Hand

end
-- ==== Proof.ConvBwdValue.lean ====
/- The gradient of the gated convolution: what one grid point computes, what the four result arrays hold. -/
module

public import proofs.«01_k».proof.Defs
public import proofs.«01_k».proof.Proof.Gen.ConvBwdIdeal.Value
public import Idealize.ShloMosaic.Lib.Pipeline.Value
public import Idealize.ShloMosaic.Lib.Pointwise

@[expose] public section

set_option maxRecDepth 16384

noncomputable section

namespace Cert.ConvBwdIdeal.Hand

open Cert.ConvBwdIdeal Cert.ConvBwdIdeal.Gen Idealize.ShloMosaic Idealize.ShloMosaic.TcCoe Idealize.SL.Sem
open Idealize.ShloMosaic.Pipeline (Dat)

variable (m : (ℓ : Loc nD τ sig) → Buf (Elt Ideal) ℓ)

/-- The incoming gradient. -/
abbrev dco (c : Dev nD) : S2048x1024.Idx → EReal := m ((c : Thread nD τ).loc main_arg0)
/-- The projection behind the convolution. -/
abbrev wco (c : Dev nD) : S1024x1024.Idx → EReal := m ((c : Thread nD τ).loc main_arg1)
/-- The input projections, side by side. -/
abbrev prj (c : Dev nD) : S2048x6656.Idx → EReal := m ((c : Thread nD τ).loc main_arg2)
/-- The convolution's three taps, per channel. -/
abbrev cw (c : Dev nD) : S3x1024.Idx → EReal := m ((c : Thread nD τ).loc main_arg3)

theorem hz : (![0, 0] : Fin 2 → Nat) = fun _ => 0 := funext fun a => by fin_cases a <;> rfl

/-- Grid point `t` takes column block `t` of every part. -/
theorem at0 : ∀ t : Fin cfg0.N, win0_0.index t 0 = 0
    ∧ win0_0.index t 1 = 0
    ∧ win0_1.index t 0 = t.val
    ∧ win0_1.index t 1 = 0
    ∧ win0_2.index t 0 = 0
    ∧ win0_2.index t 1 = t.val
    ∧ win0_3.index t 0 = 0
    ∧ win0_3.index t 1 = (t.val + 4)
    ∧ win0_4.index t 0 = 0
    ∧ win0_4.index t 1 = (t.val + 8)
    ∧ win0_5.index t 0 = 0
    ∧ win0_5.index t 1 = t.val
    ∧ win0_6.index t 0 = 0
    ∧ win0_6.index t 1 = t.val
    ∧ win0_7.index t 0 = 0
    ∧ win0_7.index t 1 = t.val
    ∧ win0_8.index t 0 = 0
    ∧ win0_8.index t 1 = t.val
    ∧ win0_9.index t 0 = 0
    ∧ win0_9.index t 1 = t.val :=
  (by decide +kernel : ∀ t : Fin grid0.N, _)

theorem lt4 (t : Fin cfg0.N) : t.val < 4 := lt_of_lt_of_eq t.isLt N_0

/-- Input block 0 of grid point `t`. -/
abbrev bk0 (c : Dev nD) (t : Fin cfg0.N) : Vec Ideal S2048x1024 .bf16 := iblk m c 0 t
theorem blk0 (c : Dev nD) (t : Fin cfg0.N) (r : Fin 2048) (l : Fin 1024) :
    bk0 m c t (ix2 r l) = dco m c (ix2 r l) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 2048 + 1 * r.val = r.val; rw [h.1]; omega
  | ⟨1, _⟩ => show win0_0.index t 1 * 1024 + 1 * l.val = l.val; rw [h.2.1]; omega

/-- Input block 1 of grid point `t`. -/
abbrev bk1 (c : Dev nD) (t : Fin cfg0.N) : Vec Ideal S256x1024 .bf16 := iblk m c 1 t
theorem blk1 (c : Dev nD) (t : Fin cfg0.N) (r : Fin 256) (l : Fin 1024) :
    bk1 m c t (ix2 r l) = wco m c (ix2 ⟨t.val * 256 + r.val, by have := lt4 t; omega⟩ l) := by
  have h := at0 t
  unfold bk1 iblk
  rw [View.read_apply]
  show V m c main_arg1 _ = m (c.tc.loc main_arg1) _
  unfold V
  congr 1
  funext a
  apply Fin.ext
  match a with
  | ⟨0, _⟩ => show win0_1.index t 0 * 256 + 1 * r.val = t.val * 256 + r.val; rw [h.2.2.1]; omega
  | ⟨1, _⟩ => show win0_1.index t 1 * 1024 + 1 * l.val = l.val; rw [h.2.2.2.1]; omega

/-- Input block 2 of grid point `t`. -/
abbrev bk2 (c : Dev nD) (t : Fin cfg0.N) : Vec Ideal S2048x256 .f32 := iblk m c 2 t
theorem blk2 (c : Dev nD) (t : Fin cfg0.N) (r : Fin 2048) (l : Fin 256) :
    bk2 m c t (ix2 r l) = prj m c (ix2 r ⟨t.val * 256 + l.val, by have := lt4 t; omega⟩) := by
  have h := at0 t
  unfold bk2 iblk
  rw [View.read_apply]
  show V m c main_arg2 _ = m (c.tc.loc main_arg2) _
  unfold V
  congr 1
  funext a
  apply Fin.ext
  match a with
  | ⟨0, _⟩ => show win0_2.index t 0 * 2048 + 1 * r.val = r.val; rw [h.2.2.2.2.1]; omega
  | ⟨1, _⟩ => show win0_2.index t 1 * 256 + 1 * l.val = t.val * 256 + l.val; rw [h.2.2.2.2.2.1]; omega

/-- Input block 3 of grid point `t`. -/
abbrev bk3 (c : Dev nD) (t : Fin cfg0.N) : Vec Ideal S2048x256 .f32 := iblk m c 3 t
theorem blk3 (c : Dev nD) (t : Fin cfg0.N) (r : Fin 2048) (l : Fin 256) :
    bk3 m c t (ix2 r l) = prj m c (ix2 r ⟨((t.val + 4)) * 256 + l.val, by have := lt4 t; omega⟩) := by
  have h := at0 t
  unfold bk3 iblk
  rw [View.read_apply]
  show V m c main_arg2 _ = m (c.tc.loc main_arg2) _
  unfold V
  congr 1
  funext a
  apply Fin.ext
  match a with
  | ⟨0, _⟩ => show win0_3.index t 0 * 2048 + 1 * r.val = r.val; rw [h.2.2.2.2.2.2.1]; omega
  | ⟨1, _⟩ => show win0_3.index t 1 * 256 + 1 * l.val = ((t.val + 4)) * 256 + l.val; rw [h.2.2.2.2.2.2.2.1]; omega

/-- Input block 4 of grid point `t`. -/
abbrev bk4 (c : Dev nD) (t : Fin cfg0.N) : Vec Ideal S2048x256 .f32 := iblk m c 4 t
theorem blk4 (c : Dev nD) (t : Fin cfg0.N) (r : Fin 2048) (l : Fin 256) :
    bk4 m c t (ix2 r l) = prj m c (ix2 r ⟨((t.val + 8)) * 256 + l.val, by have := lt4 t; omega⟩) := by
  have h := at0 t
  unfold bk4 iblk
  rw [View.read_apply]
  show V m c main_arg2 _ = m (c.tc.loc main_arg2) _
  unfold V
  congr 1
  funext a
  apply Fin.ext
  match a with
  | ⟨0, _⟩ => show win0_4.index t 0 * 2048 + 1 * r.val = r.val; rw [h.2.2.2.2.2.2.2.2.1]; omega
  | ⟨1, _⟩ => show win0_4.index t 1 * 256 + 1 * l.val = ((t.val + 8)) * 256 + l.val; rw [h.2.2.2.2.2.2.2.2.2.1]; omega

/-- Input block 5 of grid point `t`. -/
abbrev bk5 (c : Dev nD) (t : Fin cfg0.N) : Vec Ideal S3x256 .f32 := iblk m c 5 t
theorem blk5 (c : Dev nD) (t : Fin cfg0.N) (r : Fin 3) (l : Fin 256) :
    bk5 m c t (ix2 r l) = cw m c (ix2 r ⟨t.val * 256 + l.val, by have := lt4 t; omega⟩) := by
  have h := at0 t
  unfold bk5 iblk
  rw [View.read_apply]
  show V m c main_arg3 _ = m (c.tc.loc main_arg3) _
  unfold V
  congr 1
  funext a
  apply Fin.ext
  match a with
  | ⟨0, _⟩ => show win0_5.index t 0 * 3 + 1 * r.val = r.val; rw [h.2.2.2.2.2.2.2.2.2.2.1]; omega
  | ⟨1, _⟩ => show win0_5.index t 1 * 256 + 1 * l.val = t.val * 256 + l.val; rw [h.2.2.2.2.2.2.2.2.2.2.2.1]; omega

/-- The three parts of the projection the convolution reads: the output gate, the input gate, the input. -/
abbrev gb (c : Dev nD) (r : Fin 2048) (l : Fin 1024) : EReal := prj m c (ix2 r ⟨l.val, by omega⟩)
abbrev gc (c : Dev nD) (r : Fin 2048) (l : Fin 1024) : EReal := prj m c (ix2 r ⟨1024 + l.val, by omega⟩)
abbrev gx (c : Dev nD) (r : Fin 2048) (l : Fin 1024) : EReal := prj m c (ix2 r ⟨2048 + l.val, by omega⟩)

/-- A column read `k` rows back, zero before the start. -/
def back (k : Nat) (f : Fin 2048 → EReal) (r : Fin 2048) : EReal :=
  if h : k ≤ r.val then f ⟨r.val - k, by omega⟩ else 0
/-- A column read `k` rows ahead, zero past the end. -/
def ahead (k : Nat) (f : Fin 2048 → EReal) (r : Fin 2048) : EReal :=
  if h : k + r.val < 2048 then f ⟨k + r.val, h⟩ else 0

/-- What the convolution runs over. -/
def u (c : Dev nD) (l : Fin 1024) (r : Fin 2048) : EReal := gc m c r l * gx m c r l
/-- The convolution. -/
def cv (c : Dev nD) (l : Fin 1024) (r : Fin 2048) : EReal :=
  cw m c (ix2 0 l) * back 2 (u m c l) r + cw m c (ix2 1 l) * back 1 (u m c l) r + cw m c (ix2 2 l) * u m c l r
/-- The incoming gradient through the projection behind. -/
def dy (c : Dev nD) (l : Fin 1024) (r : Fin 2048) : EReal := ∑ k : Fin 1024, dco m c (ix2 r k) * wco m c (ix2 l k)
/-- The convolution's gradient. -/
def dcv (c : Dev nD) (l : Fin 1024) (r : Fin 2048) : EReal := gb m c r l * dy m c l r
/-- The gradient of what the convolution runs over. -/
def du (c : Dev nD) (l : Fin 1024) (r : Fin 2048) : EReal :=
  cw m c (ix2 2 l) * dcv m c l r + cw m c (ix2 1 l) * ahead 1 (dcv m c l) r + cw m c (ix2 0 l) * ahead 2 (dcv m c l) r

/-- A tap's gradient. -/
def dtap (c : Dev nD) (k : Fin 3) (l : Fin 1024) : EReal :=
  ∑ r : Fin 2048, dcv m c l r * back (2 - k.val) (u m c l) r

/-- What the four result arrays hold. -/
def G6 (c : Dev nD) : Buf (Elt Ideal) ((c : Thread nD τ).loc main_v0_0) := fun i => dy m c (i 1) (i 0) * cv m c (i 1) (i 0)
def G7 (c : Dev nD) : Buf (Elt Ideal) ((c : Thread nD τ).loc main_v0_1) := fun i => du m c (i 1) (i 0) * gx m c (i 0) (i 1)
def G8 (c : Dev nD) : Buf (Elt Ideal) ((c : Thread nD τ).loc main_v0_2) := fun i => du m c (i 1) (i 0) * gc m c (i 0) (i 1)
def G9 (c : Dev nD) : Buf (Elt Ideal) ((c : Thread nD τ).loc main_v0_3) := fun i => dtap m c (i 0) (i 1)

/-- The products of the two gates' blocks, at an index. -/
theorem pay5_apply (x0 x1 : Vec Ideal S2048x256 .f32) (r : Fin 2048) (l : Fin 256) :
    k0_pay5 x0 x1 (ix2 r l) = x0 (ix2 r l) * x1 (ix2 r l) := by
  unfold k0_pay5
  pointwise
/-- The masks, row by row. -/
theorem mask_ge1 : ∀ r : Fin 2048, IntOp.cmpi .sge (BitVec.ofNat 32 r.val) 1#32 = if 1 ≤ r.val then 1 else 0 := by decide +kernel
theorem mask_ge2 : ∀ r : Fin 2048, IntOp.cmpi .sge (BitVec.ofNat 32 r.val) 2#32 = if 2 ≤ r.val then 1 else 0 := by decide +kernel
theorem mask_lt1 : ∀ r : Fin 2048, IntOp.cmpi .slt (BitVec.ofNat 32 r.val) 2047#32 = if 1 + r.val < 2048 then 1 else 0 := by decide +kernel
theorem mask_lt2 : ∀ r : Fin 2048, IntOp.cmpi .slt (BitVec.ofNat 32 r.val) 2046#32 = if 2 + r.val < 2048 then 1 else 0 := by decide +kernel
/-- A masked rotation down is the column read back; a masked rotation up, the column read ahead. -/
theorem sel_back (k : Nat) (hk : k < 2048) (w : BitVec 1) (f : Fin 2048 → EReal) (r : Fin 2048) (hw : w = if k ≤ r.val then 1 else 0)
    (h : (r.val + 2048 - k) % 2048 < 2048) : Scalar.select w (f ⟨(r.val + 2048 - k) % 2048, h⟩) 0 = back k f r := by
  unfold Scalar.select back
  subst hw
  by_cases hr : k ≤ r.val
  · simp only [if_pos hr, dif_pos hr, if_true]
    congr 1
    apply Fin.ext
    show (r.val + 2048 - k) % 2048 = r.val - k
    omega
  · simp [hr]
theorem sel_ahead (k n : Nat) (hk : k + n = 2048) (hn : 0 < k) (w : BitVec 1) (a : EReal) (f : Fin 2048 → EReal) (r : Fin 2048)
    (hw : w = if k + r.val < 2048 then 1 else 0)
    (h : (r.val + 2048 - n) % 2048 < 2048) : Scalar.select w (a * f ⟨(r.val + 2048 - n) % 2048, h⟩) 0 = a * ahead k f r := by
  unfold Scalar.select ahead
  subst hw
  by_cases hr : k + r.val < 2048
  · simp only [if_pos hr, dif_pos hr, if_true]
    congr 2
    apply Fin.ext
    show (r.val + 2048 - n) % 2048 = k + r.val
    omega
  · simp [hr]

theorem pay6_apply (x0 x1 : Vec Ideal S2048x256 .f32) (r : Fin 2048) (l : Fin 256) :
    k0_pay6 x0 x1 (ix2 r l) = back 1 (fun r => x0 (ix2 r l) * x1 (ix2 r l)) r := by
  unfold k0_pay6
  pointwise
  rw [pay5_apply]
  exact sel_back 1 (by omega) _ (fun r => x0 (ix2 r l) * x1 (ix2 r l)) r (mask_ge1 r) _
theorem pay7_apply (x0 x1 : Vec Ideal S2048x256 .f32) (r : Fin 2048) (l : Fin 256) :
    k0_pay7 x0 x1 (ix2 r l) = back 2 (fun r => x0 (ix2 r l) * x1 (ix2 r l)) r := by
  unfold k0_pay7
  pointwise
  rw [pay5_apply]
  exact sel_back 2 (by omega) _ (fun r => x0 (ix2 r l) * x1 (ix2 r l)) r (mask_ge2 r) _
theorem pay8_apply (x0 : Vec Ideal S2048x1024 .bf16) (x1 : Vec Ideal S256x1024 .bf16) (r : Fin 2048) (l : Fin 256) :
    k0_pay8 x0 x1 (ix2 r l) = ∑ k : Fin 1024, x0 (ix2 r k) * x1 (ix2 l k) := by
  unfold k0_pay8
  pointwise
theorem pay10_apply (x0 : Vec Ideal S2048x1024 .bf16) (x1 : Vec Ideal S256x1024 .bf16) (x2 : Vec Ideal S2048x256 .f32) (r : Fin 2048) (l : Fin 256) :
    k0_pay10 x0 x1 x2 (ix2 r l) = (∑ k : Fin 1024, x0 (ix2 r k) * x1 (ix2 l k)) * x2 (ix2 r l) := by
  unfold k0_pay10
  pointwise
  rw [pay8_apply]
theorem pay9_apply (x3 x4 : Vec Ideal S2048x256 .f32) (x5 : Vec Ideal S3x256 .f32) (x0 : Vec Ideal S2048x1024 .bf16) (x1 : Vec Ideal S256x1024 .bf16) (r : Fin 2048) (l : Fin 256) :
    k0_pay9 x3 x4 x5 x0 x1 (ix2 r l) = (∑ k : Fin 1024, x0 (ix2 r k) * x1 (ix2 l k))
      * (x5 (ix2 0 l) * back 2 (fun r => x3 (ix2 r l) * x4 (ix2 r l)) r + x5 (ix2 1 l) * back 1 (fun r => x3 (ix2 r l) * x4 (ix2 r l)) r
        + x5 (ix2 2 l) * (x3 (ix2 r l) * x4 (ix2 r l))) := by
  unfold k0_pay9
  pointwise
  rw [pay8_apply, pay7_apply, pay6_apply, pay5_apply]
theorem pay1_apply (x3 : Vec Ideal S3x256 .f32) (d : FVec Ideal S2048x256 .f32) (r : Fin 2048) (l : Fin 256) :
    k0_pay1 x3 d (iota .tc S2048x256 32 [0] iota_S2048x256_d0_w32) 2047#32 (ix2 r l)
      = x3 (ix2 2 l) * d (ix2 r l) + x3 (ix2 1 l) * ahead 1 (fun r => d (ix2 r l)) r + x3 (ix2 0 l) * ahead 2 (fun r => d (ix2 r l)) r := by
  unfold k0_pay1
  pointwise
  congr 1
  · congr 1
    exact sel_ahead 1 2047 (by omega) (by omega) _ (x3 (ix2 1 l)) (fun r => d (ix2 r l)) r (mask_lt1 r) _
  · exact sel_ahead 2 2046 (by omega) (by omega) _ (x3 (ix2 0 l)) (fun r => d (ix2 r l)) r (mask_lt2 r) _
theorem pay2_apply (x4 : Vec Ideal S2048x256 .f32) (x3 : Vec Ideal S3x256 .f32) (d : FVec Ideal S2048x256 .f32) (r : Fin 2048) (l : Fin 256) :
    k0_pay2 x4 x3 d (iota .tc S2048x256 32 [0] iota_S2048x256_d0_w32) 2047#32 (ix2 r l)
      = (x3 (ix2 2 l) * d (ix2 r l) + x3 (ix2 1 l) * ahead 1 (fun r => d (ix2 r l)) r + x3 (ix2 0 l) * ahead 2 (fun r => d (ix2 r l)) r) * x4 (ix2 r l) := by
  unfold k0_pay2
  pointwise
  rw [pay1_apply]
theorem pay3_apply (x4 : Vec Ideal S2048x256 .f32) (x3 : Vec Ideal S3x256 .f32) (d : FVec Ideal S2048x256 .f32) (r : Fin 2048) (l : Fin 256) :
    k0_pay3 x4 x3 d (iota .tc S2048x256 32 [0] iota_S2048x256_d0_w32) 2047#32 (ix2 r l)
      = (x3 (ix2 2 l) * d (ix2 r l) + x3 (ix2 1 l) * ahead 1 (fun r => d (ix2 r l)) r + x3 (ix2 0 l) * ahead 2 (fun r => d (ix2 r l)) r) * x4 (ix2 r l) := by
  unfold k0_pay3
  pointwise
  rw [pay1_apply]
theorem pay4_apply (x3 x4 : Vec Ideal S2048x256 .f32) (d : FVec Ideal S2048x256 .f32) (k : Fin 3) (l : Fin 256) :
    k0_pay4 (k0_pay5 x3 x4) (k0_pay6 x3 x4) (k0_pay7 x3 x4) d (ix2 k l)
      = ∑ r : Fin 2048, d (ix2 r l) * back (2 - k.val) (fun r => x3 (ix2 r l) * x4 (ix2 r l)) r := by
  unfold k0_pay4
  pointwise
  by_cases h0 : k.val < 1
  · rw [dif_pos h0, show 2 - k.val = 2 by omega]
    exact Finset.sum_congr rfl fun r _ => by rw [pay7_apply]
  · rw [dif_neg h0]
    by_cases h1 : k.val - 1 < 1
    · rw [dif_pos h1, show 2 - k.val = 1 by omega]
      exact Finset.sum_congr rfl fun r _ => by rw [pay6_apply]
    · rw [dif_neg h1, show 2 - k.val = 0 by omega]
      exact Finset.sum_congr rfl fun r _ => by rw [pay5_apply]; rfl

/-- Column `l` of column block `t`. -/
abbrev col (t : Fin cfg0.N) (l : Fin 256) : Fin 1024 := ⟨t.val * 256 + l.val, by have := lt4 t; omega⟩
/-- The blocks' parts in the whole arrays' terms. -/
theorem gcB (c : Dev nD) (t : Fin cfg0.N) (r : Fin 2048) (l : Fin 256) :
    bk3 m c t (ix2 r l) = gc m c r (col t l) := by
  rw [blk3]; unfold gc col; congr 2; apply Fin.ext; show (t.val + 4) * 256 + l.val = 1024 + (t.val * 256 + l.val); omega
theorem gxB (c : Dev nD) (t : Fin cfg0.N) (r : Fin 2048) (l : Fin 256) :
    bk4 m c t (ix2 r l) = gx m c r (col t l) := by
  rw [blk4]; unfold gx col; congr 2; apply Fin.ext; show (t.val + 8) * 256 + l.val = 2048 + (t.val * 256 + l.val); omega
theorem uB (c : Dev nD) (t : Fin cfg0.N) (l : Fin 256) :
    (fun r => bk3 m c t (ix2 r l) * bk4 m c t (ix2 r l)) = u m c (col t l) :=
  funext fun r => by rw [gcB, gxB]; rfl
theorem dyB (c : Dev nD) (t : Fin cfg0.N) (r : Fin 2048) (l : Fin 256) :
    (∑ k : Fin 1024, bk0 m c t (ix2 r k) * bk1 m c t (ix2 l k)) = dy m c (col t l) r := by
  unfold dy
  exact Finset.sum_congr rfl fun k _ => by rw [blk0, blk1]
/-- The block of the convolution's gradient. -/
theorem dcvB (c : Dev nD) (t : Fin cfg0.N) (l : Fin 256) :
    (fun r => k0_pay10 (bk0 m c t) (bk1 m c t) (bk2 m c t) (ix2 r l)) = dcv m c (col t l) :=
  funext fun r => by rw [pay10_apply, dyB, blk2]; exact mul_comm _ _

theorem flushed6_eq (c : Dev nD) (t : Fin cfg0.N) :
    (dats m 0 c).flushed 6 t = ((cfg0.win 6).blk t).view.read (Elt Ideal) (G6 m c) := by
  have h := at0 t
  rw [Value.flushed6]
  unfold out0_6
  rw [View.canon_unit_zero hz, View.ld_unit_zero hz, View.ld_unit_zero hz, View.ld_unit_zero hz, View.ld_unit_zero hz, View.ld_unit_zero hz]
  funext j
  obtain ⟨r, l, rfl⟩ : ∃ (r : Fin 2048) (l : Fin 256), j = ix2 r l := ⟨j 0, j 1, eq_ix2 j⟩
  rw [View.read_apply]
  have e0 : ((cfg0.win 6).blk t).view.emb (ix2 r l) = ix2 r ⟨t.val * 256 + l.val, by have := lt4 t; omega⟩ := by
    funext a
    apply Fin.ext
    match a with
    | ⟨0, _⟩ => show win0_6.index t 0 * 2048 + 1 * r.val = r.val; rw [h.2.2.2.2.2.2.2.2.2.2.2.2.1]; omega
    | ⟨1, _⟩ => show win0_6.index t 1 * 256 + 1 * l.val = t.val * 256 + l.val; rw [h.2.2.2.2.2.2.2.2.2.2.2.2.2.1]; omega
  rw [e0]
  show k0_pay9 (bk3 m c t) (bk4 m c t) (bk5 m c t) (bk0 m c t) (bk1 m c t) (ix2 r l) = dy m c (col t l) r * cv m c (col t l) r
  rw [pay9_apply, dyB, uB, gcB, gxB, blk5, blk5, blk5]
  rfl

theorem flushed7_eq (c : Dev nD) (t : Fin cfg0.N) :
    (dats m 0 c).flushed 7 t = ((cfg0.win 7).blk t).view.read (Elt Ideal) (G7 m c) := by
  have h := at0 t
  rw [Value.flushed7]
  unfold out0_7
  rw [k0_pay12, k0_pay11, View.canon_unit_zero hz, View.ld_unit_zero hz, View.ld_unit_zero hz, View.ld_unit_zero hz, View.ld_unit_zero hz, View.ld_unit_zero hz]
  funext j
  obtain ⟨r, l, rfl⟩ : ∃ (r : Fin 2048) (l : Fin 256), j = ix2 r l := ⟨j 0, j 1, eq_ix2 j⟩
  rw [View.read_apply]
  have e0 : ((cfg0.win 7).blk t).view.emb (ix2 r l) = ix2 r ⟨t.val * 256 + l.val, by have := lt4 t; omega⟩ := by
    funext a
    apply Fin.ext
    match a with
    | ⟨0, _⟩ => show win0_7.index t 0 * 2048 + 1 * r.val = r.val; rw [h.2.2.2.2.2.2.2.2.2.2.2.2.2.2.1]; omega
    | ⟨1, _⟩ => show win0_7.index t 1 * 256 + 1 * l.val = t.val * 256 + l.val; rw [h.2.2.2.2.2.2.2.2.2.2.2.2.2.2.2.1]; omega
  rw [e0]
  show k0_pay2 (bk4 m c t) (bk5 m c t) (k0_pay10 (bk0 m c t) (bk1 m c t) (bk2 m c t)) (iota .tc S2048x256 32 [0] iota_S2048x256_d0_w32) 2047#32 (ix2 r l) = du m c (col t l) r * gx m c r (col t l)
  rw [pay2_apply, dcvB, gxB, blk5, blk5, blk5, show k0_pay10 (bk0 m c t) (bk1 m c t) (bk2 m c t) (ix2 r l) = dcv m c (col t l) r from congrFun (dcvB m c t l) r]
  rfl

theorem flushed8_eq (c : Dev nD) (t : Fin cfg0.N) :
    (dats m 0 c).flushed 8 t = ((cfg0.win 8).blk t).view.read (Elt Ideal) (G8 m c) := by
  have h := at0 t
  rw [Value.flushed8]
  unfold out0_8
  rw [k0_pay12, k0_pay11, View.canon_unit_zero hz, View.ld_unit_zero hz, View.ld_unit_zero hz, View.ld_unit_zero hz, View.ld_unit_zero hz, View.ld_unit_zero hz]
  funext j
  obtain ⟨r, l, rfl⟩ : ∃ (r : Fin 2048) (l : Fin 256), j = ix2 r l := ⟨j 0, j 1, eq_ix2 j⟩
  rw [View.read_apply]
  have e0 : ((cfg0.win 8).blk t).view.emb (ix2 r l) = ix2 r ⟨t.val * 256 + l.val, by have := lt4 t; omega⟩ := by
    funext a
    apply Fin.ext
    match a with
    | ⟨0, _⟩ => show win0_8.index t 0 * 2048 + 1 * r.val = r.val; rw [h.2.2.2.2.2.2.2.2.2.2.2.2.2.2.2.2.1]; omega
    | ⟨1, _⟩ => show win0_8.index t 1 * 256 + 1 * l.val = t.val * 256 + l.val; rw [h.2.2.2.2.2.2.2.2.2.2.2.2.2.2.2.2.2.1]; omega
  rw [e0]
  show k0_pay3 (bk3 m c t) (bk5 m c t) (k0_pay10 (bk0 m c t) (bk1 m c t) (bk2 m c t)) (iota .tc S2048x256 32 [0] iota_S2048x256_d0_w32) 2047#32 (ix2 r l) = du m c (col t l) r * gc m c r (col t l)
  rw [pay3_apply, dcvB, gcB, blk5, blk5, blk5, show k0_pay10 (bk0 m c t) (bk1 m c t) (bk2 m c t) (ix2 r l) = dcv m c (col t l) r from congrFun (dcvB m c t l) r]
  rfl

theorem flushed9_eq (c : Dev nD) (t : Fin cfg0.N) :
    (dats m 0 c).flushed 9 t = ((cfg0.win 9).blk t).view.read (Elt Ideal) (G9 m c) := by
  have h := at0 t
  rw [Value.flushed9]
  unfold out0_9
  rw [k0_pay12, View.canon_unit_zero hz, View.ld_unit_zero hz, View.ld_unit_zero hz, View.ld_unit_zero hz, View.ld_unit_zero hz, View.ld_unit_zero hz]
  funext j
  obtain ⟨r, l, rfl⟩ : ∃ (r : Fin 3) (l : Fin 256), j = ix2 r l := ⟨j 0, j 1, eq_ix2 j⟩
  rw [View.read_apply]
  have e0 : ((cfg0.win 9).blk t).view.emb (ix2 r l) = ix2 r ⟨t.val * 256 + l.val, by have := lt4 t; omega⟩ := by
    funext a
    apply Fin.ext
    match a with
    | ⟨0, _⟩ => show win0_9.index t 0 * 3 + 1 * r.val = r.val; rw [h.2.2.2.2.2.2.2.2.2.2.2.2.2.2.2.2.2.2.1]; omega
    | ⟨1, _⟩ => show win0_9.index t 1 * 256 + 1 * l.val = t.val * 256 + l.val; rw [h.2.2.2.2.2.2.2.2.2.2.2.2.2.2.2.2.2.2.2]; omega
  rw [e0]
  show k0_pay4 (k0_pay5 (bk3 m c t) (bk4 m c t)) (k0_pay6 (bk3 m c t) (bk4 m c t)) (k0_pay7 (bk3 m c t) (bk4 m c t)) (k0_pay10 (bk0 m c t) (bk1 m c t) (bk2 m c t)) (ix2 r l) = dtap m c r (col t l)
  rw [pay4_apply, uB]
  unfold dtap
  exact Finset.sum_congr rfl fun k _ => by rw [show k0_pay10 (bk0 m c t) (bk1 m c t) (bk2 m c t) (ix2 k l) = dcv m c (col t l) k from congrFun (dcvB m c t l) k]

theorem mem_blk6 (t : Fin cfg0.N) (i : S2048x1024.Idx) : i ∈ ((cfg0.win 6).blk t).view.set ↔ ∀ d,
    win0_6.index t d * S2048x256.size d ≤ (i d).val
      ∧ (i d).val < win0_6.index t d * S2048x256.size d + S2048x256.size d := by
  show i ∈ ((View.whole main_v0_0).slice (win0_6.rect t)).set ↔ _
  rw [View.set_slice_whole, Rect.mem_set_unit]

theorem cover6 (i : S2048x1024.Idx) : ∃ t : Fin cfg0.N, (cfg0.win 6).flush t = true ∧ i ∈ ((cfg0.win 6).blk t).view.set := by
  have h0 : (i 0).val < 2048 := (i 0).isLt
  have h1 : (i 1).val < 1024 := (i 1).isLt
  have hN : (i 1).val / 256 < cfg0.N := by
    show _ < grid0.N
    rw [N_0]; omega
  refine ⟨⟨_, hN⟩, flush0_6 _, (mem_blk6 _ i).2 fun d => ?_⟩
  have h := at0 ⟨(i 1).val / 256, hN⟩
  have e0 := h.2.2.2.2.2.2.2.2.2.2.2.2.1
  have e1 := h.2.2.2.2.2.2.2.2.2.2.2.2.2.1
  match d with
  | ⟨0, _⟩ =>
    show win0_6.index _ 0 * 2048 ≤ (i 0).val ∧ (i 0).val < win0_6.index _ 0 * 2048 + 2048
    rw [e0]; dsimp only; omega
  | ⟨1, _⟩ =>
    show win0_6.index _ 1 * 256 ≤ (i 1).val ∧ (i 1).val < win0_6.index _ 1 * 256 + 256
    rw [e1]; dsimp only; omega

theorem mem_blk7 (t : Fin cfg0.N) (i : S2048x1024.Idx) : i ∈ ((cfg0.win 7).blk t).view.set ↔ ∀ d,
    win0_7.index t d * S2048x256.size d ≤ (i d).val
      ∧ (i d).val < win0_7.index t d * S2048x256.size d + S2048x256.size d := by
  show i ∈ ((View.whole main_v0_1).slice (win0_7.rect t)).set ↔ _
  rw [View.set_slice_whole, Rect.mem_set_unit]

theorem cover7 (i : S2048x1024.Idx) : ∃ t : Fin cfg0.N, (cfg0.win 7).flush t = true ∧ i ∈ ((cfg0.win 7).blk t).view.set := by
  have h0 : (i 0).val < 2048 := (i 0).isLt
  have h1 : (i 1).val < 1024 := (i 1).isLt
  have hN : (i 1).val / 256 < cfg0.N := by
    show _ < grid0.N
    rw [N_0]; omega
  refine ⟨⟨_, hN⟩, flush0_7 _, (mem_blk7 _ i).2 fun d => ?_⟩
  have h := at0 ⟨(i 1).val / 256, hN⟩
  have e0 := h.2.2.2.2.2.2.2.2.2.2.2.2.2.2.1
  have e1 := h.2.2.2.2.2.2.2.2.2.2.2.2.2.2.2.1
  match d with
  | ⟨0, _⟩ =>
    show win0_7.index _ 0 * 2048 ≤ (i 0).val ∧ (i 0).val < win0_7.index _ 0 * 2048 + 2048
    rw [e0]; dsimp only; omega
  | ⟨1, _⟩ =>
    show win0_7.index _ 1 * 256 ≤ (i 1).val ∧ (i 1).val < win0_7.index _ 1 * 256 + 256
    rw [e1]; dsimp only; omega

theorem mem_blk8 (t : Fin cfg0.N) (i : S2048x1024.Idx) : i ∈ ((cfg0.win 8).blk t).view.set ↔ ∀ d,
    win0_8.index t d * S2048x256.size d ≤ (i d).val
      ∧ (i d).val < win0_8.index t d * S2048x256.size d + S2048x256.size d := by
  show i ∈ ((View.whole main_v0_2).slice (win0_8.rect t)).set ↔ _
  rw [View.set_slice_whole, Rect.mem_set_unit]

theorem cover8 (i : S2048x1024.Idx) : ∃ t : Fin cfg0.N, (cfg0.win 8).flush t = true ∧ i ∈ ((cfg0.win 8).blk t).view.set := by
  have h0 : (i 0).val < 2048 := (i 0).isLt
  have h1 : (i 1).val < 1024 := (i 1).isLt
  have hN : (i 1).val / 256 < cfg0.N := by
    show _ < grid0.N
    rw [N_0]; omega
  refine ⟨⟨_, hN⟩, flush0_8 _, (mem_blk8 _ i).2 fun d => ?_⟩
  have h := at0 ⟨(i 1).val / 256, hN⟩
  have e0 := h.2.2.2.2.2.2.2.2.2.2.2.2.2.2.2.2.1
  have e1 := h.2.2.2.2.2.2.2.2.2.2.2.2.2.2.2.2.2.1
  match d with
  | ⟨0, _⟩ =>
    show win0_8.index _ 0 * 2048 ≤ (i 0).val ∧ (i 0).val < win0_8.index _ 0 * 2048 + 2048
    rw [e0]; dsimp only; omega
  | ⟨1, _⟩ =>
    show win0_8.index _ 1 * 256 ≤ (i 1).val ∧ (i 1).val < win0_8.index _ 1 * 256 + 256
    rw [e1]; dsimp only; omega

theorem mem_blk9 (t : Fin cfg0.N) (i : S3x1024.Idx) : i ∈ ((cfg0.win 9).blk t).view.set ↔ ∀ d,
    win0_9.index t d * S3x256.size d ≤ (i d).val
      ∧ (i d).val < win0_9.index t d * S3x256.size d + S3x256.size d := by
  show i ∈ ((View.whole main_v0_3).slice (win0_9.rect t)).set ↔ _
  rw [View.set_slice_whole, Rect.mem_set_unit]

theorem cover9 (i : S3x1024.Idx) : ∃ t : Fin cfg0.N, (cfg0.win 9).flush t = true ∧ i ∈ ((cfg0.win 9).blk t).view.set := by
  have h0 : (i 0).val < 3 := (i 0).isLt
  have h1 : (i 1).val < 1024 := (i 1).isLt
  have hN : (i 1).val / 256 < cfg0.N := by
    show _ < grid0.N
    rw [N_0]; omega
  refine ⟨⟨_, hN⟩, flush0_9 _, (mem_blk9 _ i).2 fun d => ?_⟩
  have h := at0 ⟨(i 1).val / 256, hN⟩
  have e0 := h.2.2.2.2.2.2.2.2.2.2.2.2.2.2.2.2.2.2.1
  have e1 := h.2.2.2.2.2.2.2.2.2.2.2.2.2.2.2.2.2.2.2
  match d with
  | ⟨0, _⟩ =>
    show win0_9.index _ 0 * 3 ≤ (i 0).val ∧ (i 0).val < win0_9.index _ 0 * 3 + 3
    rw [e0]; dsimp only; omega
  | ⟨1, _⟩ =>
    show win0_9.index _ 1 * 256 ≤ (i 1).val ∧ (i 1).val < win0_9.index _ 1 * 256 + 256
    rw [e1]; dsimp only; omega

/-- Every run ends with the four gradients in the result arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = G6 m c
      ∧ r.2.mem ((c : Thread nD τ).loc main_v0_1) = G7 m c
      ∧ r.2.mem ((c : Thread nD τ).loc main_v0_2) = G8 m c
      ∧ r.2.mem ((c : Thread nD τ).loc main_v0_3) = G9 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans (Dat.arrAt_eq_of_cover (dats m 0 c) 6 (G6 m c) (fun t _ => flushed6_eq m c t) cover6),
      (h c).2.1.trans (Dat.arrAt_eq_of_cover (dats m 0 c) 7 (G7 m c) (fun t _ => flushed7_eq m c t) cover7),
      (h c).2.2.1.trans (Dat.arrAt_eq_of_cover (dats m 0 c) 8 (G8 m c) (fun t _ => flushed8_eq m c t) cover8),
      (h c).2.2.2.1.trans (Dat.arrAt_eq_of_cover (dats m 0 c) 9 (G9 m c) (fun t _ => flushed9_eq m c t) cover9),
      (h c).2.2.2.2⟩)
    (Value.run_blocks m ρ)

end Cert.ConvBwdIdeal.Hand

end
-- ==== Proof.ConvBwdEq.lean ====
/- The gated convolution's gradient: the reference's results read at an index are the kernel's. -/
module

public import proofs.«01_k».proof.Proof.ConvBwdValue
public import proofs.«01_k».proof.Proof.Gen.ConvBwdReferenceIdeal.Run
public import Idealize.ShloMosaic.Lib.Quiescent

@[expose] public section

set_option maxRecDepth 16384

noncomputable section

namespace Cert.ConvBwdReferenceIdeal.Hand

open Cert.ConvBwdReferenceIdeal Cert.ConvBwdReferenceIdeal.Gen Idealize.ShloMosaic Idealize.ShloMosaic.TcCoe Idealize.SL.Sem
open Cert.ConvBwdIdeal.Hand (back ahead u cv dy dcv du dtap G6 G7 G8 G9)

/-- The reference's run leaves nothing behind and changes no argument. -/
theorem quiet : Cert.quiescent_ConvBwdReferenceIdeal := fun m ρ _ =>
  (θ_run defs _ _).mono (fun r h => ⟨fun c => (h c).2.2.2.2,
    Idealize.ShloMosaic.sem_eq_zero_of_no_sems (by decide) r.2⟩) (Cert.ConvBwdReferenceIdeal.Value.run (F := Ideal) m ρ)

/-- The column read back and the column read ahead, as the reference splits them. -/
theorem back_eq (k : Nat) (f : Fin 2048 → EReal) (r : Fin 2048) :
    back k f r = if h : r.val < k then 0 else f ⟨r.val - k, by omega⟩ := by
  unfold back
  by_cases h : k ≤ r.val
  · rw [dif_pos h, dif_neg (by omega)]
  · rw [dif_neg h, dif_pos (by omega)]
theorem ahead_eq (k n : Nat) (hn : k + n = 2048) (a : EReal) (f : Fin 2048 → EReal) (r : Fin 2048) :
    a * ahead k f r = if h : r.val < n then a * f ⟨k + r.val, by omega⟩ else 0 := by
  unfold ahead
  by_cases h : r.val < n
  · rw [dif_pos h, dif_pos (by omega)]
  · rw [dif_neg h, dif_neg (by omega), mul_zero]
/-- A sum against a column read back starts at the row it is read back by. -/
theorem tap_sum (k n : Nat) (hn : k + n = 2048) (d f : Fin 2048 → EReal) :
    (∑ r : Fin 2048, d r * back k f r) = ∑ x : Fin n, d ⟨k + x.val, by omega⟩ * f ⟨x.val, by omega⟩ := by
  rw [← Fin.sum_congr' (fun r : Fin 2048 => d r * back k f r) hn, Fin.sum_univ_add]
  rw [Finset.sum_eq_zero fun x _ => ?_, zero_add]
  · refine Finset.sum_congr rfl fun x _ => ?_
    have hx : k ≤ (Fin.cast hn (Fin.natAdd k x)).val := by show k ≤ k + x.val; omega
    unfold back
    rw [dif_pos hx]
    congr 2
    apply Fin.ext
    show k + x.val - k = x.val
    omega
  · have hx : ¬k ≤ (Fin.cast hn (Fin.castAdd n x)).val := by show ¬k ≤ x.val; omega
    unfold back
    rw [dif_neg hx, mul_zero]
/-- A tap's gradient, tap by tap. -/
theorem taps_eq (k : Fin 3) (d f : Fin 2048 → EReal) :
    (((if _ : 2 ≤ k.val ∧ k.val - 2 < 1 then ∑ _ : Fin 1, ∑ x : Fin 2048, d x * f x else 0)
      + if _ : 1 ≤ k.val ∧ k.val - 1 < 1 then
          ∑ _ : Fin 1, ((∑ _ : Fin 1, d 0 * 0) + ∑ x : Fin 2047, d ⟨1 + x.val, by omega⟩ * f ⟨x.val, by omega⟩) else 0)
      + if _ : k.val < 1 then
          ∑ _ : Fin 1, ((∑ x : Fin 2, d ⟨x.val, by omega⟩ * 0) + ∑ x : Fin 2046, d ⟨2 + x.val, by omega⟩ * f ⟨x.val, by omega⟩) else 0)
      = ∑ r : Fin 2048, d r * back (2 - k.val) f r := by
  have h0 : ∀ r, back 0 f r = f r := fun r => by unfold back; rw [dif_pos (Nat.zero_le _)]; rfl
  simp only [mul_zero, Finset.sum_const_zero, zero_add, Finset.univ_unique, Finset.sum_singleton]
  match k with
  | ⟨0, _⟩ => rw [dif_neg (by dsimp only; omega), dif_neg (by dsimp only; omega), dif_pos (by dsimp only; omega), zero_add, zero_add]; exact (tap_sum 2 2046 rfl d f).symm
  | ⟨1, _⟩ => rw [dif_neg (by dsimp only; omega), dif_pos (by dsimp only; omega), dif_neg (by dsimp only; omega), zero_add, add_zero]; exact (tap_sum 1 2047 rfl d f).symm
  | ⟨2, _⟩ =>
    rw [dif_pos (by dsimp only; omega), dif_neg (by dsimp only; omega), dif_neg (by dsimp only; omega), add_zero, add_zero]
    exact Finset.sum_congr rfl fun r _ => by rw [show 2 - (⟨2, by omega⟩ : Fin 3).val = 0 from rfl, h0]

/-- The kernel's gradients are the reference's. -/
theorem alg : Cert.algebraic_ConvBwdIdeal_ConvBwdReferenceIdeal := fun m g m' g' _ hagree =>
  ⟨G6 m, G7 m, G8 m, G9 m, Cert.ConvBwdIdeal.Hand.run m g,
    (θ_run defs _ _).mono (fun r h c => by
      obtain ⟨e0, e1, e2, e3⟩ := hagree c
      refine ⟨(h c).1.trans ?_, (h c).2.1.trans ?_, (h c).2.2.1.trans ?_, (h c).2.2.2.1.trans ?_, (h c).2.2.2.2⟩
      · simp only [e0, e1, e2, e3]
        funext i
        obtain ⟨r, l, rfl⟩ : ∃ (r : Fin 2048) (l : Fin 1024), i = ix2 r l := ⟨i 0, i 1, eq_ix2 i⟩
        unfold G6
        pointwise
        try simp only [e0, e1, e2, e3]
        unfold cv
        rw [back_eq, back_eq]
        rfl
      · simp only [e0, e1, e2, e3]
        funext i
        obtain ⟨r, l, rfl⟩ : ∃ (r : Fin 2048) (l : Fin 1024), i = ix2 r l := ⟨i 0, i 1, eq_ix2 i⟩
        unfold G7
        pointwise
        try simp only [e0, e1, e2, e3]
        unfold du
        rw [ahead_eq 1 2047 rfl, ahead_eq 2 2046 rfl, add_right_comm]
        rfl
      · simp only [e0, e1, e2, e3]
        funext i
        obtain ⟨r, l, rfl⟩ : ∃ (r : Fin 2048) (l : Fin 1024), i = ix2 r l := ⟨i 0, i 1, eq_ix2 i⟩
        unfold G8
        pointwise
        try simp only [e0, e1, e2, e3]
        unfold du
        rw [ahead_eq 1 2047 rfl, ahead_eq 2 2046 rfl, mul_comm]
        refine congrArg (· * _) ?_
        rw [add_right_comm]
        rfl
      · simp only [e0, e1, e2, e3]
        funext i
        obtain ⟨r, l, rfl⟩ : ∃ (r : Fin 3) (l : Fin 1024), i = ix2 r l := ⟨i 0, i 1, eq_ix2 i⟩
        unfold G9
        pointwise
        try simp only [e0, e1, e2, e3]
        exact taps_eq r (dcv m c l) (u m c l))
    (Cert.ConvBwdReferenceIdeal.Value.run (F := Ideal) m' g')⟩

end Cert.ConvBwdReferenceIdeal.Hand

end
-- ==== Proof.DwGateUpValue.lean ====
/- The gradient of the projection to gate and up: what one grid point computes, what the result array holds. -/
module

public import proofs.«01_k».proof.Defs
public import proofs.«01_k».proof.Proof.Gen.DwGateUpIdeal.Value
public import Idealize.ShloMosaic.Lib.Pipeline.ValueKit.Acc
public import Idealize.ShloMosaic.Lib.Pipeline.Value
public import Idealize.ShloMosaic.Lib.Pointwise

@[expose] public section

set_option maxRecDepth 16384

noncomputable section

namespace Cert.DwGateUpIdeal.Hand

open Cert.DwGateUpIdeal Cert.DwGateUpIdeal.Gen Idealize.ShloMosaic Idealize.ShloMosaic.TcCoe Idealize.SL.Sem
open Idealize.ShloMosaic.Pipeline (Dat)

variable (m : (ℓ : Loc nD τ sig) → Buf (Elt Ideal) ℓ)

/-- What the projection multiplied. -/
abbrev x (c : Dev nD) : S2048x1024.Idx → EReal := m ((c : Thread nD τ).loc main_arg0)
/-- The gate's gradient. -/
abbrev dg (c : Dev nD) : S2048x2816.Idx → EReal := m ((c : Thread nD τ).loc main_arg1)
/-- The up part's gradient. -/
abbrev du (c : Dev nD) : S2048x2816.Idx → EReal := m ((c : Thread nD τ).loc main_arg2)

/-- Which blocks grid point `t` reads and writes. -/
theorem at0 : ∀ t : Fin cfg0.N, win0_0.index t 0 = 0
    ∧ win0_0.index t 1 = 0
    ∧ win0_1.index t 0 = 0
    ∧ win0_1.index t 1 = (min t.val 1)
    ∧ win0_2.index t 0 = 0
    ∧ win0_2.index t 1 = (t.val - 2)
    ∧ win0_3.index t 0 = 0
    ∧ win0_3.index t 1 = t.val :=
  (by decide +kernel : ∀ t : Fin grid0.N, _)

theorem lt4 (t : Fin cfg0.N) : t.val < 4 := lt_of_lt_of_eq t.isLt N_0

/-- Input block 0 of grid point `t`. -/
abbrev bk0 (c : Dev nD) (t : Fin cfg0.N) : Vec Ideal S2048x1024 .bf16 := iblk m c 0 t
theorem blk0 (c : Dev nD) (t : Fin cfg0.N) (r : Fin 2048) (l : Fin 1024) :
    bk0 m c t (ix2 r l) = x m c (ix2 r l) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 2048 + 1 * r.val = r.val; rw [h.1]; omega
  | ⟨1, _⟩ => show win0_0.index t 1 * 1024 + 1 * l.val = l.val; rw [h.2.1]; omega

/-- Input block 1 of grid point `t`. -/
abbrev bk1 (c : Dev nD) (t : Fin cfg0.N) : Vec Ideal S2048x1408 .bf16 := iblk m c 1 t
theorem blk1 (c : Dev nD) (t : Fin cfg0.N) (r : Fin 2048) (l : Fin 1408) :
    bk1 m c t (ix2 r l) = dg m c (ix2 r ⟨((min t.val 1)) * 1408 + l.val, by have := lt4 t; omega⟩) := by
  have h := at0 t
  unfold bk1 iblk
  rw [View.read_apply]
  show V m c main_arg1 _ = m (c.tc.loc main_arg1) _
  unfold V
  congr 1
  funext a
  apply Fin.ext
  match a with
  | ⟨0, _⟩ => show win0_1.index t 0 * 2048 + 1 * r.val = r.val; rw [h.2.2.1]; omega
  | ⟨1, _⟩ => show win0_1.index t 1 * 1408 + 1 * l.val = ((min t.val 1)) * 1408 + l.val; rw [h.2.2.2.1]; omega

/-- Input block 2 of grid point `t`. -/
abbrev bk2 (c : Dev nD) (t : Fin cfg0.N) : Vec Ideal S2048x1408 .bf16 := iblk m c 2 t
theorem blk2 (c : Dev nD) (t : Fin cfg0.N) (r : Fin 2048) (l : Fin 1408) :
    bk2 m c t (ix2 r l) = du m c (ix2 r ⟨((t.val - 2)) * 1408 + l.val, by have := lt4 t; omega⟩) := by
  have h := at0 t
  unfold bk2 iblk
  rw [View.read_apply]
  show V m c main_arg2 _ = m (c.tc.loc main_arg2) _
  unfold V
  congr 1
  funext a
  apply Fin.ext
  match a with
  | ⟨0, _⟩ => show win0_2.index t 0 * 2048 + 1 * r.val = r.val; rw [h.2.2.2.2.1]; omega
  | ⟨1, _⟩ => show win0_2.index t 1 * 1408 + 1 * l.val = ((t.val - 2)) * 1408 + l.val; rw [h.2.2.2.2.2.1]; omega

/-- The two gradients side by side. -/
def ct (c : Dev nD) (k : Fin 2048) (l : Fin 5632) : EReal :=
  if h : l.val < 2816 then dg m c (ix2 k ⟨l.val, h⟩) else du m c (ix2 k ⟨l.val - 2816, by omega⟩)
/-- The weight's gradient: `(xᵀ · ct) (r, l)`. -/
def dw (c : Dev nD) (r : Fin 1024) (l : Fin 5632) : EReal := ∑ k : Fin 2048, x m c (ix2 k r) * ct m c k l
/-- What the result array holds. -/
def G3 (c : Dev nD) : Buf (Elt Ideal) ((c : Thread nD τ).loc main_v0) := fun i => dw m c (i 0) (i 1)

/-- A block's product, at an index. -/
theorem pay1_apply (x0 : Vec Ideal S2048x1024 .bf16) (x1 : Vec Ideal S2048x1408 .bf16) (r : Fin 1024) (l : Fin 1408) :
    k0_pay1 x0 x1 (ix2 r l) = ∑ k : Fin 2048, x0 (ix2 k r) * x1 (ix2 k l) := by
  unfold k0_pay1
  pointwise
theorem pay2_apply (x0 : Vec Ideal S2048x1024 .bf16) (x1 : Vec Ideal S2048x1408 .bf16) (r : Fin 1024) (l : Fin 1408) :
    k0_pay2 x0 x1 (ix2 r l) = ∑ k : Fin 2048, x0 (ix2 k r) * x1 (ix2 k l) := by
  unfold k0_pay2
  pointwise

theorem flushed3_eq (c : Dev nD) (t : Fin cfg0.N) :
    (dats m 0 c).flushed 3 t = ((cfg0.win 3).blk t).view.read (Elt Ideal) (G3 m c) := by
  have h := at0 t
  rw [Value.flushed3]
  funext j
  obtain ⟨r, l, rfl⟩ : ∃ (r : Fin 1024) (l : Fin 1408), j = ix2 r l := ⟨j 0, j 1, eq_ix2 j⟩
  rw [View.read_apply]
  have e0 : ((cfg0.win 3).blk t).view.emb (ix2 r l) = ix2 r ⟨t.val * 1408 + l.val, by have := lt4 t; omega⟩ := by
    funext a
    apply Fin.ext
    match a with
    | ⟨0, _⟩ => show win0_3.index t 0 * 1024 + 1 * r.val = r.val; rw [h.2.2.2.2.2.2.1]; omega
    | ⟨1, _⟩ => show win0_3.index t 1 * 1408 + 1 * l.val = t.val * 1408 + l.val; rw [h.2.2.2.2.2.2.2]; omega
  rw [e0]
  show (outsAt0 m c t.val t.isLt : Vec Ideal S1024x1408 .bf16) (ix2 r l) = dw m c r ⟨t.val * 1408 + l.val, by have := lt4 t; omega⟩
  by_cases h0 : t.val < 2
  · rw [outsAt0_A m c t h0 (by omega)]
    frame_out
    refine (pay1_apply (bk0 m c t) (bk1 m c t) r l).trans ?_
    unfold dw
    refine Finset.sum_congr rfl fun k _ => ?_
    rw [blk0, blk1]
    unfold ct
    rw [dif_pos (by dsimp only; omega)]
    congr 3
    apply Fin.ext
    show min t.val 1 * 1408 + l.val = t.val * 1408 + l.val
    omega
  · rw [outsAt0_B m c t h0 (by omega)]
    frame_out
    refine (pay2_apply (bk0 m c t) (bk2 m c t) r l).trans ?_
    unfold dw
    refine Finset.sum_congr rfl fun k _ => ?_
    rw [blk0, blk2]
    unfold ct
    rw [dif_neg (by dsimp only; omega)]
    congr 3
    apply Fin.ext
    show (t.val - 2) * 1408 + l.val = t.val * 1408 + l.val - 2816
    omega

theorem mem_blk3 (t : Fin cfg0.N) (i : S1024x5632.Idx) : i ∈ ((cfg0.win 3).blk t).view.set ↔ ∀ d,
    win0_3.index t d * S1024x1408.size d ≤ (i d).val
      ∧ (i d).val < win0_3.index t d * S1024x1408.size d + S1024x1408.size d := by
  show i ∈ ((View.whole main_v0).slice (win0_3.rect t)).set ↔ _
  rw [View.set_slice_whole, Rect.mem_set_unit]

theorem cover3 (i : S1024x5632.Idx) : ∃ t : Fin cfg0.N, (cfg0.win 3).flush t = true ∧ i ∈ ((cfg0.win 3).blk t).view.set := by
  have h0 : (i 0).val < 1024 := (i 0).isLt
  have h1 : (i 1).val < 5632 := (i 1).isLt
  have hN : (i 1).val / 1408 < cfg0.N := by
    show _ < grid0.N
    rw [N_0]; omega
  refine ⟨⟨_, hN⟩, flush0_3 _, (mem_blk3 _ i).2 fun d => ?_⟩
  have h := at0 ⟨(i 1).val / 1408, hN⟩
  have e0 := h.2.2.2.2.2.2.1
  have e1 := h.2.2.2.2.2.2.2
  match d with
  | ⟨0, _⟩ =>
    show win0_3.index _ 0 * 1024 ≤ (i 0).val ∧ (i 0).val < win0_3.index _ 0 * 1024 + 1024
    rw [e0]; dsimp only; omega
  | ⟨1, _⟩ =>
    show win0_3.index _ 1 * 1408 ≤ (i 1).val ∧ (i 1).val < win0_3.index _ 1 * 1408 + 1408
    rw [e1]; dsimp only; omega

/-- Every run ends with the weight's gradient in the result array and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans (Dat.arrAt_eq_of_cover (dats m 0 c) 3 (G3 m c) (fun t _ => flushed3_eq m c t) cover3),
      (h c).2⟩)
    (Value.run_blocks m ρ)

end Cert.DwGateUpIdeal.Hand

end
-- ==== Proof.DwGateUpEq.lean ====
/- The gradient of the projection to gate and up: the reference's result read at an index is the kernel's. -/
module

public import proofs.«01_k».proof.Proof.DwGateUpValue
public import proofs.«01_k».proof.Proof.Gen.DwGateUpReferenceIdeal.Run
public import Idealize.ShloMosaic.Lib.Quiescent

@[expose] public section

set_option maxRecDepth 16384

noncomputable section

namespace Cert.DwGateUpReferenceIdeal.Hand

open Cert.DwGateUpReferenceIdeal Cert.DwGateUpReferenceIdeal.Gen Idealize.ShloMosaic Idealize.ShloMosaic.TcCoe Idealize.SL.Sem
open Cert.DwGateUpIdeal.Hand (G3 dw ct)

/-- The reference's run leaves nothing behind and changes no argument. -/
theorem quiet : Cert.quiescent_DwGateUpReferenceIdeal := fun m ρ _ =>
  (θ_run defs _ _).mono (fun r h => ⟨fun c => (h c).2,
    Idealize.ShloMosaic.sem_eq_zero_of_no_sems (by decide) r.2⟩) (Cert.DwGateUpReferenceIdeal.Value.run (F := Ideal) m ρ)

/-- The kernel's gradient is the reference's. -/
theorem alg : Cert.algebraic_DwGateUpIdeal_DwGateUpReferenceIdeal := fun m g m' g' _ hagree =>
  ⟨G3 m, Cert.DwGateUpIdeal.Hand.run m g,
    (θ_run defs _ _).mono (fun r h c => by
      obtain ⟨e0, e1, e2⟩ := hagree c
      refine ⟨(h c).1.trans ?_, (h c).2⟩
      simp only [e0, e1, e2]
      clear h
      funext i
      obtain ⟨r, l, rfl⟩ : ∃ (r : Fin 1024) (l : Fin 5632), i = ix2 r l := ⟨i 0, i 1, eq_ix2 i⟩
      unfold G3 dw
      pointwise
      simp only [e1, e2]
      exact Finset.sum_congr rfl fun k _ => mul_comm _ _)
    (Cert.DwGateUpReferenceIdeal.Value.run (F := Ideal) m' g')⟩

end Cert.DwGateUpReferenceIdeal.Hand

end
-- ==== Proof.Dh2Value.lean ====
/- The gradient through the projection to gate and up: what one grid point adds, what the result array holds. -/
module

public import proofs.«01_k».proof.Defs
public import proofs.«01_k».proof.Proof.Gen.Dh2Ideal.Value
public import Idealize.ShloMosaic.Lib.Pipeline.ValueKit.Acc
public import Idealize.ShloMosaic.Lib.Pipeline.Value
public import Idealize.ShloMosaic.Lib.Pointwise

@[expose] public section

set_option maxRecDepth 16384

noncomputable section

namespace Cert.Dh2Ideal.Hand

open Cert.Dh2Ideal Cert.Dh2Ideal.Gen Idealize.ShloMosaic Idealize.ShloMosaic.TcCoe Idealize.SL.Sem
open Idealize.ShloMosaic.Pipeline (Dat)

variable (m : (ℓ : Loc nD τ sig) → Buf (Elt Ideal) ℓ)

/-- The gate's gradient. -/
abbrev dg (c : Dev nD) : S2048x2816.Idx → EReal := m ((c : Thread nD τ).loc main_arg0)
/-- The up part's gradient. -/
abbrev du (c : Dev nD) : S2048x2816.Idx → EReal := m ((c : Thread nD τ).loc main_arg1)
/-- The projection to gate and up, side by side. -/
abbrev w (c : Dev nD) : S1024x5632.Idx → EReal := m ((c : Thread nD τ).loc main_arg2)

/-- Which blocks grid point `t` reads and writes. -/
theorem at0 : ∀ t : Fin cfg0.N, win0_0.index t 0 = (t.val / 4)
    ∧ win0_0.index t 1 = (min (t.val % 4) 1)
    ∧ win0_1.index t 0 = (t.val / 4)
    ∧ win0_1.index t 1 = (t.val % 4 - 2)
    ∧ win0_2.index t 0 = 0
    ∧ win0_2.index t 1 = (t.val % 4)
    ∧ win0_3.index t 0 = (t.val / 4)
    ∧ win0_3.index t 1 = 0 :=
  (by decide +kernel : ∀ t : Fin grid0.N, _)

theorem lt8 (t : Fin cfg0.N) : t.val < 8 := lt_of_lt_of_eq t.isLt N_0

/-- Input block 0 of grid point `t`. -/
abbrev bk0 (c : Dev nD) (t : Fin cfg0.N) : Vec Ideal S1024x1408 .bf16 := iblk m c 0 t
theorem blk0 (c : Dev nD) (t : Fin cfg0.N) (r : Fin 1024) (l : Fin 1408) :
    bk0 m c t (ix2 r l) = dg m c (ix2 ⟨((t.val / 4)) * 1024 + r.val, by have := lt8 t; omega⟩ ⟨((min (t.val % 4) 1)) * 1408 + l.val, by have := lt8 t; omega⟩) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 1024 + 1 * r.val = ((t.val / 4)) * 1024 + r.val; rw [h.1]; omega
  | ⟨1, _⟩ => show win0_0.index t 1 * 1408 + 1 * l.val = ((min (t.val % 4) 1)) * 1408 + l.val; rw [h.2.1]; omega

/-- Input block 1 of grid point `t`. -/
abbrev bk1 (c : Dev nD) (t : Fin cfg0.N) : Vec Ideal S1024x1408 .bf16 := iblk m c 1 t
theorem blk1 (c : Dev nD) (t : Fin cfg0.N) (r : Fin 1024) (l : Fin 1408) :
    bk1 m c t (ix2 r l) = du m c (ix2 ⟨((t.val / 4)) * 1024 + r.val, by have := lt8 t; omega⟩ ⟨((t.val % 4 - 2)) * 1408 + l.val, by have := lt8 t; omega⟩) := by
  have h := at0 t
  unfold bk1 iblk
  rw [View.read_apply]
  show V m c main_arg1 _ = m (c.tc.loc main_arg1) _
  unfold V
  congr 1
  funext a
  apply Fin.ext
  match a with
  | ⟨0, _⟩ => show win0_1.index t 0 * 1024 + 1 * r.val = ((t.val / 4)) * 1024 + r.val; rw [h.2.2.1]; omega
  | ⟨1, _⟩ => show win0_1.index t 1 * 1408 + 1 * l.val = ((t.val % 4 - 2)) * 1408 + l.val; rw [h.2.2.2.1]; omega

/-- Input block 2 of grid point `t`. -/
abbrev bk2 (c : Dev nD) (t : Fin cfg0.N) : Vec Ideal S1024x1408 .bf16 := iblk m c 2 t
theorem blk2 (c : Dev nD) (t : Fin cfg0.N) (r : Fin 1024) (l : Fin 1408) :
    bk2 m c t (ix2 r l) = w m c (ix2 r ⟨((t.val % 4)) * 1408 + l.val, by have := lt8 t; omega⟩) := by
  have h := at0 t
  unfold bk2 iblk
  rw [View.read_apply]
  show V m c main_arg2 _ = m (c.tc.loc main_arg2) _
  unfold V
  congr 1
  funext a
  apply Fin.ext
  match a with
  | ⟨0, _⟩ => show win0_2.index t 0 * 1024 + 1 * r.val = r.val; rw [h.2.2.2.2.1]; omega
  | ⟨1, _⟩ => show win0_2.index t 1 * 1408 + 1 * l.val = ((t.val % 4)) * 1408 + l.val; rw [h.2.2.2.2.2.1]; omega

/-- The two gradients side by side. -/
def ct (c : Dev nD) (r : Fin 2048) (k : Fin 5632) : EReal :=
  if h : k.val < 2816 then dg m c (ix2 r ⟨k.val, h⟩) else du m c (ix2 r ⟨k.val - 2816, by omega⟩)
/-- One term of the gradient, and the gradient: `(ct · wᵀ) (r, l)`. -/
def prod (c : Dev nD) (r : Fin 2048) (l : Fin 1024) (k : Fin 5632) : EReal := ct m c r k * w m c (ix2 l k)
def dh (c : Dev nD) (r : Fin 2048) (l : Fin 1024) : EReal := ∑ k : Fin 5632, prod m c r l k
/-- The term at a column written as a number, zero past the last. -/
def term (c : Dev nD) (r : Fin 2048) (l : Fin 1024) (k : Nat) : EReal := if h : k < 5632 then prod m c r l ⟨k, h⟩ else 0
/-- What the result array holds. -/
def G3 (c : Dev nD) : Buf (Elt Ideal) ((c : Thread nD τ).loc main_v0) := fun i => dh m c (i 0) (i 1)
/-- Row `r` of row block `t / 4`. -/
abbrev row (n : Nat) (hn : n < cfg0.N) (r : Fin 1024) : Fin 2048 := ⟨n / 4 * 1024 + r.val, by have := lt8 ⟨n, hn⟩; dsimp only at this; omega⟩

/-- A block's product, term by term. -/
theorem sum_A (c : Dev nD) (t : Fin cfg0.N) (ht : t.val % 4 = 0) (r l : Fin 1024) :
    (∑ k : Fin 1408, bk0 m c t (ix2 r k) * bk2 m c t (ix2 l k))
      = ∑ k ∈ Finset.range 1408, term m c (row t.val t.isLt r) l (t.val % 4 * 1408 + k) := by
  rw [Finset.sum_range]
  refine Finset.sum_congr rfl fun k _ => ?_
  unfold term prod
  rw [dif_pos (by omega), blk0, blk2]
  unfold ct
  rw [dif_pos (by dsimp only; omega)]
  congr 3
  apply Fin.ext
  show min (t.val % 4) 1 * 1408 + k.val = t.val % 4 * 1408 + k.val
  omega

/-- A block's product, term by term. -/
theorem sum_B (c : Dev nD) (t : Fin cfg0.N) (ht : t.val % 4 = 1) (r l : Fin 1024) :
    (∑ k : Fin 1408, bk0 m c t (ix2 r k) * bk2 m c t (ix2 l k))
      = ∑ k ∈ Finset.range 1408, term m c (row t.val t.isLt r) l (t.val % 4 * 1408 + k) := by
  rw [Finset.sum_range]
  refine Finset.sum_congr rfl fun k _ => ?_
  unfold term prod
  rw [dif_pos (by omega), blk0, blk2]
  unfold ct
  rw [dif_pos (by dsimp only; omega)]
  congr 3
  apply Fin.ext
  show min (t.val % 4) 1 * 1408 + k.val = t.val % 4 * 1408 + k.val
  omega

/-- A block's product, term by term. -/
theorem sum_C (c : Dev nD) (t : Fin cfg0.N) (ht : 2 ≤ t.val % 4) (r l : Fin 1024) :
    (∑ k : Fin 1408, bk1 m c t (ix2 r k) * bk2 m c t (ix2 l k))
      = ∑ k ∈ Finset.range 1408, term m c (row t.val t.isLt r) l (t.val % 4 * 1408 + k) := by
  rw [Finset.sum_range]
  refine Finset.sum_congr rfl fun k _ => ?_
  unfold term prod
  rw [dif_pos (by omega), blk1, blk2]
  unfold ct
  rw [dif_neg (by dsimp only; omega)]
  congr 3
  apply Fin.ext
  show (t.val % 4 - 2) * 1408 + k.val = t.val % 4 * 1408 + k.val - 2816
  omega

/-- A block's product, and a block's product added to what was there, at an index. -/
theorem mm_apply (x0 x1 : Vec Ideal S1024x1408 .bf16) (r l : Fin 1024) : k0_pay1 x0 x1 (ix2 r l) = ∑ k : Fin 1408, x0 (ix2 r k) * x1 (ix2 l k) := by
  unfold k0_pay1
  pointwise
theorem pay2_apply (x0 x1 : Vec Ideal S1024x1408 .bf16) (xo : Vec Ideal S1024x1024 .f32) (r l : Fin 1024) :
    k0_pay2 xo x0 x1 (ix2 r l) = xo (ix2 r l) + ∑ k : Fin 1408, x0 (ix2 r k) * x1 (ix2 l k) := by
  unfold k0_pay2
  pointwise

theorem pay3_apply (x0 x1 : Vec Ideal S1024x1408 .bf16) (xo : Vec Ideal S1024x1024 .f32) (r l : Fin 1024) :
    k0_pay3 xo x0 x1 (ix2 r l) = xo (ix2 r l) + ∑ k : Fin 1408, x0 (ix2 r k) * x1 (ix2 l k) := by
  unfold k0_pay3
  pointwise

/-- After grid point `n` the result's block holds the terms of the column blocks up to its own. -/
theorem outs_eq (c : Dev nD) : ∀ (n : Nat) (hn : n < cfg0.N) (r l : Fin 1024),
    (outsAt0 m c n hn : Vec Ideal S1024x1024 .f32) (ix2 r l) = ∑ k ∈ Finset.range ((n % 4 + 1) * 1408), term m c (row n hn r) l k := by
  intro n
  induction n with
  | zero =>
    intro hn r l
    refine (congrFun (outsAt0_A m c ⟨0, hn⟩ (by rfl) (by simp) (by simp)) _).trans ?_
    frame_out
    exact (mm_apply (bk0 m c ⟨0, hn⟩) (bk2 m c ⟨0, hn⟩) r l).trans ((sum_A m c ⟨0, hn⟩ (by simp) r l).trans (by
      simp only [Nat.zero_mod, Nat.zero_mul, Nat.zero_add, Nat.one_mul]))
  | succ n ih =>
    intro hn r l
    have hn' : n < cfg0.N := by omega
    by_cases h : (n + 1) % 4 = 0
    · refine (congrFun (outsAt0_A m c ⟨n + 1, hn⟩ h (by dsimp only; omega) (by dsimp only; omega)) _).trans ?_
      frame_out
      exact (mm_apply (bk0 m c ⟨n + 1, hn⟩) (bk2 m c ⟨n + 1, hn⟩) r l).trans ((sum_A m c ⟨n + 1, hn⟩ (by dsimp only; omega) r l).trans (by
        simp only [h, Nat.zero_mul, Nat.zero_add, Nat.one_mul]))
    · have hrow : row n hn' r = row (n + 1) hn r := by apply Fin.ext; show n / 4 * 1024 + r.val = (n + 1) / 4 * 1024 + r.val; omega
      have hq : (n % 4 + 1) * 1408 = (n + 1) % 4 * 1408 := by omega
      have hs : ((n + 1) % 4 + 1) * 1408 = (n + 1) % 4 * 1408 + 1408 := by omega
      rw [hs, Finset.sum_range_add, ← hq, ← hrow, ← ih hn' r l]
      by_cases h1 : (n + 1) % 4 = 1
      · refine (congrFun (outsAt0_B m c ⟨n + 1, hn⟩ h h1 (by dsimp only; omega)) _).trans ?_
        frame_out
        refine (pay2_apply (bk0 m c ⟨n + 1, hn⟩) (bk2 m c ⟨n + 1, hn⟩) (outsAt0 m c n hn' : Vec Ideal S1024x1024 .f32) r l).trans ?_
        rw [sum_B m c ⟨n + 1, hn⟩ (by dsimp only; omega) r l]
        refine congrArg (_ + ·) (Finset.sum_congr rfl fun k _ => ?_)
        rw [hrow, hq]
      · refine (congrFun (outsAt0_C m c ⟨n + 1, hn⟩ h h1 (by dsimp only; omega)) _).trans ?_
        frame_out
        refine (pay3_apply (bk1 m c ⟨n + 1, hn⟩) (bk2 m c ⟨n + 1, hn⟩) (outsAt0 m c n hn' : Vec Ideal S1024x1024 .f32) r l).trans ?_
        rw [sum_C m c ⟨n + 1, hn⟩ (by dsimp only; omega) r l]
        refine congrArg (_ + ·) (Finset.sum_congr rfl fun k _ => ?_)
        rw [hrow, hq]

theorem flushed3_eq (c : Dev nD) (t : Fin cfg0.N) (hf : (cfg0.win 3).flush t = true) :
    (dats m 0 c).flushed 3 t = ((cfg0.win 3).blk t).view.read (Elt Ideal) (G3 m c) := by
  have h := at0 t
  rw [Value.flushed3]
  funext j
  obtain ⟨r, l, rfl⟩ : ∃ (r : Fin 1024) (l : Fin 1024), j = ix2 r l := ⟨j 0, j 1, eq_ix2 j⟩
  rw [View.read_apply]
  have e0 : ((cfg0.win 3).blk t).view.emb (ix2 r l) = ix2 ⟨((t.val / 4)) * 1024 + r.val, by have := lt8 t; omega⟩ l := by
    funext a
    apply Fin.ext
    match a with
    | ⟨0, _⟩ => show win0_3.index t 0 * 1024 + 1 * r.val = ((t.val / 4)) * 1024 + r.val; rw [h.2.2.2.2.2.2.1]; omega
    | ⟨1, _⟩ => show win0_3.index t 1 * 1024 + 1 * l.val = l.val; rw [h.2.2.2.2.2.2.2]; omega
  rw [e0]
  have h3 : t.val % 4 = 3 := (flush0_3 t).1 hf
  show (outsAt0 m c t.val t.isLt : Vec Ideal S1024x1024 .f32) (ix2 r l) = dh m c (row t.val t.isLt r) l
  rw [outs_eq, h3, show (3 + 1) * 1408 = 5632 from rfl, Finset.sum_range]
  unfold dh term
  exact Finset.sum_congr rfl fun k _ => by rw [dif_pos k.isLt]

theorem mem_blk3 (t : Fin cfg0.N) (i : S2048x1024.Idx) : i ∈ ((cfg0.win 3).blk t).view.set ↔ ∀ d,
    win0_3.index t d * S1024x1024.size d ≤ (i d).val
      ∧ (i d).val < win0_3.index t d * S1024x1024.size d + S1024x1024.size d := by
  show i ∈ ((View.whole main_v0).slice (win0_3.rect t)).set ↔ _
  rw [View.set_slice_whole, Rect.mem_set_unit]

theorem cover3 (i : S2048x1024.Idx) : ∃ t : Fin cfg0.N, (cfg0.win 3).flush t = true ∧ i ∈ ((cfg0.win 3).blk t).view.set := by
  have h0 : (i 0).val < 2048 := (i 0).isLt
  have h1 : (i 1).val < 1024 := (i 1).isLt
  have hN : ((i 0).val / 1024 * 4 + 3) < cfg0.N := by
    show _ < grid0.N
    rw [N_0]; omega
  refine ⟨⟨_, hN⟩, (flush0_3 _).2 (by dsimp only; omega), (mem_blk3 _ i).2 fun d => ?_⟩
  have h := at0 ⟨((i 0).val / 1024 * 4 + 3), hN⟩
  have e0 := h.2.2.2.2.2.2.1
  have e1 := h.2.2.2.2.2.2.2
  match d with
  | ⟨0, _⟩ =>
    show win0_3.index _ 0 * 1024 ≤ (i 0).val ∧ (i 0).val < win0_3.index _ 0 * 1024 + 1024
    rw [e0]; dsimp only; omega
  | ⟨1, _⟩ =>
    show win0_3.index _ 1 * 1024 ≤ (i 1).val ∧ (i 1).val < win0_3.index _ 1 * 1024 + 1024
    rw [e1]; dsimp only; omega

/-- Every run ends with the gradient in the result array and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = G3 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨(h c).1.trans (Dat.arrAt_eq_of_cover (dats m 0 c) 3 (G3 m c) (fun t hf => flushed3_eq m c t hf) cover3),
      (h c).2⟩)
    (Value.run_blocks m ρ)

end Cert.Dh2Ideal.Hand

end
-- ==== Proof.Dh2Eq.lean ====
/- The gradient through the projection to gate and up: the reference's result read at an index is the kernel's. -/
module

public import proofs.«01_k».proof.Proof.Dh2Value
public import proofs.«01_k».proof.Proof.Gen.Dh2ReferenceIdeal.Run
public import Idealize.ShloMosaic.Lib.Quiescent

@[expose] public section

set_option maxRecDepth 16384

noncomputable section

namespace Cert.Dh2ReferenceIdeal.Hand

open Cert.Dh2ReferenceIdeal Cert.Dh2ReferenceIdeal.Gen Idealize.ShloMosaic Idealize.ShloMosaic.TcCoe Idealize.SL.Sem
open Cert.Dh2Ideal.Hand (G3 dh prod ct)

/-- The reference's run leaves nothing behind and changes no argument. -/
theorem quiet : Cert.quiescent_Dh2ReferenceIdeal := fun m ρ _ =>
  (θ_run defs _ _).mono (fun r h => ⟨fun c => (h c).2,
    Idealize.ShloMosaic.sem_eq_zero_of_no_sems (by decide) r.2⟩) (Cert.Dh2ReferenceIdeal.Value.run (F := Ideal) m ρ)

/-- The kernel's gradient is the reference's. -/
theorem alg : Cert.algebraic_Dh2Ideal_Dh2ReferenceIdeal := fun m g m' g' _ hagree =>
  ⟨G3 m, Cert.Dh2Ideal.Hand.run m g,
    (θ_run defs _ _).mono (fun r h c => by
      obtain ⟨e0, e1, e2⟩ := hagree c
      refine ⟨(h c).1.trans ?_, (h c).2⟩
      simp only [e0, e1, e2]
      clear h
      funext i
      obtain ⟨r, l, rfl⟩ : ∃ (r : Fin 2048) (l : Fin 1024), i = ix2 r l := ⟨i 0, i 1, eq_ix2 i⟩
      unfold G3 dh prod
      pointwise
      simp only [e0, e1]
      refine Eq.trans ?_ (Fin.sum_univ_add (a := 2816) (b := 2816) fun k => ct m c r k * Cert.Dh2Ideal.Hand.w m c (ix2 l k)).symm
      unfold ct
      refine congrArg₂ (· + ·) (Finset.sum_congr rfl fun k _ => ?_) ?_
      · rw [dif_pos (show (Fin.castAdd 2816 k).val < 2816 from k.isLt)]; rfl
      · refine Finset.sum_congr rfl fun k _ => ?_
        rw [dif_neg (show ¬(Fin.natAdd 2816 k).val < 2816 by show ¬2816 + k.val < 2816; omega)]
        congr 3
        apply Fin.ext
        show k.val = 2816 + k.val - 2816
        omega)
    (Cert.Dh2ReferenceIdeal.Value.run (F := Ideal) m' g')⟩

end Cert.Dh2ReferenceIdeal.Hand

end
-- ==== Proof.Dh1Value.lean ====
/- The gradient through the input projection: what one grid point adds, what the result array holds. -/
module

public import proofs.«01_k».proof.Defs
public import proofs.«01_k».proof.Proof.Gen.Dh1Ideal.Value
public import Idealize.ShloMosaic.Lib.Pipeline.ValueKit.Acc
public import Idealize.ShloMosaic.Lib.Pipeline.Value
public import Idealize.ShloMosaic.Lib.Pointwise

@[expose] public section

set_option maxRecDepth 16384

noncomputable section

namespace Cert.Dh1Ideal.Hand

open Cert.Dh1Ideal Cert.Dh1Ideal.Gen Idealize.ShloMosaic Idealize.ShloMosaic.TcCoe Idealize.SL.Sem
open Idealize.ShloMosaic.Pipeline (Dat)

variable (m : (ℓ : Loc nD τ sig) → Buf (Elt Ideal) ℓ)

/-- The input projection's incoming gradient. -/
abbrev x (c : Dev nD) : S2048x6656.Idx → EReal := m ((c : Thread nD τ).loc main_arg0)
/-- The input projection. -/
abbrev w (c : Dev nD) : S1024x6656.Idx → EReal := m ((c : Thread nD τ).loc main_arg1)

/-- Which blocks grid point `t` reads and writes. -/
theorem at0 : ∀ t : Fin cfg0.N, win0_0.index t 0 = (t.val / 4)
    ∧ win0_0.index t 1 = (t.val % 4)
    ∧ win0_1.index t 0 = 0
    ∧ win0_1.index t 1 = (t.val % 4)
    ∧ win0_2.index t 0 = (t.val / 4)
    ∧ win0_2.index t 1 = 0 :=
  (by decide +kernel : ∀ t : Fin grid0.N, _)

theorem lt8 (t : Fin cfg0.N) : t.val < 8 := lt_of_lt_of_eq t.isLt N_0

/-- Input block 0 of grid point `t`. -/
abbrev bk0 (c : Dev nD) (t : Fin cfg0.N) : Vec Ideal S1024x1664 .bf16 := iblk m c 0 t
theorem blk0 (c : Dev nD) (t : Fin cfg0.N) (r : Fin 1024) (l : Fin 1664) :
    bk0 m c t (ix2 r l) = x m c (ix2 ⟨((t.val / 4)) * 1024 + r.val, by have := lt8 t; omega⟩ ⟨((t.val % 4)) * 1664 + l.val, by have := lt8 t; omega⟩) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 1024 + 1 * r.val = ((t.val / 4)) * 1024 + r.val; rw [h.1]; omega
  | ⟨1, _⟩ => show win0_0.index t 1 * 1664 + 1 * l.val = ((t.val % 4)) * 1664 + l.val; rw [h.2.1]; omega

/-- Input block 1 of grid point `t`. -/
abbrev bk1 (c : Dev nD) (t : Fin cfg0.N) : Vec Ideal S1024x1664 .bf16 := iblk m c 1 t
theorem blk1 (c : Dev nD) (t : Fin cfg0.N) (r : Fin 1024) (l : Fin 1664) :
    bk1 m c t (ix2 r l) = w m c (ix2 r ⟨((t.val % 4)) * 1664 + l.val, by have := lt8 t; omega⟩) := by
  have h := at0 t
  unfold bk1 iblk
  rw [View.read_apply]
  show V m c main_arg1 _ = m (c.tc.loc main_arg1) _
  unfold V
  congr 1
  funext a
  apply Fin.ext
  match a with
  | ⟨0, _⟩ => show win0_1.index t 0 * 1024 + 1 * r.val = r.val; rw [h.2.2.1]; omega
  | ⟨1, _⟩ => show win0_1.index t 1 * 1664 + 1 * l.val = ((t.val % 4)) * 1664 + l.val; rw [h.2.2.2.1]; omega

/-- The incoming gradient. -/
abbrev ct (c : Dev nD) (r : Fin 2048) (k : Fin 6656) : EReal := x m c (ix2 r k)
/-- One term of the gradient, and the gradient: `(ct · wᵀ) (r, l)`. -/
def prod (c : Dev nD) (r : Fin 2048) (l : Fin 1024) (k : Fin 6656) : EReal := ct m c r k * w m c (ix2 l k)
def dh (c : Dev nD) (r : Fin 2048) (l : Fin 1024) : EReal := ∑ k : Fin 6656, prod m c r l k
/-- The term at a column written as a number, zero past the last. -/
def term (c : Dev nD) (r : Fin 2048) (l : Fin 1024) (k : Nat) : EReal := if h : k < 6656 then prod m c r l ⟨k, h⟩ else 0
/-- What the result array holds. -/
def G2 (c : Dev nD) : Buf (Elt Ideal) ((c : Thread nD τ).loc main_v0) := fun i => dh m c (i 0) (i 1)
/-- Row `r` of row block `t / 4`. -/
abbrev row (n : Nat) (hn : n < cfg0.N) (r : Fin 1024) : Fin 2048 := ⟨n / 4 * 1024 + r.val, by have := lt8 ⟨n, hn⟩; dsimp only at this; omega⟩

/-- A block's product, term by term. -/
theorem sum_A (c : Dev nD) (t : Fin cfg0.N) (ht : t.val % 4 < 4) (r l : Fin 1024) :
    (∑ k : Fin 1664, bk0 m c t (ix2 r k) * bk1 m c t (ix2 l k))
      = ∑ k ∈ Finset.range 1664, term m c (row t.val t.isLt r) l (t.val % 4 * 1664 + k) := by
  rw [Finset.sum_range]
  refine Finset.sum_congr rfl fun k _ => ?_
  unfold term prod
  rw [dif_pos (by omega), blk0, blk1]

/-- A block's product, term by term. -/
theorem sum_B (c : Dev nD) (t : Fin cfg0.N) (ht : t.val % 4 < 4) (r l : Fin 1024) :
    (∑ k : Fin 1664, bk0 m c t (ix2 r k) * bk1 m c t (ix2 l k))
      = ∑ k ∈ Finset.range 1664, term m c (row t.val t.isLt r) l (t.val % 4 * 1664 + k) := by
  rw [Finset.sum_range]
  refine Finset.sum_congr rfl fun k _ => ?_
  unfold term prod
  rw [dif_pos (by omega), blk0, blk1]

/-- A block's product, and a block's product added to what was there, at an index. -/
theorem mm_apply (x0 x1 : Vec Ideal S1024x1664 .bf16) (r l : Fin 1024) : k0_pay1 x0 x1 (ix2 r l) = ∑ k : Fin 1664, x0 (ix2 r k) * x1 (ix2 l k) := by
  unfold k0_pay1
  pointwise
theorem pay2_apply (x0 x1 : Vec Ideal S1024x1664 .bf16) (xo : Vec Ideal S1024x1024 .f32) (r l : Fin 1024) :
    k0_pay2 x0 x1 xo (ix2 r l) = xo (ix2 r l) + ∑ k : Fin 1664, x0 (ix2 r k) * x1 (ix2 l k) := by
  unfold k0_pay2
  pointwise
  rw [mm_apply]

/-- After grid point `n` the result's block holds the terms of the column blocks up to its own. -/
theorem outs_eq (c : Dev nD) : ∀ (n : Nat) (hn : n < cfg0.N) (r l : Fin 1024),
    (outsAt0 m c n hn : Vec Ideal S1024x1024 .f32) (ix2 r l) = ∑ k ∈ Finset.range ((n % 4 + 1) * 1664), term m c (row n hn r) l k := by
  intro n
  induction n with
  | zero =>
    intro hn r l
    refine (congrFun (outsAt0_A m c ⟨0, hn⟩ (by rfl) (by simp)) _).trans ?_
    frame_out
    exact (mm_apply (bk0 m c ⟨0, hn⟩) (bk1 m c ⟨0, hn⟩) r l).trans ((sum_A m c ⟨0, hn⟩ (by simp) r l).trans (by
      simp only [Nat.zero_mod, Nat.zero_mul, Nat.zero_add, Nat.one_mul]))
  | succ n ih =>
    intro hn r l
    have hn' : n < cfg0.N := by omega
    by_cases h : (n + 1) % 4 = 0
    · refine (congrFun (outsAt0_A m c ⟨n + 1, hn⟩ h (by dsimp only; omega)) _).trans ?_
      frame_out
      exact (mm_apply (bk0 m c ⟨n + 1, hn⟩) (bk1 m c ⟨n + 1, hn⟩) r l).trans ((sum_A m c ⟨n + 1, hn⟩ (by dsimp only; omega) r l).trans (by
        simp only [h, Nat.zero_mul, Nat.zero_add, Nat.one_mul]))
    · have hrow : row n hn' r = row (n + 1) hn r := by apply Fin.ext; show n / 4 * 1024 + r.val = (n + 1) / 4 * 1024 + r.val; omega
      have hq : (n % 4 + 1) * 1664 = (n + 1) % 4 * 1664 := by omega
      have hs : ((n + 1) % 4 + 1) * 1664 = (n + 1) % 4 * 1664 + 1664 := by omega
      rw [hs, Finset.sum_range_add, ← hq, ← hrow, ← ih hn' r l]
      refine (congrFun (outsAt0_B m c ⟨n + 1, hn⟩ h (by dsimp only; omega)) _).trans ?_
      frame_out
      refine (pay2_apply (bk0 m c ⟨n + 1, hn⟩) (bk1 m c ⟨n + 1, hn⟩) (outsAt0 m c n hn' : Vec Ideal S1024x1024 .f32) r l).trans ?_
      rw [sum_B m c ⟨n + 1, hn⟩ (by dsimp only; omega) r l]
      refine congrArg (_ + ·) (Finset.sum_congr rfl fun k _ => ?_)
      rw [hrow, hq]

theorem flushed2_eq (c : Dev nD) (t : Fin cfg0.N) (hf : (cfg0.win 2).flush t = true) :
    (dats m 0 c).flushed 2 t = ((cfg0.win 2).blk t).view.read (Elt Ideal) (G2 m c) := by
  have h := at0 t
  rw [Value.flushed2]
  funext j
  obtain ⟨r, l, rfl⟩ : ∃ (r : Fin 1024) (l : Fin 1024), j = ix2 r l := ⟨j 0, j 1, eq_ix2 j⟩
  rw [View.read_apply]
  have e0 : ((cfg0.win 2).blk t).view.emb (ix2 r l) = ix2 ⟨((t.val / 4)) * 1024 + r.val, by have := lt8 t; omega⟩ l := by
    funext a
    apply Fin.ext
    match a with
    | ⟨0, _⟩ => show win0_2.index t 0 * 1024 + 1 * r.val = ((t.val / 4)) * 1024 + r.val; rw [h.2.2.2.2.1]; omega
    | ⟨1, _⟩ => show win0_2.index t 1 * 1024 + 1 * l.val = l.val; rw [h.2.2.2.2.2]; omega
  rw [e0]
  have h3 : t.val % 4 = 3 := (flush0_2 t).1 hf
  show (outsAt0 m c t.val t.isLt : Vec Ideal S1024x1024 .f32) (ix2 r l) = dh m c (row t.val t.isLt r) l
  rw [outs_eq, h3, show (3 + 1) * 1664 = 6656 from rfl, Finset.sum_range]
  unfold dh term
  exact Finset.sum_congr rfl fun k _ => by rw [dif_pos k.isLt]

theorem mem_blk2 (t : Fin cfg0.N) (i : S2048x1024.Idx) : i ∈ ((cfg0.win 2).blk t).view.set ↔ ∀ d,
    win0_2.index t d * S1024x1024.size d ≤ (i d).val
      ∧ (i d).val < win0_2.index t d * S1024x1024.size d + S1024x1024.size d := by
  show i ∈ ((View.whole main_v0).slice (win0_2.rect t)).set ↔ _
  rw [View.set_slice_whole, Rect.mem_set_unit]

theorem cover2 (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  have hN : ((i 0).val / 1024 * 4 + 3) < cfg0.N := by
    show _ < grid0.N
    rw [N_0]; omega
  refine ⟨⟨_, hN⟩, (flush0_2 _).2 (by dsimp only; omega), (mem_blk2 _ i).2 fun d => ?_⟩
  have h := at0 ⟨((i 0).val / 1024 * 4 + 3), hN⟩
  have e0 := h.2.2.2.2.1
  have e1 := h.2.2.2.2.2
  match d with
  | ⟨0, _⟩ =>
    show win0_2.index _ 0 * 1024 ≤ (i 0).val ∧ (i 0).val < win0_2.index _ 0 * 1024 + 1024
    rw [e0]; dsimp only; omega
  | ⟨1, _⟩ =>
    show win0_2.index _ 1 * 1024 ≤ (i 1).val ∧ (i 1).val < win0_2.index _ 1 * 1024 + 1024
    rw [e1]; dsimp only; omega

/-- Every run ends with the gradient in the result array and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans (Dat.arrAt_eq_of_cover (dats m 0 c) 2 (G2 m c) (fun t hf => flushed2_eq m c t hf) cover2),
      (h c).2⟩)
    (Value.run_blocks m ρ)

end Cert.Dh1Ideal.Hand

end
-- ==== Proof.Dh1Eq.lean ====
/- The gradient through the input projection: the reference's result read at an index is the kernel's. -/
module

public import proofs.«01_k».proof.Proof.Dh1Value
public import proofs.«01_k».proof.Proof.Gen.Dh1ReferenceIdeal.Run
public import Idealize.ShloMosaic.Lib.Quiescent

@[expose] public section

set_option maxRecDepth 16384

noncomputable section

namespace Cert.Dh1ReferenceIdeal.Hand

open Cert.Dh1ReferenceIdeal Cert.Dh1ReferenceIdeal.Gen Idealize.ShloMosaic Idealize.ShloMosaic.TcCoe Idealize.SL.Sem
open Cert.Dh1Ideal.Hand (G2 dh prod)

/-- The reference's run leaves nothing behind and changes no argument. -/
theorem quiet : Cert.quiescent_Dh1ReferenceIdeal := fun m ρ _ =>
  (θ_run defs _ _).mono (fun r h => ⟨fun c => (h c).2,
    Idealize.ShloMosaic.sem_eq_zero_of_no_sems (by decide) r.2⟩) (Cert.Dh1ReferenceIdeal.Value.run (F := Ideal) m ρ)

/-- The kernel's gradient is the reference's. -/
theorem alg : Cert.algebraic_Dh1Ideal_Dh1ReferenceIdeal := fun m g m' g' _ hagree =>
  ⟨G2 m, Cert.Dh1Ideal.Hand.run m g,
    (θ_run defs _ _).mono (fun r h c => by
      obtain ⟨e0, e1⟩ := hagree c
      refine ⟨(h c).1.trans ?_, (h c).2⟩
      simp only [e0, e1]
      clear h
      funext i
      obtain ⟨r, l, rfl⟩ : ∃ (r : Fin 2048) (l : Fin 1024), i = ix2 r l := ⟨i 0, i 1, eq_ix2 i⟩
      unfold G2 dh prod
      pointwise)
    (Cert.Dh1ReferenceIdeal.Value.run (F := Ideal) m' g')⟩

end Cert.Dh1ReferenceIdeal.Hand

end
-- ==== Proof.NormFfnBwdValue.lean ====
/- The gradient of the norm in front of the feed-forward part: what one grid point computes, what the result arrays hold. -/
module

public import proofs.«01_k».proof.Defs
public import proofs.«01_k».proof.Proof.Gen.NormFfnBwdIdeal.Value
public import Idealize.ShloMosaic.Lib.Pipeline.ValueKit.Acc
public import Idealize.ShloMosaic.Lib.Pipeline.Value
public import Idealize.ShloMosaic.Lib.Pointwise

@[expose] public section

set_option maxRecDepth 16384

noncomputable section

namespace Cert.NormFfnBwdIdeal.Hand

open Cert.NormFfnBwdIdeal Cert.NormFfnBwdIdeal.Gen Idealize.ShloMosaic Idealize.ShloMosaic.TcCoe Idealize.SL.Sem
open Idealize.ShloMosaic.Pipeline (Dat)

variable (m : (ℓ : Loc nD τ sig) → Buf (Elt Ideal) ℓ)

/-- The gradient that arrives behind the norm. -/
abbrev dh (c : Dev nD) : S2048x1024.Idx → EReal := m ((c : Thread nD τ).loc main_arg0)
/-- The input. -/
abbrev x (c : Dev nD) : S2048x1024.Idx → EReal := m ((c : Thread nD τ).loc main_arg1)
/-- The gain. -/
abbrev gn (c : Dev nD) : S1x1024.Idx → EReal := m ((c : Thread nD τ).loc main_arg2)
/-- The residual's gradient. -/
abbrev dres (c : Dev nD) : S2048x1024.Idx → EReal := m ((c : Thread nD τ).loc main_arg3)

/-- Which blocks grid point `t` reads and writes. -/
theorem at0 : ∀ t : Fin cfg0.N, win0_0.index t 0 = t.val
    ∧ win0_0.index t 1 = 0
    ∧ win0_1.index t 0 = t.val
    ∧ win0_1.index t 1 = 0
    ∧ win0_2.index t 0 = 0
    ∧ win0_2.index t 1 = 0
    ∧ win0_3.index t 0 = t.val
    ∧ win0_3.index t 1 = 0
    ∧ win0_4.index t 0 = t.val
    ∧ win0_4.index t 1 = 0
    ∧ win0_5.index t 0 = t.val
    ∧ win0_5.index t 1 = 0
    ∧ win0_6.index t 0 = 0
    ∧ win0_6.index t 1 = 0 :=
  (by decide +kernel : ∀ t : Fin grid0.N, _)

theorem lt8 (t : Fin cfg0.N) : t.val < 8 := lt_of_lt_of_eq t.isLt N_0

/-- Input block 0 of grid point `t`. -/
abbrev bk0 (c : Dev nD) (t : Fin cfg0.N) : Vec Ideal S256x1024 .f32 := iblk m c 0 t
theorem blk0 (c : Dev nD) (t : Fin cfg0.N) (r : Fin 256) (l : Fin 1024) :
    bk0 m c t (ix2 r l) = dh m c (ix2 ⟨t.val * 256 + r.val, by have := lt8 t; omega⟩ l) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [h.1]; omega
  | ⟨1, _⟩ => show win0_0.index t 1 * 1024 + 1 * l.val = l.val; rw [h.2.1]; omega

/-- Input block 1 of grid point `t`. -/
abbrev bk1 (c : Dev nD) (t : Fin cfg0.N) : Vec Ideal S256x1024 .f32 := iblk m c 1 t
theorem blk1 (c : Dev nD) (t : Fin cfg0.N) (r : Fin 256) (l : Fin 1024) :
    bk1 m c t (ix2 r l) = x m c (ix2 ⟨t.val * 256 + r.val, by have := lt8 t; omega⟩ l) := by
  have h := at0 t
  unfold bk1 iblk
  rw [View.read_apply]
  show V m c main_arg1 _ = m (c.tc.loc main_arg1) _
  unfold V
  congr 1
  funext a
  apply Fin.ext
  match a with
  | ⟨0, _⟩ => show win0_1.index t 0 * 256 + 1 * r.val = t.val * 256 + r.val; rw [h.2.2.1]; omega
  | ⟨1, _⟩ => show win0_1.index t 1 * 1024 + 1 * l.val = l.val; rw [h.2.2.2.1]; omega

/-- Input block 2 of grid point `t`. -/
abbrev bk2 (c : Dev nD) (t : Fin cfg0.N) : Vec Ideal S1x1024 .f32 := iblk m c 2 t
theorem blk2 (c : Dev nD) (t : Fin cfg0.N) (r : Fin 1) (l : Fin 1024) :
    bk2 m c t (ix2 r l) = gn m c (ix2 r l) := by
  have h := at0 t
  unfold bk2 iblk
  rw [View.read_apply]
  show V m c main_arg2 _ = m (c.tc.loc main_arg2) _
  unfold V
  congr 1
  funext a
  apply Fin.ext
  match a with
  | ⟨0, _⟩ => show win0_2.index t 0 * 1 + 1 * r.val = r.val; rw [h.2.2.2.2.1]; omega
  | ⟨1, _⟩ => show win0_2.index t 1 * 1024 + 1 * l.val = l.val; rw [h.2.2.2.2.2.1]; omega

/-- Input block 3 of grid point `t`. -/
abbrev bk3 (c : Dev nD) (t : Fin cfg0.N) : Vec Ideal S256x1024 .f32 := iblk m c 3 t
theorem blk3 (c : Dev nD) (t : Fin cfg0.N) (r : Fin 256) (l : Fin 1024) :
    bk3 m c t (ix2 r l) = dres m c (ix2 ⟨t.val * 256 + r.val, by have := lt8 t; omega⟩ l) := by
  have h := at0 t
  unfold bk3 iblk
  rw [View.read_apply]
  show V m c main_arg3 _ = m (c.tc.loc main_arg3) _
  unfold V
  congr 1
  funext a
  apply Fin.ext
  match a with
  | ⟨0, _⟩ => show win0_3.index t 0 * 256 + 1 * r.val = t.val * 256 + r.val; rw [h.2.2.2.2.2.2.1]; omega
  | ⟨1, _⟩ => show win0_3.index t 1 * 1024 + 1 * l.val = l.val; rw [h.2.2.2.2.2.2.2.1]; omega

/-- One over the root mean square of a row. -/
def rinv (f : Fin 1024 → EReal) : EReal :=
  Ideal.rsqrt (Ideal.div (∑ k, f k * f k) (Ideal.ofBits .f32 0x44800000#32) + Ideal.ofBits .f32 0x3727C5AC#32)
/-- The gradient of a row's norm with respect to the row: `d` is what arrives, times the gain. -/
def dnorm (d f : Fin 1024 → EReal) (l : Fin 1024) : EReal :=
  rinv f * (d l - f l * rinv f * Ideal.div (∑ k, d k * (f k * rinv f)) (Ideal.ofBits .f32 0x44800000#32))
/-- The gain's gradient. -/
def dgain (c : Dev nD) (l : Fin 1024) : EReal :=
  ∑ s : Fin 2048, dh m c (ix2 s l) * (x m c (ix2 s l) * rinv fun k => x m c (ix2 s k))

/-- What result array 0 holds. -/
def G4 (c : Dev nD) : Buf (Elt Ideal) ((c : Thread nD τ).loc main_v0_0) := fun i => dres m c (ix2 (i 0) (i 1)) + dnorm (fun k => dh m c (ix2 (i 0) k) * gn m c (ix2 0 k)) (fun k => x m c (ix2 (i 0) k)) (i 1)
/-- What result array 1 holds. -/
def G5 (c : Dev nD) : Buf (Elt Ideal) ((c : Thread nD τ).loc main_v0_1) := fun i => dres m c (ix2 (i 0) (i 1)) + dnorm (fun k => dh m c (ix2 (i 0) k) * gn m c (ix2 0 k)) (fun k => x m c (ix2 (i 0) k)) (i 1)
/-- What result array 2 holds. -/
def G6 (c : Dev nD) : Buf (Elt Ideal) ((c : Thread nD τ).loc main_v0_2) := fun i => dgain m c (i 1)

/-- One over the root mean square, row by row. -/
theorem pay2_apply (x0 : Vec Ideal S256x1024 .f32) (r : Fin 256) (l : Fin 1) :
    k0_pay2 x0 (ix2 r l) = rinv fun k => x0 (ix2 r k) := by
  unfold k0_pay2 rinv
  pointwise
theorem pay3_apply (x0 : Vec Ideal S256x1024 .f32) (r : Fin 256) (l : Fin 1024) :
    k0_pay3 x0 (ix2 r l) = x0 (ix2 r l) * rinv fun k => x0 (ix2 r k) := by
  unfold k0_pay3
  pointwise
  rw [pay2_apply]
theorem pay4_apply (x0 x1 : Vec Ideal S256x1024 .f32) (x2 : Vec Ideal S1x1024 .f32) (x3 : Vec Ideal S256x1024 .f32) (r : Fin 256) (l : Fin 1024) :
    k0_pay4 x0 x1 x2 x3 (ix2 r l) = x3 (ix2 r l) + dnorm (fun k => x1 (ix2 r k) * x2 (ix2 0 k)) (fun k => x0 (ix2 r k)) l := by
  unfold k0_pay4 dnorm
  pointwise
  simp only [pay2_apply, pay3_apply]
theorem k0_pay1_apply (a b : Vec Ideal S1x1024 .f32) (r : Fin 1) (l : Fin 1024) : k0_pay1 a b (ix2 r l) = b (ix2 r l) + a (ix2 r l) := by
  unfold k0_pay1
  pointwise
/-- What grid point `t` computes for result 0, at an index. -/
theorem point4 (c : Dev nD) (t : Fin cfg0.N) (r : Fin 256) (l : Fin 1024) :
    k0_pay4 (bk1 m c t) (bk0 m c t) (bk2 m c t) (bk3 m c t) (ix2 r l) = G4 m c (ix2 ⟨t.val * 256 + r.val, by have := lt8 t; omega⟩ l) := by
  rw [pay4_apply]
  unfold G4
  simp only [blk0, blk1, blk2, blk3]
  rfl
/-- What grid point `t` computes for result 1, at an index. -/
theorem point5 (c : Dev nD) (t : Fin cfg0.N) (r : Fin 256) (l : Fin 1024) :
    k0_pay5 (bk1 m c t) (bk0 m c t) (bk2 m c t) (bk3 m c t) (ix2 r l) = G5 m c (ix2 ⟨t.val * 256 + r.val, by have := lt8 t; omega⟩ l) := by
  unfold k0_pay5
  pointwise
  exact point4 m c t r l
theorem flushed4_eq (c : Dev nD) (t : Fin cfg0.N) :
    (dats m 0 c).flushed 4 t = ((cfg0.win 4).blk t).view.read (Elt Ideal) (G4 m c) := by
  have h := at0 t
  rw [Value.flushed4]
  funext j
  obtain ⟨r, l, rfl⟩ : ∃ (r : Fin 256) (l : Fin 1024), j = ix2 r l := ⟨j 0, j 1, eq_ix2 j⟩
  rw [View.read_apply]
  have e0 : ((cfg0.win 4).blk t).view.emb (ix2 r l) = ix2 ⟨t.val * 256 + r.val, by have := lt8 t; omega⟩ l := by
    funext a
    apply Fin.ext
    match a with
    | ⟨0, _⟩ => show win0_4.index t 0 * 256 + 1 * r.val = t.val * 256 + r.val; rw [h.2.2.2.2.2.2.2.2.1]; omega
    | ⟨1, _⟩ => show win0_4.index t 1 * 1024 + 1 * l.val = l.val; rw [h.2.2.2.2.2.2.2.2.2.1]; omega
  rw [e0]
  show ((outsAt0 m c t.val t.isLt).1 : Vec Ideal S256x1024 .f32) (ix2 r l) = G4 m c (ix2 ⟨t.val * 256 + r.val, by have := lt8 t; omega⟩ l)
  refine Eq.trans (b := k0_pay4 (bk1 m c t) (bk0 m c t) (bk2 m c t) (bk3 m c t) (ix2 r l)) ?_ ?_
  · by_cases h0 : t.val % 8 = 0
    · rw [outsAt0_A m c t h0 (by have := lt8 t; omega)]
      frame_out
    · rw [outsAt0_B m c t h0 (by omega)]
      frame_out
  · exact point4 m c t r l

theorem mem_blk4 (t : Fin cfg0.N) (i : S2048x1024.Idx) : i ∈ ((cfg0.win 4).blk t).view.set ↔ ∀ d,
    win0_4.index t d * S256x1024.size d ≤ (i d).val
      ∧ (i d).val < win0_4.index t d * S256x1024.size d + S256x1024.size d := by
  show i ∈ ((View.whole main_v0_0).slice (win0_4.rect t)).set ↔ _
  rw [View.set_slice_whole, Rect.mem_set_unit]

theorem cover4 (i : S2048x1024.Idx) : ∃ t : Fin cfg0.N, (cfg0.win 4).flush t = true ∧ i ∈ ((cfg0.win 4).blk t).view.set := by
  have h0 : (i 0).val < 2048 := (i 0).isLt
  have h1 : (i 1).val < 1024 := (i 1).isLt
  have hN : ((i 0).val / 256) < cfg0.N := by
    show _ < grid0.N
    rw [N_0]; omega
  refine ⟨⟨_, hN⟩, flush0_4 _, (mem_blk4 _ i).2 fun d => ?_⟩
  have h := at0 ⟨((i 0).val / 256), hN⟩
  have e0 := h.2.2.2.2.2.2.2.2.1
  have e1 := h.2.2.2.2.2.2.2.2.2.1
  match d with
  | ⟨0, _⟩ =>
    show win0_4.index _ 0 * 256 ≤ (i 0).val ∧ (i 0).val < win0_4.index _ 0 * 256 + 256
    rw [e0]; dsimp only; omega
  | ⟨1, _⟩ =>
    show win0_4.index _ 1 * 1024 ≤ (i 1).val ∧ (i 1).val < win0_4.index _ 1 * 1024 + 1024
    rw [e1]; dsimp only; omega

theorem flushed5_eq (c : Dev nD) (t : Fin cfg0.N) :
    (dats m 0 c).flushed 5 t = ((cfg0.win 5).blk t).view.read (Elt Ideal) (G5 m c) := by
  have h := at0 t
  rw [Value.flushed5]
  funext j
  obtain ⟨r, l, rfl⟩ : ∃ (r : Fin 256) (l : Fin 1024), j = ix2 r l := ⟨j 0, j 1, eq_ix2 j⟩
  rw [View.read_apply]
  have e0 : ((cfg0.win 5).blk t).view.emb (ix2 r l) = ix2 ⟨t.val * 256 + r.val, by have := lt8 t; omega⟩ l := by
    funext a
    apply Fin.ext
    match a with
    | ⟨0, _⟩ => show win0_5.index t 0 * 256 + 1 * r.val = t.val * 256 + r.val; rw [h.2.2.2.2.2.2.2.2.2.2.1]; omega
    | ⟨1, _⟩ => show win0_5.index t 1 * 1024 + 1 * l.val = l.val; rw [h.2.2.2.2.2.2.2.2.2.2.2.1]; omega
  rw [e0]
  show ((outsAt0 m c t.val t.isLt).2.1 : Vec Ideal S256x1024 .bf16) (ix2 r l) = G5 m c (ix2 ⟨t.val * 256 + r.val, by have := lt8 t; omega⟩ l)
  refine Eq.trans (b := k0_pay5 (bk1 m c t) (bk0 m c t) (bk2 m c t) (bk3 m c t) (ix2 r l)) ?_ ?_
  · by_cases h0 : t.val % 8 = 0
    · rw [outsAt0_A m c t h0 (by have := lt8 t; omega)]
      frame_out
    · rw [outsAt0_B m c t h0 (by omega)]
      frame_out
  · exact point5 m c t r l

theorem mem_blk5 (t : Fin cfg0.N) (i : S2048x1024.Idx) : i ∈ ((cfg0.win 5).blk t).view.set ↔ ∀ d,
    win0_5.index t d * S256x1024.size d ≤ (i d).val
      ∧ (i d).val < win0_5.index t d * S256x1024.size d + S256x1024.size d := by
  show i ∈ ((View.whole main_v0_1).slice (win0_5.rect t)).set ↔ _
  rw [View.set_slice_whole, Rect.mem_set_unit]

theorem cover5 (i : S2048x1024.Idx) : ∃ t : Fin cfg0.N, (cfg0.win 5).flush t = true ∧ i ∈ ((cfg0.win 5).blk t).view.set := by
  have h0 : (i 0).val < 2048 := (i 0).isLt
  have h1 : (i 1).val < 1024 := (i 1).isLt
  have hN : ((i 0).val / 256) < cfg0.N := by
    show _ < grid0.N
    rw [N_0]; omega
  refine ⟨⟨_, hN⟩, flush0_5 _, (mem_blk5 _ i).2 fun d => ?_⟩
  have h := at0 ⟨((i 0).val / 256), hN⟩
  have e0 := h.2.2.2.2.2.2.2.2.2.2.1
  have e1 := h.2.2.2.2.2.2.2.2.2.2.2.1
  match d with
  | ⟨0, _⟩ =>
    show win0_5.index _ 0 * 256 ≤ (i 0).val ∧ (i 0).val < win0_5.index _ 0 * 256 + 256
    rw [e0]; dsimp only; omega
  | ⟨1, _⟩ =>
    show win0_5.index _ 1 * 1024 ≤ (i 1).val ∧ (i 1).val < win0_5.index _ 1 * 1024 + 1024
    rw [e1]; dsimp only; omega

/-- What row `i` adds to the sum behind result 2. -/
def term6 (c : Dev nD) (l : Fin 1024) (i : Nat) : EReal := if h : i < 2048 then dh m c (ix2 ⟨i, h⟩ l) * (x m c (ix2 ⟨i, h⟩ l) * rinv fun k => x m c (ix2 ⟨i, h⟩ k)) else 0

theorem part6 (c : Dev nD) (t : Fin cfg0.N) (r : Fin 1) (l : Fin 1024) :
    k0_pay6 (bk1 m c t) (bk0 m c t) (ix2 r l) = ∑ s : Fin 256, term6 m c l (t.val * 256 + s.val) := by
  unfold k0_pay6
  pointwise
  refine Finset.sum_congr rfl fun s _ => ?_
  rw [pay3_apply]
  unfold term6
  rw [dif_pos (by have := lt8 t; omega)]
  simp only [blk0, blk1]

/-- After grid point `n` the accumulator holds the sum over the rows seen so far. -/
theorem sum6 (c : Dev nD) (n : Nat) (hn : n < cfg0.N) (r : Fin 1) (l : Fin 1024) :
    ((outsAt0 m c n hn).2.2 : Vec Ideal S1x1024 .f32) (ix2 r l) = ∑ i ∈ Finset.range ((n + 1) * 256), term6 m c l i := by
  induction n with
  | zero =>
    rw [show outsAt0 m c 0 hn = _ from outsAt0_A m c ⟨0, hn⟩ (by rfl) (by simp)]
    frame_out
    refine (part6 m c ⟨0, hn⟩ r l).trans ?_
    rw [Finset.sum_range]
    refine Finset.sum_congr rfl fun s _ => ?_
    simp
  | succ n ih =>
    have hb : n + 1 < 8 := lt_of_lt_of_eq hn N_0
    rw [show outsAt0 m c (n + 1) hn = _ from outsAt0_B m c ⟨n + 1, hn⟩ (by show ¬ (n + 1) % 8 = 0; omega) (by show 1 ≤ n + 1; omega)]
    frame_out
    have h1 := part6 m c ⟨n + 1, hn⟩ r l
    have h2 := ih (by omega)
    show k0_pay1 (k0_pay6 (bk1 m c ⟨n + 1, hn⟩) (bk0 m c ⟨n + 1, hn⟩)) ((outsAt0 m c n (by omega)).2.2 : Vec Ideal S1x1024 .f32) (ix2 r l) = _
    refine (k0_pay1_apply _ _ r l).trans ?_
    refine (congrArg₂ (· + ·) h2 h1).trans ?_
    rw [show (n + 1 + 1) * 256 = (n + 1) * 256 + 256 by omega, Finset.sum_range_add, Finset.sum_range (n := 256)]

theorem flushed6_eq (c : Dev nD) (t : Fin cfg0.N) (hf : (cfg0.win 6).flush t = true) :
    (dats m 0 c).flushed 6 t = ((cfg0.win 6).blk t).view.read (Elt Ideal) (G6 m c) := by
  have h := at0 t
  rw [Value.flushed6]
  funext j
  obtain ⟨r, l, rfl⟩ : ∃ (r : Fin 1) (l : Fin 1024), j = ix2 r l := ⟨j 0, j 1, eq_ix2 j⟩
  rw [View.read_apply]
  have e0 : ((cfg0.win 6).blk t).view.emb (ix2 r l) = ix2 r l := by
    funext a
    apply Fin.ext
    match a with
    | ⟨0, _⟩ => show win0_6.index t 0 * 1 + 1 * r.val = r.val; rw [h.2.2.2.2.2.2.2.2.2.2.2.2.1]; omega
    | ⟨1, _⟩ => show win0_6.index t 1 * 1024 + 1 * l.val = l.val; rw [h.2.2.2.2.2.2.2.2.2.2.2.2.2]; omega
  rw [e0]
  have ht : t.val = 7 := by
    have h1 := (flush0_6 t).1 hf
    have h2 : t.val < 8 := lt8 t
    omega
  show ((outsAt0 m c t.val t.isLt).2.2 : Vec Ideal S1x1024 .f32) (ix2 r l) = G6 m c (ix2 r l)
  rw [sum6, ht]
  show _ = dgain m c l
  unfold dgain
  rw [Finset.sum_range]
  refine Finset.sum_congr rfl fun s _ => ?_
  unfold term6
  rw [dif_pos s.isLt]

theorem mem_blk6 (t : Fin cfg0.N) (i : S1x1024.Idx) : i ∈ ((cfg0.win 6).blk t).view.set ↔ ∀ d,
    win0_6.index t d * S1x1024.size d ≤ (i d).val
      ∧ (i d).val < win0_6.index t d * S1x1024.size d + S1x1024.size d := by
  show i ∈ ((View.whole main_v0_2).slice (win0_6.rect t)).set ↔ _
  rw [View.set_slice_whole, Rect.mem_set_unit]

theorem cover6 (i : S1x1024.Idx) : ∃ t : Fin cfg0.N, (cfg0.win 6).flush t = true ∧ i ∈ ((cfg0.win 6).blk t).view.set := by
  have h0 : (i 0).val < 1 := (i 0).isLt
  have h1 : (i 1).val < 1024 := (i 1).isLt
  have hN : 7 < cfg0.N := by
    show _ < grid0.N
    rw [N_0]; omega
  refine ⟨⟨_, hN⟩, (flush0_6 _).2 (by rfl), (mem_blk6 _ i).2 fun d => ?_⟩
  have h := at0 ⟨7, hN⟩
  have e0 := h.2.2.2.2.2.2.2.2.2.2.2.2.1
  have e1 := h.2.2.2.2.2.2.2.2.2.2.2.2.2
  match d with
  | ⟨0, _⟩ =>
    show win0_6.index _ 0 * 1 ≤ (i 0).val ∧ (i 0).val < win0_6.index _ 0 * 1 + 1
    rw [e0]; dsimp only; omega
  | ⟨1, _⟩ =>
    show win0_6.index _ 1 * 1024 ≤ (i 1).val ∧ (i 1).val < win0_6.index _ 1 * 1024 + 1024
    rw [e1]; dsimp only; omega

/-- Every run ends with the input's gradient and the gain's in the result arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans (Dat.arrAt_eq_of_cover (dats m 0 c) 4 (G4 m c) (fun t _ => flushed4_eq m c t) cover4),
      (h c).2.1.trans (Dat.arrAt_eq_of_cover (dats m 0 c) 5 (G5 m c) (fun t _ => flushed5_eq m c t) cover5),
      (h c).2.2.1.trans (Dat.arrAt_eq_of_cover (dats m 0 c) 6 (G6 m c) (flushed6_eq m c) cover6),
      (h c).2.2.2⟩)
    (Value.run_blocks m ρ)

end Cert.NormFfnBwdIdeal.Hand

end
-- ==== Proof.NormLaw.lean ====
/- The gradient of the root mean square norm over the extended reals: as the kernels factor it and as the product rule gives it. -/
module

public import Idealize.ShloMosaic.PureOps.Ideal
public import Idealize.ShloMosaic.Lib.Pointwise

@[expose] public section

noncomputable section

namespace Cert.NormLaw

open Idealize.ShloMosaic

/-- A finite factor that is not negative goes into a sum. -/
theorem mul_sum_of_nonneg {ι : Type} (a : EReal) (h0 : 0 ≤ a) (h1 : a ≠ ⊤) (s : Finset ι) (f : ι → EReal) :
    a * ∑ i ∈ s, f i = ∑ i ∈ s, a * f i := by
  classical
  induction s using Finset.induction_on with
  | empty => simp
  | insert i s hi ih => rw [Finset.sum_insert hi, Finset.sum_insert hi, EReal.left_distrib_of_nonneg_of_ne_top h0 h1, ih]

/-! ## The constants of the norm and of the loss -/

theorem half_eq : Ideal.ofBits .f32 0x3F000000#32 = ((1 / 2 : ℝ) : EReal) := by
  simp [Ideal.ofBits, Ideal.ieee, -EReal.coe_mul]; norm_num
theorem neg_half_eq : Ideal.ofBits .f32 0xBF000000#32 = ((-(1 / 2) : ℝ) : EReal) := by
  simp [Ideal.ofBits, Ideal.ieee, -EReal.coe_mul, -EReal.coe_neg]; norm_num
theorem two_eq : Ideal.ofBits .f32 0x40000000#32 = ((2 : ℝ) : EReal) := by
  simp [Ideal.ofBits, Ideal.ieee, -EReal.coe_mul]; norm_num
theorem width_eq : Ideal.ofBits .f32 0x44800000#32 = ((1024 : ℝ) : EReal) := by
  simp [Ideal.ofBits, Ideal.ieee, -EReal.coe_mul]; norm_num
theorem inv_width_eq : Ideal.ofBits .f32 0x3A800000#32 = ((1 / 1024 : ℝ) : EReal) := by
  simp [Ideal.ofBits, Ideal.ieee, -EReal.coe_mul]; norm_num
theorem eps_eq : Ideal.ofBits .f32 0x3727C5AC#32 = ((10995116 / 2 ^ 40 : ℝ) : EReal) := by
  simp [Ideal.ofBits, Ideal.ieee, -EReal.coe_mul]; norm_num

/-- Twice the same. -/
theorem add_self_eq (w : EReal) : w + w = ((2 : ℝ) : EReal) * w := by
  induction w using EReal.rec with
  | bot => rw [EReal.coe_mul_bot_of_pos (by norm_num)]; rfl
  | top => rw [EReal.coe_mul_top_of_pos (by norm_num)]; rfl
  | coe w => rw [← EReal.coe_add, ← EReal.coe_mul]; congr 1; ring

/-- A square is not negative. -/
theorem sq_nonneg (x : EReal) : 0 ≤ x * x := by
  induction x using EReal.rec with
  | bot => simp
  | top => simp
  | coe x => rw [← EReal.coe_mul]; exact EReal.coe_nonneg.2 (mul_self_nonneg x)

/-- A mean square with the small constant added is infinite or a positive real. -/
theorem ms_cases (f : Fin 1024 → EReal) :
    Ideal.div (∑ k, f k * f k) (Ideal.ofBits .f32 0x44800000#32) + Ideal.ofBits .f32 0x3727C5AC#32 = ⊤
      ∨ ∃ a : ℝ, 0 < a ∧ Ideal.div (∑ k, f k * f k) (Ideal.ofBits .f32 0x44800000#32) + Ideal.ofBits .f32 0x3727C5AC#32 = a := by
  have h : 0 ≤ ∑ k, f k * f k := Finset.sum_nonneg fun k _ => sq_nonneg _
  rw [width_eq, eps_eq, Ideal.div_coe (by norm_num)]
  generalize ∑ k, f k * f k = s at h
  induction s using EReal.rec with
  | bot => exact absurd h (by simp)
  | top => left; rw [EReal.top_mul_coe_of_pos (by norm_num)]; rfl
  | coe s =>
    right
    have hs := EReal.coe_nonneg.1 h
    exact ⟨s * (1 / 1024) + 10995116 / 2 ^ 40, by positivity, by push_cast; rfl⟩

/-- The product rule's gradient of a row's norm is the factored one. -/
theorem law (d f : Fin 1024 → EReal) (l : Fin 1024) (s : EReal)
    (hs : s = Ideal.div (∑ k, f k * f k) (Ideal.ofBits .f32 0x44800000#32) + Ideal.ofBits .f32 0x3727C5AC#32) :
    d l * Ideal.rsqrt s
        + f l * Ideal.div ((∑ k, f k * d k) * (Ideal.ofBits .f32 0xBF000000#32 * Ideal.div (Ideal.rsqrt s) s)) (Ideal.ofBits .f32 0x44800000#32)
        + Ideal.div ((∑ k, f k * d k) * (Ideal.ofBits .f32 0xBF000000#32 * Ideal.div (Ideal.rsqrt s) s)) (Ideal.ofBits .f32 0x44800000#32) * f l
      = Ideal.rsqrt s * (d l - f l * Ideal.rsqrt s * Ideal.div (∑ k, d k * (f k * Ideal.rsqrt s)) (Ideal.ofBits .f32 0x44800000#32)) := by
  rw [add_assoc]
  have hc := ms_cases f
  rw [← hs] at hc
  clear hs
  rw [width_eq, neg_half_eq, Ideal.div_coe (by norm_num), Ideal.div_coe (by norm_num)]
  rcases hc with rfl | ⟨a, ha, rfl⟩
  · simp [Ideal.div]
  · have ha' : ¬ a < 0 := not_lt.2 ha.le
    obtain ⟨q, hq, hqa, hr⟩ : ∃ q : ℝ, 0 < q ∧ q * q * a = 1 ∧ Ideal.rsqrt (a : EReal) = q := by
      refine ⟨(Real.sqrt a)⁻¹, by positivity, ?_, by rw [Ideal.rsqrt_coe, if_neg ha', if_neg ha.ne']⟩
      rw [← mul_inv, Real.mul_self_sqrt ha.le, inv_mul_cancel₀ ha.ne']
    have hsum : ∑ k, d k * (f k * (q : EReal)) = (q : EReal) * ∑ k, f k * d k := by
      rw [mul_sum_of_nonneg _ (EReal.coe_nonneg.2 hq.le) (EReal.coe_ne_top _)]
      refine Finset.sum_congr rfl fun k _ => ?_
      rw [mul_comm (f k) (q : EReal), mul_left_comm, mul_comm (d k)]
    rw [hr, hsum, Ideal.div_coe ha.ne']
    generalize ∑ k, f k * d k = D
    rw [mul_comm (D * _ * _) (f l), add_self_eq, sub_eq_add_neg,
      EReal.left_distrib_of_nonneg_of_ne_top (EReal.coe_nonneg.2 hq.le) (EReal.coe_ne_top _), mul_comm (d l)]
    congr 1
    have e1 : ((2 : ℝ) : EReal) * (f l * (D * (((-(1 / 2) : ℝ) : EReal) * ((q : EReal) * ((1 / a : ℝ) : EReal))) * ((1 / 1024 : ℝ) : EReal)))
        = (f l * D) * ((2 * (-(1 / 2) * (q * (1 / a))) * (1 / 1024) : ℝ) : EReal) := by
      push_cast
      ac_rfl
    have e2 : (q : EReal) * -(f l * (q : EReal) * ((q : EReal) * D * ((1 / 1024 : ℝ) : EReal)))
        = (f l * D) * ((-(q * q * q * (1 / 1024)) : ℝ) : EReal) := by
      rw [EReal.coe_neg, mul_neg, mul_neg]
      push_cast
      congr 1
      ac_rfl
    rw [e1, e2]
    congr 2
    have : (1 : ℝ) / a = q * q := by rw [← hqa]; field_simp
    rw [this]; ring

end Cert.NormLaw

end
-- ==== Proof.NormFfnBwdEq.lean ====
/- The gradient of the norm: the reference's results read at an index are the kernel's. -/
module

public import proofs.«01_k».proof.Proof.NormFfnBwdValue
public import proofs.«01_k».proof.Proof.Gen.NormFfnBwdReferenceIdeal.Run
public import proofs.«01_k».proof.Proof.NormLaw
public import Idealize.ShloMosaic.Lib.Quiescent

@[expose] public section

set_option maxRecDepth 16384

noncomputable section

namespace Cert.NormFfnBwdReferenceIdeal.Hand

open Cert.NormFfnBwdReferenceIdeal Cert.NormFfnBwdReferenceIdeal.Gen Idealize.ShloMosaic Idealize.ShloMosaic.TcCoe Idealize.SL.Sem
open Cert.NormFfnBwdIdeal.Hand (dnorm rinv dgain G4 G5 G6)

/-- The reference's run leaves nothing behind and changes no argument. -/
theorem quiet : Cert.quiescent_NormFfnBwdReferenceIdeal := fun m ρ _ =>
  (θ_run defs _ _).mono (fun r h => ⟨fun c => (h c).2.2.2,
    Idealize.ShloMosaic.sem_eq_zero_of_no_sems (by decide) r.2⟩) (Cert.NormFfnBwdReferenceIdeal.Value.run (F := Ideal) m ρ)

/-- What the kernel leaves in its result arrays is what the reference computes. -/
theorem alg : Cert.algebraic_NormFfnBwdIdeal_NormFfnBwdReferenceIdeal := fun m g m' g' _ hagree =>
  ⟨G4 m, G5 m, G6 m, Cert.NormFfnBwdIdeal.Hand.run m g,
    (θ_run defs _ _).mono (fun r h c => by
      obtain ⟨e0, e1, e2, e3⟩ := hagree c
      refine ⟨(h c).1.trans ?_, (h c).2.1.trans ?_, (h c).2.2.1.trans ?_, (h c).2.2.2⟩
      all_goals
        simp only [e0, e1, e2, e3]
        clear h
        funext i
      · obtain ⟨r, l, rfl⟩ : ∃ (r : Fin 2048) (l : Fin 1024), i = ix2 r l := ⟨i 0, i 1, eq_ix2 i⟩
        refine Eq.trans ?_ (congrArg (Cert.NormFfnBwdIdeal.Hand.dres m c (ix2 r l) + ·) (NormLaw.law (fun k => Cert.NormFfnBwdIdeal.Hand.dh m c (ix2 r k) * Cert.NormFfnBwdIdeal.Hand.gn m c (ix2 0 k))
          (fun k => Cert.NormFfnBwdIdeal.Hand.x m c (ix2 r k)) l _ rfl))
        pointwise
        simp only [Fin.sum_univ_one]
      · obtain ⟨r, l, rfl⟩ : ∃ (r : Fin 2048) (l : Fin 1024), i = ix2 r l := ⟨i 0, i 1, eq_ix2 i⟩
        refine Eq.trans ?_ (congrArg (Cert.NormFfnBwdIdeal.Hand.dres m c (ix2 r l) + ·) (NormLaw.law (fun k => Cert.NormFfnBwdIdeal.Hand.dh m c (ix2 r k) * Cert.NormFfnBwdIdeal.Hand.gn m c (ix2 0 k))
          (fun k => Cert.NormFfnBwdIdeal.Hand.x m c (ix2 r k)) l _ rfl))
        pointwise
        simp only [Fin.sum_univ_one]
      · obtain ⟨r, l, rfl⟩ : ∃ (r : Fin 1) (l : Fin 1024), i = ix2 r l := ⟨i 0, i 1, eq_ix2 i⟩
        show _ = dgain m c l
        unfold dgain rinv
        pointwise
        try simp only [e0, e1]
        exact Finset.sum_congr rfl fun k _ => mul_comm _ _)
    (Cert.NormFfnBwdReferenceIdeal.Value.run (F := Ideal) m' g')⟩

end Cert.NormFfnBwdReferenceIdeal.Hand

end
-- ==== Proof.NormMixBwdValue.lean ====
/- The gradient of the norm in front of the mixers: what one grid point computes, what the result arrays hold. -/
module

public import proofs.«01_k».proof.Defs
public import proofs.«01_k».proof.Proof.Gen.NormMixBwdIdeal.Value
public import Idealize.ShloMosaic.Lib.Pipeline.ValueKit.Acc
public import Idealize.ShloMosaic.Lib.Pipeline.Value
public import Idealize.ShloMosaic.Lib.Pointwise

@[expose] public section

set_option maxRecDepth 16384

noncomputable section

namespace Cert.NormMixBwdIdeal.Hand

open Cert.NormMixBwdIdeal Cert.NormMixBwdIdeal.Gen Idealize.ShloMosaic Idealize.ShloMosaic.TcCoe Idealize.SL.Sem
open Idealize.ShloMosaic.Pipeline (Dat)

variable (m : (ℓ : Loc nD τ sig) → Buf (Elt Ideal) ℓ)

/-- The gradient that arrives behind the norm. -/
abbrev dh (c : Dev nD) : S2048x1024.Idx → EReal := m ((c : Thread nD τ).loc main_arg0)
/-- The input. -/
abbrev x (c : Dev nD) : S2048x1024.Idx → EReal := m ((c : Thread nD τ).loc main_arg1)
/-- The gain. -/
abbrev gn (c : Dev nD) : S1x1024.Idx → EReal := m ((c : Thread nD τ).loc main_arg2)
/-- The residual's gradient. -/
abbrev dres (c : Dev nD) : S2048x1024.Idx → EReal := m ((c : Thread nD τ).loc main_arg3)

/-- Which blocks grid point `t` reads and writes. -/
theorem at0 : ∀ t : Fin cfg0.N, win0_0.index t 0 = t.val
    ∧ win0_0.index t 1 = 0
    ∧ win0_1.index t 0 = t.val
    ∧ win0_1.index t 1 = 0
    ∧ win0_2.index t 0 = 0
    ∧ win0_2.index t 1 = 0
    ∧ win0_3.index t 0 = t.val
    ∧ win0_3.index t 1 = 0
    ∧ win0_4.index t 0 = t.val
    ∧ win0_4.index t 1 = 0
    ∧ win0_5.index t 0 = 0
    ∧ win0_5.index t 1 = 0 :=
  (by decide +kernel : ∀ t : Fin grid0.N, _)

theorem lt8 (t : Fin cfg0.N) : t.val < 8 := lt_of_lt_of_eq t.isLt N_0

/-- Input block 0 of grid point `t`. -/
abbrev bk0 (c : Dev nD) (t : Fin cfg0.N) : Vec Ideal S256x1024 .f32 := iblk m c 0 t
theorem blk0 (c : Dev nD) (t : Fin cfg0.N) (r : Fin 256) (l : Fin 1024) :
    bk0 m c t (ix2 r l) = dh m c (ix2 ⟨t.val * 256 + r.val, by have := lt8 t; omega⟩ l) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [h.1]; omega
  | ⟨1, _⟩ => show win0_0.index t 1 * 1024 + 1 * l.val = l.val; rw [h.2.1]; omega

/-- Input block 1 of grid point `t`. -/
abbrev bk1 (c : Dev nD) (t : Fin cfg0.N) : Vec Ideal S256x1024 .f32 := iblk m c 1 t
theorem blk1 (c : Dev nD) (t : Fin cfg0.N) (r : Fin 256) (l : Fin 1024) :
    bk1 m c t (ix2 r l) = x m c (ix2 ⟨t.val * 256 + r.val, by have := lt8 t; omega⟩ l) := by
  have h := at0 t
  unfold bk1 iblk
  rw [View.read_apply]
  show V m c main_arg1 _ = m (c.tc.loc main_arg1) _
  unfold V
  congr 1
  funext a
  apply Fin.ext
  match a with
  | ⟨0, _⟩ => show win0_1.index t 0 * 256 + 1 * r.val = t.val * 256 + r.val; rw [h.2.2.1]; omega
  | ⟨1, _⟩ => show win0_1.index t 1 * 1024 + 1 * l.val = l.val; rw [h.2.2.2.1]; omega

/-- Input block 2 of grid point `t`. -/
abbrev bk2 (c : Dev nD) (t : Fin cfg0.N) : Vec Ideal S1x1024 .f32 := iblk m c 2 t
theorem blk2 (c : Dev nD) (t : Fin cfg0.N) (r : Fin 1) (l : Fin 1024) :
    bk2 m c t (ix2 r l) = gn m c (ix2 r l) := by
  have h := at0 t
  unfold bk2 iblk
  rw [View.read_apply]
  show V m c main_arg2 _ = m (c.tc.loc main_arg2) _
  unfold V
  congr 1
  funext a
  apply Fin.ext
  match a with
  | ⟨0, _⟩ => show win0_2.index t 0 * 1 + 1 * r.val = r.val; rw [h.2.2.2.2.1]; omega
  | ⟨1, _⟩ => show win0_2.index t 1 * 1024 + 1 * l.val = l.val; rw [h.2.2.2.2.2.1]; omega

/-- Input block 3 of grid point `t`. -/
abbrev bk3 (c : Dev nD) (t : Fin cfg0.N) : Vec Ideal S256x1024 .f32 := iblk m c 3 t
theorem blk3 (c : Dev nD) (t : Fin cfg0.N) (r : Fin 256) (l : Fin 1024) :
    bk3 m c t (ix2 r l) = dres m c (ix2 ⟨t.val * 256 + r.val, by have := lt8 t; omega⟩ l) := by
  have h := at0 t
  unfold bk3 iblk
  rw [View.read_apply]
  show V m c main_arg3 _ = m (c.tc.loc main_arg3) _
  unfold V
  congr 1
  funext a
  apply Fin.ext
  match a with
  | ⟨0, _⟩ => show win0_3.index t 0 * 256 + 1 * r.val = t.val * 256 + r.val; rw [h.2.2.2.2.2.2.1]; omega
  | ⟨1, _⟩ => show win0_3.index t 1 * 1024 + 1 * l.val = l.val; rw [h.2.2.2.2.2.2.2.1]; omega

/-- One over the root mean square of a row. -/
def rinv (f : Fin 1024 → EReal) : EReal :=
  Ideal.rsqrt (Ideal.div (∑ k, f k * f k) (Ideal.ofBits .f32 0x44800000#32) + Ideal.ofBits .f32 0x3727C5AC#32)
/-- The gradient of a row's norm with respect to the row: `d` is what arrives, times the gain. -/
def dnorm (d f : Fin 1024 → EReal) (l : Fin 1024) : EReal :=
  rinv f * (d l - f l * rinv f * Ideal.div (∑ k, d k * (f k * rinv f)) (Ideal.ofBits .f32 0x44800000#32))
/-- The gain's gradient. -/
def dgain (c : Dev nD) (l : Fin 1024) : EReal :=
  ∑ s : Fin 2048, dh m c (ix2 s l) * (x m c (ix2 s l) * rinv fun k => x m c (ix2 s k))

/-- What result array 0 holds. -/
def G4 (c : Dev nD) : Buf (Elt Ideal) ((c : Thread nD τ).loc main_v0_0) := fun i => dres m c (ix2 (i 0) (i 1)) + dnorm (fun k => dh m c (ix2 (i 0) k) * gn m c (ix2 0 k)) (fun k => x m c (ix2 (i 0) k)) (i 1)
/-- What result array 1 holds. -/
def G5 (c : Dev nD) : Buf (Elt Ideal) ((c : Thread nD τ).loc main_v0_1) := fun i => dgain m c (i 1)

/-- One over the root mean square, row by row. -/
theorem pay2_apply (x0 : Vec Ideal S256x1024 .f32) (r : Fin 256) (l : Fin 1) :
    k0_pay2 x0 (ix2 r l) = rinv fun k => x0 (ix2 r k) := by
  unfold k0_pay2 rinv
  pointwise
theorem pay3_apply (x0 : Vec Ideal S256x1024 .f32) (r : Fin 256) (l : Fin 1024) :
    k0_pay3 x0 (ix2 r l) = x0 (ix2 r l) * rinv fun k => x0 (ix2 r k) := by
  unfold k0_pay3
  pointwise
  rw [pay2_apply]
theorem pay4_apply (x0 x1 : Vec Ideal S256x1024 .f32) (x2 : Vec Ideal S1x1024 .f32) (x3 : Vec Ideal S256x1024 .f32) (r : Fin 256) (l : Fin 1024) :
    k0_pay4 x0 x1 x2 x3 (ix2 r l) = x3 (ix2 r l) + dnorm (fun k => x1 (ix2 r k) * x2 (ix2 0 k)) (fun k => x0 (ix2 r k)) l := by
  unfold k0_pay4 dnorm
  pointwise
  simp only [pay2_apply, pay3_apply]
theorem k0_pay1_apply (a b : Vec Ideal S1x1024 .f32) (r : Fin 1) (l : Fin 1024) : k0_pay1 a b (ix2 r l) = b (ix2 r l) + a (ix2 r l) := by
  unfold k0_pay1
  pointwise
/-- What grid point `t` computes for result 0, at an index. -/
theorem point4 (c : Dev nD) (t : Fin cfg0.N) (r : Fin 256) (l : Fin 1024) :
    k0_pay4 (bk1 m c t) (bk0 m c t) (bk2 m c t) (bk3 m c t) (ix2 r l) = G4 m c (ix2 ⟨t.val * 256 + r.val, by have := lt8 t; omega⟩ l) := by
  rw [pay4_apply]
  unfold G4
  simp only [blk0, blk1, blk2, blk3]
  rfl
theorem flushed4_eq (c : Dev nD) (t : Fin cfg0.N) :
    (dats m 0 c).flushed 4 t = ((cfg0.win 4).blk t).view.read (Elt Ideal) (G4 m c) := by
  have h := at0 t
  rw [Value.flushed4]
  funext j
  obtain ⟨r, l, rfl⟩ : ∃ (r : Fin 256) (l : Fin 1024), j = ix2 r l := ⟨j 0, j 1, eq_ix2 j⟩
  rw [View.read_apply]
  have e0 : ((cfg0.win 4).blk t).view.emb (ix2 r l) = ix2 ⟨t.val * 256 + r.val, by have := lt8 t; omega⟩ l := by
    funext a
    apply Fin.ext
    match a with
    | ⟨0, _⟩ => show win0_4.index t 0 * 256 + 1 * r.val = t.val * 256 + r.val; rw [h.2.2.2.2.2.2.2.2.1]; omega
    | ⟨1, _⟩ => show win0_4.index t 1 * 1024 + 1 * l.val = l.val; rw [h.2.2.2.2.2.2.2.2.2.1]; omega
  rw [e0]
  show ((outsAt0 m c t.val t.isLt).1 : Vec Ideal S256x1024 .f32) (ix2 r l) = G4 m c (ix2 ⟨t.val * 256 + r.val, by have := lt8 t; omega⟩ l)
  refine Eq.trans (b := k0_pay4 (bk1 m c t) (bk0 m c t) (bk2 m c t) (bk3 m c t) (ix2 r l)) ?_ ?_
  · by_cases h0 : t.val % 8 = 0
    · rw [outsAt0_A m c t h0 (by have := lt8 t; omega)]
      frame_out
    · rw [outsAt0_B m c t h0 (by omega)]
      frame_out
  · exact point4 m c t r l

theorem mem_blk4 (t : Fin cfg0.N) (i : S2048x1024.Idx) : i ∈ ((cfg0.win 4).blk t).view.set ↔ ∀ d,
    win0_4.index t d * S256x1024.size d ≤ (i d).val
      ∧ (i d).val < win0_4.index t d * S256x1024.size d + S256x1024.size d := by
  show i ∈ ((View.whole main_v0_0).slice (win0_4.rect t)).set ↔ _
  rw [View.set_slice_whole, Rect.mem_set_unit]

theorem cover4 (i : S2048x1024.Idx) : ∃ t : Fin cfg0.N, (cfg0.win 4).flush t = true ∧ i ∈ ((cfg0.win 4).blk t).view.set := by
  have h0 : (i 0).val < 2048 := (i 0).isLt
  have h1 : (i 1).val < 1024 := (i 1).isLt
  have hN : ((i 0).val / 256) < cfg0.N := by
    show _ < grid0.N
    rw [N_0]; omega
  refine ⟨⟨_, hN⟩, flush0_4 _, (mem_blk4 _ i).2 fun d => ?_⟩
  have h := at0 ⟨((i 0).val / 256), hN⟩
  have e0 := h.2.2.2.2.2.2.2.2.1
  have e1 := h.2.2.2.2.2.2.2.2.2.1
  match d with
  | ⟨0, _⟩ =>
    show win0_4.index _ 0 * 256 ≤ (i 0).val ∧ (i 0).val < win0_4.index _ 0 * 256 + 256
    rw [e0]; dsimp only; omega
  | ⟨1, _⟩ =>
    show win0_4.index _ 1 * 1024 ≤ (i 1).val ∧ (i 1).val < win0_4.index _ 1 * 1024 + 1024
    rw [e1]; dsimp only; omega

/-- What row `i` adds to the sum behind result 1. -/
def term5 (c : Dev nD) (l : Fin 1024) (i : Nat) : EReal := if h : i < 2048 then dh m c (ix2 ⟨i, h⟩ l) * (x m c (ix2 ⟨i, h⟩ l) * rinv fun k => x m c (ix2 ⟨i, h⟩ k)) else 0

theorem part5 (c : Dev nD) (t : Fin cfg0.N) (r : Fin 1) (l : Fin 1024) :
    k0_pay5 (bk1 m c t) (bk0 m c t) (ix2 r l) = ∑ s : Fin 256, term5 m c l (t.val * 256 + s.val) := by
  unfold k0_pay5
  pointwise
  refine Finset.sum_congr rfl fun s _ => ?_
  rw [pay3_apply]
  unfold term5
  rw [dif_pos (by have := lt8 t; omega)]
  simp only [blk0, blk1]

/-- After grid point `n` the accumulator holds the sum over the rows seen so far. -/
theorem sum5 (c : Dev nD) (n : Nat) (hn : n < cfg0.N) (r : Fin 1) (l : Fin 1024) :
    ((outsAt0 m c n hn).2 : Vec Ideal S1x1024 .f32) (ix2 r l) = ∑ i ∈ Finset.range ((n + 1) * 256), term5 m c l i := by
  induction n with
  | zero =>
    rw [show outsAt0 m c 0 hn = _ from outsAt0_A m c ⟨0, hn⟩ (by rfl) (by simp)]
    frame_out
    refine (part5 m c ⟨0, hn⟩ r l).trans ?_
    rw [Finset.sum_range]
    refine Finset.sum_congr rfl fun s _ => ?_
    simp
  | succ n ih =>
    have hb : n + 1 < 8 := lt_of_lt_of_eq hn N_0
    rw [show outsAt0 m c (n + 1) hn = _ from outsAt0_B m c ⟨n + 1, hn⟩ (by show ¬ (n + 1) % 8 = 0; omega) (by show 1 ≤ n + 1; omega)]
    frame_out
    have h1 := part5 m c ⟨n + 1, hn⟩ r l
    have h2 := ih (by omega)
    show k0_pay1 (k0_pay5 (bk1 m c ⟨n + 1, hn⟩) (bk0 m c ⟨n + 1, hn⟩)) ((outsAt0 m c n (by omega)).2 : Vec Ideal S1x1024 .f32) (ix2 r l) = _
    refine (k0_pay1_apply _ _ r l).trans ?_
    refine (congrArg₂ (· + ·) h2 h1).trans ?_
    rw [show (n + 1 + 1) * 256 = (n + 1) * 256 + 256 by omega, Finset.sum_range_add, Finset.sum_range (n := 256)]

theorem flushed5_eq (c : Dev nD) (t : Fin cfg0.N) (hf : (cfg0.win 5).flush t = true) :
    (dats m 0 c).flushed 5 t = ((cfg0.win 5).blk t).view.read (Elt Ideal) (G5 m c) := by
  have h := at0 t
  rw [Value.flushed5]
  funext j
  obtain ⟨r, l, rfl⟩ : ∃ (r : Fin 1) (l : Fin 1024), j = ix2 r l := ⟨j 0, j 1, eq_ix2 j⟩
  rw [View.read_apply]
  have e0 : ((cfg0.win 5).blk t).view.emb (ix2 r l) = ix2 r l := by
    funext a
    apply Fin.ext
    match a with
    | ⟨0, _⟩ => show win0_5.index t 0 * 1 + 1 * r.val = r.val; rw [h.2.2.2.2.2.2.2.2.2.2.1]; omega
    | ⟨1, _⟩ => show win0_5.index t 1 * 1024 + 1 * l.val = l.val; rw [h.2.2.2.2.2.2.2.2.2.2.2]; omega
  rw [e0]
  have ht : t.val = 7 := by
    have h1 := (flush0_5 t).1 hf
    have h2 : t.val < 8 := lt8 t
    omega
  show ((outsAt0 m c t.val t.isLt).2 : Vec Ideal S1x1024 .f32) (ix2 r l) = G5 m c (ix2 r l)
  rw [sum5, ht]
  show _ = dgain m c l
  unfold dgain
  rw [Finset.sum_range]
  refine Finset.sum_congr rfl fun s _ => ?_
  unfold term5
  rw [dif_pos s.isLt]

theorem mem_blk5 (t : Fin cfg0.N) (i : S1x1024.Idx) : i ∈ ((cfg0.win 5).blk t).view.set ↔ ∀ d,
    win0_5.index t d * S1x1024.size d ≤ (i d).val
      ∧ (i d).val < win0_5.index t d * S1x1024.size d + S1x1024.size d := by
  show i ∈ ((View.whole main_v0_1).slice (win0_5.rect t)).set ↔ _
  rw [View.set_slice_whole, Rect.mem_set_unit]

theorem cover5 (i : S1x1024.Idx) : ∃ t : Fin cfg0.N, (cfg0.win 5).flush t = true ∧ i ∈ ((cfg0.win 5).blk t).view.set := by
  have h0 : (i 0).val < 1 := (i 0).isLt
  have h1 : (i 1).val < 1024 := (i 1).isLt
  have hN : 7 < cfg0.N := by
    show _ < grid0.N
    rw [N_0]; omega
  refine ⟨⟨_, hN⟩, (flush0_5 _).2 (by rfl), (mem_blk5 _ i).2 fun d => ?_⟩
  have h := at0 ⟨7, hN⟩
  have e0 := h.2.2.2.2.2.2.2.2.2.2.1
  have e1 := h.2.2.2.2.2.2.2.2.2.2.2
  match d with
  | ⟨0, _⟩ =>
    show win0_5.index _ 0 * 1 ≤ (i 0).val ∧ (i 0).val < win0_5.index _ 0 * 1 + 1
    rw [e0]; dsimp only; omega
  | ⟨1, _⟩ =>
    show win0_5.index _ 1 * 1024 ≤ (i 1).val ∧ (i 1).val < win0_5.index _ 1 * 1024 + 1024
    rw [e1]; dsimp only; omega

/-- Every run ends with the input's gradient and the gain's in the result arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans (Dat.arrAt_eq_of_cover (dats m 0 c) 4 (G4 m c) (fun t _ => flushed4_eq m c t) cover4),
      (h c).2.1.trans (Dat.arrAt_eq_of_cover (dats m 0 c) 5 (G5 m c) (flushed5_eq m c) cover5),
      (h c).2.2⟩)
    (Value.run_blocks m ρ)

end Cert.NormMixBwdIdeal.Hand

end
-- ==== Proof.NormMixBwdEq.lean ====
/- The gradient of the norm: the reference's results read at an index are the kernel's. -/
module

public import proofs.«01_k».proof.Proof.NormMixBwdValue
public import proofs.«01_k».proof.Proof.Gen.NormMixBwdReferenceIdeal.Run
public import proofs.«01_k».proof.Proof.NormLaw
public import Idealize.ShloMosaic.Lib.Quiescent

@[expose] public section

set_option maxRecDepth 16384

noncomputable section

namespace Cert.NormMixBwdReferenceIdeal.Hand

open Cert.NormMixBwdReferenceIdeal Cert.NormMixBwdReferenceIdeal.Gen Idealize.ShloMosaic Idealize.ShloMosaic.TcCoe Idealize.SL.Sem
open Cert.NormMixBwdIdeal.Hand (dnorm rinv dgain G4 G5)

/-- The reference's run leaves nothing behind and changes no argument. -/
theorem quiet : Cert.quiescent_NormMixBwdReferenceIdeal := fun m ρ _ =>
  (θ_run defs _ _).mono (fun r h => ⟨fun c => (h c).2.2,
    Idealize.ShloMosaic.sem_eq_zero_of_no_sems (by decide) r.2⟩) (Cert.NormMixBwdReferenceIdeal.Value.run (F := Ideal) m ρ)

/-- What the kernel leaves in its result arrays is what the reference computes. -/
theorem alg : Cert.algebraic_NormMixBwdIdeal_NormMixBwdReferenceIdeal := fun m g m' g' _ hagree =>
  ⟨G4 m, G5 m, Cert.NormMixBwdIdeal.Hand.run m g,
    (θ_run defs _ _).mono (fun r h c => by
      obtain ⟨e0, e1, e2, e3⟩ := hagree c
      refine ⟨(h c).1.trans ?_, (h c).2.1.trans ?_, (h c).2.2⟩
      all_goals
        simp only [e0, e1, e2, e3]
        clear h
        funext i
      · obtain ⟨r, l, rfl⟩ : ∃ (r : Fin 2048) (l : Fin 1024), i = ix2 r l := ⟨i 0, i 1, eq_ix2 i⟩
        refine Eq.trans ?_ (congrArg (Cert.NormMixBwdIdeal.Hand.dres m c (ix2 r l) + ·) (NormLaw.law (fun k => Cert.NormMixBwdIdeal.Hand.dh m c (ix2 r k) * Cert.NormMixBwdIdeal.Hand.gn m c (ix2 0 k))
          (fun k => Cert.NormMixBwdIdeal.Hand.x m c (ix2 r k)) l _ rfl))
        pointwise
        simp only [Fin.sum_univ_one]
      · obtain ⟨r, l, rfl⟩ : ∃ (r : Fin 1) (l : Fin 1024), i = ix2 r l := ⟨i 0, i 1, eq_ix2 i⟩
        show _ = dgain m c l
        unfold dgain rinv
        pointwise
        try simp only [e0, e1]
        exact Finset.sum_congr rfl fun k _ => mul_comm _ _)
    (Cert.NormMixBwdReferenceIdeal.Value.run (F := Ideal) m' g')⟩

end Cert.NormMixBwdReferenceIdeal.Hand

end
-- ==== Proof.DownLossValue.lean ====
/- The block's last lines and the loss: what one grid point computes, what the result arrays hold. -/
module

public import proofs.«01_k».proof.Defs
public import proofs.«01_k».proof.Proof.Gen.DownLossIdeal.Value
public import Idealize.ShloMosaic.Lib.Pipeline.ValueKit.Acc
public import proofs.«01_k».proof.Proof.NormLaw
public import Idealize.ShloMosaic.Lib.Pipeline.Value
public import Idealize.ShloMosaic.Lib.Pointwise

@[expose] public section

set_option maxRecDepth 16384

noncomputable section

namespace Cert.DownLossIdeal.Hand

open Cert.DownLossIdeal Cert.DownLossIdeal.Gen Idealize.ShloMosaic Idealize.ShloMosaic.TcCoe Idealize.SL.Sem
open Idealize.ShloMosaic.Pipeline (Dat)

variable (m : (ℓ : Loc nD τ sig) → Buf (Elt Ideal) ℓ)

/-- The gated unit. -/
abbrev act (c : Dev nD) : S2048x2816.Idx → EReal := m ((c : Thread nD τ).loc main_arg0)
/-- The projection behind it. -/
abbrev wd (c : Dev nD) : S2816x1024.Idx → EReal := m ((c : Thread nD τ).loc main_arg1)
/-- The residual. -/
abbrev x2 (c : Dev nD) : S2048x1024.Idx → EReal := m ((c : Thread nD τ).loc main_arg2)
/-- The last gain. -/
abbrev gn (c : Dev nD) : S1x1024.Idx → EReal := m ((c : Thread nD τ).loc main_arg3)
/-- The targets. -/
abbrev tg (c : Dev nD) : S2048x1024.Idx → EReal := m ((c : Thread nD τ).loc main_arg4)

/-- Which blocks grid point `t` reads and writes. -/
theorem at0 : ∀ t : Fin cfg0.N, win0_0.index t 0 = t.val
    ∧ win0_0.index t 1 = 0
    ∧ win0_1.index t 0 = 0
    ∧ win0_1.index t 1 = 0
    ∧ win0_2.index t 0 = t.val
    ∧ win0_2.index t 1 = 0
    ∧ win0_3.index t 0 = 0
    ∧ win0_3.index t 1 = 0
    ∧ win0_4.index t 0 = t.val
    ∧ win0_4.index t 1 = 0
    ∧ win0_5.index t 0 = t.val
    ∧ win0_5.index t 1 = 0
    ∧ win0_6.index t 0 = t.val
    ∧ win0_6.index t 1 = 0
    ∧ win0_7.index t 0 = 0
    ∧ win0_7.index t 1 = 0
    ∧ win0_8.index t 0 = 0
    ∧ win0_8.index t 1 = 0 :=
  (by decide +kernel : ∀ t : Fin grid0.N, _)

theorem lt4 (t : Fin cfg0.N) : t.val < 4 := lt_of_lt_of_eq t.isLt N_0

/-- Input block 0 of grid point `t`. -/
abbrev bk0 (c : Dev nD) (t : Fin cfg0.N) : Vec Ideal S512x2816 .bf16 := iblk m c 0 t
theorem blk0 (c : Dev nD) (t : Fin cfg0.N) (r : Fin 512) (l : Fin 2816) :
    bk0 m c t (ix2 r l) = act m c (ix2 ⟨t.val * 512 + r.val, by have := lt4 t; omega⟩ l) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 512 + 1 * r.val = t.val * 512 + r.val; rw [h.1]; omega
  | ⟨1, _⟩ => show win0_0.index t 1 * 2816 + 1 * l.val = l.val; rw [h.2.1]; omega

/-- Input block 1 of grid point `t`. -/
abbrev bk1 (c : Dev nD) (t : Fin cfg0.N) : Vec Ideal S2816x1024 .bf16 := iblk m c 1 t
theorem blk1 (c : Dev nD) (t : Fin cfg0.N) (r : Fin 2816) (l : Fin 1024) :
    bk1 m c t (ix2 r l) = wd m c (ix2 r l) := by
  have h := at0 t
  unfold bk1 iblk
  rw [View.read_apply]
  show V m c main_arg1 _ = m (c.tc.loc main_arg1) _
  unfold V
  congr 1
  funext a
  apply Fin.ext
  match a with
  | ⟨0, _⟩ => show win0_1.index t 0 * 2816 + 1 * r.val = r.val; rw [h.2.2.1]; omega
  | ⟨1, _⟩ => show win0_1.index t 1 * 1024 + 1 * l.val = l.val; rw [h.2.2.2.1]; omega

/-- Input block 2 of grid point `t`. -/
abbrev bk2 (c : Dev nD) (t : Fin cfg0.N) : Vec Ideal S512x1024 .f32 := iblk m c 2 t
theorem blk2 (c : Dev nD) (t : Fin cfg0.N) (r : Fin 512) (l : Fin 1024) :
    bk2 m c t (ix2 r l) = x2 m c (ix2 ⟨t.val * 512 + r.val, by have := lt4 t; omega⟩ l) := by
  have h := at0 t
  unfold bk2 iblk
  rw [View.read_apply]
  show V m c main_arg2 _ = m (c.tc.loc main_arg2) _
  unfold V
  congr 1
  funext a
  apply Fin.ext
  match a with
  | ⟨0, _⟩ => show win0_2.index t 0 * 512 + 1 * r.val = t.val * 512 + r.val; rw [h.2.2.2.2.1]; omega
  | ⟨1, _⟩ => show win0_2.index t 1 * 1024 + 1 * l.val = l.val; rw [h.2.2.2.2.2.1]; omega

/-- Input block 3 of grid point `t`. -/
abbrev bk3 (c : Dev nD) (t : Fin cfg0.N) : Vec Ideal S1x1024 .f32 := iblk m c 3 t
theorem blk3 (c : Dev nD) (t : Fin cfg0.N) (r : Fin 1) (l : Fin 1024) :
    bk3 m c t (ix2 r l) = gn m c (ix2 r l) := by
  have h := at0 t
  unfold bk3 iblk
  rw [View.read_apply]
  show V m c main_arg3 _ = m (c.tc.loc main_arg3) _
  unfold V
  congr 1
  funext a
  apply Fin.ext
  match a with
  | ⟨0, _⟩ => show win0_3.index t 0 * 1 + 1 * r.val = r.val; rw [h.2.2.2.2.2.2.1]; omega
  | ⟨1, _⟩ => show win0_3.index t 1 * 1024 + 1 * l.val = l.val; rw [h.2.2.2.2.2.2.2.1]; omega

/-- Input block 4 of grid point `t`. -/
abbrev bk4 (c : Dev nD) (t : Fin cfg0.N) : Vec Ideal S512x1024 .f32 := iblk m c 4 t
theorem blk4 (c : Dev nD) (t : Fin cfg0.N) (r : Fin 512) (l : Fin 1024) :
    bk4 m c t (ix2 r l) = tg m c (ix2 ⟨t.val * 512 + r.val, by have := lt4 t; omega⟩ l) := by
  have h := at0 t
  unfold bk4 iblk
  rw [View.read_apply]
  show V m c main_arg4 _ = m (c.tc.loc main_arg4) _
  unfold V
  congr 1
  funext a
  apply Fin.ext
  match a with
  | ⟨0, _⟩ => show win0_4.index t 0 * 512 + 1 * r.val = t.val * 512 + r.val; rw [h.2.2.2.2.2.2.2.2.1]; omega
  | ⟨1, _⟩ => show win0_4.index t 1 * 1024 + 1 * l.val = l.val; rw [h.2.2.2.2.2.2.2.2.2.1]; omega

/-- One over the root mean square of a row. -/
def rinv (f : Fin 1024 → EReal) : EReal :=
  Ideal.rsqrt (Ideal.div (∑ k, f k * f k) (Ideal.ofBits .f32 0x44800000#32) + Ideal.ofBits .f32 0x3727C5AC#32)
/-- The gradient of a row's norm with respect to the row: `d` is what arrives, times the gain. -/
def dnorm (d f : Fin 1024 → EReal) (l : Fin 1024) : EReal :=
  rinv f * (d l - f l * rinv f * Ideal.div (∑ k, d k * (f k * rinv f)) (Ideal.ofBits .f32 0x44800000#32))
/-- A row's normed entry against its target. -/
def err (f g t : Fin 1024 → EReal) (l : Fin 1024) : EReal := f l * rinv f * g l - t l
/-- The loss's gradient behind the norm. -/
def gerr (f g t : Fin 1024 → EReal) (l : Fin 1024) : EReal := err f g t l * Ideal.ofBits .f32 0x3A800000#32
/-- What a row adds to the loss. -/
def lrow (f g t : Fin 1024 → EReal) : EReal :=
  Ideal.ofBits .f32 0x3F000000#32 * Ideal.div (∑ k, err f g t k * err f g t k) (Ideal.ofBits .f32 0x44800000#32)
/-- The block's output. -/
def y (c : Dev nD) (r : Fin 2048) (l : Fin 1024) : EReal := x2 m c (ix2 r l) + ∑ k : Fin 2816, act m c (ix2 r k) * wd m c (ix2 k l)
/-- The loss's gradient with respect to the block's output. -/
def dy (c : Dev nD) (r : Fin 2048) (l : Fin 1024) : EReal :=
  dnorm (fun k => gerr (y m c r) (fun k => gn m c (ix2 0 k)) (fun k => tg m c (ix2 r k)) k * gn m c (ix2 0 k)) (y m c r) l
/-- The loss's gradient with respect to the last gain. -/
def dgain (c : Dev nD) (l : Fin 1024) : EReal :=
  ∑ s : Fin 2048, gerr (y m c s) (fun k => gn m c (ix2 0 k)) (fun k => tg m c (ix2 s k)) l * (y m c s l * rinv (y m c s))
/-- The loss in lane 0, zeros behind it. -/
def loss (c : Dev nD) (l : Fin 128) : EReal :=
  if l.val = 0 then ∑ s : Fin 2048, lrow (y m c s) (fun k => gn m c (ix2 0 k)) (fun k => tg m c (ix2 s k)) else 0

/-- What result array 0 holds. -/
def G5 (c : Dev nD) : Buf (Elt Ideal) ((c : Thread nD τ).loc main_v0_0) := fun i => dy m c (i 0) (i 1)
/-- What result array 1 holds. -/
def G6 (c : Dev nD) : Buf (Elt Ideal) ((c : Thread nD τ).loc main_v0_1) := fun i => dy m c (i 0) (i 1)
/-- What result array 2 holds. -/
def G7 (c : Dev nD) : Buf (Elt Ideal) ((c : Thread nD τ).loc main_v0_2) := fun i => dgain m c (i 1)
/-- What result array 3 holds. -/
def G8 (c : Dev nD) : Buf (Elt Ideal) ((c : Thread nD τ).loc main_v0_3) := fun i => loss m c (i 1)

/-- A block's row of the output. -/
abbrev yb (x : Vec Ideal S512x1024 .f32) (a : Vec Ideal S512x2816 .bf16) (w : Vec Ideal S2816x1024 .bf16) (r : Fin 512) (l : Fin 1024) : EReal := x (ix2 r l) + ∑ k : Fin 2816, a (ix2 r k) * w (ix2 k l)
theorem pay7_apply (x : Vec Ideal S512x1024 .f32) (a : Vec Ideal S512x2816 .bf16) (w : Vec Ideal S2816x1024 .bf16) (r : Fin 512) (l : Fin 1024) : k0_pay7 x a w (ix2 r l) = yb x a w r l := by
  unfold k0_pay7
  pointwise
theorem pay8_apply (x : Vec Ideal S512x1024 .f32) (a : Vec Ideal S512x2816 .bf16) (w : Vec Ideal S2816x1024 .bf16) (r : Fin 512) (l : Fin 1) : k0_pay8 x a w (ix2 r l) = rinv (yb x a w r) := by
  unfold k0_pay8 rinv
  pointwise
  simp only [pay7_apply]
theorem pay9_apply (x : Vec Ideal S512x1024 .f32) (a : Vec Ideal S512x2816 .bf16) (w : Vec Ideal S2816x1024 .bf16) (r : Fin 512) (l : Fin 1024) : k0_pay9 x a w (ix2 r l) = yb x a w r l * rinv (yb x a w r) := by
  unfold k0_pay9
  pointwise
  rw [pay7_apply, pay8_apply]
theorem pay10_apply (x : Vec Ideal S512x1024 .f32) (a : Vec Ideal S512x2816 .bf16) (w : Vec Ideal S2816x1024 .bf16) (g : Vec Ideal S1x1024 .f32) (t : Vec Ideal S512x1024 .f32) (r : Fin 512) (l : Fin 1024) :
    k0_pay10 x a w g t (ix2 r l) = err (yb x a w r) (fun k => g (ix2 0 k)) (fun k => t (ix2 r k)) l := by
  unfold k0_pay10 err
  pointwise
  rw [pay9_apply]
theorem pay12_apply (x : Vec Ideal S512x1024 .f32) (a : Vec Ideal S512x2816 .bf16) (w : Vec Ideal S2816x1024 .bf16) (g : Vec Ideal S1x1024 .f32) (t : Vec Ideal S512x1024 .f32) (r : Fin 512) (l : Fin 1024) :
    k0_pay12 x a w g t (ix2 r l) = gerr (yb x a w r) (fun k => g (ix2 0 k)) (fun k => t (ix2 r k)) l := by
  unfold k0_pay12 gerr
  pointwise
  rw [pay10_apply]
theorem pay13_apply (x : Vec Ideal S512x1024 .f32) (a : Vec Ideal S512x2816 .bf16) (w : Vec Ideal S2816x1024 .bf16) (g : Vec Ideal S1x1024 .f32) (t : Vec Ideal S512x1024 .f32) (r : Fin 512) (l : Fin 1024) :
    k0_pay13 x a w g t (ix2 r l) = gerr (yb x a w r) (fun k => g (ix2 0 k)) (fun k => t (ix2 r k)) l * g (ix2 0 l) := by
  unfold k0_pay13
  pointwise
  rw [pay12_apply]
theorem pay14_apply (x : Vec Ideal S512x1024 .f32) (a : Vec Ideal S512x2816 .bf16) (w : Vec Ideal S2816x1024 .bf16) (g : Vec Ideal S1x1024 .f32) (t : Vec Ideal S512x1024 .f32) (r : Fin 512) (l : Fin 1) :
    k0_pay14 x a w g t (ix2 r l) = Ideal.div (∑ l : Fin 1024, gerr (yb x a w r) (fun k => g (ix2 0 k)) (fun k => t (ix2 r k)) l * g (ix2 0 l)
      * (yb x a w r l * rinv (yb x a w r))) (Ideal.ofBits .f32 0x44800000#32) := by
  unfold k0_pay14
  pointwise
  simp only [pay13_apply, pay9_apply]
theorem pay1_apply (x : Vec Ideal S512x1024 .f32) (a : Vec Ideal S512x2816 .bf16) (w : Vec Ideal S2816x1024 .bf16) (g : Vec Ideal S1x1024 .f32) (t : Vec Ideal S512x1024 .f32) (r : Fin 512) (l : Fin 1024) :
    k0_pay1 (k0_pay8 x a w) (k0_pay9 x a w) (k0_pay13 x a w g t) (k0_pay14 x a w g t) (ix2 r l)
      = dnorm (fun k => gerr (yb x a w r) (fun k => g (ix2 0 k)) (fun k => t (ix2 r k)) k * g (ix2 0 k)) (yb x a w r) l := by
  unfold k0_pay1 dnorm
  pointwise
  simp only [pay8_apply, pay9_apply, pay13_apply, pay14_apply]
theorem pay11_apply (x : Vec Ideal S512x1024 .f32) (a : Vec Ideal S512x2816 .bf16) (w : Vec Ideal S2816x1024 .bf16) (g : Vec Ideal S1x1024 .f32) (t : Vec Ideal S512x1024 .f32) (r l : Fin 1) :
    k0_pay11 x a w g t (ix2 r l) = ∑ s : Fin 512, lrow (yb x a w s) (fun k => g (ix2 0 k)) (fun k => t (ix2 s k)) := by
  unfold k0_pay11 lrow
  pointwise
  rw [← NormLaw.mul_sum_of_nonneg _ (by rw [NormLaw.half_eq]; exact EReal.coe_nonneg.2 (by norm_num)) (by rw [NormLaw.half_eq]; exact EReal.coe_ne_top _)]
  simp only [pay10_apply]
theorem lane0 : ∀ l : Fin 128, IntOp.cmpi .eq (BitVec.ofNat 32 l.val) 0#32 = if l.val = 0 then 1 else 0 := by decide +kernel
theorem pay4_apply (v : FVec Ideal S1x1 .f32) (r : Fin 1) (l : Fin 128) : k0_pay4 v (ix2 r l) = if l.val = 0 then v (ix2 0 0) else 0 := by
  unfold k0_pay4
  pointwise
  rw [lane0]
  unfold Scalar.select
  split_ifs <;> simp_all
theorem k0_pay5_apply {u : FVec Ideal S512x1024 .f32} (v : FVec Ideal S512x1024 .f32) (p : Vec Ideal S1x1024 .f32) (r : Fin 1) (l : Fin 1024) :
    k0_pay5 u v p (ix2 r l) = p (ix2 r l) + k0_pay3 u v (ix2 r l) := by
  unfold k0_pay5
  pointwise
theorem k0_pay6_apply (v : FVec Ideal S1x1 .f32) (p : Vec Ideal S1x128 .f32) (r : Fin 1) (l : Fin 128) :
    k0_pay6 v p (ix2 r l) = p (ix2 r l) + k0_pay4 v (ix2 r l) := by
  unfold k0_pay6
  pointwise
/-- A block's rows are the output's rows. -/
theorem yb_eq (c : Dev nD) (t : Fin cfg0.N) (r : Fin 512) :
    yb (bk2 m c t) (bk0 m c t) (bk1 m c t) r = y m c ⟨t.val * 512 + r.val, by have := lt4 t; omega⟩ := by
  funext l
  unfold yb y
  simp only [blk0, blk1, blk2]
/-- What grid point `t` computes for the output's gradient. -/
theorem point5 (c : Dev nD) (t : Fin cfg0.N) (r : Fin 512) (l : Fin 1024) :
    k0_pay1 (k0_pay8 (bk2 m c t) (bk0 m c t) (bk1 m c t)) (k0_pay9 (bk2 m c t) (bk0 m c t) (bk1 m c t)) (k0_pay13 (bk2 m c t) (bk0 m c t) (bk1 m c t) (bk3 m c t) (bk4 m c t)) (k0_pay14 (bk2 m c t) (bk0 m c t) (bk1 m c t) (bk3 m c t) (bk4 m c t)) (ix2 r l) = G5 m c (ix2 ⟨t.val * 512 + r.val, by have := lt4 t; omega⟩ l) := by
  rw [pay1_apply, yb_eq]
  show _ = dy m c ⟨t.val * 512 + r.val, by have := lt4 t; omega⟩ l
  unfold dy
  simp only [blk3, blk4]
theorem point6 (c : Dev nD) (t : Fin cfg0.N) (r : Fin 512) (l : Fin 1024) :
    k0_pay2 (k0_pay8 (bk2 m c t) (bk0 m c t) (bk1 m c t)) (k0_pay9 (bk2 m c t) (bk0 m c t) (bk1 m c t)) (k0_pay13 (bk2 m c t) (bk0 m c t) (bk1 m c t) (bk3 m c t) (bk4 m c t)) (k0_pay14 (bk2 m c t) (bk0 m c t) (bk1 m c t) (bk3 m c t) (bk4 m c t)) (ix2 r l) = G6 m c (ix2 ⟨t.val * 512 + r.val, by have := lt4 t; omega⟩ l) := by
  unfold k0_pay2
  pointwise
  exact point5 m c t r l
theorem flushed5_eq (c : Dev nD) (t : Fin cfg0.N) :
    (dats m 0 c).flushed 5 t = ((cfg0.win 5).blk t).view.read (Elt Ideal) (G5 m c) := by
  have h := at0 t
  rw [Value.flushed5]
  funext j
  obtain ⟨r, l, rfl⟩ : ∃ (r : Fin 512) (l : Fin 1024), j = ix2 r l := ⟨j 0, j 1, eq_ix2 j⟩
  rw [View.read_apply]
  have e0 : ((cfg0.win 5).blk t).view.emb (ix2 r l) = ix2 ⟨t.val * 512 + r.val, by have := lt4 t; omega⟩ l := by
    funext a
    apply Fin.ext
    match a with
    | ⟨0, _⟩ => show win0_5.index t 0 * 512 + 1 * r.val = t.val * 512 + r.val; rw [h.2.2.2.2.2.2.2.2.2.2.1]; omega
    | ⟨1, _⟩ => show win0_5.index t 1 * 1024 + 1 * l.val = l.val; rw [h.2.2.2.2.2.2.2.2.2.2.2.1]; omega
  rw [e0]
  show ((outsAt0 m c t.val t.isLt).1 : Vec Ideal S512x1024 .f32) (ix2 r l) = G5 m c (ix2 ⟨t.val * 512 + r.val, by have := lt4 t; omega⟩ l)
  refine Eq.trans (b := k0_pay1 (k0_pay8 (bk2 m c t) (bk0 m c t) (bk1 m c t)) (k0_pay9 (bk2 m c t) (bk0 m c t) (bk1 m c t)) (k0_pay13 (bk2 m c t) (bk0 m c t) (bk1 m c t) (bk3 m c t) (bk4 m c t)) (k0_pay14 (bk2 m c t) (bk0 m c t) (bk1 m c t) (bk3 m c t) (bk4 m c t)) (ix2 r l)) ?_ ?_
  · by_cases h0 : t.val % 4 = 0
    · rw [outsAt0_A m c t h0 (by have := lt4 t; omega)]
      frame_out
    · rw [outsAt0_B m c t h0 (by omega)]
      frame_out
  · exact point5 m c t r l

theorem mem_blk5 (t : Fin cfg0.N) (i : S2048x1024.Idx) : i ∈ ((cfg0.win 5).blk t).view.set ↔ ∀ d,
    win0_5.index t d * S512x1024.size d ≤ (i d).val
      ∧ (i d).val < win0_5.index t d * S512x1024.size d + S512x1024.size d := by
  show i ∈ ((View.whole main_v0_0).slice (win0_5.rect t)).set ↔ _
  rw [View.set_slice_whole, Rect.mem_set_unit]

theorem cover5 (i : S2048x1024.Idx) : ∃ t : Fin cfg0.N, (cfg0.win 5).flush t = true ∧ i ∈ ((cfg0.win 5).blk t).view.set := by
  have h0 : (i 0).val < 2048 := (i 0).isLt
  have h1 : (i 1).val < 1024 := (i 1).isLt
  have hN : ((i 0).val / 512) < cfg0.N := by
    show _ < grid0.N
    rw [N_0]; omega
  refine ⟨⟨_, hN⟩, flush0_5 _, (mem_blk5 _ i).2 fun d => ?_⟩
  have h := at0 ⟨((i 0).val / 512), hN⟩
  have e0 := h.2.2.2.2.2.2.2.2.2.2.1
  have e1 := h.2.2.2.2.2.2.2.2.2.2.2.1
  match d with
  | ⟨0, _⟩ =>
    show win0_5.index _ 0 * 512 ≤ (i 0).val ∧ (i 0).val < win0_5.index _ 0 * 512 + 512
    rw [e0]; dsimp only; omega
  | ⟨1, _⟩ =>
    show win0_5.index _ 1 * 1024 ≤ (i 1).val ∧ (i 1).val < win0_5.index _ 1 * 1024 + 1024
    rw [e1]; dsimp only; omega

theorem flushed6_eq (c : Dev nD) (t : Fin cfg0.N) :
    (dats m 0 c).flushed 6 t = ((cfg0.win 6).blk t).view.read (Elt Ideal) (G6 m c) := by
  have h := at0 t
  rw [Value.flushed6]
  funext j
  obtain ⟨r, l, rfl⟩ : ∃ (r : Fin 512) (l : Fin 1024), j = ix2 r l := ⟨j 0, j 1, eq_ix2 j⟩
  rw [View.read_apply]
  have e0 : ((cfg0.win 6).blk t).view.emb (ix2 r l) = ix2 ⟨t.val * 512 + r.val, by have := lt4 t; omega⟩ l := by
    funext a
    apply Fin.ext
    match a with
    | ⟨0, _⟩ => show win0_6.index t 0 * 512 + 1 * r.val = t.val * 512 + r.val; rw [h.2.2.2.2.2.2.2.2.2.2.2.2.1]; omega
    | ⟨1, _⟩ => show win0_6.index t 1 * 1024 + 1 * l.val = l.val; rw [h.2.2.2.2.2.2.2.2.2.2.2.2.2.1]; omega
  rw [e0]
  show ((outsAt0 m c t.val t.isLt).2.1 : Vec Ideal S512x1024 .bf16) (ix2 r l) = G6 m c (ix2 ⟨t.val * 512 + r.val, by have := lt4 t; omega⟩ l)
  refine Eq.trans (b := k0_pay2 (k0_pay8 (bk2 m c t) (bk0 m c t) (bk1 m c t)) (k0_pay9 (bk2 m c t) (bk0 m c t) (bk1 m c t)) (k0_pay13 (bk2 m c t) (bk0 m c t) (bk1 m c t) (bk3 m c t) (bk4 m c t)) (k0_pay14 (bk2 m c t) (bk0 m c t) (bk1 m c t) (bk3 m c t) (bk4 m c t)) (ix2 r l)) ?_ ?_
  · by_cases h0 : t.val % 4 = 0
    · rw [outsAt0_A m c t h0 (by have := lt4 t; omega)]
      frame_out
    · rw [outsAt0_B m c t h0 (by omega)]
      frame_out
  · exact point6 m c t r l

theorem mem_blk6 (t : Fin cfg0.N) (i : S2048x1024.Idx) : i ∈ ((cfg0.win 6).blk t).view.set ↔ ∀ d,
    win0_6.index t d * S512x1024.size d ≤ (i d).val
      ∧ (i d).val < win0_6.index t d * S512x1024.size d + S512x1024.size d := by
  show i ∈ ((View.whole main_v0_1).slice (win0_6.rect t)).set ↔ _
  rw [View.set_slice_whole, Rect.mem_set_unit]

theorem cover6 (i : S2048x1024.Idx) : ∃ t : Fin cfg0.N, (cfg0.win 6).flush t = true ∧ i ∈ ((cfg0.win 6).blk t).view.set := by
  have h0 : (i 0).val < 2048 := (i 0).isLt
  have h1 : (i 1).val < 1024 := (i 1).isLt
  have hN : ((i 0).val / 512) < cfg0.N := by
    show _ < grid0.N
    rw [N_0]; omega
  refine ⟨⟨_, hN⟩, flush0_6 _, (mem_blk6 _ i).2 fun d => ?_⟩
  have h := at0 ⟨((i 0).val / 512), hN⟩
  have e0 := h.2.2.2.2.2.2.2.2.2.2.2.2.1
  have e1 := h.2.2.2.2.2.2.2.2.2.2.2.2.2.1
  match d with
  | ⟨0, _⟩ =>
    show win0_6.index _ 0 * 512 ≤ (i 0).val ∧ (i 0).val < win0_6.index _ 0 * 512 + 512
    rw [e0]; dsimp only; omega
  | ⟨1, _⟩ =>
    show win0_6.index _ 1 * 1024 ≤ (i 1).val ∧ (i 1).val < win0_6.index _ 1 * 1024 + 1024
    rw [e1]; dsimp only; omega

/-- What row `i` adds to the sum behind result 2. -/
def term7 (c : Dev nD) (l : Fin 1024) (i : Nat) : EReal := if h : i < 2048 then gerr (y m c ⟨i, h⟩) (fun k => gn m c (ix2 0 k)) (fun k => tg m c (ix2 ⟨i, h⟩ k)) l * (y m c ⟨i, h⟩ l * rinv (y m c ⟨i, h⟩)) else 0

theorem part7 (c : Dev nD) (t : Fin cfg0.N) (r : Fin 1) (l : Fin 1024) :
    k0_pay3 (k0_pay9 (bk2 m c t) (bk0 m c t) (bk1 m c t)) (k0_pay12 (bk2 m c t) (bk0 m c t) (bk1 m c t) (bk3 m c t) (bk4 m c t)) (ix2 r l) = ∑ s : Fin 512, term7 m c l (t.val * 512 + s.val) := by
  unfold k0_pay3
  pointwise
  refine Finset.sum_congr rfl fun s _ => ?_
  rw [pay9_apply, pay12_apply, yb_eq]
  unfold term7
  rw [dif_pos (by have := lt4 t; omega)]
  simp only [blk3, blk4]

/-- After grid point `n` the accumulator holds the sum over the rows seen so far. -/
theorem sum7 (c : Dev nD) (n : Nat) (hn : n < cfg0.N) (r : Fin 1) (l : Fin 1024) :
    ((outsAt0 m c n hn).2.2.1 : Vec Ideal S1x1024 .f32) (ix2 r l) = ∑ i ∈ Finset.range ((n + 1) * 512), term7 m c l i := by
  induction n with
  | zero =>
    rw [show outsAt0 m c 0 hn = _ from outsAt0_A m c ⟨0, hn⟩ (by rfl) (by simp)]
    frame_out
    refine (part7 m c ⟨0, hn⟩ r l).trans ?_
    rw [Finset.sum_range]
    refine Finset.sum_congr rfl fun s _ => ?_
    simp
  | succ n ih =>
    have hb : n + 1 < 4 := lt_of_lt_of_eq hn N_0
    rw [show outsAt0 m c (n + 1) hn = _ from outsAt0_B m c ⟨n + 1, hn⟩ (by show ¬ (n + 1) % 4 = 0; omega) (by show 1 ≤ n + 1; omega)]
    frame_out
    have h1 := part7 m c ⟨n + 1, hn⟩ r l
    have h2 := ih (by omega)
    show k0_pay5 (k0_pay9 (bk2 m c ⟨n + 1, hn⟩) (bk0 m c ⟨n + 1, hn⟩) (bk1 m c ⟨n + 1, hn⟩)) (k0_pay12 (bk2 m c ⟨n + 1, hn⟩) (bk0 m c ⟨n + 1, hn⟩) (bk1 m c ⟨n + 1, hn⟩) (bk3 m c ⟨n + 1, hn⟩) (bk4 m c ⟨n + 1, hn⟩)) ((outsAt0 m c n (by omega)).2.2.1 : Vec Ideal S1x1024 .f32) (ix2 r l) = _
    refine (k0_pay5_apply _ _ r l).trans ?_
    refine (congrArg₂ (· + ·) h2 h1).trans ?_
    rw [show (n + 1 + 1) * 512 = (n + 1) * 512 + 512 by omega, Finset.sum_range_add, Finset.sum_range (n := 512)]

theorem flushed7_eq (c : Dev nD) (t : Fin cfg0.N) (hf : (cfg0.win 7).flush t = true) :
    (dats m 0 c).flushed 7 t = ((cfg0.win 7).blk t).view.read (Elt Ideal) (G7 m c) := by
  have h := at0 t
  rw [Value.flushed7]
  funext j
  obtain ⟨r, l, rfl⟩ : ∃ (r : Fin 1) (l : Fin 1024), j = ix2 r l := ⟨j 0, j 1, eq_ix2 j⟩
  rw [View.read_apply]
  have e0 : ((cfg0.win 7).blk t).view.emb (ix2 r l) = ix2 r l := by
    funext a
    apply Fin.ext
    match a with
    | ⟨0, _⟩ => show win0_7.index t 0 * 1 + 1 * r.val = r.val; rw [h.2.2.2.2.2.2.2.2.2.2.2.2.2.2.1]; omega
    | ⟨1, _⟩ => show win0_7.index t 1 * 1024 + 1 * l.val = l.val; rw [h.2.2.2.2.2.2.2.2.2.2.2.2.2.2.2.1]; omega
  rw [e0]
  have ht : t.val = 3 := by
    have h1 := (flush0_7 t).1 hf
    have h2 : t.val < 4 := lt4 t
    omega
  show ((outsAt0 m c t.val t.isLt).2.2.1 : Vec Ideal S1x1024 .f32) (ix2 r l) = G7 m c (ix2 r l)
  rw [sum7, ht]
  show _ = dgain m c l
  unfold dgain
  rw [Finset.sum_range]
  refine Finset.sum_congr rfl fun s _ => ?_
  unfold term7
  rw [dif_pos s.isLt]

theorem mem_blk7 (t : Fin cfg0.N) (i : S1x1024.Idx) : i ∈ ((cfg0.win 7).blk t).view.set ↔ ∀ d,
    win0_7.index t d * S1x1024.size d ≤ (i d).val
      ∧ (i d).val < win0_7.index t d * S1x1024.size d + S1x1024.size d := by
  show i ∈ ((View.whole main_v0_2).slice (win0_7.rect t)).set ↔ _
  rw [View.set_slice_whole, Rect.mem_set_unit]

theorem cover7 (i : S1x1024.Idx) : ∃ t : Fin cfg0.N, (cfg0.win 7).flush t = true ∧ i ∈ ((cfg0.win 7).blk t).view.set := by
  have h0 : (i 0).val < 1 := (i 0).isLt
  have h1 : (i 1).val < 1024 := (i 1).isLt
  have hN : 3 < cfg0.N := by
    show _ < grid0.N
    rw [N_0]; omega
  refine ⟨⟨_, hN⟩, (flush0_7 _).2 (by rfl), (mem_blk7 _ i).2 fun d => ?_⟩
  have h := at0 ⟨3, hN⟩
  have e0 := h.2.2.2.2.2.2.2.2.2.2.2.2.2.2.1
  have e1 := h.2.2.2.2.2.2.2.2.2.2.2.2.2.2.2.1
  match d with
  | ⟨0, _⟩ =>
    show win0_7.index _ 0 * 1 ≤ (i 0).val ∧ (i 0).val < win0_7.index _ 0 * 1 + 1
    rw [e0]; dsimp only; omega
  | ⟨1, _⟩ =>
    show win0_7.index _ 1 * 1024 ≤ (i 1).val ∧ (i 1).val < win0_7.index _ 1 * 1024 + 1024
    rw [e1]; dsimp only; omega

/-- What row `i` adds to the sum behind result 3. -/
def term8 (c : Dev nD) (l : Fin 128) (i : Nat) : EReal := if l.val = 0 then if h : i < 2048 then lrow (y m c ⟨i, h⟩) (fun k => gn m c (ix2 0 k)) (fun k => tg m c (ix2 ⟨i, h⟩ k)) else 0 else 0

theorem part8 (c : Dev nD) (t : Fin cfg0.N) (r : Fin 1) (l : Fin 128) :
    k0_pay4 (k0_pay11 (bk2 m c t) (bk0 m c t) (bk1 m c t) (bk3 m c t) (bk4 m c t)) (ix2 r l) = ∑ s : Fin 512, term8 m c l (t.val * 512 + s.val) := by
  rw [pay4_apply, pay11_apply]
  unfold term8
  by_cases hl : l.val = 0
  · simp only [if_pos hl]
    refine Finset.sum_congr rfl fun s _ => ?_
    rw [yb_eq, dif_pos (by have := lt4 t; omega)]
    simp only [blk3, blk4]
  · simp only [if_neg hl, Finset.sum_const_zero]

/-- After grid point `n` the accumulator holds the sum over the rows seen so far. -/
theorem sum8 (c : Dev nD) (n : Nat) (hn : n < cfg0.N) (r : Fin 1) (l : Fin 128) :
    ((outsAt0 m c n hn).2.2.2 : Vec Ideal S1x128 .f32) (ix2 r l) = ∑ i ∈ Finset.range ((n + 1) * 512), term8 m c l i := by
  induction n with
  | zero =>
    rw [show outsAt0 m c 0 hn = _ from outsAt0_A m c ⟨0, hn⟩ (by rfl) (by simp)]
    frame_out
    refine (part8 m c ⟨0, hn⟩ r l).trans ?_
    rw [Finset.sum_range]
    refine Finset.sum_congr rfl fun s _ => ?_
    simp
  | succ n ih =>
    have hb : n + 1 < 4 := lt_of_lt_of_eq hn N_0
    rw [show outsAt0 m c (n + 1) hn = _ from outsAt0_B m c ⟨n + 1, hn⟩ (by show ¬ (n + 1) % 4 = 0; omega) (by show 1 ≤ n + 1; omega)]
    frame_out
    have h1 := part8 m c ⟨n + 1, hn⟩ r l
    have h2 := ih (by omega)
    show k0_pay6 (k0_pay11 (bk2 m c ⟨n + 1, hn⟩) (bk0 m c ⟨n + 1, hn⟩) (bk1 m c ⟨n + 1, hn⟩) (bk3 m c ⟨n + 1, hn⟩) (bk4 m c ⟨n + 1, hn⟩)) ((outsAt0 m c n (by omega)).2.2.2 : Vec Ideal S1x128 .f32) (ix2 r l) = _
    refine (k0_pay6_apply _ _ r l).trans ?_
    refine (congrArg₂ (· + ·) h2 h1).trans ?_
    rw [show (n + 1 + 1) * 512 = (n + 1) * 512 + 512 by omega, Finset.sum_range_add, Finset.sum_range (n := 512)]

theorem flushed8_eq (c : Dev nD) (t : Fin cfg0.N) (hf : (cfg0.win 8).flush t = true) :
    (dats m 0 c).flushed 8 t = ((cfg0.win 8).blk t).view.read (Elt Ideal) (G8 m c) := by
  have h := at0 t
  rw [Value.flushed8]
  funext j
  obtain ⟨r, l, rfl⟩ : ∃ (r : Fin 1) (l : Fin 128), j = ix2 r l := ⟨j 0, j 1, eq_ix2 j⟩
  rw [View.read_apply]
  have e0 : ((cfg0.win 8).blk t).view.emb (ix2 r l) = ix2 r l := by
    funext a
    apply Fin.ext
    match a with
    | ⟨0, _⟩ => show win0_8.index t 0 * 1 + 1 * r.val = r.val; rw [h.2.2.2.2.2.2.2.2.2.2.2.2.2.2.2.2.1]; omega
    | ⟨1, _⟩ => show win0_8.index t 1 * 128 + 1 * l.val = l.val; rw [h.2.2.2.2.2.2.2.2.2.2.2.2.2.2.2.2.2]; omega
  rw [e0]
  have ht : t.val = 3 := by
    have h1 := (flush0_8 t).1 hf
    have h2 : t.val < 4 := lt4 t
    omega
  show ((outsAt0 m c t.val t.isLt).2.2.2 : Vec Ideal S1x128 .f32) (ix2 r l) = G8 m c (ix2 r l)
  rw [sum8, ht]
  show _ = loss m c l
  unfold loss term8
  by_cases hl : l.val = 0
  · simp only [if_pos hl]
    rw [Finset.sum_range]
    refine Finset.sum_congr rfl fun s _ => ?_
    rw [dif_pos s.isLt]
  · simp only [if_neg hl, Finset.sum_const_zero]

theorem mem_blk8 (t : Fin cfg0.N) (i : S1x128.Idx) : i ∈ ((cfg0.win 8).blk t).view.set ↔ ∀ d,
    win0_8.index t d * S1x128.size d ≤ (i d).val
      ∧ (i d).val < win0_8.index t d * S1x128.size d + S1x128.size d := by
  show i ∈ ((View.whole main_v0_3).slice (win0_8.rect t)).set ↔ _
  rw [View.set_slice_whole, Rect.mem_set_unit]

theorem cover8 (i : S1x128.Idx) : ∃ t : Fin cfg0.N, (cfg0.win 8).flush t = true ∧ i ∈ ((cfg0.win 8).blk t).view.set := by
  have h0 : (i 0).val < 1 := (i 0).isLt
  have h1 : (i 1).val < 128 := (i 1).isLt
  have hN : 3 < cfg0.N := by
    show _ < grid0.N
    rw [N_0]; omega
  refine ⟨⟨_, hN⟩, (flush0_8 _).2 (by rfl), (mem_blk8 _ i).2 fun d => ?_⟩
  have h := at0 ⟨3, hN⟩
  have e0 := h.2.2.2.2.2.2.2.2.2.2.2.2.2.2.2.2.1
  have e1 := h.2.2.2.2.2.2.2.2.2.2.2.2.2.2.2.2.2
  match d with
  | ⟨0, _⟩ =>
    show win0_8.index _ 0 * 1 ≤ (i 0).val ∧ (i 0).val < win0_8.index _ 0 * 1 + 1
    rw [e0]; dsimp only; omega
  | ⟨1, _⟩ =>
    show win0_8.index _ 1 * 128 ≤ (i 1).val ∧ (i 1).val < win0_8.index _ 1 * 128 + 128
    rw [e1]; dsimp only; omega

/-- Every run ends with the gradients and the loss in the result arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = G5 m c
      ∧ r.2.mem ((c : Thread nD τ).loc main_v0_1) = G6 m c
      ∧ r.2.mem ((c : Thread nD τ).loc main_v0_2) = G7 m c
      ∧ r.2.mem ((c : Thread nD τ).loc main_v0_3) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(h c).1.trans (Dat.arrAt_eq_of_cover (dats m 0 c) 5 (G5 m c) (fun t _ => flushed5_eq m c t) cover5),
      (h c).2.1.trans (Dat.arrAt_eq_of_cover (dats m 0 c) 6 (G6 m c) (fun t _ => flushed6_eq m c t) cover6),
      (h c).2.2.1.trans (Dat.arrAt_eq_of_cover (dats m 0 c) 7 (G7 m c) (flushed7_eq m c) cover7),
      (h c).2.2.2.1.trans (Dat.arrAt_eq_of_cover (dats m 0 c) 8 (G8 m c) (flushed8_eq m c) cover8),
      (h c).2.2.2.2⟩)
    (Value.run_blocks m ρ)

end Cert.DownLossIdeal.Hand

end
-- ==== Proof.DownLossEq.lean ====
/- The loss and its gradient: the reference's results read at an index are the kernel's. -/
module

public import proofs.«01_k».proof.Proof.DownLossValue
public import proofs.«01_k».proof.Proof.Gen.DownLossReferenceIdeal.Run
public import proofs.«01_k».proof.Proof.NormLaw
public import Idealize.ShloMosaic.Lib.Quiescent

@[expose] public section

set_option maxRecDepth 16384

noncomputable section

namespace Cert.DownLossReferenceIdeal.Hand

open Cert.DownLossReferenceIdeal Cert.DownLossReferenceIdeal.Gen Idealize.ShloMosaic Idealize.ShloMosaic.TcCoe Idealize.SL.Sem
open Cert.DownLossIdeal.Hand (dnorm rinv dgain gerr err y dy lrow loss G5 G6 G7 G8)

/-- The reference's run leaves nothing behind and changes no argument. -/
theorem quiet : Cert.quiescent_DownLossReferenceIdeal := fun m ρ _ =>
  (θ_run defs _ _).mono (fun r h => ⟨fun c => (h c).2.2.2.2,
    Idealize.ShloMosaic.sem_eq_zero_of_no_sems (by decide) r.2⟩) (Cert.DownLossReferenceIdeal.Value.run (F := Ideal) m ρ)

/-- The mean square's slope. -/
theorem coef (e : EReal) : Ideal.div (Ideal.ofBits .f32 0x3F000000#32) (Ideal.ofBits .f32 0x44800000#32) * (Ideal.ofBits .f32 0x40000000#32 * e)
    = e * Ideal.ofBits .f32 0x3A800000#32 := by
  rw [NormLaw.half_eq, NormLaw.width_eq, NormLaw.two_eq, NormLaw.inv_width_eq, Ideal.div_coe (by norm_num), ← mul_assoc, ← EReal.coe_mul,
    ← EReal.coe_mul, mul_comm]
  norm_num

/-- What the kernel leaves in its result arrays is what the reference computes. -/
theorem alg : Cert.algebraic_DownLossIdeal_DownLossReferenceIdeal := fun m g m' g' _ hagree =>
  ⟨G5 m, G6 m, G7 m, G8 m, Cert.DownLossIdeal.Hand.run m g,
    (θ_run defs _ _).mono (fun r h c => by
      obtain ⟨e0, e1, e2, e3, e4⟩ := hagree c
      refine ⟨(h c).1.trans ?_, (h c).2.1.trans ?_, (h c).2.2.1.trans ?_, (h c).2.2.2.1.trans ?_, (h c).2.2.2.2⟩
      all_goals
        try simp only [e0, e1, e2, e3, e4]
        clear h
        funext i
      · obtain ⟨r, l, rfl⟩ : ∃ (r : Fin 2048) (l : Fin 1024), i = ix2 r l := ⟨i 0, i 1, eq_ix2 i⟩
        unfold Value.res_main_v52
        show _ = dy m c r l
        refine Eq.trans ?_ (NormLaw.law (fun k => gerr (y m c r) (fun k => Cert.DownLossIdeal.Hand.gn m c (ix2 0 k)) (fun k => Cert.DownLossIdeal.Hand.tg m c (ix2 r k)) k
          * Cert.DownLossIdeal.Hand.gn m c (ix2 0 k)) (y m c r) l _ rfl)
        unfold gerr err rinv y
        pointwise
        try simp only [Fin.sum_univ_one, e0, e1, e2, e3, e4, coef]
      · obtain ⟨r, l, rfl⟩ : ∃ (r : Fin 2048) (l : Fin 1024), i = ix2 r l := ⟨i 0, i 1, eq_ix2 i⟩
        unfold Value.res_main_v53
        show _ = dy m c r l
        refine Eq.trans ?_ (NormLaw.law (fun k => gerr (y m c r) (fun k => Cert.DownLossIdeal.Hand.gn m c (ix2 0 k)) (fun k => Cert.DownLossIdeal.Hand.tg m c (ix2 r k)) k
          * Cert.DownLossIdeal.Hand.gn m c (ix2 0 k)) (y m c r) l _ rfl)
        unfold gerr err rinv y
        pointwise
        try simp only [Fin.sum_univ_one, e0, e1, e2, e3, e4, coef]
      · obtain ⟨r, l, rfl⟩ : ∃ (r : Fin 1) (l : Fin 1024), i = ix2 r l := ⟨i 0, i 1, eq_ix2 i⟩
        show _ = dgain m c l
        unfold dgain gerr err rinv y
        pointwise
        try simp only [e0, e1, e2, e3, e4, coef]
        exact Finset.sum_congr rfl fun k _ => mul_comm _ _
      · obtain ⟨r, l, rfl⟩ : ∃ (r : Fin 1) (l : Fin 128), i = ix2 r l := ⟨i 0, i 1, eq_ix2 i⟩
        show _ = loss m c l
        unfold loss lrow err rinv y
        rw [← NormLaw.mul_sum_of_nonneg _ (by rw [NormLaw.half_eq]; exact EReal.coe_nonneg.2 (by norm_num)) (by rw [NormLaw.half_eq]; exact EReal.coe_ne_top _)]
        pointwise
        try simp only [e0, e1, e2, e3, e4]
        by_cases hl : l.val = 0
        · rw [dif_pos (by omega), if_pos hl]
        · rw [dif_neg (by omega), if_neg hl])
    (Cert.DownLossReferenceIdeal.Value.run (F := Ideal) m' g')⟩

end Cert.DownLossReferenceIdeal.Hand

end
-- ==== Proof.NormValue.lean ====
/- The norm in front of the mixers: what one grid point computes, what the result array holds. -/
module

public import proofs.«01_k».proof.Defs
public import proofs.«01_k».proof.Proof.Gen.NormIdeal.Value
public import Idealize.ShloMosaic.Lib.Pipeline.Value
public import Idealize.ShloMosaic.Lib.Pointwise

@[expose] public section

set_option maxRecDepth 16384

noncomputable section

namespace Cert.NormIdeal.Hand

open Cert.NormIdeal Cert.NormIdeal.Gen Idealize.ShloMosaic Idealize.ShloMosaic.TcCoe Idealize.SL.Sem
open Idealize.ShloMosaic.Pipeline (Dat)

variable (m : (ℓ : Loc nD τ sig) → Buf (Elt Ideal) ℓ)

/-- The input. -/
abbrev x (c : Dev nD) : S2048x1024.Idx → EReal := m ((c : Thread nD τ).loc main_arg0)
/-- The gain. -/
abbrev gn (c : Dev nD) : S1x1024.Idx → EReal := m ((c : Thread nD τ).loc main_arg1)

theorem hz : (![0, 0] : Fin 2 → Nat) = fun _ => 0 := funext fun a => by fin_cases a <;> rfl

/-- Which blocks grid point `t` reads and writes. -/
theorem at0 : ∀ t : Fin cfg0.N, win0_0.index t 0 = t.val
    ∧ win0_0.index t 1 = 0
    ∧ win0_1.index t 0 = 0
    ∧ win0_1.index t 1 = 0
    ∧ win0_2.index t 0 = t.val
    ∧ win0_2.index t 1 = 0 :=
  (by decide +kernel : ∀ t : Fin grid0.N, _)

theorem lt8 (t : Fin cfg0.N) : t.val < 8 := lt_of_lt_of_eq t.isLt N_0

/-- Input block 0 of grid point `t`. -/
abbrev bk0 (c : Dev nD) (t : Fin cfg0.N) : Vec Ideal S256x1024 .f32 := iblk m c 0 t
theorem blk0 (c : Dev nD) (t : Fin cfg0.N) (r : Fin 256) (l : Fin 1024) :
    bk0 m c t (ix2 r l) = x m c (ix2 ⟨t.val * 256 + r.val, by have := lt8 t; omega⟩ l) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [h.1]; omega
  | ⟨1, _⟩ => show win0_0.index t 1 * 1024 + 1 * l.val = l.val; rw [h.2.1]; omega

/-- Input block 1 of grid point `t`. -/
abbrev bk1 (c : Dev nD) (t : Fin cfg0.N) : Vec Ideal S1x1024 .f32 := iblk m c 1 t
theorem blk1 (c : Dev nD) (t : Fin cfg0.N) (r : Fin 1) (l : Fin 1024) :
    bk1 m c t (ix2 r l) = gn m c (ix2 r l) := by
  have h := at0 t
  unfold bk1 iblk
  rw [View.read_apply]
  show V m c main_arg1 _ = m (c.tc.loc main_arg1) _
  unfold V
  congr 1
  funext a
  apply Fin.ext
  match a with
  | ⟨0, _⟩ => show win0_1.index t 0 * 1 + 1 * r.val = r.val; rw [h.2.2.1]; omega
  | ⟨1, _⟩ => show win0_1.index t 1 * 1024 + 1 * l.val = l.val; rw [h.2.2.2.1]; omega

/-- One over the root of a row's mean square. -/
def rinv (f : Fin 1024 → EReal) : EReal :=
  Ideal.rsqrt (Ideal.div (∑ k : Fin 1024, f k * f k) (Ideal.ofBits .f32 0x44800000#32) + Ideal.ofBits .f32 0x3727C5AC#32)

/-- What result array 0 holds. -/
def G2 (c : Dev nD) : Buf (Elt Ideal) ((c : Thread nD τ).loc main_v0) := fun i => x m c i * rinv (fun k => x m c (ix2 (i 0) k)) * gn m c (ix2 0 (i 1))

theorem flushed2_eq (c : Dev nD) (t : Fin cfg0.N) :
    (dats m 0 c).flushed 2 t = ((cfg0.win 2).blk t).view.read (Elt Ideal) (G2 m c) := by
  have h := at0 t
  rw [Value.flushed2]
  unfold out0_2
  rw [View.canon_unit_zero hz, View.ld_unit_zero hz, View.ld_unit_zero hz]
  funext j
  obtain ⟨r, l, rfl⟩ : ∃ (r : Fin 256) (l : Fin 1024), j = ix2 r l := ⟨j 0, j 1, eq_ix2 j⟩
  rw [View.read_apply]
  have e0 : ((cfg0.win 2).blk t).view.emb (ix2 r l) = ix2 ⟨t.val * 256 + r.val, by have := lt8 t; omega⟩ l := by
    funext a
    apply Fin.ext
    match a with
    | ⟨0, _⟩ => show win0_2.index t 0 * 256 + 1 * r.val = t.val * 256 + r.val; rw [h.2.2.2.2.1]; omega
    | ⟨1, _⟩ => show win0_2.index t 1 * 1024 + 1 * l.val = l.val; rw [h.2.2.2.2.2]; omega
  rw [e0]
  show k0_pay1 (bk0 m c t) (bk1 m c t) (ix2 r l) = G2 m c (ix2 ⟨t.val * 256 + r.val, by have := lt8 t; omega⟩ l)
  unfold k0_pay1 G2 rinv
  pointwise
  simp only [blk0, blk1]

theorem mem_blk2 (t : Fin cfg0.N) (i : S2048x1024.Idx) : i ∈ ((cfg0.win 2).blk t).view.set ↔ ∀ d,
    win0_2.index t d * S256x1024.size d ≤ (i d).val
      ∧ (i d).val < win0_2.index t d * S256x1024.size d + S256x1024.size d := by
  show i ∈ ((View.whole main_v0).slice (win0_2.rect t)).set ↔ _
  rw [View.set_slice_whole, Rect.mem_set_unit]

theorem cover2 (i : S2048x1024.Idx) : ∃ t : Fin cfg0.N, (cfg0.win 2).flush t = true ∧ i ∈ ((cfg0.win 2).blk t).view.set := by
  have h0 : (i 0).val < 2048 := (i 0).isLt
  have h1 : (i 1).val < 1024 := (i 1).isLt
  have hN : (i 0).val / 256 < cfg0.N := by
    show _ < grid0.N
    rw [N_0]; omega
  refine ⟨⟨_, hN⟩, flush0_2 _, (mem_blk2 _ i).2 fun d => ?_⟩
  have h := at0 ⟨(i 0).val / 256, hN⟩
  have e0 := h.2.2.2.2.1
  have e1 := h.2.2.2.2.2
  match d with
  | ⟨0, _⟩ =>
    show win0_2.index _ 0 * 256 ≤ (i 0).val ∧ (i 0).val < win0_2.index _ 0 * 256 + 256
    rw [e0]; dsimp only; omega
  | ⟨1, _⟩ =>
    show win0_2.index _ 1 * 1024 ≤ (i 1).val ∧ (i 1).val < win0_2.index _ 1 * 1024 + 1024
    rw [e1]; dsimp only; omega

/-- Every run ends with the normed rows in the result array and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = G2 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans (Dat.arrAt_eq_of_cover (dats m 0 c) 2 (G2 m c) (fun t _ => flushed2_eq m c t) cover2),
      (h c).2⟩)
    (Value.run_blocks m ρ)

end Cert.NormIdeal.Hand

end
-- ==== Proof.NormEq.lean ====
/- The norm in front of the mixers: the reference read at an index is the kernel. -/
module

public import proofs.«01_k».proof.Proof.NormValue
public import proofs.«01_k».proof.Proof.Gen.NormReferenceIdeal.Run
public import Idealize.ShloMosaic.Lib.Quiescent

@[expose] public section

set_option maxRecDepth 16384

noncomputable section

namespace Cert.NormReferenceIdeal.Hand

open Cert.NormReferenceIdeal Cert.NormReferenceIdeal.Gen Idealize.ShloMosaic Idealize.ShloMosaic.TcCoe Idealize.SL.Sem
open Cert.NormIdeal.Hand (G2 rinv)

/-- The reference's run leaves nothing behind and changes no argument. -/
theorem quiet : Cert.quiescent_NormReferenceIdeal := fun m ρ _ =>
  (θ_run defs _ _).mono (fun r h => ⟨fun c => (h c).2,
    Idealize.ShloMosaic.sem_eq_zero_of_no_sems (by decide) r.2⟩) (Cert.NormReferenceIdeal.Value.run (F := Ideal) m ρ)

/-- What the kernel leaves in its result arrays is what the reference computes. -/
theorem alg : Cert.algebraic_NormIdeal_NormReferenceIdeal := fun m g m' g' _ hagree =>
  ⟨G2 m, Cert.NormIdeal.Hand.run m g,
    (θ_run defs _ _).mono (fun r h c => by
      obtain ⟨e0, e1⟩ := hagree c
      refine ⟨(h c).1.trans ?_, (h c).2⟩
      all_goals
        simp only [e0, e1]
        clear h
        funext i
      · obtain ⟨r, l, rfl⟩ : ∃ (r : Fin 2048) (l : Fin 1024), i = ix2 r l := ⟨i 0, i 1, eq_ix2 i⟩
        unfold G2 rinv
        pointwise)
    (Cert.NormReferenceIdeal.Value.run (F := Ideal) m' g')⟩

end Cert.NormReferenceIdeal.Hand

end
-- ==== Proof.ConvFwdValue.lean ====
/- The gated convolution: what one grid point computes, what the result array holds. -/
module

public import proofs.«01_k».proof.Defs
public import proofs.«01_k».proof.Proof.Gen.ConvFwdIdeal.Value
public import Idealize.ShloMosaic.Lib.Pipeline.Value
public import Idealize.ShloMosaic.Lib.Pointwise

@[expose] public section

set_option maxRecDepth 16384

noncomputable section

namespace Cert.ConvFwdIdeal.Hand

open Cert.ConvFwdIdeal Cert.ConvFwdIdeal.Gen Idealize.ShloMosaic Idealize.ShloMosaic.TcCoe Idealize.SL.Sem
open Idealize.ShloMosaic.Pipeline (Dat)

variable (m : (ℓ : Loc nD τ sig) → Buf (Elt Ideal) ℓ)

/-- The input projections, side by side. -/
abbrev prj (c : Dev nD) : S2048x6656.Idx → EReal := m ((c : Thread nD τ).loc main_arg0)
/-- The convolution's three taps, per channel. -/
abbrev cw (c : Dev nD) : S3x1024.Idx → EReal := m ((c : Thread nD τ).loc main_arg1)

theorem hz : (![0, 0] : Fin 2 → Nat) = fun _ => 0 := funext fun a => by fin_cases a <;> rfl

/-- Which blocks grid point `t` reads and writes. -/
theorem at0 : ∀ t : Fin cfg0.N, win0_0.index t 0 = 0
    ∧ win0_0.index t 1 = t.val
    ∧ win0_1.index t 0 = 0
    ∧ win0_1.index t 1 = (t.val + 4)
    ∧ win0_2.index t 0 = 0
    ∧ win0_2.index t 1 = (t.val + 8)
    ∧ win0_3.index t 0 = 0
    ∧ win0_3.index t 1 = t.val
    ∧ win0_4.index t 0 = 0
    ∧ win0_4.index t 1 = t.val :=
  (by decide +kernel : ∀ t : Fin grid0.N, _)

theorem lt4 (t : Fin cfg0.N) : t.val < 4 := lt_of_lt_of_eq t.isLt N_0

/-- Input block 0 of grid point `t`. -/
abbrev bk0 (c : Dev nD) (t : Fin cfg0.N) : Vec Ideal S2048x256 .f32 := iblk m c 0 t
theorem blk0 (c : Dev nD) (t : Fin cfg0.N) (r : Fin 2048) (l : Fin 256) :
    bk0 m c t (ix2 r l) = prj m c (ix2 r ⟨t.val * 256 + l.val, by have := lt4 t; omega⟩) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 2048 + 1 * r.val = r.val; rw [h.1]; omega
  | ⟨1, _⟩ => show win0_0.index t 1 * 256 + 1 * l.val = t.val * 256 + l.val; rw [h.2.1]; omega

/-- Input block 1 of grid point `t`. -/
abbrev bk1 (c : Dev nD) (t : Fin cfg0.N) : Vec Ideal S2048x256 .f32 := iblk m c 1 t
theorem blk1 (c : Dev nD) (t : Fin cfg0.N) (r : Fin 2048) (l : Fin 256) :
    bk1 m c t (ix2 r l) = prj m c (ix2 r ⟨((t.val + 4)) * 256 + l.val, by have := lt4 t; omega⟩) := by
  have h := at0 t
  unfold bk1 iblk
  rw [View.read_apply]
  show V m c main_arg0 _ = m (c.tc.loc main_arg0) _
  unfold V
  congr 1
  funext a
  apply Fin.ext
  match a with
  | ⟨0, _⟩ => show win0_1.index t 0 * 2048 + 1 * r.val = r.val; rw [h.2.2.1]; omega
  | ⟨1, _⟩ => show win0_1.index t 1 * 256 + 1 * l.val = ((t.val + 4)) * 256 + l.val; rw [h.2.2.2.1]; omega

/-- Input block 2 of grid point `t`. -/
abbrev bk2 (c : Dev nD) (t : Fin cfg0.N) : Vec Ideal S2048x256 .f32 := iblk m c 2 t
theorem blk2 (c : Dev nD) (t : Fin cfg0.N) (r : Fin 2048) (l : Fin 256) :
    bk2 m c t (ix2 r l) = prj m c (ix2 r ⟨((t.val + 8)) * 256 + l.val, by have := lt4 t; omega⟩) := by
  have h := at0 t
  unfold bk2 iblk
  rw [View.read_apply]
  show V m c main_arg0 _ = m (c.tc.loc main_arg0) _
  unfold V
  congr 1
  funext a
  apply Fin.ext
  match a with
  | ⟨0, _⟩ => show win0_2.index t 0 * 2048 + 1 * r.val = r.val; rw [h.2.2.2.2.1]; omega
  | ⟨1, _⟩ => show win0_2.index t 1 * 256 + 1 * l.val = ((t.val + 8)) * 256 + l.val; rw [h.2.2.2.2.2.1]; omega

/-- Input block 3 of grid point `t`. -/
abbrev bk3 (c : Dev nD) (t : Fin cfg0.N) : Vec Ideal S3x256 .f32 := iblk m c 3 t
theorem blk3 (c : Dev nD) (t : Fin cfg0.N) (r : Fin 3) (l : Fin 256) :
    bk3 m c t (ix2 r l) = cw m c (ix2 r ⟨t.val * 256 + l.val, by have := lt4 t; omega⟩) := by
  have h := at0 t
  unfold bk3 iblk
  rw [View.read_apply]
  show V m c main_arg1 _ = m (c.tc.loc main_arg1) _
  unfold V
  congr 1
  funext a
  apply Fin.ext
  match a with
  | ⟨0, _⟩ => show win0_3.index t 0 * 3 + 1 * r.val = r.val; rw [h.2.2.2.2.2.2.1]; omega
  | ⟨1, _⟩ => show win0_3.index t 1 * 256 + 1 * l.val = t.val * 256 + l.val; rw [h.2.2.2.2.2.2.2.1]; omega

/-- The three parts of the projection the convolution reads: the output gate, the input gate, the input. -/
abbrev gb (c : Dev nD) (r : Fin 2048) (l : Fin 1024) : EReal := prj m c (ix2 r ⟨l.val, by omega⟩)
abbrev gc (c : Dev nD) (r : Fin 2048) (l : Fin 1024) : EReal := prj m c (ix2 r ⟨1024 + l.val, by omega⟩)
abbrev gx (c : Dev nD) (r : Fin 2048) (l : Fin 1024) : EReal := prj m c (ix2 r ⟨2048 + l.val, by omega⟩)

/-- A column read `k` rows back, zero before the start. -/
def back (k : Nat) (f : Fin 2048 → EReal) (r : Fin 2048) : EReal :=
  if h : k ≤ r.val then f ⟨r.val - k, by omega⟩ else 0
/-- What the convolution runs over. -/
def u (c : Dev nD) (l : Fin 1024) (r : Fin 2048) : EReal := gc m c r l * gx m c r l
/-- The convolution. -/
def cv (c : Dev nD) (l : Fin 1024) (r : Fin 2048) : EReal :=
  cw m c (ix2 0 l) * back 2 (u m c l) r + cw m c (ix2 1 l) * back 1 (u m c l) r + cw m c (ix2 2 l) * u m c l r

/-- What result array 0 holds. -/
def G4 (c : Dev nD) : Buf (Elt Ideal) ((c : Thread nD τ).loc main_v0) := fun i => gb m c (i 0) (i 1) * cv m c (i 1) (i 0)

/-- The masks, row by row. -/
theorem mask_ge1 : ∀ r : Fin 2048, IntOp.cmpi .sge (BitVec.ofNat 32 r.val) 1#32 = if 1 ≤ r.val then 1 else 0 := by decide +kernel
theorem mask_ge2 : ∀ r : Fin 2048, IntOp.cmpi .sge (BitVec.ofNat 32 r.val) 2#32 = if 2 ≤ r.val then 1 else 0 := by decide +kernel
/-- A masked rotation down is the column read back. -/
theorem sel_back (k : Nat) (hk : k < 2048) (w : BitVec 1) (f : Fin 2048 → EReal) (r : Fin 2048) (hw : w = if k ≤ r.val then 1 else 0)
    (h : (r.val + 2048 - k) % 2048 < 2048) : Scalar.select w (f ⟨(r.val + 2048 - k) % 2048, h⟩) 0 = back k f r := by
  unfold Scalar.select back
  subst hw
  by_cases hr : k ≤ r.val
  · simp only [if_pos hr, dif_pos hr, if_true]
    congr 1
    apply Fin.ext
    show (r.val + 2048 - k) % 2048 = r.val - k
    omega
  · simp [hr]
/-- The same, multiplied before it is masked. -/
theorem sel_mul (k : Nat) (hk : k < 2048) (w : BitVec 1) (a : EReal) (f : Fin 2048 → EReal) (r : Fin 2048) (hw : w = if k ≤ r.val then 1 else 0)
    (h : (r.val + 2048 - k) % 2048 < 2048) : Scalar.select w (a * f ⟨(r.val + 2048 - k) % 2048, h⟩) 0 = a * back k f r := by
  rw [← sel_back k hk w f r hw h]
  unfold Scalar.select
  split <;> simp

/-- What a grid point computes, at an index. -/
theorem pay1_apply (x1 x2 : Vec Ideal S2048x256 .f32) (x3 : Vec Ideal S3x256 .f32) (x0 : Vec Ideal S2048x256 .f32) (r : Fin 2048) (l : Fin 256) :
    k0_pay1 x1 x2 x3 x0 (ix2 r l) = x0 (ix2 r l) * (x3 (ix2 0 l) * back 2 (fun s => x1 (ix2 s l) * x2 (ix2 s l)) r
      + x3 (ix2 1 l) * back 1 (fun s => x1 (ix2 s l) * x2 (ix2 s l)) r + x3 (ix2 2 l) * (x1 (ix2 r l) * x2 (ix2 r l))) := by
  unfold k0_pay1
  pointwise
  exact congrArg (x0 (ix2 r l) * ·) (congrArg₂ (· + ·) (congrArg₂ (· + ·)
    (sel_mul 2 (by omega) _ _ (fun s => x1 (ix2 s l) * x2 (ix2 s l)) r (mask_ge2 r) _)
    (sel_mul 1 (by omega) _ _ (fun s => x1 (ix2 s l) * x2 (ix2 s l)) r (mask_ge1 r) _)) rfl)

theorem flushed4_eq (c : Dev nD) (t : Fin cfg0.N) :
    (dats m 0 c).flushed 4 t = ((cfg0.win 4).blk t).view.read (Elt Ideal) (G4 m c) := by
  have h := at0 t
  rw [Value.flushed4]
  unfold out0_4
  rw [View.canon_unit_zero hz, View.ld_unit_zero hz, View.ld_unit_zero hz, View.ld_unit_zero hz, View.ld_unit_zero hz]
  funext j
  obtain ⟨r, l, rfl⟩ : ∃ (r : Fin 2048) (l : Fin 256), j = ix2 r l := ⟨j 0, j 1, eq_ix2 j⟩
  rw [View.read_apply]
  have e0 : ((cfg0.win 4).blk t).view.emb (ix2 r l) = ix2 r ⟨t.val * 256 + l.val, by have := lt4 t; omega⟩ := by
    funext a
    apply Fin.ext
    match a with
    | ⟨0, _⟩ => show win0_4.index t 0 * 2048 + 1 * r.val = r.val; rw [h.2.2.2.2.2.2.2.2.1]; omega
    | ⟨1, _⟩ => show win0_4.index t 1 * 256 + 1 * l.val = t.val * 256 + l.val; rw [h.2.2.2.2.2.2.2.2.2]; omega
  rw [e0]
  show k0_pay1 (bk1 m c t) (bk2 m c t) (bk3 m c t) (bk0 m c t) (ix2 r l) = G4 m c (ix2 r ⟨t.val * 256 + l.val, by have := lt4 t; omega⟩)
  have hc : ∀ s : Fin 2048, bk1 m c t (ix2 s l) * bk2 m c t (ix2 s l) = u m c ⟨t.val * 256 + l.val, by have := lt4 t; omega⟩ s := fun s => by
    have e1 : (t.val + 4) * 256 + l.val = 1024 + (t.val * 256 + l.val) := by omega
    have e2 : (t.val + 8) * 256 + l.val = 2048 + (t.val * 256 + l.val) := by omega
    unfold u gc gx
    simp only [blk1, blk2, e1, e2]
  rw [pay1_apply, hc, funext hc, blk0]
  simp only [blk3]
  rfl

theorem mem_blk4 (t : Fin cfg0.N) (i : S2048x1024.Idx) : i ∈ ((cfg0.win 4).blk t).view.set ↔ ∀ d,
    win0_4.index t d * S2048x256.size d ≤ (i d).val
      ∧ (i d).val < win0_4.index t d * S2048x256.size d + S2048x256.size d := by
  show i ∈ ((View.whole main_v0).slice (win0_4.rect t)).set ↔ _
  rw [View.set_slice_whole, Rect.mem_set_unit]

theorem cover4 (i : S2048x1024.Idx) : ∃ t : Fin cfg0.N, (cfg0.win 4).flush t = true ∧ i ∈ ((cfg0.win 4).blk t).view.set := by
  have h0 : (i 0).val < 2048 := (i 0).isLt
  have h1 : (i 1).val < 1024 := (i 1).isLt
  have hN : (i 1).val / 256 < cfg0.N := by
    show _ < grid0.N
    rw [N_0]; omega
  refine ⟨⟨_, hN⟩, flush0_4 _, (mem_blk4 _ i).2 fun d => ?_⟩
  have h := at0 ⟨(i 1).val / 256, hN⟩
  have e0 := h.2.2.2.2.2.2.2.2.1
  have e1 := h.2.2.2.2.2.2.2.2.2
  match d with
  | ⟨0, _⟩ =>
    show win0_4.index _ 0 * 2048 ≤ (i 0).val ∧ (i 0).val < win0_4.index _ 0 * 2048 + 2048
    rw [e0]; dsimp only; omega
  | ⟨1, _⟩ =>
    show win0_4.index _ 1 * 256 ≤ (i 1).val ∧ (i 1).val < win0_4.index _ 1 * 256 + 256
    rw [e1]; dsimp only; omega

/-- Every run ends with the gated convolution in the result array and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0) = G4 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans (Dat.arrAt_eq_of_cover (dats m 0 c) 4 (G4 m c) (fun t _ => flushed4_eq m c t) cover4),
      (h c).2⟩)
    (Value.run_blocks m ρ)

end Cert.ConvFwdIdeal.Hand

end
-- ==== Proof.ConvFwdEq.lean ====
/- The gated convolution: the reference read at an index is the kernel. -/
module

public import proofs.«01_k».proof.Proof.ConvFwdValue
public import proofs.«01_k».proof.Proof.Gen.ConvFwdReferenceIdeal.Run
public import Idealize.ShloMosaic.Lib.Quiescent

@[expose] public section

set_option maxRecDepth 16384

noncomputable section

namespace Cert.ConvFwdReferenceIdeal.Hand

open Cert.ConvFwdReferenceIdeal Cert.ConvFwdReferenceIdeal.Gen Idealize.ShloMosaic Idealize.ShloMosaic.TcCoe Idealize.SL.Sem
open Cert.ConvFwdIdeal.Hand (G4 cv u back gb gc gx)

/-- The reference's run leaves nothing behind and changes no argument. -/
theorem quiet : Cert.quiescent_ConvFwdReferenceIdeal := fun m ρ _ =>
  (θ_run defs _ _).mono (fun r h => ⟨fun c => (h c).2,
    Idealize.ShloMosaic.sem_eq_zero_of_no_sems (by decide) r.2⟩) (Cert.ConvFwdReferenceIdeal.Value.run (F := Ideal) m ρ)

/-- The column read back, as the reference splits it. -/
theorem back_eq (k : Nat) (f : Fin 2048 → EReal) (r : Fin 2048) :
    back k f r = if h : r.val < k then 0 else f ⟨r.val - k, by omega⟩ := by
  unfold back
  by_cases h : k ≤ r.val
  · rw [dif_pos h, dif_neg (by omega)]
  · rw [dif_neg h, dif_pos (by omega)]

/-- What the kernel leaves in its result arrays is what the reference computes. -/
theorem alg : Cert.algebraic_ConvFwdIdeal_ConvFwdReferenceIdeal := fun m g m' g' _ hagree =>
  ⟨G4 m, Cert.ConvFwdIdeal.Hand.run m g,
    (θ_run defs _ _).mono (fun r h c => by
      obtain ⟨e0, e1⟩ := hagree c
      refine ⟨(h c).1.trans ?_, (h c).2⟩
      all_goals
        simp only [e0, e1]
        clear h
        funext i
      · obtain ⟨r, l, rfl⟩ : ∃ (r : Fin 2048) (l : Fin 1024), i = ix2 r l := ⟨i 0, i 1, eq_ix2 i⟩
        unfold G4
        pointwise
        simp only [e0, e1]
        unfold cv
        rw [back_eq, back_eq]
        rfl)
    (Cert.ConvFwdReferenceIdeal.Value.run (F := Ideal) m' g')⟩

end Cert.ConvFwdReferenceIdeal.Hand

end
-- ==== Proof.BranchesValue.lean ====
/- The two branches' output projections and their gated merge: what one grid point computes, what the three result arrays hold. -/
module

public import proofs.«01_k».proof.Defs
public import proofs.«01_k».proof.Proof.Gen.BranchesIdeal.Value
public import Idealize.ShloMosaic.Lib.Pipeline.Value
public import Idealize.ShloMosaic.Lib.Pointwise

@[expose] public section

set_option maxRecDepth 16384

noncomputable section

namespace Cert.BranchesIdeal.Hand

open Cert.BranchesIdeal Cert.BranchesIdeal.Gen Idealize.ShloMosaic Idealize.ShloMosaic.TcCoe Idealize.SL.Sem
open Idealize.ShloMosaic.Pipeline (Dat)

variable (m : (ℓ : Loc nD τ sig) → Buf (Elt Ideal) ℓ)

/-- The convolution branch. -/
abbrev cy (c : Dev nD) : S2048x1024.Idx → EReal := m ((c : Thread nD τ).loc main_arg0)
/-- The attention branch. -/
abbrev att (c : Dev nD) : S2048x1024.Idx → EReal := m ((c : Thread nD τ).loc main_arg1)
/-- The projection behind the convolution. -/
abbrev wc (c : Dev nD) : S1024x1024.Idx → EReal := m ((c : Thread nD τ).loc main_arg2)
/-- The projection behind the attention. -/
abbrev wa (c : Dev nD) : S1024x1024.Idx → EReal := m ((c : Thread nD τ).loc main_arg3)
/-- The input projections, side by side. -/
abbrev prj (c : Dev nD) : S2048x6656.Idx → EReal := m ((c : Thread nD τ).loc main_arg4)

theorem hz : (![0, 0] : Fin 2 → Nat) = fun _ => 0 := funext fun a => by fin_cases a <;> rfl

/-- Which blocks grid point `t` reads and writes. -/
theorem at0 : ∀ t : Fin cfg0.N, win0_0.index t 0 = (t.val / 2)
    ∧ win0_0.index t 1 = 0
    ∧ win0_1.index t 0 = (t.val / 2)
    ∧ win0_1.index t 1 = 0
    ∧ win0_2.index t 0 = 0
    ∧ win0_2.index t 1 = (t.val % 2)
    ∧ win0_3.index t 0 = 0
    ∧ win0_3.index t 1 = (t.val % 2)
    ∧ win0_4.index t 0 = (t.val / 2)
    ∧ win0_4.index t 1 = (t.val % 2 + 9)
    ∧ win0_5.index t 0 = (t.val / 2)
    ∧ win0_5.index t 1 = (t.val % 2 + 11)
    ∧ win0_6.index t 0 = (t.val / 2)
    ∧ win0_6.index t 1 = (t.val % 2)
    ∧ win0_7.index t 0 = (t.val / 2)
    ∧ win0_7.index t 1 = (t.val % 2)
    ∧ win0_8.index t 0 = (t.val / 2)
    ∧ win0_8.index t 1 = (t.val % 2) :=
  (by decide +kernel : ∀ t : Fin grid0.N, _)

theorem lt4 (t : Fin cfg0.N) : t.val < 4 := lt_of_lt_of_eq t.isLt N_0

/-- Input block 0 of grid point `t`. -/
abbrev bk0 (c : Dev nD) (t : Fin cfg0.N) : Vec Ideal S1024x1024 .bf16 := iblk m c 0 t
theorem blk0 (c : Dev nD) (t : Fin cfg0.N) (r : Fin 1024) (l : Fin 1024) :
    bk0 m c t (ix2 r l) = cy m c (ix2 ⟨((t.val / 2)) * 1024 + r.val, by have := lt4 t; omega⟩ l) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 1024 + 1 * r.val = ((t.val / 2)) * 1024 + r.val; rw [h.1]; omega
  | ⟨1, _⟩ => show win0_0.index t 1 * 1024 + 1 * l.val = l.val; rw [h.2.1]; omega

/-- Input block 1 of grid point `t`. -/
abbrev bk1 (c : Dev nD) (t : Fin cfg0.N) : Vec Ideal S1024x1024 .bf16 := iblk m c 1 t
theorem blk1 (c : Dev nD) (t : Fin cfg0.N) (r : Fin 1024) (l : Fin 1024) :
    bk1 m c t (ix2 r l) = att m c (ix2 ⟨((t.val / 2)) * 1024 + r.val, by have := lt4 t; omega⟩ l) := by
  have h := at0 t
  unfold bk1 iblk
  rw [View.read_apply]
  show V m c main_arg1 _ = m (c.tc.loc main_arg1) _
  unfold V
  congr 1
  funext a
  apply Fin.ext
  match a with
  | ⟨0, _⟩ => show win0_1.index t 0 * 1024 + 1 * r.val = ((t.val / 2)) * 1024 + r.val; rw [h.2.2.1]; omega
  | ⟨1, _⟩ => show win0_1.index t 1 * 1024 + 1 * l.val = l.val; rw [h.2.2.2.1]; omega

/-- Input block 2 of grid point `t`. -/
abbrev bk2 (c : Dev nD) (t : Fin cfg0.N) : Vec Ideal S1024x512 .bf16 := iblk m c 2 t
theorem blk2 (c : Dev nD) (t : Fin cfg0.N) (r : Fin 1024) (l : Fin 512) :
    bk2 m c t (ix2 r l) = wc m c (ix2 r ⟨((t.val % 2)) * 512 + l.val, by have := lt4 t; omega⟩) := by
  have h := at0 t
  unfold bk2 iblk
  rw [View.read_apply]
  show V m c main_arg2 _ = m (c.tc.loc main_arg2) _
  unfold V
  congr 1
  funext a
  apply Fin.ext
  match a with
  | ⟨0, _⟩ => show win0_2.index t 0 * 1024 + 1 * r.val = r.val; rw [h.2.2.2.2.1]; omega
  | ⟨1, _⟩ => show win0_2.index t 1 * 512 + 1 * l.val = ((t.val % 2)) * 512 + l.val; rw [h.2.2.2.2.2.1]; omega

/-- Input block 3 of grid point `t`. -/
abbrev bk3 (c : Dev nD) (t : Fin cfg0.N) : Vec Ideal S1024x512 .bf16 := iblk m c 3 t
theorem blk3 (c : Dev nD) (t : Fin cfg0.N) (r : Fin 1024) (l : Fin 512) :
    bk3 m c t (ix2 r l) = wa m c (ix2 r ⟨((t.val % 2)) * 512 + l.val, by have := lt4 t; omega⟩) := by
  have h := at0 t
  unfold bk3 iblk
  rw [View.read_apply]
  show V m c main_arg3 _ = m (c.tc.loc main_arg3) _
  unfold V
  congr 1
  funext a
  apply Fin.ext
  match a with
  | ⟨0, _⟩ => show win0_3.index t 0 * 1024 + 1 * r.val = r.val; rw [h.2.2.2.2.2.2.1]; omega
  | ⟨1, _⟩ => show win0_3.index t 1 * 512 + 1 * l.val = ((t.val % 2)) * 512 + l.val; rw [h.2.2.2.2.2.2.2.1]; omega

/-- Input block 4 of grid point `t`. -/
abbrev bk4 (c : Dev nD) (t : Fin cfg0.N) : Vec Ideal S1024x512 .f32 := iblk m c 4 t
theorem blk4 (c : Dev nD) (t : Fin cfg0.N) (r : Fin 1024) (l : Fin 512) :
    bk4 m c t (ix2 r l) = prj m c (ix2 ⟨((t.val / 2)) * 1024 + r.val, by have := lt4 t; omega⟩ ⟨((t.val % 2 + 9)) * 512 + l.val, by have := lt4 t; omega⟩) := by
  have h := at0 t
  unfold bk4 iblk
  rw [View.read_apply]
  show V m c main_arg4 _ = m (c.tc.loc main_arg4) _
  unfold V
  congr 1
  funext a
  apply Fin.ext
  match a with
  | ⟨0, _⟩ => show win0_4.index t 0 * 1024 + 1 * r.val = ((t.val / 2)) * 1024 + r.val; rw [h.2.2.2.2.2.2.2.2.1]; omega
  | ⟨1, _⟩ => show win0_4.index t 1 * 512 + 1 * l.val = ((t.val % 2 + 9)) * 512 + l.val; rw [h.2.2.2.2.2.2.2.2.2.1]; omega

/-- Input block 5 of grid point `t`. -/
abbrev bk5 (c : Dev nD) (t : Fin cfg0.N) : Vec Ideal S1024x512 .f32 := iblk m c 5 t
theorem blk5 (c : Dev nD) (t : Fin cfg0.N) (r : Fin 1024) (l : Fin 512) :
    bk5 m c t (ix2 r l) = prj m c (ix2 ⟨((t.val / 2)) * 1024 + r.val, by have := lt4 t; omega⟩ ⟨((t.val % 2 + 11)) * 512 + l.val, by have := lt4 t; omega⟩) := by
  have h := at0 t
  unfold bk5 iblk
  rw [View.read_apply]
  show V m c main_arg4 _ = m (c.tc.loc main_arg4) _
  unfold V
  congr 1
  funext a
  apply Fin.ext
  match a with
  | ⟨0, _⟩ => show win0_5.index t 0 * 1024 + 1 * r.val = ((t.val / 2)) * 1024 + r.val; rw [h.2.2.2.2.2.2.2.2.2.2.1]; omega
  | ⟨1, _⟩ => show win0_5.index t 1 * 512 + 1 * l.val = ((t.val % 2 + 11)) * 512 + l.val; rw [h.2.2.2.2.2.2.2.2.2.2.2.1]; omega

/-- The two branches behind their projections. -/
def co (c : Dev nD) (r : Fin 2048) (l : Fin 1024) : EReal := ∑ k : Fin 1024, cy m c (ix2 r k) * wc m c (ix2 k l)
def ao (c : Dev nD) (r : Fin 2048) (l : Fin 1024) : EReal := ∑ k : Fin 1024, att m c (ix2 r k) * wa m c (ix2 k l)

/-- What result array 0 holds. -/
def G6 (c : Dev nD) : Buf (Elt Ideal) ((c : Thread nD τ).loc main_v0_0) := fun i => co m c (i 0) (i 1)
/-- What result array 1 holds. -/
def G7 (c : Dev nD) : Buf (Elt Ideal) ((c : Thread nD τ).loc main_v0_1) := fun i => ao m c (i 0) (i 1)
/-- What result array 2 holds. -/
def G8 (c : Dev nD) : Buf (Elt Ideal) ((c : Thread nD τ).loc main_v0_2) := fun i => Ideal.logistic (prj m c (ix2 (i 0) ⟨4608 + (i 1).val, by have h : (i 1).val < 1024 := (i 1).isLt; omega⟩)) * co m c (i 0) (i 1) + Ideal.logistic (prj m c (ix2 (i 0) ⟨5632 + (i 1).val, by have h : (i 1).val < 1024 := (i 1).isLt; omega⟩)) * ao m c (i 0) (i 1)

/-- A block's product, at an index. -/
theorem pay1_apply (x0 : Vec Ideal S1024x1024 .bf16) (x1 : Vec Ideal S1024x512 .bf16) (r : Fin 1024) (l : Fin 512) :
    k0_pay1 x0 x1 (ix2 r l) = ∑ k : Fin 1024, x0 (ix2 r k) * x1 (ix2 k l) := by
  unfold k0_pay1
  pointwise
/-- A block's product, at an index. -/
theorem pay2_apply (x0 : Vec Ideal S1024x1024 .bf16) (x1 : Vec Ideal S1024x512 .bf16) (r : Fin 1024) (l : Fin 512) :
    k0_pay2 x0 x1 (ix2 r l) = ∑ k : Fin 1024, x0 (ix2 r k) * x1 (ix2 k l) := by
  unfold k0_pay2
  pointwise
theorem flushed6_eq (c : Dev nD) (t : Fin cfg0.N) :
    (dats m 0 c).flushed 6 t = ((cfg0.win 6).blk t).view.read (Elt Ideal) (G6 m c) := by
  have h := at0 t
  rw [Value.flushed6]
  unfold out0_6
  rw [View.canon_unit_zero hz, View.ld_unit_zero hz, View.ld_unit_zero hz]
  funext j
  obtain ⟨r, l, rfl⟩ : ∃ (r : Fin 1024) (l : Fin 512), j = ix2 r l := ⟨j 0, j 1, eq_ix2 j⟩
  rw [View.read_apply]
  have e0 : ((cfg0.win 6).blk t).view.emb (ix2 r l) = ix2 ⟨((t.val / 2)) * 1024 + r.val, by have := lt4 t; omega⟩ ⟨((t.val % 2)) * 512 + l.val, by have := lt4 t; omega⟩ := by
    funext a
    apply Fin.ext
    match a with
    | ⟨0, _⟩ => show win0_6.index t 0 * 1024 + 1 * r.val = ((t.val / 2)) * 1024 + r.val; rw [h.2.2.2.2.2.2.2.2.2.2.2.2.1]; omega
    | ⟨1, _⟩ => show win0_6.index t 1 * 512 + 1 * l.val = ((t.val % 2)) * 512 + l.val; rw [h.2.2.2.2.2.2.2.2.2.2.2.2.2.1]; omega
  rw [e0]
  show k0_pay1 (bk0 m c t) (bk2 m c t) (ix2 r l) = G6 m c (ix2 ⟨((t.val / 2)) * 1024 + r.val, by have := lt4 t; omega⟩ ⟨((t.val % 2)) * 512 + l.val, by have := lt4 t; omega⟩)
  unfold k0_pay1 G6 co
  pointwise
  exact Finset.sum_congr rfl fun k _ => by rw [blk0, blk2]

theorem mem_blk6 (t : Fin cfg0.N) (i : S2048x1024.Idx) : i ∈ ((cfg0.win 6).blk t).view.set ↔ ∀ d,
    win0_6.index t d * S1024x512.size d ≤ (i d).val
      ∧ (i d).val < win0_6.index t d * S1024x512.size d + S1024x512.size d := by
  show i ∈ ((View.whole main_v0_0).slice (win0_6.rect t)).set ↔ _
  rw [View.set_slice_whole, Rect.mem_set_unit]

theorem cover6 (i : S2048x1024.Idx) : ∃ t : Fin cfg0.N, (cfg0.win 6).flush t = true ∧ i ∈ ((cfg0.win 6).blk t).view.set := by
  have h0 : (i 0).val < 2048 := (i 0).isLt
  have h1 : (i 1).val < 1024 := (i 1).isLt
  have hN : ((i 0).val / 1024 * 2 + (i 1).val / 512) < cfg0.N := by
    show _ < grid0.N
    rw [N_0]; omega
  refine ⟨⟨_, hN⟩, flush0_6 _, (mem_blk6 _ i).2 fun d => ?_⟩
  have h := at0 ⟨((i 0).val / 1024 * 2 + (i 1).val / 512), hN⟩
  have e0 := h.2.2.2.2.2.2.2.2.2.2.2.2.1
  have e1 := h.2.2.2.2.2.2.2.2.2.2.2.2.2.1
  match d with
  | ⟨0, _⟩ =>
    show win0_6.index _ 0 * 1024 ≤ (i 0).val ∧ (i 0).val < win0_6.index _ 0 * 1024 + 1024
    rw [e0]; dsimp only; omega
  | ⟨1, _⟩ =>
    show win0_6.index _ 1 * 512 ≤ (i 1).val ∧ (i 1).val < win0_6.index _ 1 * 512 + 512
    rw [e1]; dsimp only; omega

theorem flushed7_eq (c : Dev nD) (t : Fin cfg0.N) :
    (dats m 0 c).flushed 7 t = ((cfg0.win 7).blk t).view.read (Elt Ideal) (G7 m c) := by
  have h := at0 t
  rw [Value.flushed7]
  unfold out0_7
  rw [View.canon_unit_zero hz, View.ld_unit_zero hz, View.ld_unit_zero hz]
  funext j
  obtain ⟨r, l, rfl⟩ : ∃ (r : Fin 1024) (l : Fin 512), j = ix2 r l := ⟨j 0, j 1, eq_ix2 j⟩
  rw [View.read_apply]
  have e0 : ((cfg0.win 7).blk t).view.emb (ix2 r l) = ix2 ⟨((t.val / 2)) * 1024 + r.val, by have := lt4 t; omega⟩ ⟨((t.val % 2)) * 512 + l.val, by have := lt4 t; omega⟩ := by
    funext a
    apply Fin.ext
    match a with
    | ⟨0, _⟩ => show win0_7.index t 0 * 1024 + 1 * r.val = ((t.val / 2)) * 1024 + r.val; rw [h.2.2.2.2.2.2.2.2.2.2.2.2.2.2.1]; omega
    | ⟨1, _⟩ => show win0_7.index t 1 * 512 + 1 * l.val = ((t.val % 2)) * 512 + l.val; rw [h.2.2.2.2.2.2.2.2.2.2.2.2.2.2.2.1]; omega
  rw [e0]
  show k0_pay2 (bk1 m c t) (bk3 m c t) (ix2 r l) = G7 m c (ix2 ⟨((t.val / 2)) * 1024 + r.val, by have := lt4 t; omega⟩ ⟨((t.val % 2)) * 512 + l.val, by have := lt4 t; omega⟩)
  unfold k0_pay2 G7 ao
  pointwise
  exact Finset.sum_congr rfl fun k _ => by rw [blk1, blk3]

theorem mem_blk7 (t : Fin cfg0.N) (i : S2048x1024.Idx) : i ∈ ((cfg0.win 7).blk t).view.set ↔ ∀ d,
    win0_7.index t d * S1024x512.size d ≤ (i d).val
      ∧ (i d).val < win0_7.index t d * S1024x512.size d + S1024x512.size d := by
  show i ∈ ((View.whole main_v0_1).slice (win0_7.rect t)).set ↔ _
  rw [View.set_slice_whole, Rect.mem_set_unit]

theorem cover7 (i : S2048x1024.Idx) : ∃ t : Fin cfg0.N, (cfg0.win 7).flush t = true ∧ i ∈ ((cfg0.win 7).blk t).view.set := by
  have h0 : (i 0).val < 2048 := (i 0).isLt
  have h1 : (i 1).val < 1024 := (i 1).isLt
  have hN : ((i 0).val / 1024 * 2 + (i 1).val / 512) < cfg0.N := by
    show _ < grid0.N
    rw [N_0]; omega
  refine ⟨⟨_, hN⟩, flush0_7 _, (mem_blk7 _ i).2 fun d => ?_⟩
  have h := at0 ⟨((i 0).val / 1024 * 2 + (i 1).val / 512), hN⟩
  have e0 := h.2.2.2.2.2.2.2.2.2.2.2.2.2.2.1
  have e1 := h.2.2.2.2.2.2.2.2.2.2.2.2.2.2.2.1
  match d with
  | ⟨0, _⟩ =>
    show win0_7.index _ 0 * 1024 ≤ (i 0).val ∧ (i 0).val < win0_7.index _ 0 * 1024 + 1024
    rw [e0]; dsimp only; omega
  | ⟨1, _⟩ =>
    show win0_7.index _ 1 * 512 ≤ (i 1).val ∧ (i 1).val < win0_7.index _ 1 * 512 + 512
    rw [e1]; dsimp only; omega

theorem flushed8_eq (c : Dev nD) (t : Fin cfg0.N) :
    (dats m 0 c).flushed 8 t = ((cfg0.win 8).blk t).view.read (Elt Ideal) (G8 m c) := by
  have h := at0 t
  rw [Value.flushed8]
  unfold out0_8
  rw [View.canon_unit_zero hz, View.ld_unit_zero hz, View.ld_unit_zero hz, View.ld_unit_zero hz, View.ld_unit_zero hz, View.ld_unit_zero hz, View.ld_unit_zero hz]
  funext j
  obtain ⟨r, l, rfl⟩ : ∃ (r : Fin 1024) (l : Fin 512), j = ix2 r l := ⟨j 0, j 1, eq_ix2 j⟩
  rw [View.read_apply]
  have e0 : ((cfg0.win 8).blk t).view.emb (ix2 r l) = ix2 ⟨((t.val / 2)) * 1024 + r.val, by have := lt4 t; omega⟩ ⟨((t.val % 2)) * 512 + l.val, by have := lt4 t; omega⟩ := by
    funext a
    apply Fin.ext
    match a with
    | ⟨0, _⟩ => show win0_8.index t 0 * 1024 + 1 * r.val = ((t.val / 2)) * 1024 + r.val; rw [h.2.2.2.2.2.2.2.2.2.2.2.2.2.2.2.2.1]; omega
    | ⟨1, _⟩ => show win0_8.index t 1 * 512 + 1 * l.val = ((t.val % 2)) * 512 + l.val; rw [h.2.2.2.2.2.2.2.2.2.2.2.2.2.2.2.2.2]; omega
  rw [e0]
  show k0_pay3 (bk0 m c t) (bk2 m c t) (bk1 m c t) (bk3 m c t) (bk4 m c t) (bk5 m c t) (ix2 r l) = G8 m c (ix2 ⟨((t.val / 2)) * 1024 + r.val, by have := lt4 t; omega⟩ ⟨((t.val % 2)) * 512 + l.val, by have := lt4 t; omega⟩)
  unfold k0_pay3 G8 co ao
  pointwise
  have e4 : (t.val % 2 + 9) * 512 + l.val = 4608 + (t.val % 2 * 512 + l.val) := by omega
  have e5 : (t.val % 2 + 11) * 512 + l.val = 5632 + (t.val % 2 * 512 + l.val) := by omega
  simp only [pay1_apply, pay2_apply, blk0, blk1, blk2, blk3, blk4, blk5, e4, e5]

theorem mem_blk8 (t : Fin cfg0.N) (i : S2048x1024.Idx) : i ∈ ((cfg0.win 8).blk t).view.set ↔ ∀ d,
    win0_8.index t d * S1024x512.size d ≤ (i d).val
      ∧ (i d).val < win0_8.index t d * S1024x512.size d + S1024x512.size d := by
  show i ∈ ((View.whole main_v0_2).slice (win0_8.rect t)).set ↔ _
  rw [View.set_slice_whole, Rect.mem_set_unit]

theorem cover8 (i : S2048x1024.Idx) : ∃ t : Fin cfg0.N, (cfg0.win 8).flush t = true ∧ i ∈ ((cfg0.win 8).blk t).view.set := by
  have h0 : (i 0).val < 2048 := (i 0).isLt
  have h1 : (i 1).val < 1024 := (i 1).isLt
  have hN : ((i 0).val / 1024 * 2 + (i 1).val / 512) < cfg0.N := by
    show _ < grid0.N
    rw [N_0]; omega
  refine ⟨⟨_, hN⟩, flush0_8 _, (mem_blk8 _ i).2 fun d => ?_⟩
  have h := at0 ⟨((i 0).val / 1024 * 2 + (i 1).val / 512), hN⟩
  have e0 := h.2.2.2.2.2.2.2.2.2.2.2.2.2.2.2.2.1
  have e1 := h.2.2.2.2.2.2.2.2.2.2.2.2.2.2.2.2.2
  match d with
  | ⟨0, _⟩ =>
    show win0_8.index _ 0 * 1024 ≤ (i 0).val ∧ (i 0).val < win0_8.index _ 0 * 1024 + 1024
    rw [e0]; dsimp only; omega
  | ⟨1, _⟩ =>
    show win0_8.index _ 1 * 512 ≤ (i 1).val ∧ (i 1).val < win0_8.index _ 1 * 512 + 512
    rw [e1]; dsimp only; omega

/-- Every run ends with the two projections and their merge in the result arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = G6 m c
      ∧ r.2.mem ((c : Thread nD τ).loc main_v0_1) = G7 m c
      ∧ r.2.mem ((c : Thread nD τ).loc main_v0_2) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c =>
    ⟨(h c).1.trans (Dat.arrAt_eq_of_cover (dats m 0 c) 6 (G6 m c) (fun t _ => flushed6_eq m c t) cover6),
      (h c).2.1.trans (Dat.arrAt_eq_of_cover (dats m 0 c) 7 (G7 m c) (fun t _ => flushed7_eq m c t) cover7),
      (h c).2.2.1.trans (Dat.arrAt_eq_of_cover (dats m 0 c) 8 (G8 m c) (fun t _ => flushed8_eq m c t) cover8),
      (h c).2.2.2⟩)
    (Value.run_blocks m ρ)

end Cert.BranchesIdeal.Hand

end
-- ==== Proof.BranchesEq.lean ====
/- The two branches and their merge: the reference read at an index is the kernel. -/
module

public import proofs.«01_k».proof.Proof.BranchesValue
public import proofs.«01_k».proof.Proof.Gen.BranchesReferenceIdeal.Run
public import Idealize.ShloMosaic.Lib.Quiescent

@[expose] public section

set_option maxRecDepth 16384

noncomputable section

namespace Cert.BranchesReferenceIdeal.Hand

open Cert.BranchesReferenceIdeal Cert.BranchesReferenceIdeal.Gen Idealize.ShloMosaic Idealize.ShloMosaic.TcCoe Idealize.SL.Sem
open Cert.BranchesIdeal.Hand (G6 G7 G8 co ao)

/-- The reference's run leaves nothing behind and changes no argument. -/
theorem quiet : Cert.quiescent_BranchesReferenceIdeal := fun m ρ _ =>
  (θ_run defs _ _).mono (fun r h => ⟨fun c => (h c).2.2.2,
    Idealize.ShloMosaic.sem_eq_zero_of_no_sems (by decide) r.2⟩) (Cert.BranchesReferenceIdeal.Value.run (F := Ideal) m ρ)

/-- What the kernel leaves in its result arrays is what the reference computes. -/
theorem alg : Cert.algebraic_BranchesIdeal_BranchesReferenceIdeal := fun m g m' g' _ hagree =>
  ⟨G6 m, G7 m, G8 m, Cert.BranchesIdeal.Hand.run m g,
    (θ_run defs _ _).mono (fun r h c => by
      obtain ⟨e0, e1, e2, e3, e4⟩ := hagree c
      refine ⟨(h c).1.trans ?_, (h c).2.1.trans ?_, (h c).2.2.1.trans ?_, (h c).2.2.2⟩
      all_goals
        simp only [e0, e1, e2, e3, e4]
        clear h
        funext i
      · obtain ⟨r, l, rfl⟩ : ∃ (r : Fin 2048) (l : Fin 1024), i = ix2 r l := ⟨i 0, i 1, eq_ix2 i⟩
        unfold G6 co
        pointwise
      · obtain ⟨r, l, rfl⟩ : ∃ (r : Fin 2048) (l : Fin 1024), i = ix2 r l := ⟨i 0, i 1, eq_ix2 i⟩
        unfold G7 ao
        pointwise
      · obtain ⟨r, l, rfl⟩ : ∃ (r : Fin 2048) (l : Fin 1024), i = ix2 r l := ⟨i 0, i 1, eq_ix2 i⟩
        unfold G8 co ao
        pointwise
        rfl)
    (Cert.BranchesReferenceIdeal.Value.run (F := Ideal) m' g')⟩

end Cert.BranchesReferenceIdeal.Hand

end
-- ==== Proof.OutNormValue.lean ====
/- The merged branches through the output projection, added to the residual and normed: what one grid point computes, what the two result arrays hold. -/
module

public import proofs.«01_k».proof.Defs
public import proofs.«01_k».proof.Proof.Gen.OutNormIdeal.Value
public import Idealize.ShloMosaic.Lib.Pipeline.Value
public import Idealize.ShloMosaic.Lib.Pointwise

@[expose] public section

set_option maxRecDepth 16384

noncomputable section

namespace Cert.OutNormIdeal.Hand

open Cert.OutNormIdeal Cert.OutNormIdeal.Gen Idealize.ShloMosaic Idealize.ShloMosaic.TcCoe Idealize.SL.Sem
open Idealize.ShloMosaic.Pipeline (Dat)

variable (m : (ℓ : Loc nD τ sig) → Buf (Elt Ideal) ℓ)

/-- The merged branches. -/
abbrev mg (c : Dev nD) : S2048x1024.Idx → EReal := m ((c : Thread nD τ).loc main_arg0)
/-- The output projection. -/
abbrev wo (c : Dev nD) : S1024x1024.Idx → EReal := m ((c : Thread nD τ).loc main_arg1)
/-- The residual. -/
abbrev x (c : Dev nD) : S2048x1024.Idx → EReal := m ((c : Thread nD τ).loc main_arg2)
/-- The gain. -/
abbrev gn (c : Dev nD) : S1x1024.Idx → EReal := m ((c : Thread nD τ).loc main_arg3)

theorem hz : (![0, 0] : Fin 2 → Nat) = fun _ => 0 := funext fun a => by fin_cases a <;> rfl

/-- Which blocks grid point `t` reads and writes. -/
theorem at0 : ∀ t : Fin cfg0.N, win0_0.index t 0 = t.val
    ∧ win0_0.index t 1 = 0
    ∧ win0_1.index t 0 = 0
    ∧ win0_1.index t 1 = 0
    ∧ win0_2.index t 0 = t.val
    ∧ win0_2.index t 1 = 0
    ∧ win0_3.index t 0 = 0
    ∧ win0_3.index t 1 = 0
    ∧ win0_4.index t 0 = t.val
    ∧ win0_4.index t 1 = 0
    ∧ win0_5.index t 0 = t.val
    ∧ win0_5.index t 1 = 0 :=
  (by decide +kernel : ∀ t : Fin grid0.N, _)

theorem lt2 (t : Fin cfg0.N) : t.val < 2 := lt_of_lt_of_eq t.isLt N_0

/-- Input block 0 of grid point `t`. -/
abbrev bk0 (c : Dev nD) (t : Fin cfg0.N) : Vec Ideal S1024x1024 .bf16 := iblk m c 0 t
theorem blk0 (c : Dev nD) (t : Fin cfg0.N) (r : Fin 1024) (l : Fin 1024) :
    bk0 m c t (ix2 r l) = mg m c (ix2 ⟨t.val * 1024 + r.val, by have := lt2 t; omega⟩ l) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 1024 + 1 * r.val = t.val * 1024 + r.val; rw [h.1]; omega
  | ⟨1, _⟩ => show win0_0.index t 1 * 1024 + 1 * l.val = l.val; rw [h.2.1]; omega

/-- Input block 1 of grid point `t`. -/
abbrev bk1 (c : Dev nD) (t : Fin cfg0.N) : Vec Ideal S1024x1024 .bf16 := iblk m c 1 t
theorem blk1 (c : Dev nD) (t : Fin cfg0.N) (r : Fin 1024) (l : Fin 1024) :
    bk1 m c t (ix2 r l) = wo m c (ix2 r l) := by
  have h := at0 t
  unfold bk1 iblk
  rw [View.read_apply]
  show V m c main_arg1 _ = m (c.tc.loc main_arg1) _
  unfold V
  congr 1
  funext a
  apply Fin.ext
  match a with
  | ⟨0, _⟩ => show win0_1.index t 0 * 1024 + 1 * r.val = r.val; rw [h.2.2.1]; omega
  | ⟨1, _⟩ => show win0_1.index t 1 * 1024 + 1 * l.val = l.val; rw [h.2.2.2.1]; omega

/-- Input block 2 of grid point `t`. -/
abbrev bk2 (c : Dev nD) (t : Fin cfg0.N) : Vec Ideal S1024x1024 .f32 := iblk m c 2 t
theorem blk2 (c : Dev nD) (t : Fin cfg0.N) (r : Fin 1024) (l : Fin 1024) :
    bk2 m c t (ix2 r l) = x m c (ix2 ⟨t.val * 1024 + r.val, by have := lt2 t; omega⟩ l) := by
  have h := at0 t
  unfold bk2 iblk
  rw [View.read_apply]
  show V m c main_arg2 _ = m (c.tc.loc main_arg2) _
  unfold V
  congr 1
  funext a
  apply Fin.ext
  match a with
  | ⟨0, _⟩ => show win0_2.index t 0 * 1024 + 1 * r.val = t.val * 1024 + r.val; rw [h.2.2.2.2.1]; omega
  | ⟨1, _⟩ => show win0_2.index t 1 * 1024 + 1 * l.val = l.val; rw [h.2.2.2.2.2.1]; omega

/-- Input block 3 of grid point `t`. -/
abbrev bk3 (c : Dev nD) (t : Fin cfg0.N) : Vec Ideal S1x1024 .f32 := iblk m c 3 t
theorem blk3 (c : Dev nD) (t : Fin cfg0.N) (r : Fin 1) (l : Fin 1024) :
    bk3 m c t (ix2 r l) = gn m c (ix2 r l) := by
  have h := at0 t
  unfold bk3 iblk
  rw [View.read_apply]
  show V m c main_arg3 _ = m (c.tc.loc main_arg3) _
  unfold V
  congr 1
  funext a
  apply Fin.ext
  match a with
  | ⟨0, _⟩ => show win0_3.index t 0 * 1 + 1 * r.val = r.val; rw [h.2.2.2.2.2.2.1]; omega
  | ⟨1, _⟩ => show win0_3.index t 1 * 1024 + 1 * l.val = l.val; rw [h.2.2.2.2.2.2.2.1]; omega

/-- One over the root of a row's mean square. -/
def rinv (f : Fin 1024 → EReal) : EReal :=
  Ideal.rsqrt (Ideal.div (∑ k : Fin 1024, f k * f k) (Ideal.ofBits .f32 0x44800000#32) + Ideal.ofBits .f32 0x3727C5AC#32)
/-- The residual with the projection added. -/
def x2 (c : Dev nD) (r : Fin 2048) (l : Fin 1024) : EReal := x m c (ix2 r l) + ∑ k : Fin 1024, mg m c (ix2 r k) * wo m c (ix2 k l)

/-- What result array 0 holds. -/
def G4 (c : Dev nD) : Buf (Elt Ideal) ((c : Thread nD τ).loc main_v0_0) := fun i => x2 m c (i 0) (i 1)
/-- What result array 1 holds. -/
def G5 (c : Dev nD) : Buf (Elt Ideal) ((c : Thread nD τ).loc main_v0_1) := fun i => x2 m c (i 0) (i 1) * rinv (x2 m c (i 0)) * gn m c (ix2 0 (i 1))

/-- A block of the residual with the product added, at an index. -/
theorem pay1_apply (x : Vec Ideal S1024x1024 .f32) (x0 x1 : Vec Ideal S1024x1024 .bf16) (r l : Fin 1024) :
    k0_pay1 x x0 x1 (ix2 r l) = x (ix2 r l) + ∑ k : Fin 1024, x0 (ix2 r k) * x1 (ix2 k l) := by
  unfold k0_pay1
  pointwise
theorem flushed4_eq (c : Dev nD) (t : Fin cfg0.N) :
    (dats m 0 c).flushed 4 t = ((cfg0.win 4).blk t).view.read (Elt Ideal) (G4 m c) := by
  have h := at0 t
  rw [Value.flushed4]
  unfold out0_4
  rw [View.canon_unit_zero hz, View.ld_unit_zero hz, View.ld_unit_zero hz, View.ld_unit_zero hz]
  funext j
  obtain ⟨r, l, rfl⟩ : ∃ (r : Fin 1024) (l : Fin 1024), j = ix2 r l := ⟨j 0, j 1, eq_ix2 j⟩
  rw [View.read_apply]
  have e0 : ((cfg0.win 4).blk t).view.emb (ix2 r l) = ix2 ⟨t.val * 1024 + r.val, by have := lt2 t; omega⟩ l := by
    funext a
    apply Fin.ext
    match a with
    | ⟨0, _⟩ => show win0_4.index t 0 * 1024 + 1 * r.val = t.val * 1024 + r.val; rw [h.2.2.2.2.2.2.2.2.1]; omega
    | ⟨1, _⟩ => show win0_4.index t 1 * 1024 + 1 * l.val = l.val; rw [h.2.2.2.2.2.2.2.2.2.1]; omega
  rw [e0]
  show k0_pay1 (bk2 m c t) (bk0 m c t) (bk1 m c t) (ix2 r l) = G4 m c (ix2 ⟨t.val * 1024 + r.val, by have := lt2 t; omega⟩ l)
  rw [pay1_apply]
  unfold G4 x2
  simp only [blk0, blk1, blk2]
  rfl

theorem mem_blk4 (t : Fin cfg0.N) (i : S2048x1024.Idx) : i ∈ ((cfg0.win 4).blk t).view.set ↔ ∀ d,
    win0_4.index t d * S1024x1024.size d ≤ (i d).val
      ∧ (i d).val < win0_4.index t d * S1024x1024.size d + S1024x1024.size d := by
  show i ∈ ((View.whole main_v0_0).slice (win0_4.rect t)).set ↔ _
  rw [View.set_slice_whole, Rect.mem_set_unit]

theorem cover4 (i : S2048x1024.Idx) : ∃ t : Fin cfg0.N, (cfg0.win 4).flush t = true ∧ i ∈ ((cfg0.win 4).blk t).view.set := by
  have h0 : (i 0).val < 2048 := (i 0).isLt
  have h1 : (i 1).val < 1024 := (i 1).isLt
  have hN : ((i 0).val / 1024) < cfg0.N := by
    show _ < grid0.N
    rw [N_0]; omega
  refine ⟨⟨_, hN⟩, flush0_4 _, (mem_blk4 _ i).2 fun d => ?_⟩
  have h := at0 ⟨((i 0).val / 1024), hN⟩
  have e0 := h.2.2.2.2.2.2.2.2.1
  have e1 := h.2.2.2.2.2.2.2.2.2.1
  match d with
  | ⟨0, _⟩ =>
    show win0_4.index _ 0 * 1024 ≤ (i 0).val ∧ (i 0).val < win0_4.index _ 0 * 1024 + 1024
    rw [e0]; dsimp only; omega
  | ⟨1, _⟩ =>
    show win0_4.index _ 1 * 1024 ≤ (i 1).val ∧ (i 1).val < win0_4.index _ 1 * 1024 + 1024
    rw [e1]; dsimp only; omega

theorem flushed5_eq (c : Dev nD) (t : Fin cfg0.N) :
    (dats m 0 c).flushed 5 t = ((cfg0.win 5).blk t).view.read (Elt Ideal) (G5 m c) := by
  have h := at0 t
  rw [Value.flushed5]
  unfold out0_5
  rw [View.canon_unit_zero hz, View.ld_unit_zero hz, View.ld_unit_zero hz, View.ld_unit_zero hz, View.ld_unit_zero hz]
  funext j
  obtain ⟨r, l, rfl⟩ : ∃ (r : Fin 1024) (l : Fin 1024), j = ix2 r l := ⟨j 0, j 1, eq_ix2 j⟩
  rw [View.read_apply]
  have e0 : ((cfg0.win 5).blk t).view.emb (ix2 r l) = ix2 ⟨t.val * 1024 + r.val, by have := lt2 t; omega⟩ l := by
    funext a
    apply Fin.ext
    match a with
    | ⟨0, _⟩ => show win0_5.index t 0 * 1024 + 1 * r.val = t.val * 1024 + r.val; rw [h.2.2.2.2.2.2.2.2.2.2.1]; omega
    | ⟨1, _⟩ => show win0_5.index t 1 * 1024 + 1 * l.val = l.val; rw [h.2.2.2.2.2.2.2.2.2.2.2]; omega
  rw [e0]
  show k0_pay2 (bk2 m c t) (bk0 m c t) (bk1 m c t) (bk3 m c t) (ix2 r l) = G5 m c (ix2 ⟨t.val * 1024 + r.val, by have := lt2 t; omega⟩ l)
  unfold k0_pay2 G5 rinv x2
  pointwise
  simp only [pay1_apply, blk0, blk1, blk2, blk3]

theorem mem_blk5 (t : Fin cfg0.N) (i : S2048x1024.Idx) : i ∈ ((cfg0.win 5).blk t).view.set ↔ ∀ d,
    win0_5.index t d * S1024x1024.size d ≤ (i d).val
      ∧ (i d).val < win0_5.index t d * S1024x1024.size d + S1024x1024.size d := by
  show i ∈ ((View.whole main_v0_1).slice (win0_5.rect t)).set ↔ _
  rw [View.set_slice_whole, Rect.mem_set_unit]

theorem cover5 (i : S2048x1024.Idx) : ∃ t : Fin cfg0.N, (cfg0.win 5).flush t = true ∧ i ∈ ((cfg0.win 5).blk t).view.set := by
  have h0 : (i 0).val < 2048 := (i 0).isLt
  have h1 : (i 1).val < 1024 := (i 1).isLt
  have hN : ((i 0).val / 1024) < cfg0.N := by
    show _ < grid0.N
    rw [N_0]; omega
  refine ⟨⟨_, hN⟩, flush0_5 _, (mem_blk5 _ i).2 fun d => ?_⟩
  have h := at0 ⟨((i 0).val / 1024), hN⟩
  have e0 := h.2.2.2.2.2.2.2.2.2.2.1
  have e1 := h.2.2.2.2.2.2.2.2.2.2.2
  match d with
  | ⟨0, _⟩ =>
    show win0_5.index _ 0 * 1024 ≤ (i 0).val ∧ (i 0).val < win0_5.index _ 0 * 1024 + 1024
    rw [e0]; dsimp only; omega
  | ⟨1, _⟩ =>
    show win0_5.index _ 1 * 1024 ≤ (i 1).val ∧ (i 1).val < win0_5.index _ 1 * 1024 + 1024
    rw [e1]; dsimp only; omega

/-- Every run ends with the new residual and its norm in the result arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans (Dat.arrAt_eq_of_cover (dats m 0 c) 4 (G4 m c) (fun t _ => flushed4_eq m c t) cover4),
      (h c).2.1.trans (Dat.arrAt_eq_of_cover (dats m 0 c) 5 (G5 m c) (fun t _ => flushed5_eq m c t) cover5),
      (h c).2.2⟩)
    (Value.run_blocks m ρ)

end Cert.OutNormIdeal.Hand

end
-- ==== Proof.OutNormEq.lean ====
/- The new residual and its norm: the reference read at an index is the kernel. -/
module

public import proofs.«01_k».proof.Proof.OutNormValue
public import proofs.«01_k».proof.Proof.Gen.OutNormReferenceIdeal.Run
public import Idealize.ShloMosaic.Lib.Quiescent

@[expose] public section

set_option maxRecDepth 16384

noncomputable section

namespace Cert.OutNormReferenceIdeal.Hand

open Cert.OutNormReferenceIdeal Cert.OutNormReferenceIdeal.Gen Idealize.ShloMosaic Idealize.ShloMosaic.TcCoe Idealize.SL.Sem
open Cert.OutNormIdeal.Hand (G4 G5 x2 rinv)

/-- The reference's run leaves nothing behind and changes no argument. -/
theorem quiet : Cert.quiescent_OutNormReferenceIdeal := fun m ρ _ =>
  (θ_run defs _ _).mono (fun r h => ⟨fun c => (h c).2.2,
    Idealize.ShloMosaic.sem_eq_zero_of_no_sems (by decide) r.2⟩) (Cert.OutNormReferenceIdeal.Value.run (F := Ideal) m ρ)

/-- What the kernel leaves in its result arrays is what the reference computes. -/
theorem alg : Cert.algebraic_OutNormIdeal_OutNormReferenceIdeal := fun m g m' g' _ hagree =>
  ⟨G4 m, G5 m, Cert.OutNormIdeal.Hand.run m g,
    (θ_run defs _ _).mono (fun r h c => by
      obtain ⟨e0, e1, e2, e3⟩ := hagree c
      refine ⟨(h c).1.trans ?_, (h c).2.1.trans ?_, (h c).2.2⟩
      all_goals
        simp only [e0, e1, e2, e3]
        clear h
        funext i
      · obtain ⟨r, l, rfl⟩ : ∃ (r : Fin 2048) (l : Fin 1024), i = ix2 r l := ⟨i 0, i 1, eq_ix2 i⟩
        unfold G4 x2
        pointwise
      · obtain ⟨r, l, rfl⟩ : ∃ (r : Fin 2048) (l : Fin 1024), i = ix2 r l := ⟨i 0, i 1, eq_ix2 i⟩
        unfold G5 rinv x2
        pointwise)
    (Cert.OutNormReferenceIdeal.Value.run (F := Ideal) m' g')⟩

end Cert.OutNormReferenceIdeal.Hand

end
-- ==== Proof.GateUpValue.lean ====
/- The projections to gate and up and the gated unit: what one grid point computes, what the three result arrays hold. -/
module

public import proofs.«01_k».proof.Defs
public import proofs.«01_k».proof.Proof.Gen.GateUpIdeal.Value
public import Idealize.ShloMosaic.Lib.Pipeline.Value
public import Idealize.ShloMosaic.Lib.Pointwise

@[expose] public section

set_option maxRecDepth 16384

noncomputable section

namespace Cert.GateUpIdeal.Hand

open Cert.GateUpIdeal Cert.GateUpIdeal.Gen Idealize.ShloMosaic Idealize.ShloMosaic.TcCoe Idealize.SL.Sem
open Idealize.ShloMosaic.Pipeline (Dat)

variable (m : (ℓ : Loc nD τ sig) → Buf (Elt Ideal) ℓ)

/-- The normed rows. -/
abbrev h (c : Dev nD) : S2048x1024.Idx → EReal := m ((c : Thread nD τ).loc main_arg0)
/-- The projection to gate and up, side by side. -/
abbrev w (c : Dev nD) : S1024x5632.Idx → EReal := m ((c : Thread nD τ).loc main_arg1)

theorem hz : (![0, 0] : Fin 2 → Nat) = fun _ => 0 := funext fun a => by fin_cases a <;> rfl

/-- Which blocks grid point `t` reads and writes. -/
theorem at0 : ∀ t : Fin cfg0.N, win0_0.index t 0 = (t.val / 2)
    ∧ win0_0.index t 1 = 0
    ∧ win0_1.index t 0 = 0
    ∧ win0_1.index t 1 = (t.val % 2)
    ∧ win0_2.index t 0 = 0
    ∧ win0_2.index t 1 = (t.val % 2 + 2)
    ∧ win0_3.index t 0 = (t.val / 2)
    ∧ win0_3.index t 1 = (t.val % 2)
    ∧ win0_4.index t 0 = (t.val / 2)
    ∧ win0_4.index t 1 = (t.val % 2)
    ∧ win0_5.index t 0 = (t.val / 2)
    ∧ win0_5.index t 1 = (t.val % 2) :=
  (by decide +kernel : ∀ t : Fin grid0.N, _)

theorem lt8 (t : Fin cfg0.N) : t.val < 8 := lt_of_lt_of_eq t.isLt N_0

/-- Input block 0 of grid point `t`. -/
abbrev bk0 (c : Dev nD) (t : Fin cfg0.N) : Vec Ideal S512x1024 .bf16 := iblk m c 0 t
theorem blk0 (c : Dev nD) (t : Fin cfg0.N) (r : Fin 512) (l : Fin 1024) :
    bk0 m c t (ix2 r l) = h m c (ix2 ⟨((t.val / 2)) * 512 + r.val, by have := lt8 t; omega⟩ l) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 512 + 1 * r.val = ((t.val / 2)) * 512 + r.val; rw [h.1]; omega
  | ⟨1, _⟩ => show win0_0.index t 1 * 1024 + 1 * l.val = l.val; rw [h.2.1]; omega

/-- Input block 1 of grid point `t`. -/
abbrev bk1 (c : Dev nD) (t : Fin cfg0.N) : Vec Ideal S1024x1408 .bf16 := iblk m c 1 t
theorem blk1 (c : Dev nD) (t : Fin cfg0.N) (r : Fin 1024) (l : Fin 1408) :
    bk1 m c t (ix2 r l) = w m c (ix2 r ⟨((t.val % 2)) * 1408 + l.val, by have := lt8 t; omega⟩) := by
  have h := at0 t
  unfold bk1 iblk
  rw [View.read_apply]
  show V m c main_arg1 _ = m (c.tc.loc main_arg1) _
  unfold V
  congr 1
  funext a
  apply Fin.ext
  match a with
  | ⟨0, _⟩ => show win0_1.index t 0 * 1024 + 1 * r.val = r.val; rw [h.2.2.1]; omega
  | ⟨1, _⟩ => show win0_1.index t 1 * 1408 + 1 * l.val = ((t.val % 2)) * 1408 + l.val; rw [h.2.2.2.1]; omega

/-- Input block 2 of grid point `t`. -/
abbrev bk2 (c : Dev nD) (t : Fin cfg0.N) : Vec Ideal S1024x1408 .bf16 := iblk m c 2 t
theorem blk2 (c : Dev nD) (t : Fin cfg0.N) (r : Fin 1024) (l : Fin 1408) :
    bk2 m c t (ix2 r l) = w m c (ix2 r ⟨((t.val % 2 + 2)) * 1408 + l.val, by have := lt8 t; omega⟩) := by
  have h := at0 t
  unfold bk2 iblk
  rw [View.read_apply]
  show V m c main_arg1 _ = m (c.tc.loc main_arg1) _
  unfold V
  congr 1
  funext a
  apply Fin.ext
  match a with
  | ⟨0, _⟩ => show win0_2.index t 0 * 1024 + 1 * r.val = r.val; rw [h.2.2.2.2.1]; omega
  | ⟨1, _⟩ => show win0_2.index t 1 * 1408 + 1 * l.val = ((t.val % 2 + 2)) * 1408 + l.val; rw [h.2.2.2.2.2.1]; omega

/-- The gate and the up part. -/
def ga (c : Dev nD) (r : Fin 2048) (l : Fin 2816) : EReal := ∑ k : Fin 1024, h m c (ix2 r k) * w m c (ix2 k ⟨l.val, by omega⟩)
def up (c : Dev nD) (r : Fin 2048) (l : Fin 2816) : EReal := ∑ k : Fin 1024, h m c (ix2 r k) * w m c (ix2 k ⟨2816 + l.val, by omega⟩)

/-- What result array 0 holds. -/
def G3 (c : Dev nD) : Buf (Elt Ideal) ((c : Thread nD τ).loc main_v0_0) := fun i => ga m c (i 0) (i 1)
/-- What result array 1 holds. -/
def G4 (c : Dev nD) : Buf (Elt Ideal) ((c : Thread nD τ).loc main_v0_1) := fun i => up m c (i 0) (i 1)
/-- What result array 2 holds. -/
def G5 (c : Dev nD) : Buf (Elt Ideal) ((c : Thread nD τ).loc main_v0_2) := fun i => ga m c (i 0) (i 1) * Ideal.logistic (ga m c (i 0) (i 1)) * up m c (i 0) (i 1)

/-- A block's product, at an index. -/
theorem pay1_apply (x0 : Vec Ideal S512x1024 .bf16) (x1 : Vec Ideal S1024x1408 .bf16) (r : Fin 512) (l : Fin 1408) :
    k0_pay1 x0 x1 (ix2 r l) = ∑ k : Fin 1024, x0 (ix2 r k) * x1 (ix2 k l) := by
  unfold k0_pay1
  pointwise
/-- A block's product, at an index. -/
theorem pay2_apply (x0 : Vec Ideal S512x1024 .bf16) (x1 : Vec Ideal S1024x1408 .bf16) (r : Fin 512) (l : Fin 1408) :
    k0_pay2 x0 x1 (ix2 r l) = ∑ k : Fin 1024, x0 (ix2 r k) * x1 (ix2 k l) := by
  unfold k0_pay2
  pointwise
theorem flushed3_eq (c : Dev nD) (t : Fin cfg0.N) :
    (dats m 0 c).flushed 3 t = ((cfg0.win 3).blk t).view.read (Elt Ideal) (G3 m c) := by
  have h := at0 t
  rw [Value.flushed3]
  unfold out0_3
  rw [View.canon_unit_zero hz, View.ld_unit_zero hz, View.ld_unit_zero hz]
  funext j
  obtain ⟨r, l, rfl⟩ : ∃ (r : Fin 512) (l : Fin 1408), j = ix2 r l := ⟨j 0, j 1, eq_ix2 j⟩
  rw [View.read_apply]
  have e0 : ((cfg0.win 3).blk t).view.emb (ix2 r l) = ix2 ⟨((t.val / 2)) * 512 + r.val, by have := lt8 t; omega⟩ ⟨((t.val % 2)) * 1408 + l.val, by have := lt8 t; omega⟩ := by
    funext a
    apply Fin.ext
    match a with
    | ⟨0, _⟩ => show win0_3.index t 0 * 512 + 1 * r.val = ((t.val / 2)) * 512 + r.val; rw [h.2.2.2.2.2.2.1]; omega
    | ⟨1, _⟩ => show win0_3.index t 1 * 1408 + 1 * l.val = ((t.val % 2)) * 1408 + l.val; rw [h.2.2.2.2.2.2.2.1]; omega
  rw [e0]
  show k0_pay1 (bk0 m c t) (bk1 m c t) (ix2 r l) = G3 m c (ix2 ⟨((t.val / 2)) * 512 + r.val, by have := lt8 t; omega⟩ ⟨((t.val % 2)) * 1408 + l.val, by have := lt8 t; omega⟩)
  rw [pay1_apply]
  unfold G3 ga
  simp only [blk0, blk1]
  rfl

theorem mem_blk3 (t : Fin cfg0.N) (i : S2048x2816.Idx) : i ∈ ((cfg0.win 3).blk t).view.set ↔ ∀ d,
    win0_3.index t d * S512x1408.size d ≤ (i d).val
      ∧ (i d).val < win0_3.index t d * S512x1408.size d + S512x1408.size d := by
  show i ∈ ((View.whole main_v0_0).slice (win0_3.rect t)).set ↔ _
  rw [View.set_slice_whole, Rect.mem_set_unit]

theorem cover3 (i : S2048x2816.Idx) : ∃ t : Fin cfg0.N, (cfg0.win 3).flush t = true ∧ i ∈ ((cfg0.win 3).blk t).view.set := by
  have h0 : (i 0).val < 2048 := (i 0).isLt
  have h1 : (i 1).val < 2816 := (i 1).isLt
  have hN : ((i 0).val / 512 * 2 + (i 1).val / 1408) < cfg0.N := by
    show _ < grid0.N
    rw [N_0]; omega
  refine ⟨⟨_, hN⟩, flush0_3 _, (mem_blk3 _ i).2 fun d => ?_⟩
  have h := at0 ⟨((i 0).val / 512 * 2 + (i 1).val / 1408), hN⟩
  have e0 := h.2.2.2.2.2.2.1
  have e1 := h.2.2.2.2.2.2.2.1
  match d with
  | ⟨0, _⟩ =>
    show win0_3.index _ 0 * 512 ≤ (i 0).val ∧ (i 0).val < win0_3.index _ 0 * 512 + 512
    rw [e0]; dsimp only; omega
  | ⟨1, _⟩ =>
    show win0_3.index _ 1 * 1408 ≤ (i 1).val ∧ (i 1).val < win0_3.index _ 1 * 1408 + 1408
    rw [e1]; dsimp only; omega

theorem flushed4_eq (c : Dev nD) (t : Fin cfg0.N) :
    (dats m 0 c).flushed 4 t = ((cfg0.win 4).blk t).view.read (Elt Ideal) (G4 m c) := by
  have h := at0 t
  rw [Value.flushed4]
  unfold out0_4
  rw [View.canon_unit_zero hz, View.ld_unit_zero hz, View.ld_unit_zero hz]
  funext j
  obtain ⟨r, l, rfl⟩ : ∃ (r : Fin 512) (l : Fin 1408), j = ix2 r l := ⟨j 0, j 1, eq_ix2 j⟩
  rw [View.read_apply]
  have e0 : ((cfg0.win 4).blk t).view.emb (ix2 r l) = ix2 ⟨((t.val / 2)) * 512 + r.val, by have := lt8 t; omega⟩ ⟨((t.val % 2)) * 1408 + l.val, by have := lt8 t; omega⟩ := by
    funext a
    apply Fin.ext
    match a with
    | ⟨0, _⟩ => show win0_4.index t 0 * 512 + 1 * r.val = ((t.val / 2)) * 512 + r.val; rw [h.2.2.2.2.2.2.2.2.1]; omega
    | ⟨1, _⟩ => show win0_4.index t 1 * 1408 + 1 * l.val = ((t.val % 2)) * 1408 + l.val; rw [h.2.2.2.2.2.2.2.2.2.1]; omega
  rw [e0]
  show k0_pay2 (bk0 m c t) (bk2 m c t) (ix2 r l) = G4 m c (ix2 ⟨((t.val / 2)) * 512 + r.val, by have := lt8 t; omega⟩ ⟨((t.val % 2)) * 1408 + l.val, by have := lt8 t; omega⟩)
  have e : (t.val % 2 + 2) * 1408 + l.val = 2816 + (t.val % 2 * 1408 + l.val) := by omega
  rw [pay2_apply]
  unfold G4 up
  simp only [blk0, blk2, e]
  rfl

theorem mem_blk4 (t : Fin cfg0.N) (i : S2048x2816.Idx) : i ∈ ((cfg0.win 4).blk t).view.set ↔ ∀ d,
    win0_4.index t d * S512x1408.size d ≤ (i d).val
      ∧ (i d).val < win0_4.index t d * S512x1408.size d + S512x1408.size d := by
  show i ∈ ((View.whole main_v0_1).slice (win0_4.rect t)).set ↔ _
  rw [View.set_slice_whole, Rect.mem_set_unit]

theorem cover4 (i : S2048x2816.Idx) : ∃ t : Fin cfg0.N, (cfg0.win 4).flush t = true ∧ i ∈ ((cfg0.win 4).blk t).view.set := by
  have h0 : (i 0).val < 2048 := (i 0).isLt
  have h1 : (i 1).val < 2816 := (i 1).isLt
  have hN : ((i 0).val / 512 * 2 + (i 1).val / 1408) < cfg0.N := by
    show _ < grid0.N
    rw [N_0]; omega
  refine ⟨⟨_, hN⟩, flush0_4 _, (mem_blk4 _ i).2 fun d => ?_⟩
  have h := at0 ⟨((i 0).val / 512 * 2 + (i 1).val / 1408), hN⟩
  have e0 := h.2.2.2.2.2.2.2.2.1
  have e1 := h.2.2.2.2.2.2.2.2.2.1
  match d with
  | ⟨0, _⟩ =>
    show win0_4.index _ 0 * 512 ≤ (i 0).val ∧ (i 0).val < win0_4.index _ 0 * 512 + 512
    rw [e0]; dsimp only; omega
  | ⟨1, _⟩ =>
    show win0_4.index _ 1 * 1408 ≤ (i 1).val ∧ (i 1).val < win0_4.index _ 1 * 1408 + 1408
    rw [e1]; dsimp only; omega

theorem flushed5_eq (c : Dev nD) (t : Fin cfg0.N) :
    (dats m 0 c).flushed 5 t = ((cfg0.win 5).blk t).view.read (Elt Ideal) (G5 m c) := by
  have h := at0 t
  rw [Value.flushed5]
  unfold out0_5
  rw [View.canon_unit_zero hz, View.ld_unit_zero hz, View.ld_unit_zero hz, View.ld_unit_zero hz]
  funext j
  obtain ⟨r, l, rfl⟩ : ∃ (r : Fin 512) (l : Fin 1408), j = ix2 r l := ⟨j 0, j 1, eq_ix2 j⟩
  rw [View.read_apply]
  have e0 : ((cfg0.win 5).blk t).view.emb (ix2 r l) = ix2 ⟨((t.val / 2)) * 512 + r.val, by have := lt8 t; omega⟩ ⟨((t.val % 2)) * 1408 + l.val, by have := lt8 t; omega⟩ := by
    funext a
    apply Fin.ext
    match a with
    | ⟨0, _⟩ => show win0_5.index t 0 * 512 + 1 * r.val = ((t.val / 2)) * 512 + r.val; rw [h.2.2.2.2.2.2.2.2.2.2.1]; omega
    | ⟨1, _⟩ => show win0_5.index t 1 * 1408 + 1 * l.val = ((t.val % 2)) * 1408 + l.val; rw [h.2.2.2.2.2.2.2.2.2.2.2]; omega
  rw [e0]
  show k0_pay3 (bk0 m c t) (bk1 m c t) (bk2 m c t) (ix2 r l) = G5 m c (ix2 ⟨((t.val / 2)) * 512 + r.val, by have := lt8 t; omega⟩ ⟨((t.val % 2)) * 1408 + l.val, by have := lt8 t; omega⟩)
  have e : (t.val % 2 + 2) * 1408 + l.val = 2816 + (t.val % 2 * 1408 + l.val) := by omega
  unfold k0_pay3 G5 ga up
  pointwise
  simp only [pay1_apply, pay2_apply, blk0, blk1, blk2, e]

theorem mem_blk5 (t : Fin cfg0.N) (i : S2048x2816.Idx) : i ∈ ((cfg0.win 5).blk t).view.set ↔ ∀ d,
    win0_5.index t d * S512x1408.size d ≤ (i d).val
      ∧ (i d).val < win0_5.index t d * S512x1408.size d + S512x1408.size d := by
  show i ∈ ((View.whole main_v0_2).slice (win0_5.rect t)).set ↔ _
  rw [View.set_slice_whole, Rect.mem_set_unit]

theorem cover5 (i : S2048x2816.Idx) : ∃ t : Fin cfg0.N, (cfg0.win 5).flush t = true ∧ i ∈ ((cfg0.win 5).blk t).view.set := by
  have h0 : (i 0).val < 2048 := (i 0).isLt
  have h1 : (i 1).val < 2816 := (i 1).isLt
  have hN : ((i 0).val / 512 * 2 + (i 1).val / 1408) < cfg0.N := by
    show _ < grid0.N
    rw [N_0]; omega
  refine ⟨⟨_, hN⟩, flush0_5 _, (mem_blk5 _ i).2 fun d => ?_⟩
  have h := at0 ⟨((i 0).val / 512 * 2 + (i 1).val / 1408), hN⟩
  have e0 := h.2.2.2.2.2.2.2.2.2.2.1
  have e1 := h.2.2.2.2.2.2.2.2.2.2.2
  match d with
  | ⟨0, _⟩ =>
    show win0_5.index _ 0 * 512 ≤ (i 0).val ∧ (i 0).val < win0_5.index _ 0 * 512 + 512
    rw [e0]; dsimp only; omega
  | ⟨1, _⟩ =>
    show win0_5.index _ 1 * 1408 ≤ (i 1).val ∧ (i 1).val < win0_5.index _ 1 * 1408 + 1408
    rw [e1]; dsimp only; omega

/-- Every run ends with gate, up part and gated unit in the result arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = G3 m c
      ∧ r.2.mem ((c : Thread nD τ).loc main_v0_1) = G4 m c
      ∧ r.2.mem ((c : Thread nD τ).loc main_v0_2) = G5 m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c =>
    ⟨(h c).1.trans (Dat.arrAt_eq_of_cover (dats m 0 c) 3 (G3 m c) (fun t _ => flushed3_eq m c t) cover3),
      (h c).2.1.trans (Dat.arrAt_eq_of_cover (dats m 0 c) 4 (G4 m c) (fun t _ => flushed4_eq m c t) cover4),
      (h c).2.2.1.trans (Dat.arrAt_eq_of_cover (dats m 0 c) 5 (G5 m c) (fun t _ => flushed5_eq m c t) cover5),
      (h c).2.2.2⟩)
    (Value.run_blocks m ρ)

end Cert.GateUpIdeal.Hand

end
-- ==== Proof.GateUpEq.lean ====
/- Gate, up part and gated unit: the reference read at an index is the kernel. -/
module

public import proofs.«01_k».proof.Proof.GateUpValue
public import proofs.«01_k».proof.Proof.Gen.GateUpReferenceIdeal.Run
public import Idealize.ShloMosaic.Lib.Quiescent

@[expose] public section

set_option maxRecDepth 16384

noncomputable section

namespace Cert.GateUpReferenceIdeal.Hand

open Cert.GateUpReferenceIdeal Cert.GateUpReferenceIdeal.Gen Idealize.ShloMosaic Idealize.ShloMosaic.TcCoe Idealize.SL.Sem
open Cert.GateUpIdeal.Hand (G3 G4 G5 ga up)

/-- The reference's run leaves nothing behind and changes no argument. -/
theorem quiet : Cert.quiescent_GateUpReferenceIdeal := fun m ρ _ =>
  (θ_run defs _ _).mono (fun r h => ⟨fun c => (h c).2.2.2,
    Idealize.ShloMosaic.sem_eq_zero_of_no_sems (by decide) r.2⟩) (Cert.GateUpReferenceIdeal.Value.run (F := Ideal) m ρ)

/-- What the kernel leaves in its result arrays is what the reference computes. -/
theorem alg : Cert.algebraic_GateUpIdeal_GateUpReferenceIdeal := fun m g m' g' _ hagree =>
  ⟨G3 m, G4 m, G5 m, Cert.GateUpIdeal.Hand.run m g,
    (θ_run defs _ _).mono (fun r h c => by
      obtain ⟨e0, e1⟩ := hagree c
      refine ⟨(h c).1.trans ?_, (h c).2.1.trans ?_, (h c).2.2.1.trans ?_, (h c).2.2.2⟩
      all_goals
        simp only [e0, e1]
        clear h
        funext i
      · obtain ⟨r, l, rfl⟩ : ∃ (r : Fin 2048) (l : Fin 2816), i = ix2 r l := ⟨i 0, i 1, eq_ix2 i⟩
        unfold G3 ga
        pointwise
      · obtain ⟨r, l, rfl⟩ : ∃ (r : Fin 2048) (l : Fin 2816), i = ix2 r l := ⟨i 0, i 1, eq_ix2 i⟩
        unfold G4 up
        pointwise
      · obtain ⟨r, l, rfl⟩ : ∃ (r : Fin 2048) (l : Fin 2816), i = ix2 r l := ⟨i 0, i 1, eq_ix2 i⟩
        unfold G5 ga up
        pointwise
        rfl)
    (Cert.GateUpReferenceIdeal.Value.run (F := Ideal) m' g')⟩

end Cert.GateUpReferenceIdeal.Hand

end
-- ==== Proof.KvGradValue.lean ====
/- The gradient of the projections to keys and values: what one grid point computes, what the result array holds. -/
module

public import proofs.«01_k».proof.Defs
public import proofs.«01_k».proof.Proof.Gen.KvGradIdeal.Value
public import Idealize.ShloMosaic.Lib.StableHlo.Run
public import Idealize.ShloMosaic.Lib.Pipeline.Value
public import Idealize.ShloMosaic.Lib.Pointwise

@[expose] public section

set_option maxRecDepth 16384

noncomputable section

namespace Cert.KvGradIdeal.Hand

open Cert.KvGradIdeal Cert.KvGradIdeal.Gen Idealize.ShloMosaic Idealize.ShloMosaic.TcCoe Idealize.SL.Sem
open Idealize.ShloMosaic.Pipeline (Dat)

variable (m : (ℓ : Loc nD τ sig) → Buf (Elt Ideal) ℓ)

/-- The keys' gradient from the block before. -/
abbrev kb (c : Dev nD) : S2048x256.Idx → EReal := m ((c : Thread nD τ).loc main_arg0)
/-- The keys' gradient from the own block. -/
abbrev ko (c : Dev nD) : S2048x256.Idx → EReal := m ((c : Thread nD τ).loc main_arg1)
/-- The values' gradient from the block before. -/
abbrev vb (c : Dev nD) : S2048x256.Idx → EReal := m ((c : Thread nD τ).loc main_arg2)
/-- The values' gradient from the own block. -/
abbrev vo (c : Dev nD) : S2048x256.Idx → EReal := m ((c : Thread nD τ).loc main_arg3)
/-- The cosines. -/
abbrev cs (c : Dev nD) : S2048x8.Idx → EReal := m ((c : Thread nD τ).loc main_arg4)
/-- The sines. -/
abbrev sn (c : Dev nD) : S2048x8.Idx → EReal := m ((c : Thread nD τ).loc main_arg5)

/-- The three tables that the host lays out of the cosines and the sines: the factor of the entry itself, of the entry
    eight lanes above, of the entry eight lanes below. -/
abbrev tC (c : Dev nD) : S2048x256.Idx → EReal := V m c main_v7
abbrev tU (c : Dev nD) : S2048x256.Idx → EReal := V m c main_v8
abbrev tD (c : Dev nD) : S2048x256.Idx → EReal := V m c main_v9

theorem hz : (![0, 0] : Fin 2 → Nat) = fun _ => 0 := funext fun a => by fin_cases a <;> rfl

/-- Which blocks grid point `t` reads and writes. -/
theorem at0 : ∀ t : Fin cfg0.N, win0_0.index t 0 = t.val
    ∧ win0_0.index t 1 = 0
    ∧ win0_1.index t 0 = t.val
    ∧ win0_1.index t 1 = 0
    ∧ win0_2.index t 0 = t.val
    ∧ win0_2.index t 1 = 0
    ∧ win0_3.index t 0 = t.val
    ∧ win0_3.index t 1 = 0
    ∧ win0_4.index t 0 = t.val
    ∧ win0_4.index t 1 = 0
    ∧ win0_5.index t 0 = t.val
    ∧ win0_5.index t 1 = 0
    ∧ win0_6.index t 0 = t.val
    ∧ win0_6.index t 1 = 0
    ∧ win0_7.index t 0 = t.val
    ∧ win0_7.index t 1 = 0 :=
  (by decide +kernel : ∀ t : Fin grid0.N, _)

theorem lt4 (t : Fin cfg0.N) : t.val < 4 := lt_of_lt_of_eq t.isLt N_0

/-- Input block 0 of grid point `t`. -/
abbrev bk0 (c : Dev nD) (t : Fin cfg0.N) : Vec Ideal S512x256 .f32 := iblk m c 0 t
theorem blk0 (c : Dev nD) (t : Fin cfg0.N) (r : Fin 512) (l : Fin 256) :
    bk0 m c t (ix2 r l) = kb m c (ix2 ⟨t.val * 512 + r.val, by have := lt4 t; omega⟩ l) := by
  have h := at0 t
  unfold bk0 iblk
  rw [View.read_apply]
  show V m c main_arg0 _ = _
  rw [V_main_arg0]
  congr 1
  funext a
  apply Fin.ext
  match a with
  | ⟨0, _⟩ => show win0_0.index t 0 * 512 + 1 * r.val = t.val * 512 + r.val; rw [h.1]; omega
  | ⟨1, _⟩ => show win0_0.index t 1 * 256 + 1 * l.val = l.val; rw [h.2.1]; omega

/-- Input block 1 of grid point `t`. -/
abbrev bk1 (c : Dev nD) (t : Fin cfg0.N) : Vec Ideal S512x256 .f32 := iblk m c 1 t
theorem blk1 (c : Dev nD) (t : Fin cfg0.N) (r : Fin 512) (l : Fin 256) :
    bk1 m c t (ix2 r l) = ko m c (ix2 ⟨t.val * 512 + r.val, by have := lt4 t; omega⟩ l) := by
  have h := at0 t
  unfold bk1 iblk
  rw [View.read_apply]
  show V m c main_arg1 _ = _
  rw [V_main_arg1]
  congr 1
  funext a
  apply Fin.ext
  match a with
  | ⟨0, _⟩ => show win0_1.index t 0 * 512 + 1 * r.val = t.val * 512 + r.val; rw [h.2.2.1]; omega
  | ⟨1, _⟩ => show win0_1.index t 1 * 256 + 1 * l.val = l.val; rw [h.2.2.2.1]; omega

/-- Input block 2 of grid point `t`. -/
abbrev bk2 (c : Dev nD) (t : Fin cfg0.N) : Vec Ideal S512x256 .f32 := iblk m c 2 t
theorem blk2 (c : Dev nD) (t : Fin cfg0.N) (r : Fin 512) (l : Fin 256) :
    bk2 m c t (ix2 r l) = vb m c (ix2 ⟨t.val * 512 + r.val, by have := lt4 t; omega⟩ l) := by
  have h := at0 t
  unfold bk2 iblk
  rw [View.read_apply]
  show V m c main_arg2 _ = _
  rw [V_main_arg2]
  congr 1
  funext a
  apply Fin.ext
  match a with
  | ⟨0, _⟩ => show win0_2.index t 0 * 512 + 1 * r.val = t.val * 512 + r.val; rw [h.2.2.2.2.1]; omega
  | ⟨1, _⟩ => show win0_2.index t 1 * 256 + 1 * l.val = l.val; rw [h.2.2.2.2.2.1]; omega

/-- Input block 3 of grid point `t`. -/
abbrev bk3 (c : Dev nD) (t : Fin cfg0.N) : Vec Ideal S512x256 .f32 := iblk m c 3 t
theorem blk3 (c : Dev nD) (t : Fin cfg0.N) (r : Fin 512) (l : Fin 256) :
    bk3 m c t (ix2 r l) = vo m c (ix2 ⟨t.val * 512 + r.val, by have := lt4 t; omega⟩ l) := by
  have h := at0 t
  unfold bk3 iblk
  rw [View.read_apply]
  show V m c main_arg3 _ = _
  rw [V_main_arg3]
  congr 1
  funext a
  apply Fin.ext
  match a with
  | ⟨0, _⟩ => show win0_3.index t 0 * 512 + 1 * r.val = t.val * 512 + r.val; rw [h.2.2.2.2.2.2.1]; omega
  | ⟨1, _⟩ => show win0_3.index t 1 * 256 + 1 * l.val = l.val; rw [h.2.2.2.2.2.2.2.1]; omega

/-- Input block 4 of grid point `t`. -/
abbrev bk4 (c : Dev nD) (t : Fin cfg0.N) : Vec Ideal S512x256 .f32 := iblk m c 4 t
theorem blk4 (c : Dev nD) (t : Fin cfg0.N) (r : Fin 512) (l : Fin 256) :
    bk4 m c t (ix2 r l) = tC m c (ix2 ⟨t.val * 512 + r.val, by have := lt4 t; omega⟩ l) := by
  have h := at0 t
  unfold bk4 iblk
  rw [View.read_apply]
  show V m c main_v7 _ = V m c main_v7 _
  congr 1
  funext a
  apply Fin.ext
  match a with
  | ⟨0, _⟩ => show win0_4.index t 0 * 512 + 1 * r.val = t.val * 512 + r.val; rw [h.2.2.2.2.2.2.2.2.1]; omega
  | ⟨1, _⟩ => show win0_4.index t 1 * 256 + 1 * l.val = l.val; rw [h.2.2.2.2.2.2.2.2.2.1]; omega

/-- Input block 5 of grid point `t`. -/
abbrev bk5 (c : Dev nD) (t : Fin cfg0.N) : Vec Ideal S512x256 .f32 := iblk m c 5 t
theorem blk5 (c : Dev nD) (t : Fin cfg0.N) (r : Fin 512) (l : Fin 256) :
    bk5 m c t (ix2 r l) = tU m c (ix2 ⟨t.val * 512 + r.val, by have := lt4 t; omega⟩ l) := by
  have h := at0 t
  unfold bk5 iblk
  rw [View.read_apply]
  show V m c main_v8 _ = V m c main_v8 _
  congr 1
  funext a
  apply Fin.ext
  match a with
  | ⟨0, _⟩ => show win0_5.index t 0 * 512 + 1 * r.val = t.val * 512 + r.val; rw [h.2.2.2.2.2.2.2.2.2.2.1]; omega
  | ⟨1, _⟩ => show win0_5.index t 1 * 256 + 1 * l.val = l.val; rw [h.2.2.2.2.2.2.2.2.2.2.2.1]; omega

/-- Input block 6 of grid point `t`. -/
abbrev bk6 (c : Dev nD) (t : Fin cfg0.N) : Vec Ideal S512x256 .f32 := iblk m c 6 t
theorem blk6 (c : Dev nD) (t : Fin cfg0.N) (r : Fin 512) (l : Fin 256) :
    bk6 m c t (ix2 r l) = tD m c (ix2 ⟨t.val * 512 + r.val, by have := lt4 t; omega⟩ l) := by
  have h := at0 t
  unfold bk6 iblk
  rw [View.read_apply]
  show V m c main_v9 _ = V m c main_v9 _
  congr 1
  funext a
  apply Fin.ext
  match a with
  | ⟨0, _⟩ => show win0_6.index t 0 * 512 + 1 * r.val = t.val * 512 + r.val; rw [h.2.2.2.2.2.2.2.2.2.2.2.2.1]; omega
  | ⟨1, _⟩ => show win0_6.index t 1 * 256 + 1 * l.val = l.val; rw [h.2.2.2.2.2.2.2.2.2.2.2.2.2.1]; omega

/-- One head's lanes of a table: eight, eight, and the rest. -/
def lanes (a b : Vec Ideal S2048x8 .f32) (z : Vec Ideal S2048x48 .f32) : Vec Ideal S2048x64 .f32 :=
  concatenate S2048x64 1 [⟨S2048x8, a⟩, ⟨S2048x8, b⟩, ⟨S2048x48, z⟩] concatenates_S2048x8_S2048x8_S2048x48_S2048x64_d1
/-- The lanes of the four heads, side by side. -/
def heads (x y z w : Vec Ideal S2048x64 .f32) : Vec Ideal S2048x256 .f32 :=
  concatenate S2048x256 1 [⟨S2048x64, x⟩, ⟨S2048x64, y⟩, ⟨S2048x64, z⟩, ⟨S2048x64, w⟩] concatenates_S2048x64_S2048x64_S2048x64_S2048x64_S2048x256_d1

theorem lanes_apply (a b : Vec Ideal S2048x8 .f32) (z : Vec Ideal S2048x48 .f32) (r : Fin 2048) (l : Fin 64) :
    lanes a b z (ix2 r l) = if h : l.val < 8 then a (ix2 r ⟨l.val, h⟩)
      else if h2 : l.val < 16 then b (ix2 r ⟨l.val - 8, by omega⟩) else z (ix2 r ⟨l.val - 16, by omega⟩) := by
  unfold lanes
  pointwise
  by_cases h1 : l.val < 8
  · rw [dif_pos h1, dif_pos h1]
  · rw [dif_neg h1, dif_neg h1]
    by_cases h2 : l.val < 16
    · rw [dif_pos (by omega : l.val - 8 < 8), dif_pos h2]
    · rw [dif_neg (by omega : ¬ l.val - 8 < 8), dif_neg h2]
      rfl
theorem heads_apply (x : Vec Ideal S2048x64 .f32) (r : Fin 2048) (l : Fin 256) :
    heads x x x x (ix2 r l) = x (ix2 r ⟨l.val % 64, by omega⟩) := by
  unfold heads
  pointwise
  split_ifs <;> exact congrArg (fun k => x (ix2 r k)) (Fin.ext (by show _ = l.val % 64; dsimp only; omega))

/-- The same lanes for each head. -/
def four (x : Vec Ideal S2048x64 .f32) : Vec Ideal S2048x256 .f32 := heads x x x x

/-- The lanes that hold one, and those that hold zero. -/
def ones : Vec Ideal S2048x48 .f32 := broadcastInDim S2048x48 ![] bcast_S_S2048x48 (constant (F := Ideal) S_ .f32 0x3F800000#32)
def zeros : Vec Ideal S2048x48 .f32 := broadcastInDim S2048x48 ![] bcast_S_S2048x48 (constant (F := Ideal) S_ .f32 0x00000000#32)
def zeros8 : Vec Ideal S2048x8 .f32 := broadcastInDim S2048x8 ![] bcast_S_S2048x8 (constant (F := Ideal) S_ .f32 0x00000000#32)
theorem ones_apply (r : Fin 2048) (l : Fin 48) : ones (ix2 r l) = 1 := by
  unfold ones
  pointwise
theorem zeros_apply (r : Fin 2048) (l : Fin 48) : zeros (ix2 r l) = 0 := by
  unfold zeros
  pointwise
theorem zeros8_apply (r : Fin 2048) (l : Fin 8) : zeros8 (ix2 r l) = 0 := by
  unfold zeros8
  pointwise

/-- The host's operations before the call, each laying out of lanes named. -/
def hostList : List (HloOp τ sig (Elt Ideal)) :=
  [ StableHlo.nullary main_cst (constant (F := Ideal) S_ .f32 0x3F800000#32),
    StableHlo.unary main_cst main_v0 (broadcastInDim S2048x48 ![] bcast_S_S2048x48 : (⟨S_, .f32⟩ : BufTy).Contents (Elt Ideal) → (⟨S2048x48, .f32⟩ : BufTy).Contents (Elt Ideal)),
    StableHlo.nullary main_cst_0 (constant (F := Ideal) S_ .f32 0x00000000#32),
    StableHlo.unary main_cst_0 main_v1 (broadcastInDim S2048x48 ![] bcast_S_S2048x48 : (⟨S_, .f32⟩ : BufTy).Contents (Elt Ideal) → (⟨S2048x48, .f32⟩ : BufTy).Contents (Elt Ideal)),
    StableHlo.nullary main_cst_1 (constant (F := Ideal) S_ .f32 0x00000000#32),
    StableHlo.unary main_cst_1 main_v2 (broadcastInDim S2048x8 ![] bcast_S_S2048x8 : (⟨S_, .f32⟩ : BufTy).Contents (Elt Ideal) → (⟨S2048x8, .f32⟩ : BufTy).Contents (Elt Ideal)),
    StableHlo.nary ![main_arg4, main_arg4, main_v0] main_v3 (fun u => (lanes (u 0) (u 1) (u 2) : (⟨S2048x64, .f32⟩ : BufTy).Contents (Elt Ideal))),
    StableHlo.unary main_arg5 main_v4 (Host.negf (F := Ideal) (s := S2048x8) (φ := .f32) : (⟨S2048x8, .f32⟩ : BufTy).Contents (Elt Ideal) → (⟨S2048x8, .f32⟩ : BufTy).Contents (Elt Ideal)),
    StableHlo.nary ![main_v4, main_v2, main_v1] main_v5 (fun u => (lanes (u 0) (u 1) (u 2) : (⟨S2048x64, .f32⟩ : BufTy).Contents (Elt Ideal))),
    StableHlo.nary ![main_v2, main_arg5, main_v1] main_v6 (fun u => (lanes (u 0) (u 1) (u 2) : (⟨S2048x64, .f32⟩ : BufTy).Contents (Elt Ideal))),
    StableHlo.nary ![main_v3, main_v3, main_v3, main_v3] main_v7 (fun u => (heads (u 0) (u 1) (u 2) (u 3) : (⟨S2048x256, .f32⟩ : BufTy).Contents (Elt Ideal))),
    StableHlo.nary ![main_v5, main_v5, main_v5, main_v5] main_v8 (fun u => (heads (u 0) (u 1) (u 2) (u 3) : (⟨S2048x256, .f32⟩ : BufTy).Contents (Elt Ideal))),
    StableHlo.nary ![main_v6, main_v6, main_v6, main_v6] main_v9 (fun u => (heads (u 0) (u 1) (u 2) (u 3) : (⟨S2048x256, .f32⟩ : BufTy).Contents (Elt Ideal))) ]
theorem hostList_eq : hostOps0 (F := Ideal) = hostList := rfl

theorem tC_eq (c : Dev nD) : tC m c = four (lanes (cs m c) (cs m c) ones) := by
  unfold tC V
  rw [hostList_eq]
  unfold hostList
  after_results_simp <;> (try dsimp only [Matrix.cons_val]) <;> (try after_results_simp) <;> (try dsimp only [Matrix.cons_val]) <;> (try after_results_simp) <;> rfl
theorem tU_eq (c : Dev nD) : tU m c = four (lanes (Host.negf (F := Ideal) (s := S2048x8) (φ := .f32) (sn m c)) zeros8 zeros) := by
  unfold tU V
  rw [hostList_eq]
  unfold hostList
  after_results_simp <;> (try dsimp only [Matrix.cons_val]) <;> (try after_results_simp) <;> (try dsimp only [Matrix.cons_val]) <;> (try after_results_simp) <;> rfl
theorem tD_eq (c : Dev nD) : tD m c = four (lanes zeros8 (sn m c) zeros) := by
  unfold tD V
  rw [hostList_eq]
  unfold hostList
  after_results_simp <;> (try dsimp only [Matrix.cons_val]) <;> (try after_results_simp) <;> (try dsimp only [Matrix.cons_val]) <;> (try after_results_simp) <;> rfl

/-- The sum of the two parts of the keys' gradient. -/
def d (c : Dev nD) (r : Fin 2048) (l : Fin 256) : EReal := ko m c (ix2 r l) + kb m c (ix2 r l)
/-- That sum, turned back by its position's angle: in each head of 64 lanes the first sixteen turn in pairs eight apart. -/
def turned (c : Dev nD) (r : Fin 2048) (l : Fin 256) : EReal :=
  if h : l.val % 64 < 8 then
    d m c r l * cs m c (ix2 r ⟨l.val % 64, h⟩) + d m c r ⟨l.val + 8, by omega⟩ * sn m c (ix2 r ⟨l.val % 64, h⟩)
  else if h2 : l.val % 64 < 16 then
    d m c r l * cs m c (ix2 r ⟨l.val % 64 - 8, by omega⟩) - d m c r ⟨l.val - 8, by omega⟩ * sn m c (ix2 r ⟨l.val % 64 - 8, by omega⟩)
  else d m c r l

/-- The sum of the two parts of the values' gradient. -/
def vsum (c : Dev nD) (r : Fin 2048) (l : Fin 256) : EReal := vo m c (ix2 r l) + vb m c (ix2 r l)

/-- What the result array holds: the keys' part and the values' part, side by side. -/
def G7 (c : Dev nD) : Buf (Elt Ideal) ((c : Thread nD τ).loc main_v10) := fun i =>
  if h : (i 1).val < 256 then turned m c (i 0) ⟨(i 1).val, h⟩
  else vsum m c (i 0) ⟨(i 1).val - 256, by have h2 : (i 1).val < 512 := (i 1).isLt; omega⟩

theorem pay2_apply (x0 x1 : Vec Ideal S512x256 .f32) (r : Fin 512) (l : Fin 256) :
    k0_pay2 x0 x1 (ix2 r l) = x0 (ix2 r l) + x1 (ix2 r l) := by
  unfold k0_pay2
  pointwise
theorem pay1_apply (x0 x1 x2 x3 x4 : Vec Ideal S512x256 .f32) (r : Fin 512) (l : Fin 256) :
    k0_pay1 x0 x1 x2 x3 x4 (ix2 r l) = (x0 (ix2 r l) + x1 (ix2 r l)) * x2 (ix2 r l)
      + (x0 (ix2 r ⟨(l.val + 256 - 248) % 256, by omega⟩) + x1 (ix2 r ⟨(l.val + 256 - 248) % 256, by omega⟩)) * (0 - x3 (ix2 r l))
      + (x0 (ix2 r ⟨(l.val + 256 - 8) % 256, by omega⟩) + x1 (ix2 r ⟨(l.val + 256 - 8) % 256, by omega⟩)) * (0 - x4 (ix2 r l)) := by
  unfold k0_pay1
  pointwise

/-- The kernel's three products are the turned entry. -/
theorem turn_eq (c : Dev nD) (r : Fin 2048) (l : Fin 256) :
    d m c r l * tC m c (ix2 r l) + d m c r ⟨(l.val + 256 - 248) % 256, by omega⟩ * (0 - tU m c (ix2 r l))
      + d m c r ⟨(l.val + 256 - 8) % 256, by omega⟩ * (0 - tD m c (ix2 r l)) = turned m c r l := by
  have hn : ∀ x : S2048x8.Idx, Host.negf (F := Ideal) (s := S2048x8) (φ := .f32) (sn m c) x = -sn m c x := fun _ => rfl
  rw [tC_eq, tU_eq, tD_eq]
  unfold four
  rw [heads_apply, heads_apply, heads_apply, lanes_apply, lanes_apply, lanes_apply]
  unfold turned
  by_cases h1 : l.val % 64 < 8
  · have e : (⟨(l.val + 256 - 248) % 256, by omega⟩ : Fin 256) = ⟨l.val + 8, by omega⟩ := Fin.ext (by dsimp only; omega)
    rw [e]
    simp only [h1, dite_true, zeros8_apply, hn]
    rw [sub_zero, mul_zero, add_zero, zero_sub, neg_neg]
  · by_cases h2 : l.val % 64 < 16
    · have e : (⟨(l.val + 256 - 8) % 256, by omega⟩ : Fin 256) = ⟨l.val - 8, by omega⟩ := Fin.ext (by dsimp only; omega)
      rw [e]
      simp only [h1, h2, dite_true, dite_false, zeros8_apply]
      rw [sub_zero, mul_zero, add_zero, zero_sub, mul_neg, sub_eq_add_neg]
    · simp only [h1, h2, dite_false, zeros_apply, ones_apply]
      rw [sub_zero, mul_zero, mul_zero, add_zero, add_zero, mul_one]

theorem flushed7_eq (c : Dev nD) (t : Fin cfg0.N) :
    (dats m 0 c).flushed 7 t = ((cfg0.win 7).blk t).view.read (Elt Ideal) (G7 m c) := by
  have h := at0 t
  rw [Value.flushed7]
  unfold out0_7
  rw [View.ld_unit_zero hz, View.ld_unit_zero hz, View.ld_unit_zero hz, View.ld_unit_zero hz, View.ld_unit_zero hz, View.ld_unit_zero hz, View.ld_unit_zero hz]
  refine funext fun j => View.canon_apply_of_pieces (((cfg0.win 7).blk t).view.read (Elt Ideal) (G7 m c)) _ ?_ j (cover0_7 _ _ j)
  have e0 : ∀ (r : Fin 512) (l : Fin 512), ((cfg0.win 7).blk t).view.emb (ix2 r l) = ix2 ⟨t.val * 512 + r.val, by have := lt4 t; omega⟩ l := fun r l => by
    funext a
    apply Fin.ext
    match a with
    | ⟨0, _⟩ => show win0_7.index t 0 * 512 + 1 * r.val = t.val * 512 + r.val; rw [h.2.2.2.2.2.2.2.2.2.2.2.2.2.2.1]; omega
    | ⟨1, _⟩ => show win0_7.index t 1 * 512 + 1 * l.val = l.val; rw [h.2.2.2.2.2.2.2.2.2.2.2.2.2.2.2]; omega
  intro p hp x
  rcases List.mem_cons.mp hp with rfl | hp
  · obtain ⟨r, l, rfl⟩ : ∃ (r : Fin 512) (l : Fin 256), x = ix2 r l := ⟨x 0, x 1, eq_ix2 x⟩
    have e1 : r0_2.emb (ix2 r l) = ix2 r (⟨256 + l.val, by omega⟩ : Fin 512) := by
      funext a
      apply Fin.ext
      match a with
      | ⟨0, _⟩ => show 0 + 1 * r.val = r.val; omega
      | ⟨1, _⟩ => show 256 + 1 * l.val = 256 + l.val; omega
    rw [View.read_apply, e1, e0]
    show k0_pay2 (bk3 m c t) (bk2 m c t) (ix2 r l) = _
    rw [pay2_apply, blk3, blk2]
    unfold G7
    rw [dif_neg (by show ¬ 256 + l.val < 256; omega)]
    exact congrArg (vsum m c _) (Fin.ext (by show l.val = 256 + l.val - 256; omega))
  · obtain rfl := List.mem_singleton.mp hp
    obtain ⟨r, l, rfl⟩ : ∃ (r : Fin 512) (l : Fin 256), x = ix2 r l := ⟨x 0, x 1, eq_ix2 x⟩
    have e1 : r0_1.emb (ix2 r l) = ix2 r (⟨l.val, by omega⟩ : Fin 512) := by
      funext a
      apply Fin.ext
      match a with
      | ⟨0, _⟩ => show 0 + 1 * r.val = r.val; omega
      | ⟨1, _⟩ => show 0 + 1 * l.val = l.val; omega
    rw [View.read_apply, e1, e0]
    show k0_pay1 (bk1 m c t) (bk0 m c t) (bk4 m c t) (bk5 m c t) (bk6 m c t) (ix2 r l) = _
    rw [pay1_apply]
    simp only [blk0, blk1, blk4, blk5, blk6]
    unfold G7
    rw [dif_pos (by show l.val < 256; omega)]
    exact turn_eq m c _ l

theorem mem_blk7 (t : Fin cfg0.N) (i : S2048x512.Idx) : i ∈ ((cfg0.win 7).blk t).view.set ↔ ∀ d,
    win0_7.index t d * S512x512.size d ≤ (i d).val
      ∧ (i d).val < win0_7.index t d * S512x512.size d + S512x512.size d := by
  show i ∈ ((View.whole main_v10).slice (win0_7.rect t)).set ↔ _
  rw [View.set_slice_whole, Rect.mem_set_unit]

theorem cover7 (i : S2048x512.Idx) : ∃ t : Fin cfg0.N, (cfg0.win 7).flush t = true ∧ i ∈ ((cfg0.win 7).blk t).view.set := by
  have h0 : (i 0).val < 2048 := (i 0).isLt
  have h1 : (i 1).val < 512 := (i 1).isLt
  have hN : ((i 0).val / 512) < cfg0.N := by
    show _ < grid0.N
    rw [N_0]; omega
  refine ⟨⟨_, hN⟩, flush0_7 _, (mem_blk7 _ i).2 fun d => ?_⟩
  have h := at0 ⟨((i 0).val / 512), hN⟩
  have e0 := h.2.2.2.2.2.2.2.2.2.2.2.2.2.2.1
  have e1 := h.2.2.2.2.2.2.2.2.2.2.2.2.2.2.2
  match d with
  | ⟨0, _⟩ =>
    show win0_7.index _ 0 * 512 ≤ (i 0).val ∧ (i 0).val < win0_7.index _ 0 * 512 + 512
    rw [e0]; dsimp only; omega
  | ⟨1, _⟩ =>
    show win0_7.index _ 1 * 512 ≤ (i 1).val ∧ (i 1).val < win0_7.index _ 1 * 512 + 512
    rw [e1]; dsimp only; omega

/-- What the call leaves in its result array, over the whole grid. -/
theorem run (ρ : Dev nD → PrngReg) : θ_run defs (onTc (τ := τ) (main (F := Ideal))) ⟨m, fun _ => 0, ρ⟩ fun r => ∀ c : Dev nD,
      r.2.mem ((c : Thread nD τ).loc main_v10) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨(h c).1.trans (Dat.arrAt_eq_of_cover (dats m 0 c) 7 (G7 m c) (fun t _ => flushed7_eq m c t) cover7),
      (h c).2⟩)
    (Value.run_blocks m ρ)

end Cert.KvGradIdeal.Hand

end
-- ==== Proof.KvGradEq.lean ====
/- The gradient of the projections to keys and values: the reference computes what the result array holds. -/
module

public import proofs.«01_k».proof.Proof.KvGradValue
public import proofs.«01_k».proof.Proof.Gen.KvGradReferenceIdeal.Run
public import Idealize.ShloMosaic.Lib.Quiescent

@[expose] public section

set_option maxRecDepth 16384

noncomputable section

namespace Cert.KvGradReferenceIdeal.Hand

open Cert.KvGradReferenceIdeal Cert.KvGradReferenceIdeal.Gen Idealize.ShloMosaic Idealize.ShloMosaic.TcCoe Idealize.SL.Sem
open Cert.KvGradIdeal.Hand (G7 turned d vsum)

/-- The reference's run leaves nothing behind and changes no argument. -/
theorem quiet : Cert.quiescent_KvGradReferenceIdeal := fun m ρ _ =>
  (θ_run defs _ _).mono (fun r h => ⟨fun c => (h c).2,
    Idealize.ShloMosaic.sem_eq_zero_of_no_sems (by decide) r.2⟩) (Cert.KvGradReferenceIdeal.Value.run (F := Ideal) m ρ)

theorem law1 (a b c d e f : EReal) : (0 + 0) + ((a + b) * c + (d + e) * f) = (e + d) * f + (b + a) * c := by
  rw [zero_add, zero_add, add_comm a, add_comm d, add_comm]
theorem law2 (a b c d e f : EReal) : (0 + ((a + b) * c + -(d + e) * f)) + 0 = (b + a) * c - (e + d) * f := by
  rw [zero_add, add_zero, add_comm a, add_comm d, neg_mul, sub_eq_add_neg]
theorem law3 (a b : EReal) : a + b + 0 + 0 = b + a := by
  rw [add_zero, add_zero, add_comm]

/-- The reference's composed operations. -/
def ref (x0 x1 x2 x3 : Vec Ideal S2048x256 .f32) (x4 x5 : Vec Ideal S2048x8 .f32) : Vec Ideal S2048x512 .bf16 :=
  let s : FVec Ideal S2048x256 .f32 := addf x0 x1
  truncf .bf16 (concatenate S2048x512 1
    [⟨S2048x256, (shapeCast _ (addf (addf (pad S2048x4x64 ![0, 0, 16] ![0, 0, 0] ![0, 0, 0] (extractStridedSlice S2048x4x48 ![0, 0, 16] (shapeCast _ s shapeCasts_S2048x256_S2048x4x64) slices_S2048x4x64_S2048x4x48_0_0_16) (constant (F := Ideal) S_ .f32 0x00000000#32) pads_S2048x4x48_S2048x4x64_000_000_1600 h_S_) (pad S2048x4x64 ![0, 0, 8] ![0, 0, 48] ![0, 0, 0] (addf (mulf (extractStridedSlice S2048x4x8 ![0, 0, 8] (shapeCast _ s shapeCasts_S2048x256_S2048x4x64) slices_S2048x4x64_S2048x4x8_0_0_8) (broadcastInDim S2048x4x8 ![0, 1, 2] bcast_S2048x1x8_S2048x4x8_0_1_2 (broadcastInDim S2048x1x8 ![0, 2] bcast_S2048x8_S2048x1x8_0_2 x4))) (mulf (Host.negf (extractStridedSlice S2048x4x8 ![0, 0, 0] (shapeCast _ s shapeCasts_S2048x256_S2048x4x64) slices_S2048x4x64_S2048x4x8_0_0_0)) (broadcastInDim S2048x4x8 ![0, 1, 2] bcast_S2048x1x8_S2048x4x8_0_1_2 (broadcastInDim S2048x1x8 ![0, 2] bcast_S2048x8_S2048x1x8_0_2 x5)))) (constant (F := Ideal) S_ .f32 0x00000000#32) pads_S2048x4x8_S2048x4x64_000_000_8480 h_S_)) (pad S2048x4x64 ![0, 0, 0] ![0, 0, 56] ![0, 0, 0] (addf (mulf (extractStridedSlice S2048x4x8 ![0, 0, 8] (shapeCast _ s shapeCasts_S2048x256_S2048x4x64) slices_S2048x4x64_S2048x4x8_0_0_8) (broadcastInDim S2048x4x8 ![0, 1, 2] bcast_S2048x1x8_S2048x4x8_0_1_2 (broadcastInDim S2048x1x8 ![0, 2] bcast_S2048x8_S2048x1x8_0_2 x5))) (mulf (extractStridedSlice S2048x4x8 ![0, 0, 0] (shapeCast _ s shapeCasts_S2048x256_S2048x4x64) slices_S2048x4x64_S2048x4x8_0_0_0) (broadcastInDim S2048x4x8 ![0, 1, 2] bcast_S2048x1x8_S2048x4x8_0_1_2 (broadcastInDim S2048x1x8 ![0, 2] bcast_S2048x8_S2048x1x8_0_2 x4)))) (constant (F := Ideal) S_ .f32 0x00000000#32) pads_S2048x4x8_S2048x4x64_000_000_0560 h_S_)) shapeCasts_S2048x4x64_S2048x256)⟩, ⟨S2048x256, (addf x2 x3)⟩] concatenates_S2048x256_S2048x256_S2048x512_d1) bitsLt_bf16_f32

/-- The reference, at an index. -/
theorem ref_apply (x0 x1 x2 x3 : Vec Ideal S2048x256 .f32) (x4 x5 : Vec Ideal S2048x8 .f32) (r : Fin 2048) (l : Fin 512) :
    ref x0 x1 x2 x3 x4 x5 (ix2 r l) = if hl : l.val < 256 then
      if h : l.val % 64 < 8 then (x1 (ix2 r ⟨l.val, hl⟩) + x0 (ix2 r ⟨l.val, hl⟩)) * x4 (ix2 r ⟨l.val % 64, h⟩)
        + (x1 (ix2 r ⟨l.val + 8, by omega⟩) + x0 (ix2 r ⟨l.val + 8, by omega⟩)) * x5 (ix2 r ⟨l.val % 64, h⟩)
      else if h2 : l.val % 64 < 16 then (x1 (ix2 r ⟨l.val, hl⟩) + x0 (ix2 r ⟨l.val, hl⟩)) * x4 (ix2 r ⟨l.val % 64 - 8, by omega⟩)
        - (x1 (ix2 r ⟨l.val - 8, by omega⟩) + x0 (ix2 r ⟨l.val - 8, by omega⟩)) * x5 (ix2 r ⟨l.val % 64 - 8, by omega⟩)
      else x1 (ix2 r ⟨l.val, hl⟩) + x0 (ix2 r ⟨l.val, hl⟩)
    else x3 (ix2 r ⟨l.val - 256, by omega⟩) + x2 (ix2 r ⟨l.val - 256, by omega⟩) := by
  unfold ref
  pointwise
  by_cases hl : l.val < 256
  · simp only [dif_pos hl]
    have h4 : l.val / 64 < 4 := by omega
    by_cases h8 : l.val % 64 < 8
    · have c1 : ¬ (l.val / 64 < 4 ∧ 16 ≤ l.val % 64 ∧ l.val % 64 - 16 < 48) := by omega
      have c2 : ¬ (l.val / 64 < 4 ∧ 8 ≤ l.val % 64 ∧ l.val % 64 - 8 < 8) := by omega
      have c3 : (l.val / 64 < 4 ∧ l.val % 64 < 8) := by omega
      simp only [dif_neg c1, dif_neg c2, dif_pos c3, dif_pos h8]
      have i1 : l.val / 64 * 64 + (8 + l.val % 64) = l.val + 8 := by omega
      have i2 : l.val / 64 * 64 + l.val % 64 = l.val := by omega
      simp only [i1, i2]
      exact law1 _ _ _ _ _ _
    · by_cases h16 : l.val % 64 < 16
      · have c1 : ¬ (l.val / 64 < 4 ∧ 16 ≤ l.val % 64 ∧ l.val % 64 - 16 < 48) := by omega
        have c2 : (l.val / 64 < 4 ∧ 8 ≤ l.val % 64 ∧ l.val % 64 - 8 < 8) := by omega
        have c3 : ¬ (l.val / 64 < 4 ∧ l.val % 64 < 8) := by omega
        simp only [dif_neg c1, dif_pos c2, dif_neg c3, dif_neg h8, dif_pos h16]
        have i1 : l.val / 64 * 64 + (8 + (l.val % 64 - 8)) = l.val := by omega
        have i2 : l.val / 64 * 64 + (l.val % 64 - 8) = l.val - 8 := by omega
        simp only [i1, i2]
        exact law2 _ _ _ _ _ _
      · have c1 : (l.val / 64 < 4 ∧ 16 ≤ l.val % 64 ∧ l.val % 64 - 16 < 48) := by omega
        have c2 : ¬ (l.val / 64 < 4 ∧ 8 ≤ l.val % 64 ∧ l.val % 64 - 8 < 8) := by omega
        have c3 : ¬ (l.val / 64 < 4 ∧ l.val % 64 < 8) := by omega
        simp only [dif_pos c1, dif_neg c2, dif_neg c3, dif_neg h8, dif_neg h16]
        have i1 : l.val / 64 * 64 + (16 + (l.val % 64 - 16)) = l.val := by omega
        simp only [i1]
        exact law3 _ _
  · simp only [dif_neg hl]
    exact add_comm _ _

/-- What the kernel leaves in its result arrays is what the reference computes. -/
theorem alg : Cert.algebraic_KvGradIdeal_KvGradReferenceIdeal := fun m g m' g' _ hagree =>
  ⟨G7 m, Cert.KvGradIdeal.Hand.run m g,
    (θ_run defs _ _).mono (fun r h c => by
      obtain ⟨e0, e1, e2, e3, e4, e5⟩ := hagree c
      refine ⟨((h c).1.trans (by rw [e0, e1, e2, e3, e4, e5]; rfl) : _ = ref (m (c.tc.loc Cert.KvGradIdeal.main_arg0)) (m (c.tc.loc Cert.KvGradIdeal.main_arg1)) (m (c.tc.loc Cert.KvGradIdeal.main_arg2)) (m (c.tc.loc Cert.KvGradIdeal.main_arg3)) (m (c.tc.loc Cert.KvGradIdeal.main_arg4)) (m (c.tc.loc Cert.KvGradIdeal.main_arg5))).trans ?_, (h c).2⟩
      all_goals
        clear h
        funext i
      · obtain ⟨r, l, rfl⟩ : ∃ (r : Fin 2048) (l : Fin 512), i = ix2 r l := ⟨i 0, i 1, eq_ix2 i⟩
        exact (ref_apply _ _ _ _ _ _ r l).trans rfl)
    (Cert.KvGradReferenceIdeal.Value.run (F := Ideal) m' g')⟩

end Cert.KvGradReferenceIdeal.Hand

end
-- ==== Proof.AdamwLaw.lean ====
/- The AdamW step at one weight, as functions of the weight, its gradient and its two moments. -/
module

public import Idealize.ShloMosaic.Lib.Pointwise

@[expose] public section

noncomputable section

namespace Cert.AdamwLaw

open Idealize.ShloMosaic

/-- The first moment after the step. -/
def newM (g m : EReal) : EReal :=
  Ideal.ofBits .f32 0x3F666666#32 * m + Ideal.ofBits .f32 0x3DCCCCCD#32 * g

/-- The second moment after the step. -/
def newV (g v : EReal) : EReal :=
  Ideal.ofBits .f32 0x3F7FBE77#32 * v + Ideal.ofBits .f32 0x3A83126F#32 * (g * g)

/-- The change of the weight: the corrected first moment over the root of the corrected second one, and the decay. -/
def delta (w g m v : EReal) : EReal :=
  Ideal.ofBits .f32 0xBA83126F#32
    * (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

end Cert.AdamwLaw

end
-- ==== Proof.AdamwInValue.lean ====
/- The AdamW step of the projection in: what one grid point computes, what the four result arrays hold. -/
module

public import proofs.«01_k».proof.Defs
public import proofs.«01_k».proof.Proof.Gen.AdamwInIdeal.Value
public import proofs.«01_k».proof.Proof.AdamwLaw
public import Idealize.ShloMosaic.Lib.Pipeline.Value
public import Idealize.ShloMosaic.Lib.Pointwise

@[expose] public section

set_option maxRecDepth 16384

noncomputable section

namespace Cert.AdamwInIdeal.Hand

open Cert.AdamwInIdeal Cert.AdamwInIdeal.Gen Idealize.ShloMosaic Idealize.ShloMosaic.TcCoe Idealize.SL.Sem
open Idealize.ShloMosaic.Pipeline (Dat)
open Cert.AdamwLaw

variable (m : (ℓ : Loc nD τ sig) → Buf (Elt Ideal) ℓ)

/-- Weight 0. -/
abbrev pw0 (c : Dev nD) : S1024x1664.Idx → EReal := m ((c : Thread nD τ).loc main_arg0)
/-- The gradient of weight 0. -/
abbrev pg0 (c : Dev nD) : S1024x1664.Idx → EReal := m ((c : Thread nD τ).loc main_arg1)
/-- The first moment of weight 0. -/
abbrev pm0 (c : Dev nD) : S1024x1664.Idx → EReal := m ((c : Thread nD τ).loc main_arg2)
/-- The second moment of weight 0. -/
abbrev pv0 (c : Dev nD) : S1024x1664.Idx → EReal := m ((c : Thread nD τ).loc main_arg3)

theorem hz : (![0, 0] : Fin 2 → Nat) = fun _ => 0 := funext fun a => by fin_cases a <;> rfl

theorem lt4 (t : Fin cfg0.N) : t.val < 4 := lt_of_lt_of_eq t.isLt N_0

/-- Window 0 at grid point `t`. -/
theorem at0 : ∀ t : Fin cfg0.N, win0_0.index t 0 = t.val ∧ win0_0.index t 1 = 0 :=
  (by decide +kernel : ∀ t : Fin grid0.N, _)

/-- Window 1 at grid point `t`. -/
theorem at1 : ∀ t : Fin cfg0.N, win0_1.index t 0 = t.val ∧ win0_1.index t 1 = 0 :=
  (by decide +kernel : ∀ t : Fin grid0.N, _)

/-- Window 2 at grid point `t`. -/
theorem at2 : ∀ t : Fin cfg0.N, win0_2.index t 0 = t.val ∧ win0_2.index t 1 = 0 :=
  (by decide +kernel : ∀ t : Fin grid0.N, _)

/-- Window 3 at grid point `t`. -/
theorem at3 : ∀ t : Fin cfg0.N, win0_3.index t 0 = t.val ∧ win0_3.index t 1 = 0 :=
  (by decide +kernel : ∀ t : Fin grid0.N, _)

/-- Window 4 at grid point `t`. -/
theorem at4 : ∀ t : Fin cfg0.N, win0_4.index t 0 = t.val ∧ win0_4.index t 1 = 0 :=
  (by decide +kernel : ∀ t : Fin grid0.N, _)

/-- Window 5 at grid point `t`. -/
theorem at5 : ∀ t : Fin cfg0.N, win0_5.index t 0 = t.val ∧ win0_5.index t 1 = 0 :=
  (by decide +kernel : ∀ t : Fin grid0.N, _)

/-- Window 6 at grid point `t`. -/
theorem at6 : ∀ t : Fin cfg0.N, win0_6.index t 0 = t.val ∧ win0_6.index t 1 = 0 :=
  (by decide +kernel : ∀ t : Fin grid0.N, _)

/-- Window 7 at grid point `t`. -/
theorem at7 : ∀ t : Fin cfg0.N, win0_7.index t 0 = t.val ∧ win0_7.index t 1 = 0 :=
  (by decide +kernel : ∀ t : Fin grid0.N, _)

/-- Input block 0 of grid point `t`. -/
abbrev bk0 (c : Dev nD) (t : Fin cfg0.N) : Vec Ideal S256x1664 .f32 := iblk m c 0 t
theorem blk0 (c : Dev nD) (t : Fin cfg0.N) (r : Fin 256) (l : Fin 1664) :
    bk0 m c t (ix2 r l) = pw0 m c (ix2 ⟨t.val * 256 + r.val, by have := lt4 t; omega⟩ l) := by
  have h := at0 t
  unfold bk0 iblk
  rw [View.read_apply]
  show V m c main_arg0 _ = m (c.tc.loc main_arg0) _
  unfold V
  congr 1
  funext a
  apply Fin.ext
  match a with
  | ⟨0, _⟩ => show win0_0.index t 0 * 256 + 1 * r.val = t.val * 256 + r.val; rw [h.1]; omega
  | ⟨1, _⟩ => show win0_0.index t 1 * 1664 + 1 * l.val = l.val; rw [h.2]; omega

/-- Input block 1 of grid point `t`. -/
abbrev bk1 (c : Dev nD) (t : Fin cfg0.N) : Vec Ideal S256x1664 .f32 := iblk m c 1 t
theorem blk1 (c : Dev nD) (t : Fin cfg0.N) (r : Fin 256) (l : Fin 1664) :
    bk1 m c t (ix2 r l) = pg0 m c (ix2 ⟨t.val * 256 + r.val, by have := lt4 t; omega⟩ l) := by
  have h := at1 t
  unfold bk1 iblk
  rw [View.read_apply]
  show V m c main_arg1 _ = m (c.tc.loc main_arg1) _
  unfold V
  congr 1
  funext a
  apply Fin.ext
  match a with
  | ⟨0, _⟩ => show win0_1.index t 0 * 256 + 1 * r.val = t.val * 256 + r.val; rw [h.1]; omega
  | ⟨1, _⟩ => show win0_1.index t 1 * 1664 + 1 * l.val = l.val; rw [h.2]; omega

/-- Input block 2 of grid point `t`. -/
abbrev bk2 (c : Dev nD) (t : Fin cfg0.N) : Vec Ideal S256x1664 .f32 := iblk m c 2 t
theorem blk2 (c : Dev nD) (t : Fin cfg0.N) (r : Fin 256) (l : Fin 1664) :
    bk2 m c t (ix2 r l) = pm0 m c (ix2 ⟨t.val * 256 + r.val, by have := lt4 t; omega⟩ l) := by
  have h := at2 t
  unfold bk2 iblk
  rw [View.read_apply]
  show V m c main_arg2 _ = m (c.tc.loc main_arg2) _
  unfold V
  congr 1
  funext a
  apply Fin.ext
  match a with
  | ⟨0, _⟩ => show win0_2.index t 0 * 256 + 1 * r.val = t.val * 256 + r.val; rw [h.1]; omega
  | ⟨1, _⟩ => show win0_2.index t 1 * 1664 + 1 * l.val = l.val; rw [h.2]; omega

/-- Input block 3 of grid point `t`. -/
abbrev bk3 (c : Dev nD) (t : Fin cfg0.N) : Vec Ideal S256x1664 .f32 := iblk m c 3 t
theorem blk3 (c : Dev nD) (t : Fin cfg0.N) (r : Fin 256) (l : Fin 1664) :
    bk3 m c t (ix2 r l) = pv0 m c (ix2 ⟨t.val * 256 + r.val, by have := lt4 t; omega⟩ l) := by
  have h := at3 t
  unfold bk3 iblk
  rw [View.read_apply]
  show V m c main_arg3 _ = m (c.tc.loc main_arg3) _
  unfold V
  congr 1
  funext a
  apply Fin.ext
  match a with
  | ⟨0, _⟩ => show win0_3.index t 0 * 256 + 1 * r.val = t.val * 256 + r.val; rw [h.1]; omega
  | ⟨1, _⟩ => show win0_3.index t 1 * 1664 + 1 * l.val = l.val; rw [h.2]; omega

/-- What result array 0 holds. -/
def G4 (c : Dev nD) : Buf (Elt Ideal) ((c : Thread nD τ).loc main_v0_0) := fun i => delta (pw0 m c (ix2 (i 0) (i 1))) (pg0 m c (ix2 (i 0) (i 1))) (pm0 m c (ix2 (i 0) (i 1))) (pv0 m c (ix2 (i 0) (i 1)))
/-- What result array 1 holds. -/
def G5 (c : Dev nD) : Buf (Elt Ideal) ((c : Thread nD τ).loc main_v0_1) := fun i => newM (pg0 m c (ix2 (i 0) (i 1))) (pm0 m c (ix2 (i 0) (i 1)))
/-- What result array 2 holds. -/
def G6 (c : Dev nD) : Buf (Elt Ideal) ((c : Thread nD τ).loc main_v0_2) := fun i => newV (pg0 m c (ix2 (i 0) (i 1))) (pv0 m c (ix2 (i 0) (i 1)))
/-- What result array 3 holds. -/
def G7 (c : Dev nD) : Buf (Elt Ideal) ((c : Thread nD τ).loc main_v0_3) := fun i => pg0 m c (ix2 (i 0) (i 1))

theorem flushed4_eq (c : Dev nD) (t : Fin cfg0.N) :
    (dats m 0 c).flushed 4 t = ((cfg0.win 4).blk t).view.read (Elt Ideal) (G4 m c) := by
  have h := at4 t
  rw [Value.flushed4]
  unfold out0_4
  rw [View.canon_unit_zero hz, View.ld_unit_zero hz, View.ld_unit_zero hz, View.ld_unit_zero hz, View.ld_unit_zero hz]
  funext j
  obtain ⟨r, l, rfl⟩ : ∃ (r : Fin 256) (l : Fin 1664), j = ix2 r l := ⟨j 0, j 1, eq_ix2 j⟩
  rw [View.read_apply]
  have e0 : ((cfg0.win 4).blk t).view.emb (ix2 r l) = ix2 ⟨t.val * 256 + r.val, by have := lt4 t; omega⟩ l := by
    funext a
    apply Fin.ext
    match a with
    | ⟨0, _⟩ => show win0_4.index t 0 * 256 + 1 * r.val = t.val * 256 + r.val; rw [h.1]; omega
    | ⟨1, _⟩ => show win0_4.index t 1 * 1664 + 1 * l.val = l.val; rw [h.2]; omega
  rw [e0]
  show k0_pay3 (bk1 m c t) (bk2 m c t) (bk3 m c t) (bk0 m c t) (ix2 r l) = G4 m c (ix2 ⟨t.val * 256 + r.val, by have := lt4 t; omega⟩ l)
  unfold k0_pay3 k0_pay1 k0_pay2 G4 delta newM newV
  pointwise
  simp only [blk0, blk1, blk2, blk3]

theorem mem_blk4 (t : Fin cfg0.N) (i : S1024x1664.Idx) : i ∈ ((cfg0.win 4).blk t).view.set ↔ ∀ d,
    win0_4.index t d * S256x1664.size d ≤ (i d).val
      ∧ (i d).val < win0_4.index t d * S256x1664.size d + S256x1664.size d := by
  show i ∈ ((View.whole main_v0_0).slice (win0_4.rect t)).set ↔ _
  rw [View.set_slice_whole, Rect.mem_set_unit]

theorem cover4 (i : S1024x1664.Idx) : ∃ t : Fin cfg0.N, (cfg0.win 4).flush t = true ∧ i ∈ ((cfg0.win 4).blk t).view.set := by
  have h0 : (i 0).val < 1024 := (i 0).isLt
  have h1 : (i 1).val < 1664 := (i 1).isLt
  have hN : (i 0).val / 256 < cfg0.N := by
    show _ < grid0.N
    rw [N_0]; omega
  refine ⟨⟨_, hN⟩, flush0_4 _, (mem_blk4 _ i).2 fun d => ?_⟩
  have h := at4 ⟨(i 0).val / 256, hN⟩
  have e0 := h.1
  have e1 := h.2
  match d with
  | ⟨0, _⟩ =>
    show win0_4.index _ 0 * 256 ≤ (i 0).val ∧ (i 0).val < win0_4.index _ 0 * 256 + 256
    rw [e0]; dsimp only; omega
  | ⟨1, _⟩ =>
    show win0_4.index _ 1 * 1664 ≤ (i 1).val ∧ (i 1).val < win0_4.index _ 1 * 1664 + 1664
    rw [e1]; dsimp only; omega

theorem flushed5_eq (c : Dev nD) (t : Fin cfg0.N) :
    (dats m 0 c).flushed 5 t = ((cfg0.win 5).blk t).view.read (Elt Ideal) (G5 m c) := by
  have h := at5 t
  rw [Value.flushed5]
  unfold out0_5
  rw [View.canon_unit_zero hz, View.ld_unit_zero hz, View.ld_unit_zero hz]
  funext j
  obtain ⟨r, l, rfl⟩ : ∃ (r : Fin 256) (l : Fin 1664), j = ix2 r l := ⟨j 0, j 1, eq_ix2 j⟩
  rw [View.read_apply]
  have e0 : ((cfg0.win 5).blk t).view.emb (ix2 r l) = ix2 ⟨t.val * 256 + r.val, by have := lt4 t; omega⟩ l := by
    funext a
    apply Fin.ext
    match a with
    | ⟨0, _⟩ => show win0_5.index t 0 * 256 + 1 * r.val = t.val * 256 + r.val; rw [h.1]; omega
    | ⟨1, _⟩ => show win0_5.index t 1 * 1664 + 1 * l.val = l.val; rw [h.2]; omega
  rw [e0]
  show k0_pay1 (bk1 m c t) (bk2 m c t) (ix2 r l) = G5 m c (ix2 ⟨t.val * 256 + r.val, by have := lt4 t; omega⟩ l)
  unfold k0_pay1 G5 newM
  pointwise
  rw [blk1, blk2]

theorem mem_blk5 (t : Fin cfg0.N) (i : S1024x1664.Idx) : i ∈ ((cfg0.win 5).blk t).view.set ↔ ∀ d,
    win0_5.index t d * S256x1664.size d ≤ (i d).val
      ∧ (i d).val < win0_5.index t d * S256x1664.size d + S256x1664.size d := by
  show i ∈ ((View.whole main_v0_1).slice (win0_5.rect t)).set ↔ _
  rw [View.set_slice_whole, Rect.mem_set_unit]

theorem cover5 (i : S1024x1664.Idx) : ∃ t : Fin cfg0.N, (cfg0.win 5).flush t = true ∧ i ∈ ((cfg0.win 5).blk t).view.set := by
  have h0 : (i 0).val < 1024 := (i 0).isLt
  have h1 : (i 1).val < 1664 := (i 1).isLt
  have hN : (i 0).val / 256 < cfg0.N := by
    show _ < grid0.N
    rw [N_0]; omega
  refine ⟨⟨_, hN⟩, flush0_5 _, (mem_blk5 _ i).2 fun d => ?_⟩
  have h := at5 ⟨(i 0).val / 256, hN⟩
  have e0 := h.1
  have e1 := h.2
  match d with
  | ⟨0, _⟩ =>
    show win0_5.index _ 0 * 256 ≤ (i 0).val ∧ (i 0).val < win0_5.index _ 0 * 256 + 256
    rw [e0]; dsimp only; omega
  | ⟨1, _⟩ =>
    show win0_5.index _ 1 * 1664 ≤ (i 1).val ∧ (i 1).val < win0_5.index _ 1 * 1664 + 1664
    rw [e1]; dsimp only; omega

theorem flushed6_eq (c : Dev nD) (t : Fin cfg0.N) :
    (dats m 0 c).flushed 6 t = ((cfg0.win 6).blk t).view.read (Elt Ideal) (G6 m c) := by
  have h := at6 t
  rw [Value.flushed6]
  unfold out0_6
  rw [View.canon_unit_zero hz, View.ld_unit_zero hz, View.ld_unit_zero hz]
  funext j
  obtain ⟨r, l, rfl⟩ : ∃ (r : Fin 256) (l : Fin 1664), j = ix2 r l := ⟨j 0, j 1, eq_ix2 j⟩
  rw [View.read_apply]
  have e0 : ((cfg0.win 6).blk t).view.emb (ix2 r l) = ix2 ⟨t.val * 256 + r.val, by have := lt4 t; omega⟩ l := by
    funext a
    apply Fin.ext
    match a with
    | ⟨0, _⟩ => show win0_6.index t 0 * 256 + 1 * r.val = t.val * 256 + r.val; rw [h.1]; omega
    | ⟨1, _⟩ => show win0_6.index t 1 * 1664 + 1 * l.val = l.val; rw [h.2]; omega
  rw [e0]
  show k0_pay2 (bk1 m c t) (bk3 m c t) (ix2 r l) = G6 m c (ix2 ⟨t.val * 256 + r.val, by have := lt4 t; omega⟩ l)
  unfold k0_pay2 G6 newV
  pointwise
  rw [blk1, blk3]

theorem mem_blk6 (t : Fin cfg0.N) (i : S1024x1664.Idx) : i ∈ ((cfg0.win 6).blk t).view.set ↔ ∀ d,
    win0_6.index t d * S256x1664.size d ≤ (i d).val
      ∧ (i d).val < win0_6.index t d * S256x1664.size d + S256x1664.size d := by
  show i ∈ ((View.whole main_v0_2).slice (win0_6.rect t)).set ↔ _
  rw [View.set_slice_whole, Rect.mem_set_unit]

theorem cover6 (i : S1024x1664.Idx) : ∃ t : Fin cfg0.N, (cfg0.win 6).flush t = true ∧ i ∈ ((cfg0.win 6).blk t).view.set := by
  have h0 : (i 0).val < 1024 := (i 0).isLt
  have h1 : (i 1).val < 1664 := (i 1).isLt
  have hN : (i 0).val / 256 < cfg0.N := by
    show _ < grid0.N
    rw [N_0]; omega
  refine ⟨⟨_, hN⟩, flush0_6 _, (mem_blk6 _ i).2 fun d => ?_⟩
  have h := at6 ⟨(i 0).val / 256, hN⟩
  have e0 := h.1
  have e1 := h.2
  match d with
  | ⟨0, _⟩ =>
    show win0_6.index _ 0 * 256 ≤ (i 0).val ∧ (i 0).val < win0_6.index _ 0 * 256 + 256
    rw [e0]; dsimp only; omega
  | ⟨1, _⟩ =>
    show win0_6.index _ 1 * 1664 ≤ (i 1).val ∧ (i 1).val < win0_6.index _ 1 * 1664 + 1664
    rw [e1]; dsimp only; omega

theorem flushed7_eq (c : Dev nD) (t : Fin cfg0.N) :
    (dats m 0 c).flushed 7 t = ((cfg0.win 7).blk t).view.read (Elt Ideal) (G7 m c) := by
  have h := at7 t
  rw [Value.flushed7]
  unfold out0_7
  rw [View.canon_unit_zero hz, View.ld_unit_zero hz]
  funext j
  obtain ⟨r, l, rfl⟩ : ∃ (r : Fin 256) (l : Fin 1664), j = ix2 r l := ⟨j 0, j 1, eq_ix2 j⟩
  rw [View.read_apply]
  have e0 : ((cfg0.win 7).blk t).view.emb (ix2 r l) = ix2 ⟨t.val * 256 + r.val, by have := lt4 t; omega⟩ l := by
    funext a
    apply Fin.ext
    match a with
    | ⟨0, _⟩ => show win0_7.index t 0 * 256 + 1 * r.val = t.val * 256 + r.val; rw [h.1]; omega
    | ⟨1, _⟩ => show win0_7.index t 1 * 1664 + 1 * l.val = l.val; rw [h.2]; omega
  rw [e0]
  show bk1 m c t (ix2 r l) = G7 m c (ix2 ⟨t.val * 256 + r.val, by have := lt4 t; omega⟩ l)
  unfold G7
  rw [blk1]
  rfl

theorem mem_blk7 (t : Fin cfg0.N) (i : S1024x1664.Idx) : i ∈ ((cfg0.win 7).blk t).view.set ↔ ∀ d,
    win0_7.index t d * S256x1664.size d ≤ (i d).val
      ∧ (i d).val < win0_7.index t d * S256x1664.size d + S256x1664.size d := by
  show i ∈ ((View.whole main_v0_3).slice (win0_7.rect t)).set ↔ _
  rw [View.set_slice_whole, Rect.mem_set_unit]

theorem cover7 (i : S1024x1664.Idx) : ∃ t : Fin cfg0.N, (cfg0.win 7).flush t = true ∧ i ∈ ((cfg0.win 7).blk t).view.set := by
  have h0 : (i 0).val < 1024 := (i 0).isLt
  have h1 : (i 1).val < 1664 := (i 1).isLt
  have hN : (i 0).val / 256 < cfg0.N := by
    show _ < grid0.N
    rw [N_0]; omega
  refine ⟨⟨_, hN⟩, flush0_7 _, (mem_blk7 _ i).2 fun d => ?_⟩
  have h := at7 ⟨(i 0).val / 256, hN⟩
  have e0 := h.1
  have e1 := h.2
  match d with
  | ⟨0, _⟩ =>
    show win0_7.index _ 0 * 256 ≤ (i 0).val ∧ (i 0).val < win0_7.index _ 0 * 256 + 256
    rw [e0]; dsimp only; omega
  | ⟨1, _⟩ =>
    show win0_7.index _ 1 * 1664 ≤ (i 1).val ∧ (i 1).val < win0_7.index _ 1 * 1664 + 1664
    rw [e1]; dsimp only; omega

/-- Every run ends with the change, the moments and the gradient in the result arrays and the arguments as they were. -/
theorem run (ρ : Dev nD → PrngReg) : θ_run defs (onTc (τ := τ) (main (F := Ideal))) ⟨m, fun _ => 0, ρ⟩ fun r => ∀ c : Dev nD,
      r.2.mem ((c : Thread nD τ).loc main_v0_0) = G4 m c
      ∧ r.2.mem ((c : Thread nD τ).loc main_v0_1) = G5 m c
      ∧ r.2.mem ((c : Thread nD τ).loc main_v0_2) = G6 m c
      ∧ r.2.mem ((c : Thread nD τ).loc main_v0_3) = G7 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨(h c).1.trans (Dat.arrAt_eq_of_cover (dats m 0 c) 4 (G4 m c) (fun t _ => flushed4_eq m c t) cover4),
      (h c).2.1.trans (Dat.arrAt_eq_of_cover (dats m 0 c) 5 (G5 m c) (fun t _ => flushed5_eq m c t) cover5),
      (h c).2.2.1.trans (Dat.arrAt_eq_of_cover (dats m 0 c) 6 (G6 m c) (fun t _ => flushed6_eq m c t) cover6),
      (h c).2.2.2.1.trans (Dat.arrAt_eq_of_cover (dats m 0 c) 7 (G7 m c) (fun t _ => flushed7_eq m c t) cover7),
      (h c).2.2.2.2⟩)
    (Value.run_blocks m ρ)

end Cert.AdamwInIdeal.Hand

end
-- ==== Proof.AdamwInEq.lean ====
/- The AdamW step of the projection in: the reference computes what the result arrays hold. -/
module

public import proofs.«01_k».proof.Proof.AdamwInValue
public import proofs.«01_k».proof.Proof.Gen.AdamwInReferenceIdeal.Run
public import Idealize.ShloMosaic.Lib.Quiescent

@[expose] public section

set_option maxRecDepth 16384

noncomputable section

namespace Cert.AdamwInReferenceIdeal.Hand

open Cert.AdamwInReferenceIdeal Cert.AdamwInReferenceIdeal.Gen Idealize.ShloMosaic Idealize.ShloMosaic.TcCoe Idealize.SL.Sem
open Cert.AdamwLaw
open Cert.AdamwInIdeal.Hand (G4 G5 G6 G7)

/-- The reference's run leaves nothing behind and changes no argument. -/
theorem quiet : Cert.quiescent_AdamwInReferenceIdeal := fun m ρ _ =>
  (θ_run defs _ _).mono (fun r h => ⟨fun c => (h c).2.2.2.2,
    Idealize.ShloMosaic.sem_eq_zero_of_no_sems (by decide) r.2⟩) (Cert.AdamwInReferenceIdeal.Value.run (F := Ideal) m ρ)

/-- What the kernel leaves in its result arrays is what the reference computes. -/
theorem alg : Cert.algebraic_AdamwInIdeal_AdamwInReferenceIdeal := fun m g m' g' _ hagree =>
  ⟨G4 m, G5 m, G6 m, G7 m, Cert.AdamwInIdeal.Hand.run m g,
    (θ_run defs _ _).mono (fun r h c => by
      obtain ⟨e0, e1, e2, e3⟩ := hagree c
      refine ⟨(h c).1.trans ?_, (h c).2.1.trans ?_, (h c).2.2.1.trans ?_, (h c).2.2.2.1.trans ?_, (h c).2.2.2.2⟩
      all_goals
        simp only [e0, e1, e2, e3]
        clear h
        funext i
      · obtain ⟨r, l, rfl⟩ : ∃ (r : Fin 1024) (l : Fin 1664), i = ix2 r l := ⟨i 0, i 1, eq_ix2 i⟩
        unfold G4 delta newM newV
        pointwise
      · obtain ⟨r, l, rfl⟩ : ∃ (r : Fin 1024) (l : Fin 1664), i = ix2 r l := ⟨i 0, i 1, eq_ix2 i⟩
        unfold G5 newM
        pointwise
      · obtain ⟨r, l, rfl⟩ : ∃ (r : Fin 1024) (l : Fin 1664), i = ix2 r l := ⟨i 0, i 1, eq_ix2 i⟩
        unfold G6 newV
        pointwise
      · obtain ⟨r, l, rfl⟩ : ∃ (r : Fin 1024) (l : Fin 1664), i = ix2 r l := ⟨i 0, i 1, eq_ix2 i⟩
        unfold G7
        rfl)
    (Cert.AdamwInReferenceIdeal.Value.run (F := Ideal) m' g')⟩

end Cert.AdamwInReferenceIdeal.Hand

end
-- ==== Proof.AttnLaw.lean ====
/- The mathematics of one head of sliding-window attention over extended reals, apart from any program: the sums over
   half-filled lanes, the turning of eight pairs of channels, the weights of the keys and of the sink. -/
module

public import Idealize.ShloMosaic.Lib.Pointwise

@[expose] public section

noncomputable section

namespace Cert.AttnLaw

open Idealize.ShloMosaic

/-- A sum over 128 lanes of which only the lower 64 are filled. -/
theorem sum_lo (f g : Fin 128 → EReal) (h : ∀ l : Fin 128, 64 ≤ l.val → f l = 0) :
    ∑ l : Fin 128, f l * g l = ∑ d : Fin 64, f ⟨d.val, by omega⟩ * g ⟨d.val, by omega⟩ := by
  refine (Fin.sum_univ_add (a := 64) (b := 64) fun l => f l * g l).trans ?_
  rw [Finset.sum_eq_zero (s := Finset.univ) (f := fun i : Fin 64 => f (Fin.natAdd 64 i) * g (Fin.natAdd 64 i))
    (fun i _ => by rw [h _ (by simp), zero_mul]), add_zero]
  rfl

/-- A sum over 128 lanes of which only the upper 64 are filled. -/
theorem sum_hi (f g : Fin 128 → EReal) (h : ∀ l : Fin 128, l.val < 64 → f l = 0) :
    ∑ l : Fin 128, f l * g l = ∑ d : Fin 64, f ⟨64 + d.val, by omega⟩ * g ⟨64 + d.val, by omega⟩ := by
  refine (Fin.sum_univ_add (a := 64) (b := 64) fun l => f l * g l).trans ?_
  rw [Finset.sum_eq_zero (s := Finset.univ) (f := fun i : Fin 64 => f (Fin.castAdd 64 i) * g (Fin.castAdd 64 i))
    (fun i _ => by rw [h _ (by simp), zero_mul]), zero_add]
  rfl

/-- Eight pairs of a head's channels, turned; the other channels as they are. -/
def rot (x : Fin 64 → EReal) (c s : Fin 8 → EReal) (d : Fin 64) : EReal :=
  if h : d.val < 8 then x d * c ⟨d.val, h⟩ - x ⟨d.val + 8, by omega⟩ * s ⟨d.val, h⟩
  else if h2 : d.val < 16 then x d * c ⟨d.val - 8, by omega⟩ + x ⟨d.val - 8, by omega⟩ * s ⟨d.val - 8, by omega⟩
  else x d

/-- Whether the query `q` of block `n` sees the key `k` of the band of two blocks. -/
def vis (n q k : Nat) : Prop := (k ≤ q + 128 ∧ q < k) ∧ (128 ≤ k ∨ 0 < n)

instance (n q k : Nat) : Decidable (vis n q k) := by unfold vis; infer_instance

/-- The place of the key `k` of block `n`'s band. -/
def place (n k : Nat) : Nat := if k < 128 then (n - 1) * 128 + k else n * 128 + (k - 128)

theorem place_lt {n k : Nat} (hn : n < 16) (hk : k < 256) : place n k < 2048 := by
  unfold place; split_ifs <;> omega

/-- The greatest of the scores and the sink. -/
def top (s : Fin 256 → EReal) (z : EReal) : EReal := max (Finset.univ.fold max ⊥ s) z

/-- The sum of the exponentials, the sink's with them. -/
def mass (s : Fin 256 → EReal) (z : EReal) : EReal := ∑ k, Ideal.exp (s k - top s z) + Ideal.exp (z - top s z)

/-- The weight of the key `k`. -/
def wgt (s : Fin 256 → EReal) (z : EReal) (k : Fin 256) : EReal :=
  Ideal.exp (s k - top s z) * Ideal.div 1 (mass s z)

/-- The weight of the sink. -/
def wgtz (s : Fin 256 → EReal) (z : EReal) : EReal :=
  Ideal.exp (z - top s z) * Ideal.div 1 (mass s z)

/-- Scores and sink in one row of 257. -/
def cat (s : Fin 256 → EReal) (z : EReal) (k : Fin 257) : EReal := if h : k.val < 256 then s ⟨k.val, h⟩ else z

theorem fold_cat (s : Fin 256 → EReal) (z : EReal) : Finset.univ.fold max ⊥ (cat s z) = top s z := by
  unfold top
  apply le_antisymm
  · refine (Finset.fold_max_le _).mpr ⟨bot_le, fun k _ => ?_⟩
    unfold cat
    split_ifs with h
    · exact le_max_of_le_left ((Finset.le_fold_max _).mpr (.inr ⟨_, Finset.mem_univ _, le_rfl⟩))
    · exact le_max_right _ _
  · refine max_le ((Finset.fold_max_le _).mpr ⟨bot_le, fun k _ => ?_⟩) ?_
    · refine (Finset.le_fold_max _).mpr (.inr ⟨⟨k.val, by omega⟩, Finset.mem_univ _, ?_⟩)
      unfold cat; rw [dif_pos k.isLt]
    · refine (Finset.le_fold_max _).mpr (.inr ⟨⟨256, by omega⟩, Finset.mem_univ _, ?_⟩)
      unfold cat; rw [dif_neg (by simp)]

theorem sum_cat (s : Fin 256 → EReal) (z : EReal) (f : EReal → EReal) :
    ∑ k, f (cat s z k) = ∑ k, f (s k) + f z := by
  refine (Fin.sum_univ_castSucc (n := 256) fun k => f (cat s z k)).trans ?_
  refine congrArg₂ (· + ·) (Finset.sum_congr rfl fun k _ => congrArg f ?_) (congrArg f ?_)
  · unfold cat; rw [dif_pos (by simp)]; rfl
  · unfold cat; rw [dif_neg (by simp)]

theorem exp_nonneg (x : EReal) : 0 ≤ Ideal.exp x := by
  induction x with
  | bot => rw [Ideal.exp_bot]
  | coe r => rw [Ideal.exp_coe]; exact_mod_cast (Real.exp_pos r).le
  | top => rw [Ideal.exp_top]; exact le_top

/-- With finite scores (or none) and a finite sink, the greatest is finite. -/
theorem top_fin (s : Fin 256 → EReal) (z : EReal) (hs : ∀ k, s k ≠ ⊤) (hz : z ≠ ⊤) (hz' : z ≠ ⊥) :
    top s z ≠ ⊤ ∧ top s z ≠ ⊥ := by
  refine ⟨fun h => ?_, fun h => hz' (le_bot_iff.mp (h ▸ le_max_right _ _))⟩
  unfold top at h
  rcases max_eq_top.mp h with h | h
  · have : (Finset.univ.fold max ⊥ s : EReal) < ⊤ :=
      (Finset.fold_max_lt _).mpr ⟨bot_lt_top, fun k _ => lt_top_iff_ne_top.mpr (hs k)⟩
    exact absurd h this.ne
  · exact hz h

theorem exp_sub_self (x : EReal) (h : x ≠ ⊤) (h' : x ≠ ⊥) : Ideal.exp (x - x) = 1 := by
  lift x to ℝ using ⟨h, h'⟩
  rw [← EReal.coe_sub, sub_self, Ideal.exp_coe, Real.exp_zero]; rfl

theorem mass_pos (s : Fin 256 → EReal) (z : EReal) (hs : ∀ k, s k ≠ ⊤) (hz : z ≠ ⊤) (hz' : z ≠ ⊥) : 0 < mass s z := by
  have ht := top_fin s z hs hz hz'
  unfold mass
  have hn : ∀ k ∈ Finset.univ, (0 : EReal) ≤ Ideal.exp (s k - top s z) := fun k _ => exp_nonneg _
  rcases max_choice (Finset.univ.fold max ⊥ s) z with h | h
  · have h' : top s z = Finset.univ.fold max ⊥ s := h
    have hb := ht.2
    have hex : ∃ k, s k = top s z := by
      by_contra hcon
      have hlt : ∀ k ∈ (Finset.univ : Finset (Fin 256)), s k < top s z := fun k _ =>
        lt_of_le_of_ne (h' ▸ (Finset.le_fold_max _).mpr (.inr ⟨k, Finset.mem_univ _, le_rfl⟩))
          fun e => hcon ⟨k, e⟩
      have : Finset.univ.fold max ⊥ s < top s z :=
        (Finset.fold_max_lt _).mpr ⟨bot_lt_iff_ne_bot.mpr hb, hlt⟩
      exact absurd h'.symm this.ne
    obtain ⟨k, hk⟩ := hex
    have h1 : (1 : EReal) ≤ ∑ k, Ideal.exp (s k - top s z) := by
      refine le_trans ?_ (Finset.single_le_sum hn (Finset.mem_univ k))
      rw [hk, exp_sub_self _ ht.1 ht.2]
    exact lt_of_lt_of_le zero_lt_one (le_add_of_le_of_nonneg h1 (exp_nonneg _))
  · have h' : top s z = z := h
    have h1 : Ideal.exp (z - top s z) = 1 := by rw [h', exp_sub_self _ hz hz']
    rw [h1]
    exact lt_of_lt_of_le zero_lt_one (le_add_of_nonneg_left (Finset.sum_nonneg hn))

/-- Dividing by the mass is multiplying by its reciprocal. -/
theorem div_mass (x y : EReal) (h : y ≠ 0) : Ideal.div x y = x * Ideal.div 1 y := by
  unfold Ideal.div
  rw [if_neg h, if_neg h, one_mul]

/-- A row of 257 exponentials over their sum: at a key its weight. -/
theorem soft_cat (s : Fin 256 → EReal) (z : EReal) (hs : ∀ k, s k ≠ ⊤) (hz : z ≠ ⊤) (hz' : z ≠ ⊥) (k : Fin 256) :
    Ideal.div (Ideal.exp (s k - max ⊥ (Finset.univ.fold max ⊥ (cat s z))))
      (∑ k, Ideal.exp (cat s z k - max ⊥ (Finset.univ.fold max ⊥ (cat s z)))) = wgt s z k := by
  rw [max_eq_right bot_le, fold_cat, sum_cat s z fun x => Ideal.exp (x - top s z)]
  exact div_mass _ _ (mass_pos s z hs hz hz').ne'

/-- A key that isn't seen has no weight. -/
theorem wgt_bot (s : Fin 256 → EReal) (z : EReal) (k : Fin 256) (h : s k = ⊥) : wgt s z k = 0 := by
  unfold wgt
  rw [h, EReal.bot_sub, Ideal.exp_bot, zero_mul]

end Cert.AttnLaw

end
-- ==== Proof.AttnMask.lean ====
/- The attention calls' mask and lanes: comparisons of 32-bit words, as the facts they decide; and their constants. -/
module

public import proofs.«01_k».proof.Proof.AttnLaw
public import Idealize.ShloMosaic.Lib.Pointwise

@[expose] public section

set_option maxRecDepth 16384

noncomputable section

namespace Cert.AttnLaw

open Idealize.ShloMosaic

theorem select_ofBool {α : Type} (p : Prop) [Decidable p] (a b : α) :
    Scalar.select (BitVec.ofBool (decide p)) a b = if p then a else b := by
  by_cases h : p <;> simp [Scalar.select, h]

theorem near : ∀ (r : Fin 128) (k : Fin 256), IntOp.andi
    (IntOp.cmpi .sge (IntOp.subi (IntOp.addi (BitVec.ofNat 32 r.val) 128#32) (BitVec.ofNat 32 k.val)) 0#32)
    (IntOp.cmpi .slt (IntOp.subi (IntOp.addi (BitVec.ofNat 32 r.val) 128#32) (BitVec.ofNat 32 k.val)) 128#32)
    = BitVec.ofBool (decide (k.val ≤ r.val + 128 ∧ r.val < k.val)) := by
  decide +kernel
theorem key128 : ∀ k : Fin 256, IntOp.cmpi .sge (BitVec.ofNat 32 k.val) 128#32 = BitVec.ofBool (decide (128 ≤ k.val)) := by
  decide +kernel
theorem first : ∀ n : Fin 16, Scalar.cmpi .sgt (BitVec.ofNat 32 n.val) 0#32 = BitVec.ofBool (decide (0 < n.val)) := by
  decide +kernel
theorem ofBool_vis (n q k : Nat) : IntOp.andi (BitVec.ofBool (decide (k ≤ q + 128 ∧ q < k)))
    (IntOp.ori (BitVec.ofBool (decide (128 ≤ k))) (BitVec.ofBool (decide (0 < n)))) = BitVec.ofBool (decide (vis n q k)) := by
  unfold vis
  by_cases h1 : k ≤ q + 128 ∧ q < k <;> by_cases h2 : 128 ≤ k <;> by_cases h3 : 0 < n <;>
    simp [IntOp.andi, IntOp.ori, h1, h2, h3]

theorem slt64 : ∀ l : Fin 128, IntOp.cmpi .slt (BitVec.ofNat 32 l.val) 64#32 = BitVec.ofBool (decide (l.val < 64)) := by
  decide +kernel
theorem sge64 : ∀ l : Fin 128, IntOp.cmpi .sge (BitVec.ofNat 32 l.val) 64#32 = BitVec.ofBool (decide (64 ≤ l.val)) := by
  decide +kernel

theorem eighth : Ideal.ofBits .f32 0x3E000000#32 = ((0.125 : ℝ) : EReal) := by
  simp [Ideal.ofBits, Ideal.ieee, -EReal.coe_mul]; norm_num
theorem ninf : Ideal.ofBits .f32 0xFF800000#32 = ⊥ := by
  simp [Ideal.ofBits, Ideal.ieee]

end Cert.AttnLaw

end
-- ==== Proof.AttnSpec.lean ====
/- Banded attention with sinks as plain mathematics: what a query's output is, and sums over half-filled lanes. -/
module

public import proofs.«01_k».proof.Proof.AttnLaw
public import Idealize.ShloMosaic.Lib.Pointwise

@[expose] public section

noncomputable section

namespace Cert.AttnLaw

open Idealize.ShloMosaic

/-- The position of the key `k` in block `n`'s band, and of the query `q` of block `n`. -/
def pl (n : Fin 16) (k : Fin 256) : Fin 2048 := ⟨place n.val k.val, place_lt n.isLt k.isLt⟩
def row (n : Fin 16) (q : Fin 128) : Fin 2048 := ⟨n.val * 128 + q.val, by omega⟩
/-- The head of keys and values that a head of queries uses. -/
def kvh (g : Fin 16) : Fin 4 := ⟨g.val / 4, by omega⟩

/-- The scaled product of a query and the keys that it sees. -/
def score (Q : Fin 2048 → Fin 16 → Fin 64 → EReal) (K : Fin 2048 → Fin 4 → Fin 64 → EReal)
    (n : Fin 16) (g : Fin 16) (q : Fin 128) (k : Fin 256) : EReal :=
  if vis n.val q.val k.val then (∑ d : Fin 64, K (pl n k) (kvh g) d * Q (row n q) g d) * ((0.125 : ℝ) : EReal) else ⊥

/-- The weight of a key, and a query's output. -/
def prob (Q : Fin 2048 → Fin 16 → Fin 64 → EReal) (K : Fin 2048 → Fin 4 → Fin 64 → EReal) (z : Fin 16 → EReal)
    (n : Fin 16) (g : Fin 16) (q : Fin 128) (k : Fin 256) : EReal := wgt (score Q K n g q) (z g) k
def outp (Q : Fin 2048 → Fin 16 → Fin 64 → EReal) (K V : Fin 2048 → Fin 4 → Fin 64 → EReal) (z : Fin 16 → EReal)
    (n : Fin 16) (g : Fin 16) (q : Fin 128) (d : Fin 64) : EReal := ∑ k : Fin 256, prob Q K z n g q k * V (pl n k) (kvh g) d

/-- The rows and the columns of the arrays that attention reads. -/
abbrev Arr (r c : Nat) := (⟨2, ![r, c]⟩ : Shape).Idx → EReal

/-- The queries, the keys, both turned by their position's angle, and the values. -/
def inQ (a : Arr 2048 6656) (cs sn : Arr 2048 8) (s : Fin 2048) (g : Fin 16) (d : Fin 64) : EReal :=
  rot (fun e => a (ix2 s ⟨3072 + g.val * 64 + e.val, by omega⟩)) (fun j => cs (ix2 s j)) (fun j => sn (ix2 s j)) d
def inK (a : Arr 2048 6656) (cs sn : Arr 2048 8) (s : Fin 2048) (h : Fin 4) (d : Fin 64) : EReal :=
  rot (fun e => a (ix2 s ⟨4096 + h.val * 64 + e.val, by omega⟩)) (fun j => cs (ix2 s j)) (fun j => sn (ix2 s j)) d
def inV (a : Arr 2048 6656) (s : Fin 2048) (h : Fin 4) (d : Fin 64) : EReal := a (ix2 s ⟨4352 + h.val * 64 + d.val, by omega⟩)
def inZ (z : Arr 1 16) (g : Fin 16) : EReal := z (ix2 0 g)
/-- The gradient of the heads' outputs. -/
def inDo (x : Arr 2048 1024) (w : Arr 1024 1024) (s : Fin 2048) (g : Fin 16) (d : Fin 64) : EReal :=
  ∑ e : Fin 1024, x (ix2 s e) * w (ix2 ⟨g.val * 64 + d.val, by omega⟩ e)

/-- A band of two blocks with nothing before the first block. -/
def padded (X : Fin 2048 → Fin 4 → Fin 64 → EReal) (n : Fin 16) (k : Fin 256) (h : Fin 4) (d : Fin 64) : EReal :=
  if n.val = 0 ∧ k.val < 128 then 0 else X (pl n k) h d

theorem not_vis_first (n q k : Nat) (h : vis n q k) : ¬ (n = 0 ∧ k < 128) := by
  unfold vis at h
  omega

/-- A sum over 128 lanes of which one half is filled. -/
theorem sum_half (p : Nat) (hp : p < 2) (f g : Fin 128 → EReal) (h : ∀ l : Fin 128, l.val / 64 ≠ p → f l = 0) :
    ∑ l : Fin 128, f l * g l = ∑ d : Fin 64, f ⟨p * 64 + d.val, by omega⟩ * g ⟨p * 64 + d.val, by omega⟩ := by
  obtain rfl | rfl : p = 0 ∨ p = 1 := by omega
  · rw [sum_lo f g fun l hl => h l (by omega)]
    refine Finset.sum_congr rfl fun d _ => ?_
    exact congrArg (fun l => f l * g l) (Fin.ext (by show d.val = 0 * 64 + d.val; omega))
  · rw [sum_hi f g fun l hl => h l (by omega)]

/-- The same choice between a value and another, its condition put otherwise. -/
theorem law_if {p q : Prop} [Decidable p] [Decidable q] (a b : EReal) {z : EReal} (h : p ↔ q) (e : p → a = b) :
    (if p then a else z) = if q then b else z := by
  by_cases hp : p
  · rw [if_pos hp, if_pos (h.mp hp), e hp]
  · rw [if_neg hp, if_neg fun hq => hp (h.mpr hq)]

theorem ofBool_one (p : Prop) [Decidable p] : BitVec.ofBool (decide p) = 1#1 ↔ p := by
  by_cases h : p <;> simp [h]

/-- Three products with lanes of the tables are a channel turned. -/
theorem rot_law (x : Fin 64 → EReal) (c s : Fin 8 → EReal) (d : Fin 64) (y0 y1 y2 t0 t1 t2 : EReal)
    (h0 : y0 = x d) (h1 : ∀ h : d.val < 8, y1 = x ⟨d.val + 8, by omega⟩) (h2 : ∀ h : 8 ≤ d.val, y2 = x ⟨d.val - 8, by omega⟩)
    (e0 : t0 = if h : d.val < 8 then c ⟨d.val, h⟩ else if h2 : d.val < 16 then c ⟨d.val - 8, by omega⟩ else 1)
    (e1 : t1 = if h : d.val < 8 then -s ⟨d.val, h⟩ else 0)
    (e2 : t2 = if h : d.val < 8 then 0 else if h2 : d.val < 16 then s ⟨d.val - 8, by omega⟩ else 0) :
    y0 * t0 + y1 * t1 + y2 * t2 = rot x c s d := by
  unfold rot
  by_cases h : d.val < 8
  · simp only [h, dite_true] at e0 e1 e2 ⊢
    rw [e0, e1, e2, h0, h1 h, mul_zero, add_zero, mul_neg, sub_eq_add_neg]
  · by_cases h3 : d.val < 16
    · simp only [h, h3, dite_true, dite_false] at e0 e1 e2 ⊢
      rw [e0, e1, e2, h0, h2 (by omega), mul_zero, add_zero]
    · simp only [h, h3, dite_false] at e0 e1 e2 ⊢
      rw [e0, e1, e2, h0, mul_zero, mul_zero, add_zero, add_zero, mul_one]

end Cert.AttnLaw

end
-- ==== Proof.AttnBwdBlock.lean ====
/- One block of queries in the backward attention: the vectors that the kernel forms for a group of heads, and what they hold at an index. -/
module

public import proofs.«01_k».proof.Proof.Gen.AttnBwdIdeal.Skeleton
public import proofs.«01_k».proof.Proof.AttnMask
public import proofs.«01_k».proof.Proof.AttnSpec
public import Idealize.ShloMosaic.Lib.Pointwise

@[expose] public section

set_option maxRecDepth 16384

noncomputable section

namespace Cert.AttnBwdIdeal.Hand

open Cert.AttnBwdIdeal Cert.AttnBwdIdeal.Gen Idealize.ShloMosaic Idealize.ShloMosaic.TcCoe Cert.AttnLaw

theorem masked : (Named.named κ "mask" 0xF149F2CA#32 : Ideal .f32) = ⊥ := by
  rfl

/-- The keys of 128 positions, turned by the three tables. -/
def turn (x c u d : Vec Ideal S128x256 .f32) : FVec Ideal S128x256 .f32 :=
  addf (addf (mulf x (shapeCast S128x256 c shapeCasts_S128x256_S128x256))
    (mulf (dynamicRotate 1 248#32 none x rotates_S128x256_d1) (shapeCast S128x256 u shapeCasts_S128x256_S128x256)))
    (mulf (dynamicRotate 1 8#32 none x rotates_S128x256_d1) (shapeCast S128x256 d shapeCasts_S128x256_S128x256))

theorem turn_apply (x c u d : Vec Ideal S128x256 .f32) (r : Fin 128) (l : Fin 256) :
    turn x c u d (ix2 r l) = x (ix2 r l) * c (ix2 r l) + x (ix2 r ⟨(l.val + 8) % 256, by omega⟩) * u (ix2 r l)
      + x (ix2 r ⟨(l.val + 248) % 256, by omega⟩) * d (ix2 r l) := by
  unfold turn
  pointwise
  rw [show (⟨(l.val + 256 - 248) % 256, by omega⟩ : Fin 256) = ⟨(l.val + 8) % 256, by omega⟩ from Fin.ext (by simp only []; omega),
    show (⟨(l.val + 256 - 8) % 256, by omega⟩ : Fin 256) = ⟨(l.val + 248) % 256, by omega⟩ from Fin.ext (by simp only []; omega)]

/-- A tile of queries, turned by the three tables. -/
def turnT (x c u d : Vec Ideal S128x128 .f32) : FVec Ideal S128x128 .f32 :=
  addf (addf (mulf x (shapeCast S128x128 c shapeCasts_S128x128_S128x128))
    (mulf (dynamicRotate 1 120#32 none x rotates_S128x128_d1) (shapeCast S128x128 u shapeCasts_S128x128_S128x128)))
    (mulf (dynamicRotate 1 8#32 none x rotates_S128x128_d1) (shapeCast S128x128 d shapeCasts_S128x128_S128x128))

theorem turnT_apply (x c u d : Vec Ideal S128x128 .f32) (r : Fin 128) (l : Fin 128) :
    turnT x c u d (ix2 r l) = x (ix2 r l) * c (ix2 r l) + x (ix2 r ⟨(l.val + 8) % 128, by omega⟩) * u (ix2 r l)
      + x (ix2 r ⟨(l.val + 120) % 128, by omega⟩) * d (ix2 r l) := by
  unfold turnT
  pointwise
  rw [show (⟨(l.val + 128 - 120) % 128, by omega⟩ : Fin 128) = ⟨(l.val + 8) % 128, by omega⟩ from Fin.ext (by simp only []; omega),
    show (⟨(l.val + 128 - 8) % 128, by omega⟩ : Fin 128) = ⟨(l.val + 120) % 128, by omega⟩ from Fin.ext (by simp only []; omega)]

/-- The band of 256 positions: the block before and the block itself. -/
def band (a b : FVec Ideal S128x256 .f32) : FVec Ideal S256x256 .f32 :=
  concatenate S256x256 0 [⟨S128x256, a⟩, ⟨S128x256, b⟩] concatenates_S128x256_S128x256_S256x256_d0

theorem band_apply (a b : FVec Ideal S128x256 .f32) (k l : Fin 256) :
    band a b (ix2 k l) = if h : k.val < 128 then a (ix2 ⟨k.val, h⟩ l) else b (ix2 ⟨k.val - 128, by omega⟩ l) := by
  unfold band
  pointwise

/-- Two tiles of queries, one below the other. -/
def pair (a b : FVec Ideal S128x128 .bf16) : FVec Ideal S256x128 .bf16 :=
  concatenate S256x128 0 [⟨S128x128, a⟩, ⟨S128x128, b⟩] concatenates_S128x128_S128x128_S256x128_d0

theorem pair_apply (a b : FVec Ideal S128x128 .bf16) (k : Fin 256) (l : Fin 128) :
    pair a b (ix2 k l) = if h : k.val < 128 then a (ix2 ⟨k.val, h⟩ l) else b (ix2 ⟨k.val - 128, by omega⟩ l) := by
  unfold pair
  pointwise

/-- The lanes of an even head of the band, and of an odd one, the other head's lanes empty. -/
def evenA (x : FVec Ideal S256x256 .f32) : FVec Ideal S256x128 .f32 :=
  select (cmpi .slt (iota .tc S256x128 32 [1] iota_S256x128_d1_w32) (broadcast S256x128 64#32))
    (extractStridedSlice S256x128 ![0, 0] x slices_S256x256_o0_0_S256x128) (broadcast S256x128 (Scalar.ofBits .f32 0x00000000#32))
def oddA (x : FVec Ideal S256x256 .f32) : FVec Ideal S256x128 .f32 :=
  select (cmpi .sge (iota .tc S256x128 32 [1] iota_S256x128_d1_w32) (broadcast S256x128 64#32))
    (extractStridedSlice S256x128 ![0, 0] x slices_S256x256_o0_0_S256x128) (broadcast S256x128 (Scalar.ofBits .f32 0x00000000#32))
def evenB (x : FVec Ideal S256x256 .f32) : FVec Ideal S256x128 .f32 :=
  select (cmpi .slt (iota .tc S256x128 32 [1] iota_S256x128_d1_w32) (broadcast S256x128 64#32))
    (extractStridedSlice S256x128 ![0, 128] x slices_S256x256_o0_128_S256x128) (broadcast S256x128 (Scalar.ofBits .f32 0x00000000#32))
def oddB (x : FVec Ideal S256x256 .f32) : FVec Ideal S256x128 .f32 :=
  select (cmpi .sge (iota .tc S256x128 32 [1] iota_S256x128_d1_w32) (broadcast S256x128 64#32))
    (extractStridedSlice S256x128 ![0, 128] x slices_S256x256_o0_128_S256x128) (broadcast S256x128 (Scalar.ofBits .f32 0x00000000#32))
/-- The lanes moved by 64, and not moved. -/
def moved (x : FVec Ideal S256x128 .f32) : FVec Ideal S256x128 .bf16 :=
  truncf .bf16 (dynamicRotate 1 64#32 none x rotates_S256x128_d1) bitsLt_bf16_f32
def kept (x : FVec Ideal S256x128 .f32) : FVec Ideal S256x128 .bf16 := truncf .bf16 x bitsLt_bf16_f32

theorem evenA_apply (x : FVec Ideal S256x256 .f32) (k : Fin 256) (l : Fin 128) :
    evenA x (ix2 k l) = if l.val < 64 then x (ix2 k ⟨l.val, by omega⟩) else 0 := by
  unfold evenA
  pointwise
  rw [slt64]
  exact select_ofBool _ _ _
theorem oddA_apply (x : FVec Ideal S256x256 .f32) (k : Fin 256) (l : Fin 128) :
    oddA x (ix2 k l) = if 64 ≤ l.val then x (ix2 k ⟨l.val, by omega⟩) else 0 := by
  unfold oddA
  pointwise
  rw [sge64]
  exact select_ofBool _ _ _
theorem evenB_apply (x : FVec Ideal S256x256 .f32) (k : Fin 256) (l : Fin 128) :
    evenB x (ix2 k l) = if l.val < 64 then x (ix2 k ⟨128 + l.val, by omega⟩) else 0 := by
  unfold evenB
  pointwise
  rw [slt64]
  exact select_ofBool _ _ _
theorem oddB_apply (x : FVec Ideal S256x256 .f32) (k : Fin 256) (l : Fin 128) :
    oddB x (ix2 k l) = if 64 ≤ l.val then x (ix2 k ⟨128 + l.val, by omega⟩) else 0 := by
  unfold oddB
  pointwise
  rw [sge64]
  exact select_ofBool _ _ _
theorem moved_apply (x : FVec Ideal S256x128 .f32) (k : Fin 256) (l : Fin 128) :
    moved x (ix2 k l) = x (ix2 k ⟨(l.val + 64) % 128, by omega⟩) := by
  unfold moved
  pointwise
  rw [show (⟨(l.val + 128 - 64) % 128, by omega⟩ : Fin 128) = ⟨(l.val + 64) % 128, by omega⟩ from Fin.ext (by simp only []; omega)]
theorem kept_apply (x : FVec Ideal S256x128 .f32) (k : Fin 256) (l : Fin 128) :
    kept x (ix2 k l) = x (ix2 k l) := by
  unfold kept
  pointwise

/-- The sinks of two query heads over their 128 queries each. -/
def sinkRow (a b : Elt Ideal .f32) : FVec Ideal S1x256 .f32 :=
  concatenate S1x256 1 [⟨S1x128, broadcast S1x128 a⟩, ⟨S1x128, broadcast S1x128 b⟩] concatenates_S1x128_S1x128_S1x256_d1

theorem sinkRow_apply (a b : Elt Ideal .f32) (r : Fin 256) :
    sinkRow a b (ix2 0 r) = if r.val < 128 then a else b := by
  unfold sinkRow
  pointwise
  split_ifs <;> rfl

/-- The scores of 256 keys for 256 queries. -/
def scores (mk : IVec S256x256 1) (k q : FVec Ideal S256x128 .bf16) : FVec Ideal S256x256 .f32 :=
  select mk (mulf (matmul dot_S256x128_S256x128_S256x256_1_1_0_0_n_n none k q (constant S256x256 .f32 0x00000000#32))
    (broadcast S256x256 (Scalar.ofBits .f32 0x3E000000#32))) (broadcast S256x256 (Named.named κ "mask" 0xF149F2CA#32))

theorem scores_apply (mk : IVec S256x256 1) (k q : FVec Ideal S256x128 .bf16) (j r : Fin 256) :
    scores mk k q (ix2 j r) = if mk (ix2 j r) = 1#1 then (∑ l : Fin 128, k (ix2 j l) * q (ix2 r l)) * ((0.125 : ℝ) : EReal) else ⊥ := by
  unfold scores
  pointwise
  rw [eighth, masked]
  rfl

/-- The greatest score of a query, its sink with them. -/
def tops (s : FVec Ideal S256x256 .f32) (z : FVec Ideal S1x256 .f32) : FVec Ideal S1x256 .f32 :=
  maximumf (shapeCast S1x256 (multiReduction .maximumf [0] S256 s 0xFF800000#32 reduces_S256x256_S256 (.inl rfl) rfl) shapeCasts_S256_S1x256) z

theorem tops_apply (s : FVec Ideal S256x256 .f32) (z : FVec Ideal S1x256 .f32) (r : Fin 256) :
    tops s z (ix2 0 r) = top (fun k => s (ix2 k r)) (z (ix2 0 r)) := by
  unfold tops top
  pointwise
  rw [ninf]

/-- The exponentials of the scores, and of the sinks. -/
def exps (s : FVec Ideal S256x256 .f32) (z : FVec Ideal S1x256 .f32) : FVec Ideal S256x256 .f32 :=
  exp (subf s (broadcastTo S256x256 (tops s z) broadcasts_S1x256_S256x256))
def expz (s : FVec Ideal S256x256 .f32) (z : FVec Ideal S1x256 .f32) : FVec Ideal S1x256 .f32 :=
  exp (subf z (tops s z))

theorem exps_apply (s : FVec Ideal S256x256 .f32) (z : FVec Ideal S1x256 .f32) (k r : Fin 256) :
    exps s z (ix2 k r) = Ideal.exp (s (ix2 k r) - tops s z (ix2 0 r)) := by
  unfold exps
  pointwise
theorem expz_apply (s : FVec Ideal S256x256 .f32) (z : FVec Ideal S1x256 .f32) (r : Fin 256) :
    expz s z (ix2 0 r) = Ideal.exp (z (ix2 0 r) - tops s z (ix2 0 r)) := by
  unfold expz
  pointwise

/-- The reciprocal of a query's mass. -/
def invs (s : FVec Ideal S256x256 .f32) (z : FVec Ideal S1x256 .f32) : FVec Ideal S1x256 .f32 :=
  divf (broadcast S1x256 (Scalar.ofBits .f32 0x3F800000#32))
    (addf (shapeCast S1x256 (multiReduction .add [0] S256 (exps s z) 0x00000000#32 reduces_S256x256_S256 (.inl rfl) rfl) shapeCasts_S256_S1x256) (expz s z))

theorem invs_apply (s : FVec Ideal S256x256 .f32) (z : FVec Ideal S1x256 .f32) (r : Fin 256) :
    invs s z (ix2 0 r) = Ideal.div 1 (∑ k : Fin 256, exps s z (ix2 k r) + expz s z (ix2 0 r)) := by
  unfold invs
  pointwise

/-- The weights of the keys. -/
def weights (s : FVec Ideal S256x256 .f32) (z : FVec Ideal S1x256 .f32) : FVec Ideal S256x256 .f32 :=
  mulf (exps s z) (broadcastTo S256x256 (invs s z) broadcasts_S1x256_S256x256)

theorem weights_apply (s : FVec Ideal S256x256 .f32) (z : FVec Ideal S1x256 .f32) (k r : Fin 256) :
    weights s z (ix2 k r) = wgt (fun k => s (ix2 k r)) (z (ix2 0 r)) k := by
  have e : weights s z (ix2 k r) = exps s z (ix2 k r) * invs s z (ix2 0 r) := by
    unfold weights
    pointwise
  rw [e, invs_apply, exps_apply, expz_apply, tops_apply]
  simp only [exps_apply, tops_apply]
  rfl

/-- Which keys a query sees, for both query tiles. -/
def seen (i : grid0.Coords) : IVec S256x256 1 := k0_pay2 i

theorem seen_apply (i : grid0.Coords) (k r : Fin 256) :
    seen i (ix2 k r) = BitVec.ofBool (decide (vis (i 0).val (r.val % 128) k.val)) := by
  unfold seen k0_pay2
  pointwise
  split_ifs with h
  · rw [near ⟨r.val, h⟩ k, key128 k, first (i 0), Nat.mod_eq_of_lt h]
    exact ofBool_vis _ _ _
  · rw [near ⟨r.val - 128, by omega⟩ k, key128 k, first (i 0), show r.val % 128 = r.val - 128 by omega]
    exact ofBool_vis _ _ _

/-- The tables' lanes, of the cosines and the sines of 128 positions. -/
def IsTab {w : Nat} (c u d : Fin 128 → Fin w → EReal) (C S : Fin 128 → Fin 8 → EReal) : Prop :=
  ∀ (r : Fin 128) (l : Fin w),
    (c r l = if h : l.val % 64 < 8 then C r ⟨l.val % 64, h⟩ else if h2 : l.val % 64 < 16 then C r ⟨l.val % 64 - 8, by omega⟩ else 1)
    ∧ (u r l = if h : l.val % 64 < 8 then -S r ⟨l.val % 64, h⟩ else 0)
    ∧ (d r l = if h : l.val % 64 < 8 then 0 else if h2 : l.val % 64 < 16 then S r ⟨l.val % 64 - 8, by omega⟩ else 0)

theorem turn_rot (x c u d : Vec Ideal S128x256 .f32) (C S : Fin 128 → Fin 8 → EReal)
    (ht : IsTab (fun r l => c (ix2 r l)) (fun r l => u (ix2 r l)) (fun r l => d (ix2 r l)) C S) (r : Fin 128) (l : Fin 256) :
    turn x c u d (ix2 r l) = rot (fun e => x (ix2 r ⟨l.val / 64 * 64 + e.val, by omega⟩)) (C r) (S r) ⟨l.val % 64, by omega⟩ := by
  rw [turn_apply]
  obtain ⟨e0, e1, e2⟩ := ht r l
  refine rot_law _ _ _ _ _ _ _ _ _ _ ?_ (fun h => ?_) (fun h => ?_) e0 e1 e2
  · exact congrArg (fun l => x (ix2 r l)) (Fin.ext (by show l.val = l.val / 64 * 64 + l.val % 64; omega))
  · exact congrArg (fun l => x (ix2 r l)) (Fin.ext (by show (l.val + 8) % 256 = l.val / 64 * 64 + (l.val % 64 + 8); dsimp only at h; omega))
  · exact congrArg (fun l => x (ix2 r l)) (Fin.ext (by show (l.val + 248) % 256 = l.val / 64 * 64 + (l.val % 64 - 8); dsimp only at h; omega))

theorem turnT_rot (x c u d : Vec Ideal S128x128 .f32) (C S : Fin 128 → Fin 8 → EReal)
    (ht : IsTab (fun r l => c (ix2 r l)) (fun r l => u (ix2 r l)) (fun r l => d (ix2 r l)) C S) (r : Fin 128) (l : Fin 128) :
    turnT x c u d (ix2 r l) = rot (fun e => x (ix2 r ⟨l.val / 64 * 64 + e.val, by omega⟩)) (C r) (S r) ⟨l.val % 64, by omega⟩ := by
  rw [turnT_apply]
  obtain ⟨e0, e1, e2⟩ := ht r l
  refine rot_law _ _ _ _ _ _ _ _ _ _ ?_ (fun h => ?_) (fun h => ?_) e0 e1 e2
  · exact congrArg (fun l => x (ix2 r l)) (Fin.ext (by show l.val = l.val / 64 * 64 + l.val % 64; omega))
  · exact congrArg (fun l => x (ix2 r l)) (Fin.ext (by show (l.val + 8) % 128 = l.val / 64 * 64 + (l.val % 64 + 8); dsimp only at h; omega))
  · exact congrArg (fun l => x (ix2 r l)) (Fin.ext (by show (l.val + 120) % 128 = l.val / 64 * 64 + (l.val % 64 - 8); dsimp only at h; omega))

/-- The lanes of half `p` hold the rows `X`, the others zero. -/
def IsHalf (y : FVec Ideal S256x128 .bf16) (X : Fin 256 → Fin 64 → EReal) (p : Nat) : Prop :=
  ∀ (k : Fin 256) (l : Fin 128), y (ix2 k l) = if l.val / 64 = p then X k ⟨l.val % 64, by omega⟩ else 0

/-- Head `h`'s lanes of the band. -/
def lanesOf (x : FVec Ideal S256x256 .f32) (h : Fin 4) (k : Fin 256) (d : Fin 64) : EReal := x (ix2 k ⟨h.val * 64 + d.val, by omega⟩)

theorem half00 (x : FVec Ideal S256x256 .f32) : IsHalf (kept (evenA x)) (lanesOf x 0) 0 := fun k l => by
  rw [kept_apply, evenA_apply]
  refine law_if _ _ (by omega) fun h => ?_
  exact congrArg (fun l => x (ix2 k l)) (Fin.ext (by show l.val = 0 * 64 + l.val % 64; omega))
theorem half01 (x : FVec Ideal S256x256 .f32) : IsHalf (moved (evenA x)) (lanesOf x 0) 1 := fun k l => by
  rw [moved_apply, evenA_apply]
  refine law_if _ _ (by dsimp only; omega) fun h => ?_
  exact congrArg (fun l => x (ix2 k l)) (Fin.ext (by dsimp only at h; show (l.val + 64) % 128 = 0 * 64 + l.val % 64; omega))
theorem half10 (x : FVec Ideal S256x256 .f32) : IsHalf (moved (oddA x)) (lanesOf x 1) 0 := fun k l => by
  rw [moved_apply, oddA_apply]
  refine law_if _ _ (by dsimp only; omega) fun h => ?_
  exact congrArg (fun l => x (ix2 k l)) (Fin.ext (by dsimp only at h; show (l.val + 64) % 128 = 1 * 64 + l.val % 64; omega))
theorem half11 (x : FVec Ideal S256x256 .f32) : IsHalf (kept (oddA x)) (lanesOf x 1) 1 := fun k l => by
  rw [kept_apply, oddA_apply]
  refine law_if _ _ (by omega) fun h => ?_
  exact congrArg (fun l => x (ix2 k l)) (Fin.ext (by show l.val = 1 * 64 + l.val % 64; omega))
theorem half20 (x : FVec Ideal S256x256 .f32) : IsHalf (kept (evenB x)) (lanesOf x 2) 0 := fun k l => by
  rw [kept_apply, evenB_apply]
  refine law_if _ _ (by omega) fun h => ?_
  exact congrArg (fun l => x (ix2 k l)) (Fin.ext (by show 128 + l.val = 2 * 64 + l.val % 64; omega))
theorem half21 (x : FVec Ideal S256x256 .f32) : IsHalf (moved (evenB x)) (lanesOf x 2) 1 := fun k l => by
  rw [moved_apply, evenB_apply]
  refine law_if _ _ (by dsimp only; omega) fun h => ?_
  exact congrArg (fun l => x (ix2 k l)) (Fin.ext (by dsimp only at h; show 128 + (l.val + 64) % 128 = 2 * 64 + l.val % 64; omega))
theorem half30 (x : FVec Ideal S256x256 .f32) : IsHalf (moved (oddB x)) (lanesOf x 3) 0 := fun k l => by
  rw [moved_apply, oddB_apply]
  refine law_if _ _ (by dsimp only; omega) fun h => ?_
  exact congrArg (fun l => x (ix2 k l)) (Fin.ext (by dsimp only at h; show 128 + (l.val + 64) % 128 = 3 * 64 + l.val % 64; omega))
theorem half31 (x : FVec Ideal S256x256 .f32) : IsHalf (kept (oddB x)) (lanesOf x 3) 1 := fun k l => by
  rw [kept_apply, oddB_apply]
  refine law_if _ _ (by omega) fun h => ?_
  exact congrArg (fun l => x (ix2 k l)) (Fin.ext (by show 128 + l.val = 3 * 64 + l.val % 64; omega))

/-- A query row's scores against one half's keys. -/
def rowScores (n : Nat) (X : Fin 256 → Fin 64 → EReal) (q : FVec Ideal S256x128 .bf16) (p : Fin 2) (r : Fin 256) (k : Fin 256) : EReal :=
  if vis n (r.val % 128) k.val then (∑ d : Fin 64, X k d * q (ix2 r ⟨p.val * 64 + d.val, by omega⟩)) * ((0.125 : ℝ) : EReal) else ⊥

theorem half_scores (i : grid0.Coords) (kh q : FVec Ideal S256x128 .bf16) (X : Fin 256 → Fin 64 → EReal) (p : Fin 2)
    (hk : IsHalf kh X p.val) (k r : Fin 256) : scores (seen i) kh q (ix2 k r) = rowScores (i 0).val X q p r k := by
  rw [scores_apply, seen_apply]
  unfold rowScores
  refine law_if _ _ (ofBool_one _) fun _ => ?_
  rw [sum_half p.val p.isLt (fun l => kh (ix2 k l)) (fun l => q (ix2 r l)) fun l hl => by rw [hk, if_neg hl]]
  refine congrArg (· * ((0.125 : ℝ) : EReal)) (Finset.sum_congr rfl fun d _ => ?_)
  rw [hk, if_pos (by show (p.val * 64 + d.val) / 64 = p.val; omega)]
  exact congrArg (fun d => X k d * _) (Fin.ext (by show (p.val * 64 + d.val) % 64 = d.val; omega))

/-- The weights of one half's keys. -/
def half (i : grid0.Coords) (kh q : FVec Ideal S256x128 .bf16) (a b : Elt Ideal .f32) : FVec Ideal S256x256 .f32 :=
  weights (scores (seen i) kh q) (sinkRow a b)

theorem half_apply (i : grid0.Coords) (kh q : FVec Ideal S256x128 .bf16) (a b : Elt Ideal .f32) (X : Fin 256 → Fin 64 → EReal)
    (p : Fin 2) (hk : IsHalf kh X p.val) (k r : Fin 256) :
    half i kh q a b (ix2 k r) = wgt (rowScores (i 0).val X q p r) (if r.val < 128 then a else b) k := by
  unfold half
  rw [weights_apply, sinkRow_apply]
  exact congrArg (fun s => wgt s _ k) (funext fun k => half_scores i kh q X p hk k r)

/-- The same with weights already rounded: keys, summed over the band for every query. -/
def back (w : FVec Ideal S256x256 .bf16) (k : FVec Ideal S256x128 .bf16) : FVec Ideal S256x128 .f32 :=
  matmul dot_S256x256_S256x128_S256x128_0_0_1_1_n_n none w k (constant S256x128 .f32 0x00000000#32)
theorem back_half (w : FVec Ideal S256x256 .bf16) (v : FVec Ideal S256x128 .bf16) (Y : Fin 256 → Fin 64 → EReal) (p : Nat)
    (hv : IsHalf v Y p) (r : Fin 256) (l : Fin 128) :
    back w v (ix2 r l) = if l.val / 64 = p then ∑ k : Fin 256, w (ix2 k r) * Y k ⟨l.val % 64, by omega⟩ else 0 := by
  have e : back w v (ix2 r l) = ∑ k : Fin 256, w (ix2 k r) * v (ix2 k l) := by
    unfold back
    pointwise
  rw [e]
  by_cases h : l.val / 64 = p
  · rw [if_pos h]
    exact Finset.sum_congr rfl fun k _ => by rw [hv, if_pos h]
  · rw [if_neg h]
    exact Finset.sum_eq_zero fun k _ => by rw [hv, if_neg h, mul_zero]

/-- Rows of queries, summed over the queries for every key of the band. -/
def onto (w : FVec Ideal S256x256 .bf16) (q : FVec Ideal S256x128 .bf16) : FVec Ideal S256x128 .f32 :=
  matmul dot_S256x256_S256x128_S256x128_1_0_0_1_n_n none w q (constant S256x128 .f32 0x00000000#32)
theorem onto_apply (w : FVec Ideal S256x256 .bf16) (q : FVec Ideal S256x128 .bf16) (k : Fin 256) (l : Fin 128) :
    onto w q (ix2 k l) = ∑ r : Fin 256, w (ix2 k r) * q (ix2 r l) := by
  unfold onto
  pointwise

/-- The gradient of the weights: values against the gradient of the output. -/
def grad (v y : FVec Ideal S256x128 .bf16) : FVec Ideal S256x256 .f32 :=
  matmul dot_S256x128_S256x128_S256x256_1_1_0_0_n_n none v y (constant S256x256 .f32 0x00000000#32)

/-- A query row's gradient of the weights, from one half's values. -/
def rowGrad (Y : Fin 256 → Fin 64 → EReal) (y : FVec Ideal S256x128 .bf16) (p : Fin 2) (r k : Fin 256) : EReal :=
  ∑ d : Fin 64, Y k d * y (ix2 r ⟨p.val * 64 + d.val, by omega⟩)

theorem grad_half (v y : FVec Ideal S256x128 .bf16) (Y : Fin 256 → Fin 64 → EReal) (p : Fin 2)
    (hv : IsHalf v Y p.val) (k r : Fin 256) : grad v y (ix2 k r) = rowGrad Y y p r k := by
  have e : grad v y (ix2 k r) = ∑ l : Fin 128, v (ix2 k l) * y (ix2 r l) := by
    unfold grad
    pointwise
  rw [e, sum_half p.val p.isLt (fun l => v (ix2 k l)) (fun l => y (ix2 r l)) fun l hl => by rw [hv, if_neg hl]]
  refine Finset.sum_congr rfl fun d _ => ?_
  rw [hv, if_pos (by show (p.val * 64 + d.val) / 64 = p.val; omega)]
  exact congrArg (fun d => Y k d * _) (Fin.ext (by show (p.val * 64 + d.val) % 64 = d.val; omega))

/-- A query's mean gradient, weighted by its weights. -/
def mean (p g : FVec Ideal S256x256 .f32) : FVec Ideal S1x256 .f32 :=
  shapeCast S1x256 (multiReduction .add [0] S256 (mulf p g) 0x00000000#32 reduces_S256x256_S256 (.inl rfl) rfl) shapeCasts_S256_S1x256
theorem mean_apply (p g : FVec Ideal S256x256 .f32) (r : Fin 256) :
    mean p g (ix2 0 r) = ∑ k : Fin 256, p (ix2 k r) * g (ix2 k r) := by
  unfold mean
  pointwise

/-- The gradient of the scores. -/
def dscore (p g : FVec Ideal S256x256 .f32) : FVec Ideal S256x256 .bf16 :=
  truncf .bf16 (mulf (mulf p (subf g (broadcastTo S256x256 (mean p g) broadcasts_S1x256_S256x256)))
    (broadcast S256x256 (Scalar.ofBits .f32 0x3E000000#32))) bitsLt_bf16_f32
theorem dscore_apply (p g : FVec Ideal S256x256 .f32) (k r : Fin 256) :
    dscore p g (ix2 k r) = p (ix2 k r) * (g (ix2 k r) - mean p g (ix2 0 r)) * ((0.125 : ℝ) : EReal) := by
  unfold dscore
  pointwise
  rw [eighth]

/-- The weights, rounded; their scores' gradient; the weight of the sink times the mean gradient. -/
def halfP (i : grid0.Coords) (kh q : FVec Ideal S256x128 .bf16) (a b : Elt Ideal .f32) : FVec Ideal S256x256 .bf16 :=
  truncf .bf16 (half i kh q a b) bitsLt_bf16_f32
def halfD (i : grid0.Coords) (kh vh q y : FVec Ideal S256x128 .bf16) (a b : Elt Ideal .f32) : FVec Ideal S256x256 .bf16 :=
  dscore (half i kh q a b) (grad vh y)
def halfZ (i : grid0.Coords) (kh vh q y : FVec Ideal S256x128 .bf16) (a b : Elt Ideal .f32) : FVec Ideal S1x256 .f32 :=
  mulf (mulf (expz (scores (seen i) kh q) (sinkRow a b)) (invs (scores (seen i) kh q) (sinkRow a b))) (mean (half i kh q a b) (grad vh y))

/-- One query row: a key's weight, the mean gradient, a score's gradient, the sink's gradient before its sign. -/
def rowP (n : Nat) (X : Fin 256 → Fin 64 → EReal) (q : FVec Ideal S256x128 .bf16) (p : Fin 2) (r : Fin 256) (z : EReal) (k : Fin 256) : EReal :=
  wgt (rowScores n X q p r) z k
def rowM (n : Nat) (X Y : Fin 256 → Fin 64 → EReal) (q y : FVec Ideal S256x128 .bf16) (p : Fin 2) (r : Fin 256) (z : EReal) : EReal :=
  ∑ k : Fin 256, rowP n X q p r z k * rowGrad Y y p r k
def rowD (n : Nat) (X Y : Fin 256 → Fin 64 → EReal) (q y : FVec Ideal S256x128 .bf16) (p : Fin 2) (r : Fin 256) (z : EReal) (k : Fin 256) : EReal :=
  rowP n X q p r z k * (rowGrad Y y p r k - rowM n X Y q y p r z) * ((0.125 : ℝ) : EReal)
def rowZ (n : Nat) (X Y : Fin 256 → Fin 64 → EReal) (q y : FVec Ideal S256x128 .bf16) (p : Fin 2) (r : Fin 256) (z : EReal) : EReal :=
  wgtz (rowScores n X q p r) z * rowM n X Y q y p r z

theorem halfP_apply (i : grid0.Coords) (kh q : FVec Ideal S256x128 .bf16) (a b : Elt Ideal .f32) (X : Fin 256 → Fin 64 → EReal)
    (p : Fin 2) (hk : IsHalf kh X p.val) (k r : Fin 256) :
    halfP i kh q a b (ix2 k r) = rowP (i 0).val X q p r (if r.val < 128 then a else b) k :=
  half_apply i kh q a b X p hk k r

theorem halfM_apply (i : grid0.Coords) (kh vh q y : FVec Ideal S256x128 .bf16) (a b : Elt Ideal .f32) (X Y : Fin 256 → Fin 64 → EReal)
    (p : Fin 2) (hk : IsHalf kh X p.val) (hv : IsHalf vh Y p.val) (r : Fin 256) :
    mean (half i kh q a b) (grad vh y) (ix2 0 r) = rowM (i 0).val X Y q y p r (if r.val < 128 then a else b) := by
  rw [mean_apply]
  refine Finset.sum_congr rfl fun k _ => ?_
  rw [half_apply i kh q a b X p hk, grad_half vh y Y p hv]
  rfl

theorem halfD_apply (i : grid0.Coords) (kh vh q y : FVec Ideal S256x128 .bf16) (a b : Elt Ideal .f32) (X Y : Fin 256 → Fin 64 → EReal)
    (p : Fin 2) (hk : IsHalf kh X p.val) (hv : IsHalf vh Y p.val) (k r : Fin 256) :
    halfD i kh vh q y a b (ix2 k r) = rowD (i 0).val X Y q y p r (if r.val < 128 then a else b) k := by
  unfold halfD
  rw [dscore_apply, halfM_apply i kh vh q y a b X Y p hk hv, half_apply i kh q a b X p hk, grad_half vh y Y p hv]
  rfl

theorem halfZ_apply (i : grid0.Coords) (kh vh q y : FVec Ideal S256x128 .bf16) (a b : Elt Ideal .f32) (X Y : Fin 256 → Fin 64 → EReal)
    (p : Fin 2) (hk : IsHalf kh X p.val) (hv : IsHalf vh Y p.val) (r : Fin 256) :
    halfZ i kh vh q y a b (ix2 0 r) = rowZ (i 0).val X Y q y p r (if r.val < 128 then a else b) := by
  have e : halfZ i kh vh q y a b (ix2 0 r) = expz (scores (seen i) kh q) (sinkRow a b) (ix2 0 r) * invs (scores (seen i) kh q) (sinkRow a b) (ix2 0 r)
      * mean (half i kh q a b) (grad vh y) (ix2 0 r) := by
    unfold halfZ
    pointwise
  rw [e, halfM_apply i kh vh q y a b X Y p hk hv, invs_apply, expz_apply, tops_apply, sinkRow_apply]
  simp only [exps_apply, expz_apply, tops_apply, sinkRow_apply, half_scores i kh q X p hk]
  rfl

/-- The gradient of two tiles of queries, before it is turned back. -/
def gradQ (i : grid0.Coords) (k0 k1 v0 v1 q y : FVec Ideal S256x128 .bf16) (a0 a1 b0 b1 : Elt Ideal .f32) : FVec Ideal S256x128 .f32 :=
  addf (back (halfD i k0 v0 q y a0 a1) k0) (back (halfD i k1 v1 q y b0 b1) k1)

theorem gradQ_apply (i : grid0.Coords) (k0 k1 v0 v1 q y : FVec Ideal S256x128 .bf16) (a0 a1 b0 b1 : Elt Ideal .f32)
    (X Y : Fin 256 → Fin 64 → EReal) (hk0 : IsHalf k0 X 0) (hk1 : IsHalf k1 X 1) (hv0 : IsHalf v0 Y 0) (hv1 : IsHalf v1 Y 1)
    (r : Fin 256) (l : Fin 128) :
    gradQ i k0 k1 v0 v1 q y a0 a1 b0 b1 (ix2 r l) = ∑ k : Fin 256, rowD (i 0).val X Y q y ⟨l.val / 64, by omega⟩ r
      (if l.val < 64 then (if r.val < 128 then a0 else a1) else (if r.val < 128 then b0 else b1)) k * X k ⟨l.val % 64, by omega⟩ := by
  have e : gradQ i k0 k1 v0 v1 q y a0 a1 b0 b1 (ix2 r l) = back (halfD i k0 v0 q y a0 a1) k0 (ix2 r l) + back (halfD i k1 v1 q y b0 b1) k1 (ix2 r l) := by
    unfold gradQ
    pointwise
  rw [e, back_half _ _ X 0 hk0, back_half _ _ X 1 hk1]
  by_cases h : l.val < 64
  · rw [if_pos (by omega), if_neg (by omega), add_zero, if_pos h]
    refine Finset.sum_congr rfl fun k _ => ?_
    rw [halfD_apply i k0 v0 q y a0 a1 X Y 0 hk0 hv0]
    exact congrArg (fun p => rowD (i 0).val X Y q y p r _ k * _) (Fin.ext (by show 0 = l.val / 64; omega))
  · rw [if_neg (by omega), if_pos (by omega), zero_add, if_neg h]
    refine Finset.sum_congr rfl fun k _ => ?_
    rw [halfD_apply i k1 v1 q y b0 b1 X Y 1 hk1 hv1]
    exact congrArg (fun p => rowD (i 0).val X Y q y p r _ k * _) (Fin.ext (by show 1 = l.val / 64; omega))

/-- The two halves of a head's gradient brought to the lanes of an even head, and of an odd one. -/
def ownE (x y : FVec Ideal S256x128 .f32) : FVec Ideal S256x128 .f32 :=
  select (cmpi .slt (iota .tc S256x128 32 [1] iota_S256x128_d1_w32) (broadcast S256x128 64#32))
    (addf x (dynamicRotate 1 64#32 none y rotates_S256x128_d1)) (broadcast S256x128 (Scalar.ofBits .f32 0x00000000#32))
def ownO (x y : FVec Ideal S256x128 .f32) : FVec Ideal S256x128 .f32 :=
  select (cmpi .sge (iota .tc S256x128 32 [1] iota_S256x128_d1_w32) (broadcast S256x128 64#32))
    (addf y (dynamicRotate 1 64#32 none x rotates_S256x128_d1)) (broadcast S256x128 (Scalar.ofBits .f32 0x00000000#32))
theorem ownE_apply (x y : FVec Ideal S256x128 .f32) (k : Fin 256) (l : Fin 128) :
    ownE x y (ix2 k l) = if l.val < 64 then x (ix2 k l) + y (ix2 k ⟨(l.val + 64) % 128, by omega⟩) else 0 := by
  unfold ownE
  pointwise
  rw [slt64, show (⟨(l.val + 128 - 64) % 128, by omega⟩ : Fin 128) = ⟨(l.val + 64) % 128, by omega⟩ from Fin.ext (by simp only []; omega)]
  exact select_ofBool _ _ _
theorem ownO_apply (x y : FVec Ideal S256x128 .f32) (k : Fin 256) (l : Fin 128) :
    ownO x y (ix2 k l) = if 64 ≤ l.val then y (ix2 k l) + x (ix2 k ⟨(l.val + 64) % 128, by omega⟩) else 0 := by
  unfold ownO
  pointwise
  rw [sge64, show (⟨(l.val + 128 - 64) % 128, by omega⟩ : Fin 128) = ⟨(l.val + 64) % 128, by omega⟩ from Fin.ext (by simp only []; omega)]
  exact select_ofBool _ _ _

/-- Two heads side by side. -/
def both (a b : FVec Ideal S256x128 .f32) : FVec Ideal S256x128 .f32 := addf a b

theorem both_apply (x y x' y' : FVec Ideal S256x128 .f32) (k : Fin 256) (l : Fin 128) :
    both (ownE x y) (ownO x' y') (ix2 k l) = if l.val < 64 then x (ix2 k ⟨l.val % 64, by omega⟩) + y (ix2 k ⟨64 + l.val % 64, by omega⟩)
      else x' (ix2 k ⟨l.val % 64, by omega⟩) + y' (ix2 k ⟨64 + l.val % 64, by omega⟩) := by
  have e : both (ownE x y) (ownO x' y') (ix2 k l) = ownE x y (ix2 k l) + ownO x' y' (ix2 k l) := by
    unfold both
    pointwise
  rw [e, ownE_apply, ownO_apply]
  by_cases h : l.val < 64
  · rw [if_pos h, if_neg (by omega), if_pos h, add_zero]
    exact congrArg₂ (fun a b => x (ix2 k a) + y (ix2 k b)) (Fin.ext (by show l.val = l.val % 64; omega)) (Fin.ext (by show (l.val + 64) % 128 = 64 + l.val % 64; omega))
  · rw [if_neg h, if_pos (by omega), if_neg h, zero_add, add_comm]
    exact congrArg₂ (fun a b => x' (ix2 k a) + y' (ix2 k b)) (Fin.ext (by show (l.val + 64) % 128 = l.val % 64; omega)) (Fin.ext (by show l.val = 64 + l.val % 64; omega))

/-- The block before's rows, and the block's own. -/
def rowsA (x : FVec Ideal S256x128 .f32) : FVec Ideal S128x128 .f32 := extractStridedSlice S128x128 ![0, 0] x slices_S256x128_o0_0_S128x128
def rowsB (x : FVec Ideal S256x128 .f32) : FVec Ideal S128x128 .f32 := extractStridedSlice S128x128 ![128, 0] x slices_S256x128_o128_0_S128x128
theorem rowsA_apply (x : FVec Ideal S256x128 .f32) (r l : Fin 128) : rowsA x (ix2 r l) = x (ix2 ⟨r.val, by omega⟩ l) := by
  unfold rowsA
  pointwise
theorem rowsB_apply (x : FVec Ideal S256x128 .f32) (r l : Fin 128) : rowsB x (ix2 r l) = x (ix2 ⟨128 + r.val, by omega⟩ l) := by
  unfold rowsB
  pointwise

/-- A tile of the queries' gradient, turned back. -/
def unturn (x : FVec Ideal S128x128 .f32) (c u d : Vec Ideal S128x128 .f32) : FVec Ideal S128x128 .bf16 :=
  truncf .bf16 (addf (addf (mulf x (shapeCast S128x128 c shapeCasts_S128x128_S128x128))
    (mulf (dynamicRotate 1 120#32 none x rotates_S128x128_d1)
      (subf (broadcast S128x128 (Scalar.ofBits .f32 0x00000000#32)) (shapeCast S128x128 u shapeCasts_S128x128_S128x128))))
    (mulf (dynamicRotate 1 8#32 none x rotates_S128x128_d1)
      (subf (broadcast S128x128 (Scalar.ofBits .f32 0x00000000#32)) (shapeCast S128x128 d shapeCasts_S128x128_S128x128)))) bitsLt_bf16_f32

theorem unturn_rot (x : FVec Ideal S128x128 .f32) (c u d : Vec Ideal S128x128 .f32) (C S : Fin 128 → Fin 8 → EReal)
    (ht : IsTab (fun r l => c (ix2 r l)) (fun r l => u (ix2 r l)) (fun r l => d (ix2 r l)) C S) (r : Fin 128) (l : Fin 128) :
    unturn x c u d (ix2 r l) = rot (fun e => x (ix2 r ⟨l.val / 64 * 64 + e.val, by omega⟩)) (C r) (fun j => -S r j) ⟨l.val % 64, by omega⟩ := by
  have e : unturn x c u d (ix2 r l) = x (ix2 r l) * c (ix2 r l) + x (ix2 r ⟨(l.val + 8) % 128, by omega⟩) * (0 - u (ix2 r l))
      + x (ix2 r ⟨(l.val + 120) % 128, by omega⟩) * (0 - d (ix2 r l)) := by
    unfold unturn
    pointwise
    rw [show (⟨(l.val + 128 - 120) % 128, by omega⟩ : Fin 128) = ⟨(l.val + 8) % 128, by omega⟩ from Fin.ext (by simp only []; omega),
      show (⟨(l.val + 128 - 8) % 128, by omega⟩ : Fin 128) = ⟨(l.val + 120) % 128, by omega⟩ from Fin.ext (by simp only []; omega)]
  rw [e]
  obtain ⟨e0, e1, e2⟩ := ht r l
  refine rot_law _ _ _ _ _ _ _ _ _ _ ?_ (fun h => ?_) (fun h => ?_) e0 ?_ ?_
  · exact congrArg (fun l => x (ix2 r l)) (Fin.ext (by show l.val = l.val / 64 * 64 + l.val % 64; omega))
  · exact congrArg (fun l => x (ix2 r l)) (Fin.ext (by show (l.val + 8) % 128 = l.val / 64 * 64 + (l.val % 64 + 8); dsimp only at h; omega))
  · exact congrArg (fun l => x (ix2 r l)) (Fin.ext (by show (l.val + 120) % 128 = l.val / 64 * 64 + (l.val % 64 - 8); dsimp only at h; omega))
  · refine (congrArg (fun x : EReal => 0 - x) e1).trans ?_
    dsimp only
    split_ifs <;> simp only [zero_sub, neg_zero]
  · refine (congrArg (fun x : EReal => 0 - x) e2).trans ?_
    dsimp only
    split_ifs <;> simp only [zero_sub, neg_zero]

/-- The sinks' gradient of 128 queries, negated, on the lane of its head and added to what is there. -/
def lane (g : Nat) (acc : FVec Ideal S1x128 .f32) (x : FVec Ideal S1x128 .f32) : FVec Ideal S1x128 .f32 :=
  addf acc (select (cmpi .eq (iota .tc S1x128 32 [1] iota_S1x128_d1_w32) (broadcast S1x128 (BitVec.ofNat 32 g)))
    (broadcastTo S1x128 (shapeCast S1x1 (subf (broadcast S1x1 (Scalar.ofBits .f32 0x00000000#32))
      (shapeCast S1x1 (multiReduction .add [1] S1 x 0x00000000#32 reduces_S1x128_S1 (.inl rfl) rfl) shapeCasts_S1_S1x1)) shapeCasts_S1x1_S1x1) broadcasts_S1x1_S1x128)
    (broadcast S1x128 (Scalar.ofBits .f32 0x00000000#32)))

theorem eqlane : ∀ (l : Fin 128) (g : Fin 16), IntOp.cmpi .eq (BitVec.ofNat 32 l.val) (BitVec.ofNat 32 g.val) = BitVec.ofBool (decide (l.val = g.val)) := by
  decide +kernel

theorem lane_apply (g : Nat) (hg : g < 16) (acc x : FVec Ideal S1x128 .f32) (l : Fin 128) :
    lane g acc x (ix2 0 l) = acc (ix2 0 l) + if l.val = g then -∑ q : Fin 128, x (ix2 0 q) else 0 := by
  unfold lane
  pointwise
  rw [eqlane l ⟨g, hg⟩, zero_sub]
  exact congrArg (_ + ·) (select_ofBool _ _ _)

def colsA (x : FVec Ideal S1x256 .f32) : FVec Ideal S1x128 .f32 := extractStridedSlice S1x128 ![0, 0] x slices_S1x256_o0_0_S1x128
def colsB (x : FVec Ideal S1x256 .f32) : FVec Ideal S1x128 .f32 := extractStridedSlice S1x128 ![0, 128] x slices_S1x256_o0_128_S1x128
theorem colsA_apply (x : FVec Ideal S1x256 .f32) (l : Fin 128) : colsA x (ix2 0 l) = x (ix2 0 ⟨l.val, by omega⟩) := by
  unfold colsA
  pointwise
theorem colsB_apply (x : FVec Ideal S1x256 .f32) (l : Fin 128) : colsB x (ix2 0 l) = x (ix2 0 ⟨128 + l.val, by omega⟩) := by
  unfold colsB
  pointwise

/-- Four heads' sinks, from the two halves' rows. -/
def four (g0 g1 g2 g3 : Nat) (acc : FVec Ideal S1x128 .f32) (x y : FVec Ideal S1x256 .f32) : FVec Ideal S1x128 .f32 :=
  lane g3 (lane g2 (lane g1 (lane g0 acc (colsA x)) (colsB x)) (colsA y)) (colsB y)

/-- A product's rows with a square of weights, rounded. -/
def outGrad (x : Vec Ideal S128x1024 .bf16) (w : Vec Ideal S1024x1024 .bf16) : FVec Ideal S128x1024 .bf16 :=
  truncf .bf16 (matmul (φ₁ := .bf16) (φ₂ := .bf16) dot_S128x1024_S1024x1024_S128x1024_1_1_0_0_n_n none x w (constant S128x1024 .f32 0x00000000#32)) bitsLt_bf16_f32
theorem outGrad_apply (x : Vec Ideal S128x1024 .bf16) (w : Vec Ideal S1024x1024 .bf16) (r : Fin 128) (l : Fin 1024) :
    outGrad x w (ix2 r l) = ∑ e : Fin 1024, x (ix2 r e) * w (ix2 l e) := by
  unfold outGrad
  pointwise

/-- The keys and the values of the band, a pair of tiles of queries, and of the outputs' gradient. -/
def keys (kp kc c su sd cp sup sdp : Vec Ideal S128x256 .f32) : FVec Ideal S256x256 .f32 := band (turn kp cp sup sdp) (turn kc c su sd)
def queries (a b c u d : Vec Ideal S128x128 .f32) : FVec Ideal S256x128 .bf16 :=
  pair (truncf .bf16 (turnT a c u d) bitsLt_bf16_f32) (truncf .bf16 (turnT b c u d) bitsLt_bf16_f32)
def outs0 (y : FVec Ideal S128x1024 .bf16) : FVec Ideal S256x128 .bf16 :=
  pair (extractStridedSlice S128x128 ![0, 0] y slices_S128x1024_o0_0_S128x128) (extractStridedSlice S128x128 ![0, 128] y slices_S128x1024_o0_128_S128x128)
def outs1 (y : FVec Ideal S128x1024 .bf16) : FVec Ideal S256x128 .bf16 :=
  pair (extractStridedSlice S128x128 ![0, 256] y slices_S128x1024_o0_256_S128x128) (extractStridedSlice S128x128 ![0, 384] y slices_S128x1024_o0_384_S128x128)
def outs2 (y : FVec Ideal S128x1024 .bf16) : FVec Ideal S256x128 .bf16 :=
  pair (extractStridedSlice S128x128 ![0, 512] y slices_S128x1024_o0_512_S128x128) (extractStridedSlice S128x128 ![0, 640] y slices_S128x1024_o0_640_S128x128)
def outs3 (y : FVec Ideal S128x1024 .bf16) : FVec Ideal S256x128 .bf16 :=
  pair (extractStridedSlice S128x128 ![0, 768] y slices_S128x1024_o0_768_S128x128) (extractStridedSlice S128x128 ![0, 896] y slices_S128x1024_o0_896_S128x128)
theorem queries_apply (a b c u d : Vec Ideal S128x128 .f32) (r : Fin 256) (l : Fin 128) :
    queries a b c u d (ix2 r l) = if h : r.val < 128 then turnT a c u d (ix2 ⟨r.val, h⟩ l) else turnT b c u d (ix2 ⟨r.val - 128, by omega⟩ l) := by
  unfold queries
  rw [pair_apply]
  split_ifs <;> rfl
theorem outs0_apply (y : FVec Ideal S128x1024 .bf16) (r : Fin 256) (l : Fin 128) :
    outs0 y (ix2 r l) = y (ix2 ⟨r.val % 128, by omega⟩ ⟨0 + r.val / 128 * 128 + l.val, by omega⟩) := by
  unfold outs0
  rw [pair_apply]
  split_ifs with h
  · refine Eq.trans (b := y (ix2 ⟨r.val, h⟩ ⟨0 + l.val, by omega⟩)) (by pointwise) ?_
    exact congrArg₂ (fun a b => y (ix2 a b)) (Fin.ext (by show r.val = r.val % 128; omega)) (Fin.ext (by show 0 + l.val = 0 + r.val / 128 * 128 + l.val; omega))
  · refine Eq.trans (b := y (ix2 ⟨r.val - 128, by omega⟩ ⟨128 + l.val, by omega⟩)) (by pointwise) ?_
    exact congrArg₂ (fun a b => y (ix2 a b)) (Fin.ext (by show r.val - 128 = r.val % 128; omega)) (Fin.ext (by show 128 + l.val = 0 + r.val / 128 * 128 + l.val; omega))
theorem outs1_apply (y : FVec Ideal S128x1024 .bf16) (r : Fin 256) (l : Fin 128) :
    outs1 y (ix2 r l) = y (ix2 ⟨r.val % 128, by omega⟩ ⟨256 + r.val / 128 * 128 + l.val, by omega⟩) := by
  unfold outs1
  rw [pair_apply]
  split_ifs with h
  · refine Eq.trans (b := y (ix2 ⟨r.val, h⟩ ⟨256 + l.val, by omega⟩)) (by pointwise) ?_
    exact congrArg₂ (fun a b => y (ix2 a b)) (Fin.ext (by show r.val = r.val % 128; omega)) (Fin.ext (by show 256 + l.val = 256 + r.val / 128 * 128 + l.val; omega))
  · refine Eq.trans (b := y (ix2 ⟨r.val - 128, by omega⟩ ⟨384 + l.val, by omega⟩)) (by pointwise) ?_
    exact congrArg₂ (fun a b => y (ix2 a b)) (Fin.ext (by show r.val - 128 = r.val % 128; omega)) (Fin.ext (by show 384 + l.val = 256 + r.val / 128 * 128 + l.val; omega))
theorem outs2_apply (y : FVec Ideal S128x1024 .bf16) (r : Fin 256) (l : Fin 128) :
    outs2 y (ix2 r l) = y (ix2 ⟨r.val % 128, by omega⟩ ⟨512 + r.val / 128 * 128 + l.val, by omega⟩) := by
  unfold outs2
  rw [pair_apply]
  split_ifs with h
  · refine Eq.trans (b := y (ix2 ⟨r.val, h⟩ ⟨512 + l.val, by omega⟩)) (by pointwise) ?_
    exact congrArg₂ (fun a b => y (ix2 a b)) (Fin.ext (by show r.val = r.val % 128; omega)) (Fin.ext (by show 512 + l.val = 512 + r.val / 128 * 128 + l.val; omega))
  · refine Eq.trans (b := y (ix2 ⟨r.val - 128, by omega⟩ ⟨640 + l.val, by omega⟩)) (by pointwise) ?_
    exact congrArg₂ (fun a b => y (ix2 a b)) (Fin.ext (by show r.val - 128 = r.val % 128; omega)) (Fin.ext (by show 640 + l.val = 512 + r.val / 128 * 128 + l.val; omega))
theorem outs3_apply (y : FVec Ideal S128x1024 .bf16) (r : Fin 256) (l : Fin 128) :
    outs3 y (ix2 r l) = y (ix2 ⟨r.val % 128, by omega⟩ ⟨768 + r.val / 128 * 128 + l.val, by omega⟩) := by
  unfold outs3
  rw [pair_apply]
  split_ifs with h
  · refine Eq.trans (b := y (ix2 ⟨r.val, h⟩ ⟨768 + l.val, by omega⟩)) (by pointwise) ?_
    exact congrArg₂ (fun a b => y (ix2 a b)) (Fin.ext (by show r.val = r.val % 128; omega)) (Fin.ext (by show 768 + l.val = 768 + r.val / 128 * 128 + l.val; omega))
  · refine Eq.trans (b := y (ix2 ⟨r.val - 128, by omega⟩ ⟨896 + l.val, by omega⟩)) (by pointwise) ?_
    exact congrArg₂ (fun a b => y (ix2 a b)) (Fin.ext (by show r.val - 128 = r.val % 128; omega)) (Fin.ext (by show 896 + l.val = 768 + r.val / 128 * 128 + l.val; omega))

end Cert.AttnBwdIdeal.Hand

end
-- ==== Proof.AttnBwdSpec.lean ====
/- The gradients of banded attention with sinks as plain mathematics, from finite arrays. -/
module

public import proofs.«01_k».proof.Proof.AttnSpec
public import Idealize.ShloMosaic.Lib.Pointwise

@[expose] public section

noncomputable section

namespace Cert.AttnLaw

open Idealize.ShloMosaic

section
variable (Q : Fin 2048 → Fin 16 → Fin 64 → EReal) (K V : Fin 2048 → Fin 4 → Fin 64 → EReal) (Y : Fin 2048 → Fin 16 → Fin 64 → EReal) (z : Fin 16 → EReal)

/-- The gradient of a key's weight, and its mean over the keys. -/
def dprob (n : Fin 16) (g : Fin 16) (q : Fin 128) (k : Fin 256) : EReal := ∑ d : Fin 64, V (pl n k) (kvh g) d * Y (row n q) g d
def dmean (n : Fin 16) (g : Fin 16) (q : Fin 128) : EReal := ∑ k : Fin 256, prob Q K z n g q k * dprob V Y n g q k
/-- The gradient of a score before its scale, and of the scaled product. -/
def dsoft (n : Fin 16) (g : Fin 16) (q : Fin 128) (k : Fin 256) : EReal := prob Q K z n g q k * (dprob V Y n g q k - dmean Q K V Y z n g q)
def dscr (n : Fin 16) (g : Fin 16) (q : Fin 128) (k : Fin 256) : EReal := dsoft Q K V Y z n g q k * ((0.125 : ℝ) : EReal)
/-- What one query gives to its sink's gradient, before the sign. -/
def dsnk (n : Fin 16) (g : Fin 16) (q : Fin 128) : EReal := wgtz (score Q K n g q) (z g) * dmean Q K V Y z n g q

/-- The head `g` of the four that use the head `h` of keys. -/
def four (h g : Fin 4) : Fin 16 := ⟨h.val * 4 + g.val, by omega⟩
/-- The gradients of a query, of a key and of a value of block `n`'s band, all of the turned channels. -/
def gQ (n : Fin 16) (g : Fin 16) (q : Fin 128) (d : Fin 64) : EReal := ∑ k : Fin 256, dscr Q K V Y z n g q k * K (pl n k) (kvh g) d
def gK (n : Fin 16) (k : Fin 256) (h : Fin 4) (d : Fin 64) : EReal :=
  ∑ g : Fin 4, ∑ q : Fin 128, dscr Q K V Y z n (four h g) q k * Q (row n q) (four h g) d
def gV (n : Fin 16) (k : Fin 256) (h : Fin 4) (d : Fin 64) : EReal :=
  ∑ g : Fin 4, ∑ q : Fin 128, prob Q K z n (four h g) q k * Y (row n q) (four h g) d
def gZ (g : Fin 16) : EReal := ∑ n : Fin 16, -∑ q : Fin 128, dsnk Q K V Y z n g q
end

section
variable (a : Arr 2048 6656) (cs sn : Arr 2048 8) (z : Arr 1 16) (x : Arr 2048 1024) (w : Arr 1024 1024)

/-- The result arrays: the queries' gradient turned back, the keys' and the values' for the block before and for the own block,
    the sinks'. -/
def outQ (s : Fin 2048) (l : Fin 1024) : EReal :=
  rot (fun e => gQ (inQ a cs sn) (inK a cs sn) (inV a) (inDo x w) (inZ z) ⟨s.val / 128, by omega⟩ ⟨l.val / 64, by omega⟩ ⟨s.val % 128, by omega⟩ e)
    (fun j => cs (ix2 s j)) (fun j => -sn (ix2 s j)) ⟨l.val % 64, by omega⟩
def bandK (n : Fin 16) (k l : Fin 256) : EReal :=
  gK (inQ a cs sn) (inK a cs sn) (inV a) (inDo x w) (inZ z) n k ⟨l.val / 64, by omega⟩ ⟨l.val % 64, by omega⟩
def bandV (n : Fin 16) (k l : Fin 256) : EReal :=
  gV (inQ a cs sn) (inK a cs sn) (inDo x w) (inZ z) n k ⟨l.val / 64, by omega⟩ ⟨l.val % 64, by omega⟩
def nxt (s : Fin 2048) : Fin 16 := ⟨(s.val / 128 + 1) % 16, by omega⟩
def own (s : Fin 2048) : Fin 16 := ⟨s.val / 128, by omega⟩
def lo (s : Fin 2048) : Fin 256 := ⟨s.val % 128, by omega⟩
def hi (s : Fin 2048) : Fin 256 := ⟨128 + s.val % 128, by omega⟩
def outZ (l : Fin 128) : EReal :=
  if h : l.val < 16 then gZ (inQ a cs sn) (inK a cs sn) (inV a) (inDo x w) (inZ z) ⟨l.val, h⟩ else 0
end

/-- A sum over four heads and 128 queries, taken as two sums over two heads' 256 rows. -/
theorem sum_four (F : Fin 4 → Fin 128 → EReal) :
    ∑ r : Fin 256, F ⟨2 * (r.val / 128), by omega⟩ ⟨r.val % 128, by omega⟩ + ∑ r : Fin 256, F ⟨2 * (r.val / 128) + 1, by omega⟩ ⟨r.val % 128, by omega⟩
      = ∑ g : Fin 4, ∑ q : Fin 128, F g q := by
  have h : ∀ f : Fin 256 → EReal, ∑ r, f r = ∑ q : Fin 128, f ⟨q.val, by omega⟩ + ∑ q : Fin 128, f ⟨128 + q.val, by omega⟩ := fun f =>
    Fin.sum_univ_add (a := 128) (b := 128) f
  rw [h, h, Fin.sum_univ_four, add_add_add_comm, ← add_assoc]
  have e : ∀ (a b : Fin 4) (u v : Fin 128 → Fin 128), a = b → (∀ q, u q = v q) → ∑ q, F a (u q) = ∑ q, F b (v q) := fun a b u v h1 h2 => by
    rw [h1]; exact Finset.sum_congr rfl fun q _ => by rw [h2]
  refine congrArg₂ (· + ·) (congrArg₂ (· + ·) (congrArg₂ (· + ·) ?_ ?_) ?_) ?_
  all_goals refine Finset.sum_congr rfl fun q _ => congrArg₂ F (Fin.ext ?_) (Fin.ext ?_)
  all_goals dsimp only [Fin.val_zero, Fin.val_one, Fin.isValue]
  all_goals first | omega | (show _ = (_ : Nat); simp; omega) | skip

end Cert.AttnLaw

end
-- ==== Proof.AttnBwdPoint.lean ====
/- One head of keys in one block of the backward attention: what the kernel's vectors hold, as the gradients of banded attention. -/
module

public import proofs.«01_k».proof.Proof.AttnBwdBlock
public import proofs.«01_k».proof.Proof.AttnBwdSpec

@[expose] public section

set_option maxRecDepth 16384

noncomputable section

namespace Cert.AttnBwdIdeal.Hand

open Cert.AttnBwdIdeal Cert.AttnBwdIdeal.Gen Idealize.ShloMosaic Idealize.ShloMosaic.TcCoe Cert.AttnLaw

/-- The query head of the row `r` of head `h`'s two tiles in the lanes' half `p`. -/
def qh (h : Fin 4) (p : Fin 2) (r : Fin 256) : Fin 16 := ⟨h.val * 4 + (2 * (r.val / 128) + p.val), by omega⟩
def qr (r : Fin 256) : Fin 128 := ⟨r.val % 128, by omega⟩

/-- The vectors of one head of keys hold the rows of the queries, the keys, the values and the outputs' gradient. -/
structure Head (i : grid0.Coords) (n : Fin 16) (h : Fin 4) (k0 k1 v0 v1 q y : FVec Ideal S256x128 .bf16) (a0 a1 b0 b1 : Elt Ideal .f32)
    (Q : Fin 2048 → Fin 16 → Fin 64 → EReal) (K V : Fin 2048 → Fin 4 → Fin 64 → EReal) (Y : Fin 2048 → Fin 16 → Fin 64 → EReal) (z : Fin 16 → EReal) : Prop where
  at_n : (i 0).val = n.val
  k0 : IsHalf k0 (fun k d => K (pl n k) h d) 0
  k1 : IsHalf k1 (fun k d => K (pl n k) h d) 1
  v0 : IsHalf v0 (fun k d => V (pl n k) h d) 0
  v1 : IsHalf v1 (fun k d => V (pl n k) h d) 1
  q : ∀ (p : Fin 2) (r : Fin 256) (d : Fin 64), q (ix2 r ⟨p.val * 64 + d.val, by omega⟩) = Q (row n (qr r)) (qh h p r) d
  y : ∀ (p : Fin 2) (r : Fin 256) (d : Fin 64), y (ix2 r ⟨p.val * 64 + d.val, by omega⟩) = Y (row n (qr r)) (qh h p r) d
  a : ∀ r : Fin 256, (if r.val < 128 then a0 else a1) = z (qh h 0 r)
  b : ∀ r : Fin 256, (if r.val < 128 then b0 else b1) = z (qh h 1 r)

theorem kvh_qh (h : Fin 4) (p : Fin 2) (r : Fin 256) : kvh (qh h p r) = h :=
  Fin.ext (by show (h.val * 4 + (2 * (r.val / 128) + p.val)) / 4 = h.val; omega)

section
variable {i : grid0.Coords} {n : Fin 16} {h : Fin 4} {k0 k1 v0 v1 q y : FVec Ideal S256x128 .bf16} {a0 a1 b0 b1 : Elt Ideal .f32}
  {Q : Fin 2048 → Fin 16 → Fin 64 → EReal} {K V : Fin 2048 → Fin 4 → Fin 64 → EReal} {Y : Fin 2048 → Fin 16 → Fin 64 → EReal} {z : Fin 16 → EReal}
  (H : Head i n h k0 k1 v0 v1 q y a0 a1 b0 b1 Q K V Y z)

include H in
theorem Head.scores (p : Fin 2) (r : Fin 256) :
    rowScores (i 0).val (fun k d => K (pl n k) h d) q p r = score Q K n (qh h p r) (qr r) := by
  funext k
  unfold rowScores score
  rw [H.at_n]
  refine law_if _ _ Iff.rfl fun _ => congrArg (· * ((0.125 : ℝ) : EReal)) (Finset.sum_congr rfl fun d _ => ?_)
  rw [H.q, kvh_qh]

include H in
theorem Head.grads (p : Fin 2) (r k : Fin 256) :
    rowGrad (fun k d => V (pl n k) h d) y p r k = dprob V Y n (qh h p r) (qr r) k := by
  unfold rowGrad dprob
  exact Finset.sum_congr rfl fun d _ => by rw [H.y, kvh_qh]

include H in
theorem Head.probs (p : Fin 2) (r k : Fin 256) (s : EReal) (hs : s = z (qh h p r)) :
    rowP (i 0).val (fun k d => K (pl n k) h d) q p r s k = prob Q K z n (qh h p r) (qr r) k := by
  unfold rowP prob
  rw [H.scores, hs]

include H in
theorem Head.means (p : Fin 2) (r : Fin 256) (s : EReal) (hs : s = z (qh h p r)) :
    rowM (i 0).val (fun k d => K (pl n k) h d) (fun k d => V (pl n k) h d) q y p r s = dmean Q K V Y z n (qh h p r) (qr r) := by
  unfold rowM dmean
  exact Finset.sum_congr rfl fun k _ => by rw [H.probs p r k s hs, H.grads]

include H in
theorem Head.dscores (p : Fin 2) (r k : Fin 256) (s : EReal) (hs : s = z (qh h p r)) :
    rowD (i 0).val (fun k d => K (pl n k) h d) (fun k d => V (pl n k) h d) q y p r s k = dscr Q K V Y z n (qh h p r) (qr r) k := by
  unfold rowD dscr dsoft
  rw [H.probs p r k s hs, H.grads, H.means p r s hs]

include H in
theorem Head.sinks (p : Fin 2) (r : Fin 256) (s : EReal) (hs : s = z (qh h p r)) :
    rowZ (i 0).val (fun k d => K (pl n k) h d) (fun k d => V (pl n k) h d) q y p r s = dsnk Q K V Y z n (qh h p r) (qr r) := by
  unfold rowZ dsnk
  rw [H.scores, H.means p r s hs, hs]

include H in
/-- The queries' gradient. -/
theorem Head.gradQ (r : Fin 256) (l : Fin 128) : gradQ i k0 k1 v0 v1 q y a0 a1 b0 b1 (ix2 r l)
    = gQ Q K V Y z n (qh h ⟨l.val / 64, by omega⟩ r) (qr r) ⟨l.val % 64, by omega⟩ := by
  rw [gradQ_apply i k0 k1 v0 v1 q y a0 a1 b0 b1 _ _ H.k0 H.k1 H.v0 H.v1]
  unfold gQ
  refine Finset.sum_congr rfl fun k _ => ?_
  rw [kvh_qh, H.dscores ⟨l.val / 64, by omega⟩ r k]
  by_cases hl : l.val < 64
  · rw [if_pos hl, H.a]
    exact congrArg (fun p => z (qh h p r)) (Fin.ext (by show 0 = l.val / 64; omega))
  · rw [if_neg hl, H.b]
    exact congrArg (fun p => z (qh h p r)) (Fin.ext (by show 1 = l.val / 64; omega))

theorem qh0 (h : Fin 4) (r : Fin 256) : qh h 0 r = AttnLaw.four h ⟨2 * (r.val / 128), by omega⟩ := rfl
theorem qh1 (h : Fin 4) (r : Fin 256) : qh h 1 r = AttnLaw.four h ⟨2 * (r.val / 128) + 1, by omega⟩ := rfl
theorem low (d : Fin 64) : (⟨d.val, by omega⟩ : Fin 128) = ⟨(0 : Fin 2).val * 64 + d.val, by show 0 * 64 + d.val < 128; omega⟩ :=
  Fin.ext (by show d.val = 0 * 64 + d.val; omega)
theorem high (d : Fin 64) : (⟨64 + d.val, by omega⟩ : Fin 128) = ⟨(1 : Fin 2).val * 64 + d.val, by show 1 * 64 + d.val < 128; omega⟩ :=
  Fin.ext (by show 64 + d.val = 1 * 64 + d.val; omega)

include H in
/-- The keys' gradient, from both halves. -/
theorem Head.gradK (k : Fin 256) (d : Fin 64) :
    onto (halfD i k0 v0 q y a0 a1) q (ix2 k ⟨d.val, by omega⟩) + onto (halfD i k1 v1 q y b0 b1) q (ix2 k ⟨64 + d.val, by omega⟩)
      = gK Q K V Y z n k h d := by
  rw [onto_apply, onto_apply, low, high]
  unfold gK
  refine Eq.trans ?_ (sum_four fun g q => dscr Q K V Y z n (AttnLaw.four h g) q k * Q (row n q) (AttnLaw.four h g) d)
  refine congrArg₂ (· + ·) (Finset.sum_congr rfl fun r _ => ?_) (Finset.sum_congr rfl fun r _ => ?_)
  · rw [halfD_apply i k0 v0 q y a0 a1 _ _ 0 H.k0 H.v0, H.dscores 0 r k _ (H.a r), H.q 0 r d, qh0]
    rfl
  · rw [halfD_apply i k1 v1 q y b0 b1 _ _ 1 H.k1 H.v1, H.dscores 1 r k _ (H.b r), H.q 1 r d, qh1]
    rfl

include H in
/-- The values' gradient, from both halves. -/
theorem Head.gradV (k : Fin 256) (d : Fin 64) :
    onto (halfP i k0 q a0 a1) y (ix2 k ⟨d.val, by omega⟩) + onto (halfP i k1 q b0 b1) y (ix2 k ⟨64 + d.val, by omega⟩)
      = gV Q K Y z n k h d := by
  rw [onto_apply, onto_apply, low, high]
  unfold gV
  refine Eq.trans ?_ (sum_four fun g q => prob Q K z n (AttnLaw.four h g) q k * Y (row n q) (AttnLaw.four h g) d)
  refine congrArg₂ (· + ·) (Finset.sum_congr rfl fun r _ => ?_) (Finset.sum_congr rfl fun r _ => ?_)
  · rw [halfP_apply i k0 q a0 a1 _ 0 H.k0, H.probs 0 r k _ (H.a r), H.y 0 r d, qh0]
    rfl
  · rw [halfP_apply i k1 q b0 b1 _ 1 H.k1, H.probs 1 r k _ (H.b r), H.y 1 r d, qh1]
    rfl

include H in
theorem Head.sink0 (r : Fin 256) : halfZ i k0 v0 q y a0 a1 (ix2 0 r) = dsnk Q K V Y z n (qh h 0 r) (qr r) := by
  rw [halfZ_apply i k0 v0 q y a0 a1 _ _ 0 H.k0 H.v0, H.sinks 0 r _ (H.a r)]
include H in
theorem Head.sink1 (r : Fin 256) : halfZ i k1 v1 q y b0 b1 (ix2 0 r) = dsnk Q K V Y z n (qh h 1 r) (qr r) := by
  rw [halfZ_apply i k1 v1 q y b0 b1 _ _ 1 H.k1 H.v1, H.sinks 1 r _ (H.b r)]

include H in
/-- One head's four sinks, each on its lane. -/
theorem Head.four (g0 g1 g2 g3 : Nat) (h0 : g0 = h.val * 4) (h1 : g1 = h.val * 4 + 2) (h2 : g2 = h.val * 4 + 1) (h3 : g3 = h.val * 4 + 3)
    (acc : FVec Ideal S1x128 .f32) (l : Fin 128) :
    Hand.four g0 g1 g2 g3 acc (halfZ i k0 v0 q y a0 a1) (halfZ i k1 v1 q y b0 b1) (ix2 0 l)
      = acc (ix2 0 l) + if hl : l.val / 4 = h.val then -∑ q : Fin 128, dsnk Q K V Y z n ⟨l.val, by omega⟩ q else 0 := by
  have e0 : ∑ j : Fin 128, colsA (halfZ i k0 v0 q y a0 a1) (ix2 0 j) = ∑ j : Fin 128, dsnk Q K V Y z n ⟨h.val * 4, by omega⟩ j :=
    Finset.sum_congr rfl fun j _ => by
      rw [colsA_apply, H.sink0]
      exact congrArg₂ (dsnk Q K V Y z n) (Fin.ext (by show h.val * 4 + (2 * (j.val / 128) + 0) = h.val * 4; omega)) (Fin.ext (by show j.val % 128 = j.val; omega))
  have e1 : ∑ j : Fin 128, colsB (halfZ i k0 v0 q y a0 a1) (ix2 0 j) = ∑ j : Fin 128, dsnk Q K V Y z n ⟨h.val * 4 + 2, by omega⟩ j :=
    Finset.sum_congr rfl fun j _ => by
      rw [colsB_apply, H.sink0]
      exact congrArg₂ (dsnk Q K V Y z n) (Fin.ext (by show h.val * 4 + (2 * ((128 + j.val) / 128) + 0) = h.val * 4 + 2; omega)) (Fin.ext (by show (128 + j.val) % 128 = j.val; omega))
  have e2 : ∑ j : Fin 128, colsA (halfZ i k1 v1 q y b0 b1) (ix2 0 j) = ∑ j : Fin 128, dsnk Q K V Y z n ⟨h.val * 4 + 1, by omega⟩ j :=
    Finset.sum_congr rfl fun j _ => by
      rw [colsA_apply, H.sink1]
      exact congrArg₂ (dsnk Q K V Y z n) (Fin.ext (by show h.val * 4 + (2 * (j.val / 128) + 1) = h.val * 4 + 1; omega)) (Fin.ext (by show j.val % 128 = j.val; omega))
  have e3 : ∑ j : Fin 128, colsB (halfZ i k1 v1 q y b0 b1) (ix2 0 j) = ∑ j : Fin 128, dsnk Q K V Y z n ⟨h.val * 4 + 3, by omega⟩ j :=
    Finset.sum_congr rfl fun j _ => by
      rw [colsB_apply, H.sink1]
      exact congrArg₂ (dsnk Q K V Y z n) (Fin.ext (by show h.val * 4 + (2 * ((128 + j.val) / 128) + 1) = h.val * 4 + 3; omega)) (Fin.ext (by show (128 + j.val) % 128 = j.val; omega))
  unfold Hand.four
  rw [lane_apply g3 (by omega), lane_apply g2 (by omega), lane_apply g1 (by omega), lane_apply g0 (by omega), e0, e1, e2, e3, add_assoc, add_assoc, add_assoc]
  refine congrArg (_ + ·) ?_
  have hc : ∀ (g : Nat) (hg : g < 16), l.val = g → -∑ q : Fin 128, dsnk Q K V Y z n ⟨g, hg⟩ q = -∑ q : Fin 128, dsnk Q K V Y z n ⟨l.val % 16, by omega⟩ q :=
    fun g hg e => by
      have : (⟨g, hg⟩ : Fin 16) = ⟨l.val % 16, by omega⟩ := Fin.ext (by show g = l.val % 16; omega)
      rw [this]
  by_cases hl : l.val / 4 = h.val
  · rw [dif_pos hl, show (⟨l.val, by omega⟩ : Fin 16) = ⟨l.val % 16, by omega⟩ from Fin.ext (by show l.val = l.val % 16; omega)]
    have hr : l.val = h.val * 4 ∨ l.val = h.val * 4 + 1 ∨ l.val = h.val * 4 + 2 ∨ l.val = h.val * 4 + 3 := by omega
    rcases hr with e | e | e | e
    · rw [if_pos (by omega), if_neg (by omega), if_neg (by omega), if_neg (by omega), hc _ _ e]
      simp only [add_zero, zero_add]
    · rw [if_neg (by omega), if_neg (by omega), if_pos (by omega), if_neg (by omega), hc _ _ e]
      simp only [add_zero, zero_add]
    · rw [if_neg (by omega), if_pos (by omega), if_neg (by omega), if_neg (by omega), hc _ _ e]
      simp only [add_zero, zero_add]
    · rw [if_neg (by omega), if_neg (by omega), if_neg (by omega), if_pos (by omega), hc _ _ e]
      simp only [add_zero, zero_add]
  · rw [dif_neg hl, if_neg (by omega), if_neg (by omega), if_neg (by omega), if_neg (by omega)]
    simp only [add_zero]
end

end Cert.AttnBwdIdeal.Hand

end
-- ==== Proof.AttnBwdHost.lean ====
/- The backward attention's arguments: the tables that the host lays out and the blocks that a grid point reads. -/
module

public import proofs.«01_k».proof.Defs
public import proofs.«01_k».proof.Proof.Gen.AttnBwdIdeal.Value
public import proofs.«01_k».proof.Proof.AttnBwdPoint
public import Idealize.ShloMosaic.Lib.StableHlo.Run
public import Idealize.ShloMosaic.Lib.Pipeline.Value
public import Idealize.ShloMosaic.Lib.Pointwise

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Cert.AttnLaw
open Idealize.ShloMosaic.Pipeline (Dat)

variable (m : (ℓ : Loc nD τ sig) → Buf (Elt Ideal) ℓ)

/-- The projections. -/
abbrev pr (c : Dev nD) : S2048x6656.Idx → EReal := m ((c : Thread nD τ).loc main_arg0)
/-- The gradient of the projected output. -/
abbrev da (c : Dev nD) : S2048x1024.Idx → EReal := m ((c : Thread nD τ).loc main_arg1)
/-- The weights of the output projection. -/
abbrev wo (c : Dev nD) : S1024x1024.Idx → EReal := m ((c : Thread nD τ).loc main_arg2)
/-- The sinks. -/
abbrev sk (c : Dev nD) : S1x16.Idx → EReal := m ((c : Thread nD τ).loc main_arg3)
/-- The cosines. -/
abbrev cs (c : Dev nD) : S2048x8.Idx → EReal := m ((c : Thread nD τ).loc main_arg4)
/-- The sines. -/
abbrev sn (c : Dev nD) : S2048x8.Idx → EReal := m ((c : Thread nD τ).loc main_arg5)

/-- The three tables that the host lays out of the cosines and the sines. -/
abbrev tC (c : Dev nD) : S2048x256.Idx → EReal := V m c main_v7
abbrev tU (c : Dev nD) : S2048x256.Idx → EReal := V m c main_v8
abbrev tD (c : Dev nD) : S2048x256.Idx → EReal := V m c main_v9

theorem hz : (![0, 0] : Fin 2 → Nat) = fun _ => 0 := funext fun a => by fin_cases a <;> rfl

theorem at0_0 : ∀ t : Fin cfg0.N, win0_0.index t 0 = 0 :=
  (by decide +kernel : ∀ t : Fin grid0.N, _)
theorem at0_1 : ∀ t : Fin cfg0.N, win0_0.index t 1 = 0 :=
  (by decide +kernel : ∀ t : Fin grid0.N, _)
theorem at1_0 : ∀ t : Fin cfg0.N, win0_1.index t 0 = t.val :=
  (by decide +kernel : ∀ t : Fin grid0.N, _)
theorem at1_1 : ∀ t : Fin cfg0.N, win0_1.index t 1 = 3 :=
  (by decide +kernel : ∀ t : Fin grid0.N, _)
theorem at2_0 : ∀ t : Fin cfg0.N, win0_2.index t 0 = t.val - 1 :=
  (by decide +kernel : ∀ t : Fin grid0.N, _)
theorem at2_1 : ∀ t : Fin cfg0.N, win0_2.index t 1 = 16 :=
  (by decide +kernel : ∀ t : Fin grid0.N, _)
theorem at3_0 : ∀ t : Fin cfg0.N, win0_3.index t 0 = t.val :=
  (by decide +kernel : ∀ t : Fin grid0.N, _)
theorem at3_1 : ∀ t : Fin cfg0.N, win0_3.index t 1 = 16 :=
  (by decide +kernel : ∀ t : Fin grid0.N, _)
theorem at4_0 : ∀ t : Fin cfg0.N, win0_4.index t 0 = t.val - 1 :=
  (by decide +kernel : ∀ t : Fin grid0.N, _)
theorem at4_1 : ∀ t : Fin cfg0.N, win0_4.index t 1 = 17 :=
  (by decide +kernel : ∀ t : Fin grid0.N, _)
theorem at5_0 : ∀ t : Fin cfg0.N, win0_5.index t 0 = t.val :=
  (by decide +kernel : ∀ t : Fin grid0.N, _)
theorem at5_1 : ∀ t : Fin cfg0.N, win0_5.index t 1 = 17 :=
  (by decide +kernel : ∀ t : Fin grid0.N, _)
theorem at6_0 : ∀ t : Fin cfg0.N, win0_6.index t 0 = t.val :=
  (by decide +kernel : ∀ t : Fin grid0.N, _)
theorem at6_1 : ∀ t : Fin cfg0.N, win0_6.index t 1 = 0 :=
  (by decide +kernel : ∀ t : Fin grid0.N, _)
theorem at7_0 : ∀ t : Fin cfg0.N, win0_7.index t 0 = t.val :=
  (by decide +kernel : ∀ t : Fin grid0.N, _)
theorem at7_1 : ∀ t : Fin cfg0.N, win0_7.index t 1 = 0 :=
  (by decide +kernel : ∀ t : Fin grid0.N, _)
theorem at8_0 : ∀ t : Fin cfg0.N, win0_8.index t 0 = t.val :=
  (by decide +kernel : ∀ t : Fin grid0.N, _)
theorem at8_1 : ∀ t : Fin cfg0.N, win0_8.index t 1 = 0 :=
  (by decide +kernel : ∀ t : Fin grid0.N, _)
theorem at9_0 : ∀ t : Fin cfg0.N, win0_9.index t 0 = t.val - 1 :=
  (by decide +kernel : ∀ t : Fin grid0.N, _)
theorem at9_1 : ∀ t : Fin cfg0.N, win0_9.index t 1 = 0 :=
  (by decide +kernel : ∀ t : Fin grid0.N, _)
theorem at10_0 : ∀ t : Fin cfg0.N, win0_10.index t 0 = t.val - 1 :=
  (by decide +kernel : ∀ t : Fin grid0.N, _)
theorem at10_1 : ∀ t : Fin cfg0.N, win0_10.index t 1 = 0 :=
  (by decide +kernel : ∀ t : Fin grid0.N, _)
theorem at11_0 : ∀ t : Fin cfg0.N, win0_11.index t 0 = t.val - 1 :=
  (by decide +kernel : ∀ t : Fin grid0.N, _)
theorem at11_1 : ∀ t : Fin cfg0.N, win0_11.index t 1 = 0 :=
  (by decide +kernel : ∀ t : Fin grid0.N, _)
theorem at12_0 : ∀ t : Fin cfg0.N, win0_12.index t 0 = t.val :=
  (by decide +kernel : ∀ t : Fin grid0.N, _)
theorem at12_1 : ∀ t : Fin cfg0.N, win0_12.index t 1 = 0 :=
  (by decide +kernel : ∀ t : Fin grid0.N, _)
theorem at13_0 : ∀ t : Fin cfg0.N, win0_13.index t 0 = 0 :=
  (by decide +kernel : ∀ t : Fin grid0.N, _)
theorem at13_1 : ∀ t : Fin cfg0.N, win0_13.index t 1 = 0 :=
  (by decide +kernel : ∀ t : Fin grid0.N, _)
theorem at14_0 : ∀ t : Fin cfg0.N, win0_14.index t 0 = t.val :=
  (by decide +kernel : ∀ t : Fin grid0.N, _)
theorem at14_1 : ∀ t : Fin cfg0.N, win0_14.index t 1 = 0 :=
  (by decide +kernel : ∀ t : Fin grid0.N, _)
theorem at15_0 : ∀ t : Fin cfg0.N, win0_15.index t 0 = (t.val + 15) % 16 :=
  (by decide +kernel : ∀ t : Fin grid0.N, _)
theorem at15_1 : ∀ t : Fin cfg0.N, win0_15.index t 1 = 0 :=
  (by decide +kernel : ∀ t : Fin grid0.N, _)
theorem at16_0 : ∀ t : Fin cfg0.N, win0_16.index t 0 = t.val :=
  (by decide +kernel : ∀ t : Fin grid0.N, _)
theorem at16_1 : ∀ t : Fin cfg0.N, win0_16.index t 1 = 0 :=
  (by decide +kernel : ∀ t : Fin grid0.N, _)
theorem at17_0 : ∀ t : Fin cfg0.N, win0_17.index t 0 = (t.val + 15) % 16 :=
  (by decide +kernel : ∀ t : Fin grid0.N, _)
theorem at17_1 : ∀ t : Fin cfg0.N, win0_17.index t 1 = 0 :=
  (by decide +kernel : ∀ t : Fin grid0.N, _)
theorem at18_0 : ∀ t : Fin cfg0.N, win0_18.index t 0 = t.val :=
  (by decide +kernel : ∀ t : Fin grid0.N, _)
theorem at18_1 : ∀ t : Fin cfg0.N, win0_18.index t 1 = 0 :=
  (by decide +kernel : ∀ t : Fin grid0.N, _)
theorem at19_0 : ∀ t : Fin cfg0.N, win0_19.index t 0 = 0 :=
  (by decide +kernel : ∀ t : Fin grid0.N, _)
theorem at19_1 : ∀ t : Fin cfg0.N, win0_19.index t 1 = 0 :=
  (by decide +kernel : ∀ t : Fin grid0.N, _)
theorem lt16 (t : Fin cfg0.N) : t.val < 16 := lt_of_lt_of_eq t.isLt N_0
/-- The block of the grid point. -/
def bn (t : Fin cfg0.N) : Fin 16 := ⟨t.val, lt16 t⟩
theorem coord0 : ∀ t : Fin cfg0.N, (grid0.coords t 0).val = t.val :=
  (by decide +kernel : ∀ t : Fin grid0.N, _)

theorem blk0 (c : Dev nD) (t : Fin cfg0.N) (r : Fin 1) (l : Fin 16) :
    (iblk m c 0 t : Vec Ideal S1x16 .f32) (ix2 r l) = sk m c (ix2 r l) := by
  have h0 := at0_0 t
  have h1 := at0_1 t
  unfold iblk
  rw [View.read_apply]
  show V m c main_arg3 _ = _
  rw [V_main_arg3]
  congr 1
  funext a
  apply Fin.ext
  match a with
  | ⟨0, _⟩ => show win0_0.index t 0 * 1 + 1 * r.val = r.val; rw [h0]; omega
  | ⟨1, _⟩ => show win0_0.index t 1 * 16 + 1 * l.val = l.val; rw [h1]; omega

theorem blk1 (c : Dev nD) (t : Fin cfg0.N) (r : Fin 128) (l : Fin 1024) :
    (X0_1 m c t : Vec Ideal S128x1024 .f32) (ix2 r l) = pr m c (ix2 ⟨t.val * 128 + r.val, by have := lt16 t; omega⟩ ⟨3072 + l.val, by have := lt16 t; omega⟩) := by
  have h0 := at1_0 t
  have h1 := at1_1 t
  unfold X0_1 Pipeline.Window.fill
  rw [dif_pos (moved0_1 t _)]
  unfold iblk
  rw [View.read_apply]
  show V m c main_arg0 _ = _
  rw [V_main_arg0]
  congr 1
  funext a
  apply Fin.ext
  match a with
  | ⟨0, _⟩ => show win0_1.index t 0 * 128 + 1 * r.val = t.val * 128 + r.val; rw [h0]; omega
  | ⟨1, _⟩ => show win0_1.index t 1 * 1024 + 1 * l.val = 3072 + l.val; rw [h1]; omega

theorem blk2 (c : Dev nD) (t : Fin cfg0.N) (r : Fin 128) (l : Fin 256) :
    (iblk m c 2 t : Vec Ideal S128x256 .f32) (ix2 r l) = pr m c (ix2 ⟨(t.val - 1) * 128 + r.val, by have := lt16 t; omega⟩ ⟨4096 + l.val, by have := lt16 t; omega⟩) := by
  have h0 := at2_0 t
  have h1 := at2_1 t
  unfold iblk
  rw [View.read_apply]
  show V m c main_arg0 _ = _
  rw [V_main_arg0]
  congr 1
  funext a
  apply Fin.ext
  match a with
  | ⟨0, _⟩ => show win0_2.index t 0 * 128 + 1 * r.val = (t.val - 1) * 128 + r.val; rw [h0]; omega
  | ⟨1, _⟩ => show win0_2.index t 1 * 256 + 1 * l.val = 4096 + l.val; rw [h1]; omega

theorem blk3 (c : Dev nD) (t : Fin cfg0.N) (r : Fin 128) (l : Fin 256) :
    (iblk m c 3 t : Vec Ideal S128x256 .f32) (ix2 r l) = pr m c (ix2 ⟨t.val * 128 + r.val, by have := lt16 t; omega⟩ ⟨4096 + l.val, by have := lt16 t; omega⟩) := by
  have h0 := at3_0 t
  have h1 := at3_1 t
  unfold iblk
  rw [View.read_apply]
  show V m c main_arg0 _ = _
  rw [V_main_arg0]
  congr 1
  funext a
  apply Fin.ext
  match a with
  | ⟨0, _⟩ => show win0_3.index t 0 * 128 + 1 * r.val = t.val * 128 + r.val; rw [h0]; omega
  | ⟨1, _⟩ => show win0_3.index t 1 * 256 + 1 * l.val = 4096 + l.val; rw [h1]; omega

theorem blk4 (c : Dev nD) (t : Fin cfg0.N) (r : Fin 128) (l : Fin 256) :
    (iblk m c 4 t : Vec Ideal S128x256 .f32) (ix2 r l) = pr m c (ix2 ⟨(t.val - 1) * 128 + r.val, by have := lt16 t; omega⟩ ⟨4352 + l.val, by have := lt16 t; omega⟩) := by
  have h0 := at4_0 t
  have h1 := at4_1 t
  unfold iblk
  rw [View.read_apply]
  show V m c main_arg0 _ = _
  rw [V_main_arg0]
  congr 1
  funext a
  apply Fin.ext
  match a with
  | ⟨0, _⟩ => show win0_4.index t 0 * 128 + 1 * r.val = (t.val - 1) * 128 + r.val; rw [h0]; omega
  | ⟨1, _⟩ => show win0_4.index t 1 * 256 + 1 * l.val = 4352 + l.val; rw [h1]; omega

theorem blk5 (c : Dev nD) (t : Fin cfg0.N) (r : Fin 128) (l : Fin 256) :
    (iblk m c 5 t : Vec Ideal S128x256 .f32) (ix2 r l) = pr m c (ix2 ⟨t.val * 128 + r.val, by have := lt16 t; omega⟩ ⟨4352 + l.val, by have := lt16 t; omega⟩) := by
  have h0 := at5_0 t
  have h1 := at5_1 t
  unfold iblk
  rw [View.read_apply]
  show V m c main_arg0 _ = _
  rw [V_main_arg0]
  congr 1
  funext a
  apply Fin.ext
  match a with
  | ⟨0, _⟩ => show win0_5.index t 0 * 128 + 1 * r.val = t.val * 128 + r.val; rw [h0]; omega
  | ⟨1, _⟩ => show win0_5.index t 1 * 256 + 1 * l.val = 4352 + l.val; rw [h1]; omega

theorem blk6 (c : Dev nD) (t : Fin cfg0.N) (r : Fin 128) (l : Fin 256) :
    (iblk m c 6 t : Vec Ideal S128x256 .f32) (ix2 r l) = tC m c (ix2 ⟨t.val * 128 + r.val, by have := lt16 t; omega⟩ l) := by
  have h0 := at6_0 t
  have h1 := at6_1 t
  unfold iblk
  rw [View.read_apply]
  show V m c main_v7 _ = V m c main_v7 _
  congr 1
  funext a
  apply Fin.ext
  match a with
  | ⟨0, _⟩ => show win0_6.index t 0 * 128 + 1 * r.val = t.val * 128 + r.val; rw [h0]; omega
  | ⟨1, _⟩ => show win0_6.index t 1 * 256 + 1 * l.val = l.val; rw [h1]; omega

theorem blk7 (c : Dev nD) (t : Fin cfg0.N) (r : Fin 128) (l : Fin 256) :
    (iblk m c 7 t : Vec Ideal S128x256 .f32) (ix2 r l) = tU m c (ix2 ⟨t.val * 128 + r.val, by have := lt16 t; omega⟩ l) := by
  have h0 := at7_0 t
  have h1 := at7_1 t
  unfold iblk
  rw [View.read_apply]
  show V m c main_v8 _ = V m c main_v8 _
  congr 1
  funext a
  apply Fin.ext
  match a with
  | ⟨0, _⟩ => show win0_7.index t 0 * 128 + 1 * r.val = t.val * 128 + r.val; rw [h0]; omega
  | ⟨1, _⟩ => show win0_7.index t 1 * 256 + 1 * l.val = l.val; rw [h1]; omega

theorem blk8 (c : Dev nD) (t : Fin cfg0.N) (r : Fin 128) (l : Fin 256) :
    (iblk m c 8 t : Vec Ideal S128x256 .f32) (ix2 r l) = tD m c (ix2 ⟨t.val * 128 + r.val, by have := lt16 t; omega⟩ l) := by
  have h0 := at8_0 t
  have h1 := at8_1 t
  unfold iblk
  rw [View.read_apply]
  show V m c main_v9 _ = V m c main_v9 _
  congr 1
  funext a
  apply Fin.ext
  match a with
  | ⟨0, _⟩ => show win0_8.index t 0 * 128 + 1 * r.val = t.val * 128 + r.val; rw [h0]; omega
  | ⟨1, _⟩ => show win0_8.index t 1 * 256 + 1 * l.val = l.val; rw [h1]; omega

theorem blk9 (c : Dev nD) (t : Fin cfg0.N) (r : Fin 128) (l : Fin 256) :
    (iblk m c 9 t : Vec Ideal S128x256 .f32) (ix2 r l) = tC m c (ix2 ⟨(t.val - 1) * 128 + r.val, by have := lt16 t; omega⟩ l) := by
  have h0 := at9_0 t
  have h1 := at9_1 t
  unfold iblk
  rw [View.read_apply]
  show V m c main_v7 _ = V m c main_v7 _
  congr 1
  funext a
  apply Fin.ext
  match a with
  | ⟨0, _⟩ => show win0_9.index t 0 * 128 + 1 * r.val = (t.val - 1) * 128 + r.val; rw [h0]; omega
  | ⟨1, _⟩ => show win0_9.index t 1 * 256 + 1 * l.val = l.val; rw [h1]; omega

theorem blk10 (c : Dev nD) (t : Fin cfg0.N) (r : Fin 128) (l : Fin 256) :
    (iblk m c 10 t : Vec Ideal S128x256 .f32) (ix2 r l) = tU m c (ix2 ⟨(t.val - 1) * 128 + r.val, by have := lt16 t; omega⟩ l) := by
  have h0 := at10_0 t
  have h1 := at10_1 t
  unfold iblk
  rw [View.read_apply]
  show V m c main_v8 _ = V m c main_v8 _
  congr 1
  funext a
  apply Fin.ext
  match a with
  | ⟨0, _⟩ => show win0_10.index t 0 * 128 + 1 * r.val = (t.val - 1) * 128 + r.val; rw [h0]; omega
  | ⟨1, _⟩ => show win0_10.index t 1 * 256 + 1 * l.val = l.val; rw [h1]; omega

theorem blk11 (c : Dev nD) (t : Fin cfg0.N) (r : Fin 128) (l : Fin 256) :
    (iblk m c 11 t : Vec Ideal S128x256 .f32) (ix2 r l) = tD m c (ix2 ⟨(t.val - 1) * 128 + r.val, by have := lt16 t; omega⟩ l) := by
  have h0 := at11_0 t
  have h1 := at11_1 t
  unfold iblk
  rw [View.read_apply]
  show V m c main_v9 _ = V m c main_v9 _
  congr 1
  funext a
  apply Fin.ext
  match a with
  | ⟨0, _⟩ => show win0_11.index t 0 * 128 + 1 * r.val = (t.val - 1) * 128 + r.val; rw [h0]; omega
  | ⟨1, _⟩ => show win0_11.index t 1 * 256 + 1 * l.val = l.val; rw [h1]; omega

theorem blk12 (c : Dev nD) (t : Fin cfg0.N) (r : Fin 128) (l : Fin 1024) :
    (iblk m c 12 t : Vec Ideal S128x1024 .bf16) (ix2 r l) = da m c (ix2 ⟨t.val * 128 + r.val, by have := lt16 t; omega⟩ l) := by
  have h0 := at12_0 t
  have h1 := at12_1 t
  unfold iblk
  rw [View.read_apply]
  show V m c main_arg1 _ = _
  rw [V_main_arg1]
  congr 1
  funext a
  apply Fin.ext
  match a with
  | ⟨0, _⟩ => show win0_12.index t 0 * 128 + 1 * r.val = t.val * 128 + r.val; rw [h0]; omega
  | ⟨1, _⟩ => show win0_12.index t 1 * 1024 + 1 * l.val = l.val; rw [h1]; omega

theorem blk13 (c : Dev nD) (t : Fin cfg0.N) (r : Fin 1024) (l : Fin 1024) :
    (iblk m c 13 t : Vec Ideal S1024x1024 .bf16) (ix2 r l) = wo m c (ix2 r l) := by
  have h0 := at13_0 t
  have h1 := at13_1 t
  unfold iblk
  rw [View.read_apply]
  show V m c main_arg2 _ = _
  rw [V_main_arg2]
  congr 1
  funext a
  apply Fin.ext
  match a with
  | ⟨0, _⟩ => show win0_13.index t 0 * 1024 + 1 * r.val = r.val; rw [h0]; omega
  | ⟨1, _⟩ => show win0_13.index t 1 * 1024 + 1 * l.val = l.val; rw [h1]; omega

/-- One head's lanes of a table: eight, eight, and the rest. -/
def lanes (a b : Vec Ideal S2048x8 .f32) (z : Vec Ideal S2048x48 .f32) : Vec Ideal S2048x64 .f32 :=
  concatenate S2048x64 1 [⟨S2048x8, a⟩, ⟨S2048x8, b⟩, ⟨S2048x48, z⟩] concatenates_S2048x8_S2048x8_S2048x48_S2048x64_d1
/-- The lanes of the fourfold heads, side by side. -/
def heads (x y z w : Vec Ideal S2048x64 .f32) : Vec Ideal S2048x256 .f32 :=
  concatenate S2048x256 1 [⟨S2048x64, x⟩, ⟨S2048x64, y⟩, ⟨S2048x64, z⟩, ⟨S2048x64, w⟩] concatenates_S2048x64_S2048x64_S2048x64_S2048x64_S2048x256_d1

theorem lanes_apply (a b : Vec Ideal S2048x8 .f32) (z : Vec Ideal S2048x48 .f32) (r : Fin 2048) (l : Fin 64) :
    lanes a b z (ix2 r l) = if h : l.val < 8 then a (ix2 r ⟨l.val, h⟩)
      else if h2 : l.val < 16 then b (ix2 r ⟨l.val - 8, by omega⟩) else z (ix2 r ⟨l.val - 16, by omega⟩) := by
  unfold lanes
  pointwise
  by_cases h1 : l.val < 8
  · rw [dif_pos h1, dif_pos h1]
  · rw [dif_neg h1, dif_neg h1]
    by_cases h2 : l.val < 16
    · rw [dif_pos (by omega : l.val - 8 < 8), dif_pos h2]
    · rw [dif_neg (by omega : ¬ l.val - 8 < 8), dif_neg h2]
      rfl
theorem heads_apply (x : Vec Ideal S2048x64 .f32) (r : Fin 2048) (l : Fin 256) :
    heads x x x x (ix2 r l) = x (ix2 r ⟨l.val % 64, by omega⟩) := by
  unfold heads
  pointwise
  split_ifs <;> exact congrArg (fun k => x (ix2 r k)) (Fin.ext (by show _ = l.val % 64; dsimp only; omega))

/-- The same lanes for each head. -/
def fourfold (x : Vec Ideal S2048x64 .f32) : Vec Ideal S2048x256 .f32 := heads x x x x

/-- The lanes that hold one, and those that hold zero. -/
def ones : Vec Ideal S2048x48 .f32 := broadcastInDim S2048x48 ![] bcast_S_S2048x48 (constant (F := Ideal) S_ .f32 0x3F800000#32)
def zeros : Vec Ideal S2048x48 .f32 := broadcastInDim S2048x48 ![] bcast_S_S2048x48 (constant (F := Ideal) S_ .f32 0x00000000#32)
def zeros8 : Vec Ideal S2048x8 .f32 := broadcastInDim S2048x8 ![] bcast_S_S2048x8 (constant (F := Ideal) S_ .f32 0x00000000#32)
theorem ones_apply (r : Fin 2048) (l : Fin 48) : ones (ix2 r l) = 1 := by
  unfold ones
  pointwise
theorem zeros_apply (r : Fin 2048) (l : Fin 48) : zeros (ix2 r l) = 0 := by
  unfold zeros
  pointwise
theorem zeros8_apply (r : Fin 2048) (l : Fin 8) : zeros8 (ix2 r l) = 0 := by
  unfold zeros8
  pointwise

/-- The host's operations before the call, each laying out of lanes named. -/
def hostList : List (HloOp τ sig (Elt Ideal)) :=
  [ StableHlo.nullary main_cst (constant (F := Ideal) S_ .f32 0x3F800000#32),
    StableHlo.unary main_cst main_v0 (broadcastInDim S2048x48 ![] bcast_S_S2048x48 : (⟨S_, .f32⟩ : BufTy).Contents (Elt Ideal) → (⟨S2048x48, .f32⟩ : BufTy).Contents (Elt Ideal)),
    StableHlo.nullary main_cst_0 (constant (F := Ideal) S_ .f32 0x00000000#32),
    StableHlo.unary main_cst_0 main_v1 (broadcastInDim S2048x48 ![] bcast_S_S2048x48 : (⟨S_, .f32⟩ : BufTy).Contents (Elt Ideal) → (⟨S2048x48, .f32⟩ : BufTy).Contents (Elt Ideal)),
    StableHlo.nullary main_cst_1 (constant (F := Ideal) S_ .f32 0x00000000#32),
    StableHlo.unary main_cst_1 main_v2 (broadcastInDim S2048x8 ![] bcast_S_S2048x8 : (⟨S_, .f32⟩ : BufTy).Contents (Elt Ideal) → (⟨S2048x8, .f32⟩ : BufTy).Contents (Elt Ideal)),
    StableHlo.nary ![main_arg4, main_arg4, main_v0] main_v3 (fun u => (lanes (u 0) (u 1) (u 2) : (⟨S2048x64, .f32⟩ : BufTy).Contents (Elt Ideal))),
    StableHlo.unary main_arg5 main_v4 (Host.negf (F := Ideal) (s := S2048x8) (φ := .f32) : (⟨S2048x8, .f32⟩ : BufTy).Contents (Elt Ideal) → (⟨S2048x8, .f32⟩ : BufTy).Contents (Elt Ideal)),
    StableHlo.nary ![main_v4, main_v2, main_v1] main_v5 (fun u => (lanes (u 0) (u 1) (u 2) : (⟨S2048x64, .f32⟩ : BufTy).Contents (Elt Ideal))),
    StableHlo.nary ![main_v2, main_arg5, main_v1] main_v6 (fun u => (lanes (u 0) (u 1) (u 2) : (⟨S2048x64, .f32⟩ : BufTy).Contents (Elt Ideal))),
    StableHlo.nary ![main_v3, main_v3, main_v3, main_v3] main_v7 (fun u => (heads (u 0) (u 1) (u 2) (u 3) : (⟨S2048x256, .f32⟩ : BufTy).Contents (Elt Ideal))),
    StableHlo.nary ![main_v5, main_v5, main_v5, main_v5] main_v8 (fun u => (heads (u 0) (u 1) (u 2) (u 3) : (⟨S2048x256, .f32⟩ : BufTy).Contents (Elt Ideal))),
    StableHlo.nary ![main_v6, main_v6, main_v6, main_v6] main_v9 (fun u => (heads (u 0) (u 1) (u 2) (u 3) : (⟨S2048x256, .f32⟩ : BufTy).Contents (Elt Ideal))) ]
theorem hostList_eq : hostOps0 (F := Ideal) = hostList := rfl

theorem tC_eq (c : Dev nD) : tC m c = fourfold (lanes (cs m c) (cs m c) ones) := by
  unfold tC V
  rw [hostList_eq]
  unfold hostList
  after_results_simp <;> (try dsimp only [Matrix.cons_val]) <;> (try after_results_simp) <;> (try dsimp only [Matrix.cons_val]) <;> (try after_results_simp) <;> rfl
theorem tU_eq (c : Dev nD) : tU m c = fourfold (lanes (Host.negf (F := Ideal) (s := S2048x8) (φ := .f32) (sn m c)) zeros8 zeros) := by
  unfold tU V
  rw [hostList_eq]
  unfold hostList
  after_results_simp <;> (try dsimp only [Matrix.cons_val]) <;> (try after_results_simp) <;> (try dsimp only [Matrix.cons_val]) <;> (try after_results_simp) <;> rfl
theorem tD_eq (c : Dev nD) : tD m c = fourfold (lanes zeros8 (sn m c) zeros) := by
  unfold tD V
  rw [hostList_eq]
  unfold hostList
  after_results_simp <;> (try dsimp only [Matrix.cons_val]) <;> (try after_results_simp) <;> (try dsimp only [Matrix.cons_val]) <;> (try after_results_simp) <;> rfl

/-- The tables' lanes at a position. -/
theorem tab_apply (c : Dev nD) (s : Fin 2048) (l : Fin 256) :
    (tC m c (ix2 s l) = if h : l.val % 64 < 8 then cs m c (ix2 s ⟨l.val % 64, h⟩) else if h2 : l.val % 64 < 16 then cs m c (ix2 s ⟨l.val % 64 - 8, by omega⟩) else 1)
    ∧ (tU m c (ix2 s l) = if h : l.val % 64 < 8 then -sn m c (ix2 s ⟨l.val % 64, h⟩) else 0)
    ∧ (tD m c (ix2 s l) = if h : l.val % 64 < 8 then 0 else if h2 : l.val % 64 < 16 then sn m c (ix2 s ⟨l.val % 64 - 8, by omega⟩) else 0) := by
  have hn : ∀ x : S2048x8.Idx, Host.negf (F := Ideal) (s := S2048x8) (φ := .f32) (sn m c) x = -sn m c x := fun _ => rfl
  rw [tC_eq, tU_eq, tD_eq]
  unfold fourfold
  rw [heads_apply, heads_apply, heads_apply, lanes_apply, lanes_apply, lanes_apply]
  by_cases h1 : l.val % 64 < 8
  · simp only [h1, dite_true, zeros8_apply, hn]
    exact ⟨trivial, trivial, trivial⟩
  · by_cases h2 : l.val % 64 < 16
    · simp only [h1, h2, dite_true, dite_false, zeros8_apply]
      exact ⟨trivial, trivial, trivial⟩
    · simp only [h1, h2, dite_false, zeros_apply, ones_apply]
      exact ⟨trivial, trivial, trivial⟩

end Cert.AttnBwdIdeal.Hand

end
-- ==== Proof.AttnBwdHeads.lean ====
/- The vectors of one block of the backward attention hold rows of the turned queries and keys, of the values and of the outputs' gradient. -/
module

public import proofs.«01_k».proof.Proof.AttnBwdHost

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Cert.AttnLaw
open Idealize.ShloMosaic.Pipeline (Dat)

variable (m : (ℓ : Loc nD τ sig) → Buf (Elt Ideal) ℓ) (c : Dev nD) (t : Fin cfg0.N)

/-- The queries, the keys, the values, the outputs' gradient and the sinks that the arguments give. -/
def fQ (c : Dev nD) : Fin 2048 → Fin 16 → Fin 64 → EReal := inQ (pr m c) (cs m c) (sn m c)
def fK (c : Dev nD) : Fin 2048 → Fin 4 → Fin 64 → EReal := inK (pr m c) (cs m c) (sn m c)
def fV (c : Dev nD) : Fin 2048 → Fin 4 → Fin 64 → EReal := inV (pr m c)
def fY (c : Dev nD) : Fin 2048 → Fin 16 → Fin 64 → EReal := inDo (da m c) (wo m c)
def fZ (c : Dev nD) : Fin 16 → EReal := inZ (sk m c)

/-- The keys, the values and the outputs' gradient of the block, and the tables' tiles, the queries' tiles and the sinks as loaded. -/
abbrev tK : FVec Ideal S256x256 .f32 := keys (iblk m c 2 t) (iblk m c 3 t) (iblk m c 6 t) (iblk m c 7 t) (iblk m c 8 t) (iblk m c 9 t) (iblk m c 10 t) (iblk m c 11 t)
abbrev tV : FVec Ideal S256x256 .f32 := band (iblk m c 4 t) (iblk m c 5 t)
abbrev tY : FVec Ideal S128x1024 .bf16 := outGrad (iblk m c 12 t) (iblk m c 13 t)
abbrev lc : Vec Ideal S128x128 .f32 := View.ld (iblk m c 6 t) (Rect.unit ![0, 0] ![128, 128] inb_S128x256_S128x128_0_0)
abbrev lu : Vec Ideal S128x128 .f32 := View.ld (iblk m c 7 t) (Rect.unit ![0, 0] ![128, 128] inb_S128x256_S128x128_0_0)
abbrev ld : Vec Ideal S128x128 .f32 := View.ld (iblk m c 8 t) (Rect.unit ![0, 0] ![128, 128] inb_S128x256_S128x128_0_0)
abbrev lq0 : Vec Ideal S128x128 .f32 := View.ld (X0_1 m c t) (Rect.unit ![0, 0] ![128, 128] inb_S128x1024_S128x128_0_0)
abbrev lq1 : Vec Ideal S128x128 .f32 := View.ld (X0_1 m c t) (Rect.unit ![0, 128] ![128, 128] inb_S128x1024_S128x128_0_128)
abbrev lq2 : Vec Ideal S128x128 .f32 := View.ld (X0_1 m c t) (Rect.unit ![0, 256] ![128, 128] inb_S128x1024_S128x128_0_256)
abbrev lq3 : Vec Ideal S128x128 .f32 := View.ld (X0_1 m c t) (Rect.unit ![0, 384] ![128, 128] inb_S128x1024_S128x128_0_384)
abbrev lq4 : Vec Ideal S128x128 .f32 := View.ld (X0_1 m c t) (Rect.unit ![0, 512] ![128, 128] inb_S128x1024_S128x128_0_512)
abbrev lq5 : Vec Ideal S128x128 .f32 := View.ld (X0_1 m c t) (Rect.unit ![0, 640] ![128, 128] inb_S128x1024_S128x128_0_640)
abbrev lq6 : Vec Ideal S128x128 .f32 := View.ld (X0_1 m c t) (Rect.unit ![0, 768] ![128, 128] inb_S128x1024_S128x128_0_768)
abbrev lq7 : Vec Ideal S128x128 .f32 := View.ld (X0_1 m c t) (Rect.unit ![0, 896] ![128, 128] inb_S128x1024_S128x128_0_896)
abbrev ls0 : Ideal .f32 := View.ld (iblk m c 0 t) (Rect.unit ![0, 0] ![1, 1] inb_S1x16_S1x1_0_0) (Shape.Idx.first (numel1_S1x1.symm ▸ Nat.one_pos))
abbrev ls1 : Ideal .f32 := View.ld (iblk m c 0 t) (Rect.unit ![0, 1] ![1, 1] inb_S1x16_S1x1_0_1) (Shape.Idx.first (numel1_S1x1.symm ▸ Nat.one_pos))
abbrev ls2 : Ideal .f32 := View.ld (iblk m c 0 t) (Rect.unit ![0, 2] ![1, 1] inb_S1x16_S1x1_0_2) (Shape.Idx.first (numel1_S1x1.symm ▸ Nat.one_pos))
abbrev ls3 : Ideal .f32 := View.ld (iblk m c 0 t) (Rect.unit ![0, 3] ![1, 1] inb_S1x16_S1x1_0_3) (Shape.Idx.first (numel1_S1x1.symm ▸ Nat.one_pos))
abbrev ls4 : Ideal .f32 := View.ld (iblk m c 0 t) (Rect.unit ![0, 4] ![1, 1] inb_S1x16_S1x1_0_4) (Shape.Idx.first (numel1_S1x1.symm ▸ Nat.one_pos))
abbrev ls5 : Ideal .f32 := View.ld (iblk m c 0 t) (Rect.unit ![0, 5] ![1, 1] inb_S1x16_S1x1_0_5) (Shape.Idx.first (numel1_S1x1.symm ▸ Nat.one_pos))
abbrev ls6 : Ideal .f32 := View.ld (iblk m c 0 t) (Rect.unit ![0, 6] ![1, 1] inb_S1x16_S1x1_0_6) (Shape.Idx.first (numel1_S1x1.symm ▸ Nat.one_pos))
abbrev ls7 : Ideal .f32 := View.ld (iblk m c 0 t) (Rect.unit ![0, 7] ![1, 1] inb_S1x16_S1x1_0_7) (Shape.Idx.first (numel1_S1x1.symm ▸ Nat.one_pos))
abbrev ls8 : Ideal .f32 := View.ld (iblk m c 0 t) (Rect.unit ![0, 8] ![1, 1] inb_S1x16_S1x1_0_8) (Shape.Idx.first (numel1_S1x1.symm ▸ Nat.one_pos))
abbrev ls9 : Ideal .f32 := View.ld (iblk m c 0 t) (Rect.unit ![0, 9] ![1, 1] inb_S1x16_S1x1_0_9) (Shape.Idx.first (numel1_S1x1.symm ▸ Nat.one_pos))
abbrev ls10 : Ideal .f32 := View.ld (iblk m c 0 t) (Rect.unit ![0, 10] ![1, 1] inb_S1x16_S1x1_0_10) (Shape.Idx.first (numel1_S1x1.symm ▸ Nat.one_pos))
abbrev ls11 : Ideal .f32 := View.ld (iblk m c 0 t) (Rect.unit ![0, 11] ![1, 1] inb_S1x16_S1x1_0_11) (Shape.Idx.first (numel1_S1x1.symm ▸ Nat.one_pos))
abbrev ls12 : Ideal .f32 := View.ld (iblk m c 0 t) (Rect.unit ![0, 12] ![1, 1] inb_S1x16_S1x1_0_12) (Shape.Idx.first (numel1_S1x1.symm ▸ Nat.one_pos))
abbrev ls13 : Ideal .f32 := View.ld (iblk m c 0 t) (Rect.unit ![0, 13] ![1, 1] inb_S1x16_S1x1_0_13) (Shape.Idx.first (numel1_S1x1.symm ▸ Nat.one_pos))
abbrev ls14 : Ideal .f32 := View.ld (iblk m c 0 t) (Rect.unit ![0, 14] ![1, 1] inb_S1x16_S1x1_0_14) (Shape.Idx.first (numel1_S1x1.symm ▸ Nat.one_pos))
abbrev ls15 : Ideal .f32 := View.ld (iblk m c 0 t) (Rect.unit ![0, 15] ![1, 1] inb_S1x16_S1x1_0_15) (Shape.Idx.first (numel1_S1x1.symm ▸ Nat.one_pos))

/-- The tables of the own block, of the block before, and the own block's tiles. -/
theorem tabOwn :
    IsTab (fun r l => (iblk m c 6 t : Vec Ideal S128x256 .f32) (ix2 r l)) (fun r l => (iblk m c 7 t : Vec Ideal S128x256 .f32) (ix2 r l)) (fun r l => (iblk m c 8 t : Vec Ideal S128x256 .f32) (ix2 r l))
      (fun r j => cs m c (ix2 (row (bn t) r) j)) (fun r j => sn m c (ix2 (row (bn t) r) j)) := fun r l => by
  dsimp only
  rw [blk6, blk7, blk8]
  exact tab_apply m c (row (bn t) r) l
theorem tabBefore :
    IsTab (fun r l => (iblk m c 9 t : Vec Ideal S128x256 .f32) (ix2 r l)) (fun r l => (iblk m c 10 t : Vec Ideal S128x256 .f32) (ix2 r l)) (fun r l => (iblk m c 11 t : Vec Ideal S128x256 .f32) (ix2 r l))
      (fun r j => cs m c (ix2 ⟨(t.val - 1) * 128 + r.val, by have := lt16 t; omega⟩ j)) (fun r j => sn m c (ix2 ⟨(t.val - 1) * 128 + r.val, by have := lt16 t; omega⟩ j)) := fun r l => by
  dsimp only
  rw [blk9, blk10, blk11]
  exact tab_apply m c _ l
/-- A load of a part reads the entry moved by the part's start. -/
theorem ld_cut {R C r c' : Nat} (X : Vec Ideal ⟨2, ![R, C]⟩ .f32) (o : Nat) (inb : ∀ a, ![0, o] a + ![r, c'] a ≤ (⟨2, ![R, C]⟩ : Shape).size a)
    (x : Fin r) (y : Fin c') (hr : x.val < R) (hc : o + y.val < C) :
    View.ld (Val := Elt Ideal) (e' := .f32) X (Rect.unit ![0, o] ![r, c'] inb) (ix2 x y) = X (ix2 ⟨x.val, hr⟩ ⟨o + y.val, hc⟩) := by
  refine congrArg X (funext fun a => Fin.ext ?_)
  match a with
  | ⟨0, _⟩ => show 0 + 1 * x.val = x.val; omega
  | ⟨1, _⟩ => show o + 1 * y.val = o + y.val; omega
theorem tabTile :
    IsTab (fun r l => lc m c t (ix2 r l)) (fun r l => lu m c t (ix2 r l)) (fun r l => ld m c t (ix2 r l))
      (fun r j => cs m c (ix2 (row (bn t) r) j)) (fun r j => sn m c (ix2 (row (bn t) r) j)) := fun r l => by
  have h := tabOwn m c t r ⟨0 + l.val, by omega⟩
  dsimp only at h ⊢
  have e : (0 + l.val) % 64 = l.val % 64 := by omega
  simp only [e] at h
  exact ⟨(ld_cut (iblk m c 6 t) 0 _ r l (by omega) (by omega)).trans h.1, (ld_cut (iblk m c 7 t) 0 _ r l (by omega) (by omega)).trans h.2.1,
    (ld_cut (iblk m c 8 t) 0 _ r l (by omega) (by omega)).trans h.2.2⟩

/-- The block's keys and values, head by head. -/
theorem keys_of (h : Fin 4) : lanesOf (tK m c t) h = fun k d => fK m c (pl (bn t) k) h d := by
  funext k d
  unfold lanesOf tK keys fK inK
  rw [band_apply]
  by_cases hk : k.val < 128
  · rw [dif_pos hk, turn_rot _ _ _ _ _ _ (tabBefore m c t)]
    have e : pl (bn t) k = ⟨(t.val - 1) * 128 + k.val, by have := lt16 t; omega⟩ := Fin.ext (by show place t.val k.val = _; unfold place; rw [if_pos hk])
    rw [e]
    have e2 : (⟨(h.val * 64 + d.val) % 64, by omega⟩ : Fin 64) = d := Fin.ext (by show (h.val * 64 + d.val) % 64 = d.val; omega)
    rw [e2]
    congr 1
    funext e
    rw [blk2]
    exact congrArg (fun l => pr m c (ix2 _ l)) (Fin.ext (by show 16 * 256 + ((h.val * 64 + d.val) / 64 * 64 + e.val) = 4096 + h.val * 64 + e.val; omega))
  · rw [dif_neg hk, turn_rot _ _ _ _ _ _ (tabOwn m c t)]
    have e : pl (bn t) k = row (bn t) ⟨k.val - 128, by omega⟩ := Fin.ext (by show place t.val k.val = t.val * 128 + (k.val - 128); unfold place; rw [if_neg hk])
    rw [e]
    have e2 : (⟨(h.val * 64 + d.val) % 64, by omega⟩ : Fin 64) = d := Fin.ext (by show (h.val * 64 + d.val) % 64 = d.val; omega)
    rw [e2]
    congr 1
    funext e
    rw [blk3]
    exact congrArg (fun l => pr m c (ix2 _ l)) (Fin.ext (by show 16 * 256 + ((h.val * 64 + d.val) / 64 * 64 + e.val) = 4096 + h.val * 64 + e.val; omega))
theorem values_of (h : Fin 4) : lanesOf (tV m c t) h = fun k d => fV m c (pl (bn t) k) h d := by
  funext k d
  unfold lanesOf tV fV inV
  rw [band_apply]
  by_cases hk : k.val < 128
  · rw [dif_pos hk, blk4]
    have e : pl (bn t) k = ⟨(t.val - 1) * 128 + k.val, by have := lt16 t; omega⟩ := Fin.ext (by show place t.val k.val = _; unfold place; rw [if_pos hk])
    rw [e]
    exact congrArg (fun l => pr m c (ix2 _ l)) (Fin.ext (by show 17 * 256 + (h.val * 64 + d.val) = 4352 + h.val * 64 + d.val; omega))
  · rw [dif_neg hk, blk5]
    have e : pl (bn t) k = row (bn t) ⟨k.val - 128, by omega⟩ := Fin.ext (by show place t.val k.val = t.val * 128 + (k.val - 128); unfold place; rw [if_neg hk])
    rw [e]
    exact congrArg (fun l => pr m c (ix2 _ l)) (Fin.ext (by show 17 * 256 + (h.val * 64 + d.val) = 4352 + h.val * 64 + d.val; omega))

/-- A pair of tiles of turned queries, from what each tile holds. -/
theorem queries_of (h : Fin 4) (a b : Vec Ideal S128x128 .f32)
    (ha : ∀ (r l : Fin 128), a (ix2 r l) = pr m c (ix2 (row (bn t) r) ⟨3072 + (h.val * 256 + l.val), by omega⟩))
    (hb : ∀ (r l : Fin 128), b (ix2 r l) = pr m c (ix2 (row (bn t) r) ⟨3072 + (h.val * 256 + 128 + l.val), by omega⟩))
    (p : Fin 2) (r : Fin 256) (d : Fin 64) :
    queries a b (lc m c t) (lu m c t) (ld m c t) (ix2 r ⟨p.val * 64 + d.val, by omega⟩) = fQ m c (row (bn t) (qr r)) (qh h p r) d := by
  rw [queries_apply]
  unfold fQ inQ
  have e2 : (⟨(p.val * 64 + d.val) % 64, by omega⟩ : Fin 64) = d := Fin.ext (by show (p.val * 64 + d.val) % 64 = d.val; omega)
  by_cases hr : r.val < 128
  · rw [dif_pos hr, turnT_rot _ _ _ _ _ _ (tabTile m c t), e2]
    have e : qr r = ⟨r.val, hr⟩ := Fin.ext (by show r.val % 128 = r.val; omega)
    rw [e]
    congr 1
    funext e
    rw [ha]
    exact congrArg (fun l => pr m c (ix2 _ l)) (Fin.ext (by
      show 3072 + (h.val * 256 + ((p.val * 64 + d.val) / 64 * 64 + e.val)) = 3072 + (h.val * 4 + (2 * (r.val / 128) + p.val)) * 64 + e.val; omega))
  · rw [dif_neg hr, turnT_rot _ _ _ _ _ _ (tabTile m c t), e2]
    have e : qr r = ⟨r.val - 128, by omega⟩ := Fin.ext (by show r.val % 128 = r.val - 128; omega)
    rw [e]
    congr 1
    funext e
    rw [hb]
    exact congrArg (fun l => pr m c (ix2 _ l)) (Fin.ext (by
      show 3072 + (h.val * 256 + 128 + ((p.val * 64 + d.val) / 64 * 64 + e.val)) = 3072 + (h.val * 4 + (2 * (r.val / 128) + p.val)) * 64 + e.val; omega))

/-- The outputs' gradient of the block. -/
theorem outs_of (h : Fin 4) (p : Fin 2) (r : Fin 256) (d : Fin 64) (l : Fin 1024)
    (hl : l.val = h.val * 256 + r.val / 128 * 128 + (p.val * 64 + d.val)) :
    tY m c t (ix2 ⟨r.val % 128, by omega⟩ l) = fY m c (row (bn t) (qr r)) (qh h p r) d := by
  unfold tY
  rw [outGrad_apply]
  unfold fY inDo
  have el : l = ⟨(qh h p r).val * 64 + d.val, by omega⟩ := Fin.ext (by show l.val = (h.val * 4 + (2 * (r.val / 128) + p.val)) * 64 + d.val; omega)
  refine Finset.sum_congr rfl fun e _ => ?_
  rw [blk12, blk13, el]
  rfl

/-- A tile of the queries as loaded. -/
theorem tile_of (o : Nat) (ho : o + 128 ≤ 1024) (inb : ∀ a, ![0, o] a + ![128, 128] a ≤ S128x1024.size a) (r l : Fin 128) :
    View.ld (X0_1 m c t) (Rect.unit ![0, o] ![128, 128] inb) (ix2 r l) = pr m c (ix2 (row (bn t) r) ⟨3072 + (o + l.val), by omega⟩) := by
  refine (ld_cut (X0_1 m c t) o inb r l r.isLt (by omega)).trans ?_
  rw [blk1]
  exact congrArg (fun l => pr m c (ix2 _ l)) (Fin.ext (by show 3 * 1024 + (o + l.val) = 3072 + (o + l.val); omega))
/-- A sink as loaded. -/
theorem sink_of (g : Fin 16) (inb : ∀ a, ![0, g.val] a + ![1, 1] a ≤ S1x16.size a) (x : (⟨2, ![1, 1]⟩ : Shape).Idx) :
    View.ld (iblk m c 0 t) (Rect.unit ![0, g.val] ![1, 1] inb) x = fZ m c g := by
  have hx : x = ix2 0 0 := funext fun a => by fin_cases a <;> exact Subsingleton.elim (α := Fin 1) _ _
  rw [hx]
  refine (ld_cut (iblk m c 0 t) g.val inb 0 0 (by omega) (by show g.val + 0 < 16; omega)).trans ?_
  rw [blk0]
  rfl

abbrev K00 : FVec Ideal S256x128 .bf16 := kept (evenA (tK m c t))
abbrev K01 : FVec Ideal S256x128 .bf16 := moved (evenA (tK m c t))
abbrev V00 : FVec Ideal S256x128 .bf16 := kept (evenA (tV m c t))
abbrev V01 : FVec Ideal S256x128 .bf16 := moved (evenA (tV m c t))
abbrev Q0 : FVec Ideal S256x128 .bf16 := queries (lq0 m c t) (lq1 m c t) (lc m c t) (lu m c t) (ld m c t)
abbrev Y0 : FVec Ideal S256x128 .bf16 := outs0 (tY m c t)
theorem head0 : Head (grid0.coords t) (bn t) 0 (K00 m c t) (K01 m c t) (V00 m c t) (V01 m c t) (Q0 m c t) (Y0 m c t)
    (ls0 m c t) (ls2 m c t) (ls1 m c t) (ls3 m c t) (fQ m c) (fK m c) (fV m c) (fY m c) (fZ m c) where
  at_n := coord0 t
  k0 := by
    rw [← keys_of]
    exact half00 (tK m c t)
  k1 := by
    rw [← keys_of]
    exact half01 (tK m c t)
  v0 := by
    rw [← values_of]
    exact half00 (tV m c t)
  v1 := by
    rw [← values_of]
    exact half01 (tV m c t)
  q := queries_of m c t 0 _ _
    (fun r l => (tile_of m c t 0 (by omega) inb_S128x1024_S128x128_0_0 r l).trans (congrArg (fun l => pr m c (ix2 _ l)) (Fin.ext (by show 3072 + (0 + l.val) = 3072 + (0 * 256 + l.val); omega))))
    (fun r l => (tile_of m c t 128 (by omega) inb_S128x1024_S128x128_0_128 r l).trans (congrArg (fun l => pr m c (ix2 _ l)) (Fin.ext (by show 3072 + (128 + l.val) = 3072 + (0 * 256 + 128 + l.val); omega))))
  y := fun p r d => (outs0_apply (tY m c t) r _).trans (outs_of m c t 0 p r d _ (by show 0 + r.val / 128 * 128 + (p.val * 64 + d.val) = 0 * 256 + r.val / 128 * 128 + (p.val * 64 + d.val); omega))
  a := fun r => by
    have e0 : ls0 m c t = fZ m c 0 := sink_of m c t 0 _ _
    have e1 : ls2 m c t = fZ m c 2 := sink_of m c t 2 _ _
    by_cases hr : r.val < 128
    · rw [if_pos hr, e0]
      exact congrArg (fZ m c) (Fin.ext (by show 0 = 0 * 4 + (2 * (r.val / 128) + 0); omega))
    · rw [if_neg hr, e1]
      exact congrArg (fZ m c) (Fin.ext (by show 2 = 0 * 4 + (2 * (r.val / 128) + 0); omega))
  b := fun r => by
    have e0 : ls1 m c t = fZ m c 1 := sink_of m c t 1 _ _
    have e1 : ls3 m c t = fZ m c 3 := sink_of m c t 3 _ _
    by_cases hr : r.val < 128
    · rw [if_pos hr, e0]
      exact congrArg (fZ m c) (Fin.ext (by show 1 = 0 * 4 + (2 * (r.val / 128) + 1); omega))
    · rw [if_neg hr, e1]
      exact congrArg (fZ m c) (Fin.ext (by show 3 = 0 * 4 + (2 * (r.val / 128) + 1); omega))

abbrev K10 : FVec Ideal S256x128 .bf16 := moved (oddA (tK m c t))
abbrev K11 : FVec Ideal S256x128 .bf16 := kept (oddA (tK m c t))
abbrev V10 : FVec Ideal S256x128 .bf16 := moved (oddA (tV m c t))
abbrev V11 : FVec Ideal S256x128 .bf16 := kept (oddA (tV m c t))
abbrev Q1 : FVec Ideal S256x128 .bf16 := queries (lq2 m c t) (lq3 m c t) (lc m c t) (lu m c t) (ld m c t)
abbrev Y1 : FVec Ideal S256x128 .bf16 := outs1 (tY m c t)
theorem head1 : Head (grid0.coords t) (bn t) 1 (K10 m c t) (K11 m c t) (V10 m c t) (V11 m c t) (Q1 m c t) (Y1 m c t)
    (ls4 m c t) (ls6 m c t) (ls5 m c t) (ls7 m c t) (fQ m c) (fK m c) (fV m c) (fY m c) (fZ m c) where
  at_n := coord0 t
  k0 := by
    rw [← keys_of]
    exact half10 (tK m c t)
  k1 := by
    rw [← keys_of]
    exact half11 (tK m c t)
  v0 := by
    rw [← values_of]
    exact half10 (tV m c t)
  v1 := by
    rw [← values_of]
    exact half11 (tV m c t)
  q := queries_of m c t 1 _ _
    (fun r l => (tile_of m c t 256 (by omega) inb_S128x1024_S128x128_0_256 r l).trans (congrArg (fun l => pr m c (ix2 _ l)) (Fin.ext (by show 3072 + (256 + l.val) = 3072 + (1 * 256 + l.val); omega))))
    (fun r l => (tile_of m c t 384 (by omega) inb_S128x1024_S128x128_0_384 r l).trans (congrArg (fun l => pr m c (ix2 _ l)) (Fin.ext (by show 3072 + (384 + l.val) = 3072 + (1 * 256 + 128 + l.val); omega))))
  y := fun p r d => (outs1_apply (tY m c t) r _).trans (outs_of m c t 1 p r d _ (by show 256 + r.val / 128 * 128 + (p.val * 64 + d.val) = 1 * 256 + r.val / 128 * 128 + (p.val * 64 + d.val); omega))
  a := fun r => by
    have e0 : ls4 m c t = fZ m c 4 := sink_of m c t 4 _ _
    have e1 : ls6 m c t = fZ m c 6 := sink_of m c t 6 _ _
    by_cases hr : r.val < 128
    · rw [if_pos hr, e0]
      exact congrArg (fZ m c) (Fin.ext (by show 4 = 1 * 4 + (2 * (r.val / 128) + 0); omega))
    · rw [if_neg hr, e1]
      exact congrArg (fZ m c) (Fin.ext (by show 6 = 1 * 4 + (2 * (r.val / 128) + 0); omega))
  b := fun r => by
    have e0 : ls5 m c t = fZ m c 5 := sink_of m c t 5 _ _
    have e1 : ls7 m c t = fZ m c 7 := sink_of m c t 7 _ _
    by_cases hr : r.val < 128
    · rw [if_pos hr, e0]
      exact congrArg (fZ m c) (Fin.ext (by show 5 = 1 * 4 + (2 * (r.val / 128) + 1); omega))
    · rw [if_neg hr, e1]
      exact congrArg (fZ m c) (Fin.ext (by show 7 = 1 * 4 + (2 * (r.val / 128) + 1); omega))

abbrev K20 : FVec Ideal S256x128 .bf16 := kept (evenB (tK m c t))
abbrev K21 : FVec Ideal S256x128 .bf16 := moved (evenB (tK m c t))
abbrev V20 : FVec Ideal S256x128 .bf16 := kept (evenB (tV m c t))
abbrev V21 : FVec Ideal S256x128 .bf16 := moved (evenB (tV m c t))
abbrev Q2 : FVec Ideal S256x128 .bf16 := queries (lq4 m c t) (lq5 m c t) (lc m c t) (lu m c t) (ld m c t)
abbrev Y2 : FVec Ideal S256x128 .bf16 := outs2 (tY m c t)
theorem head2 : Head (grid0.coords t) (bn t) 2 (K20 m c t) (K21 m c t) (V20 m c t) (V21 m c t) (Q2 m c t) (Y2 m c t)
    (ls8 m c t) (ls10 m c t) (ls9 m c t) (ls11 m c t) (fQ m c) (fK m c) (fV m c) (fY m c) (fZ m c) where
  at_n := coord0 t
  k0 := by
    rw [← keys_of]
    exact half20 (tK m c t)
  k1 := by
    rw [← keys_of]
    exact half21 (tK m c t)
  v0 := by
    rw [← values_of]
    exact half20 (tV m c t)
  v1 := by
    rw [← values_of]
    exact half21 (tV m c t)
  q := queries_of m c t 2 _ _
    (fun r l => (tile_of m c t 512 (by omega) inb_S128x1024_S128x128_0_512 r l).trans (congrArg (fun l => pr m c (ix2 _ l)) (Fin.ext (by show 3072 + (512 + l.val) = 3072 + (2 * 256 + l.val); omega))))
    (fun r l => (tile_of m c t 640 (by omega) inb_S128x1024_S128x128_0_640 r l).trans (congrArg (fun l => pr m c (ix2 _ l)) (Fin.ext (by show 3072 + (640 + l.val) = 3072 + (2 * 256 + 128 + l.val); omega))))
  y := fun p r d => (outs2_apply (tY m c t) r _).trans (outs_of m c t 2 p r d _ (by show 512 + r.val / 128 * 128 + (p.val * 64 + d.val) = 2 * 256 + r.val / 128 * 128 + (p.val * 64 + d.val); omega))
  a := fun r => by
    have e0 : ls8 m c t = fZ m c 8 := sink_of m c t 8 _ _
    have e1 : ls10 m c t = fZ m c 10 := sink_of m c t 10 _ _
    by_cases hr : r.val < 128
    · rw [if_pos hr, e0]
      exact congrArg (fZ m c) (Fin.ext (by show 8 = 2 * 4 + (2 * (r.val / 128) + 0); omega))
    · rw [if_neg hr, e1]
      exact congrArg (fZ m c) (Fin.ext (by show 10 = 2 * 4 + (2 * (r.val / 128) + 0); omega))
  b := fun r => by
    have e0 : ls9 m c t = fZ m c 9 := sink_of m c t 9 _ _
    have e1 : ls11 m c t = fZ m c 11 := sink_of m c t 11 _ _
    by_cases hr : r.val < 128
    · rw [if_pos hr, e0]
      exact congrArg (fZ m c) (Fin.ext (by show 9 = 2 * 4 + (2 * (r.val / 128) + 1); omega))
    · rw [if_neg hr, e1]
      exact congrArg (fZ m c) (Fin.ext (by show 11 = 2 * 4 + (2 * (r.val / 128) + 1); omega))

abbrev K30 : FVec Ideal S256x128 .bf16 := moved (oddB (tK m c t))
abbrev K31 : FVec Ideal S256x128 .bf16 := kept (oddB (tK m c t))
abbrev V30 : FVec Ideal S256x128 .bf16 := moved (oddB (tV m c t))
abbrev V31 : FVec Ideal S256x128 .bf16 := kept (oddB (tV m c t))
abbrev Q3 : FVec Ideal S256x128 .bf16 := queries (lq6 m c t) (lq7 m c t) (lc m c t) (lu m c t) (ld m c t)
abbrev Y3 : FVec Ideal S256x128 .bf16 := outs3 (tY m c t)
theorem head3 : Head (grid0.coords t) (bn t) 3 (K30 m c t) (K31 m c t) (V30 m c t) (V31 m c t) (Q3 m c t) (Y3 m c t)
    (ls12 m c t) (ls14 m c t) (ls13 m c t) (ls15 m c t) (fQ m c) (fK m c) (fV m c) (fY m c) (fZ m c) where
  at_n := coord0 t
  k0 := by
    rw [← keys_of]
    exact half30 (tK m c t)
  k1 := by
    rw [← keys_of]
    exact half31 (tK m c t)
  v0 := by
    rw [← values_of]
    exact half30 (tV m c t)
  v1 := by
    rw [← values_of]
    exact half31 (tV m c t)
  q := queries_of m c t 3 _ _
    (fun r l => (tile_of m c t 768 (by omega) inb_S128x1024_S128x128_0_768 r l).trans (congrArg (fun l => pr m c (ix2 _ l)) (Fin.ext (by show 3072 + (768 + l.val) = 3072 + (3 * 256 + l.val); omega))))
    (fun r l => (tile_of m c t 896 (by omega) inb_S128x1024_S128x128_0_896 r l).trans (congrArg (fun l => pr m c (ix2 _ l)) (Fin.ext (by show 3072 + (896 + l.val) = 3072 + (3 * 256 + 128 + l.val); omega))))
  y := fun p r d => (outs3_apply (tY m c t) r _).trans (outs_of m c t 3 p r d _ (by show 768 + r.val / 128 * 128 + (p.val * 64 + d.val) = 3 * 256 + r.val / 128 * 128 + (p.val * 64 + d.val); omega))
  a := fun r => by
    have e0 : ls12 m c t = fZ m c 12 := sink_of m c t 12 _ _
    have e1 : ls14 m c t = fZ m c 14 := sink_of m c t 14 _ _
    by_cases hr : r.val < 128
    · rw [if_pos hr, e0]
      exact congrArg (fZ m c) (Fin.ext (by show 12 = 3 * 4 + (2 * (r.val / 128) + 0); omega))
    · rw [if_neg hr, e1]
      exact congrArg (fZ m c) (Fin.ext (by show 14 = 3 * 4 + (2 * (r.val / 128) + 0); omega))
  b := fun r => by
    have e0 : ls13 m c t = fZ m c 13 := sink_of m c t 13 _ _
    have e1 : ls15 m c t = fZ m c 15 := sink_of m c t 15 _ _
    by_cases hr : r.val < 128
    · rw [if_pos hr, e0]
      exact congrArg (fZ m c) (Fin.ext (by show 13 = 3 * 4 + (2 * (r.val / 128) + 1); omega))
    · rw [if_neg hr, e1]
      exact congrArg (fZ m c) (Fin.ext (by show 15 = 3 * 4 + (2 * (r.val / 128) + 1); omega))

end Cert.AttnBwdIdeal.Hand

end
-- ==== Proof.AttnBwdTiles.lean ====
/- What one block of the backward attention stores, tile by tile, as the entries of the result arrays. -/
module

public import proofs.«01_k».proof.Proof.AttnBwdHeads

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Cert.AttnLaw
open Idealize.ShloMosaic.Pipeline (Dat)

variable (m : (ℓ : Loc nD τ sig) → Buf (Elt Ideal) ℓ) (c : Dev nD) (t : Fin cfg0.N)

/-- The result arrays' entries. -/
def rQ (c : Dev nD) (s : Fin 2048) (l : Fin 1024) : EReal := outQ (pr m c) (cs m c) (sn m c) (sk m c) (da m c) (wo m c) s l
def rK (c : Dev nD) (n : Fin 16) (k l : Fin 256) : EReal := bandK (pr m c) (cs m c) (sn m c) (sk m c) (da m c) (wo m c) n k l
def rV (c : Dev nD) (n : Fin 16) (k l : Fin 256) : EReal := bandV (pr m c) (cs m c) (sn m c) (sk m c) (da m c) (wo m c) n k l

section
variable {i : grid0.Coords} {h h' : Fin 4} {k0 k1 v0 v1 q y k0' k1' v0' v1' q' y' : FVec Ideal S256x128 .bf16} {a0 a1 b0 b1 a0' a1' b0' b1' : Elt Ideal .f32}
  (H : Head i (bn t) h k0 k1 v0 v1 q y a0 a1 b0 b1 (fQ m c) (fK m c) (fV m c) (fY m c) (fZ m c))
  (H' : Head i (bn t) h' k0' k1' v0' v1' q' y' a0' a1' b0' b1' (fQ m c) (fK m c) (fV m c) (fY m c) (fZ m c))

include H in
/-- A tile of the queries' gradient: half `b` of the rows of head `h` of keys. -/
theorem tileQ (b : Fin 2) (x : FVec Ideal S128x128 .f32) (hx : ∀ r l : Fin 128, x (ix2 r l) = gradQ i k0 k1 v0 v1 q y a0 a1 b0 b1 (ix2 ⟨b.val * 128 + r.val, by omega⟩ l))
    (r l : Fin 128) : unturn x (lc m c t) (lu m c t) (ld m c t) (ix2 r l)
      = rQ m c (row (bn t) r) ⟨h.val * 256 + b.val * 128 + l.val, by omega⟩ := by
  rw [unturn_rot _ _ _ _ _ _ (tabTile m c t)]
  unfold rQ outQ
  have e1 : (⟨(row (bn t) r).val / 128, by omega⟩ : Fin 16) = bn t := Fin.ext (by show (t.val * 128 + r.val) / 128 = t.val; omega)
  have e2 : (⟨(row (bn t) r).val % 128, by omega⟩ : Fin 128) = r := Fin.ext (by show (t.val * 128 + r.val) % 128 = r.val; omega)
  have e3 : (⟨(h.val * 256 + b.val * 128 + l.val) % 64, by omega⟩ : Fin 64) = ⟨l.val % 64, by omega⟩ := Fin.ext (by show (h.val * 256 + b.val * 128 + l.val) % 64 = l.val % 64; omega)
  dsimp only
  rw [e1, e2, e3]
  congr 1
  funext e
  rw [hx, H.gradQ]
  have e4 : qr ⟨b.val * 128 + r.val, by omega⟩ = r := Fin.ext (by show (b.val * 128 + r.val) % 128 = r.val; omega)
  have e5 : (⟨(l.val / 64 * 64 + e.val) % 64, by omega⟩ : Fin 64) = e := Fin.ext (by show (l.val / 64 * 64 + e.val) % 64 = e.val; omega)
  have e6 : qh h ⟨(l.val / 64 * 64 + e.val) / 64, by omega⟩ ⟨b.val * 128 + r.val, by omega⟩ = ⟨(h.val * 256 + b.val * 128 + l.val) / 64, by omega⟩ :=
    Fin.ext (by show h.val * 4 + (2 * ((b.val * 128 + r.val) / 128) + (l.val / 64 * 64 + e.val) / 64) = (h.val * 256 + b.val * 128 + l.val) / 64; omega)
  dsimp only
  rw [e4, e5, e6]
  rfl

include H H' in
/-- The keys' gradient, two heads side by side. -/
theorem tileK (hh : h'.val = h.val + 1) (k : Fin 256) (l : Fin 128) (L : Fin 256) (hL : L.val = h.val * 64 + l.val) :
    both (ownE (onto (halfD i k0 v0 q y a0 a1) q) (onto (halfD i k1 v1 q y b0 b1) q))
      (ownO (onto (halfD i k0' v0' q' y' a0' a1') q') (onto (halfD i k1' v1' q' y' b0' b1') q')) (ix2 k l) = rK m c (bn t) k L := by
  rw [both_apply, H.gradK k ⟨l.val % 64, by omega⟩, H'.gradK k ⟨l.val % 64, by omega⟩]
  unfold rK bandK
  have e2 : (⟨L.val % 64, by omega⟩ : Fin 64) = ⟨l.val % 64, by omega⟩ := Fin.ext (by show L.val % 64 = l.val % 64; omega)
  rw [e2]
  by_cases hl : l.val < 64
  · rw [if_pos hl, show (⟨L.val / 64, by omega⟩ : Fin 4) = h from Fin.ext (by show L.val / 64 = h.val; omega)]
    rfl
  · rw [if_neg hl, show (⟨L.val / 64, by omega⟩ : Fin 4) = h' from Fin.ext (by show L.val / 64 = h'.val; omega)]
    rfl

include H H' in
/-- The values' gradient, two heads side by side. -/
theorem tileV (hh : h'.val = h.val + 1) (k : Fin 256) (l : Fin 128) (L : Fin 256) (hL : L.val = h.val * 64 + l.val) :
    both (ownE (onto (halfP i k0 q a0 a1) y) (onto (halfP i k1 q b0 b1) y))
      (ownO (onto (halfP i k0' q' a0' a1') y') (onto (halfP i k1' q' b0' b1') y')) (ix2 k l) = rV m c (bn t) k L := by
  rw [both_apply, H.gradV k ⟨l.val % 64, by omega⟩, H'.gradV k ⟨l.val % 64, by omega⟩]
  unfold rV bandV
  have e2 : (⟨L.val % 64, by omega⟩ : Fin 64) = ⟨l.val % 64, by omega⟩ := Fin.ext (by show L.val % 64 = l.val % 64; omega)
  rw [e2]
  by_cases hl : l.val < 64
  · rw [if_pos hl, show (⟨L.val / 64, by omega⟩ : Fin 4) = h from Fin.ext (by show L.val / 64 = h.val; omega)]
    rfl
  · rw [if_neg hl, show (⟨L.val / 64, by omega⟩ : Fin 4) = h' from Fin.ext (by show L.val / 64 = h'.val; omega)]
    rfl
end

/-- The stores of the queries' gradient, eight tiles. -/
def tilesQ : List (View.Piece (Elt Ideal) S128x1024 .bf16) := [
  ⟨Rect.unit ![0, 896] ![128, 128] inb_S128x1024_S128x128_0_896, unturn (rowsB (gradQ (grid0.coords t) (K30 m c t) (K31 m c t) (V30 m c t) (V31 m c t) (Q3 m c t) (Y3 m c t) (ls12 m c t) (ls14 m c t) (ls13 m c t) (ls15 m c t))) (lc m c t) (lu m c t) (ld m c t)⟩,
  ⟨Rect.unit ![0, 768] ![128, 128] inb_S128x1024_S128x128_0_768, unturn (rowsA (gradQ (grid0.coords t) (K30 m c t) (K31 m c t) (V30 m c t) (V31 m c t) (Q3 m c t) (Y3 m c t) (ls12 m c t) (ls14 m c t) (ls13 m c t) (ls15 m c t))) (lc m c t) (lu m c t) (ld m c t)⟩,
  ⟨Rect.unit ![0, 640] ![128, 128] inb_S128x1024_S128x128_0_640, unturn (rowsB (gradQ (grid0.coords t) (K20 m c t) (K21 m c t) (V20 m c t) (V21 m c t) (Q2 m c t) (Y2 m c t) (ls8 m c t) (ls10 m c t) (ls9 m c t) (ls11 m c t))) (lc m c t) (lu m c t) (ld m c t)⟩,
  ⟨Rect.unit ![0, 512] ![128, 128] inb_S128x1024_S128x128_0_512, unturn (rowsA (gradQ (grid0.coords t) (K20 m c t) (K21 m c t) (V20 m c t) (V21 m c t) (Q2 m c t) (Y2 m c t) (ls8 m c t) (ls10 m c t) (ls9 m c t) (ls11 m c t))) (lc m c t) (lu m c t) (ld m c t)⟩,
  ⟨Rect.unit ![0, 384] ![128, 128] inb_S128x1024_S128x128_0_384, unturn (rowsB (gradQ (grid0.coords t) (K10 m c t) (K11 m c t) (V10 m c t) (V11 m c t) (Q1 m c t) (Y1 m c t) (ls4 m c t) (ls6 m c t) (ls5 m c t) (ls7 m c t))) (lc m c t) (lu m c t) (ld m c t)⟩,
  ⟨Rect.unit ![0, 256] ![128, 128] inb_S128x1024_S128x128_0_256, unturn (rowsA (gradQ (grid0.coords t) (K10 m c t) (K11 m c t) (V10 m c t) (V11 m c t) (Q1 m c t) (Y1 m c t) (ls4 m c t) (ls6 m c t) (ls5 m c t) (ls7 m c t))) (lc m c t) (lu m c t) (ld m c t)⟩,
  ⟨Rect.unit ![0, 128] ![128, 128] inb_S128x1024_S128x128_0_128, unturn (rowsB (gradQ (grid0.coords t) (K00 m c t) (K01 m c t) (V00 m c t) (V01 m c t) (Q0 m c t) (Y0 m c t) (ls0 m c t) (ls2 m c t) (ls1 m c t) (ls3 m c t))) (lc m c t) (lu m c t) (ld m c t)⟩,
  ⟨Rect.unit ![0, 0] ![128, 128] inb_S128x1024_S128x128_0_0, unturn (rowsA (gradQ (grid0.coords t) (K00 m c t) (K01 m c t) (V00 m c t) (V01 m c t) (Q0 m c t) (Y0 m c t) (ls0 m c t) (ls2 m c t) (ls1 m c t) (ls3 m c t))) (lc m c t) (lu m c t) (ld m c t)⟩]
/-- Heads 0 and 1 of the keys' gradient. -/
abbrev pairK0 : FVec Ideal S256x128 .f32 := both (ownE (onto (halfD (grid0.coords t) (K00 m c t) (V00 m c t) (Q0 m c t) (Y0 m c t) (ls0 m c t) (ls2 m c t)) (Q0 m c t)) (onto (halfD (grid0.coords t) (K01 m c t) (V01 m c t) (Q0 m c t) (Y0 m c t) (ls1 m c t) (ls3 m c t)) (Q0 m c t))) (ownO (onto (halfD (grid0.coords t) (K10 m c t) (V10 m c t) (Q1 m c t) (Y1 m c t) (ls4 m c t) (ls6 m c t)) (Q1 m c t)) (onto (halfD (grid0.coords t) (K11 m c t) (V11 m c t) (Q1 m c t) (Y1 m c t) (ls5 m c t) (ls7 m c t)) (Q1 m c t)))
/-- Heads 2 and 3 of the keys' gradient. -/
abbrev pairK1 : FVec Ideal S256x128 .f32 := both (ownE (onto (halfD (grid0.coords t) (K20 m c t) (V20 m c t) (Q2 m c t) (Y2 m c t) (ls8 m c t) (ls10 m c t)) (Q2 m c t)) (onto (halfD (grid0.coords t) (K21 m c t) (V21 m c t) (Q2 m c t) (Y2 m c t) (ls9 m c t) (ls11 m c t)) (Q2 m c t))) (ownO (onto (halfD (grid0.coords t) (K30 m c t) (V30 m c t) (Q3 m c t) (Y3 m c t) (ls12 m c t) (ls14 m c t)) (Q3 m c t)) (onto (halfD (grid0.coords t) (K31 m c t) (V31 m c t) (Q3 m c t) (Y3 m c t) (ls13 m c t) (ls15 m c t)) (Q3 m c t)))
def tilesKA : List (View.Piece (Elt Ideal) S128x256 .f32) := [
  ⟨Rect.unit ![0, 128] ![128, 128] inb_S128x256_S128x128_0_128, rowsA (pairK1 m c t)⟩,
  ⟨Rect.unit ![0, 0] ![128, 128] inb_S128x256_S128x128_0_0, rowsA (pairK0 m c t)⟩]
def tilesKB : List (View.Piece (Elt Ideal) S128x256 .f32) := [
  ⟨Rect.unit ![0, 128] ![128, 128] inb_S128x256_S128x128_0_128, rowsB (pairK1 m c t)⟩,
  ⟨Rect.unit ![0, 0] ![128, 128] inb_S128x256_S128x128_0_0, rowsB (pairK0 m c t)⟩]
/-- Heads 0 and 1 of the values' gradient. -/
abbrev pairV0 : FVec Ideal S256x128 .f32 := both (ownE (onto (halfP (grid0.coords t) (K00 m c t) (Q0 m c t) (ls0 m c t) (ls2 m c t)) (Y0 m c t)) (onto (halfP (grid0.coords t) (K01 m c t) (Q0 m c t) (ls1 m c t) (ls3 m c t)) (Y0 m c t))) (ownO (onto (halfP (grid0.coords t) (K10 m c t) (Q1 m c t) (ls4 m c t) (ls6 m c t)) (Y1 m c t)) (onto (halfP (grid0.coords t) (K11 m c t) (Q1 m c t) (ls5 m c t) (ls7 m c t)) (Y1 m c t)))
/-- Heads 2 and 3 of the values' gradient. -/
abbrev pairV1 : FVec Ideal S256x128 .f32 := both (ownE (onto (halfP (grid0.coords t) (K20 m c t) (Q2 m c t) (ls8 m c t) (ls10 m c t)) (Y2 m c t)) (onto (halfP (grid0.coords t) (K21 m c t) (Q2 m c t) (ls9 m c t) (ls11 m c t)) (Y2 m c t))) (ownO (onto (halfP (grid0.coords t) (K30 m c t) (Q3 m c t) (ls12 m c t) (ls14 m c t)) (Y3 m c t)) (onto (halfP (grid0.coords t) (K31 m c t) (Q3 m c t) (ls13 m c t) (ls15 m c t)) (Y3 m c t)))
def tilesVA : List (View.Piece (Elt Ideal) S128x256 .f32) := [
  ⟨Rect.unit ![0, 128] ![128, 128] inb_S128x256_S128x128_0_128, rowsA (pairV1 m c t)⟩,
  ⟨Rect.unit ![0, 0] ![128, 128] inb_S128x256_S128x128_0_0, rowsA (pairV0 m c t)⟩]
def tilesVB : List (View.Piece (Elt Ideal) S128x256 .f32) := [
  ⟨Rect.unit ![0, 128] ![128, 128] inb_S128x256_S128x128_0_128, rowsB (pairV1 m c t)⟩,
  ⟨Rect.unit ![0, 0] ![128, 128] inb_S128x256_S128x128_0_0, rowsB (pairV0 m c t)⟩]

/-- Where a tile's entry lies in the block. -/
theorem emb_tile {C : Nat} (o : Nat) (inb : ∀ a, ![0, o] a + ![128, 128] a ≤ (⟨2, ![128, C]⟩ : Shape).size a) (r l : Fin 128) (h : o + l.val < C) :
    (Rect.unit (s := ⟨2, ![128, C]⟩) ![0, o] ![128, 128] inb).emb (ix2 r l) = ix2 r ⟨o + l.val, h⟩ := by
  funext a
  apply Fin.ext
  match a with
  | ⟨0, _⟩ => show 0 + 1 * r.val = r.val; omega
  | ⟨1, _⟩ => show o + 1 * l.val = o + l.val; omega
theorem mem_tile {C : Nat} (o : Nat) (inb : ∀ a, ![0, o] a + ![128, 128] a ≤ (⟨2, ![128, C]⟩ : Shape).size a) (r : Fin 128) (l : Fin C)
    (h : o ≤ l.val) (h' : l.val < o + 128) : (ix2 r l : (⟨2, ![128, C]⟩ : Shape).Idx) ∈ (Rect.unit (s := ⟨2, ![128, C]⟩) ![0, o] ![128, 128] inb).set := by
  rw [Rect.mem_set_unit]
  intro a
  match a with
  | ⟨0, _⟩ => exact ⟨Nat.zero_le _, by show r.val < 0 + 128; omega⟩
  | ⟨1, _⟩ => exact ⟨h, h'⟩

theorem tilesQ_apply (r : Fin 128) (l : Fin 1024) :
    View.canon (tilesQ m c t) (ix2 r l) = rQ m c (row (bn t) r) l := by
  refine View.canon_apply_of_pieces (Val := Elt Ideal) (e := .bf16) (fun i : S128x1024.Idx => rQ m c (row (bn t) (i 0)) (i 1)) (tilesQ m c t) ?_ (ix2 r l) ?_
  · intro p hp x
    unfold tilesQ at hp
    simp only [List.mem_cons, List.not_mem_nil, or_false] at hp
    obtain rfl | rfl | rfl | rfl | rfl | rfl | rfl | rfl := hp
    · obtain ⟨r, l, rfl⟩ : ∃ r l : Fin 128, x = ix2 r l := ⟨x 0, x 1, eq_ix2 x⟩
      refine (tileQ m c t (head3 m c t) 1 _ (fun r l => (rowsB_apply _ r l).trans (congrArg (fun k => (gradQ (grid0.coords t) (K30 m c t) (K31 m c t) (V30 m c t) (V31 m c t) (Q3 m c t) (Y3 m c t) (ls12 m c t) (ls14 m c t) (ls13 m c t) (ls15 m c t)) (ix2 k l)) (Fin.ext (by show 128 + r.val = 1 * 128 + r.val; omega)))) r l).trans ?_
      dsimp only
      rw [emb_tile 896 _ r l (by omega)]
      exact congrArg (rQ m c _) (Fin.ext (by show 3 * 256 + 1 * 128 + l.val = 896 + l.val; omega))
    · obtain ⟨r, l, rfl⟩ : ∃ r l : Fin 128, x = ix2 r l := ⟨x 0, x 1, eq_ix2 x⟩
      refine (tileQ m c t (head3 m c t) 0 _ (fun r l => (rowsA_apply _ r l).trans (congrArg (fun k => (gradQ (grid0.coords t) (K30 m c t) (K31 m c t) (V30 m c t) (V31 m c t) (Q3 m c t) (Y3 m c t) (ls12 m c t) (ls14 m c t) (ls13 m c t) (ls15 m c t)) (ix2 k l)) (Fin.ext (by show r.val = 0 * 128 + r.val; omega)))) r l).trans ?_
      dsimp only
      rw [emb_tile 768 _ r l (by omega)]
      exact congrArg (rQ m c _) (Fin.ext (by show 3 * 256 + 0 * 128 + l.val = 768 + l.val; omega))
    · obtain ⟨r, l, rfl⟩ : ∃ r l : Fin 128, x = ix2 r l := ⟨x 0, x 1, eq_ix2 x⟩
      refine (tileQ m c t (head2 m c t) 1 _ (fun r l => (rowsB_apply _ r l).trans (congrArg (fun k => (gradQ (grid0.coords t) (K20 m c t) (K21 m c t) (V20 m c t) (V21 m c t) (Q2 m c t) (Y2 m c t) (ls8 m c t) (ls10 m c t) (ls9 m c t) (ls11 m c t)) (ix2 k l)) (Fin.ext (by show 128 + r.val = 1 * 128 + r.val; omega)))) r l).trans ?_
      dsimp only
      rw [emb_tile 640 _ r l (by omega)]
      exact congrArg (rQ m c _) (Fin.ext (by show 2 * 256 + 1 * 128 + l.val = 640 + l.val; omega))
    · obtain ⟨r, l, rfl⟩ : ∃ r l : Fin 128, x = ix2 r l := ⟨x 0, x 1, eq_ix2 x⟩
      refine (tileQ m c t (head2 m c t) 0 _ (fun r l => (rowsA_apply _ r l).trans (congrArg (fun k => (gradQ (grid0.coords t) (K20 m c t) (K21 m c t) (V20 m c t) (V21 m c t) (Q2 m c t) (Y2 m c t) (ls8 m c t) (ls10 m c t) (ls9 m c t) (ls11 m c t)) (ix2 k l)) (Fin.ext (by show r.val = 0 * 128 + r.val; omega)))) r l).trans ?_
      dsimp only
      rw [emb_tile 512 _ r l (by omega)]
      exact congrArg (rQ m c _) (Fin.ext (by show 2 * 256 + 0 * 128 + l.val = 512 + l.val; omega))
    · obtain ⟨r, l, rfl⟩ : ∃ r l : Fin 128, x = ix2 r l := ⟨x 0, x 1, eq_ix2 x⟩
      refine (tileQ m c t (head1 m c t) 1 _ (fun r l => (rowsB_apply _ r l).trans (congrArg (fun k => (gradQ (grid0.coords t) (K10 m c t) (K11 m c t) (V10 m c t) (V11 m c t) (Q1 m c t) (Y1 m c t) (ls4 m c t) (ls6 m c t) (ls5 m c t) (ls7 m c t)) (ix2 k l)) (Fin.ext (by show 128 + r.val = 1 * 128 + r.val; omega)))) r l).trans ?_
      dsimp only
      rw [emb_tile 384 _ r l (by omega)]
      exact congrArg (rQ m c _) (Fin.ext (by show 1 * 256 + 1 * 128 + l.val = 384 + l.val; omega))
    · obtain ⟨r, l, rfl⟩ : ∃ r l : Fin 128, x = ix2 r l := ⟨x 0, x 1, eq_ix2 x⟩
      refine (tileQ m c t (head1 m c t) 0 _ (fun r l => (rowsA_apply _ r l).trans (congrArg (fun k => (gradQ (grid0.coords t) (K10 m c t) (K11 m c t) (V10 m c t) (V11 m c t) (Q1 m c t) (Y1 m c t) (ls4 m c t) (ls6 m c t) (ls5 m c t) (ls7 m c t)) (ix2 k l)) (Fin.ext (by show r.val = 0 * 128 + r.val; omega)))) r l).trans ?_
      dsimp only
      rw [emb_tile 256 _ r l (by omega)]
      exact congrArg (rQ m c _) (Fin.ext (by show 1 * 256 + 0 * 128 + l.val = 256 + l.val; omega))
    · obtain ⟨r, l, rfl⟩ : ∃ r l : Fin 128, x = ix2 r l := ⟨x 0, x 1, eq_ix2 x⟩
      refine (tileQ m c t (head0 m c t) 1 _ (fun r l => (rowsB_apply _ r l).trans (congrArg (fun k => (gradQ (grid0.coords t) (K00 m c t) (K01 m c t) (V00 m c t) (V01 m c t) (Q0 m c t) (Y0 m c t) (ls0 m c t) (ls2 m c t) (ls1 m c t) (ls3 m c t)) (ix2 k l)) (Fin.ext (by show 128 + r.val = 1 * 128 + r.val; omega)))) r l).trans ?_
      dsimp only
      rw [emb_tile 128 _ r l (by omega)]
      exact congrArg (rQ m c _) (Fin.ext (by show 0 * 256 + 1 * 128 + l.val = 128 + l.val; omega))
    · obtain ⟨r, l, rfl⟩ : ∃ r l : Fin 128, x = ix2 r l := ⟨x 0, x 1, eq_ix2 x⟩
      refine (tileQ m c t (head0 m c t) 0 _ (fun r l => (rowsA_apply _ r l).trans (congrArg (fun k => (gradQ (grid0.coords t) (K00 m c t) (K01 m c t) (V00 m c t) (V01 m c t) (Q0 m c t) (Y0 m c t) (ls0 m c t) (ls2 m c t) (ls1 m c t) (ls3 m c t)) (ix2 k l)) (Fin.ext (by show r.val = 0 * 128 + r.val; omega)))) r l).trans ?_
      dsimp only
      rw [emb_tile 0 _ r l (by omega)]
      exact congrArg (rQ m c _) (Fin.ext (by show 0 * 256 + 0 * 128 + l.val = 0 + l.val; omega))
  · unfold tilesQ
    have hl : (896 ≤ l.val ∧ l.val < 896 + 128) ∨ (768 ≤ l.val ∧ l.val < 768 + 128) ∨ (640 ≤ l.val ∧ l.val < 640 + 128) ∨ (512 ≤ l.val ∧ l.val < 512 + 128) ∨ (384 ≤ l.val ∧ l.val < 384 + 128) ∨ (256 ≤ l.val ∧ l.val < 256 + 128) ∨ (128 ≤ l.val ∧ l.val < 128 + 128) ∨ (0 ≤ l.val ∧ l.val < 0 + 128) := by omega
    rcases hl with ⟨h, h2⟩ | ⟨h, h2⟩ | ⟨h, h2⟩ | ⟨h, h2⟩ | ⟨h, h2⟩ | ⟨h, h2⟩ | ⟨h, h2⟩ | ⟨h, h2⟩
    · exact ⟨_, List.Mem.head _, mem_tile 896 inb_S128x1024_S128x128_0_896 r l h h2⟩
    · exact ⟨_, List.Mem.tail _ (List.Mem.head _), mem_tile 768 inb_S128x1024_S128x128_0_768 r l h h2⟩
    · exact ⟨_, List.Mem.tail _ (List.Mem.tail _ (List.Mem.head _)), mem_tile 640 inb_S128x1024_S128x128_0_640 r l h h2⟩
    · exact ⟨_, List.Mem.tail _ (List.Mem.tail _ (List.Mem.tail _ (List.Mem.head _))), mem_tile 512 inb_S128x1024_S128x128_0_512 r l h h2⟩
    · exact ⟨_, List.Mem.tail _ (List.Mem.tail _ (List.Mem.tail _ (List.Mem.tail _ (List.Mem.head _)))), mem_tile 384 inb_S128x1024_S128x128_0_384 r l h h2⟩
    · exact ⟨_, List.Mem.tail _ (List.Mem.tail _ (List.Mem.tail _ (List.Mem.tail _ (List.Mem.tail _ (List.Mem.head _))))), mem_tile 256 inb_S128x1024_S128x128_0_256 r l h h2⟩
    · exact ⟨_, List.Mem.tail _ (List.Mem.tail _ (List.Mem.tail _ (List.Mem.tail _ (List.Mem.tail _ (List.Mem.tail _ (List.Mem.head _)))))), mem_tile 128 inb_S128x1024_S128x128_0_128 r l h h2⟩
    · exact ⟨_, List.Mem.tail _ (List.Mem.tail _ (List.Mem.tail _ (List.Mem.tail _ (List.Mem.tail _ (List.Mem.tail _ (List.Mem.tail _ (List.Mem.head _))))))), mem_tile 0 inb_S128x1024_S128x128_0_0 r l h h2⟩

theorem tilesKA_apply (r : Fin 128) (l : Fin 256) :
    View.canon (tilesKA m c t) (ix2 r l) = rK m c (bn t) ⟨r.val, by omega⟩ l := by
  refine View.canon_apply_of_pieces (Val := Elt Ideal) (e := .f32) (fun i : S128x256.Idx => rK m c (bn t) ⟨(i 0).val, by have h : (i 0).val < 128 := (i 0).isLt; omega⟩ (i 1)) (tilesKA m c t) ?_ (ix2 r l) ?_
  · intro p hp x
    unfold tilesKA at hp
    simp only [List.mem_cons, List.not_mem_nil, or_false] at hp
    obtain rfl | rfl := hp
    · obtain ⟨r, l, rfl⟩ : ∃ r l : Fin 128, x = ix2 r l := ⟨x 0, x 1, eq_ix2 x⟩
      refine ((rowsA_apply _ r l).trans (tileK m c t (head2 m c t) (head3 m c t) rfl ⟨r.val, by omega⟩ l ⟨128 + l.val, by omega⟩ (by show 128 + l.val = 2 * 64 + l.val; omega))).trans ?_
      dsimp only
      rw [emb_tile 128 _ r l (by omega)]
      rfl
    · obtain ⟨r, l, rfl⟩ : ∃ r l : Fin 128, x = ix2 r l := ⟨x 0, x 1, eq_ix2 x⟩
      refine ((rowsA_apply _ r l).trans (tileK m c t (head0 m c t) (head1 m c t) rfl ⟨r.val, by omega⟩ l ⟨0 + l.val, by omega⟩ (by show 0 + l.val = 0 * 64 + l.val; omega))).trans ?_
      dsimp only
      rw [emb_tile 0 _ r l (by omega)]
      rfl
  · unfold tilesKA
    by_cases h : 128 ≤ l.val
    · exact ⟨_, List.Mem.head _, mem_tile 128 inb_S128x256_S128x128_0_128 r l h (by omega)⟩
    · exact ⟨_, List.Mem.tail _ (List.Mem.head _), mem_tile 0 inb_S128x256_S128x128_0_0 r l (by omega) (by omega)⟩

theorem tilesKB_apply (r : Fin 128) (l : Fin 256) :
    View.canon (tilesKB m c t) (ix2 r l) = rK m c (bn t) ⟨128 + r.val, by omega⟩ l := by
  refine View.canon_apply_of_pieces (Val := Elt Ideal) (e := .f32) (fun i : S128x256.Idx => rK m c (bn t) ⟨128 + (i 0).val, by have h : (i 0).val < 128 := (i 0).isLt; omega⟩ (i 1)) (tilesKB m c t) ?_ (ix2 r l) ?_
  · intro p hp x
    unfold tilesKB at hp
    simp only [List.mem_cons, List.not_mem_nil, or_false] at hp
    obtain rfl | rfl := hp
    · obtain ⟨r, l, rfl⟩ : ∃ r l : Fin 128, x = ix2 r l := ⟨x 0, x 1, eq_ix2 x⟩
      refine ((rowsB_apply _ r l).trans (tileK m c t (head2 m c t) (head3 m c t) rfl ⟨128 + r.val, by omega⟩ l ⟨128 + l.val, by omega⟩ (by show 128 + l.val = 2 * 64 + l.val; omega))).trans ?_
      dsimp only
      rw [emb_tile 128 _ r l (by omega)]
      rfl
    · obtain ⟨r, l, rfl⟩ : ∃ r l : Fin 128, x = ix2 r l := ⟨x 0, x 1, eq_ix2 x⟩
      refine ((rowsB_apply _ r l).trans (tileK m c t (head0 m c t) (head1 m c t) rfl ⟨128 + r.val, by omega⟩ l ⟨0 + l.val, by omega⟩ (by show 0 + l.val = 0 * 64 + l.val; omega))).trans ?_
      dsimp only
      rw [emb_tile 0 _ r l (by omega)]
      rfl
  · unfold tilesKB
    by_cases h : 128 ≤ l.val
    · exact ⟨_, List.Mem.head _, mem_tile 128 inb_S128x256_S128x128_0_128 r l h (by omega)⟩
    · exact ⟨_, List.Mem.tail _ (List.Mem.head _), mem_tile 0 inb_S128x256_S128x128_0_0 r l (by omega) (by omega)⟩

theorem tilesVA_apply (r : Fin 128) (l : Fin 256) :
    View.canon (tilesVA m c t) (ix2 r l) = rV m c (bn t) ⟨r.val, by omega⟩ l := by
  refine View.canon_apply_of_pieces (Val := Elt Ideal) (e := .f32) (fun i : S128x256.Idx => rV m c (bn t) ⟨(i 0).val, by have h : (i 0).val < 128 := (i 0).isLt; omega⟩ (i 1)) (tilesVA m c t) ?_ (ix2 r l) ?_
  · intro p hp x
    unfold tilesVA at hp
    simp only [List.mem_cons, List.not_mem_nil, or_false] at hp
    obtain rfl | rfl := hp
    · obtain ⟨r, l, rfl⟩ : ∃ r l : Fin 128, x = ix2 r l := ⟨x 0, x 1, eq_ix2 x⟩
      refine ((rowsA_apply _ r l).trans (tileV m c t (head2 m c t) (head3 m c t) rfl ⟨r.val, by omega⟩ l ⟨128 + l.val, by omega⟩ (by show 128 + l.val = 2 * 64 + l.val; omega))).trans ?_
      dsimp only
      rw [emb_tile 128 _ r l (by omega)]
      rfl
    · obtain ⟨r, l, rfl⟩ : ∃ r l : Fin 128, x = ix2 r l := ⟨x 0, x 1, eq_ix2 x⟩
      refine ((rowsA_apply _ r l).trans (tileV m c t (head0 m c t) (head1 m c t) rfl ⟨r.val, by omega⟩ l ⟨0 + l.val, by omega⟩ (by show 0 + l.val = 0 * 64 + l.val; omega))).trans ?_
      dsimp only
      rw [emb_tile 0 _ r l (by omega)]
      rfl
  · unfold tilesVA
    by_cases h : 128 ≤ l.val
    · exact ⟨_, List.Mem.head _, mem_tile 128 inb_S128x256_S128x128_0_128 r l h (by omega)⟩
    · exact ⟨_, List.Mem.tail _ (List.Mem.head _), mem_tile 0 inb_S128x256_S128x128_0_0 r l (by omega) (by omega)⟩

theorem tilesVB_apply (r : Fin 128) (l : Fin 256) :
    View.canon (tilesVB m c t) (ix2 r l) = rV m c (bn t) ⟨128 + r.val, by omega⟩ l := by
  refine View.canon_apply_of_pieces (Val := Elt Ideal) (e := .f32) (fun i : S128x256.Idx => rV m c (bn t) ⟨128 + (i 0).val, by have h : (i 0).val < 128 := (i 0).isLt; omega⟩ (i 1)) (tilesVB m c t) ?_ (ix2 r l) ?_
  · intro p hp x
    unfold tilesVB at hp
    simp only [List.mem_cons, List.not_mem_nil, or_false] at hp
    obtain rfl | rfl := hp
    · obtain ⟨r, l, rfl⟩ : ∃ r l : Fin 128, x = ix2 r l := ⟨x 0, x 1, eq_ix2 x⟩
      refine ((rowsB_apply _ r l).trans (tileV m c t (head2 m c t) (head3 m c t) rfl ⟨128 + r.val, by omega⟩ l ⟨128 + l.val, by omega⟩ (by show 128 + l.val = 2 * 64 + l.val; omega))).trans ?_
      dsimp only
      rw [emb_tile 128 _ r l (by omega)]
      rfl
    · obtain ⟨r, l, rfl⟩ : ∃ r l : Fin 128, x = ix2 r l := ⟨x 0, x 1, eq_ix2 x⟩
      refine ((rowsB_apply _ r l).trans (tileV m c t (head0 m c t) (head1 m c t) rfl ⟨128 + r.val, by omega⟩ l ⟨0 + l.val, by omega⟩ (by show 0 + l.val = 0 * 64 + l.val; omega))).trans ?_
      dsimp only
      rw [emb_tile 0 _ r l (by omega)]
      rfl
  · unfold tilesVB
    by_cases h : 128 ≤ l.val
    · exact ⟨_, List.Mem.head _, mem_tile 128 inb_S128x256_S128x128_0_128 r l h (by omega)⟩
    · exact ⟨_, List.Mem.tail _ (List.Mem.head _), mem_tile 0 inb_S128x256_S128x128_0_0 r l (by omega) (by omega)⟩

/-- A load of a whole block reads the block. -/
theorem whole2 : View.ld (iblk m c 2 t) (Rect.unit ![0, 0] ![128, 256] inb_S128x256_S128x256_0_0) = iblk m c 2 t := View.ld_unit_zero hz _ _
theorem whole3 : View.ld (iblk m c 3 t) (Rect.unit ![0, 0] ![128, 256] inb_S128x256_S128x256_0_0) = iblk m c 3 t := View.ld_unit_zero hz _ _
theorem whole4 : View.ld (iblk m c 4 t) (Rect.unit ![0, 0] ![128, 256] inb_S128x256_S128x256_0_0) = iblk m c 4 t := View.ld_unit_zero hz _ _
theorem whole5 : View.ld (iblk m c 5 t) (Rect.unit ![0, 0] ![128, 256] inb_S128x256_S128x256_0_0) = iblk m c 5 t := View.ld_unit_zero hz _ _
theorem whole6 : View.ld (iblk m c 6 t) (Rect.unit ![0, 0] ![128, 256] inb_S128x256_S128x256_0_0) = iblk m c 6 t := View.ld_unit_zero hz _ _
theorem whole7 : View.ld (iblk m c 7 t) (Rect.unit ![0, 0] ![128, 256] inb_S128x256_S128x256_0_0) = iblk m c 7 t := View.ld_unit_zero hz _ _
theorem whole8 : View.ld (iblk m c 8 t) (Rect.unit ![0, 0] ![128, 256] inb_S128x256_S128x256_0_0) = iblk m c 8 t := View.ld_unit_zero hz _ _
theorem whole9 : View.ld (iblk m c 9 t) (Rect.unit ![0, 0] ![128, 256] inb_S128x256_S128x256_0_0) = iblk m c 9 t := View.ld_unit_zero hz _ _
theorem whole10 : View.ld (iblk m c 10 t) (Rect.unit ![0, 0] ![128, 256] inb_S128x256_S128x256_0_0) = iblk m c 10 t := View.ld_unit_zero hz _ _
theorem whole11 : View.ld (iblk m c 11 t) (Rect.unit ![0, 0] ![128, 256] inb_S128x256_S128x256_0_0) = iblk m c 11 t := View.ld_unit_zero hz _ _
theorem whole12 : View.ld (iblk m c 12 t) (Rect.unit ![0, 0] ![128, 1024] inb_S128x1024_S128x1024_0_0) = iblk m c 12 t := View.ld_unit_zero hz _ _
theorem whole13 : View.ld (iblk m c 13 t) (Rect.unit ![0, 0] ![1024, 1024] inb_S1024x1024_S1024x1024_0_0) = iblk m c 13 t := View.ld_unit_zero hz _ _

end Cert.AttnBwdIdeal.Hand

end
-- ==== Proof.AttnBwdPiecesQ.lean ====
/- The pieces that one block of the backward attention stores, written with the vectors of a group of heads. -/
module

public import proofs.«01_k».proof.Proof.AttnBwdBlock

@[expose] public section

set_option maxRecDepth 16384

noncomputable section

namespace Cert.AttnBwdIdeal.Hand

open Cert.AttnBwdIdeal Cert.AttnBwdIdeal.Gen Idealize.ShloMosaic Idealize.ShloMosaic.TcCoe Cert.AttnLaw

variable (t : Fin cfg0.N)
  (y_kp y_kc y_vp y_vc y_c y_su y_sd y_cp y_sup y_sdp : Vec Ideal S128x256 .f32)
  (z_c z_su z_sd q_6 q_7 q_4 q_5 q_2 q_3 q_0 q_1 : Vec Ideal S128x128 .f32)
  (s_12 s_13 s_14 s_15 s_8 s_9 s_10 s_11 s_4 s_5 s_6 s_7 s_0 s_1 s_2 s_3 : Ideal .f32)
  (y_dao : Vec Ideal S128x1024 .bf16)
  (y_wao : Vec Ideal S1024x1024 .bf16)

theorem piece_q7 :
    k0_pay211 (k0_pay10 z_c) (k0_pay11 z_su) (k0_pay12 z_sd) (k0_pay203 (k0_pay165 (k0_pay6 (k0_pay3 y_kp y_cp y_sup y_sdp) y_kc (k0_pay4 y_c) (k0_pay5 y_su) y_sd)) (k0_pay168 (k0_pay7 y_vp y_vc)) (k0_pay175 (k0_pay8 y_dao y_wao)) (k0_pay188 (k0_pay164 (k0_pay6 (k0_pay3 y_kp y_cp y_sup y_sdp) y_kc (k0_pay4 y_c) (k0_pay5 y_su) y_sd)) (k0_pay186 (k0_pay2 (grid0.coords t)) (k0_pay8 y_dao y_wao) (k0_pay164 (k0_pay6 (k0_pay3 y_kp y_cp y_sup y_sdp) y_kc (k0_pay4 y_c) (k0_pay5 y_su) y_sd)) (k0_pay167 (k0_pay7 y_vp y_vc)) (k0_pay170 z_su) (k0_pay171 z_sd) (k0_pay172 z_c z_su z_sd q_6) q_7 (k0_pay173 z_c q_7) (120#32) s_12 s_14)) (k0_pay192 s_13 s_15) (k0_pay193 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32)) (k0_pay194 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32))) =
      unturn (rowsB (gradQ (grid0.coords t) (moved (oddB (keys y_kp y_kc y_c y_su y_sd y_cp y_sup y_sdp))) (kept (oddB (keys y_kp y_kc y_c y_su y_sd y_cp y_sup y_sdp))) (moved (oddB (band y_vp y_vc))) (kept (oddB (band y_vp y_vc))) (queries q_6 q_7 z_c z_su z_sd) (outs3 (outGrad y_dao y_wao)) s_12 s_14 s_13 s_15)) z_c z_su z_sd := by
  rfl

theorem piece_q6 :
    k0_pay210 (k0_pay10 z_c) (k0_pay11 z_su) (k0_pay12 z_sd) (k0_pay203 (k0_pay165 (k0_pay6 (k0_pay3 y_kp y_cp y_sup y_sdp) y_kc (k0_pay4 y_c) (k0_pay5 y_su) y_sd)) (k0_pay168 (k0_pay7 y_vp y_vc)) (k0_pay175 (k0_pay8 y_dao y_wao)) (k0_pay188 (k0_pay164 (k0_pay6 (k0_pay3 y_kp y_cp y_sup y_sdp) y_kc (k0_pay4 y_c) (k0_pay5 y_su) y_sd)) (k0_pay186 (k0_pay2 (grid0.coords t)) (k0_pay8 y_dao y_wao) (k0_pay164 (k0_pay6 (k0_pay3 y_kp y_cp y_sup y_sdp) y_kc (k0_pay4 y_c) (k0_pay5 y_su) y_sd)) (k0_pay167 (k0_pay7 y_vp y_vc)) (k0_pay170 z_su) (k0_pay171 z_sd) (k0_pay172 z_c z_su z_sd q_6) q_7 (k0_pay173 z_c q_7) (120#32) s_12 s_14)) (k0_pay192 s_13 s_15) (k0_pay193 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32)) (k0_pay194 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32))) =
      unturn (rowsA (gradQ (grid0.coords t) (moved (oddB (keys y_kp y_kc y_c y_su y_sd y_cp y_sup y_sdp))) (kept (oddB (keys y_kp y_kc y_c y_su y_sd y_cp y_sup y_sdp))) (moved (oddB (band y_vp y_vc))) (kept (oddB (band y_vp y_vc))) (queries q_6 q_7 z_c z_su z_sd) (outs3 (outGrad y_dao y_wao)) s_12 s_14 s_13 s_15)) z_c z_su z_sd := by
  rfl

theorem piece_q5 :
    k0_pay159 (k0_pay10 z_c) (k0_pay11 z_su) (k0_pay12 z_sd) (k0_pay150 (k0_pay113 (k0_pay110 (k0_pay6 (k0_pay3 y_kp y_cp y_sup y_sdp) y_kc (k0_pay4 y_c) (k0_pay5 y_su) y_sd))) (k0_pay116 (k0_pay7 y_vp y_vc)) (k0_pay123 (k0_pay8 y_dao y_wao)) (k0_pay135 (k0_pay2 (grid0.coords t)) (k0_pay8 y_dao y_wao) (k0_pay112 (k0_pay110 (k0_pay6 (k0_pay3 y_kp y_cp y_sup y_sdp) y_kc (k0_pay4 y_c) (k0_pay5 y_su) y_sd))) (k0_pay115 (k0_pay7 y_vp y_vc)) (k0_pay120 z_c z_su z_sd q_4) (k0_pay121 z_c z_su z_sd q_5) s_8 s_10) (k0_pay143 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11) (k0_pay144 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11)) =
      unturn (rowsB (gradQ (grid0.coords t) (kept (evenB (keys y_kp y_kc y_c y_su y_sd y_cp y_sup y_sdp))) (moved (evenB (keys y_kp y_kc y_c y_su y_sd y_cp y_sup y_sdp))) (kept (evenB (band y_vp y_vc))) (moved (evenB (band y_vp y_vc))) (queries q_4 q_5 z_c z_su z_sd) (outs2 (outGrad y_dao y_wao)) s_8 s_10 s_9 s_11)) z_c z_su z_sd := by
  rfl

theorem piece_q4 :
    k0_pay158 (k0_pay10 z_c) (k0_pay11 z_su) (k0_pay12 z_sd) (k0_pay150 (k0_pay113 (k0_pay110 (k0_pay6 (k0_pay3 y_kp y_cp y_sup y_sdp) y_kc (k0_pay4 y_c) (k0_pay5 y_su) y_sd))) (k0_pay116 (k0_pay7 y_vp y_vc)) (k0_pay123 (k0_pay8 y_dao y_wao)) (k0_pay135 (k0_pay2 (grid0.coords t)) (k0_pay8 y_dao y_wao) (k0_pay112 (k0_pay110 (k0_pay6 (k0_pay3 y_kp y_cp y_sup y_sdp) y_kc (k0_pay4 y_c) (k0_pay5 y_su) y_sd))) (k0_pay115 (k0_pay7 y_vp y_vc)) (k0_pay120 z_c z_su z_sd q_4) (k0_pay121 z_c z_su z_sd q_5) s_8 s_10) (k0_pay143 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11) (k0_pay144 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11)) =
      unturn (rowsA (gradQ (grid0.coords t) (kept (evenB (keys y_kp y_kc y_c y_su y_sd y_cp y_sup y_sdp))) (moved (evenB (keys y_kp y_kc y_c y_su y_sd y_cp y_sup y_sdp))) (kept (evenB (band y_vp y_vc))) (moved (evenB (band y_vp y_vc))) (queries q_4 q_5 z_c z_su z_sd) (outs2 (outGrad y_dao y_wao)) s_8 s_10 s_9 s_11)) z_c z_su z_sd := by
  rfl

theorem piece_q3 :
    k0_pay107 (k0_pay10 z_c) (k0_pay11 z_su) (k0_pay12 z_sd) (k0_pay100 (k0_pay67 (k0_pay64 (k0_pay6 (k0_pay3 y_kp y_cp y_sup y_sdp) y_kc (k0_pay4 y_c) (k0_pay5 y_su) y_sd))) (k0_pay70 (k0_pay7 y_vp y_vc)) (k0_pay72 (k0_pay8 y_dao y_wao)) (k0_pay84 (k0_pay2 (grid0.coords t)) (k0_pay66 (k0_pay65 (k0_pay6 (k0_pay3 y_kp y_cp y_sup y_sdp) y_kc (k0_pay4 y_c) (k0_pay5 y_su) y_sd))) (k0_pay69 (k0_pay7 y_vp y_vc)) (k0_pay71 z_c z_su z_sd q_2 q_3) (k0_pay72 (k0_pay8 y_dao y_wao)) (k0_pay73 s_4) s_6) (k0_pay96 (k0_pay2 (grid0.coords t)) (k0_pay67 (k0_pay64 (k0_pay6 (k0_pay3 y_kp y_cp y_sup y_sdp) y_kc (k0_pay4 y_c) (k0_pay5 y_su) y_sd))) (k0_pay71 z_c z_su z_sd q_2 q_3) s_5 s_7)) =
      unturn (rowsB (gradQ (grid0.coords t) (moved (oddA (keys y_kp y_kc y_c y_su y_sd y_cp y_sup y_sdp))) (kept (oddA (keys y_kp y_kc y_c y_su y_sd y_cp y_sup y_sdp))) (moved (oddA (band y_vp y_vc))) (kept (oddA (band y_vp y_vc))) (queries q_2 q_3 z_c z_su z_sd) (outs1 (outGrad y_dao y_wao)) s_4 s_6 s_5 s_7)) z_c z_su z_sd := by
  rfl

theorem piece_q2 :
    k0_pay106 (k0_pay10 z_c) (k0_pay12 z_sd) (k0_pay104 (k0_pay67 (k0_pay64 (k0_pay6 (k0_pay3 y_kp y_cp y_sup y_sdp) y_kc (k0_pay4 y_c) (k0_pay5 y_su) y_sd))) (k0_pay70 (k0_pay7 y_vp y_vc)) (k0_pay72 (k0_pay8 y_dao y_wao)) (k0_pay84 (k0_pay2 (grid0.coords t)) (k0_pay66 (k0_pay65 (k0_pay6 (k0_pay3 y_kp y_cp y_sup y_sdp) y_kc (k0_pay4 y_c) (k0_pay5 y_su) y_sd))) (k0_pay69 (k0_pay7 y_vp y_vc)) (k0_pay71 z_c z_su z_sd q_2 q_3) (k0_pay72 (k0_pay8 y_dao y_wao)) (k0_pay73 s_4) s_6) (k0_pay96 (k0_pay2 (grid0.coords t)) (k0_pay67 (k0_pay64 (k0_pay6 (k0_pay3 y_kp y_cp y_sup y_sdp) y_kc (k0_pay4 y_c) (k0_pay5 y_su) y_sd))) (k0_pay71 z_c z_su z_sd q_2 q_3) s_5 s_7)) (k0_pay105 (k0_pay11 z_su)) (FloatOps.ofBits FTy.f32 0#32) =
      unturn (rowsA (gradQ (grid0.coords t) (moved (oddA (keys y_kp y_kc y_c y_su y_sd y_cp y_sup y_sdp))) (kept (oddA (keys y_kp y_kc y_c y_su y_sd y_cp y_sup y_sdp))) (moved (oddA (band y_vp y_vc))) (kept (oddA (band y_vp y_vc))) (queries q_2 q_3 z_c z_su z_sd) (outs1 (outGrad y_dao y_wao)) s_4 s_6 s_5 s_7)) z_c z_su z_sd := by
  rfl

theorem piece_q1 :
    k0_pay61 (k0_pay10 z_c) (k0_pay11 z_su) (k0_pay12 z_sd) (k0_pay53 (k0_pay15 (k0_pay3 y_kp y_cp y_sup y_sdp) y_kc (k0_pay4 y_c) (k0_pay5 y_su) y_sd) (k0_pay34 (k0_pay2 (grid0.coords t)) (k0_pay14 (k0_pay3 y_kp y_cp y_sup y_sdp) y_kc (k0_pay4 y_c) (k0_pay5 y_su) y_sd) (k0_pay19 (k0_pay16 y_vp y_vc) k0_pay17) (k0_pay22 (k0_pay8 y_dao y_wao)) (k0_pay23 s_0 s_2) (k0_pay24 (k0_pay14 (k0_pay3 y_kp y_cp y_sup y_sdp) y_kc (k0_pay4 y_c) (k0_pay5 y_su) y_sd) z_c z_su z_sd q_0 q_1)) (k0_pay48 (k0_pay2 (grid0.coords t)) (k0_pay15 (k0_pay3 y_kp y_cp y_sup y_sdp) y_kc (k0_pay4 y_c) (k0_pay5 y_su) y_sd) (k0_pay21 z_c z_su z_sd q_0 q_1) s_1 s_3) (k0_pay50 (k0_pay20 (k0_pay16 y_vp y_vc) k0_pay17) (k0_pay22 (k0_pay8 y_dao y_wao))) (k0_pay51 (k0_pay2 (grid0.coords t)) (k0_pay15 (k0_pay3 y_kp y_cp y_sup y_sdp) y_kc (k0_pay4 y_c) (k0_pay5 y_su) y_sd) (k0_pay20 (k0_pay16 y_vp y_vc) k0_pay17) (k0_pay21 z_c z_su z_sd q_0 q_1) (k0_pay22 (k0_pay8 y_dao y_wao)) s_1 s_3)) =
      unturn (rowsB (gradQ (grid0.coords t) (kept (evenA (keys y_kp y_kc y_c y_su y_sd y_cp y_sup y_sdp))) (moved (evenA (keys y_kp y_kc y_c y_su y_sd y_cp y_sup y_sdp))) (kept (evenA (band y_vp y_vc))) (moved (evenA (band y_vp y_vc))) (queries q_0 q_1 z_c z_su z_sd) (outs0 (outGrad y_dao y_wao)) s_0 s_2 s_1 s_3)) z_c z_su z_sd := by
  rfl

theorem piece_q0 :
    k0_pay60 (k0_pay57 (k0_pay15 (k0_pay3 y_kp y_cp y_sup y_sdp) y_kc (k0_pay4 y_c) (k0_pay5 y_su) y_sd) (k0_pay34 (k0_pay2 (grid0.coords t)) (k0_pay14 (k0_pay3 y_kp y_cp y_sup y_sdp) y_kc (k0_pay4 y_c) (k0_pay5 y_su) y_sd) (k0_pay19 (k0_pay16 y_vp y_vc) k0_pay17) (k0_pay22 (k0_pay8 y_dao y_wao)) (k0_pay23 s_0 s_2) (k0_pay24 (k0_pay14 (k0_pay3 y_kp y_cp y_sup y_sdp) y_kc (k0_pay4 y_c) (k0_pay5 y_su) y_sd) z_c z_su z_sd q_0 q_1)) (k0_pay48 (k0_pay2 (grid0.coords t)) (k0_pay15 (k0_pay3 y_kp y_cp y_sup y_sdp) y_kc (k0_pay4 y_c) (k0_pay5 y_su) y_sd) (k0_pay21 z_c z_su z_sd q_0 q_1) s_1 s_3) (k0_pay50 (k0_pay20 (k0_pay16 y_vp y_vc) k0_pay17) (k0_pay22 (k0_pay8 y_dao y_wao))) (k0_pay51 (k0_pay2 (grid0.coords t)) (k0_pay15 (k0_pay3 y_kp y_cp y_sup y_sdp) y_kc (k0_pay4 y_c) (k0_pay5 y_su) y_sd) (k0_pay20 (k0_pay16 y_vp y_vc) k0_pay17) (k0_pay21 z_c z_su z_sd q_0 q_1) (k0_pay22 (k0_pay8 y_dao y_wao)) s_1 s_3)) (k0_pay58 (k0_pay12 z_sd)) (k0_pay59 (k0_pay10 z_c) (k0_pay11 z_su) (k0_pay15 (k0_pay3 y_kp y_cp y_sup y_sdp) y_kc (k0_pay4 y_c) (k0_pay5 y_su) y_sd) (k0_pay34 (k0_pay2 (grid0.coords t)) (k0_pay14 (k0_pay3 y_kp y_cp y_sup y_sdp) y_kc (k0_pay4 y_c) (k0_pay5 y_su) y_sd) (k0_pay19 (k0_pay16 y_vp y_vc) k0_pay17) (k0_pay22 (k0_pay8 y_dao y_wao)) (k0_pay23 s_0 s_2) (k0_pay24 (k0_pay14 (k0_pay3 y_kp y_cp y_sup y_sdp) y_kc (k0_pay4 y_c) (k0_pay5 y_su) y_sd) z_c z_su z_sd q_0 q_1)) (k0_pay48 (k0_pay2 (grid0.coords t)) (k0_pay15 (k0_pay3 y_kp y_cp y_sup y_sdp) y_kc (k0_pay4 y_c) (k0_pay5 y_su) y_sd) (k0_pay21 z_c z_su z_sd q_0 q_1) s_1 s_3) (k0_pay50 (k0_pay20 (k0_pay16 y_vp y_vc) k0_pay17) (k0_pay22 (k0_pay8 y_dao y_wao))) (k0_pay51 (k0_pay2 (grid0.coords t)) (k0_pay15 (k0_pay3 y_kp y_cp y_sup y_sdp) y_kc (k0_pay4 y_c) (k0_pay5 y_su) y_sd) (k0_pay20 (k0_pay16 y_vp y_vc) k0_pay17) (k0_pay21 z_c z_su z_sd q_0 q_1) (k0_pay22 (k0_pay8 y_dao y_wao)) s_1 s_3)) =
      unturn (rowsA (gradQ (grid0.coords t) (kept (evenA (keys y_kp y_kc y_c y_su y_sd y_cp y_sup y_sdp))) (moved (evenA (keys y_kp y_kc y_c y_su y_sd y_cp y_sup y_sdp))) (kept (evenA (band y_vp y_vc))) (moved (evenA (band y_vp y_vc))) (queries q_0 q_1 z_c z_su z_sd) (outs0 (outGrad y_dao y_wao)) s_0 s_2 s_1 s_3)) z_c z_su z_sd := by
  rfl

end Cert.AttnBwdIdeal.Hand

end
-- ==== Proof.AttnBwdOut0.lean ====
/- The queries' gradient: what each grid point stores, what the result array holds. -/
module

public import proofs.«01_k».proof.Proof.AttnBwdTiles
public import proofs.«01_k».proof.Proof.AttnBwdPiecesQ

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Idealize.ShloMosaic.Tactic Cert.AttnLaw
open Idealize.ShloMosaic.Pipeline (Dat)

variable (m : (ℓ : Loc nD τ sig) → Buf (Elt Ideal) ℓ)

set_option maxHeartbeats 4000000 in
theorem stores14A (c : Dev nD) (t : Fin cfg0.N) (h0 : t.val % 16 = 0) (h1 : ¬1 ≤ t.val) :
    (dats m 0 c).flushed 14 t = (cfg0.win 14).cut (grid0.coords t) (View.canon (tilesQ m c t)) := by
  refine (Value.flushed14_A m c t h0 h1).trans (congrArg ((cfg0.win 14).cut (grid0.coords t)) ?_)
  unfold out0_A_14
  rw [View.read_writes_eq_canon _ _ _ (cover0_A_14 c (grid0.coords t) _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, whole2, whole3, whole4, whole5, whole6, whole7, whole8, whole9, whole10, whole11, whole12, whole13]
  rw [piece_q7, piece_q6, piece_q5, piece_q4, piece_q3, piece_q2, piece_q1, piece_q0]
  rfl

set_option maxHeartbeats 4000000 in
theorem stores14B (c : Dev nD) (t : Fin cfg0.N) (h0 : ¬t.val % 16 = 0) (h1 : 1 ≤ t.val) :
    (dats m 0 c).flushed 14 t = (cfg0.win 14).cut (grid0.coords t) (View.canon (tilesQ m c t)) := by
  refine (Value.flushed14_B m c t h0 h1).trans (congrArg ((cfg0.win 14).cut (grid0.coords t)) ?_)
  unfold out0_B_14
  rw [View.read_writes_eq_canon _ _ _ (cover0_B_14 c (grid0.coords t) _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, whole2, whole3, whole4, whole5, whole6, whole7, whole8, whole9, whole10, whole11, whole12, whole13]
  rw [piece_q7, piece_q6, piece_q5, piece_q4, piece_q3, piece_q2, piece_q1, piece_q0]
  rfl

/-- What the result array holds. -/
def G14 (c : Dev nD) : Buf (Elt Ideal) ((c : Thread nD τ).loc main_v10_0) := fun i => rQ m c (i 0) (i 1)

theorem flushed14_eq (c : Dev nD) (t : Fin cfg0.N) :
    (dats m 0 c).flushed 14 t = ((cfg0.win 14).blk t).view.read (Elt Ideal) (G14 m c) := by
  have h0 := at14_0 t
  have h1 := at14_1 t
  have ht := lt16 t
  have e : ∀ (r : Fin 128) (l : Fin 1024), View.canon (tilesQ m c t) (ix2 r l) = ((cfg0.win 14).blk t).view.read (Elt Ideal) (G14 m c) (ix2 r l) := fun r l => by
    have e0 : ((cfg0.win 14).blk t).view.emb (ix2 r l) = ix2 ⟨t.val * 128 + r.val, by omega⟩ l := by
      funext a
      apply Fin.ext
      match a with
      | ⟨0, _⟩ => show win0_14.index t 0 * 128 + 1 * r.val = t.val * 128 + r.val; rw [h0]; omega
      | ⟨1, _⟩ => show win0_14.index t 1 * 1024 + 1 * l.val = l.val; rw [h1]; omega
    rw [View.read_apply, e0, tilesQ_apply]
    rfl
  funext j
  obtain ⟨r, l, rfl⟩ : ∃ (r : Fin 128) (l : Fin 1024), j = ix2 r l := ⟨j 0, j 1, eq_ix2 j⟩
  rw [← e]
  have hcut : ∀ X : Vec Ideal S128x1024 .bf16, (cfg0.win 14).cut (grid0.coords t) X (ix2 r l) = X (ix2 r l) := fun _ => rfl
  refine Eq.trans ?_ (hcut (View.canon (tilesQ m c t)))
  refine congrFun ?_ (ix2 r l)
  by_cases hA : t.val % 16 = 0
  · exact stores14A m c t hA (by omega)
  · exact stores14B m c t hA (by omega)

theorem mem_blk14 (t : Fin cfg0.N) (i : S2048x1024.Idx) : i ∈ ((cfg0.win 14).blk t).view.set ↔ ∀ d,
    win0_14.index t d * S128x1024.size d ≤ (i d).val
      ∧ (i d).val < win0_14.index t d * S128x1024.size d + S128x1024.size d := by
  show i ∈ ((View.whole main_v10_0).slice (win0_14.rect t)).set ↔ _
  rw [View.set_slice_whole, Rect.mem_set_unit]

theorem cover14 (i : S2048x1024.Idx) : ∃ t : Fin cfg0.N, (cfg0.win 14).flush t = true ∧ i ∈ ((cfg0.win 14).blk t).view.set := by
  have h0 : (i 0).val < 2048 := (i 0).isLt
  have h1 : (i 1).val < 1024 := (i 1).isLt
  have hN : ((i 0).val / 128) < cfg0.N := by
    show _ < grid0.N
    rw [N_0]; omega
  refine ⟨⟨_, hN⟩, flush0_14 _, (mem_blk14 _ i).2 fun d => ?_⟩
  have e0 := at14_0 ⟨((i 0).val / 128), hN⟩
  have e1 := at14_1 ⟨((i 0).val / 128), hN⟩
  match d with
  | ⟨0, _⟩ =>
    show win0_14.index _ 0 * 128 ≤ (i 0).val ∧ (i 0).val < win0_14.index _ 0 * 128 + 128
    rw [e0]; dsimp only; omega
  | ⟨1, _⟩ =>
    show win0_14.index _ 1 * 1024 ≤ (i 1).val ∧ (i 1).val < win0_14.index _ 1 * 1024 + 1024
    rw [e1]; dsimp only; omega

end Cert.AttnBwdIdeal.Hand

end
-- ==== Proof.AttnBwdPiecesK.lean ====
/- The pieces that one block of the backward attention stores, written with the vectors of a group of heads. -/
module

public import proofs.«01_k».proof.Proof.AttnBwdBlock

@[expose] public section

set_option maxRecDepth 16384

noncomputable section

namespace Cert.AttnBwdIdeal.Hand

open Cert.AttnBwdIdeal Cert.AttnBwdIdeal.Gen Idealize.ShloMosaic Idealize.ShloMosaic.TcCoe Cert.AttnLaw

variable (t : Fin cfg0.N)
  (y_kp y_kc y_vp y_vc y_c y_su y_sd y_cp y_sup y_sdp : Vec Ideal S128x256 .f32)
  (z_c z_su z_sd q_4 q_5 q_6 q_7 q_0 q_1 q_2 q_3 : Vec Ideal S128x128 .f32)
  (s_8 s_9 s_10 s_11 s_12 s_13 s_14 s_15 s_0 s_1 s_2 s_3 s_4 s_5 s_6 s_7 : Ideal .f32)
  (y_dao : Vec Ideal S128x1024 .bf16)
  (y_wao : Vec Ideal S1024x1024 .bf16)

theorem piece_kp1 :
    k0_pay220 (k0_pay160 (k0_pay136 (k0_pay2 (grid0.coords t)) (k0_pay8 y_dao y_wao) (k0_pay112 (k0_pay110 (k0_pay6 (k0_pay3 y_kp y_cp y_sup y_sdp) y_kc (k0_pay4 y_c) (k0_pay5 y_su) y_sd))) (k0_pay115 (k0_pay7 y_vp y_vc)) (k0_pay120 z_c z_su z_sd q_4) (k0_pay121 z_c z_su z_sd q_5) s_8 s_10) (k0_pay151 (k0_pay116 (k0_pay7 y_vp y_vc)) (k0_pay122 (k0_pay120 z_c z_su z_sd q_4) (k0_pay121 z_c z_su z_sd q_5)) (k0_pay123 (k0_pay8 y_dao y_wao)) (k0_pay143 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11) (k0_pay144 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11))) k0_pay212 (k0_pay213 (k0_pay189 (k0_pay174 (k0_pay170 z_su) (k0_pay171 z_sd) (k0_pay172 z_c z_su z_sd q_6) q_7 (k0_pay173 z_c q_7) 120#32) (k0_pay186 (k0_pay2 (grid0.coords t)) (k0_pay8 y_dao y_wao) (k0_pay164 (k0_pay6 (k0_pay3 y_kp y_cp y_sup y_sdp) y_kc (k0_pay4 y_c) (k0_pay5 y_su) y_sd)) (k0_pay167 (k0_pay7 y_vp y_vc)) (k0_pay170 z_su) (k0_pay171 z_sd) (k0_pay172 z_c z_su z_sd q_6) q_7 (k0_pay173 z_c q_7) (120#32) s_12 s_14)) (k0_pay204 (k0_pay168 (k0_pay7 y_vp y_vc)) (k0_pay174 (k0_pay170 z_su) (k0_pay171 z_sd) (k0_pay172 z_c z_su z_sd q_6) q_7 (k0_pay173 z_c q_7) 120#32) (k0_pay175 (k0_pay8 y_dao y_wao)) (k0_pay192 s_13 s_15) (k0_pay193 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32)) (k0_pay194 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32)))) =
      rowsA (both (ownE (onto (halfD (grid0.coords t) (kept (evenB (keys y_kp y_kc y_c y_su y_sd y_cp y_sup y_sdp))) (kept (evenB (band y_vp y_vc))) (queries q_4 q_5 z_c z_su z_sd) (outs2 (outGrad y_dao y_wao)) s_8 s_10) (queries q_4 q_5 z_c z_su z_sd)) (onto (halfD (grid0.coords t) (moved (evenB (keys y_kp y_kc y_c y_su y_sd y_cp y_sup y_sdp))) (moved (evenB (band y_vp y_vc))) (queries q_4 q_5 z_c z_su z_sd) (outs2 (outGrad y_dao y_wao)) s_9 s_11) (queries q_4 q_5 z_c z_su z_sd))) (ownO (onto (halfD (grid0.coords t) (moved (oddB (keys y_kp y_kc y_c y_su y_sd y_cp y_sup y_sdp))) (moved (oddB (band y_vp y_vc))) (queries q_6 q_7 z_c z_su z_sd) (outs3 (outGrad y_dao y_wao)) s_12 s_14) (queries q_6 q_7 z_c z_su z_sd)) (onto (halfD (grid0.coords t) (kept (oddB (keys y_kp y_kc y_c y_su y_sd y_cp y_sup y_sdp))) (kept (oddB (band y_vp y_vc))) (queries q_6 q_7 z_c z_su z_sd) (outs3 (outGrad y_dao y_wao)) s_13 s_15) (queries q_6 q_7 z_c z_su z_sd)))) := by
  rfl

theorem piece_kp0 :
    k0_pay216 (k0_pay108 (k0_pay62 (k0_pay35 (k0_pay2 (grid0.coords t)) (k0_pay19 (k0_pay16 y_vp y_vc) k0_pay17) (k0_pay21 z_c z_su z_sd q_0 q_1) (k0_pay22 (k0_pay8 y_dao y_wao)) (k0_pay23 s_0 s_2) (k0_pay24 (k0_pay14 (k0_pay3 y_kp y_cp y_sup y_sdp) y_kc (k0_pay4 y_c) (k0_pay5 y_su) y_sd) z_c z_su z_sd q_0 q_1)) (k0_pay54 (k0_pay21 z_c z_su z_sd q_0 q_1) (k0_pay48 (k0_pay2 (grid0.coords t)) (k0_pay15 (k0_pay3 y_kp y_cp y_sup y_sdp) y_kc (k0_pay4 y_c) (k0_pay5 y_su) y_sd) (k0_pay21 z_c z_su z_sd q_0 q_1) s_1 s_3) (k0_pay50 (k0_pay20 (k0_pay16 y_vp y_vc) k0_pay17) (k0_pay22 (k0_pay8 y_dao y_wao))) (k0_pay51 (k0_pay2 (grid0.coords t)) (k0_pay15 (k0_pay3 y_kp y_cp y_sup y_sdp) y_kc (k0_pay4 y_c) (k0_pay5 y_su) y_sd) (k0_pay20 (k0_pay16 y_vp y_vc) k0_pay17) (k0_pay21 z_c z_su z_sd q_0 q_1) (k0_pay22 (k0_pay8 y_dao y_wao)) s_1 s_3))) (k0_pay85 (k0_pay2 (grid0.coords t)) (k0_pay66 (k0_pay65 (k0_pay6 (k0_pay3 y_kp y_cp y_sup y_sdp) y_kc (k0_pay4 y_c) (k0_pay5 y_su) y_sd))) (k0_pay69 (k0_pay7 y_vp y_vc)) (k0_pay71 z_c z_su z_sd q_2 q_3) (k0_pay72 (k0_pay8 y_dao y_wao)) (k0_pay73 s_4) s_6) (k0_pay101 (k0_pay70 (k0_pay7 y_vp y_vc)) (k0_pay71 z_c z_su z_sd q_2 q_3) (k0_pay72 (k0_pay8 y_dao y_wao)) (k0_pay96 (k0_pay2 (grid0.coords t)) (k0_pay67 (k0_pay64 (k0_pay6 (k0_pay3 y_kp y_cp y_sup y_sdp) y_kc (k0_pay4 y_c) (k0_pay5 y_su) y_sd))) (k0_pay71 z_c z_su z_sd q_2 q_3) s_5 s_7))) =
      rowsA (both (ownE (onto (halfD (grid0.coords t) (kept (evenA (keys y_kp y_kc y_c y_su y_sd y_cp y_sup y_sdp))) (kept (evenA (band y_vp y_vc))) (queries q_0 q_1 z_c z_su z_sd) (outs0 (outGrad y_dao y_wao)) s_0 s_2) (queries q_0 q_1 z_c z_su z_sd)) (onto (halfD (grid0.coords t) (moved (evenA (keys y_kp y_kc y_c y_su y_sd y_cp y_sup y_sdp))) (moved (evenA (band y_vp y_vc))) (queries q_0 q_1 z_c z_su z_sd) (outs0 (outGrad y_dao y_wao)) s_1 s_3) (queries q_0 q_1 z_c z_su z_sd))) (ownO (onto (halfD (grid0.coords t) (moved (oddA (keys y_kp y_kc y_c y_su y_sd y_cp y_sup y_sdp))) (moved (oddA (band y_vp y_vc))) (queries q_2 q_3 z_c z_su z_sd) (outs1 (outGrad y_dao y_wao)) s_4 s_6) (queries q_2 q_3 z_c z_su z_sd)) (onto (halfD (grid0.coords t) (kept (oddA (keys y_kp y_kc y_c y_su y_sd y_cp y_sup y_sdp))) (kept (oddA (band y_vp y_vc))) (queries q_2 q_3 z_c z_su z_sd) (outs1 (outGrad y_dao y_wao)) s_5 s_7) (queries q_2 q_3 z_c z_su z_sd)))) := by
  rfl

theorem piece_kc1 :
    k0_pay221 (k0_pay160 (k0_pay136 (k0_pay2 (grid0.coords t)) (k0_pay8 y_dao y_wao) (k0_pay112 (k0_pay110 (k0_pay6 (k0_pay3 y_kp y_cp y_sup y_sdp) y_kc (k0_pay4 y_c) (k0_pay5 y_su) y_sd))) (k0_pay115 (k0_pay7 y_vp y_vc)) (k0_pay120 z_c z_su z_sd q_4) (k0_pay121 z_c z_su z_sd q_5) s_8 s_10) (k0_pay151 (k0_pay116 (k0_pay7 y_vp y_vc)) (k0_pay122 (k0_pay120 z_c z_su z_sd q_4) (k0_pay121 z_c z_su z_sd q_5)) (k0_pay123 (k0_pay8 y_dao y_wao)) (k0_pay143 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11) (k0_pay144 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11))) k0_pay212 (k0_pay213 (k0_pay189 (k0_pay174 (k0_pay170 z_su) (k0_pay171 z_sd) (k0_pay172 z_c z_su z_sd q_6) q_7 (k0_pay173 z_c q_7) 120#32) (k0_pay186 (k0_pay2 (grid0.coords t)) (k0_pay8 y_dao y_wao) (k0_pay164 (k0_pay6 (k0_pay3 y_kp y_cp y_sup y_sdp) y_kc (k0_pay4 y_c) (k0_pay5 y_su) y_sd)) (k0_pay167 (k0_pay7 y_vp y_vc)) (k0_pay170 z_su) (k0_pay171 z_sd) (k0_pay172 z_c z_su z_sd q_6) q_7 (k0_pay173 z_c q_7) (120#32) s_12 s_14)) (k0_pay204 (k0_pay168 (k0_pay7 y_vp y_vc)) (k0_pay174 (k0_pay170 z_su) (k0_pay171 z_sd) (k0_pay172 z_c z_su z_sd q_6) q_7 (k0_pay173 z_c q_7) 120#32) (k0_pay175 (k0_pay8 y_dao y_wao)) (k0_pay192 s_13 s_15) (k0_pay193 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32)) (k0_pay194 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32)))) =
      rowsB (both (ownE (onto (halfD (grid0.coords t) (kept (evenB (keys y_kp y_kc y_c y_su y_sd y_cp y_sup y_sdp))) (kept (evenB (band y_vp y_vc))) (queries q_4 q_5 z_c z_su z_sd) (outs2 (outGrad y_dao y_wao)) s_8 s_10) (queries q_4 q_5 z_c z_su z_sd)) (onto (halfD (grid0.coords t) (moved (evenB (keys y_kp y_kc y_c y_su y_sd y_cp y_sup y_sdp))) (moved (evenB (band y_vp y_vc))) (queries q_4 q_5 z_c z_su z_sd) (outs2 (outGrad y_dao y_wao)) s_9 s_11) (queries q_4 q_5 z_c z_su z_sd))) (ownO (onto (halfD (grid0.coords t) (moved (oddB (keys y_kp y_kc y_c y_su y_sd y_cp y_sup y_sdp))) (moved (oddB (band y_vp y_vc))) (queries q_6 q_7 z_c z_su z_sd) (outs3 (outGrad y_dao y_wao)) s_12 s_14) (queries q_6 q_7 z_c z_su z_sd)) (onto (halfD (grid0.coords t) (kept (oddB (keys y_kp y_kc y_c y_su y_sd y_cp y_sup y_sdp))) (kept (oddB (band y_vp y_vc))) (queries q_6 q_7 z_c z_su z_sd) (outs3 (outGrad y_dao y_wao)) s_13 s_15) (queries q_6 q_7 z_c z_su z_sd)))) := by
  rfl

theorem piece_kc0 :
    k0_pay217 (k0_pay108 (k0_pay62 (k0_pay35 (k0_pay2 (grid0.coords t)) (k0_pay19 (k0_pay16 y_vp y_vc) k0_pay17) (k0_pay21 z_c z_su z_sd q_0 q_1) (k0_pay22 (k0_pay8 y_dao y_wao)) (k0_pay23 s_0 s_2) (k0_pay24 (k0_pay14 (k0_pay3 y_kp y_cp y_sup y_sdp) y_kc (k0_pay4 y_c) (k0_pay5 y_su) y_sd) z_c z_su z_sd q_0 q_1)) (k0_pay54 (k0_pay21 z_c z_su z_sd q_0 q_1) (k0_pay48 (k0_pay2 (grid0.coords t)) (k0_pay15 (k0_pay3 y_kp y_cp y_sup y_sdp) y_kc (k0_pay4 y_c) (k0_pay5 y_su) y_sd) (k0_pay21 z_c z_su z_sd q_0 q_1) s_1 s_3) (k0_pay50 (k0_pay20 (k0_pay16 y_vp y_vc) k0_pay17) (k0_pay22 (k0_pay8 y_dao y_wao))) (k0_pay51 (k0_pay2 (grid0.coords t)) (k0_pay15 (k0_pay3 y_kp y_cp y_sup y_sdp) y_kc (k0_pay4 y_c) (k0_pay5 y_su) y_sd) (k0_pay20 (k0_pay16 y_vp y_vc) k0_pay17) (k0_pay21 z_c z_su z_sd q_0 q_1) (k0_pay22 (k0_pay8 y_dao y_wao)) s_1 s_3))) (k0_pay85 (k0_pay2 (grid0.coords t)) (k0_pay66 (k0_pay65 (k0_pay6 (k0_pay3 y_kp y_cp y_sup y_sdp) y_kc (k0_pay4 y_c) (k0_pay5 y_su) y_sd))) (k0_pay69 (k0_pay7 y_vp y_vc)) (k0_pay71 z_c z_su z_sd q_2 q_3) (k0_pay72 (k0_pay8 y_dao y_wao)) (k0_pay73 s_4) s_6) (k0_pay101 (k0_pay70 (k0_pay7 y_vp y_vc)) (k0_pay71 z_c z_su z_sd q_2 q_3) (k0_pay72 (k0_pay8 y_dao y_wao)) (k0_pay96 (k0_pay2 (grid0.coords t)) (k0_pay67 (k0_pay64 (k0_pay6 (k0_pay3 y_kp y_cp y_sup y_sdp) y_kc (k0_pay4 y_c) (k0_pay5 y_su) y_sd))) (k0_pay71 z_c z_su z_sd q_2 q_3) s_5 s_7))) =
      rowsB (both (ownE (onto (halfD (grid0.coords t) (kept (evenA (keys y_kp y_kc y_c y_su y_sd y_cp y_sup y_sdp))) (kept (evenA (band y_vp y_vc))) (queries q_0 q_1 z_c z_su z_sd) (outs0 (outGrad y_dao y_wao)) s_0 s_2) (queries q_0 q_1 z_c z_su z_sd)) (onto (halfD (grid0.coords t) (moved (evenA (keys y_kp y_kc y_c y_su y_sd y_cp y_sup y_sdp))) (moved (evenA (band y_vp y_vc))) (queries q_0 q_1 z_c z_su z_sd) (outs0 (outGrad y_dao y_wao)) s_1 s_3) (queries q_0 q_1 z_c z_su z_sd))) (ownO (onto (halfD (grid0.coords t) (moved (oddA (keys y_kp y_kc y_c y_su y_sd y_cp y_sup y_sdp))) (moved (oddA (band y_vp y_vc))) (queries q_2 q_3 z_c z_su z_sd) (outs1 (outGrad y_dao y_wao)) s_4 s_6) (queries q_2 q_3 z_c z_su z_sd)) (onto (halfD (grid0.coords t) (kept (oddA (keys y_kp y_kc y_c y_su y_sd y_cp y_sup y_sdp))) (kept (oddA (band y_vp y_vc))) (queries q_2 q_3 z_c z_su z_sd) (outs1 (outGrad y_dao y_wao)) s_5 s_7) (queries q_2 q_3 z_c z_su z_sd)))) := by
  rfl

end Cert.AttnBwdIdeal.Hand

end
-- ==== Proof.AttnBwdOut1.lean ====
/- The keys' gradient for the block before: what each grid point stores, what the result array holds. -/
module

public import proofs.«01_k».proof.Proof.AttnBwdTiles
public import proofs.«01_k».proof.Proof.AttnBwdPiecesK

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Idealize.ShloMosaic.Tactic Cert.AttnLaw
open Idealize.ShloMosaic.Pipeline (Dat)

variable (m : (ℓ : Loc nD τ sig) → Buf (Elt Ideal) ℓ)

set_option maxHeartbeats 4000000 in
theorem stores15A (c : Dev nD) (t : Fin cfg0.N) (h0 : t.val % 16 = 0) (h1 : ¬1 ≤ t.val) :
    (dats m 0 c).flushed 15 t = (cfg0.win 15).cut (grid0.coords t) (View.canon (tilesKA m c t)) := by
  refine (Value.flushed15_A m c t h0 h1).trans (congrArg ((cfg0.win 15).cut (grid0.coords t)) ?_)
  unfold out0_A_15
  rw [View.read_writes_eq_canon _ _ _ (cover0_A_15 c (grid0.coords t) _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, whole2, whole3, whole4, whole5, whole6, whole7, whole8, whole9, whole10, whole11, whole12, whole13]
  rw [piece_kp1, piece_kp0]
  rfl

set_option maxHeartbeats 4000000 in
theorem stores15B (c : Dev nD) (t : Fin cfg0.N) (h0 : ¬t.val % 16 = 0) (h1 : 1 ≤ t.val) :
    (dats m 0 c).flushed 15 t = (cfg0.win 15).cut (grid0.coords t) (View.canon (tilesKA m c t)) := by
  refine (Value.flushed15_B m c t h0 h1).trans (congrArg ((cfg0.win 15).cut (grid0.coords t)) ?_)
  unfold out0_B_15
  rw [View.read_writes_eq_canon _ _ _ (cover0_B_15 c (grid0.coords t) _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, whole2, whole3, whole4, whole5, whole6, whole7, whole8, whole9, whole10, whole11, whole12, whole13]
  rw [piece_kp1, piece_kp0]
  rfl

/-- What the result array holds. -/
def G15 (c : Dev nD) : Buf (Elt Ideal) ((c : Thread nD τ).loc main_v10_1) := fun i => rK m c (nxt (i 0)) (lo (i 0)) (i 1)

theorem flushed15_eq (c : Dev nD) (t : Fin cfg0.N) :
    (dats m 0 c).flushed 15 t = ((cfg0.win 15).blk t).view.read (Elt Ideal) (G15 m c) := by
  have h0 := at15_0 t
  have h1 := at15_1 t
  have ht := lt16 t
  have e : ∀ (r : Fin 128) (l : Fin 256), View.canon (tilesKA m c t) (ix2 r l) = ((cfg0.win 15).blk t).view.read (Elt Ideal) (G15 m c) (ix2 r l) := fun r l => by
    have e0 : ((cfg0.win 15).blk t).view.emb (ix2 r l) = ix2 ⟨((t.val + 15) % 16) * 128 + r.val, by omega⟩ l := by
      funext a
      apply Fin.ext
      match a with
      | ⟨0, _⟩ => show win0_15.index t 0 * 128 + 1 * r.val = ((t.val + 15) % 16) * 128 + r.val; rw [h0]; omega
      | ⟨1, _⟩ => show win0_15.index t 1 * 256 + 1 * l.val = l.val; rw [h1]; omega
    rw [View.read_apply, e0, tilesKA_apply]
    have e1 : nxt ⟨(t.val + 15) % 16 * 128 + r.val, by omega⟩ = bn t := Fin.ext (by show (((t.val + 15) % 16 * 128 + r.val) / 128 + 1) % 16 = t.val; omega)
    have e2 : lo ⟨(t.val + 15) % 16 * 128 + r.val, by omega⟩ = ⟨r.val, by omega⟩ := Fin.ext (by show ((t.val + 15) % 16 * 128 + r.val) % 128 = r.val; omega)
    show _ = rK m c (nxt ⟨(t.val + 15) % 16 * 128 + r.val, by omega⟩) (lo ⟨(t.val + 15) % 16 * 128 + r.val, by omega⟩) l
    rw [e1, e2]
  funext j
  obtain ⟨r, l, rfl⟩ : ∃ (r : Fin 128) (l : Fin 256), j = ix2 r l := ⟨j 0, j 1, eq_ix2 j⟩
  rw [← e]
  have hcut : ∀ X : Vec Ideal S128x256 .f32, (cfg0.win 15).cut (grid0.coords t) X (ix2 r l) = X (ix2 r l) := fun _ => rfl
  refine Eq.trans ?_ (hcut (View.canon (tilesKA m c t)))
  refine congrFun ?_ (ix2 r l)
  by_cases hA : t.val % 16 = 0
  · exact stores15A m c t hA (by omega)
  · exact stores15B m c t hA (by omega)

theorem mem_blk15 (t : Fin cfg0.N) (i : S2048x256.Idx) : i ∈ ((cfg0.win 15).blk t).view.set ↔ ∀ d,
    win0_15.index t d * S128x256.size d ≤ (i d).val
      ∧ (i d).val < win0_15.index t d * S128x256.size d + S128x256.size d := by
  show i ∈ ((View.whole main_v10_1).slice (win0_15.rect t)).set ↔ _
  rw [View.set_slice_whole, Rect.mem_set_unit]

theorem cover15 (i : S2048x256.Idx) : ∃ t : Fin cfg0.N, (cfg0.win 15).flush t = true ∧ i ∈ ((cfg0.win 15).blk t).view.set := by
  have h0 : (i 0).val < 2048 := (i 0).isLt
  have h1 : (i 1).val < 256 := (i 1).isLt
  have hN : (((i 0).val / 128 + 1) % 16) < cfg0.N := by
    show _ < grid0.N
    rw [N_0]; omega
  refine ⟨⟨_, hN⟩, flush0_15 _, (mem_blk15 _ i).2 fun d => ?_⟩
  have e0 := at15_0 ⟨(((i 0).val / 128 + 1) % 16), hN⟩
  have e1 := at15_1 ⟨(((i 0).val / 128 + 1) % 16), hN⟩
  match d with
  | ⟨0, _⟩ =>
    show win0_15.index _ 0 * 128 ≤ (i 0).val ∧ (i 0).val < win0_15.index _ 0 * 128 + 128
    rw [e0]; dsimp only; omega
  | ⟨1, _⟩ =>
    show win0_15.index _ 1 * 256 ≤ (i 1).val ∧ (i 1).val < win0_15.index _ 1 * 256 + 256
    rw [e1]; dsimp only; omega

end Cert.AttnBwdIdeal.Hand

end
-- ==== Proof.AttnBwdOut2.lean ====
/- The keys' gradient for the own block: what each grid point stores, what the result array holds. -/
module

public import proofs.«01_k».proof.Proof.AttnBwdTiles
public import proofs.«01_k».proof.Proof.AttnBwdPiecesK

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Idealize.ShloMosaic.Tactic Cert.AttnLaw
open Idealize.ShloMosaic.Pipeline (Dat)

variable (m : (ℓ : Loc nD τ sig) → Buf (Elt Ideal) ℓ)

set_option maxHeartbeats 4000000 in
theorem stores16A (c : Dev nD) (t : Fin cfg0.N) (h0 : t.val % 16 = 0) (h1 : ¬1 ≤ t.val) :
    (dats m 0 c).flushed 16 t = (cfg0.win 16).cut (grid0.coords t) (View.canon (tilesKB m c t)) := by
  refine (Value.flushed16_A m c t h0 h1).trans (congrArg ((cfg0.win 16).cut (grid0.coords t)) ?_)
  unfold out0_A_16
  rw [View.read_writes_eq_canon _ _ _ (cover0_A_16 c (grid0.coords t) _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, whole2, whole3, whole4, whole5, whole6, whole7, whole8, whole9, whole10, whole11, whole12, whole13]
  rw [piece_kc1, piece_kc0]
  rfl

set_option maxHeartbeats 4000000 in
theorem stores16B (c : Dev nD) (t : Fin cfg0.N) (h0 : ¬t.val % 16 = 0) (h1 : 1 ≤ t.val) :
    (dats m 0 c).flushed 16 t = (cfg0.win 16).cut (grid0.coords t) (View.canon (tilesKB m c t)) := by
  refine (Value.flushed16_B m c t h0 h1).trans (congrArg ((cfg0.win 16).cut (grid0.coords t)) ?_)
  unfold out0_B_16
  rw [View.read_writes_eq_canon _ _ _ (cover0_B_16 c (grid0.coords t) _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, whole2, whole3, whole4, whole5, whole6, whole7, whole8, whole9, whole10, whole11, whole12, whole13]
  rw [piece_kc1, piece_kc0]
  rfl

/-- What the result array holds. -/
def G16 (c : Dev nD) : Buf (Elt Ideal) ((c : Thread nD τ).loc main_v10_2) := fun i => rK m c (own (i 0)) (hi (i 0)) (i 1)

theorem flushed16_eq (c : Dev nD) (t : Fin cfg0.N) :
    (dats m 0 c).flushed 16 t = ((cfg0.win 16).blk t).view.read (Elt Ideal) (G16 m c) := by
  have h0 := at16_0 t
  have h1 := at16_1 t
  have ht := lt16 t
  have e : ∀ (r : Fin 128) (l : Fin 256), View.canon (tilesKB m c t) (ix2 r l) = ((cfg0.win 16).blk t).view.read (Elt Ideal) (G16 m c) (ix2 r l) := fun r l => by
    have e0 : ((cfg0.win 16).blk t).view.emb (ix2 r l) = ix2 ⟨t.val * 128 + r.val, by omega⟩ l := by
      funext a
      apply Fin.ext
      match a with
      | ⟨0, _⟩ => show win0_16.index t 0 * 128 + 1 * r.val = t.val * 128 + r.val; rw [h0]; omega
      | ⟨1, _⟩ => show win0_16.index t 1 * 256 + 1 * l.val = l.val; rw [h1]; omega
    rw [View.read_apply, e0, tilesKB_apply]
    have e1 : own ⟨t.val * 128 + r.val, by omega⟩ = bn t := Fin.ext (by show (t.val * 128 + r.val) / 128 = t.val; omega)
    have e2 : hi ⟨t.val * 128 + r.val, by omega⟩ = ⟨128 + r.val, by omega⟩ := Fin.ext (by show 128 + (t.val * 128 + r.val) % 128 = 128 + r.val; omega)
    show _ = rK m c (own ⟨t.val * 128 + r.val, by omega⟩) (hi ⟨t.val * 128 + r.val, by omega⟩) l
    rw [e1, e2]
  funext j
  obtain ⟨r, l, rfl⟩ : ∃ (r : Fin 128) (l : Fin 256), j = ix2 r l := ⟨j 0, j 1, eq_ix2 j⟩
  rw [← e]
  have hcut : ∀ X : Vec Ideal S128x256 .f32, (cfg0.win 16).cut (grid0.coords t) X (ix2 r l) = X (ix2 r l) := fun _ => rfl
  refine Eq.trans ?_ (hcut (View.canon (tilesKB m c t)))
  refine congrFun ?_ (ix2 r l)
  by_cases hA : t.val % 16 = 0
  · exact stores16A m c t hA (by omega)
  · exact stores16B m c t hA (by omega)

theorem mem_blk16 (t : Fin cfg0.N) (i : S2048x256.Idx) : i ∈ ((cfg0.win 16).blk t).view.set ↔ ∀ d,
    win0_16.index t d * S128x256.size d ≤ (i d).val
      ∧ (i d).val < win0_16.index t d * S128x256.size d + S128x256.size d := by
  show i ∈ ((View.whole main_v10_2).slice (win0_16.rect t)).set ↔ _
  rw [View.set_slice_whole, Rect.mem_set_unit]

theorem cover16 (i : S2048x256.Idx) : ∃ t : Fin cfg0.N, (cfg0.win 16).flush t = true ∧ i ∈ ((cfg0.win 16).blk t).view.set := by
  have h0 : (i 0).val < 2048 := (i 0).isLt
  have h1 : (i 1).val < 256 := (i 1).isLt
  have hN : ((i 0).val / 128) < cfg0.N := by
    show _ < grid0.N
    rw [N_0]; omega
  refine ⟨⟨_, hN⟩, flush0_16 _, (mem_blk16 _ i).2 fun d => ?_⟩
  have e0 := at16_0 ⟨((i 0).val / 128), hN⟩
  have e1 := at16_1 ⟨((i 0).val / 128), hN⟩
  match d with
  | ⟨0, _⟩ =>
    show win0_16.index _ 0 * 128 ≤ (i 0).val ∧ (i 0).val < win0_16.index _ 0 * 128 + 128
    rw [e0]; dsimp only; omega
  | ⟨1, _⟩ =>
    show win0_16.index _ 1 * 256 ≤ (i 1).val ∧ (i 1).val < win0_16.index _ 1 * 256 + 256
    rw [e1]; dsimp only; omega

end Cert.AttnBwdIdeal.Hand

end
-- ==== Proof.AttnBwdPiecesV.lean ====
/- The pieces that one block of the backward attention stores, written with the vectors of a group of heads. -/
module

public import proofs.«01_k».proof.Proof.AttnBwdBlock

@[expose] public section

set_option maxRecDepth 16384

noncomputable section

namespace Cert.AttnBwdIdeal.Hand

open Cert.AttnBwdIdeal Cert.AttnBwdIdeal.Gen Idealize.ShloMosaic Idealize.ShloMosaic.TcCoe Cert.AttnLaw

variable (t : Fin cfg0.N)
  (y_kp y_kc y_c y_su y_sd y_cp y_sup y_sdp : Vec Ideal S128x256 .f32)
  (z_c z_su z_sd q_4 q_5 q_6 q_7 q_0 q_1 q_2 q_3 : Vec Ideal S128x128 .f32)
  (s_8 s_9 s_10 s_11 s_12 s_13 s_14 s_15 s_0 s_1 s_2 s_3 s_4 s_5 s_6 s_7 : Ideal .f32)
  (y_dao : Vec Ideal S128x1024 .bf16)
  (y_wao : Vec Ideal S1024x1024 .bf16)

theorem piece_vp1 :
    k0_pay222 (k0_pay162 (k0_pay138 (k0_pay123 (k0_pay8 y_dao y_wao)) (k0_pay137 (k0_pay2 (grid0.coords t)) (k0_pay112 (k0_pay110 (k0_pay6 (k0_pay3 y_kp y_cp y_sup y_sdp) y_kc (k0_pay4 y_c) (k0_pay5 y_su) y_sd))) (k0_pay120 z_c z_su z_sd q_4) (k0_pay121 z_c z_su z_sd q_5) s_8 s_10) (constant S256x128 FTy.f32 0#32)) (k0_pay161 (k0_pay152 (k0_pay123 (k0_pay8 y_dao y_wao)) (k0_pay143 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11) (k0_pay144 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11))) (iota Kind.tc S256x128 32 [1] iota_S256x128_d1_w32) 64#32) (k0_pay190 (k0_pay175 (k0_pay8 y_dao y_wao)) (k0_pay182 (k0_pay2 (grid0.coords t)) (k0_pay164 (k0_pay6 (k0_pay3 y_kp y_cp y_sup y_sdp) y_kc (k0_pay4 y_c) (k0_pay5 y_su) y_sd)) (k0_pay170 z_su) (k0_pay171 z_sd) (k0_pay172 z_c z_su z_sd q_6) q_7 (k0_pay173 z_c q_7) (120#32) s_12 s_14)) (k0_pay205 (k0_pay175 (k0_pay8 y_dao y_wao)) (k0_pay192 s_13 s_15) (k0_pay193 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32)) (k0_pay194 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32))) =
      rowsA (both (ownE (onto (halfP (grid0.coords t) (kept (evenB (keys y_kp y_kc y_c y_su y_sd y_cp y_sup y_sdp))) (queries q_4 q_5 z_c z_su z_sd) s_8 s_10) (outs2 (outGrad y_dao y_wao))) (onto (halfP (grid0.coords t) (moved (evenB (keys y_kp y_kc y_c y_su y_sd y_cp y_sup y_sdp))) (queries q_4 q_5 z_c z_su z_sd) s_9 s_11) (outs2 (outGrad y_dao y_wao)))) (ownO (onto (halfP (grid0.coords t) (moved (oddB (keys y_kp y_kc y_c y_su y_sd y_cp y_sup y_sdp))) (queries q_6 q_7 z_c z_su z_sd) s_12 s_14) (outs3 (outGrad y_dao y_wao))) (onto (halfP (grid0.coords t) (kept (oddB (keys y_kp y_kc y_c y_su y_sd y_cp y_sup y_sdp))) (queries q_6 q_7 z_c z_su z_sd) s_13 s_15) (outs3 (outGrad y_dao y_wao))))) := by
  rfl

theorem piece_vp0 :
    k0_pay218 (k0_pay109 (k0_pay63 (k0_pay36 (k0_pay2 (grid0.coords t)) (k0_pay22 (k0_pay8 y_dao y_wao)) (k0_pay23 s_0 s_2) (k0_pay24 (k0_pay14 (k0_pay3 y_kp y_cp y_sup y_sdp) y_kc (k0_pay4 y_c) (k0_pay5 y_su) y_sd) z_c z_su z_sd q_0 q_1)) (k0_pay55 (k0_pay22 (k0_pay8 y_dao y_wao)) (k0_pay48 (k0_pay2 (grid0.coords t)) (k0_pay15 (k0_pay3 y_kp y_cp y_sup y_sdp) y_kc (k0_pay4 y_c) (k0_pay5 y_su) y_sd) (k0_pay21 z_c z_su z_sd q_0 q_1) s_1 s_3))) (k0_pay86 (k0_pay2 (grid0.coords t)) (k0_pay66 (k0_pay65 (k0_pay6 (k0_pay3 y_kp y_cp y_sup y_sdp) y_kc (k0_pay4 y_c) (k0_pay5 y_su) y_sd))) (k0_pay71 z_c z_su z_sd q_2 q_3) (k0_pay72 (k0_pay8 y_dao y_wao)) (k0_pay73 s_4) s_6) (k0_pay102 (k0_pay72 (k0_pay8 y_dao y_wao)) (k0_pay96 (k0_pay2 (grid0.coords t)) (k0_pay67 (k0_pay64 (k0_pay6 (k0_pay3 y_kp y_cp y_sup y_sdp) y_kc (k0_pay4 y_c) (k0_pay5 y_su) y_sd))) (k0_pay71 z_c z_su z_sd q_2 q_3) s_5 s_7))) =
      rowsA (both (ownE (onto (halfP (grid0.coords t) (kept (evenA (keys y_kp y_kc y_c y_su y_sd y_cp y_sup y_sdp))) (queries q_0 q_1 z_c z_su z_sd) s_0 s_2) (outs0 (outGrad y_dao y_wao))) (onto (halfP (grid0.coords t) (moved (evenA (keys y_kp y_kc y_c y_su y_sd y_cp y_sup y_sdp))) (queries q_0 q_1 z_c z_su z_sd) s_1 s_3) (outs0 (outGrad y_dao y_wao)))) (ownO (onto (halfP (grid0.coords t) (moved (oddA (keys y_kp y_kc y_c y_su y_sd y_cp y_sup y_sdp))) (queries q_2 q_3 z_c z_su z_sd) s_4 s_6) (outs1 (outGrad y_dao y_wao))) (onto (halfP (grid0.coords t) (kept (oddA (keys y_kp y_kc y_c y_su y_sd y_cp y_sup y_sdp))) (queries q_2 q_3 z_c z_su z_sd) s_5 s_7) (outs1 (outGrad y_dao y_wao))))) := by
  rfl

theorem piece_vc1 :
    k0_pay223 (k0_pay162 (k0_pay138 (k0_pay123 (k0_pay8 y_dao y_wao)) (k0_pay137 (k0_pay2 (grid0.coords t)) (k0_pay112 (k0_pay110 (k0_pay6 (k0_pay3 y_kp y_cp y_sup y_sdp) y_kc (k0_pay4 y_c) (k0_pay5 y_su) y_sd))) (k0_pay120 z_c z_su z_sd q_4) (k0_pay121 z_c z_su z_sd q_5) s_8 s_10) (constant S256x128 FTy.f32 0#32)) (k0_pay161 (k0_pay152 (k0_pay123 (k0_pay8 y_dao y_wao)) (k0_pay143 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11) (k0_pay144 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11))) (iota Kind.tc S256x128 32 [1] iota_S256x128_d1_w32) 64#32) (k0_pay190 (k0_pay175 (k0_pay8 y_dao y_wao)) (k0_pay182 (k0_pay2 (grid0.coords t)) (k0_pay164 (k0_pay6 (k0_pay3 y_kp y_cp y_sup y_sdp) y_kc (k0_pay4 y_c) (k0_pay5 y_su) y_sd)) (k0_pay170 z_su) (k0_pay171 z_sd) (k0_pay172 z_c z_su z_sd q_6) q_7 (k0_pay173 z_c q_7) (120#32) s_12 s_14)) (k0_pay205 (k0_pay175 (k0_pay8 y_dao y_wao)) (k0_pay192 s_13 s_15) (k0_pay193 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32)) (k0_pay194 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32))) =
      rowsB (both (ownE (onto (halfP (grid0.coords t) (kept (evenB (keys y_kp y_kc y_c y_su y_sd y_cp y_sup y_sdp))) (queries q_4 q_5 z_c z_su z_sd) s_8 s_10) (outs2 (outGrad y_dao y_wao))) (onto (halfP (grid0.coords t) (moved (evenB (keys y_kp y_kc y_c y_su y_sd y_cp y_sup y_sdp))) (queries q_4 q_5 z_c z_su z_sd) s_9 s_11) (outs2 (outGrad y_dao y_wao)))) (ownO (onto (halfP (grid0.coords t) (moved (oddB (keys y_kp y_kc y_c y_su y_sd y_cp y_sup y_sdp))) (queries q_6 q_7 z_c z_su z_sd) s_12 s_14) (outs3 (outGrad y_dao y_wao))) (onto (halfP (grid0.coords t) (kept (oddB (keys y_kp y_kc y_c y_su y_sd y_cp y_sup y_sdp))) (queries q_6 q_7 z_c z_su z_sd) s_13 s_15) (outs3 (outGrad y_dao y_wao))))) := by
  rfl

theorem piece_vc0 :
    k0_pay219 (k0_pay109 (k0_pay63 (k0_pay36 (k0_pay2 (grid0.coords t)) (k0_pay22 (k0_pay8 y_dao y_wao)) (k0_pay23 s_0 s_2) (k0_pay24 (k0_pay14 (k0_pay3 y_kp y_cp y_sup y_sdp) y_kc (k0_pay4 y_c) (k0_pay5 y_su) y_sd) z_c z_su z_sd q_0 q_1)) (k0_pay55 (k0_pay22 (k0_pay8 y_dao y_wao)) (k0_pay48 (k0_pay2 (grid0.coords t)) (k0_pay15 (k0_pay3 y_kp y_cp y_sup y_sdp) y_kc (k0_pay4 y_c) (k0_pay5 y_su) y_sd) (k0_pay21 z_c z_su z_sd q_0 q_1) s_1 s_3))) (k0_pay86 (k0_pay2 (grid0.coords t)) (k0_pay66 (k0_pay65 (k0_pay6 (k0_pay3 y_kp y_cp y_sup y_sdp) y_kc (k0_pay4 y_c) (k0_pay5 y_su) y_sd))) (k0_pay71 z_c z_su z_sd q_2 q_3) (k0_pay72 (k0_pay8 y_dao y_wao)) (k0_pay73 s_4) s_6) (k0_pay102 (k0_pay72 (k0_pay8 y_dao y_wao)) (k0_pay96 (k0_pay2 (grid0.coords t)) (k0_pay67 (k0_pay64 (k0_pay6 (k0_pay3 y_kp y_cp y_sup y_sdp) y_kc (k0_pay4 y_c) (k0_pay5 y_su) y_sd))) (k0_pay71 z_c z_su z_sd q_2 q_3) s_5 s_7))) =
      rowsB (both (ownE (onto (halfP (grid0.coords t) (kept (evenA (keys y_kp y_kc y_c y_su y_sd y_cp y_sup y_sdp))) (queries q_0 q_1 z_c z_su z_sd) s_0 s_2) (outs0 (outGrad y_dao y_wao))) (onto (halfP (grid0.coords t) (moved (evenA (keys y_kp y_kc y_c y_su y_sd y_cp y_sup y_sdp))) (queries q_0 q_1 z_c z_su z_sd) s_1 s_3) (outs0 (outGrad y_dao y_wao)))) (ownO (onto (halfP (grid0.coords t) (moved (oddA (keys y_kp y_kc y_c y_su y_sd y_cp y_sup y_sdp))) (queries q_2 q_3 z_c z_su z_sd) s_4 s_6) (outs1 (outGrad y_dao y_wao))) (onto (halfP (grid0.coords t) (kept (oddA (keys y_kp y_kc y_c y_su y_sd y_cp y_sup y_sdp))) (queries q_2 q_3 z_c z_su z_sd) s_5 s_7) (outs1 (outGrad y_dao y_wao))))) := by
  rfl

end Cert.AttnBwdIdeal.Hand

end
-- ==== Proof.AttnBwdOut3.lean ====
/- The values' gradient for the block before: what each grid point stores, what the result array holds. -/
module

public import proofs.«01_k».proof.Proof.AttnBwdTiles
public import proofs.«01_k».proof.Proof.AttnBwdPiecesV

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Idealize.ShloMosaic.Tactic Cert.AttnLaw
open Idealize.ShloMosaic.Pipeline (Dat)

variable (m : (ℓ : Loc nD τ sig) → Buf (Elt Ideal) ℓ)

set_option maxHeartbeats 4000000 in
theorem stores17A (c : Dev nD) (t : Fin cfg0.N) (h0 : t.val % 16 = 0) (h1 : ¬1 ≤ t.val) :
    (dats m 0 c).flushed 17 t = (cfg0.win 17).cut (grid0.coords t) (View.canon (tilesVA m c t)) := by
  refine (Value.flushed17_A m c t h0 h1).trans (congrArg ((cfg0.win 17).cut (grid0.coords t)) ?_)
  unfold out0_A_17
  rw [View.read_writes_eq_canon _ _ _ (cover0_A_17 c (grid0.coords t) _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, whole2, whole3, whole4, whole5, whole6, whole7, whole8, whole9, whole10, whole11, whole12, whole13]
  rw [piece_vp1, piece_vp0]
  rfl

set_option maxHeartbeats 4000000 in
theorem stores17B (c : Dev nD) (t : Fin cfg0.N) (h0 : ¬t.val % 16 = 0) (h1 : 1 ≤ t.val) :
    (dats m 0 c).flushed 17 t = (cfg0.win 17).cut (grid0.coords t) (View.canon (tilesVA m c t)) := by
  refine (Value.flushed17_B m c t h0 h1).trans (congrArg ((cfg0.win 17).cut (grid0.coords t)) ?_)
  unfold out0_B_17
  rw [View.read_writes_eq_canon _ _ _ (cover0_B_17 c (grid0.coords t) _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, whole2, whole3, whole4, whole5, whole6, whole7, whole8, whole9, whole10, whole11, whole12, whole13]
  rw [piece_vp1, piece_vp0]
  rfl

/-- What the result array holds. -/
def G17 (c : Dev nD) : Buf (Elt Ideal) ((c : Thread nD τ).loc main_v10_3) := fun i => rV m c (nxt (i 0)) (lo (i 0)) (i 1)

theorem flushed17_eq (c : Dev nD) (t : Fin cfg0.N) :
    (dats m 0 c).flushed 17 t = ((cfg0.win 17).blk t).view.read (Elt Ideal) (G17 m c) := by
  have h0 := at17_0 t
  have h1 := at17_1 t
  have ht := lt16 t
  have e : ∀ (r : Fin 128) (l : Fin 256), View.canon (tilesVA m c t) (ix2 r l) = ((cfg0.win 17).blk t).view.read (Elt Ideal) (G17 m c) (ix2 r l) := fun r l => by
    have e0 : ((cfg0.win 17).blk t).view.emb (ix2 r l) = ix2 ⟨((t.val + 15) % 16) * 128 + r.val, by omega⟩ l := by
      funext a
      apply Fin.ext
      match a with
      | ⟨0, _⟩ => show win0_17.index t 0 * 128 + 1 * r.val = ((t.val + 15) % 16) * 128 + r.val; rw [h0]; omega
      | ⟨1, _⟩ => show win0_17.index t 1 * 256 + 1 * l.val = l.val; rw [h1]; omega
    rw [View.read_apply, e0, tilesVA_apply]
    have e1 : nxt ⟨(t.val + 15) % 16 * 128 + r.val, by omega⟩ = bn t := Fin.ext (by show (((t.val + 15) % 16 * 128 + r.val) / 128 + 1) % 16 = t.val; omega)
    have e2 : lo ⟨(t.val + 15) % 16 * 128 + r.val, by omega⟩ = ⟨r.val, by omega⟩ := Fin.ext (by show ((t.val + 15) % 16 * 128 + r.val) % 128 = r.val; omega)
    show _ = rV m c (nxt ⟨(t.val + 15) % 16 * 128 + r.val, by omega⟩) (lo ⟨(t.val + 15) % 16 * 128 + r.val, by omega⟩) l
    rw [e1, e2]
  funext j
  obtain ⟨r, l, rfl⟩ : ∃ (r : Fin 128) (l : Fin 256), j = ix2 r l := ⟨j 0, j 1, eq_ix2 j⟩
  rw [← e]
  have hcut : ∀ X : Vec Ideal S128x256 .f32, (cfg0.win 17).cut (grid0.coords t) X (ix2 r l) = X (ix2 r l) := fun _ => rfl
  refine Eq.trans ?_ (hcut (View.canon (tilesVA m c t)))
  refine congrFun ?_ (ix2 r l)
  by_cases hA : t.val % 16 = 0
  · exact stores17A m c t hA (by omega)
  · exact stores17B m c t hA (by omega)

theorem mem_blk17 (t : Fin cfg0.N) (i : S2048x256.Idx) : i ∈ ((cfg0.win 17).blk t).view.set ↔ ∀ d,
    win0_17.index t d * S128x256.size d ≤ (i d).val
      ∧ (i d).val < win0_17.index t d * S128x256.size d + S128x256.size d := by
  show i ∈ ((View.whole main_v10_3).slice (win0_17.rect t)).set ↔ _
  rw [View.set_slice_whole, Rect.mem_set_unit]

theorem cover17 (i : S2048x256.Idx) : ∃ t : Fin cfg0.N, (cfg0.win 17).flush t = true ∧ i ∈ ((cfg0.win 17).blk t).view.set := by
  have h0 : (i 0).val < 2048 := (i 0).isLt
  have h1 : (i 1).val < 256 := (i 1).isLt
  have hN : (((i 0).val / 128 + 1) % 16) < cfg0.N := by
    show _ < grid0.N
    rw [N_0]; omega
  refine ⟨⟨_, hN⟩, flush0_17 _, (mem_blk17 _ i).2 fun d => ?_⟩
  have e0 := at17_0 ⟨(((i 0).val / 128 + 1) % 16), hN⟩
  have e1 := at17_1 ⟨(((i 0).val / 128 + 1) % 16), hN⟩
  match d with
  | ⟨0, _⟩ =>
    show win0_17.index _ 0 * 128 ≤ (i 0).val ∧ (i 0).val < win0_17.index _ 0 * 128 + 128
    rw [e0]; dsimp only; omega
  | ⟨1, _⟩ =>
    show win0_17.index _ 1 * 256 ≤ (i 1).val ∧ (i 1).val < win0_17.index _ 1 * 256 + 256
    rw [e1]; dsimp only; omega

end Cert.AttnBwdIdeal.Hand

end
-- ==== Proof.AttnBwdOut4.lean ====
/- The values' gradient for the own block: what each grid point stores, what the result array holds. -/
module

public import proofs.«01_k».proof.Proof.AttnBwdTiles
public import proofs.«01_k».proof.Proof.AttnBwdPiecesV

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Idealize.ShloMosaic.Tactic Cert.AttnLaw
open Idealize.ShloMosaic.Pipeline (Dat)

variable (m : (ℓ : Loc nD τ sig) → Buf (Elt Ideal) ℓ)

set_option maxHeartbeats 4000000 in
theorem stores18A (c : Dev nD) (t : Fin cfg0.N) (h0 : t.val % 16 = 0) (h1 : ¬1 ≤ t.val) :
    (dats m 0 c).flushed 18 t = (cfg0.win 18).cut (grid0.coords t) (View.canon (tilesVB m c t)) := by
  refine (Value.flushed18_A m c t h0 h1).trans (congrArg ((cfg0.win 18).cut (grid0.coords t)) ?_)
  unfold out0_A_18
  rw [View.read_writes_eq_canon _ _ _ (cover0_A_18 c (grid0.coords t) _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, whole2, whole3, whole4, whole5, whole6, whole7, whole8, whole9, whole10, whole11, whole12, whole13]
  rw [piece_vc1, piece_vc0]
  rfl

set_option maxHeartbeats 4000000 in
theorem stores18B (c : Dev nD) (t : Fin cfg0.N) (h0 : ¬t.val % 16 = 0) (h1 : 1 ≤ t.val) :
    (dats m 0 c).flushed 18 t = (cfg0.win 18).cut (grid0.coords t) (View.canon (tilesVB m c t)) := by
  refine (Value.flushed18_B m c t h0 h1).trans (congrArg ((cfg0.win 18).cut (grid0.coords t)) ?_)
  unfold out0_B_18
  rw [View.read_writes_eq_canon _ _ _ (cover0_B_18 c (grid0.coords t) _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, whole2, whole3, whole4, whole5, whole6, whole7, whole8, whole9, whole10, whole11, whole12, whole13]
  rw [piece_vc1, piece_vc0]
  rfl

/-- What the result array holds. -/
def G18 (c : Dev nD) : Buf (Elt Ideal) ((c : Thread nD τ).loc main_v10_4) := fun i => rV m c (own (i 0)) (hi (i 0)) (i 1)

theorem flushed18_eq (c : Dev nD) (t : Fin cfg0.N) :
    (dats m 0 c).flushed 18 t = ((cfg0.win 18).blk t).view.read (Elt Ideal) (G18 m c) := by
  have h0 := at18_0 t
  have h1 := at18_1 t
  have ht := lt16 t
  have e : ∀ (r : Fin 128) (l : Fin 256), View.canon (tilesVB m c t) (ix2 r l) = ((cfg0.win 18).blk t).view.read (Elt Ideal) (G18 m c) (ix2 r l) := fun r l => by
    have e0 : ((cfg0.win 18).blk t).view.emb (ix2 r l) = ix2 ⟨t.val * 128 + r.val, by omega⟩ l := by
      funext a
      apply Fin.ext
      match a with
      | ⟨0, _⟩ => show win0_18.index t 0 * 128 + 1 * r.val = t.val * 128 + r.val; rw [h0]; omega
      | ⟨1, _⟩ => show win0_18.index t 1 * 256 + 1 * l.val = l.val; rw [h1]; omega
    rw [View.read_apply, e0, tilesVB_apply]
    have e1 : own ⟨t.val * 128 + r.val, by omega⟩ = bn t := Fin.ext (by show (t.val * 128 + r.val) / 128 = t.val; omega)
    have e2 : hi ⟨t.val * 128 + r.val, by omega⟩ = ⟨128 + r.val, by omega⟩ := Fin.ext (by show 128 + (t.val * 128 + r.val) % 128 = 128 + r.val; omega)
    show _ = rV m c (own ⟨t.val * 128 + r.val, by omega⟩) (hi ⟨t.val * 128 + r.val, by omega⟩) l
    rw [e1, e2]
  funext j
  obtain ⟨r, l, rfl⟩ : ∃ (r : Fin 128) (l : Fin 256), j = ix2 r l := ⟨j 0, j 1, eq_ix2 j⟩
  rw [← e]
  have hcut : ∀ X : Vec Ideal S128x256 .f32, (cfg0.win 18).cut (grid0.coords t) X (ix2 r l) = X (ix2 r l) := fun _ => rfl
  refine Eq.trans ?_ (hcut (View.canon (tilesVB m c t)))
  refine congrFun ?_ (ix2 r l)
  by_cases hA : t.val % 16 = 0
  · exact stores18A m c t hA (by omega)
  · exact stores18B m c t hA (by omega)

theorem mem_blk18 (t : Fin cfg0.N) (i : S2048x256.Idx) : i ∈ ((cfg0.win 18).blk t).view.set ↔ ∀ d,
    win0_18.index t d * S128x256.size d ≤ (i d).val
      ∧ (i d).val < win0_18.index t d * S128x256.size d + S128x256.size d := by
  show i ∈ ((View.whole main_v10_4).slice (win0_18.rect t)).set ↔ _
  rw [View.set_slice_whole, Rect.mem_set_unit]

theorem cover18 (i : S2048x256.Idx) : ∃ t : Fin cfg0.N, (cfg0.win 18).flush t = true ∧ i ∈ ((cfg0.win 18).blk t).view.set := by
  have h0 : (i 0).val < 2048 := (i 0).isLt
  have h1 : (i 1).val < 256 := (i 1).isLt
  have hN : ((i 0).val / 128) < cfg0.N := by
    show _ < grid0.N
    rw [N_0]; omega
  refine ⟨⟨_, hN⟩, flush0_18 _, (mem_blk18 _ i).2 fun d => ?_⟩
  have e0 := at18_0 ⟨((i 0).val / 128), hN⟩
  have e1 := at18_1 ⟨((i 0).val / 128), hN⟩
  match d with
  | ⟨0, _⟩ =>
    show win0_18.index _ 0 * 128 ≤ (i 0).val ∧ (i 0).val < win0_18.index _ 0 * 128 + 128
    rw [e0]; dsimp only; omega
  | ⟨1, _⟩ =>
    show win0_18.index _ 1 * 256 ≤ (i 1).val ∧ (i 1).val < win0_18.index _ 1 * 256 + 256
    rw [e1]; dsimp only; omega

end Cert.AttnBwdIdeal.Hand

end
-- ==== Proof.AttnBwdPiecesZ.lean ====
/- The pieces that one block of the backward attention stores, written with the vectors of a group of heads. -/
module

public import proofs.«01_k».proof.Proof.AttnBwdBlock

@[expose] public section

set_option maxRecDepth 16384

noncomputable section

namespace Cert.AttnBwdIdeal.Hand

open Cert.AttnBwdIdeal Cert.AttnBwdIdeal.Gen Idealize.ShloMosaic Idealize.ShloMosaic.TcCoe Cert.AttnLaw

variable (t : Fin cfg0.N)
  (y_kp y_kc y_vp y_vc y_c y_su y_sd y_cp y_sup y_sdp : Vec Ideal S128x256 .f32)
  (z_c z_su z_sd q_0 q_1 q_2 q_3 q_4 q_5 q_6 q_7 : Vec Ideal S128x128 .f32)
  (s_0 s_1 s_2 s_3 s_4 s_5 s_6 s_7 s_8 s_9 s_10 s_11 s_12 s_13 s_14 s_15 : Ideal .f32)
  (y_dao : Vec Ideal S128x1024 .bf16)
  (y_wao : Vec Ideal S1024x1024 .bf16)

theorem piece_z0 :
    k0_pay209 (iota Kind.tc S1x128 32 [1] iota_S1x128_d1_w32) (k0_pay207 (iota Kind.tc S1x128 32 [1] iota_S1x128_d1_w32) (k0_pay168 (k0_pay7 y_vp y_vc)) (k0_pay175 (k0_pay8 y_dao y_wao)) (k0_pay191 (iota Kind.tc S1x128 32 [1] iota_S1x128_d1_w32) (k0_pay157 (k0_pay154 (iota Kind.tc S1x128 32 [1] iota_S1x128_d1_w32) (k0_pay116 (k0_pay7 y_vp y_vc)) (k0_pay123 (k0_pay8 y_dao y_wao)) (k0_pay139 (iota Kind.tc S1x128 32 [1] iota_S1x128_d1_w32) (k0_pay103 (iota Kind.tc S1x128 32 [1] iota_S1x128_d1_w32) (k0_pay70 (k0_pay7 y_vp y_vc)) (k0_pay72 (k0_pay8 y_dao y_wao)) (k0_pay89 (iota Kind.tc S1x128 32 [1] iota_S1x128_d1_w32) (k0_pay56 (iota Kind.tc S1x128 32 [1] iota_S1x128_d1_w32) (k0_pay41 (iota Kind.tc S1x128 32 [1] iota_S1x128_d1_w32) k0_pay9 (k0_pay37 (k0_pay2 (grid0.coords t)) (k0_pay19 (k0_pay16 y_vp y_vc) k0_pay17) (k0_pay22 (k0_pay8 y_dao y_wao)) (k0_pay23 s_0 s_2) (k0_pay24 (k0_pay14 (k0_pay3 y_kp y_cp y_sup y_sdp) y_kc (k0_pay4 y_c) (k0_pay5 y_su) y_sd) z_c z_su z_sd q_0 q_1)) (k0_pay38 (iota Kind.tc S1x128 32 [1] iota_S1x128_d1_w32)) (k0_pay39 (k0_pay2 (grid0.coords t)) (k0_pay19 (k0_pay16 y_vp y_vc) k0_pay17) (k0_pay22 (k0_pay8 y_dao y_wao)) (k0_pay23 s_0 s_2) (k0_pay24 (k0_pay14 (k0_pay3 y_kp y_cp y_sup y_sdp) y_kc (k0_pay4 y_c) (k0_pay5 y_su) y_sd) z_c z_su z_sd q_0 q_1)) k0_pay40) (k0_pay49 (k0_pay2 (grid0.coords t)) (k0_pay15 (k0_pay3 y_kp y_cp y_sup y_sdp) y_kc (k0_pay4 y_c) (k0_pay5 y_su) y_sd) (k0_pay21 z_c z_su z_sd q_0 q_1) s_1 s_3) (k0_pay51 (k0_pay2 (grid0.coords t)) (k0_pay15 (k0_pay3 y_kp y_cp y_sup y_sdp) y_kc (k0_pay4 y_c) (k0_pay5 y_su) y_sd) (k0_pay20 (k0_pay16 y_vp y_vc) k0_pay17) (k0_pay21 z_c z_su z_sd q_0 q_1) (k0_pay22 (k0_pay8 y_dao y_wao)) s_1 s_3)) (k0_pay87 (k0_pay2 (grid0.coords t)) (k0_pay66 (k0_pay65 (k0_pay6 (k0_pay3 y_kp y_cp y_sup y_sdp) y_kc (k0_pay4 y_c) (k0_pay5 y_su) y_sd))) (k0_pay69 (k0_pay7 y_vp y_vc)) (k0_pay71 z_c z_su z_sd q_2 q_3) (k0_pay72 (k0_pay8 y_dao y_wao)) (k0_pay73 s_4) s_6) (k0_pay88 (k0_pay2 (grid0.coords t)) (k0_pay66 (k0_pay65 (k0_pay6 (k0_pay3 y_kp y_cp y_sup y_sdp) y_kc (k0_pay4 y_c) (k0_pay5 y_su) y_sd))) (k0_pay69 (k0_pay7 y_vp y_vc)) (k0_pay71 z_c z_su z_sd q_2 q_3) (k0_pay72 (k0_pay8 y_dao y_wao)) (k0_pay73 s_4) s_6)) (k0_pay94 (k0_pay2 (grid0.coords t)) (k0_pay67 (k0_pay64 (k0_pay6 (k0_pay3 y_kp y_cp y_sup y_sdp) y_kc (k0_pay4 y_c) (k0_pay5 y_su) y_sd))) (k0_pay71 z_c z_su z_sd q_2 q_3) s_5 s_7) (k0_pay95 (k0_pay2 (grid0.coords t)) (k0_pay67 (k0_pay64 (k0_pay6 (k0_pay3 y_kp y_cp y_sup y_sdp) y_kc (k0_pay4 y_c) (k0_pay5 y_su) y_sd))) (k0_pay71 z_c z_su z_sd q_2 q_3) s_5 s_7) (k0_pay96 (k0_pay2 (grid0.coords t)) (k0_pay67 (k0_pay64 (k0_pay6 (k0_pay3 y_kp y_cp y_sup y_sdp) y_kc (k0_pay4 y_c) (k0_pay5 y_su) y_sd))) (k0_pay71 z_c z_su z_sd q_2 q_3) s_5 s_7)) (k0_pay131 (k0_pay2 (grid0.coords t)) (k0_pay112 (k0_pay110 (k0_pay6 (k0_pay3 y_kp y_cp y_sup y_sdp) y_kc (k0_pay4 y_c) (k0_pay5 y_su) y_sd))) (k0_pay120 z_c z_su z_sd q_4) (k0_pay121 z_c z_su z_sd q_5) s_8 s_10) (k0_pay133 (k0_pay2 (grid0.coords t)) (k0_pay8 y_dao y_wao) (k0_pay112 (k0_pay110 (k0_pay6 (k0_pay3 y_kp y_cp y_sup y_sdp) y_kc (k0_pay4 y_c) (k0_pay5 y_su) y_sd))) (k0_pay115 (k0_pay7 y_vp y_vc)) (k0_pay120 z_c z_su z_sd q_4) (k0_pay121 z_c z_su z_sd q_5) s_8 s_10)) (k0_pay143 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11) (k0_pay144 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11)) (k0_pay155 (iota Kind.tc S1x128 32 [1] iota_S1x128_d1_w32)) (FloatOps.ofBits FTy.f32 0#32) (k0_pay156 (k0_pay116 (k0_pay7 y_vp y_vc)) (k0_pay123 (k0_pay8 y_dao y_wao)) (k0_pay143 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11) (k0_pay144 (k0_pay2 (grid0.coords t)) (k0_pay113 (k0_pay110 (k0_pay6 (k0_pay3 y_kp y_cp y_sup y_sdp) y_kc (k0_pay4 y_c) (k0_pay5 y_su) y_sd))) (k0_pay122 (k0_pay120 z_c z_su z_sd q_4) (k0_pay121 z_c z_su z_sd q_5)) s_9 s_11))) (k0_pay183 (k0_pay2 (grid0.coords t)) (k0_pay164 (k0_pay6 (k0_pay3 y_kp y_cp y_sup y_sdp) y_kc (k0_pay4 y_c) (k0_pay5 y_su) y_sd)) (k0_pay170 z_su) (k0_pay171 z_sd) (k0_pay172 z_c z_su z_sd q_6) q_7 (k0_pay173 z_c q_7) (120#32) s_12 s_14) (k0_pay185 (k0_pay2 (grid0.coords t)) (k0_pay8 y_dao y_wao) (k0_pay164 (k0_pay6 (k0_pay3 y_kp y_cp y_sup y_sdp) y_kc (k0_pay4 y_c) (k0_pay5 y_su) y_sd)) (k0_pay167 (k0_pay7 y_vp y_vc)) (k0_pay170 z_su) (k0_pay171 z_sd) (k0_pay172 z_c z_su z_sd q_6) q_7 (k0_pay173 z_c q_7) (120#32) s_12 s_14)) (k0_pay192 s_13 s_15) (k0_pay193 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32)) (k0_pay194 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32))) (k0_pay208 (k0_pay168 (k0_pay7 y_vp y_vc)) (k0_pay175 (k0_pay8 y_dao y_wao)) (k0_pay192 s_13 s_15) (k0_pay193 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32)) (k0_pay194 (k0_pay2 (grid0.coords t)) (k0_pay165 (k0_pay6 (k0_pay3 y_kp y_cp y_sup y_sdp) y_kc (k0_pay4 y_c) (k0_pay5 y_su) y_sd)) (k0_pay174 (k0_pay170 z_su) (k0_pay171 z_sd) (k0_pay172 z_c z_su z_sd q_6) q_7 (k0_pay173 z_c q_7) 120#32))) (FloatOps.ofBits FTy.f32 0#32) =
      (four 12 14 13 15 (four 8 10 9 11 (four 4 6 5 7 (four 0 2 1 3 (broadcast S1x128 (Scalar.ofBits .f32 0x00000000#32)) (halfZ (grid0.coords t) (kept (evenA (keys y_kp y_kc y_c y_su y_sd y_cp y_sup y_sdp))) (kept (evenA (band y_vp y_vc))) (queries q_0 q_1 z_c z_su z_sd) (outs0 (outGrad y_dao y_wao)) s_0 s_2) (halfZ (grid0.coords t) (moved (evenA (keys y_kp y_kc y_c y_su y_sd y_cp y_sup y_sdp))) (moved (evenA (band y_vp y_vc))) (queries q_0 q_1 z_c z_su z_sd) (outs0 (outGrad y_dao y_wao)) s_1 s_3)) (halfZ (grid0.coords t) (moved (oddA (keys y_kp y_kc y_c y_su y_sd y_cp y_sup y_sdp))) (moved (oddA (band y_vp y_vc))) (queries q_2 q_3 z_c z_su z_sd) (outs1 (outGrad y_dao y_wao)) s_4 s_6) (halfZ (grid0.coords t) (kept (oddA (keys y_kp y_kc y_c y_su y_sd y_cp y_sup y_sdp))) (kept (oddA (band y_vp y_vc))) (queries q_2 q_3 z_c z_su z_sd) (outs1 (outGrad y_dao y_wao)) s_5 s_7)) (halfZ (grid0.coords t) (kept (evenB (keys y_kp y_kc y_c y_su y_sd y_cp y_sup y_sdp))) (kept (evenB (band y_vp y_vc))) (queries q_4 q_5 z_c z_su z_sd) (outs2 (outGrad y_dao y_wao)) s_8 s_10) (halfZ (grid0.coords t) (moved (evenB (keys y_kp y_kc y_c y_su y_sd y_cp y_sup y_sdp))) (moved (evenB (band y_vp y_vc))) (queries q_4 q_5 z_c z_su z_sd) (outs2 (outGrad y_dao y_wao)) s_9 s_11)) (halfZ (grid0.coords t) (moved (oddB (keys y_kp y_kc y_c y_su y_sd y_cp y_sup y_sdp))) (moved (oddB (band y_vp y_vc))) (queries q_6 q_7 z_c z_su z_sd) (outs3 (outGrad y_dao y_wao)) s_12 s_14) (halfZ (grid0.coords t) (kept (oddB (keys y_kp y_kc y_c y_su y_sd y_cp y_sup y_sdp))) (kept (oddB (band y_vp y_vc))) (queries q_6 q_7 z_c z_su z_sd) (outs3 (outGrad y_dao y_wao)) s_13 s_15)) := by
  rfl

end Cert.AttnBwdIdeal.Hand

end
-- ==== Proof.AttnBwdOut5.lean ====
/- The sinks' gradient: what each grid point adds, what the result array holds. -/
module

public import proofs.«01_k».proof.Proof.AttnBwdTiles
public import proofs.«01_k».proof.Proof.AttnBwdPiecesZ

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem Idealize.ShloMosaic.Tactic Cert.AttnLaw
open Idealize.ShloMosaic.Pipeline (Dat)

variable (m : (ℓ : Loc nD τ sig) → Buf (Elt Ideal) ℓ)

/-- What one block adds to the sinks' gradient. -/
def addZ (c : Dev nD) (t : Fin cfg0.N) : FVec Ideal S1x128 .f32 := (four 12 14 13 15 (four 8 10 9 11 (four 4 6 5 7 (four 0 2 1 3 (broadcast S1x128 (Scalar.ofBits .f32 0x00000000#32))
    (halfZ (grid0.coords t) (K00 m c t) (V00 m c t) (Q0 m c t) (Y0 m c t) (ls0 m c t) (ls2 m c t))
    (halfZ (grid0.coords t) (K01 m c t) (V01 m c t) (Q0 m c t) (Y0 m c t) (ls1 m c t) (ls3 m c t)))
    (halfZ (grid0.coords t) (K10 m c t) (V10 m c t) (Q1 m c t) (Y1 m c t) (ls4 m c t) (ls6 m c t))
    (halfZ (grid0.coords t) (K11 m c t) (V11 m c t) (Q1 m c t) (Y1 m c t) (ls5 m c t) (ls7 m c t)))
    (halfZ (grid0.coords t) (K20 m c t) (V20 m c t) (Q2 m c t) (Y2 m c t) (ls8 m c t) (ls10 m c t))
    (halfZ (grid0.coords t) (K21 m c t) (V21 m c t) (Q2 m c t) (Y2 m c t) (ls9 m c t) (ls11 m c t)))
    (halfZ (grid0.coords t) (K30 m c t) (V30 m c t) (Q3 m c t) (Y3 m c t) (ls12 m c t) (ls14 m c t))
    (halfZ (grid0.coords t) (K31 m c t) (V31 m c t) (Q3 m c t) (Y3 m c t) (ls13 m c t) (ls15 m c t)))

/-- A block's sinks' gradient, lane by lane. -/
def oneZ (c : Dev nD) (n : Fin 16) (l : Fin 128) : EReal :=
  if h : l.val < 16 then -∑ q : Fin 128, dsnk (fQ m c) (fK m c) (fV m c) (fY m c) (fZ m c) n ⟨l.val, h⟩ q else 0

theorem addZ_apply (c : Dev nD) (t : Fin cfg0.N) (l : Fin 128) : addZ m c t (ix2 0 l) = oneZ m c (bn t) l := by
  unfold addZ
  rw [(head3 m c t).four 12 14 13 15 rfl rfl rfl rfl, (head2 m c t).four 8 10 9 11 rfl rfl rfl rfl,
    (head1 m c t).four 4 6 5 7 rfl rfl rfl rfl, (head0 m c t).four 0 2 1 3 rfl rfl rfl rfl]
  have hb : (broadcast S1x128 (Scalar.ofBits (F := Ideal) .f32 0x00000000#32) : FVec Ideal S1x128 .f32) (ix2 0 l) = 0 := by
    pointwise
  rw [hb]
  unfold oneZ
  have key : ∀ (v : EReal) (a0 a1 a2 a3 : Prop) [Decidable a0] [Decidable a1] [Decidable a2] [Decidable a3] (f0 : a0 → EReal) (f1 : a1 → EReal) (f2 : a2 → EReal) (f3 : a3 → EReal),
      (∀ h, f0 h = v) → (∀ h, f1 h = v) → (∀ h, f2 h = v) → (∀ h, f3 h = v) →
      (a0 ∧ ¬a1 ∧ ¬a2 ∧ ¬a3 ∨ ¬a0 ∧ a1 ∧ ¬a2 ∧ ¬a3 ∨ ¬a0 ∧ ¬a1 ∧ a2 ∧ ¬a3 ∨ ¬a0 ∧ ¬a1 ∧ ¬a2 ∧ a3) →
      0 + dite a0 f0 (fun _ => 0) + dite a1 f1 (fun _ => 0) + dite a2 f2 (fun _ => 0) + dite a3 f3 (fun _ => 0) = v := by
    intro v a0 a1 a2 a3 _ _ _ _ f0 f1 f2 f3 g0 g1 g2 g3 hc
    rcases hc with ⟨b0, b1, b2, b3⟩ | ⟨b0, b1, b2, b3⟩ | ⟨b0, b1, b2, b3⟩ | ⟨b0, b1, b2, b3⟩
    · simp only [dif_pos b0, dif_neg b1, dif_neg b2, dif_neg b3, g0, zero_add, add_zero]
    · simp only [dif_neg b0, dif_pos b1, dif_neg b2, dif_neg b3, g1, zero_add, add_zero]
    · simp only [dif_neg b0, dif_neg b1, dif_pos b2, dif_neg b3, g2, zero_add, add_zero]
    · simp only [dif_neg b0, dif_neg b1, dif_neg b2, dif_pos b3, g3, zero_add, add_zero]
  by_cases h : l.val < 16
  · rw [dif_pos h]
    refine key _ _ _ _ _ _ _ _ _ (fun _ => rfl) (fun _ => rfl) (fun _ => rfl) (fun _ => rfl) ?_
    show l.val / 4 = 0 ∧ ¬l.val / 4 = 1 ∧ ¬l.val / 4 = 2 ∧ ¬l.val / 4 = 3 ∨ ¬l.val / 4 = 0 ∧ l.val / 4 = 1 ∧ ¬l.val / 4 = 2 ∧ ¬l.val / 4 = 3
      ∨ ¬l.val / 4 = 0 ∧ ¬l.val / 4 = 1 ∧ l.val / 4 = 2 ∧ ¬l.val / 4 = 3 ∨ ¬l.val / 4 = 0 ∧ ¬l.val / 4 = 1 ∧ ¬l.val / 4 = 2 ∧ l.val / 4 = 3
    omega
  · have n0 : ¬ l.val / 4 = (0 : Fin 4).val := by show ¬ l.val / 4 = 0; omega
    have n1 : ¬ l.val / 4 = (1 : Fin 4).val := by show ¬ l.val / 4 = 1; omega
    have n2 : ¬ l.val / 4 = (2 : Fin 4).val := by show ¬ l.val / 4 = 2; omega
    have n3 : ¬ l.val / 4 = (3 : Fin 4).val := by show ¬ l.val / 4 = 3; omega
    rw [dif_neg h]
    simp only [dif_neg n0, dif_neg n1, dif_neg n2, dif_neg n3, add_zero]

set_option maxHeartbeats 4000000 in
theorem stores19A (c : Dev nD) (t : Fin cfg0.N) (h0 : t.val % 16 = 0) (h1 : ¬1 ≤ t.val) :
    out0_A_19 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) ((hcond0_0 t).mpr h0) (fun h => h1 ((hcond0_1 t).mp h)) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) = addZ m c t := by
  unfold out0_A_19
  rw [View.read_writes_eq_canon _ _ _ (cover0_A_19 c (grid0.coords t) _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_A
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_19 t).read_unread, whole2, whole3, whole4, whole5, whole6, whole7, whole8, whole9, whole10, whole11, whole12, whole13]
  rw [View.canon_unit_zero hz, piece_z0]
  rfl

set_option maxHeartbeats 4000000 in
theorem stores19B (c : Dev nD) (t : Fin cfg0.N) (h0 : ¬t.val % 16 = 0) (h1 : 1 ≤ t.val) :
    out0_B_19 c (grid0.coords t) _ (hs0_0 t) _ (hs0_1 t) _ (hs0_2 t) _ (hs0_3 t) _ (hs0_4 t) _ (hs0_5 t) _ (hs0_6 t) _ (hs0_7 t) _ (hs0_8 t) _ (hs0_9 t) _ (hs0_10 t) _ (hs0_11 t) _ (hs0_12 t) _ (hs0_13 t) _ (hs0_14 t) _ (hs0_15 t) _ (hs0_16 t) _ (hs0_17 t) _ (hs0_18 t) _ (hs0_19 t) (fun h => h0 ((hcond0_0 t).mp h)) ((hcond0_1 t).mpr h1) (iblk m c 0 t) (X0_1 m c t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (outsAt0 m c (t.val - 1) (Nat.lt_of_le_of_lt (Nat.sub_le _ _) t.isLt)).2.2.2.2.2 = k0_pay1 (addZ m c t) ((outsAt0 m c (t.val - 1) (Nat.lt_of_le_of_lt (Nat.sub_le _ _) t.isLt)).2.2.2.2.2) := by
  unfold out0_B_19
  rw [View.read_writes_eq_canon _ _ _ (cover0_B_19 c (grid0.coords t) _ _ _ _ _ _ _ _ _ _ _ _ _ _ _ _ _ _ _ _ _ _ _ _ _ _ _ _ _ _ _ _ _ _ _ _ _ _ _ _ _ _ _ _ _ _ _ _ _ _ _ _ _ _ _ _ _)]
  unfold kernelRun0_B
  dsimp only
  sl_unfold_words
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_19 t).read_unread, whole2, whole3, whole4, whole5, whole6, whole7, whole8, whole9, whole10, whole11, whole12, whole13]
  rw [View.canon_unit_zero hz, piece_z0]
  exact congrArg (k0_pay1 (addZ m c t)) (View.ld_unit_zero hz _ _)

theorem pay1_apply (x y : FVec Ideal S1x128 .f32) (l : Fin 128) : k0_pay1 x y (ix2 0 l) = y (ix2 0 l) + x (ix2 0 l) := by
  unfold k0_pay1
  pointwise

/-- After a point the accumulator holds the sum over the blocks up to it. -/
theorem sum19 (c : Dev nD) (n : Nat) (hn : n < cfg0.N) (l : Fin 128) :
    ((outsAt0 m c n hn).2.2.2.2.2 : Vec Ideal S1x128 .f32) (ix2 0 l)
      = ∑ i ∈ Finset.range (n + 1), if h : i < 16 then oneZ m c ⟨i, h⟩ l else 0 := by
  induction n with
  | zero =>
    rw [show outsAt0 m c 0 hn = _ from outsAt0_A m c ⟨0, hn⟩ (by rfl) (by simp)]
    dsimp only
    rw [stores19A m c ⟨0, hn⟩ (by rfl) (by simp), addZ_apply, Finset.sum_range_one, dif_pos (by omega)]
    rfl
  | succ n ih =>
    have hb : n + 1 < 16 := lt_of_lt_of_eq hn N_0
    rw [show outsAt0 m c (n + 1) hn = _ from outsAt0_B m c ⟨n + 1, hn⟩ (by show ¬ (n + 1) % 16 = 0; omega) (by show 1 ≤ n + 1; omega)]
    dsimp only
    rw [stores19B m c ⟨n + 1, hn⟩ (by show ¬ (n + 1) % 16 = 0; omega) (by show 1 ≤ n + 1; omega)]
    refine (pay1_apply _ _ l).trans ?_
    rw [addZ_apply, Finset.sum_range_succ _ (n + 1)]
    refine congrArg₂ (· + ·) (ih (by omega)) ?_
    rw [dif_pos hb]
    rfl

/-- What the result array holds. -/
def G19 (c : Dev nD) : Buf (Elt Ideal) ((c : Thread nD τ).loc main_v10_5) :=
  fun i => outZ (pr m c) (cs m c) (sn m c) (sk m c) (da m c) (wo m c) (i 1)

theorem flushed19_eq (c : Dev nD) (t : Fin cfg0.N) (hf : (cfg0.win 19).flush t = true) :
    (dats m 0 c).flushed 19 t = ((cfg0.win 19).blk t).view.read (Elt Ideal) (G19 m c) := by
  have h0 := at19_0 t
  have h1 := at19_1 t
  have ht : t.val = 15 := by
    have h1 := (flush0_19 t).1 hf
    have h2 := lt16 t
    omega
  rw [Value.flushed19]
  funext j
  obtain ⟨r, l, rfl⟩ : ∃ (r : Fin 1) (l : Fin 128), j = ix2 r l := ⟨j 0, j 1, eq_ix2 j⟩
  obtain rfl : r = 0 := Subsingleton.elim _ _
  have e0 : ((cfg0.win 19).blk t).view.emb (ix2 0 l) = ix2 0 l := by
    funext a
    apply Fin.ext
    match a with
    | ⟨0, _⟩ => show win0_19.index t 0 * 1 + 1 * 0 = 0; rw [h0]
    | ⟨1, _⟩ => show win0_19.index t 1 * 128 + 1 * l.val = l.val; rw [h1]; omega
  rw [View.read_apply, e0]
  show ((outsAt0 m c t.val t.isLt).2.2.2.2.2 : Vec Ideal S1x128 .f32) (ix2 0 l) = outZ (pr m c) (cs m c) (sn m c) (sk m c) (da m c) (wo m c) l
  rw [sum19, ht]
  unfold outZ gZ
  rw [Finset.sum_range (n := 16)]
  by_cases hl : l.val < 16
  · rw [dif_pos hl]
    refine Finset.sum_congr rfl fun n _ => ?_
    rw [dif_pos n.isLt]
    unfold oneZ
    rw [dif_pos hl]
    rfl
  · rw [dif_neg hl]
    refine Finset.sum_eq_zero fun n _ => ?_
    rw [dif_pos n.isLt]
    unfold oneZ
    rw [dif_neg hl]

theorem mem_blk19 (t : Fin cfg0.N) (i : S1x128.Idx) : i ∈ ((cfg0.win 19).blk t).view.set ↔ ∀ d,
    win0_19.index t d * S1x128.size d ≤ (i d).val
      ∧ (i d).val < win0_19.index t d * S1x128.size d + S1x128.size d := by
  show i ∈ ((View.whole main_v10_5).slice (win0_19.rect t)).set ↔ _
  rw [View.set_slice_whole, Rect.mem_set_unit]

theorem cover19 (i : S1x128.Idx) : ∃ t : Fin cfg0.N, (cfg0.win 19).flush t = true ∧ i ∈ ((cfg0.win 19).blk t).view.set := by
  have h0 : (i 0).val < 1 := (i 0).isLt
  have h1 : (i 1).val < 128 := (i 1).isLt
  have hN : 15 < cfg0.N := by
    show _ < grid0.N
    rw [N_0]; omega
  refine ⟨⟨15, hN⟩, (flush0_19 _).2 (by rfl), (mem_blk19 _ i).2 fun d => ?_⟩
  have e0 := at19_0 ⟨15, hN⟩
  have e1 := at19_1 ⟨15, hN⟩
  match d with
  | ⟨0, _⟩ =>
    show win0_19.index _ 0 * 1 ≤ (i 0).val ∧ (i 0).val < win0_19.index _ 0 * 1 + 1
    rw [e0]; omega
  | ⟨1, _⟩ =>
    show win0_19.index _ 1 * 128 ≤ (i 1).val ∧ (i 1).val < win0_19.index _ 1 * 128 + 128
    rw [e1]; omega

end Cert.AttnBwdIdeal.Hand

end
-- ==== Proof.AttnBwdValue.lean ====
/- The gradient of banded attention: what the call leaves in its result arrays. -/
module

public import proofs.«01_k».proof.Proof.AttnBwdOut0
public import proofs.«01_k».proof.Proof.AttnBwdOut1
public import proofs.«01_k».proof.Proof.AttnBwdOut2
public import proofs.«01_k».proof.Proof.AttnBwdOut3
public import proofs.«01_k».proof.Proof.AttnBwdOut4
public import proofs.«01_k».proof.Proof.AttnBwdOut5

@[expose] public section

set_option maxRecDepth 16384

noncomputable section

namespace Cert.AttnBwdIdeal.Hand

open Cert.AttnBwdIdeal Cert.AttnBwdIdeal.Gen Idealize.ShloMosaic Idealize.ShloMosaic.TcCoe Idealize.SL.Sem
open Idealize.ShloMosaic.Pipeline (Dat)

variable (m : (ℓ : Loc nD τ sig) → Buf (Elt Ideal) ℓ)

/-- What the call leaves in its result arrays, over the whole grid. -/
theorem run (ρ : Dev nD → PrngReg) : θ_run defs (onTc (τ := τ) (main (F := Ideal))) ⟨m, fun _ => 0, ρ⟩ fun r => ∀ c : Dev nD,
      r.2.mem ((c : Thread nD τ).loc main_v10_0) = G14 m c
      ∧ r.2.mem ((c : Thread nD τ).loc main_v10_1) = G15 m c
      ∧ r.2.mem ((c : Thread nD τ).loc main_v10_2) = G16 m c
      ∧ r.2.mem ((c : Thread nD τ).loc main_v10_3) = G17 m c
      ∧ r.2.mem ((c : Thread nD τ).loc main_v10_4) = G18 m c
      ∧ r.2.mem ((c : Thread nD τ).loc main_v10_5) = G19 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c =>
    ⟨(h c).1.trans (Dat.arrAt_eq_of_cover (dats m 0 c) 14 (G14 m c) (fun t _ => flushed14_eq m c t) cover14),
      (h c).2.1.trans (Dat.arrAt_eq_of_cover (dats m 0 c) 15 (G15 m c) (fun t _ => flushed15_eq m c t) cover15),
      (h c).2.2.1.trans (Dat.arrAt_eq_of_cover (dats m 0 c) 16 (G16 m c) (fun t _ => flushed16_eq m c t) cover16),
      (h c).2.2.2.1.trans (Dat.arrAt_eq_of_cover (dats m 0 c) 17 (G17 m c) (fun t _ => flushed17_eq m c t) cover17),
      (h c).2.2.2.2.1.trans (Dat.arrAt_eq_of_cover (dats m 0 c) 18 (G18 m c) (fun t _ => flushed18_eq m c t) cover18),
      (h c).2.2.2.2.2.1.trans (Dat.arrAt_eq_of_cover (dats m 0 c) 19 (G19 m c) (flushed19_eq m c) cover19),
      (h c).2.2.2.2.2.2⟩)
    (Value.run_blocks m ρ)

end Cert.AttnBwdIdeal.Hand

end
-- ==== Proof.AttnBand.lean ====
/- The reference's mask: two comparisons of a distance and one of a key's place, as the fact they decide. -/
module

public import proofs.«01_k».proof.Proof.AttnLaw
public import Idealize.ShloMosaic.Lib.Pointwise

@[expose] public section

set_option maxRecDepth 16384

noncomputable section

namespace Cert.AttnLaw

open Idealize.ShloMosaic

theorem andi_ofBool (p q : Prop) [Decidable p] [Decidable q] :
    IntOp.andi (BitVec.ofBool (decide p)) (BitVec.ofBool (decide q)) = BitVec.ofBool (decide (p ∧ q)) := by
  by_cases h : p <;> by_cases h2 : q <;> simp [IntOp.andi, h, h2]

theorem behind : ∀ (n : Fin 16) (k : Fin 256), IntOp.cmpi .sge (IntOp.addi (IntOp.subi (IntOp.muli (BitVec.ofNat 32 n.val) 128#32) 128#32)
    (BitVec.ofNat 32 k.val)) 0#32 = BitVec.ofBool (decide (128 ≤ k.val ∨ 0 < n.val)) := by
  decide +kernel

theorem earlier (n : Fin 16) (q k : Nat) (hk : k < 256) : IntOp.andi (BitVec.ofBool (decide (k ≤ q + 128 ∧ q < k)))
    (IntOp.cmpi .sge (IntOp.addi (IntOp.subi (IntOp.muli (BitVec.ofNat 32 n.val) 128#32) 128#32) (BitVec.ofNat 32 k)) 0#32)
    = BitVec.ofBool (decide (vis n.val q k)) :=
  (congrArg (IntOp.andi _) (behind n ⟨k, hk⟩)).trans (andi_ofBool _ _)

end Cert.AttnLaw

end
-- ==== Proof.AttnBwdRefA.lean ====
/- The reference's gradient of attention: the queries, the keys and values of each band, the mask and the scores. -/
module

public import proofs.«01_k».proof.Proof.Gen.AttnBwdReferenceIdeal.Run
public import proofs.«01_k».proof.Proof.AttnMask
public import proofs.«01_k».proof.Proof.AttnBand
public import proofs.«01_k».proof.Proof.AttnSpec
public import Idealize.ShloMosaic.Lib.Pointwise

@[expose] public section

set_option maxRecDepth 16384

noncomputable section

namespace Cert.AttnBwdReferenceIdeal.Hand

open Cert.AttnBwdReferenceIdeal Cert.AttnBwdReferenceIdeal.Gen Cert.AttnBwdReferenceIdeal.Value Idealize.ShloMosaic Idealize.ShloMosaic.TcCoe
open Idealize.ShloMosaic.StableHlo Cert.AttnLaw

variable (V0 : Valuation τ sig (Elt Ideal))

/-- The arguments. -/
abbrev aProj : Arr 2048 6656 := V0 (Proc.devRef .tc main_arg0)
abbrev aDao : Arr 2048 1024 := V0 (Proc.devRef .tc main_arg1)
abbrev aWao : Arr 1024 1024 := V0 (Proc.devRef .tc main_arg2)
abbrev aSink : Arr 1 16 := V0 (Proc.devRef .tc main_arg3)
abbrev aCos : Arr 2048 8 := V0 (Proc.devRef .tc main_arg4)
abbrev aSin : Arr 2048 8 := V0 (Proc.devRef .tc main_arg5)

theorem v3_apply (s : Fin 2048) (h : Fin 4) (d : Fin 64) :
    res_main_v3 V0 (ix3 s h d) = aProj V0 (ix2 s ⟨4096 + h.val * 64 + d.val, by omega⟩) := by
  unfold res_main_v3
  pointwise
  exact congrArg (fun l => aProj V0 (ix2 s l)) (Fin.ext (by show 4096 + (h.val * 64 + d.val) = 4096 + h.val * 64 + d.val; omega))

theorem v21_apply (s : Fin 2048) (g : Fin 16) (d : Fin 64) :
    res_main_v21 V0 (ix3 s g d) = aProj V0 (ix2 s ⟨3072 + g.val * 64 + d.val, by omega⟩) := by
  unfold res_main_v21
  pointwise
  exact congrArg (fun l => aProj V0 (ix2 s l)) (Fin.ext (by show 3072 + (g.val * 64 + d.val) = 3072 + g.val * 64 + d.val; omega))

/-- The intermediate arrays' entries. -/
abbrev e97 (n : Fin 16) (h g : Fin 4) (q : Fin 128) (k : Fin 257) : EReal := res_main_v97 V0 (ix5 n h g q k)
abbrev e118 (n : Fin 16) (h g : Fin 4) (q : Fin 128) (k : Fin 257) : EReal := res_main_v118 V0 (ix5 n h g q k)
abbrev e126 (n : Fin 16) (h g : Fin 4) (q : Fin 128) (k : Fin 256) : EReal := res_main_v126 V0 (ix5 n h g q k)
abbrev e139 (n : Fin 16) (h g : Fin 4) (q : Fin 128) (k : Fin 257) : EReal := res_main_v139 V0 (ix5 n h g q k)
abbrev e151 (n : Fin 16) (h g : Fin 4) (q : Fin 128) (k : Fin 257) : EReal := res_main_v151 V0 (ix5 n h g q k)
abbrev e98 (n : Fin 16) (h g : Fin 4) (q : Fin 128) : EReal := res_main_v98 V0 (ix4 n h g q)
abbrev e120 (n : Fin 16) (h g : Fin 4) (q : Fin 128) : EReal := res_main_v120 V0 (ix5 n h g q 0)
abbrev e135 (n : Fin 16) (h : Fin 4) (d : Fin 64) (g : Fin 4) (q : Fin 128) : EReal := res_main_v135 V0 (ix5 n h d g q)
abbrev e160 (n : Fin 16) (h : Fin 4) (k : Fin 256) (q : Fin 128) (g : Fin 4) : EReal := res_main_v160 V0 (ix5 n h k q g)
abbrev e42 (n : Fin 16) (q : Fin 128) (h g : Fin 4) (d : Fin 64) : EReal := res_main_v42 V0 (ix5 n q h g d)
abbrev e49 (n : Fin 16) (k : Fin 256) (h : Fin 4) (d : Fin 64) : EReal := res_main_v49 V0 (ix4 n k h d)
abbrev e56 (n : Fin 16) (k : Fin 256) (h : Fin 4) (d : Fin 64) : EReal := res_main_v56 V0 (ix4 n k h d)
abbrev e138 (n : Fin 16) (k : Fin 256) (h : Fin 4) (d : Fin 64) : EReal := res_main_v138 V0 (ix4 n k h d)
abbrev e164 (n : Fin 16) (k : Fin 256) (h : Fin 4) (d : Fin 64) : EReal := res_main_v164 V0 (ix4 n k h d)

/-- A head of keys, a head of queries. -/
abbrev headK (s : Fin 2048) (h : Fin 4) (d : Fin 64) : EReal := res_main_v3 V0 (ix3 s h d)
abbrev headQ (s : Fin 2048) (g : Fin 16) (d : Fin 64) : EReal := res_main_v21 V0 (ix3 s g d)

/-- The two branches in which the turned channels are written. -/
theorem rot_cat (x : Fin 64 → EReal) (c s : Fin 8 → EReal) (d : Nat) (hd : d < 64) :
    (if h : d < 8 then x ⟨d, hd⟩ * c ⟨d, h⟩ - x ⟨8 + d, by omega⟩ * s ⟨d, h⟩
    else if h2 : d - 8 < 8 then
      x ⟨8 + (d - 8), by omega⟩ * c ⟨d - 8, h2⟩ + x ⟨d - 8, by omega⟩ * s ⟨d - 8, h2⟩
    else x ⟨16 + (d - 8 - 8), by omega⟩) = rot x c s ⟨d, hd⟩ := by
  unfold rot
  by_cases h : d < 8
  · simp only [h, dite_true]
    simp only [Nat.add_comm]
  · by_cases h3 : d < 16
    · simp only [h, h3, dite_false, dite_true, show d - 8 < 8 by omega]
      refine congrArg (fun l => x l * _ + _) (Fin.ext ?_)
      show 8 + (d - 8) = d
      omega
    · simp only [h, h3, dite_false, show ¬ d - 8 < 8 by omega]
      refine congrArg x (Fin.ext ?_)
      show 16 + (d - 8 - 8) = d
      omega

theorem v20_apply (s : Fin 2048) (l : Fin 256) :
    res_main_v20 V0 (ix2 s l) = inK (aProj V0) (aCos V0) (aSin V0) s ⟨l.val / 64, by omega⟩ ⟨l.val % 64, by omega⟩ := by
  unfold res_main_v20 res_main_v4 res_main_v5 res_main_v7 res_main_v8
  pointwise
  refine (rot_cat (headK V0 s ⟨l.val / 64, by omega⟩) (fun j => aCos V0 (ix2 s j)) (fun j => aSin V0 (ix2 s j)) (l.val % 64) (by omega)).trans ?_
  unfold inK headK
  simp only [v3_apply]

theorem v42_apply (n : Fin 16) (q : Fin 128) (h : Fin 4) (g : Fin 4) (d : Fin 64) :
    res_main_v42 V0 (ix5 n q h g d) = inQ (aProj V0) (aCos V0) (aSin V0) (row n q) ⟨h.val * 4 + g.val, by omega⟩ d := by
  unfold res_main_v42 res_main_v22 res_main_v23 res_main_v25 res_main_v26
  pointwise
  refine (rot_cat (headQ V0 (row n q) ⟨h.val * 4 + g.val, by omega⟩) (fun j => aCos V0 (ix2 (row n q) j)) (fun j => aSin V0 (ix2 (row n q) j)) d.val d.isLt).trans ?_
  unfold inQ headQ
  simp only [v21_apply]

theorem padded_of (X : Fin 2048 → Fin 4 → Fin 64 → EReal) (n : Fin 16) (k : Fin 256) (h : Fin 4) (d : Fin 64) (y : Fin 2048 → Fin 256 → EReal)
    (hy : ∀ s l, y s l = X s ⟨l.val / 64, by omega⟩ ⟨l.val % 64, by omega⟩) :
    (if h1 : k.val < 128 then
      if h2 : n.val * 128 + k.val < 128 then (0 : EReal) else y ⟨n.val * 128 + k.val - 128, by omega⟩ ⟨h.val * 64 + d.val, by omega⟩
    else y ⟨n.val * 128 + (k.val - 128), by omega⟩ ⟨h.val * 64 + d.val, by omega⟩) = padded X n k h d := by
  have e : ∀ s : Fin 2048, X s ⟨(⟨h.val * 64 + d.val, by omega⟩ : Fin 256).val / 64, by dsimp only; omega⟩
      ⟨(⟨h.val * 64 + d.val, by omega⟩ : Fin 256).val % 64, by dsimp only; omega⟩ = X s h d := fun s =>
    congrArg₂ (X s) (Fin.ext (by show (h.val * 64 + d.val) / 64 = h.val; omega)) (Fin.ext (by show (h.val * 64 + d.val) % 64 = d.val; omega))
  unfold padded pl place
  simp only [hy, e]
  by_cases h1 : k.val < 128
  · by_cases h2 : n.val * 128 + k.val < 128
    · rw [dif_pos h1, dif_pos h2, if_pos ⟨by omega, h1⟩]
    · rw [dif_pos h1, dif_neg h2, if_neg (by omega)]
      refine congrArg (fun s => X s h d) (Fin.ext ?_)
      show n.val * 128 + k.val - 128 = if k.val < 128 then (n.val - 1) * 128 + k.val else n.val * 128 + (k.val - 128)
      rw [if_pos h1]; omega
  · rw [dif_neg h1, if_neg (by omega)]
    refine congrArg (fun s => X s h d) (Fin.ext ?_)
    show n.val * 128 + (k.val - 128) = if k.val < 128 then (n.val - 1) * 128 + k.val else n.val * 128 + (k.val - 128)
    rw [if_neg h1]

theorem v49_apply (n : Fin 16) (k : Fin 256) (h : Fin 4) (d : Fin 64) :
    res_main_v49 V0 (ix4 n k h d) = padded (inK (aProj V0) (aCos V0) (aSin V0)) n k h d := by
  refine Eq.trans ?_ (padded_of _ n k h d (fun s l => res_main_v20 V0 (ix2 s l)) (v20_apply V0))
  unfold res_main_v49
  pointwise

theorem v2_apply (s : Fin 2048) (l : Fin 256) :
    res_main_v2 V0 (ix2 s l) = inV (aProj V0) s ⟨l.val / 64, by omega⟩ ⟨l.val % 64, by omega⟩ := by
  unfold res_main_v2
  pointwise
  refine congrArg (fun l => aProj V0 (ix2 s l)) (Fin.ext ?_)
  show 4352 + l.val = 4352 + l.val / 64 * 64 + l.val % 64
  omega

theorem v56_apply (n : Fin 16) (k : Fin 256) (h : Fin 4) (d : Fin 64) :
    res_main_v56 V0 (ix4 n k h d) = padded (inV (aProj V0)) n k h d := by
  refine Eq.trans ?_ (padded_of _ n k h d (fun s l => res_main_v2 V0 (ix2 s l)) (v2_apply V0))
  unfold res_main_v56
  pointwise

theorem v94_apply (n : Fin 16) (h g : Fin 4) (q : Fin 128) (k : Fin 256) :
    res_main_v94_1 V0 (ix5 n h g q k) = BitVec.ofBool (decide (vis n.val q.val k.val)) := by
  unfold res_main_v94_1 res_main_v69
  pointwise
  rw [near, earlier n q.val k.val k.isLt]

theorem kvh_of (h g : Fin 4) : kvh ⟨h.val * 4 + g.val, by omega⟩ = h := Fin.ext (by show (h.val * 4 + g.val) / 4 = h.val; omega)

theorem v97_apply (n : Fin 16) (h g : Fin 4) (q : Fin 128) (k : Fin 257) :
    res_main_v97 V0 (ix5 n h g q k) = cat (score (inQ (aProj V0) (aCos V0) (aSin V0)) (inK (aProj V0) (aCos V0) (aSin V0)) n
      ⟨h.val * 4 + g.val, by omega⟩ q) (inZ (aSink V0) ⟨h.val * 4 + g.val, by omega⟩) k := by
  unfold res_main_v97
  pointwise
  unfold cat
  by_cases hk : k.val < 256
  · simp only [dif_pos hk]
    rw [v94_apply, select_ofBool, eighth]
    unfold score
    refine law_if _ _ Iff.rfl fun hv => ?_
    refine congrArg (· * ((0.125 : ℝ) : EReal)) (Finset.sum_congr rfl fun d _ => ?_)
    rw [v49_apply, v42_apply, kvh_of]
    unfold padded
    rw [if_neg (not_vis_first _ _ _ hv)]
  · simp only [dif_neg hk]
    rfl

end Cert.AttnBwdReferenceIdeal.Hand

end
-- ==== Proof.AttnBwdRefB1.lean ====
/- The reference's gradient of attention: the softmax over the keys and the sink. -/
module

public import proofs.«01_k».proof.Proof.Gen.AttnBwdReferenceIdeal.Run
public import proofs.«01_k».proof.Proof.AttnBwdRefA
public import proofs.«01_k».proof.Proof.AttnMask
public import proofs.«01_k».proof.Proof.AttnSpec
public import Idealize.ShloMosaic.Lib.Pointwise

@[expose] public section

set_option maxRecDepth 16384

noncomputable section

namespace Cert.AttnBwdReferenceIdeal.Hand

open Cert.AttnBwdReferenceIdeal Cert.AttnBwdReferenceIdeal.Gen Cert.AttnBwdReferenceIdeal.Value Idealize.ShloMosaic Idealize.ShloMosaic.TcCoe
open Idealize.ShloMosaic.StableHlo Cert.AttnLaw

variable (V0 : Valuation τ sig (Elt Ideal))

theorem drop_last (n : Fin 16) (h g : Fin 4) (q : Fin 128) (k : Fin 257) :
    reducesTo_S16x4x4x128x257_S16x4x4x128_d4.drop (ix5 n h g q k) = ix4 n h g q := by
  funext a
  match a with
  | 0 => rfl
  | 1 => rfl
  | 2 => rfl
  | 3 => rfl

theorem rows_last (n : Fin 16) (h g : Fin 4) (q : Fin 128) :
    (Finset.univ.filter fun i : S16x4x4x128x257.Idx => reducesTo_S16x4x4x128x257_S16x4x4x128_d4.drop i = ix4 n h g q)
      = Finset.univ.image fun k : Fin 257 => (ix5 n h g q k : S16x4x4x128x257.Idx) := by
  ext i
  simp only [Finset.mem_filter, Finset.mem_univ, true_and, Finset.mem_image]
  constructor
  · intro e
    obtain ⟨a, b, c, d, k, rfl⟩ : ∃ a b c d k, i = ix5 a b c d k := ⟨i 0, i 1, i 2, i 3, i 4, eq_ix5 i⟩
    rw [drop_last] at e
    refine ⟨k, ?_⟩
    have e0 : a = n := congrFun e 0
    have e1 : b = h := congrFun e 1
    have e2 : c = g := congrFun e 2
    have e3 : d = q := congrFun e 3
    rw [e0, e1, e2, e3]
  · rintro ⟨k, rfl⟩
    exact drop_last n h g q k

theorem v98_apply (n : Fin 16) (h g : Fin 4) (q : Fin 128) :
    e98 V0 n h g q = Finset.univ.fold max (Ideal.ofBits .f32 0xFF800000#32) (fun k : Fin 257 => e97 V0 n h g q k) := by
  have e : e98 V0 n h g q = Finset.fold max (Ideal.ofBits FTy.f32 4286578688#32) (res_main_v97 V0)
      (Finset.univ.filter fun i : S16x4x4x128x257.Idx => reducesTo_S16x4x4x128x257_S16x4x4x128_d4.drop i = ix4 n h g q) := by
    unfold e98 res_main_v98
    pointwise
  rw [e, rows_last, Finset.fold_image fun a _ b _ hab => congrFun hab 4]
  rfl

theorem exp_row (x : FVec Ideal S16x4x4x128x257 .f32) (y : FVec Ideal S16x4x4x128 .f32) (n : Fin 16) (h g : Fin 4) (q : Fin 128) (k : Fin 257) :
    (Host.exp (subf x (broadcastInDim S16x4x4x128x257 ![0, 1, 2, 3, 4] bcast_S16x4x4x128x1_S16x4x4x128x257_0_1_2_3_4 (broadcastInDim S16x4x4x128x1 ![0, 1, 2, 3] bcast_S16x4x4x128_S16x4x4x128x1_0_1_2_3 (maximumf (broadcastInDim S16x4x4x128 ![] bcast_S_S16x4x4x128 (constant S_ .f32 0xFF800000#32)) y))))) (ix5 n h g q k)
      = Ideal.exp (x (ix5 n h g q k) - max (Ideal.ofBits .f32 0xFF800000#32) (y (ix4 n h g q))) := by
  pointwise

theorem v118_apply (n : Fin 16) (h g : Fin 4) (q : Fin 128) (k : Fin 257) :
    e118 V0 n h g q k = Ideal.exp (e97 V0 n h g q k - max (Ideal.ofBits .f32 0xFF800000#32) (e98 V0 n h g q)) := by
  unfold e118 res_main_v118
  exact exp_row (res_main_v97 V0) (res_main_v98 V0) n h g q k

theorem v120_apply (n : Fin 16) (h g : Fin 4) (q : Fin 128) :
    e120 V0 n h g q = ∑ k : Fin 257, e118 V0 n h g q k := by
  unfold e120 res_main_v120
  pointwise

theorem v126_apply (n : Fin 16) (h g : Fin 4) (q : Fin 128) (k : Fin 256) :
    e126 V0 n h g q k = Ideal.div (e118 V0 n h g q ⟨k.val, by omega⟩) (e120 V0 n h g q) := by
  unfold e126 res_main_v126
  pointwise

end Cert.AttnBwdReferenceIdeal.Hand

end
-- ==== Proof.AttnBwdRefB2.lean ====
/- The reference's gradient of attention: the gradient of the heads' outputs and of the weights. -/
module

public import proofs.«01_k».proof.Proof.Gen.AttnBwdReferenceIdeal.Run
public import proofs.«01_k».proof.Proof.AttnBwdRefA
public import proofs.«01_k».proof.Proof.AttnMask
public import proofs.«01_k».proof.Proof.AttnSpec
public import Idealize.ShloMosaic.Lib.Pointwise

@[expose] public section

set_option maxRecDepth 16384

noncomputable section

namespace Cert.AttnBwdReferenceIdeal.Hand

open Cert.AttnBwdReferenceIdeal Cert.AttnBwdReferenceIdeal.Gen Cert.AttnBwdReferenceIdeal.Value Idealize.ShloMosaic Idealize.ShloMosaic.TcCoe
open Idealize.ShloMosaic.StableHlo Cert.AttnLaw

variable (V0 : Valuation τ sig (Elt Ideal))

theorem v135_apply (n : Fin 16) (h : Fin 4) (d : Fin 64) (g : Fin 4) (q : Fin 128) :
    e135 V0 n h d g q = inDo (aDao V0) (aWao V0) (row n q) ⟨h.val * 4 + g.val, by omega⟩ d := by
  unfold e135 res_main_v135 res_main_v130
  pointwise
  unfold inDo
  refine Finset.sum_congr rfl fun e _ => congrArg (fun r => (aDao V0 (ix2 (row n q) e) * aWao V0 (ix2 r e) : EReal)) (Fin.ext ?_)
  show h.val * 256 + g.val * 64 + d.val = (h.val * 4 + g.val) * 64 + d.val
  omega

theorem v139_apply (n : Fin 16) (h g : Fin 4) (q : Fin 128) (k : Fin 257) :
    e139 V0 n h g q k = if hk : k.val < 256 then ∑ d : Fin 64, e135 V0 n h d g q * e56 V0 n ⟨k.val, hk⟩ h d else 0 := by
  unfold e139 res_main_v139
  pointwise

end Cert.AttnBwdReferenceIdeal.Hand

end
-- ==== Proof.AttnBwdRefB3.lean ====
/- The reference's gradient of attention: the gradients of the values and the keys. -/
module

public import proofs.«01_k».proof.Proof.Gen.AttnBwdReferenceIdeal.Run
public import proofs.«01_k».proof.Proof.AttnBwdRefA
public import proofs.«01_k».proof.Proof.AttnMask
public import proofs.«01_k».proof.Proof.AttnSpec
public import Idealize.ShloMosaic.Lib.Pointwise

@[expose] public section

set_option maxRecDepth 16384

noncomputable section

namespace Cert.AttnBwdReferenceIdeal.Hand

open Cert.AttnBwdReferenceIdeal Cert.AttnBwdReferenceIdeal.Gen Cert.AttnBwdReferenceIdeal.Value Idealize.ShloMosaic Idealize.ShloMosaic.TcCoe
open Idealize.ShloMosaic.StableHlo Cert.AttnLaw

variable (V0 : Valuation τ sig (Elt Ideal))

theorem v138_apply (n : Fin 16) (k : Fin 256) (h : Fin 4) (d : Fin 64) :
    e138 V0 n k h d = ∑ g : Fin 4, ∑ q : Fin 128, e135 V0 n h d g q * e126 V0 n h g q k := by
  unfold e138 res_main_v138
  pointwise

theorem v164_apply (n : Fin 16) (k : Fin 256) (h : Fin 4) (d : Fin 64) :
    e164 V0 n k h d = ∑ q : Fin 128, ∑ g : Fin 4, e160 V0 n h k q g * e42 V0 n q h g d := by
  unfold e164 res_main_v164
  pointwise

end Cert.AttnBwdReferenceIdeal.Hand

end
-- ==== Proof.AttnBwdRefB4.lean ====
/- The reference's gradient of attention: the gradient of the scores and of the queries. -/
module

public import proofs.«01_k».proof.Proof.Gen.AttnBwdReferenceIdeal.Run
public import proofs.«01_k».proof.Proof.AttnBwdRefA
public import proofs.«01_k».proof.Proof.AttnMask
public import proofs.«01_k».proof.Proof.AttnSpec
public import Idealize.ShloMosaic.Lib.Pointwise

@[expose] public section

set_option maxRecDepth 16384

noncomputable section

namespace Cert.AttnBwdReferenceIdeal.Hand

open Cert.AttnBwdReferenceIdeal Cert.AttnBwdReferenceIdeal.Gen Cert.AttnBwdReferenceIdeal.Value Idealize.ShloMosaic Idealize.ShloMosaic.TcCoe
open Idealize.ShloMosaic.StableHlo Cert.AttnLaw

variable (V0 : Valuation τ sig (Elt Ideal))

theorem v151_apply (n : Fin 16) (h g : Fin 4) (q : Fin 128) (k : Fin 257) :
    e151 V0 n h g q k =
     (Ideal.div (e139 V0 n h g q k) (e120 V0 n h g q) +
      -(∑ j : Fin 257, e139 V0 n h g q j * Ideal.div 1 (e120 V0 n h g q * e120 V0 n h g q) * e118 V0 n h g q j))
      * e118 V0 n h g q k := by
  unfold e151 res_main_v151
  pointwise
  rw [Fin.sum_univ_one]

theorem v160_apply (n : Fin 16) (h g : Fin 4) (q : Fin 128) (k : Fin 256) :
    e160 V0 n h k q g = (if vis n.val q.val k.val then e151 V0 n h g q ⟨k.val, by omega⟩ else 0) * ((0.125 : ℝ) : EReal) := by
  unfold e160 res_main_v160
  pointwise
  rw [v94_apply, select_ofBool, eighth]
  by_cases hv : vis n.val q.val k.val
  · rw [if_pos hv, if_pos hv]
  · rw [if_neg hv, if_neg hv, zero_mul]

theorem v179_apply (s : Fin 2048) (g : Fin 16) (d : Fin 64) :
    (res_main_v179 V0 (ix3 s g d) : EReal) = ∑ k : Fin 256, e160 V0 ⟨s.val / 128, by omega⟩ ⟨g.val / 4, by omega⟩ k ⟨s.val % 128, by omega⟩ ⟨g.val % 4, by omega⟩
      * e49 V0 ⟨s.val / 128, by omega⟩ k ⟨g.val / 4, by omega⟩ d := by
  unfold res_main_v179
  pointwise

end Cert.AttnBwdReferenceIdeal.Hand

end
-- ==== Proof.AttnBwdLaw.lean ====
/- The gradient of a softmax with a sink, where every number is finite. -/
module

public import proofs.«01_k».proof.Proof.AttnBwdSpec

@[expose] public section

noncomputable section

namespace Cert.AttnLaw

open Idealize.ShloMosaic

/-- A finite number. -/
def Fin' (x : EReal) : Prop := ∃ r : ℝ, x = (r : EReal)

theorem Fin'.coe (r : ℝ) : Fin' (r : EReal) := ⟨r, rfl⟩
theorem Fin'.zero : Fin' 0 := ⟨0, rfl⟩
theorem Fin'.add {x y : EReal} (hx : Fin' x) (hy : Fin' y) : Fin' (x + y) := by
  obtain ⟨a, rfl⟩ := hx; obtain ⟨b, rfl⟩ := hy; exact ⟨a + b, (EReal.coe_add a b).symm⟩
theorem Fin'.mul {x y : EReal} (hx : Fin' x) (hy : Fin' y) : Fin' (x * y) := by
  obtain ⟨a, rfl⟩ := hx; obtain ⟨b, rfl⟩ := hy; exact ⟨a * b, (EReal.coe_mul a b).symm⟩
theorem Fin'.sub {x y : EReal} (hx : Fin' x) (hy : Fin' y) : Fin' (x - y) := by
  obtain ⟨a, rfl⟩ := hx; obtain ⟨b, rfl⟩ := hy; exact ⟨a - b, (EReal.coe_sub a b).symm⟩
theorem Fin'.sum {ι : Type} (s : Finset ι) (f : ι → EReal) (h : ∀ i, Fin' (f i)) : Fin' (∑ i ∈ s, f i) := by
  classical
  induction s using Finset.induction_on with
  | empty => rw [Finset.sum_empty]; exact Fin'.zero
  | insert a s ha ih => rw [Finset.sum_insert ha]; exact (h a).add ih
theorem Fin'.of_ne {x : EReal} (h : x ≠ ⊤) (h' : x ≠ ⊥) : Fin' x := by
  lift x to ℝ using ⟨h, h'⟩; exact ⟨x, rfl⟩
theorem Fin'.ne_top {x : EReal} (h : Fin' x) : x ≠ ⊤ := by obtain ⟨a, rfl⟩ := h; exact EReal.coe_ne_top a
theorem Fin'.ne_bot {x : EReal} (h : Fin' x) : x ≠ ⊥ := by obtain ⟨a, rfl⟩ := h; exact EReal.coe_ne_bot a

theorem Fin'.rot {x : Fin 64 → EReal} {c s : Fin 8 → EReal} (hx : ∀ e, Fin' (x e)) (hc : ∀ j, Fin' (c j)) (hs : ∀ j, Fin' (s j)) (d : Fin 64) :
    Fin' (rot x c s d) := by
  unfold AttnLaw.rot
  split_ifs
  · exact ((hx _).mul (hc _)).sub ((hx _).mul (hs _))
  · exact ((hx _).mul (hc _)).add ((hx _).mul (hs _))
  · exact hx _

theorem coe_sum {ι : Type} (s : Finset ι) (f : ι → ℝ) : ((∑ i ∈ s, f i : ℝ) : EReal) = ∑ i ∈ s, (f i : EReal) := by
  classical
  induction s using Finset.induction_on with
  | empty => rw [Finset.sum_empty, Finset.sum_empty]; rfl
  | insert a s ha ih => rw [Finset.sum_insert ha, Finset.sum_insert ha, EReal.coe_add, ih]

/-- The sign of a sum of finite numbers. -/
theorem neg_sum {ι : Type} (s : Finset ι) (f : ι → EReal) (h : ∀ i, Fin' (f i)) : ∑ i ∈ s, -f i = -∑ i ∈ s, f i := by
  choose r hr using h
  have e : f = fun i => (r i : EReal) := funext hr
  rw [e]
  dsimp only
  simp only [← EReal.coe_neg, ← coe_sum]
  rw [Finset.sum_neg_distrib]

theorem div_coe (x : EReal) {M : ℝ} (h : M ≠ 0) : Ideal.div x (M : EReal) = x * ((M⁻¹ : ℝ) : EReal) := by
  unfold Ideal.div
  rw [if_neg (by exact_mod_cast h), EReal.coe_inv]

/-- The mean gradient, the reference's way, over the reals. -/
theorem real_mean (E p : Fin 256 → ℝ) (M : ℝ) : ∑ j, p j * (1 * (M * M)⁻¹) * E j = M⁻¹ * ∑ j, E j * (1 * M⁻¹) * p j := by
  rw [Finset.mul_sum]
  refine Finset.sum_congr rfl fun j _ => ?_
  rw [mul_inv]
  ring

/-- The gradient of a score, both ways. -/
theorem grad_law (E p : Fin 256 → EReal) (M : EReal) (hE : ∀ j, Fin' (E j)) (hp : ∀ j, Fin' (p j)) (hM : Fin' M) (h0 : M ≠ 0) (k : Fin 256) :
    (Ideal.div (p k) M + -∑ j, p j * Ideal.div 1 (M * M) * E j) * E k
      = E k * Ideal.div 1 M * (p k - ∑ j, E j * Ideal.div 1 M * p j) := by
  choose e he using hE
  choose r hr using hp
  obtain ⟨m, rfl⟩ := hM
  have hm : m ≠ 0 := by exact_mod_cast h0
  obtain rfl : E = fun i => (e i : EReal) := funext he
  obtain rfl : p = fun i => (r i : EReal) := funext hr
  dsimp only
  rw [← EReal.coe_mul m m, div_coe _ hm, div_coe _ hm, div_coe _ (mul_ne_zero hm hm), ← EReal.coe_one]
  simp only [← EReal.coe_mul, ← coe_sum, ← EReal.coe_neg, ← EReal.coe_add, ← EReal.coe_sub]
  rw [real_mean]
  congr 1
  ring

/-- The gradient of the sink, both ways. -/
theorem sink_law (E p : Fin 256 → EReal) (M z : EReal) (hE : ∀ j, Fin' (E j)) (hp : ∀ j, Fin' (p j)) (hM : Fin' M) (h0 : M ≠ 0) (hz : Fin' z) :
    (Ideal.div 0 M + -∑ j, p j * Ideal.div 1 (M * M) * E j) * z
      = -(z * Ideal.div 1 M * ∑ j, E j * Ideal.div 1 M * p j) := by
  choose e he using hE
  choose r hr using hp
  obtain ⟨m, rfl⟩ := hM
  obtain ⟨y, rfl⟩ := hz
  have hm : m ≠ 0 := by exact_mod_cast h0
  obtain rfl : E = fun i => (e i : EReal) := funext he
  obtain rfl : p = fun i => (r i : EReal) := funext hr
  dsimp only
  rw [← EReal.coe_mul m m, div_coe _ hm, div_coe _ hm, div_coe _ (mul_ne_zero hm hm), ← EReal.coe_one, zero_mul, zero_add]
  simp only [← EReal.coe_mul, ← coe_sum, ← EReal.coe_neg]
  rw [real_mean]
  congr 1
  ring

/-- A sum over a row of 257 whose last summand is zero. -/
theorem sum_row (f : Fin 257 → EReal) (h : f ⟨256, by omega⟩ = 0) : ∑ j, f j = ∑ k : Fin 256, f ⟨k.val, by omega⟩ := by
  refine (Fin.sum_univ_castSucc (n := 256) f).trans ?_
  rw [show f (Fin.last 256) = 0 from h, add_zero]
  rfl

section
variable {s : Fin 256 → EReal} {z : EReal} (hs : ∀ k, s k = ⊥ ∨ Fin' (s k)) (hz : Fin' z)
include hs hz

theorem ne_top_of : ∀ k, s k ≠ ⊤ := fun k => (hs k).elim (fun h => h ▸ bot_ne_top) Fin'.ne_top
theorem top_real : Fin' (top s z) :=
  have h := top_fin s z (ne_top_of hs hz) hz.ne_top hz.ne_bot
  Fin'.of_ne h.1 h.2
theorem exp_real {x : EReal} (hx : Fin' x) : Fin' (Ideal.exp x) := by
  obtain ⟨a, rfl⟩ := hx; exact ⟨_, Ideal.exp_coe a⟩
theorem key_real (k : Fin 256) : Fin' (Ideal.exp (s k - top s z)) := by
  rcases hs k with h | h
  · rw [h, EReal.bot_sub, Ideal.exp_bot]; exact Fin'.zero
  · exact exp_real hs hz (h.sub (top_real hs hz))
theorem sink_real : Fin' (Ideal.exp (z - top s z)) := exp_real hs hz (hz.sub (top_real hs hz))
theorem mass_real : Fin' (mass s z) := (Fin'.sum _ _ fun k => key_real hs hz k).add (sink_real hs hz)
theorem mass_ne : mass s z ≠ 0 := (mass_pos s z (ne_top_of hs hz) hz.ne_top hz.ne_bot).ne'
end

section
variable {Q : Fin 2048 → Fin 16 → Fin 64 → EReal} {K V : Fin 2048 → Fin 4 → Fin 64 → EReal} {Y : Fin 2048 → Fin 16 → Fin 64 → EReal} {z : Fin 16 → EReal}
  (hQ : ∀ s g d, Fin' (Q s g d)) (hK : ∀ s g d, Fin' (K s g d)) (hV : ∀ s g d, Fin' (V s g d)) (hY : ∀ s g d, Fin' (Y s g d)) (hz : ∀ g, Fin' (z g))

include hQ hK in
theorem score_real (n : Fin 16) (g : Fin 16) (q : Fin 128) (k : Fin 256) : score Q K n g q k = ⊥ ∨ Fin' (score Q K n g q k) := by
  unfold score
  by_cases h : vis n.val q.val k.val
  · rw [if_pos h]; exact .inr ((Fin'.sum _ _ fun d => (hK _ _ _).mul (hQ _ _ _)).mul (Fin'.coe _))
  · rw [if_neg h]; exact .inl rfl

include hV hY in
theorem dprob_real (n : Fin 16) (g : Fin 16) (q : Fin 128) (k : Fin 256) : Fin' (dprob V Y n g q k) :=
  Fin'.sum _ _ fun d => (hV _ _ _).mul (hY _ _ _)

theorem prob_bot (n : Fin 16) (g : Fin 16) (q : Fin 128) (k : Fin 256) (h : ¬ vis n.val q.val k.val) : prob Q K z n g q k = 0 := by
  unfold prob
  exact wgt_bot _ _ _ (by unfold score; rw [if_neg h])

include hQ hK hV hY hz in
theorem dsnk_real (n : Fin 16) (g : Fin 16) (q : Fin 128) : Fin' (dsnk Q K V Y z n g q) := by
  have hs := score_real hQ hK n g q
  obtain ⟨m, hm⟩ := mass_real hs (hz g)
  have h0 := mass_ne hs (hz g)
  have hd : Fin' (Ideal.div 1 (mass (score Q K n g q) (z g))) := by
    rw [hm] at h0 ⊢
    rw [div_coe _ (by exact_mod_cast h0)]
    exact Fin'.mul ⟨1, rfl⟩ (Fin'.coe _)
  unfold dsnk wgtz dmean prob wgt
  exact ((sink_real hs (hz g)).mul hd).mul (Fin'.sum _ _ fun k => ((key_real hs (hz g) k).mul hd).mul (dprob_real hV hY n g q k))
end

end Cert.AttnLaw

end
-- ==== Proof.AttnBwdRefC.lean ====
/- The reference's gradient of attention, in the terms of the plain mathematics, from finite arrays. -/
module

public import proofs.«01_k».proof.Proof.AttnBwdRefB1
public import proofs.«01_k».proof.Proof.AttnBwdRefB2
public import proofs.«01_k».proof.Proof.AttnBwdRefB3
public import proofs.«01_k».proof.Proof.AttnBwdRefB4
public import proofs.«01_k».proof.Proof.AttnBwdLaw

@[expose] public section

set_option maxRecDepth 16384

noncomputable section

namespace Cert.AttnBwdReferenceIdeal.Hand

open Cert.AttnBwdReferenceIdeal Cert.AttnBwdReferenceIdeal.Gen Cert.AttnBwdReferenceIdeal.Value Idealize.ShloMosaic Idealize.ShloMosaic.TcCoe
open Idealize.ShloMosaic.StableHlo Cert.AttnLaw

variable (V0 : Valuation τ sig (Elt Ideal))

/-- The queries, the keys, the values, the gradient of the outputs and the sinks that the reference reads. -/
abbrev qs := inQ (aProj V0) (aCos V0) (aSin V0)
abbrev ks := inK (aProj V0) (aCos V0) (aSin V0)
abbrev vs := inV (aProj V0)
abbrev ys := inDo (aDao V0) (aWao V0)
abbrev zs := inZ (aSink V0)

/-- Every argument is finite. -/
structure Reals : Prop where
  a : ∀ i, Fin' (aProj V0 i)
  x : ∀ i, Fin' (aDao V0 i)
  w : ∀ i, Fin' (aWao V0 i)
  z : ∀ i, Fin' (aSink V0 i)
  c : ∀ i, Fin' (aCos V0 i)
  s : ∀ i, Fin' (aSin V0 i)

section
variable {V0} (R : Reals V0)
include R
theorem Reals.qs (s : Fin 2048) (g : Fin 16) (d : Fin 64) : Fin' (qs V0 s g d) := Fin'.rot (fun _ => R.a _) (fun _ => R.c _) (fun _ => R.s _) d
theorem Reals.ks (s : Fin 2048) (g : Fin 4) (d : Fin 64) : Fin' (ks V0 s g d) := Fin'.rot (fun _ => R.a _) (fun _ => R.c _) (fun _ => R.s _) d
theorem Reals.vs (s : Fin 2048) (g : Fin 4) (d : Fin 64) : Fin' (vs V0 s g d) := R.a _
theorem Reals.ys (s : Fin 2048) (g : Fin 16) (d : Fin 64) : Fin' (ys V0 s g d) := Fin'.sum _ _ fun _ => (R.x _).mul (R.w _)
theorem Reals.zs (g : Fin 16) : Fin' (zs V0 g) := R.z _
end

/-- One query's scores. -/
abbrev sc (n : Fin 16) (h g : Fin 4) (q : Fin 128) : Fin 256 → EReal := score (qs V0) (ks V0) n (AttnLaw.four h g) q
abbrev zk (h g : Fin 4) : EReal := zs V0 (AttnLaw.four h g)

theorem sc_real (R : Reals V0) (n : Fin 16) (h g : Fin 4) (q : Fin 128) (k : Fin 256) : sc V0 n h g q k = ⊥ ∨ Fin' (sc V0 n h g q k) :=
  score_real R.qs R.ks n _ q k

theorem e97_eq (n : Fin 16) (h g : Fin 4) (q : Fin 128) (k : Fin 257) : e97 V0 n h g q k = cat (sc V0 n h g q) (zk V0 h g) k :=
  v97_apply V0 n h g q k

theorem e98_eq (n : Fin 16) (h g : Fin 4) (q : Fin 128) : e98 V0 n h g q = top (sc V0 n h g q) (zk V0 h g) := by
  refine (v98_apply V0 n h g q).trans ?_
  rw [show (fun k => e97 V0 n h g q k) = cat (sc V0 n h g q) (zk V0 h g) from funext (e97_eq V0 n h g q), ninf]
  exact fold_cat _ _

theorem e118_eq (n : Fin 16) (h g : Fin 4) (q : Fin 128) (k : Fin 257) :
    e118 V0 n h g q k = Ideal.exp (cat (sc V0 n h g q) (zk V0 h g) k - top (sc V0 n h g q) (zk V0 h g)) := by
  refine (v118_apply V0 n h g q k).trans ?_
  rw [e98_eq, e97_eq, ninf, max_eq_right bot_le]

/-- The exponentials of the scores and of the sink. -/
abbrev ek (n : Fin 16) (h g : Fin 4) (q : Fin 128) (k : Fin 256) : EReal := Ideal.exp (sc V0 n h g q k - top (sc V0 n h g q) (zk V0 h g))
abbrev ez (n : Fin 16) (h g : Fin 4) (q : Fin 128) : EReal := Ideal.exp (zk V0 h g - top (sc V0 n h g q) (zk V0 h g))
abbrev ms (n : Fin 16) (h g : Fin 4) (q : Fin 128) : EReal := mass (sc V0 n h g q) (zk V0 h g)

theorem e118_key (n : Fin 16) (h g : Fin 4) (q : Fin 128) (k : Fin 256) : e118 V0 n h g q ⟨k.val, by omega⟩ = ek V0 n h g q k := by
  refine (e118_eq V0 n h g q _).trans ?_
  unfold cat
  rw [dif_pos k.isLt]

theorem e118_sink (n : Fin 16) (h g : Fin 4) (q : Fin 128) : e118 V0 n h g q ⟨256, by omega⟩ = ez V0 n h g q := by
  refine (e118_eq V0 n h g q _).trans ?_
  unfold cat
  rw [dif_neg (by simp)]

theorem e120_eq (n : Fin 16) (h g : Fin 4) (q : Fin 128) : e120 V0 n h g q = ms V0 n h g q :=
  (v120_apply V0 n h g q).trans ((Finset.sum_congr rfl fun k _ => e118_eq V0 n h g q k).trans
    (sum_cat _ _ fun x => Ideal.exp (x - top (sc V0 n h g q) (zk V0 h g))))

variable {V0} (R : Reals V0)
include R

theorem e126_eq (n : Fin 16) (h g : Fin 4) (q : Fin 128) (k : Fin 256) :
    e126 V0 n h g q k = prob (qs V0) (ks V0) (zs V0) n (AttnLaw.four h g) q k := by
  refine (v126_apply V0 n h g q k).trans ?_
  rw [e118_key, e120_eq]
  exact div_mass _ _ (mass_ne (sc_real V0 R n h g q) (R.zs _))

omit R in
/-- The gradient of a key's weight; before the first block there's none. -/
theorem e139_key (n : Fin 16) (h g : Fin 4) (q : Fin 128) (k : Fin 256) (hf : ¬(n.val = 0 ∧ k.val < 128)) :
    e139 V0 n h g q ⟨k.val, by omega⟩ = dprob (vs V0) (ys V0) n (AttnLaw.four h g) q k := by
  refine (v139_apply V0 n h g q _).trans ((dif_pos k.isLt).trans ?_)
  unfold dprob
  refine Finset.sum_congr rfl fun d _ => ?_
  have e1 : e135 V0 n h d g q = ys V0 (row n q) (AttnLaw.four h g) d := v135_apply V0 n h d g q
  have e2 : e56 V0 n k h d = vs V0 (pl n k) (kvh (AttnLaw.four h g)) d := by
    refine (v56_apply V0 n k h d).trans ?_
    unfold padded
    rw [if_neg hf, show kvh (AttnLaw.four h g) = h from kvh_of h g]
  exact (congrArg₂ (· * ·) e1 e2).trans (mul_comm _ _)

omit R in
theorem e139_sink (n : Fin 16) (h g : Fin 4) (q : Fin 128) : e139 V0 n h g q ⟨256, by omega⟩ = 0 :=
  (v139_apply V0 n h g q _).trans (dif_neg (by simp))

omit R in
theorem ek_zero (n : Fin 16) (h g : Fin 4) (q : Fin 128) (k : Fin 256) (hv : ¬ vis n.val q.val k.val) : ek V0 n h g q k = 0 := by
  have e : sc V0 n h g q k = ⊥ := by unfold sc score; rw [if_neg hv]
  unfold ek
  rw [e, EReal.bot_sub, Ideal.exp_bot]

omit R in
theorem mean_eq (n : Fin 16) (h g : Fin 4) (q : Fin 128) :
    ∑ j : Fin 257, e139 V0 n h g q j * Ideal.div 1 (e120 V0 n h g q * e120 V0 n h g q) * e118 V0 n h g q j
      = ∑ k : Fin 256, dprob (vs V0) (ys V0) n (AttnLaw.four h g) q k * Ideal.div 1 (ms V0 n h g q * ms V0 n h g q) * ek V0 n h g q k := by
  rw [sum_row _ (by rw [e139_sink, zero_mul, zero_mul]), e120_eq]
  refine Finset.sum_congr rfl fun k _ => ?_
  rw [e118_key]
  by_cases hf : n.val = 0 ∧ k.val < 128
  · rw [ek_zero n h g q k fun hv => not_vis_first _ _ _ hv hf, mul_zero, mul_zero]
  · rw [e139_key n h g q k hf]

theorem e151_key (n : Fin 16) (h g : Fin 4) (q : Fin 128) (k : Fin 256) :
    e151 V0 n h g q ⟨k.val, by omega⟩ = dsoft (qs V0) (ks V0) (vs V0) (ys V0) (zs V0) n (AttnLaw.four h g) q k := by
  refine (v151_apply V0 n h g q _).trans ?_
  rw [mean_eq, e118_key, e120_eq]
  by_cases hf : n.val = 0 ∧ k.val < 128
  · have hv : ¬ vis n.val q.val k.val := fun hv => not_vis_first _ _ _ hv hf
    unfold dsoft
    rw [ek_zero n h g q k hv, prob_bot _ _ _ _ hv, mul_zero, zero_mul]
  · rw [e139_key n h g q k hf]
    exact grad_law (ek V0 n h g q) (dprob (vs V0) (ys V0) n (AttnLaw.four h g) q) (ms V0 n h g q)
      (key_real (sc_real V0 R n h g q) (R.zs _)) (dprob_real R.vs R.ys n _ q)
      (mass_real (sc_real V0 R n h g q) (R.zs _)) (mass_ne (sc_real V0 R n h g q) (R.zs _)) k

theorem e151_sink (n : Fin 16) (h g : Fin 4) (q : Fin 128) :
    e151 V0 n h g q ⟨256, by omega⟩ = -dsnk (qs V0) (ks V0) (vs V0) (ys V0) (zs V0) n (AttnLaw.four h g) q := by
  refine (v151_apply V0 n h g q _).trans ?_
  rw [mean_eq, e118_sink, e120_eq, e139_sink]
  exact sink_law (ek V0 n h g q) (dprob (vs V0) (ys V0) n (AttnLaw.four h g) q) (ms V0 n h g q) (ez V0 n h g q)
      (key_real (sc_real V0 R n h g q) (R.zs _)) (dprob_real R.vs R.ys n _ q)
      (mass_real (sc_real V0 R n h g q) (R.zs _)) (mass_ne (sc_real V0 R n h g q) (R.zs _)) (sink_real (sc_real V0 R n h g q) (R.zs _))

omit R in
theorem dscr_zero (n : Fin 16) (g : Fin 16) (q : Fin 128) (k : Fin 256) (hv : ¬ vis n.val q.val k.val) :
    dscr (qs V0) (ks V0) (vs V0) (ys V0) (zs V0) n g q k = 0 := by
  unfold dscr dsoft
  rw [prob_bot _ _ _ _ hv, zero_mul, zero_mul]

theorem e160_eq (n : Fin 16) (h g : Fin 4) (q : Fin 128) (k : Fin 256) :
    e160 V0 n h k q g = dscr (qs V0) (ks V0) (vs V0) (ys V0) (zs V0) n (AttnLaw.four h g) q k := by
  refine (v160_apply V0 n h g q k).trans ?_
  by_cases hv : vis n.val q.val k.val
  · rw [if_pos hv, e151_key R]; rfl
  · rw [if_neg hv, dscr_zero n _ q k hv, zero_mul]

theorem e138_eq (n : Fin 16) (k : Fin 256) (h : Fin 4) (d : Fin 64) :
    e138 V0 n k h d = gV (qs V0) (ks V0) (ys V0) (zs V0) n k h d := by
  refine (v138_apply V0 n k h d).trans ?_
  unfold gV
  refine Finset.sum_congr rfl fun g _ => Finset.sum_congr rfl fun q _ => ?_
  have e1 : e135 V0 n h d g q = ys V0 (row n q) (AttnLaw.four h g) d := v135_apply V0 n h d g q
  rw [e1, e126_eq R, mul_comm]

theorem e164_eq (n : Fin 16) (k : Fin 256) (h : Fin 4) (d : Fin 64) :
    e164 V0 n k h d = gK (qs V0) (ks V0) (vs V0) (ys V0) (zs V0) n k h d := by
  refine (v164_apply V0 n k h d).trans (Finset.sum_comm.trans ?_)
  unfold gK
  refine Finset.sum_congr rfl fun g _ => Finset.sum_congr rfl fun q _ => ?_
  have e1 : e42 V0 n q h g d = qs V0 (row n q) (AttnLaw.four h g) d := v42_apply V0 n q h g d
  rw [e1, e160_eq R]

theorem v179_eq (s : Fin 2048) (g : Fin 16) (d : Fin 64) :
    (res_main_v179 V0 (ix3 s g d) : EReal) = gQ (qs V0) (ks V0) (vs V0) (ys V0) (zs V0) ⟨s.val / 128, by omega⟩ g ⟨s.val % 128, by omega⟩ d := by
  have key : (∑ k : Fin 256, e160 V0 ⟨s.val / 128, by omega⟩ ⟨g.val / 4, by omega⟩ k ⟨s.val % 128, by omega⟩ ⟨g.val % 4, by omega⟩
      * e49 V0 ⟨s.val / 128, by omega⟩ k ⟨g.val / 4, by omega⟩ d : EReal)
      = gQ (qs V0) (ks V0) (vs V0) (ys V0) (zs V0) ⟨s.val / 128, by omega⟩ g ⟨s.val % 128, by omega⟩ d := by
    unfold gQ
    refine Finset.sum_congr rfl fun k _ => ?_
    have eg : AttnLaw.four ⟨g.val / 4, by omega⟩ ⟨g.val % 4, by omega⟩ = g := Fin.ext (by show g.val / 4 * 4 + g.val % 4 = g.val; omega)
    rw [e160_eq R, eg]
    by_cases hv : vis (s.val / 128) (s.val % 128) k.val
    · refine congrArg _ ((v49_apply V0 _ k _ d).trans ?_)
      unfold padded
      rw [if_neg (not_vis_first _ _ _ hv)]
      rfl
    · rw [dscr_zero _ _ _ _ hv, zero_mul, zero_mul]
  exact (v179_apply V0 s g d).trans key

/-- The keys' and the values' gradients before the first block. -/
theorem gK_zero (k : Fin 256) (hk : k.val < 128) (h : Fin 4) (d : Fin 64) :
    gK (qs V0) (ks V0) (vs V0) (ys V0) (zs V0) 0 k h d = 0 := by
  unfold gK
  refine Finset.sum_eq_zero fun g _ => Finset.sum_eq_zero fun q _ => ?_
  rw [dscr_zero _ _ _ _ fun hv => not_vis_first _ _ _ hv ⟨rfl, hk⟩, zero_mul]

theorem gV_zero (k : Fin 256) (hk : k.val < 128) (h : Fin 4) (d : Fin 64) :
    gV (qs V0) (ks V0) (ys V0) (zs V0) 0 k h d = 0 := by
  unfold gV
  refine Finset.sum_eq_zero fun g _ => Finset.sum_eq_zero fun q _ => ?_
  rw [prob_bot _ _ _ _ fun hv => not_vis_first _ _ _ hv ⟨rfl, hk⟩, zero_mul]

end Cert.AttnBwdReferenceIdeal.Hand

end
-- ==== Proof.AttnBwdRefD1.lean ====
/- The last operations of the reference's gradient of attention: the queries' gradient turned back. -/
module

public import proofs.«01_k».proof.Proof.Gen.AttnBwdReferenceIdeal.Run
public import proofs.«01_k».proof.Proof.AttnBwdSpec
public import Idealize.ShloMosaic.Lib.Pointwise

@[expose] public section

set_option maxRecDepth 16384

noncomputable section

namespace Cert.AttnBwdReferenceIdeal.Hand

open Cert.AttnBwdReferenceIdeal Cert.AttnBwdReferenceIdeal.Gen Cert.AttnBwdReferenceIdeal.Value Idealize.ShloMosaic Idealize.ShloMosaic.TcCoe
open Idealize.ShloMosaic.StableHlo Cert.AttnLaw

theorem tq1 (a b c d : EReal) : 0 + 0 + (a * b + c * d) = c * d - a * -b := by
  rw [zero_add, zero_add, add_comm, mul_neg, sub_eq_add_neg, neg_neg]
theorem tq2 (a b c d : EReal) : 0 + (a * b + -c * d) + 0 = a * b + c * -d := by
  rw [zero_add, add_zero, neg_mul, mul_neg]
theorem tq3 (a : EReal) : a + 0 + 0 = a := by rw [add_zero, add_zero]

/-- The queries' gradient from the turned channels' one. -/
def lastQ (x : FVec Ideal S2048x16x64 .f32) (x1 x2 : FVec Ideal S2048x16x8 .f32) (c1 s1 : FVec Ideal S2048x1x8 .f32) : FVec Ideal S2048x1024 .bf16 :=
  truncf .bf16 (shapeCast _ (addf (addf (pad S2048x16x64 ![0, 0, 16] ![0, 0, 0] ![0, 0, 0] (extractStridedSlice S2048x16x48 ![0, 0, 16] x slices_S2048x16x64_S2048x16x48_0_0_16) (constant (F := Ideal) S_ .f32 0x00000000#32) pads_S2048x16x48_S2048x16x64_000_000_1600 h_S_) (pad S2048x16x64 ![0, 0, 8] ![0, 0, 48] ![0, 0, 0] (addf (mulf x2 (broadcastInDim S2048x16x8 ![0, 1, 2] bcast_S2048x1x8_S2048x16x8_0_1_2 c1)) (mulf (Host.negf x1) (broadcastInDim S2048x16x8 ![0, 1, 2] bcast_S2048x1x8_S2048x16x8_0_1_2 s1))) (constant (F := Ideal) S_ .f32 0x00000000#32) pads_S2048x16x8_S2048x16x64_000_000_8480 h_S_)) (pad S2048x16x64 ![0, 0, 0] ![0, 0, 56] ![0, 0, 0] (addf (mulf x2 (broadcastInDim S2048x16x8 ![0, 1, 2] bcast_S2048x1x8_S2048x16x8_0_1_2 s1)) (mulf x1 (broadcastInDim S2048x16x8 ![0, 1, 2] bcast_S2048x1x8_S2048x16x8_0_1_2 c1))) (constant (F := Ideal) S_ .f32 0x00000000#32) pads_S2048x16x8_S2048x16x64_000_000_0560 h_S_)) shapeCasts_S2048x16x64_S2048x1024) bitsLt_bf16_f32

theorem lastQ_apply (x : FVec Ideal S2048x16x64 .f32) (c s : FVec Ideal S2048x8 .f32) (r : Fin 2048) (l : Fin 1024) :
    lastQ x (extractStridedSlice S2048x16x8 ![0, 0, 0] x slices_S2048x16x64_S2048x16x8_0_0_0) (extractStridedSlice S2048x16x8 ![0, 0, 8] x slices_S2048x16x64_S2048x16x8_0_0_8)
      (broadcastInDim S2048x1x8 ![0, 2] bcast_S2048x8_S2048x1x8_0_2 c) (broadcastInDim S2048x1x8 ![0, 2] bcast_S2048x8_S2048x1x8_0_2 s) (ix2 r l)
      = rot (fun e => x (ix3 r ⟨l.val / 64, by omega⟩ e)) (fun j => c (ix2 r j)) (fun j => -(s (ix2 r j) : EReal)) ⟨l.val % 64, by omega⟩ := by
  unfold lastQ rot
  pointwise
  have h4 : l.val / 64 < 16 := by omega
  by_cases h8 : l.val % 64 < 8
  · have c1 : ¬ (l.val / 64 < 16 ∧ 16 ≤ l.val % 64 ∧ l.val % 64 - 16 < 48) := by omega
    have c2 : ¬ (l.val / 64 < 16 ∧ 8 ≤ l.val % 64 ∧ l.val % 64 - 8 < 8) := by omega
    have c3 : (l.val / 64 < 16 ∧ l.val % 64 < 8) := by omega
    simp only [dif_neg c1, dif_neg c2, dif_pos c3, dif_pos h8]
    have i1 : 8 + l.val % 64 = l.val % 64 + 8 := by omega
    simp only [i1]
    exact tq1 _ _ _ _
  · by_cases h16 : l.val % 64 < 16
    · have c1 : ¬ (l.val / 64 < 16 ∧ 16 ≤ l.val % 64 ∧ l.val % 64 - 16 < 48) := by omega
      have c2 : (l.val / 64 < 16 ∧ 8 ≤ l.val % 64 ∧ l.val % 64 - 8 < 8) := by omega
      have c3 : ¬ (l.val / 64 < 16 ∧ l.val % 64 < 8) := by omega
      simp only [dif_neg c1, dif_pos c2, dif_neg c3, dif_neg h8, dif_pos h16]
      have i1 : 8 + (l.val % 64 - 8) = l.val % 64 := by omega
      simp only [i1]
      exact tq2 _ _ _ _
    · have c1 : (l.val / 64 < 16 ∧ 16 ≤ l.val % 64 ∧ l.val % 64 - 16 < 48) := by omega
      have c2 : ¬ (l.val / 64 < 16 ∧ 8 ≤ l.val % 64 ∧ l.val % 64 - 8 < 8) := by omega
      have c3 : ¬ (l.val / 64 < 16 ∧ l.val % 64 < 8) := by omega
      simp only [dif_pos c1, dif_neg c2, dif_neg c3, dif_neg h8, dif_neg h16]
      have i1 : 16 + (l.val % 64 - 16) = l.val % 64 := by omega
      simp only [i1]
      exact tq3 _

end Cert.AttnBwdReferenceIdeal.Hand

end
-- ==== Proof.AttnBwdRefD2.lean ====
/- The last operations of the reference's gradient of attention: the bands' two halves. -/
module

public import proofs.«01_k».proof.Proof.Gen.AttnBwdReferenceIdeal.Run
public import proofs.«01_k».proof.Proof.AttnBwdSpec
public import Idealize.ShloMosaic.Lib.Pointwise

@[expose] public section

set_option maxRecDepth 16384

noncomputable section

namespace Cert.AttnBwdReferenceIdeal.Hand

open Cert.AttnBwdReferenceIdeal Cert.AttnBwdReferenceIdeal.Gen Cert.AttnBwdReferenceIdeal.Value Idealize.ShloMosaic Idealize.ShloMosaic.TcCoe
open Idealize.ShloMosaic.StableHlo Cert.AttnLaw

/-- The band's first half belongs to the block before, the second half to the block itself. -/
def lastLo (x : FVec Ideal S16x256x4x64 .f32) : FVec Ideal S2048x256 .f32 :=
  shapeCast _ (pad S2048x4x64 ![0, 0, 0] ![128, 0, 0] ![0, 0, 0] (extractStridedSlice S1920x4x64 ![128, 0, 0] (shapeCast _ (extractStridedSlice S16x128x4x64 ![0, 0, 0, 0] x slices_S16x256x4x64_S16x128x4x64_0_0_0_0) shapeCasts_S16x128x4x64_S2048x4x64 : FVec Ideal S2048x4x64 .f32) slices_S2048x4x64_S1920x4x64_128_0_0) (constant (F := Ideal) S_ .f32 0x00000000#32) pads_S1920x4x64_S2048x4x64_01280_000_000 h_S_) shapeCasts_S2048x4x64_S2048x256
def lastHi (x : FVec Ideal S16x256x4x64 .f32) : FVec Ideal S2048x256 .f32 :=
  shapeCast _ (shapeCast _ (extractStridedSlice S16x128x4x64 ![0, 128, 0, 0] x slices_S16x256x4x64_S16x128x4x64_0_128_0_0) shapeCasts_S16x128x4x64_S2048x4x64) shapeCasts_S2048x4x64_S2048x256

theorem lastHi_apply (x : FVec Ideal S16x256x4x64 .f32) (s : Fin 2048) (l : Fin 256) :
    lastHi x (ix2 s l) = x (ix4 (own s) (hi s) ⟨l.val / 64, by omega⟩ ⟨l.val % 64, by omega⟩) := by
  unfold lastHi own hi
  pointwise

theorem at4 (x : FVec Ideal S16x256x4x64 .f32) {a a' : Fin 16} {b b' : Fin 256} {c : Fin 4} {d : Fin 64} (ha : a.val = a'.val) (hb : b.val = b'.val) :
    (x (ix4 a b c d) : EReal) = x (ix4 a' b' c d) := by
  rw [Fin.ext ha, Fin.ext hb]

/-- The same choice between a value and zero, its condition put otherwise. -/
theorem same_dite {p q : Prop} [Decidable p] [Decidable q] (h : p ↔ q) (f : p → EReal) (g : q → EReal) (e : ∀ hp hq, f hp = g hq) :
    dite p f (fun _ => 0) = dite q g fun _ => 0 := by
  by_cases hp : p
  · rw [dif_pos hp, dif_pos (h.mp hp), e]
  · rw [dif_neg hp, dif_neg fun hq => hp (h.mpr hq)]

theorem lastLo_apply (x : FVec Ideal S16x256x4x64 .f32) (s : Fin 2048) (l : Fin 256) :
    lastLo x (ix2 s l) = if h : s.val < 1920 then x (ix4 (nxt s) (lo s) ⟨l.val / 64, by omega⟩ ⟨l.val % 64, by omega⟩) else (0 : EReal) := by
  unfold lastLo nxt lo
  pointwise
  refine same_dite ⟨fun h => h.1, fun h => ⟨h, by omega, by omega⟩⟩ _ _ fun hp hq => at4 x ?_ ?_
  · show (128 + s.val) / 128 = (s.val / 128 + 1) % 16
    omega
  · show (128 + s.val) % 128 = s.val % 128
    omega

end Cert.AttnBwdReferenceIdeal.Hand

end
-- ==== Proof.AttnBwdRefD3.lean ====
/- The last operations of the reference's gradient of attention: the sinks' gradient. -/
module

public import proofs.«01_k».proof.Proof.Gen.AttnBwdReferenceIdeal.Run
public import proofs.«01_k».proof.Proof.AttnBwdSpec
public import Idealize.ShloMosaic.Lib.Pointwise

@[expose] public section

set_option maxRecDepth 16384

noncomputable section

namespace Cert.AttnBwdReferenceIdeal.Hand

open Cert.AttnBwdReferenceIdeal Cert.AttnBwdReferenceIdeal.Gen Cert.AttnBwdReferenceIdeal.Value Idealize.ShloMosaic Idealize.ShloMosaic.TcCoe
open Idealize.ShloMosaic.StableHlo Cert.AttnLaw

/-- The sinks' gradient, in the first sixteen of 128 lanes. -/
def lastZ (x : FVec Ideal S16x4x4x128x257 .f32) : FVec Ideal S1x128 .f32 :=
  concatenate S1x128 1 [⟨S1x16, (shapeCast _ (broadcastInDim S1x4x4x1x1 ![1, 2] bcast_S4x4_S1x4x4x1x1_1_2 (Host.reduceAdd (extractStridedSlice S16x4x4x128x1 ![0, 0, 0, 0, 256] x slices_S16x4x4x128x257_S16x4x4x128x1_0_0_0_0_256) (constant (F := Ideal) S_ .f32 0x00000000#32) reducesTo_S16x4x4x128x1_S4x4_d0_3_4 h_S_)) shapeCasts_S1x4x4x1x1_S1x16)⟩, ⟨S1x112, (broadcastInDim S1x112 ![] bcast_S_S1x112 (constant (F := Ideal) S_ .f32 0x00000000#32))⟩] concatenates_S1x16_S1x112_S1x128_d1

theorem drop_ends (n : Fin 16) (h g : Fin 4) (q : Fin 128) (u : Fin 1) :
    reducesTo_S16x4x4x128x1_S4x4_d0_3_4.drop (ix5 n h g q u) = ix2 h g := by
  funext a
  match a with
  | 0 => rfl
  | 1 => rfl

theorem rows_ends (h g : Fin 4) :
    (Finset.univ.filter fun i : S16x4x4x128x1.Idx => reducesTo_S16x4x4x128x1_S4x4_d0_3_4.drop i = ix2 h g)
      = Finset.univ.image fun p : Fin 16 × Fin 128 => (ix5 p.1 h g p.2 0 : S16x4x4x128x1.Idx) := by
  ext i
  simp only [Finset.mem_filter, Finset.mem_univ, true_and, Finset.mem_image]
  constructor
  · intro e
    obtain ⟨a, b, c, d, k, rfl⟩ : ∃ a b c d k, i = ix5 a b c d k := ⟨i 0, i 1, i 2, i 3, i 4, eq_ix5 i⟩
    rw [drop_ends] at e
    refine ⟨(a, d), ?_⟩
    have e0 : b = h := congrFun e 0
    have e1 : c = g := congrFun e 1
    have e2 : k = 0 := Subsingleton.elim _ _
    rw [e0, e1, e2]
  · rintro ⟨p, rfl⟩
    exact drop_ends p.1 h g p.2 0

theorem sum_ends (y : S16x4x4x128x1.Idx → EReal) (h g : Fin 4) :
    Ideal.hostReduceAdd reducesTo_S16x4x4x128x1_S4x4_d0_3_4 y 0 (ix2 h g) = ∑ n : Fin 16, ∑ q : Fin 128, y (ix5 n h g q 0) := by
  unfold Ideal.hostReduceAdd
  rw [zero_add, rows_ends, Finset.sum_image fun a _ b _ hab => Prod.ext (congrFun hab 0) (congrFun hab 3), Fintype.sum_prod_type]

theorem lastZ_apply (x : FVec Ideal S16x4x4x128x257 .f32) (l : Fin 128) :
    lastZ x (ix2 0 l) = if h : l.val < 16 then ∑ n : Fin 16, ∑ q : Fin 128, (x (ix5 n ⟨l.val / 4, by omega⟩ ⟨l.val % 4, by omega⟩ q ⟨256, by omega⟩) : EReal) else (0 : EReal) := by
  unfold lastZ
  pointwise
  by_cases h : l.val < 16
  · rw [dif_pos h, dif_pos h]
    refine (sum_ends _ _ _).trans (Finset.sum_congr rfl fun n _ => Finset.sum_congr rfl fun q _ => ?_)
    pointwise
  · rw [dif_neg h, dif_neg h]

end Cert.AttnBwdReferenceIdeal.Hand

end
-- ==== Proof.AttnBwdPre.lean ====
/- The gradient of attention: what its precondition says about the arguments' entries. -/
module

public import proofs.«01_k».proof.Defs
public import proofs.«01_k».proof.Proof.AttnBwdLaw

@[expose] public section

set_option maxRecDepth 16384

noncomputable section

namespace Cert.AttnBwdIdeal.Hand

open Cert.AttnBwdIdeal Idealize.ShloMosaic Idealize.ShloMosaic.TcCoe Cert.AttnLaw

theorem top_word : Ideal.ofBits .f32 0x7F800000#32 = ⊤ := by simp [Ideal.ofBits, Ideal.ieee]

/-- A number whose magnitude is below +∞ is finite. -/
theorem fin_of (x : EReal) (h : Ideal.cmp .olt (max x (-x)) (Ideal.ofBits .f32 0x7F800000#32) = 1#1) : Fin' x := by
  have h2 : max x (-x) < (⊤ : EReal) := by
    rw [top_word] at h
    exact (ofBool_one _).mp h
  refine Fin'.of_ne (fun e => ?_) fun e => ?_
  · rw [e] at h2; simp at h2
  · rw [e] at h2; simp at h2

theorem fin_arr {s : Shape} (hb : Cert.Pre_finite_bwd.S_.BroadcastsInDim s (![] : Fin 0 → Fin s.rank)) (a : FVec Ideal s .f32)
    (h : cmpf .olt (Host.absf a) (broadcastInDim s ![] hb (constant (F := Ideal) Cert.Pre_finite_bwd.S_ .f32 0x7F800000#32)) = fun _ => 1#1) (i : s.Idx) :
    Fin' (a i) := fin_of (a i) (congrFun h i)

/-- Every entry of every argument is finite. -/
theorem real_of_pre [hP : Cert.Pre_finite_bwd.Facts] (m : (ℓ : Loc nD τ sig) → Buf (Elt Ideal) ℓ) (h : Cert.Pre_AttnBwdIdeal_finite_bwd m) (c : Dev nD) :
    (∀ i, Fin' (m ((c : Thread nD τ).loc main_arg0) i)) ∧ (∀ i, Fin' (m ((c : Thread nD τ).loc main_arg1) i)) ∧ (∀ i, Fin' (m ((c : Thread nD τ).loc main_arg2) i))
      ∧ (∀ i, Fin' (m ((c : Thread nD τ).loc main_arg3) i)) ∧ (∀ i, Fin' (m ((c : Thread nD τ).loc main_arg4) i)) ∧ (∀ i, Fin' (m ((c : Thread nD τ).loc main_arg5) i)) := by
  obtain ⟨h0, h1, h2, h3, h4, h5⟩ := h c
  exact ⟨fun i => fin_arr hP.bcast_S_S2048x6656 _ h0 i, fun i => fin_arr hP.bcast_S_S2048x1024 _ h1 i, fun i => fin_arr hP.bcast_S_S1024x1024 _ h2 i,
    fun i => fin_arr hP.bcast_S_S1x16 _ h3 i, fun i => fin_arr hP.bcast_S_S2048x8 _ h4 i, fun i => fin_arr hP.bcast_S_S2048x8 _ h5 i⟩

end Cert.AttnBwdIdeal.Hand

end
-- ==== Proof.AttnBwdEq.lean ====
/- The gradient of attention: the reference computes what the result arrays hold. -/
module

public import proofs.«01_k».proof.Proof.AttnBwdValue
public import proofs.«01_k».proof.Proof.AttnBwdRefC
public import proofs.«01_k».proof.Proof.AttnBwdRefD1
public import proofs.«01_k».proof.Proof.AttnBwdRefD2
public import proofs.«01_k».proof.Proof.AttnBwdRefD3
public import proofs.«01_k».proof.Proof.AttnBwdPre
public import Idealize.ShloMosaic.Lib.Quiescent

@[expose] public section

set_option maxRecDepth 16384

noncomputable section

namespace Cert.AttnBwdReferenceIdeal.Hand

open Cert.AttnBwdReferenceIdeal Cert.AttnBwdReferenceIdeal.Gen Cert.AttnBwdReferenceIdeal.Value Idealize.ShloMosaic Idealize.ShloMosaic.TcCoe Idealize.SL.Sem
open Idealize.ShloMosaic.StableHlo Cert.AttnLaw
open Cert.AttnBwdIdeal.Hand (G14 G15 G16 G17 G18 G19 real_of_pre)

/-- The reference's run leaves nothing behind and changes no argument. -/
theorem quiet : Cert.quiescent_AttnBwdReferenceIdeal := fun m ρ _ =>
  (θ_run defs _ _).mono (fun r h => ⟨fun c => (h c).2.2.2.2.2.2,
    Idealize.ShloMosaic.sem_eq_zero_of_no_sems (by decide) r.2⟩) (Cert.AttnBwdReferenceIdeal.Value.run (F := Ideal) m ρ)
theorem quiet_pre [hP : Cert.Pre_finite_bwd.Facts] : Cert.quiescent_AttnBwdReferenceIdeal_pre_finite_bwd := fun m ρ _ =>
  (θ_run defs _ _).mono (fun r h => ⟨fun c => (h c).2.2.2.2.2.2,
    Idealize.ShloMosaic.sem_eq_zero_of_no_sems (by decide) r.2⟩) (Cert.AttnBwdReferenceIdeal.Value.run (F := Ideal) m ρ)

section
variable {V0 : Valuation τ sig (Elt Ideal)} (R : Reals V0)
include R

theorem resQ (s : Fin 2048) (l : Fin 1024) :
    (lastQ (res_main_v179 V0) (res_main_v184 V0) (res_main_v185 V0) (res_main_v25 V0) (res_main_v26 V0) (ix2 s l) : EReal)
      = outQ (aProj V0) (aCos V0) (aSin V0) (aSink V0) (aDao V0) (aWao V0) s l := by
  refine (lastQ_apply (res_main_v179 V0) (aCos V0) (aSin V0) s l).trans ?_
  unfold outQ
  exact congrArg (fun f => rot f (fun j => aCos V0 (ix2 s j)) (fun j => -(aSin V0 (ix2 s j))) ⟨l.val % 64, by omega⟩)
    (funext fun e => v179_eq R s ⟨l.val / 64, by omega⟩ e)

theorem resKlo (s : Fin 2048) (l : Fin 256) :
    (lastLo (res_main_v164 V0) (ix2 s l) : EReal) = bandK (aProj V0) (aCos V0) (aSin V0) (aSink V0) (aDao V0) (aWao V0) (nxt s) (lo s) l := by
  refine (lastLo_apply (res_main_v164 V0) s l).trans ?_
  unfold bandK
  by_cases h : s.val < 1920
  · rw [dif_pos h]; exact e164_eq R _ _ _ _
  · rw [dif_neg h]
    have e : nxt s = 0 := Fin.ext (by show (s.val / 128 + 1) % 16 = 0; omega)
    rw [e]
    exact (gK_zero R (lo s) (by show s.val % 128 < 128; omega) _ _).symm

theorem resVlo (s : Fin 2048) (l : Fin 256) :
    (lastLo (res_main_v138 V0) (ix2 s l) : EReal) = bandV (aProj V0) (aCos V0) (aSin V0) (aSink V0) (aDao V0) (aWao V0) (nxt s) (lo s) l := by
  refine (lastLo_apply (res_main_v138 V0) s l).trans ?_
  unfold bandV
  by_cases h : s.val < 1920
  · rw [dif_pos h]; exact e138_eq R _ _ _ _
  · rw [dif_neg h]
    have e : nxt s = 0 := Fin.ext (by show (s.val / 128 + 1) % 16 = 0; omega)
    rw [e]
    exact (gV_zero R (lo s) (by show s.val % 128 < 128; omega) _ _).symm

theorem resKhi (s : Fin 2048) (l : Fin 256) :
    (lastHi (res_main_v164 V0) (ix2 s l) : EReal) = bandK (aProj V0) (aCos V0) (aSin V0) (aSink V0) (aDao V0) (aWao V0) (own s) (hi s) l :=
  (lastHi_apply (res_main_v164 V0) s l).trans (e164_eq R _ _ _ _)

theorem resVhi (s : Fin 2048) (l : Fin 256) :
    (lastHi (res_main_v138 V0) (ix2 s l) : EReal) = bandV (aProj V0) (aCos V0) (aSin V0) (aSink V0) (aDao V0) (aWao V0) (own s) (hi s) l :=
  (lastHi_apply (res_main_v138 V0) s l).trans (e138_eq R _ _ _ _)

theorem resZ (l : Fin 128) :
    (lastZ (res_main_v151 V0) (ix2 0 l) : EReal) = outZ (aProj V0) (aCos V0) (aSin V0) (aSink V0) (aDao V0) (aWao V0) l := by
  refine (lastZ_apply (res_main_v151 V0) l).trans ?_
  unfold outZ
  by_cases h : l.val < 16
  · rw [dif_pos h, dif_pos h]
    unfold gZ
    refine Finset.sum_congr rfl fun n _ => ?_
    have eg : AttnLaw.four ⟨l.val / 4, by omega⟩ ⟨l.val % 4, by omega⟩ = ⟨l.val, h⟩ := Fin.ext (by show l.val / 4 * 4 + l.val % 4 = l.val; omega)
    refine (Finset.sum_congr rfl fun q _ => (e151_sink R n ⟨l.val / 4, by omega⟩ ⟨l.val % 4, by omega⟩ q).trans (by rw [eg])).trans ?_
    exact neg_sum _ _ fun q => dsnk_real R.qs R.ks R.vs R.ys R.zs n ⟨l.val, h⟩ q
  · rw [dif_neg h, dif_neg h]
end

/-- A function of equal arguments. -/
theorem same (f : Arr 2048 6656 → Arr 2048 8 → Arr 2048 8 → Arr 1 16 → Arr 2048 1024 → Arr 1024 1024 → EReal)
    {a a' : Arr 2048 6656} {x x' : Arr 2048 1024} {w w' : Arr 1024 1024} {z z' : Arr 1 16} {c c' s s' : Arr 2048 8}
    (e0 : a = a') (e1 : x = x') (e2 : w = w') (e3 : z = z') (e4 : c = c') (e5 : s = s') : f a c s z x w = f a' c' s' z' x' w' := by
  rw [e0, e1, e2, e3, e4, e5]

/-- What the call leaves in its result arrays is what the reference computes. -/
theorem alg [hP : Cert.Pre_finite_bwd.Facts] : Cert.algebraic_AttnBwdIdeal_AttnBwdReferenceIdeal_pre_finite_bwd := fun m g m' g' hpre hagree =>
  ⟨G14 m, G15 m, G16 m, G17 m, G18 m, G19 m, Cert.AttnBwdIdeal.Hand.run m g,
    (θ_run defs _ _).mono (fun r h c => by
      obtain ⟨e0, e1, e2, e3, e4, e5⟩ := hagree c
      obtain ⟨r0, r1, r2, r3, r4, r5⟩ := real_of_pre m hpre c
      have R : Reals (launchContents m' c) := ⟨fun i => (congrArg (fun a : Arr 2048 6656 => Fin' (a i)) e0).mpr (r0 i), fun i => (congrArg (fun a : Arr 2048 1024 => Fin' (a i)) e1).mpr (r1 i),
        fun i => (congrArg (fun a : Arr 1024 1024 => Fin' (a i)) e2).mpr (r2 i), fun i => (congrArg (fun a : Arr 1 16 => Fin' (a i)) e3).mpr (r3 i),
        fun i => (congrArg (fun a : Arr 2048 8 => Fin' (a i)) e4).mpr (r4 i), fun i => (congrArg (fun a : Arr 2048 8 => Fin' (a i)) e5).mpr (r5 i)⟩
      obtain ⟨h0, h1, h2, h3, h4, h5, hq⟩ := h c
      refine ⟨h0.trans ?_, h1.trans ?_, h2.trans ?_, h3.trans ?_, h4.trans ?_, h5.trans ?_, hq⟩
      all_goals
        clear h h0 h1 h2 h3 h4 h5 hq
        funext i
      · obtain ⟨r, l, rfl⟩ : ∃ (r : Fin 2048) (l : Fin 1024), i = ix2 r l := ⟨i 0, i 1, eq_ix2 i⟩
        exact (resQ R r l).trans (same (fun a cs sn z x w => outQ a cs sn z x w r l) e0 e1 e2 e3 e4 e5)
      · obtain ⟨r, l, rfl⟩ : ∃ (r : Fin 2048) (l : Fin 256), i = ix2 r l := ⟨i 0, i 1, eq_ix2 i⟩
        exact (resKlo R r l).trans (same (fun a cs sn z x w => bandK a cs sn z x w (nxt r) (lo r) l) e0 e1 e2 e3 e4 e5)
      · obtain ⟨r, l, rfl⟩ : ∃ (r : Fin 2048) (l : Fin 256), i = ix2 r l := ⟨i 0, i 1, eq_ix2 i⟩
        exact (resKhi R r l).trans (same (fun a cs sn z x w => bandK a cs sn z x w (own r) (hi r) l) e0 e1 e2 e3 e4 e5)
      · obtain ⟨r, l, rfl⟩ : ∃ (r : Fin 2048) (l : Fin 256), i = ix2 r l := ⟨i 0, i 1, eq_ix2 i⟩
        exact (resVlo R r l).trans (same (fun a cs sn z x w => bandV a cs sn z x w (nxt r) (lo r) l) e0 e1 e2 e3 e4 e5)
      · obtain ⟨r, l, rfl⟩ : ∃ (r : Fin 2048) (l : Fin 256), i = ix2 r l := ⟨i 0, i 1, eq_ix2 i⟩
        exact (resVhi R r l).trans (same (fun a cs sn z x w => bandV a cs sn z x w (own r) (hi r) l) e0 e1 e2 e3 e4 e5)
      · obtain ⟨r, l, rfl⟩ : ∃ (r : Fin 1) (l : Fin 128), i = ix2 r l := ⟨i 0, i 1, eq_ix2 i⟩
        obtain rfl : r = 0 := Subsingleton.elim _ _
        exact (resZ R l).trans (same (fun a cs sn z x w => outZ a cs sn z x w l) e0 e1 e2 e3 e4 e5)
    )
    (Cert.AttnBwdReferenceIdeal.Value.run (F := Ideal) m' g')⟩

end Cert.AttnBwdReferenceIdeal.Hand

end
-- ==== Proof.lean ====
module

public import proofs.«01_k».proof.Defs
public import proofs.«01_k».proof.Proof.Gen.Merge.Frame
public import proofs.«01_k».proof.Proof.Gen.Swiglu.Frame
public import proofs.«01_k».proof.Proof.Gen.DwDown.Frame
public import proofs.«01_k».proof.Proof.Gen.DwSquare.Frame
public import proofs.«01_k».proof.Proof.Gen.ConvBwd.Frame
public import proofs.«01_k».proof.Proof.Gen.DwGateUp.Frame
public import proofs.«01_k».proof.Proof.Gen.Dh2.Frame
public import proofs.«01_k».proof.Proof.Gen.Dh1.Frame
public import proofs.«01_k».proof.Proof.Gen.NormFfnBwd.Frame
public import proofs.«01_k».proof.Proof.Gen.NormMixBwd.Frame
public import proofs.«01_k».proof.Proof.Gen.DownLoss.Frame
public import proofs.«01_k».proof.Proof.Gen.Norm.Frame
public import proofs.«01_k».proof.Proof.Gen.ConvFwd.Frame
public import proofs.«01_k».proof.Proof.Gen.Branches.Frame
public import proofs.«01_k».proof.Proof.Gen.OutNorm.Frame
public import proofs.«01_k».proof.Proof.Gen.GateUp.Frame
public import proofs.«01_k».proof.Proof.Gen.KvGrad.Frame
public import proofs.«01_k».proof.Proof.Gen.AdamwIn.Frame
public import proofs.«01_k».proof.Proof.Gen.AttnBwd.Frame
public import proofs.«01_k».proof.Proof.Gen.Pre_finite_bwd
public import proofs.«01_k».proof.Proof.MergeEq
public import proofs.«01_k».proof.Proof.SwigluEq
public import proofs.«01_k».proof.Proof.DwDownEq
public import proofs.«01_k».proof.Proof.DwSquareEq
public import proofs.«01_k».proof.Proof.ConvBwdEq
public import proofs.«01_k».proof.Proof.DwGateUpEq
public import proofs.«01_k».proof.Proof.Dh2Eq
public import proofs.«01_k».proof.Proof.Dh1Eq
public import proofs.«01_k».proof.Proof.NormFfnBwdEq
public import proofs.«01_k».proof.Proof.NormMixBwdEq
public import proofs.«01_k».proof.Proof.DownLossEq
public import proofs.«01_k».proof.Proof.NormEq
public import proofs.«01_k».proof.Proof.ConvFwdEq
public import proofs.«01_k».proof.Proof.BranchesEq
public import proofs.«01_k».proof.Proof.OutNormEq
public import proofs.«01_k».proof.Proof.GateUpEq
public import proofs.«01_k».proof.Proof.KvGradEq
public import proofs.«01_k».proof.Proof.AdamwInEq
public import proofs.«01_k».proof.Proof.AttnBwdEq
public import Idealize.ShloMosaic.Adequacy
public import Idealize.ShloMosaic.Init

@[expose] public section

noncomputable section

namespace Cert.Proof

open Idealize.ShloMosaic Idealize.SL.Sem

theorem claim : Cert.Claim := ⟨Cert.Merge.Gen.facts, Cert.MergeIdeal.Gen.facts, Cert.MergeReferenceIdeal.Gen.facts, Cert.Swiglu.Gen.facts, Cert.SwigluIdeal.Gen.facts, Cert.SwigluReferenceIdeal.Gen.facts, Cert.DwDown.Gen.facts, Cert.DwDownIdeal.Gen.facts, Cert.DwDownReferenceIdeal.Gen.facts, Cert.DwSquare.Gen.facts, Cert.DwSquareIdeal.Gen.facts, Cert.DwSquareReferenceIdeal.Gen.facts, Cert.ConvBwd.Gen.facts, Cert.ConvBwdIdeal.Gen.facts, Cert.ConvBwdReferenceIdeal.Gen.facts, Cert.DwGateUp.Gen.facts, Cert.DwGateUpIdeal.Gen.facts, Cert.DwGateUpReferenceIdeal.Gen.facts, Cert.Dh2.Gen.facts, Cert.Dh2Ideal.Gen.facts, Cert.Dh2ReferenceIdeal.Gen.facts, Cert.Dh1.Gen.facts, Cert.Dh1Ideal.Gen.facts, Cert.Dh1ReferenceIdeal.Gen.facts, Cert.NormFfnBwd.Gen.facts, Cert.NormFfnBwdIdeal.Gen.facts, Cert.NormFfnBwdReferenceIdeal.Gen.facts, Cert.NormMixBwd.Gen.facts, Cert.NormMixBwdIdeal.Gen.facts, Cert.NormMixBwdReferenceIdeal.Gen.facts, Cert.DownLoss.Gen.facts, Cert.DownLossIdeal.Gen.facts, Cert.DownLossReferenceIdeal.Gen.facts, Cert.Norm.Gen.facts, Cert.NormIdeal.Gen.facts, Cert.NormReferenceIdeal.Gen.facts, Cert.ConvFwd.Gen.facts, Cert.ConvFwdIdeal.Gen.facts, Cert.ConvFwdReferenceIdeal.Gen.facts, Cert.Branches.Gen.facts, Cert.BranchesIdeal.Gen.facts, Cert.BranchesReferenceIdeal.Gen.facts, Cert.OutNorm.Gen.facts, Cert.OutNormIdeal.Gen.facts, Cert.OutNormReferenceIdeal.Gen.facts, Cert.GateUp.Gen.facts, Cert.GateUpIdeal.Gen.facts, Cert.GateUpReferenceIdeal.Gen.facts, Cert.KvGrad.Gen.facts, Cert.KvGradIdeal.Gen.facts, Cert.KvGradReferenceIdeal.Gen.facts, Cert.AdamwIn.Gen.facts, Cert.AdamwInIdeal.Gen.facts, Cert.AdamwInReferenceIdeal.Gen.facts, Cert.AttnBwd.Gen.facts, Cert.AttnBwdIdeal.Gen.facts, Cert.AttnBwdReferenceIdeal.Gen.facts, Cert.Pre_finite_bwd.Gen.facts,
  fun m ρ _ => Cert.Merge.Gen.frame m ρ,
  fun m ρ _ => Cert.MergeIdeal.Gen.frame m ρ,
  Cert.MergeReferenceIdeal.Hand.quiet,
  fun m ρ _ => Cert.Swiglu.Gen.frame m ρ,
  fun m ρ _ => Cert.SwigluIdeal.Gen.frame m ρ,
  Cert.SwigluReferenceIdeal.Hand.quiet,
  fun m ρ _ => Cert.DwDown.Gen.frame m ρ,
  fun m ρ _ => Cert.DwDownIdeal.Gen.frame m ρ,
  Cert.DwDownReferenceIdeal.Hand.quiet,
  fun m ρ _ => Cert.DwSquare.Gen.frame m ρ,
  fun m ρ _ => Cert.DwSquareIdeal.Gen.frame m ρ,
  Cert.DwSquareReferenceIdeal.Hand.quiet,
  fun m ρ _ => Cert.ConvBwd.Gen.frame m ρ,
  fun m ρ _ => Cert.ConvBwdIdeal.Gen.frame m ρ,
  Cert.ConvBwdReferenceIdeal.Hand.quiet,
  fun m ρ _ => Cert.DwGateUp.Gen.frame m ρ,
  fun m ρ _ => Cert.DwGateUpIdeal.Gen.frame m ρ,
  Cert.DwGateUpReferenceIdeal.Hand.quiet,
  fun m ρ _ => Cert.Dh2.Gen.frame m ρ,
  fun m ρ _ => Cert.Dh2Ideal.Gen.frame m ρ,
  Cert.Dh2ReferenceIdeal.Hand.quiet,
  fun m ρ _ => Cert.Dh1.Gen.frame m ρ,
  fun m ρ _ => Cert.Dh1Ideal.Gen.frame m ρ,
  Cert.Dh1ReferenceIdeal.Hand.quiet,
  fun m ρ _ => Cert.NormFfnBwd.Gen.frame m ρ,
  fun m ρ _ => Cert.NormFfnBwdIdeal.Gen.frame m ρ,
  Cert.NormFfnBwdReferenceIdeal.Hand.quiet,
  fun m ρ _ => Cert.NormMixBwd.Gen.frame m ρ,
  fun m ρ _ => Cert.NormMixBwdIdeal.Gen.frame m ρ,
  Cert.NormMixBwdReferenceIdeal.Hand.quiet,
  fun m ρ _ => Cert.DownLoss.Gen.frame m ρ,
  fun m ρ _ => Cert.DownLossIdeal.Gen.frame m ρ,
  Cert.DownLossReferenceIdeal.Hand.quiet,
  fun m ρ _ => Cert.Norm.Gen.frame m ρ,
  fun m ρ _ => Cert.NormIdeal.Gen.frame m ρ,
  Cert.NormReferenceIdeal.Hand.quiet,
  fun m ρ _ => Cert.ConvFwd.Gen.frame m ρ,
  fun m ρ _ => Cert.ConvFwdIdeal.Gen.frame m ρ,
  Cert.ConvFwdReferenceIdeal.Hand.quiet,
  fun m ρ _ => Cert.Branches.Gen.frame m ρ,
  fun m ρ _ => Cert.BranchesIdeal.Gen.frame m ρ,
  Cert.BranchesReferenceIdeal.Hand.quiet,
  fun m ρ _ => Cert.OutNorm.Gen.frame m ρ,
  fun m ρ _ => Cert.OutNormIdeal.Gen.frame m ρ,
  Cert.OutNormReferenceIdeal.Hand.quiet,
  fun m ρ _ => Cert.GateUp.Gen.frame m ρ,
  fun m ρ _ => Cert.GateUpIdeal.Gen.frame m ρ,
  Cert.GateUpReferenceIdeal.Hand.quiet,
  fun m ρ _ => Cert.KvGrad.Gen.frame m ρ,
  fun m ρ _ => Cert.KvGradIdeal.Gen.frame m ρ,
  Cert.KvGradReferenceIdeal.Hand.quiet,
  fun m ρ _ => Cert.AdamwIn.Gen.frame m ρ,
  fun m ρ _ => Cert.AdamwInIdeal.Gen.frame m ρ,
  Cert.AdamwInReferenceIdeal.Hand.quiet,
  fun m ρ _ => Cert.AttnBwd.Gen.frame m ρ,
  fun m ρ _ => Cert.AttnBwdIdeal.Gen.frame m ρ,
  fun m ρ _ => Cert.AttnBwdIdeal.Gen.frame m ρ,
  Cert.AttnBwdReferenceIdeal.Hand.quiet,
  Cert.AttnBwdReferenceIdeal.Hand.quiet_pre (hP := Cert.Pre_finite_bwd.Gen.facts),
  trivial,
  Cert.MergeReferenceIdeal.Hand.alg,
  trivial,
  Cert.SwigluReferenceIdeal.Hand.alg,
  trivial,
  Cert.DwDownReferenceIdeal.Hand.alg,
  trivial,
  Cert.DwSquareReferenceIdeal.Hand.alg,
  trivial,
  Cert.ConvBwdReferenceIdeal.Hand.alg,
  trivial,
  Cert.DwGateUpReferenceIdeal.Hand.alg,
  trivial,
  Cert.Dh2ReferenceIdeal.Hand.alg,
  trivial,
  Cert.Dh1ReferenceIdeal.Hand.alg,
  trivial,
  Cert.NormFfnBwdReferenceIdeal.Hand.alg,
  trivial,
  Cert.NormMixBwdReferenceIdeal.Hand.alg,
  trivial,
  Cert.DownLossReferenceIdeal.Hand.alg,
  trivial,
  Cert.NormReferenceIdeal.Hand.alg,
  trivial,
  Cert.ConvFwdReferenceIdeal.Hand.alg,
  trivial,
  Cert.BranchesReferenceIdeal.Hand.alg,
  trivial,
  Cert.OutNormReferenceIdeal.Hand.alg,
  trivial,
  Cert.GateUpReferenceIdeal.Hand.alg,
  trivial,
  Cert.KvGradReferenceIdeal.Hand.alg,
  trivial,
  Cert.AdamwInReferenceIdeal.Hand.alg,
  IdealRules.named_const.statement Cert.AttnBwdIdeal.κ "mask" .f32 0xF149F2CA#32 ⊥ rfl,
  Cert.AttnBwdReferenceIdeal.Hand.alg (hP := Cert.Pre_finite_bwd.Gen.facts)⟩

end Cert.Proof

end
